-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_groups_fill_finite [hPre_groups_fill_finite : Cert.Pre_groups_fill_finite.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_groups_fill : Cert.Pre_groups_fill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_groups_fill_finite [hPre_groups_fill_finite : Cert.Pre_groups_fill_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_groups_fill_finite [hKernelIdeal : Cert.KernelIdeal.Facts] [hPre_groups_fill_finite : Cert.Pre_groups_fill_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fill_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_groups_fill : Cert.Pre_groups_fill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_fill_finite [hReferenceIdeal : Cert.ReferenceIdeal.Facts] [hPre_groups_fill_finite : Cert.Pre_groups_fill_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fill_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_groups_fill_finite [hKernelIdeal : Cert.KernelIdeal.Facts] [hReferenceIdeal : Cert.ReferenceIdeal.Facts] [hPre_groups_fill_finite : Cert.Pre_groups_fill_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fill_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_fill : Cert.Pre_groups_fill.Facts) (hPre_groups_fill_finite : Cert.Pre_groups_fill_finite.Facts),
    quiescent_Kernel (hKernel := hKernel) (hPre_groups_fill := hPre_groups_fill)
    ∧ quiescent_KernelIdeal (hKernelIdeal := hKernelIdeal) (hPre_groups_fill := hPre_groups_fill)
    ∧ quiescent_KernelIdeal_pre_groups_fill_finite (hKernelIdeal := hKernelIdeal) (hPre_groups_fill_finite := hPre_groups_fill_finite)
    ∧ quiescent_ReferenceIdeal (hReferenceIdeal := hReferenceIdeal) (hPre_groups_fill := hPre_groups_fill)
    ∧ quiescent_ReferenceIdeal_pre_groups_fill_finite (hReferenceIdeal := hReferenceIdeal) (hPre_groups_fill_finite := hPre_groups_fill_finite)
    ∧ preserves_Kernel_KernelIdeal
    ∧ algebraic_KernelIdeal_ReferenceIdeal_pre_groups_fill_finite (hKernelIdeal := hKernelIdeal) (hReferenceIdeal := hReferenceIdeal) (hPre_groups_fill_finite := hPre_groups_fill_finite)
-- ==== Pre_groups_fill.lean ====
abbrev S49152x2048 : Shape := ⟨2, ![49152, 2048]⟩
abbrev S49152x1408 : Shape := ⟨2, ![49152, 1408]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S49152x2048 .bf16) (main_arg1 : FVec F S49152x1408 .bf16) (main_arg2 : IVec S64 32) : IVec S_ 1 :=
  let main_c : IVec S_ 32 := constantI S_ 32 0#32
  let main_v0 : IVec S64 32 := broadcastInDim S64 ![] bcast_S_S64 main_c
  let main_v1 : IVec S64 1 := cmpi .sge main_arg2 main_v0
  let main_c_0 : IVec S_ 32 := constantI S_ 32 49152#32
  let main_v2 : IVec S64 32 := broadcastInDim S64 ![] bcast_S_S64 main_c_0
  let main_v3 : IVec S64 1 := cmpi .sle main_arg2 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S_ 32 := (fun x v => Host.reduce IntOp.addi x v reducesTo_S64_S_d0 h_S_) main_arg2 main_c_2
  let main_c_3 : IVec S_ 32 := constantI S_ 32 49152#32
  let main_v7 : IVec S_ 1 := cmpi .eq main_v6 main_c_3
  let main_v8 : IVec S_ 1 := andi main_v5 main_v7
  main_v8
-- ==== Pre_groups_fill_finite.lean ====
abbrev S49152x2048 : Shape := ⟨2, ![49152, 2048]⟩
abbrev S49152x1408 : Shape := ⟨2, ![49152, 1408]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S49152x2048 : S_.BroadcastsInDim S49152x2048 (![] : Fin 0 → Fin S49152x2048.rank)
  reducesTo_S49152x2048_S_d0_1 : S49152x2048.ReducesTo [0, 1] S_
  bcast_S_S49152x1408 : S_.BroadcastsInDim S49152x1408 (![] : Fin 0 → Fin S49152x1408.rank)
  reducesTo_S49152x1408_S_d0_1 : S49152x1408.ReducesTo [0, 1] S_

variable [Facts]

def fn_part1 {F : FTy → Type} [FloatOps F] (main_v13 : IVec S_ 1) (main_v14 : FVec F S49152x1408 .bf16) (main_v15 : FVec F S49152x1408 .bf16) : IVec S_ 1 :=
  let main_v16 : IVec S49152x1408 1 := cmpf .ole main_v14 main_v15
  let main_c_6 : IVec S_ 1 := constantI S_ 1 1#1
  let main_v17 : IVec S_ 1 := (fun x v => Host.reduce IntOp.andi x v reducesTo_S49152x1408_S_d0_1 h_S_) main_v16 main_c_6
  let main_v18 : IVec S_ 1 := andi main_v13 main_v17
  main_v18

def fn {F : FTy → Type} [FloatOps F] (main_arg0 : FVec F S49152x2048 .bf16) (main_arg1 : FVec F S49152x1408 .bf16) (main_arg2 : IVec S64 32) : IVec S_ 1 :=
  let main_c : IVec S_ 32 := constantI S_ 32 0#32
  let main_v0 : IVec S64 32 := broadcastInDim S64 ![] bcast_S_S64 main_c
  let main_v1 : IVec S64 1 := cmpi .sge main_arg2 main_v0
  let main_c_0 : IVec S_ 32 := constantI S_ 32 49152#32
  let main_v2 : IVec S64 32 := broadcastInDim S64 ![] bcast_S_S64 main_c_0
  let main_v3 : IVec S64 1 := cmpi .sle main_arg2 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S_ 32 := (fun x v => Host.reduce IntOp.addi x v reducesTo_S64_S_d0 h_S_) main_arg2 main_c_2
  let main_c_3 : IVec S_ 32 := constantI S_ 32 49152#32
  let main_v7 : IVec S_ 1 := cmpi .eq main_v6 main_c_3
  let main_v8 : IVec S_ 1 := andi main_v5 main_v7
  let main_v9 : FVec F S49152x2048 .bf16 := Host.absf main_arg0
  let main_cst : FVec F S_ .bf16 := constant S_ .bf16 0x7F7F#16
  let main_v10 : FVec F S49152x2048 .bf16 := broadcastInDim S49152x2048 ![] bcast_S_S49152x2048 main_cst
  let main_v11 : IVec S49152x2048 1 := cmpf .ole main_v9 main_v10
  let main_c_4 : IVec S_ 1 := constantI S_ 1 1#1
  let main_v12 : IVec S_ 1 := (fun x v => Host.reduce IntOp.andi x v reducesTo_S49152x2048_S_d0_1 h_S_) main_v11 main_c_4
  let main_v13 : IVec S_ 1 := andi main_v8 main_v12
  let main_v14 : FVec F S49152x1408 .bf16 := Host.absf main_arg1
  let main_cst_5 : FVec F S_ .bf16 := constant S_ .bf16 0x7F7F#16
  let main_v15 : FVec F S49152x1408 .bf16 := broadcastInDim S49152x1408 ![] bcast_S_S49152x1408 main_cst_5
  fn_part1 (F := F) main_v13 main_v14 main_v15
-- ==== Kernel.lean ====
abbrev S49152x2048 : Shape := ⟨2, ![49152, 2048]⟩
abbrev S49152x1408 : Shape := ⟨2, ![49152, 1408]⟩
abbrev S64 : Shape := ⟨1, ![64]⟩
abbrev S64x2048x1408 : Shape := ⟨3, ![64, 2048, 1408]⟩
abbrev S384x2048 : Shape := ⟨2, ![384, 2048]⟩
abbrev S384x11 : Shape := ⟨2, ![384, 11]⟩
abbrev S4x256x2048 : Shape := ⟨3, ![4, 256, 2048]⟩
abbrev S4x256x1408 : Shape := ⟨3, ![4, 256, 1408]⟩
abbrev S2x256x2048 : Shape := ⟨3, ![2, 256, 2048]⟩
abbrev S2x256x1408 : Shape := ⟨3, ![2, 256, 1408]⟩
abbrev S1280x2048 : Shape := ⟨2, ![1280, 2048]⟩
abbrev S1280x1408 : Shape := ⟨2, ![1280, 1408]⟩
abbrev S256x1408 : Shape := ⟨2, ![256, 1408]⟩
abbrev S3x2048x1408 : Shape := ⟨3, ![3, 2048, 1408]⟩
abbrev S2x4 : Shape := ⟨2, ![2, 4]⟩
abbrev S2x2 : Shape := ⟨2, ![2, 2]⟩
abbrev S3 : Shape := ⟨1, ![3]⟩
abbrev S1 : Shape := ⟨1, ![1]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S1x256x1408 : Shape := ⟨3, ![1, 256, 1408]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S255x256 : Shape := ⟨2, ![255, 256]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S255x128 : Shape := ⟨2, ![255, 128]⟩
abbrev S1x2048x1408 : Shape := ⟨3, ![1, 2048, 1408]⟩
abbrev S2048x1408 : Shape := ⟨2, ![2048, 1408]⟩
abbrev S256x128 : Shape := ⟨2, ![256, 128]⟩
abbrev S256x256 : Shape := ⟨2, ![256, 256]⟩

abbrev nBuf : Space → Nat
  | .hbm => 8
  | .vmem => 11
  | .smem => 1
  | _ => 0

abbrev bufTy : (tb : Table) → Fin (tcTables nBuf tb) → BufTy
  | .hbm, ⟨0, _⟩ => ⟨S49152x2048, .bf16⟩
  | .hbm, ⟨1, _⟩ => ⟨S49152x1408, .bf16⟩
  | .hbm, ⟨2, _⟩ => ⟨S64, .i32⟩
  | .hbm, ⟨3, _⟩ => ⟨S64x2048x1408, .f32⟩
  | .hbm, ⟨4, _⟩ => ⟨S49152x2048, .fp8e4m3⟩
  | .hbm, ⟨5, _⟩ => ⟨S384x2048, .f32⟩
  | .hbm, ⟨6, _⟩ => ⟨S49152x1408, .fp8e5m2⟩
  | .hbm, ⟨7, _⟩ => ⟨S384x11, .f32⟩
  | .local _ .vmem, ⟨0, _⟩ => ⟨S384x2048, .f32⟩
  | .local _ .vmem, ⟨1, _⟩ => ⟨S384x11, .f32⟩
  | .local _ .vmem, ⟨2, _⟩ => ⟨S4x256x2048, .bf16⟩
  | .local _ .vmem, ⟨3, _⟩ => ⟨S4x256x1408, .bf16⟩
  | .local _ .vmem, ⟨4, _⟩ => ⟨S2x256x2048, .fp8e4m3⟩
  | .local _ .vmem, ⟨5, _⟩ => ⟨S2x256x1408, .fp8e5m2⟩
  | .local _ .vmem, ⟨6, _⟩ => ⟨S1280x2048, .bf16⟩
  | .local _ .vmem, ⟨7, _⟩ => ⟨S1280x1408, .bf16⟩
  | .local _ .vmem, ⟨8, _⟩ => ⟨S256x1408, .bf16⟩
  | .local _ .vmem, ⟨9, _⟩ => ⟨S3x2048x1408, .f32⟩
  | .local _ .vmem, ⟨10, _⟩ => ⟨S256x1408, .f32⟩
  | .local _ .smem, ⟨0, _⟩ => ⟨S64, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_1 : BitVec 32 := 0#32
  let c256_i32 : BitVec 32 := 256#32
  let v5 : BitVec 32 := Scalar.muli c0_i32_1 c256_i32
  v5
def k0_off1 (c0_i32 : BitVec 32) : Fin 2 → Nat :=
  let c0_i32_2 : BitVec 32 := 0#32
  let c4_i32 : BitVec 32 := 4#32
  let v4 : BitVec 32 := Scalar.remsi c0_i32 c4_i32
  ![0, v4.toNat]
def k0_off2 (c0_i32 : BitVec 32) : Fin 3 → Nat :=
  let c4_i32 : BitVec 32 := 4#32
  let v4 : BitVec 32 := Scalar.remsi c0_i32 c4_i32
  let c0_i32_3 : BitVec 32 := 0#32
  let c0_i32_4 : BitVec 32 := 0#32
  ![v4.toNat, 0, 0]
def k0_off3 (c0_i32_1 : BitVec 32) : Fin 2 → Nat :=
  let c256_i32 : BitVec 32 := 256#32
  let v5 : BitVec 32 := Scalar.muli c0_i32_1 c256_i32
  let v6 : BitVec 32 := v5
  let c0_i32_5 : BitVec 32 := 0#32
  ![v6.toNat, 0]
def k0_off3_at (r : Fin 6) : BitVec 32 :=
  if r.val < 3 then
    if r.val < 1 then
      0#32
    else
      if r.val < 2 then
        1#32
      else
        2#32
  else
    if r.val < 4 then
      3#32
    else
      if r.val < 5 then
        190#32
      else
        191#32
def k0_off4 (c0_i32 : BitVec 32) : Fin 2 → Nat :=
  let c1_i32 : BitVec 32 := 1#32
  let c4_i32 : BitVec 32 := 4#32
  let v4 : BitVec 32 := Scalar.remsi c0_i32 c4_i32
  ![1, v4.toNat]
def k0_off5 (c0_i32 : BitVec 32) : Fin 3 → Nat :=
  let c4_i32 : BitVec 32 := 4#32
  let v4 : BitVec 32 := Scalar.remsi c0_i32 c4_i32
  let c0_i32_6 : BitVec 32 := 0#32
  let c0_i32_7 : BitVec 32 := 0#32
  ![v4.toNat, 0, 0]
def k0_off6 (c0_i32_1 : BitVec 32) : Fin 2 → Nat :=
  let c256_i32 : BitVec 32 := 256#32
  let v5 : BitVec 32 := Scalar.muli c0_i32_1 c256_i32
  let v6 : BitVec 32 := v5
  let c0_i32_8 : BitVec 32 := 0#32
  ![v6.toNat, 0]
def k0_off6_at (r : Fin 6) : BitVec 32 :=
  if r.val < 3 then
    if r.val < 1 then
      0#32
    else
      if r.val < 2 then
        1#32
      else
        2#32
  else
    if r.val < 4 then
      3#32
    else
      if r.val < 5 then
        190#32
      else
        191#32
def k0_mult2 : BitVec 32 :=
  let c1_i32_11 : BitVec 32 := 1#32
  let c256_i32_12 : BitVec 32 := 256#32
  let v18 : BitVec 32 := Scalar.muli c1_i32_11 c256_i32_12
  v18
def k0_mult3 : BitVec 32 :=
  let c2_i32_22 : BitVec 32 := 2#32
  let c256_i32_23 : BitVec 32 := 256#32
  let v31 : BitVec 32 := Scalar.muli c2_i32_22 c256_i32_23
  v31
def k0_mult4 : BitVec 32 :=
  let c3_i32_33 : BitVec 32 := 3#32
  let c256_i32_34 : BitVec 32 := 256#32
  let v44 : BitVec 32 := Scalar.muli c3_i32_33 c256_i32_34
  v44
@[reducible] def k0_t1_loop : Scf.Loop 32 :=
  let c0_i32_43 : BitVec 32 := 0#32
  let c2_i32_44 : BitVec 32 := 2#32
  let v56 : BitVec 32 := Scalar.addi c0_i32_43 c2_i32_44
  let c1_i32_45 : BitVec 32 := 1#32
  ⟨c0_i32_43, v56, c1_i32_45⟩
def k0_mult5 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c256_i32_86 : BitVec 32 := 256#32
  let v96 : BitVec 32 := Scalar.muli arg21 c256_i32_86
  v96
def k0_off7 (k0_t1 : Fin k0_t1_loop.trips) : Fin 2 → Nat :=
  let c0_i32_87 : BitVec 32 := 0#32
  let c0_i32_43 : BitVec 32 := 0#32
  let c1_i32_45 : BitVec 32 := 1#32
  let arg21 : BitVec 32 := Scf.iv c0_i32_43 c1_i32_45 k0_t1
  let c4_i32_85 : BitVec 32 := 4#32
  let v95 : BitVec 32 := Scalar.remsi arg21 c4_i32_85
  ![0, v95.toNat]
def k0_off8 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_85 : BitVec 32 := 4#32
  let v95 : BitVec 32 := Scalar.remsi arg21 c4_i32_85
  let c0_i32_88 : BitVec 32 := 0#32
  let c0_i32_89 : BitVec 32 := 0#32
  ![v95.toNat, 0, 0]
def k0_off9 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c256_i32_86 : BitVec 32 := 256#32
  let v96 : BitVec 32 := Scalar.muli arg21 c256_i32_86
  let v97 : BitVec 32 := v96
  let c0_i32_90 : BitVec 32 := 0#32
  ![v97.toNat, 0]
def k0_off10 (k0_t1 : Fin k0_t1_loop.trips) : Fin 2 → Nat :=
  let c1_i32_91 : BitVec 32 := 1#32
  let c0_i32_43 : BitVec 32 := 0#32
  let c1_i32_45 : BitVec 32 := 1#32
  let arg21 : BitVec 32 := Scf.iv c0_i32_43 c1_i32_45 k0_t1
  let c4_i32_85 : BitVec 32 := 4#32
  let v95 : BitVec 32 := Scalar.remsi arg21 c4_i32_85
  ![1, v95.toNat]
def k0_off11 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_85 : BitVec 32 := 4#32
  let v95 : BitVec 32 := Scalar.remsi arg21 c4_i32_85
  let c0_i32_92 : BitVec 32 := 0#32
  let c0_i32_93 : BitVec 32 := 0#32
  ![v95.toNat, 0, 0]
def k0_off12 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c256_i32_86 : BitVec 32 := 256#32
  let v96 : BitVec 32 := Scalar.muli arg21 c256_i32_86
  let v97 : BitVec 32 := v96
  let c0_i32_94 : BitVec 32 := 0#32
  ![v97.toNat, 0]
def k0_cond1 (k0_t1 : Fin k0_t1_loop.trips) : BitVec 1 :=
  let c0_i32_43 : BitVec 32 := 0#32
  let c1_i32_45 : BitVec 32 := 1#32
  let arg21 : BitVec 32 := Scf.iv c0_i32_43 c1_i32_45 k0_t1
  let c2_i32_95 : BitVec 32 := 2#32
  let v108 : BitVec 1 := Scalar.cmpi .sge arg21 c2_i32_95
  let v109 : BitVec 32 := Scalar.extui v108
  let c0_i32_96 : BitVec 32 := 0#32
  let v110 : BitVec 1 := Scalar.cmpi .ne v109 c0_i32_96
  v110

def k0_mult6 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c256_i32_1032 : BitVec 32 := 256#32
  let v2672 : BitVec 32 := Scalar.muli v2670 c256_i32_1032
  v2672
def k0_off13 (k0_t1 : Fin k0_t1_loop.trips) : Fin 2 → Nat :=
  let c0_i32_1033 : BitVec 32 := 0#32
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c2_i32_1031 : BitVec 32 := 2#32
  let v2671 : BitVec 32 := Scalar.remsi v2670 c2_i32_1031
  ![0, v2671.toNat]
def k0_off14 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c256_i32_1032 : BitVec 32 := 256#32
  let v2672 : BitVec 32 := Scalar.muli v2670 c256_i32_1032
  let v2673 : BitVec 32 := v2672
  let c0_i32_1034 : BitVec 32 := 0#32
  ![v2673.toNat, 0]
def k0_off15 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c2_i32_1031 : BitVec 32 := 2#32
  let v2671 : BitVec 32 := Scalar.remsi v2670 c2_i32_1031
  let c0_i32_1035 : BitVec 32 := 0#32
  let c0_i32_1036 : BitVec 32 := 0#32
  ![v2671.toNat, 0, 0]
def k0_off16 (k0_t1 : Fin k0_t1_loop.trips) : Fin 2 → Nat :=
  let c1_i32_1037 : BitVec 32 := 1#32
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c2_i32_1031 : BitVec 32 := 2#32
  let v2671 : BitVec 32 := Scalar.remsi v2670 c2_i32_1031
  ![1, v2671.toNat]
def k0_off17 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c256_i32_1032 : BitVec 32 := 256#32
  let v2672 : BitVec 32 := Scalar.muli v2670 c256_i32_1032
  let v2673 : BitVec 32 := v2672
  let c0_i32_1038 : BitVec 32 := 0#32
  ![v2673.toNat, 0]
def k0_off18 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_1030 : BitVec 32 := 2#32
  let v2670 : BitVec 32 := Scalar.subi arg21 c2_i32_1030
  let c2_i32_1031 : BitVec 32 := 2#32
  let v2671 : BitVec 32 := Scalar.remsi v2670 c2_i32_1031
  let c0_i32_1039 : BitVec 32 := 0#32
  let c0_i32_1040 : BitVec 32 := 0#32
  ![v2671.toNat, 0, 0]
def k0_mult7 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  v114
def k0_mult8 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  let v115 : BitVec 32 := v114
  let c0_i32_101 : BitVec 32 := 0#32
  let v116 : BitVec 32 := Scalar.addi v115 c0_i32_101
  v116
def k0_off19 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v118 : Index := Scalar.indexCast v111
  let c0_102 : Index := 0#32
  let c0_103 : Index := 0#32
  ![v118.toNat, 0, 0]
def k0_off20 (k0_t1 : Fin k0_t1_loop.trips) (c0_i32_115 : BitVec 32) : Fin 2 → Nat :=
  let c2_i32_114 : BitVec 32 := 2#32
  let c0_i32_43 : BitVec 32 := 0#32
  let c1_i32_45 : BitVec 32 := 1#32
  let arg21 : BitVec 32 := Scf.iv c0_i32_43 c1_i32_45 k0_t1
  let v154 : BitVec 32 := Scalar.muli c2_i32_114 arg21
  let v155 : BitVec 32 := Scalar.addi v154 c0_i32_115
  let v156 : Index := Scalar.indexCast v155
  let c0_116 : Index := 0#32
  ![v156.toNat, 0]
def k0_off21 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v168 : Index := Scalar.indexCast v112
  let c0_119 : Index := 0#32
  let c0_120 : Index := 0#32
  ![v168.toNat, 0, 0]
def k0_off22 (k0_t1 : Fin k0_t1_loop.trips) (c0_i32_101 : BitVec 32) : Fin 2 → Nat :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  let v115 : BitVec 32 := v114
  let v116 : BitVec 32 := Scalar.addi v115 c0_i32_101
  let v117 : BitVec 32 := v116
  let v176 : Index := Scalar.indexCast v117
  let c0_121 : Index := 0#32
  ![v176.toNat, 0]
def k0_off23 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v180 : Index := Scalar.indexCast v111
  let c0_122 : Index := 0#32
  let c0_123 : Index := 0#32
  ![v180.toNat, 0, 0]
def k0_off24 (k0_t1 : Fin k0_t1_loop.trips) (c0_i32_139 : BitVec 32) : Fin 2 → Nat :=
  let c2_i32_138 : BitVec 32 := 2#32
  let c0_i32_43 : BitVec 32 := 0#32
  let c1_i32_45 : BitVec 32 := 1#32
  let arg21 : BitVec 32 := Scf.iv c0_i32_43 c1_i32_45 k0_t1
  let v221 : BitVec 32 := Scalar.muli c2_i32_138 arg21
  let v222 : BitVec 32 := Scalar.addi v221 c0_i32_139
  let v223 : Index := Scalar.indexCast v222
  let c0_140 : Index := 0#32
  ![v223.toNat, 0]
def k0_off25 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v235 : Index := Scalar.indexCast v112
  let c0_143 : Index := 0#32
  let c0_144 : Index := 0#32
  ![v235.toNat, 0, 0]
def k0_off26 (k0_t1 : Fin k0_t1_loop.trips) (c0_i32_101 : BitVec 32) : Fin 2 → Nat :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  let v115 : BitVec 32 := v114
  let v116 : BitVec 32 := Scalar.addi v115 c0_i32_101
  let v117 : BitVec 32 := v116
  let v243 : Index := Scalar.indexCast v117
  let c0_145 : Index := 0#32
  ![v243.toNat, 0]
def k0_off27 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v247 : Index := Scalar.indexCast v111
  let c0_146 : Index := 0#32
  let c1024 : Index := 1024#32
  ![v247.toNat, 0, 1024]
def k0_off28 (k0_t1 : Fin k0_t1_loop.trips) (c0_i32_162 : BitVec 32) : Fin 2 → Nat :=
  let c2_i32_161 : BitVec 32 := 2#32
  let c0_i32_43 : BitVec 32 := 0#32
  let c1_i32_45 : BitVec 32 := 1#32
  let arg21 : BitVec 32 := Scf.iv c0_i32_43 c1_i32_45 k0_t1
  let v288 : BitVec 32 := Scalar.muli c2_i32_161 arg21
  let v289 : BitVec 32 := Scalar.addi v288 c0_i32_162
  let v290 : Index := Scalar.indexCast v289
  let c8 : Index := 8#32
  ![v290.toNat, 8]
def k0_off29 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v302 : Index := Scalar.indexCast v112
  let c0_165 : Index := 0#32
  let c1024_166 : Index := 1024#32
  ![v302.toNat, 0, 1024]
def k0_off30 (k0_t1 : Fin k0_t1_loop.trips) (c0_i32_101 : BitVec 32) : Fin 2 → Nat :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  let v115 : BitVec 32 := v114
  let v116 : BitVec 32 := Scalar.addi v115 c0_i32_101
  let v117 : BitVec 32 := v116
  let v310 : Index := Scalar.indexCast v117
  let c1024_167 : Index := 1024#32
  ![v310.toNat, 1024]
def k0_mult9 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_99 : BitVec 32 := 4#32
  let v113 : BitVec 32 := Scalar.remsi arg21 c4_i32_99
  let c256_i32_100 : BitVec 32 := 256#32
  let v114 : BitVec 32 := Scalar.muli v113 c256_i32_100
  let v115 : BitVec 32 := v114
  let c128_i32 : BitVec 32 := 128#32
  let v314 : BitVec 32 := Scalar.addi v115 c128_i32
  v314
def k0_off31 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v316 : Index := Scalar.indexCast v111
  let c128 : Index := 128#32
  let c0_168 : Index := 0#32
  ![v316.toNat, 128, 0]
def k0_off32 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v366 : Index := Scalar.indexCast v112
  let c128_187 : Index := 128#32
  let c0_188 : Index := 0#32
  ![v366.toNat, 128, 0]
def k0_off33 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v378 : Index := Scalar.indexCast v111
  let c128_190 : Index := 128#32
  let c0_191 : Index := 0#32
  ![v378.toNat, 128, 0]
def k0_off34 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v433 : Index := Scalar.indexCast v112
  let c128_211 : Index := 128#32
  let c0_212 : Index := 0#32
  ![v433.toNat, 128, 0]
def k0_off35 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_97 : BitVec 32 := 4#32
  let v111 : BitVec 32 := Scalar.remsi arg21 c4_i32_97
  let v445 : Index := Scalar.indexCast v111
  let c128_214 : Index := 128#32
  let c1024_215 : Index := 1024#32
  ![v445.toNat, 128, 1024]
def k0_off36 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_98 : BitVec 32 := 2#32
  let v112 : BitVec 32 := Scalar.remsi arg21 c2_i32_98
  let v500 : Index := Scalar.indexCast v112
  let c128_235 : Index := 128#32
  let c1024_236 : Index := 1024#32
  ![v500.toNat, 128, 1024]
def k0_mult10 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  v515
def k0_mult11 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  let v516 : BitVec 32 := v515
  let c0_i32_242 : BitVec 32 := 0#32
  let v517 : BitVec 32 := Scalar.addi v516 c0_i32_242
  v517
def k0_off37 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v519 : Index := Scalar.indexCast v512
  let c0_243 : Index := 0#32
  let c256 : Index := 256#32
  ![v519.toNat, 0, 256]
def k0_off38 (k0_t1 : Fin k0_t1_loop.trips) (c0_i32_258 : BitVec 32) : Fin 2 → Nat :=
  let c2_i32_257 : BitVec 32 := 2#32
  let c0_i32_43 : BitVec 32 := 0#32
  let c1_i32_45 : BitVec 32 := 1#32
  let arg21 : BitVec 32 := Scf.iv c0_i32_43 c1_i32_45 k0_t1
  let v555 : BitVec 32 := Scalar.muli c2_i32_257 arg21
  let v556 : BitVec 32 := Scalar.addi v555 c0_i32_258
  let v557 : Index := Scalar.indexCast v556
  let c256_259 : Index := 256#32
  ![v557.toNat, 256]
def k0_off39 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v569 : Index := Scalar.indexCast v513
  let c0_262 : Index := 0#32
  let c256_263 : Index := 256#32
  ![v569.toNat, 0, 256]
def k0_off40 (k0_t1 : Fin k0_t1_loop.trips) (c0_i32_242 : BitVec 32) : Fin 2 → Nat :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  let v516 : BitVec 32 := v515
  let v517 : BitVec 32 := Scalar.addi v516 c0_i32_242
  let v518 : BitVec 32 := v517
  let v577 : Index := Scalar.indexCast v518
  let c256_264 : Index := 256#32
  ![v577.toNat, 256]
def k0_off41 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v581 : Index := Scalar.indexCast v512
  let c0_265 : Index := 0#32
  let c128_266 : Index := 128#32
  ![v581.toNat, 0, 128]
def k0_off42 (k0_t1 : Fin k0_t1_loop.trips) (c0_i32_282 : BitVec 32) : Fin 2 → Nat :=
  let c2_i32_281 : BitVec 32 := 2#32
  let c0_i32_43 : BitVec 32 := 0#32
  let c1_i32_45 : BitVec 32 := 1#32
  let arg21 : BitVec 32 := Scf.iv c0_i32_43 c1_i32_45 k0_t1
  let v622 : BitVec 32 := Scalar.muli c2_i32_281 arg21
  let v623 : BitVec 32 := Scalar.addi v622 c0_i32_282
  let v624 : Index := Scalar.indexCast v623
  let c1 : Index := 1#32
  ![v624.toNat, 1]
def k0_off43 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v636 : Index := Scalar.indexCast v513
  let c0_285 : Index := 0#32
  let c128_286 : Index := 128#32
  ![v636.toNat, 0, 128]
def k0_off44 (k0_t1 : Fin k0_t1_loop.trips) (c0_i32_242 : BitVec 32) : Fin 2 → Nat :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  let v516 : BitVec 32 := v515
  let v517 : BitVec 32 := Scalar.addi v516 c0_i32_242
  let v518 : BitVec 32 := v517
  let v644 : Index := Scalar.indexCast v518
  let c128_287 : Index := 128#32
  ![v644.toNat, 128]
def k0_off45 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v648 : Index := Scalar.indexCast v512
  let c0_288 : Index := 0#32
  let c1152 : Index := 1152#32
  ![v648.toNat, 0, 1152]
def k0_off46 (k0_t1 : Fin k0_t1_loop.trips) (c0_i32_304 : BitVec 32) : Fin 2 → Nat :=
  let c2_i32_303 : BitVec 32 := 2#32
  let c0_i32_43 : BitVec 32 := 0#32
  let c1_i32_45 : BitVec 32 := 1#32
  let arg21 : BitVec 32 := Scf.iv c0_i32_43 c1_i32_45 k0_t1
  let v689 : BitVec 32 := Scalar.muli c2_i32_303 arg21
  let v690 : BitVec 32 := Scalar.addi v689 c0_i32_304
  let v691 : Index := Scalar.indexCast v690
  let c9 : Index := 9#32
  ![v691.toNat, 9]
def k0_off47 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v703 : Index := Scalar.indexCast v513
  let c0_307 : Index := 0#32
  let c1152_308 : Index := 1152#32
  ![v703.toNat, 0, 1152]
def k0_off48 (k0_t1 : Fin k0_t1_loop.trips) (c0_i32_242 : BitVec 32) : Fin 2 → Nat :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  let v516 : BitVec 32 := v515
  let v517 : BitVec 32 := Scalar.addi v516 c0_i32_242
  let v518 : BitVec 32 := v517
  let v711 : Index := Scalar.indexCast v518
  let c1152_309 : Index := 1152#32
  ![v711.toNat, 1152]
def k0_mult12 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_240 : BitVec 32 := 4#32
  let v514 : BitVec 32 := Scalar.remsi arg21 c4_i32_240
  let c256_i32_241 : BitVec 32 := 256#32
  let v515 : BitVec 32 := Scalar.muli v514 c256_i32_241
  let v516 : BitVec 32 := v515
  let c128_i32_310 : BitVec 32 := 128#32
  let v715 : BitVec 32 := Scalar.addi v516 c128_i32_310
  v715
def k0_off49 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v717 : Index := Scalar.indexCast v512
  let c128_311 : Index := 128#32
  let c256_312 : Index := 256#32
  ![v717.toNat, 128, 256]
def k0_off50 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v767 : Index := Scalar.indexCast v513
  let c128_331 : Index := 128#32
  let c256_332 : Index := 256#32
  ![v767.toNat, 128, 256]
def k0_off51 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v779 : Index := Scalar.indexCast v512
  let c128_334 : Index := 128#32
  let c128_335 : Index := 128#32
  ![v779.toNat, 128, 128]
def k0_off52 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v834 : Index := Scalar.indexCast v513
  let c128_355 : Index := 128#32
  let c128_356 : Index := 128#32
  ![v834.toNat, 128, 128]
def k0_off53 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_238 : BitVec 32 := 4#32
  let v512 : BitVec 32 := Scalar.remsi arg21 c4_i32_238
  let v846 : Index := Scalar.indexCast v512
  let c128_358 : Index := 128#32
  let c1152_359 : Index := 1152#32
  ![v846.toNat, 128, 1152]
def k0_off54 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_239 : BitVec 32 := 2#32
  let v513 : BitVec 32 := Scalar.remsi arg21 c2_i32_239
  let v901 : Index := Scalar.indexCast v513
  let c128_379 : Index := 128#32
  let c1152_380 : Index := 1152#32
  ![v901.toNat, 128, 1152]
def k0_mult13 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  v916
def k0_mult14 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  let v917 : BitVec 32 := v916
  let c0_i32_386 : BitVec 32 := 0#32
  let v918 : BitVec 32 := Scalar.addi v917 c0_i32_386
  v918
def k0_off55 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v920 : Index := Scalar.indexCast v913
  let c0_387 : Index := 0#32
  let c512 : Index := 512#32
  ![v920.toNat, 0, 512]
def k0_off56 (k0_t1 : Fin k0_t1_loop.trips) (c0_i32_402 : BitVec 32) : Fin 2 → Nat :=
  let c2_i32_401 : BitVec 32 := 2#32
  let c0_i32_43 : BitVec 32 := 0#32
  let c1_i32_45 : BitVec 32 := 1#32
  let arg21 : BitVec 32 := Scf.iv c0_i32_43 c1_i32_45 k0_t1
  let v956 : BitVec 32 := Scalar.muli c2_i32_401 arg21
  let v957 : BitVec 32 := Scalar.addi v956 c0_i32_402
  let v958 : Index := Scalar.indexCast v957
  let c512_403 : Index := 512#32
  ![v958.toNat, 512]
def k0_off57 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v970 : Index := Scalar.indexCast v914
  let c0_406 : Index := 0#32
  let c512_407 : Index := 512#32
  ![v970.toNat, 0, 512]
def k0_off58 (k0_t1 : Fin k0_t1_loop.trips) (c0_i32_386 : BitVec 32) : Fin 2 → Nat :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  let v917 : BitVec 32 := v916
  let v918 : BitVec 32 := Scalar.addi v917 c0_i32_386
  let v919 : BitVec 32 := v918
  let v978 : Index := Scalar.indexCast v919
  let c512_408 : Index := 512#32
  ![v978.toNat, 512]
def k0_off59 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v982 : Index := Scalar.indexCast v913
  let c0_409 : Index := 0#32
  let c256_410 : Index := 256#32
  ![v982.toNat, 0, 256]
def k0_off60 (k0_t1 : Fin k0_t1_loop.trips) (c0_i32_426 : BitVec 32) : Fin 2 → Nat :=
  let c2_i32_425 : BitVec 32 := 2#32
  let c0_i32_43 : BitVec 32 := 0#32
  let c1_i32_45 : BitVec 32 := 1#32
  let arg21 : BitVec 32 := Scf.iv c0_i32_43 c1_i32_45 k0_t1
  let v1023 : BitVec 32 := Scalar.muli c2_i32_425 arg21
  let v1024 : BitVec 32 := Scalar.addi v1023 c0_i32_426
  let v1025 : Index := Scalar.indexCast v1024
  let c2 : Index := 2#32
  ![v1025.toNat, 2]
def k0_off61 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v1037 : Index := Scalar.indexCast v914
  let c0_429 : Index := 0#32
  let c256_430 : Index := 256#32
  ![v1037.toNat, 0, 256]
def k0_off62 (k0_t1 : Fin k0_t1_loop.trips) (c0_i32_386 : BitVec 32) : Fin 2 → Nat :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  let v917 : BitVec 32 := v916
  let v918 : BitVec 32 := Scalar.addi v917 c0_i32_386
  let v919 : BitVec 32 := v918
  let v1045 : Index := Scalar.indexCast v919
  let c256_431 : Index := 256#32
  ![v1045.toNat, 256]
def k0_off63 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v1049 : Index := Scalar.indexCast v913
  let c0_432 : Index := 0#32
  let c1280 : Index := 1280#32
  ![v1049.toNat, 0, 1280]
def k0_off64 (k0_t1 : Fin k0_t1_loop.trips) (c0_i32_448 : BitVec 32) : Fin 2 → Nat :=
  let c2_i32_447 : BitVec 32 := 2#32
  let c0_i32_43 : BitVec 32 := 0#32
  let c1_i32_45 : BitVec 32 := 1#32
  let arg21 : BitVec 32 := Scf.iv c0_i32_43 c1_i32_45 k0_t1
  let v1090 : BitVec 32 := Scalar.muli c2_i32_447 arg21
  let v1091 : BitVec 32 := Scalar.addi v1090 c0_i32_448
  let v1092 : Index := Scalar.indexCast v1091
  let c10 : Index := 10#32
  ![v1092.toNat, 10]
def k0_off65 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v1104 : Index := Scalar.indexCast v914
  let c0_451 : Index := 0#32
  let c1280_452 : Index := 1280#32
  ![v1104.toNat, 0, 1280]
def k0_off66 (k0_t1 : Fin k0_t1_loop.trips) (c0_i32_386 : BitVec 32) : Fin 2 → Nat :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  let v917 : BitVec 32 := v916
  let v918 : BitVec 32 := Scalar.addi v917 c0_i32_386
  let v919 : BitVec 32 := v918
  let v1112 : Index := Scalar.indexCast v919
  let c1280_453 : Index := 1280#32
  ![v1112.toNat, 1280]
def k0_mult15 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_384 : BitVec 32 := 4#32
  let v915 : BitVec 32 := Scalar.remsi arg21 c4_i32_384
  let c256_i32_385 : BitVec 32 := 256#32
  let v916 : BitVec 32 := Scalar.muli v915 c256_i32_385
  let v917 : BitVec 32 := v916
  let c128_i32_454 : BitVec 32 := 128#32
  let v1116 : BitVec 32 := Scalar.addi v917 c128_i32_454
  v1116
def k0_off67 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v1118 : Index := Scalar.indexCast v913
  let c128_455 : Index := 128#32
  let c512_456 : Index := 512#32
  ![v1118.toNat, 128, 512]
def k0_off68 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v1168 : Index := Scalar.indexCast v914
  let c128_475 : Index := 128#32
  let c512_476 : Index := 512#32
  ![v1168.toNat, 128, 512]
def k0_off69 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v1180 : Index := Scalar.indexCast v913
  let c128_478 : Index := 128#32
  let c256_479 : Index := 256#32
  ![v1180.toNat, 128, 256]
def k0_off70 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v1235 : Index := Scalar.indexCast v914
  let c128_499 : Index := 128#32
  let c256_500 : Index := 256#32
  ![v1235.toNat, 128, 256]
def k0_off71 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_382 : BitVec 32 := 4#32
  let v913 : BitVec 32 := Scalar.remsi arg21 c4_i32_382
  let v1247 : Index := Scalar.indexCast v913
  let c128_502 : Index := 128#32
  let c1280_503 : Index := 1280#32
  ![v1247.toNat, 128, 1280]
def k0_off72 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_383 : BitVec 32 := 2#32
  let v914 : BitVec 32 := Scalar.remsi arg21 c2_i32_383
  let v1302 : Index := Scalar.indexCast v914
  let c128_523 : Index := 128#32
  let c1280_524 : Index := 1280#32
  ![v1302.toNat, 128, 1280]
def k0_mult16 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_528 : BitVec 32 := 4#32
  let v1316 : BitVec 32 := Scalar.remsi arg21 c4_i32_528
  let c256_i32_529 : BitVec 32 := 256#32
  let v1317 : BitVec 32 := Scalar.muli v1316 c256_i32_529
  v1317
def k0_mult17 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_528 : BitVec 32 := 4#32
  let v1316 : BitVec 32 := Scalar.remsi arg21 c4_i32_528
  let c256_i32_529 : BitVec 32 := 256#32
  let v1317 : BitVec 32 := Scalar.muli v1316 c256_i32_529
  let v1318 : BitVec 32 := v1317
  let c0_i32_530 : BitVec 32 := 0#32
  let v1319 : BitVec 32 := Scalar.addi v1318 c0_i32_530
  v1319
def k0_off73 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_526 : BitVec 32 := 4#32
  let v1314 : BitVec 32 := Scalar.remsi arg21 c4_i32_526
  let v1321 : Index := Scalar.indexCast v1314
  let c0_531 : Index := 0#32
  let c768 : Index := 768#32
  ![v1321.toNat, 0, 768]
def k0_off74 (k0_t1 : Fin k0_t1_loop.trips) (c0_i32_546 : BitVec 32) : Fin 2 → Nat :=
  let c2_i32_545 : BitVec 32 := 2#32
  let c0_i32_43 : BitVec 32 := 0#32
  let c1_i32_45 : BitVec 32 := 1#32
  let arg21 : BitVec 32 := Scf.iv c0_i32_43 c1_i32_45 k0_t1
  let v1357 : BitVec 32 := Scalar.muli c2_i32_545 arg21
  let v1358 : BitVec 32 := Scalar.addi v1357 c0_i32_546
  let v1359 : Index := Scalar.indexCast v1358
  let c768_547 : Index := 768#32
  ![v1359.toNat, 768]
def k0_off75 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_527 : BitVec 32 := 2#32
  let v1315 : BitVec 32 := Scalar.remsi arg21 c2_i32_527
  let v1371 : Index := Scalar.indexCast v1315
  let c0_550 : Index := 0#32
  let c768_551 : Index := 768#32
  ![v1371.toNat, 0, 768]
def k0_off76 (k0_t1 : Fin k0_t1_loop.trips) (c0_i32_530 : BitVec 32) : Fin 2 → Nat :=
  let c0_i32_43 : BitVec 32 := 0#32
  let c1_i32_45 : BitVec 32 := 1#32
  let arg21 : BitVec 32 := Scf.iv c0_i32_43 c1_i32_45 k0_t1
  let c4_i32_528 : BitVec 32 := 4#32
  let v1316 : BitVec 32 := Scalar.remsi arg21 c4_i32_528
  let c256_i32_529 : BitVec 32 := 256#32
  let v1317 : BitVec 32 := Scalar.muli v1316 c256_i32_529
  let v1318 : BitVec 32 := v1317
  let v1319 : BitVec 32 := Scalar.addi v1318 c0_i32_530
  let v1320 : BitVec 32 := v1319
  let v1379 : Index := Scalar.indexCast v1320
  let c768_552 : Index := 768#32
  ![v1379.toNat, 768]
def k0_off77 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_526 : BitVec 32 := 4#32
  let v1314 : BitVec 32 := Scalar.remsi arg21 c4_i32_526
  let v1383 : Index := Scalar.indexCast v1314
  let c0_553 : Index := 0#32
  let c384 : Index := 384#32
  ![v1383.toNat, 0, 384]
def k0_off78 (k0_t1 : Fin k0_t1_loop.trips) (c0_i32_569 : BitVec 32) : Fin 2 → Nat :=
  let c2_i32_568 : BitVec 32 := 2#32
  let c0_i32_43 : BitVec 32 := 0#32
  let c1_i32_45 : BitVec 32 := 1#32
  let arg21 : BitVec 32 := Scf.iv c0_i32_43 c1_i32_45 k0_t1
  let v1424 : BitVec 32 := Scalar.muli c2_i32_568 arg21
  let v1425 : BitVec 32 := Scalar.addi v1424 c0_i32_569
  let v1426 : Index := Scalar.indexCast v1425
  let c3 : Index := 3#32
  ![v1426.toNat, 3]
def k0_off79 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_527 : BitVec 32 := 2#32
  let v1315 : BitVec 32 := Scalar.remsi arg21 c2_i32_527
  let v1438 : Index := Scalar.indexCast v1315
  let c0_572 : Index := 0#32
  let c384_573 : Index := 384#32
  ![v1438.toNat, 0, 384]
def k0_off80 (k0_t1 : Fin k0_t1_loop.trips) (c0_i32_530 : BitVec 32) : Fin 2 → Nat :=
  let c0_i32_43 : BitVec 32 := 0#32
  let c1_i32_45 : BitVec 32 := 1#32
  let arg21 : BitVec 32 := Scf.iv c0_i32_43 c1_i32_45 k0_t1
  let c4_i32_528 : BitVec 32 := 4#32
  let v1316 : BitVec 32 := Scalar.remsi arg21 c4_i32_528
  let c256_i32_529 : BitVec 32 := 256#32
  let v1317 : BitVec 32 := Scalar.muli v1316 c256_i32_529
  let v1318 : BitVec 32 := v1317
  let v1319 : BitVec 32 := Scalar.addi v1318 c0_i32_530
  let v1320 : BitVec 32 := v1319
  let v1446 : Index := Scalar.indexCast v1320
  let c384_574 : Index := 384#32
  ![v1446.toNat, 384]
def k0_mult18 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_528 : BitVec 32 := 4#32
  let v1316 : BitVec 32 := Scalar.remsi arg21 c4_i32_528
  let c256_i32_529 : BitVec 32 := 256#32
  let v1317 : BitVec 32 := Scalar.muli v1316 c256_i32_529
  let v1318 : BitVec 32 := v1317
  let c128_i32_575 : BitVec 32 := 128#32
  let v1450 : BitVec 32 := Scalar.addi v1318 c128_i32_575
  v1450
def k0_off81 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_526 : BitVec 32 := 4#32
  let v1314 : BitVec 32 := Scalar.remsi arg21 c4_i32_526
  let v1452 : Index := Scalar.indexCast v1314
  let c128_576 : Index := 128#32
  let c768_577 : Index := 768#32
  ![v1452.toNat, 128, 768]
def k0_off82 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_527 : BitVec 32 := 2#32
  let v1315 : BitVec 32 := Scalar.remsi arg21 c2_i32_527
  let v1502 : Index := Scalar.indexCast v1315
  let c128_596 : Index := 128#32
  let c768_597 : Index := 768#32
  ![v1502.toNat, 128, 768]
def k0_off83 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_526 : BitVec 32 := 4#32
  let v1314 : BitVec 32 := Scalar.remsi arg21 c4_i32_526
  let v1514 : Index := Scalar.indexCast v1314
  let c128_599 : Index := 128#32
  let c384_600 : Index := 384#32
  ![v1514.toNat, 128, 384]
def k0_off84 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_527 : BitVec 32 := 2#32
  let v1315 : BitVec 32 := Scalar.remsi arg21 c2_i32_527
  let v1569 : Index := Scalar.indexCast v1315
  let c128_620 : Index := 128#32
  let c384_621 : Index := 384#32
  ![v1569.toNat, 128, 384]
def k0_mult19 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_625 : BitVec 32 := 4#32
  let v1583 : BitVec 32 := Scalar.remsi arg21 c4_i32_625
  let c256_i32_626 : BitVec 32 := 256#32
  let v1584 : BitVec 32 := Scalar.muli v1583 c256_i32_626
  v1584
def k0_mult20 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_625 : BitVec 32 := 4#32
  let v1583 : BitVec 32 := Scalar.remsi arg21 c4_i32_625
  let c256_i32_626 : BitVec 32 := 256#32
  let v1584 : BitVec 32 := Scalar.muli v1583 c256_i32_626
  let v1585 : BitVec 32 := v1584
  let c0_i32_627 : BitVec 32 := 0#32
  let v1586 : BitVec 32 := Scalar.addi v1585 c0_i32_627
  v1586
def k0_off85 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_623 : BitVec 32 := 4#32
  let v1581 : BitVec 32 := Scalar.remsi arg21 c4_i32_623
  let v1588 : Index := Scalar.indexCast v1581
  let c0_628 : Index := 0#32
  let c1024_629 : Index := 1024#32
  ![v1588.toNat, 0, 1024]
def k0_off86 (k0_t1 : Fin k0_t1_loop.trips) (c0_i32_644 : BitVec 32) : Fin 2 → Nat :=
  let c2_i32_643 : BitVec 32 := 2#32
  let c0_i32_43 : BitVec 32 := 0#32
  let c1_i32_45 : BitVec 32 := 1#32
  let arg21 : BitVec 32 := Scf.iv c0_i32_43 c1_i32_45 k0_t1
  let v1624 : BitVec 32 := Scalar.muli c2_i32_643 arg21
  let v1625 : BitVec 32 := Scalar.addi v1624 c0_i32_644
  let v1626 : Index := Scalar.indexCast v1625
  let c1024_645 : Index := 1024#32
  ![v1626.toNat, 1024]
def k0_off87 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_624 : BitVec 32 := 2#32
  let v1582 : BitVec 32 := Scalar.remsi arg21 c2_i32_624
  let v1638 : Index := Scalar.indexCast v1582
  let c0_648 : Index := 0#32
  let c1024_649 : Index := 1024#32
  ![v1638.toNat, 0, 1024]
def k0_off88 (k0_t1 : Fin k0_t1_loop.trips) (c0_i32_627 : BitVec 32) : Fin 2 → Nat :=
  let c0_i32_43 : BitVec 32 := 0#32
  let c1_i32_45 : BitVec 32 := 1#32
  let arg21 : BitVec 32 := Scf.iv c0_i32_43 c1_i32_45 k0_t1
  let c4_i32_625 : BitVec 32 := 4#32
  let v1583 : BitVec 32 := Scalar.remsi arg21 c4_i32_625
  let c256_i32_626 : BitVec 32 := 256#32
  let v1584 : BitVec 32 := Scalar.muli v1583 c256_i32_626
  let v1585 : BitVec 32 := v1584
  let v1586 : BitVec 32 := Scalar.addi v1585 c0_i32_627
  let v1587 : BitVec 32 := v1586
  let v1646 : Index := Scalar.indexCast v1587
  let c1024_650 : Index := 1024#32
  ![v1646.toNat, 1024]
def k0_off89 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_623 : BitVec 32 := 4#32
  let v1581 : BitVec 32 := Scalar.remsi arg21 c4_i32_623
  let v1650 : Index := Scalar.indexCast v1581
  let c0_651 : Index := 0#32
  let c512_652 : Index := 512#32
  ![v1650.toNat, 0, 512]
def k0_off90 (k0_t1 : Fin k0_t1_loop.trips) (c0_i32_668 : BitVec 32) : Fin 2 → Nat :=
  let c2_i32_667 : BitVec 32 := 2#32
  let c0_i32_43 : BitVec 32 := 0#32
  let c1_i32_45 : BitVec 32 := 1#32
  let arg21 : BitVec 32 := Scf.iv c0_i32_43 c1_i32_45 k0_t1
  let v1691 : BitVec 32 := Scalar.muli c2_i32_667 arg21
  let v1692 : BitVec 32 := Scalar.addi v1691 c0_i32_668
  let v1693 : Index := Scalar.indexCast v1692
  let c4 : Index := 4#32
  ![v1693.toNat, 4]
def k0_off91 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_624 : BitVec 32 := 2#32
  let v1582 : BitVec 32 := Scalar.remsi arg21 c2_i32_624
  let v1705 : Index := Scalar.indexCast v1582
  let c0_671 : Index := 0#32
  let c512_672 : Index := 512#32
  ![v1705.toNat, 0, 512]
def k0_off92 (k0_t1 : Fin k0_t1_loop.trips) (c0_i32_627 : BitVec 32) : Fin 2 → Nat :=
  let c0_i32_43 : BitVec 32 := 0#32
  let c1_i32_45 : BitVec 32 := 1#32
  let arg21 : BitVec 32 := Scf.iv c0_i32_43 c1_i32_45 k0_t1
  let c4_i32_625 : BitVec 32 := 4#32
  let v1583 : BitVec 32 := Scalar.remsi arg21 c4_i32_625
  let c256_i32_626 : BitVec 32 := 256#32
  let v1584 : BitVec 32 := Scalar.muli v1583 c256_i32_626
  let v1585 : BitVec 32 := v1584
  let v1586 : BitVec 32 := Scalar.addi v1585 c0_i32_627
  let v1587 : BitVec 32 := v1586
  let v1713 : Index := Scalar.indexCast v1587
  let c512_673 : Index := 512#32
  ![v1713.toNat, 512]
def k0_mult21 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_625 : BitVec 32 := 4#32
  let v1583 : BitVec 32 := Scalar.remsi arg21 c4_i32_625
  let c256_i32_626 : BitVec 32 := 256#32
  let v1584 : BitVec 32 := Scalar.muli v1583 c256_i32_626
  let v1585 : BitVec 32 := v1584
  let c128_i32_674 : BitVec 32 := 128#32
  let v1717 : BitVec 32 := Scalar.addi v1585 c128_i32_674
  v1717
def k0_off93 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_623 : BitVec 32 := 4#32
  let v1581 : BitVec 32 := Scalar.remsi arg21 c4_i32_623
  let v1719 : Index := Scalar.indexCast v1581
  let c128_675 : Index := 128#32
  let c1024_676 : Index := 1024#32
  ![v1719.toNat, 128, 1024]
def k0_off94 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_624 : BitVec 32 := 2#32
  let v1582 : BitVec 32 := Scalar.remsi arg21 c2_i32_624
  let v1769 : Index := Scalar.indexCast v1582
  let c128_695 : Index := 128#32
  let c1024_696 : Index := 1024#32
  ![v1769.toNat, 128, 1024]
def k0_off95 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_623 : BitVec 32 := 4#32
  let v1581 : BitVec 32 := Scalar.remsi arg21 c4_i32_623
  let v1781 : Index := Scalar.indexCast v1581
  let c128_698 : Index := 128#32
  let c512_699 : Index := 512#32
  ![v1781.toNat, 128, 512]
def k0_off96 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_624 : BitVec 32 := 2#32
  let v1582 : BitVec 32 := Scalar.remsi arg21 c2_i32_624
  let v1836 : Index := Scalar.indexCast v1582
  let c128_719 : Index := 128#32
  let c512_720 : Index := 512#32
  ![v1836.toNat, 128, 512]
def k0_mult22 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_724 : BitVec 32 := 4#32
  let v1850 : BitVec 32 := Scalar.remsi arg21 c4_i32_724
  let c256_i32_725 : BitVec 32 := 256#32
  let v1851 : BitVec 32 := Scalar.muli v1850 c256_i32_725
  v1851
def k0_mult23 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_724 : BitVec 32 := 4#32
  let v1850 : BitVec 32 := Scalar.remsi arg21 c4_i32_724
  let c256_i32_725 : BitVec 32 := 256#32
  let v1851 : BitVec 32 := Scalar.muli v1850 c256_i32_725
  let v1852 : BitVec 32 := v1851
  let c0_i32_726 : BitVec 32 := 0#32
  let v1853 : BitVec 32 := Scalar.addi v1852 c0_i32_726
  v1853
def k0_off97 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_722 : BitVec 32 := 4#32
  let v1848 : BitVec 32 := Scalar.remsi arg21 c4_i32_722
  let v1855 : Index := Scalar.indexCast v1848
  let c0_727 : Index := 0#32
  let c1280_728 : Index := 1280#32
  ![v1855.toNat, 0, 1280]
def k0_off98 (k0_t1 : Fin k0_t1_loop.trips) (c0_i32_743 : BitVec 32) : Fin 2 → Nat :=
  let c2_i32_742 : BitVec 32 := 2#32
  let c0_i32_43 : BitVec 32 := 0#32
  let c1_i32_45 : BitVec 32 := 1#32
  let arg21 : BitVec 32 := Scf.iv c0_i32_43 c1_i32_45 k0_t1
  let v1891 : BitVec 32 := Scalar.muli c2_i32_742 arg21
  let v1892 : BitVec 32 := Scalar.addi v1891 c0_i32_743
  let v1893 : Index := Scalar.indexCast v1892
  let c1280_744 : Index := 1280#32
  ![v1893.toNat, 1280]
def k0_off99 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_723 : BitVec 32 := 2#32
  let v1849 : BitVec 32 := Scalar.remsi arg21 c2_i32_723
  let v1905 : Index := Scalar.indexCast v1849
  let c0_747 : Index := 0#32
  let c1280_748 : Index := 1280#32
  ![v1905.toNat, 0, 1280]
def k0_off100 (k0_t1 : Fin k0_t1_loop.trips) (c0_i32_726 : BitVec 32) : Fin 2 → Nat :=
  let c0_i32_43 : BitVec 32 := 0#32
  let c1_i32_45 : BitVec 32 := 1#32
  let arg21 : BitVec 32 := Scf.iv c0_i32_43 c1_i32_45 k0_t1
  let c4_i32_724 : BitVec 32 := 4#32
  let v1850 : BitVec 32 := Scalar.remsi arg21 c4_i32_724
  let c256_i32_725 : BitVec 32 := 256#32
  let v1851 : BitVec 32 := Scalar.muli v1850 c256_i32_725
  let v1852 : BitVec 32 := v1851
  let v1853 : BitVec 32 := Scalar.addi v1852 c0_i32_726
  let v1854 : BitVec 32 := v1853
  let v1913 : Index := Scalar.indexCast v1854
  let c1280_749 : Index := 1280#32
  ![v1913.toNat, 1280]
def k0_off101 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_722 : BitVec 32 := 4#32
  let v1848 : BitVec 32 := Scalar.remsi arg21 c4_i32_722
  let v1917 : Index := Scalar.indexCast v1848
  let c0_750 : Index := 0#32
  let c640 : Index := 640#32
  ![v1917.toNat, 0, 640]
def k0_off102 (k0_t1 : Fin k0_t1_loop.trips) (c0_i32_766 : BitVec 32) : Fin 2 → Nat :=
  let c2_i32_765 : BitVec 32 := 2#32
  let c0_i32_43 : BitVec 32 := 0#32
  let c1_i32_45 : BitVec 32 := 1#32
  let arg21 : BitVec 32 := Scf.iv c0_i32_43 c1_i32_45 k0_t1
  let v1958 : BitVec 32 := Scalar.muli c2_i32_765 arg21
  let v1959 : BitVec 32 := Scalar.addi v1958 c0_i32_766
  let v1960 : Index := Scalar.indexCast v1959
  let c5 : Index := 5#32
  ![v1960.toNat, 5]
def k0_off103 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_723 : BitVec 32 := 2#32
  let v1849 : BitVec 32 := Scalar.remsi arg21 c2_i32_723
  let v1972 : Index := Scalar.indexCast v1849
  let c0_769 : Index := 0#32
  let c640_770 : Index := 640#32
  ![v1972.toNat, 0, 640]
def k0_off104 (k0_t1 : Fin k0_t1_loop.trips) (c0_i32_726 : BitVec 32) : Fin 2 → Nat :=
  let c0_i32_43 : BitVec 32 := 0#32
  let c1_i32_45 : BitVec 32 := 1#32
  let arg21 : BitVec 32 := Scf.iv c0_i32_43 c1_i32_45 k0_t1
  let c4_i32_724 : BitVec 32 := 4#32
  let v1850 : BitVec 32 := Scalar.remsi arg21 c4_i32_724
  let c256_i32_725 : BitVec 32 := 256#32
  let v1851 : BitVec 32 := Scalar.muli v1850 c256_i32_725
  let v1852 : BitVec 32 := v1851
  let v1853 : BitVec 32 := Scalar.addi v1852 c0_i32_726
  let v1854 : BitVec 32 := v1853
  let v1980 : Index := Scalar.indexCast v1854
  let c640_771 : Index := 640#32
  ![v1980.toNat, 640]
def k0_mult24 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_724 : BitVec 32 := 4#32
  let v1850 : BitVec 32 := Scalar.remsi arg21 c4_i32_724
  let c256_i32_725 : BitVec 32 := 256#32
  let v1851 : BitVec 32 := Scalar.muli v1850 c256_i32_725
  let v1852 : BitVec 32 := v1851
  let c128_i32_772 : BitVec 32 := 128#32
  let v1984 : BitVec 32 := Scalar.addi v1852 c128_i32_772
  v1984
def k0_off105 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_722 : BitVec 32 := 4#32
  let v1848 : BitVec 32 := Scalar.remsi arg21 c4_i32_722
  let v1986 : Index := Scalar.indexCast v1848
  let c128_773 : Index := 128#32
  let c1280_774 : Index := 1280#32
  ![v1986.toNat, 128, 1280]
def k0_off106 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_723 : BitVec 32 := 2#32
  let v1849 : BitVec 32 := Scalar.remsi arg21 c2_i32_723
  let v2036 : Index := Scalar.indexCast v1849
  let c128_793 : Index := 128#32
  let c1280_794 : Index := 1280#32
  ![v2036.toNat, 128, 1280]
def k0_off107 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_722 : BitVec 32 := 4#32
  let v1848 : BitVec 32 := Scalar.remsi arg21 c4_i32_722
  let v2048 : Index := Scalar.indexCast v1848
  let c128_796 : Index := 128#32
  let c640_797 : Index := 640#32
  ![v2048.toNat, 128, 640]
def k0_off108 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_723 : BitVec 32 := 2#32
  let v1849 : BitVec 32 := Scalar.remsi arg21 c2_i32_723
  let v2103 : Index := Scalar.indexCast v1849
  let c128_817 : Index := 128#32
  let c640_818 : Index := 640#32
  ![v2103.toNat, 128, 640]
def k0_mult25 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_822 : BitVec 32 := 4#32
  let v2117 : BitVec 32 := Scalar.remsi arg21 c4_i32_822
  let c256_i32_823 : BitVec 32 := 256#32
  let v2118 : BitVec 32 := Scalar.muli v2117 c256_i32_823
  v2118
def k0_mult26 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_822 : BitVec 32 := 4#32
  let v2117 : BitVec 32 := Scalar.remsi arg21 c4_i32_822
  let c256_i32_823 : BitVec 32 := 256#32
  let v2118 : BitVec 32 := Scalar.muli v2117 c256_i32_823
  let v2119 : BitVec 32 := v2118
  let c0_i32_824 : BitVec 32 := 0#32
  let v2120 : BitVec 32 := Scalar.addi v2119 c0_i32_824
  v2120
def k0_off109 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_820 : BitVec 32 := 4#32
  let v2115 : BitVec 32 := Scalar.remsi arg21 c4_i32_820
  let v2122 : Index := Scalar.indexCast v2115
  let c0_825 : Index := 0#32
  let c1536 : Index := 1536#32
  ![v2122.toNat, 0, 1536]
def k0_off110 (k0_t1 : Fin k0_t1_loop.trips) (c0_i32_840 : BitVec 32) : Fin 2 → Nat :=
  let c2_i32_839 : BitVec 32 := 2#32
  let c0_i32_43 : BitVec 32 := 0#32
  let c1_i32_45 : BitVec 32 := 1#32
  let arg21 : BitVec 32 := Scf.iv c0_i32_43 c1_i32_45 k0_t1
  let v2158 : BitVec 32 := Scalar.muli c2_i32_839 arg21
  let v2159 : BitVec 32 := Scalar.addi v2158 c0_i32_840
  let v2160 : Index := Scalar.indexCast v2159
  let c1536_841 : Index := 1536#32
  ![v2160.toNat, 1536]
def k0_off111 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_821 : BitVec 32 := 2#32
  let v2116 : BitVec 32 := Scalar.remsi arg21 c2_i32_821
  let v2172 : Index := Scalar.indexCast v2116
  let c0_844 : Index := 0#32
  let c1536_845 : Index := 1536#32
  ![v2172.toNat, 0, 1536]
def k0_off112 (k0_t1 : Fin k0_t1_loop.trips) (c0_i32_824 : BitVec 32) : Fin 2 → Nat :=
  let c0_i32_43 : BitVec 32 := 0#32
  let c1_i32_45 : BitVec 32 := 1#32
  let arg21 : BitVec 32 := Scf.iv c0_i32_43 c1_i32_45 k0_t1
  let c4_i32_822 : BitVec 32 := 4#32
  let v2117 : BitVec 32 := Scalar.remsi arg21 c4_i32_822
  let c256_i32_823 : BitVec 32 := 256#32
  let v2118 : BitVec 32 := Scalar.muli v2117 c256_i32_823
  let v2119 : BitVec 32 := v2118
  let v2120 : BitVec 32 := Scalar.addi v2119 c0_i32_824
  let v2121 : BitVec 32 := v2120
  let v2180 : Index := Scalar.indexCast v2121
  let c1536_846 : Index := 1536#32
  ![v2180.toNat, 1536]
def k0_off113 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_820 : BitVec 32 := 4#32
  let v2115 : BitVec 32 := Scalar.remsi arg21 c4_i32_820
  let v2184 : Index := Scalar.indexCast v2115
  let c0_847 : Index := 0#32
  let c768_848 : Index := 768#32
  ![v2184.toNat, 0, 768]
def k0_off114 (k0_t1 : Fin k0_t1_loop.trips) (c0_i32_864 : BitVec 32) : Fin 2 → Nat :=
  let c2_i32_863 : BitVec 32 := 2#32
  let c0_i32_43 : BitVec 32 := 0#32
  let c1_i32_45 : BitVec 32 := 1#32
  let arg21 : BitVec 32 := Scf.iv c0_i32_43 c1_i32_45 k0_t1
  let v2225 : BitVec 32 := Scalar.muli c2_i32_863 arg21
  let v2226 : BitVec 32 := Scalar.addi v2225 c0_i32_864
  let v2227 : Index := Scalar.indexCast v2226
  let c6 : Index := 6#32
  ![v2227.toNat, 6]
def k0_off115 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_821 : BitVec 32 := 2#32
  let v2116 : BitVec 32 := Scalar.remsi arg21 c2_i32_821
  let v2239 : Index := Scalar.indexCast v2116
  let c0_867 : Index := 0#32
  let c768_868 : Index := 768#32
  ![v2239.toNat, 0, 768]
def k0_off116 (k0_t1 : Fin k0_t1_loop.trips) (c0_i32_824 : BitVec 32) : Fin 2 → Nat :=
  let c0_i32_43 : BitVec 32 := 0#32
  let c1_i32_45 : BitVec 32 := 1#32
  let arg21 : BitVec 32 := Scf.iv c0_i32_43 c1_i32_45 k0_t1
  let c4_i32_822 : BitVec 32 := 4#32
  let v2117 : BitVec 32 := Scalar.remsi arg21 c4_i32_822
  let c256_i32_823 : BitVec 32 := 256#32
  let v2118 : BitVec 32 := Scalar.muli v2117 c256_i32_823
  let v2119 : BitVec 32 := v2118
  let v2120 : BitVec 32 := Scalar.addi v2119 c0_i32_824
  let v2121 : BitVec 32 := v2120
  let v2247 : Index := Scalar.indexCast v2121
  let c768_869 : Index := 768#32
  ![v2247.toNat, 768]
def k0_mult27 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_822 : BitVec 32 := 4#32
  let v2117 : BitVec 32 := Scalar.remsi arg21 c4_i32_822
  let c256_i32_823 : BitVec 32 := 256#32
  let v2118 : BitVec 32 := Scalar.muli v2117 c256_i32_823
  let v2119 : BitVec 32 := v2118
  let c128_i32_870 : BitVec 32 := 128#32
  let v2251 : BitVec 32 := Scalar.addi v2119 c128_i32_870
  v2251
def k0_off117 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_820 : BitVec 32 := 4#32
  let v2115 : BitVec 32 := Scalar.remsi arg21 c4_i32_820
  let v2253 : Index := Scalar.indexCast v2115
  let c128_871 : Index := 128#32
  let c1536_872 : Index := 1536#32
  ![v2253.toNat, 128, 1536]
def k0_off118 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_821 : BitVec 32 := 2#32
  let v2116 : BitVec 32 := Scalar.remsi arg21 c2_i32_821
  let v2303 : Index := Scalar.indexCast v2116
  let c128_891 : Index := 128#32
  let c1536_892 : Index := 1536#32
  ![v2303.toNat, 128, 1536]
def k0_off119 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_820 : BitVec 32 := 4#32
  let v2115 : BitVec 32 := Scalar.remsi arg21 c4_i32_820
  let v2315 : Index := Scalar.indexCast v2115
  let c128_894 : Index := 128#32
  let c768_895 : Index := 768#32
  ![v2315.toNat, 128, 768]
def k0_off120 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_821 : BitVec 32 := 2#32
  let v2116 : BitVec 32 := Scalar.remsi arg21 c2_i32_821
  let v2370 : Index := Scalar.indexCast v2116
  let c128_915 : Index := 128#32
  let c768_916 : Index := 768#32
  ![v2370.toNat, 128, 768]
def k0_mult28 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_920 : BitVec 32 := 4#32
  let v2384 : BitVec 32 := Scalar.remsi arg21 c4_i32_920
  let c256_i32_921 : BitVec 32 := 256#32
  let v2385 : BitVec 32 := Scalar.muli v2384 c256_i32_921
  v2385
def k0_mult29 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_920 : BitVec 32 := 4#32
  let v2384 : BitVec 32 := Scalar.remsi arg21 c4_i32_920
  let c256_i32_921 : BitVec 32 := 256#32
  let v2385 : BitVec 32 := Scalar.muli v2384 c256_i32_921
  let v2386 : BitVec 32 := v2385
  let c0_i32_922 : BitVec 32 := 0#32
  let v2387 : BitVec 32 := Scalar.addi v2386 c0_i32_922
  v2387
def k0_off121 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_918 : BitVec 32 := 4#32
  let v2382 : BitVec 32 := Scalar.remsi arg21 c4_i32_918
  let v2389 : Index := Scalar.indexCast v2382
  let c0_923 : Index := 0#32
  let c1792 : Index := 1792#32
  ![v2389.toNat, 0, 1792]
def k0_off122 (k0_t1 : Fin k0_t1_loop.trips) (c0_i32_938 : BitVec 32) : Fin 2 → Nat :=
  let c2_i32_937 : BitVec 32 := 2#32
  let c0_i32_43 : BitVec 32 := 0#32
  let c1_i32_45 : BitVec 32 := 1#32
  let arg21 : BitVec 32 := Scf.iv c0_i32_43 c1_i32_45 k0_t1
  let v2425 : BitVec 32 := Scalar.muli c2_i32_937 arg21
  let v2426 : BitVec 32 := Scalar.addi v2425 c0_i32_938
  let v2427 : Index := Scalar.indexCast v2426
  let c1792_939 : Index := 1792#32
  ![v2427.toNat, 1792]
def k0_off123 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_919 : BitVec 32 := 2#32
  let v2383 : BitVec 32 := Scalar.remsi arg21 c2_i32_919
  let v2439 : Index := Scalar.indexCast v2383
  let c0_942 : Index := 0#32
  let c1792_943 : Index := 1792#32
  ![v2439.toNat, 0, 1792]
def k0_off124 (k0_t1 : Fin k0_t1_loop.trips) (c0_i32_922 : BitVec 32) : Fin 2 → Nat :=
  let c0_i32_43 : BitVec 32 := 0#32
  let c1_i32_45 : BitVec 32 := 1#32
  let arg21 : BitVec 32 := Scf.iv c0_i32_43 c1_i32_45 k0_t1
  let c4_i32_920 : BitVec 32 := 4#32
  let v2384 : BitVec 32 := Scalar.remsi arg21 c4_i32_920
  let c256_i32_921 : BitVec 32 := 256#32
  let v2385 : BitVec 32 := Scalar.muli v2384 c256_i32_921
  let v2386 : BitVec 32 := v2385
  let v2387 : BitVec 32 := Scalar.addi v2386 c0_i32_922
  let v2388 : BitVec 32 := v2387
  let v2447 : Index := Scalar.indexCast v2388
  let c1792_944 : Index := 1792#32
  ![v2447.toNat, 1792]
def k0_off125 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_918 : BitVec 32 := 4#32
  let v2382 : BitVec 32 := Scalar.remsi arg21 c4_i32_918
  let v2451 : Index := Scalar.indexCast v2382
  let c0_945 : Index := 0#32
  let c896 : Index := 896#32
  ![v2451.toNat, 0, 896]
def k0_off126 (k0_t1 : Fin k0_t1_loop.trips) (c0_i32_961 : BitVec 32) : Fin 2 → Nat :=
  let c2_i32_960 : BitVec 32 := 2#32
  let c0_i32_43 : BitVec 32 := 0#32
  let c1_i32_45 : BitVec 32 := 1#32
  let arg21 : BitVec 32 := Scf.iv c0_i32_43 c1_i32_45 k0_t1
  let v2492 : BitVec 32 := Scalar.muli c2_i32_960 arg21
  let v2493 : BitVec 32 := Scalar.addi v2492 c0_i32_961
  let v2494 : Index := Scalar.indexCast v2493
  let c7 : Index := 7#32
  ![v2494.toNat, 7]
def k0_off127 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_919 : BitVec 32 := 2#32
  let v2383 : BitVec 32 := Scalar.remsi arg21 c2_i32_919
  let v2506 : Index := Scalar.indexCast v2383
  let c0_964 : Index := 0#32
  let c896_965 : Index := 896#32
  ![v2506.toNat, 0, 896]
def k0_off128 (k0_t1 : Fin k0_t1_loop.trips) (c0_i32_922 : BitVec 32) : Fin 2 → Nat :=
  let c0_i32_43 : BitVec 32 := 0#32
  let c1_i32_45 : BitVec 32 := 1#32
  let arg21 : BitVec 32 := Scf.iv c0_i32_43 c1_i32_45 k0_t1
  let c4_i32_920 : BitVec 32 := 4#32
  let v2384 : BitVec 32 := Scalar.remsi arg21 c4_i32_920
  let c256_i32_921 : BitVec 32 := 256#32
  let v2385 : BitVec 32 := Scalar.muli v2384 c256_i32_921
  let v2386 : BitVec 32 := v2385
  let v2387 : BitVec 32 := Scalar.addi v2386 c0_i32_922
  let v2388 : BitVec 32 := v2387
  let v2514 : Index := Scalar.indexCast v2388
  let c896_966 : Index := 896#32
  ![v2514.toNat, 896]
def k0_mult30 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_920 : BitVec 32 := 4#32
  let v2384 : BitVec 32 := Scalar.remsi arg21 c4_i32_920
  let c256_i32_921 : BitVec 32 := 256#32
  let v2385 : BitVec 32 := Scalar.muli v2384 c256_i32_921
  let v2386 : BitVec 32 := v2385
  let c128_i32_967 : BitVec 32 := 128#32
  let v2518 : BitVec 32 := Scalar.addi v2386 c128_i32_967
  v2518
def k0_off129 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_918 : BitVec 32 := 4#32
  let v2382 : BitVec 32 := Scalar.remsi arg21 c4_i32_918
  let v2520 : Index := Scalar.indexCast v2382
  let c128_968 : Index := 128#32
  let c1792_969 : Index := 1792#32
  ![v2520.toNat, 128, 1792]
def k0_off130 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_919 : BitVec 32 := 2#32
  let v2383 : BitVec 32 := Scalar.remsi arg21 c2_i32_919
  let v2570 : Index := Scalar.indexCast v2383
  let c128_988 : Index := 128#32
  let c1792_989 : Index := 1792#32
  ![v2570.toNat, 128, 1792]
def k0_off131 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_918 : BitVec 32 := 4#32
  let v2382 : BitVec 32 := Scalar.remsi arg21 c4_i32_918
  let v2582 : Index := Scalar.indexCast v2382
  let c128_991 : Index := 128#32
  let c896_992 : Index := 896#32
  ![v2582.toNat, 128, 896]
def k0_off132 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_919 : BitVec 32 := 2#32
  let v2383 : BitVec 32 := Scalar.remsi arg21 c2_i32_919
  let v2637 : Index := Scalar.indexCast v2383
  let c128_1012 : Index := 128#32
  let c896_1013 : Index := 896#32
  ![v2637.toNat, 128, 896]
def k0_mult31 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c256_i32_1016 : BitVec 32 := 256#32
  let v2650 : BitVec 32 := Scalar.muli arg21 c256_i32_1016
  v2650
def k0_off133 (k0_t1 : Fin k0_t1_loop.trips) : Fin 2 → Nat :=
  let c0_i32_1017 : BitVec 32 := 0#32
  let c0_i32_43 : BitVec 32 := 0#32
  let c1_i32_45 : BitVec 32 := 1#32
  let arg21 : BitVec 32 := Scf.iv c0_i32_43 c1_i32_45 k0_t1
  let c2_i32_1015 : BitVec 32 := 2#32
  let v2649 : BitVec 32 := Scalar.remsi arg21 c2_i32_1015
  ![0, v2649.toNat]
def k0_off134 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_1015 : BitVec 32 := 2#32
  let v2649 : BitVec 32 := Scalar.remsi arg21 c2_i32_1015
  let c0_i32_1019 : BitVec 32 := 0#32
  let c0_i32_1020 : BitVec 32 := 0#32
  ![v2649.toNat, 0, 0]
def k0_off135 (k0_t1 : Fin k0_t1_loop.trips) : Fin 2 → Nat :=
  let c1_i32_1021 : BitVec 32 := 1#32
  let c0_i32_43 : BitVec 32 := 0#32
  let c1_i32_45 : BitVec 32 := 1#32
  let arg21 : BitVec 32 := Scf.iv c0_i32_43 c1_i32_45 k0_t1
  let c2_i32_1015 : BitVec 32 := 2#32
  let v2649 : BitVec 32 := Scalar.remsi arg21 c2_i32_1015
  ![1, v2649.toNat]
def k0_off136 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c2_i32_1015 : BitVec 32 := 2#32
  let v2649 : BitVec 32 := Scalar.remsi arg21 c2_i32_1015
  let c0_i32_1023 : BitVec 32 := 0#32
  let c0_i32_1024 : BitVec 32 := 0#32
  ![v2649.toNat, 0, 0]
def k0_cond2 (k0_t1 : Fin k0_t1_loop.trips) : BitVec 1 :=
  let c0_i32_43 : BitVec 32 := 0#32
  let c1_i32_45 : BitVec 32 := 1#32
  let arg21 : BitVec 32 := Scf.iv c0_i32_43 c1_i32_45 k0_t1
  let c4_i32_1025 : BitVec 32 := 4#32
  let v2662 : BitVec 32 := Scalar.addi arg21 c4_i32_1025
  let c192_i32 : BitVec 32 := 192#32
  let v2663 : BitVec 1 := Scalar.cmpi .slt v2662 c192_i32
  let v2664 : BitVec 32 := Scalar.extui v2663
  let c0_i32_1026 : BitVec 32 := 0#32
  let v2665 : BitVec 1 := Scalar.cmpi .ne v2664 c0_i32_1026
  v2665

def k0_mult32 (k0_t1 : Fin k0_t1_loop.trips) : BitVec 32 :=
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c256_i32_1032 : BitVec 32 := 256#32
  let v2672 : BitVec 32 := Scalar.muli v2670 c256_i32_1032
  v2672
def k0_off137 (k0_t1 : Fin k0_t1_loop.trips) : Fin 2 → Nat :=
  let c0_i32_1033 : BitVec 32 := 0#32
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c4_i32_1031 : BitVec 32 := 4#32
  let v2671 : BitVec 32 := Scalar.remsi v2670 c4_i32_1031
  ![0, v2671.toNat]
def k0_off138 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c4_i32_1031 : BitVec 32 := 4#32
  let v2671 : BitVec 32 := Scalar.remsi v2670 c4_i32_1031
  let c0_i32_1034 : BitVec 32 := 0#32
  let c0_i32_1035 : BitVec 32 := 0#32
  ![v2671.toNat, 0, 0]
def k0_off139 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c256_i32_1032 : BitVec 32 := 256#32
  let v2672 : BitVec 32 := Scalar.muli v2670 c256_i32_1032
  let v2673 : BitVec 32 := v2672
  let c0_i32_1036 : BitVec 32 := 0#32
  ![v2673.toNat, 0]
def k0_off140 (k0_t1 : Fin k0_t1_loop.trips) : Fin 2 → Nat :=
  let c1_i32_1037 : BitVec 32 := 1#32
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c4_i32_1031 : BitVec 32 := 4#32
  let v2671 : BitVec 32 := Scalar.remsi v2670 c4_i32_1031
  ![1, v2671.toNat]
def k0_off141 (k0_t1 : Fin k0_t1_loop.trips) : Fin 3 → Nat :=
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c4_i32_1031 : BitVec 32 := 4#32
  let v2671 : BitVec 32 := Scalar.remsi v2670 c4_i32_1031
  let c0_i32_1038 : BitVec 32 := 0#32
  let c0_i32_1039 : BitVec 32 := 0#32
  ![v2671.toNat, 0, 0]
def k0_off142 (k0_t1 : Fin k0_t1_loop.trips) : Fin 2 → Nat :=
  let c0_i32_43 : BitVec 32 := 0#32
  let c1_i32_45 : BitVec 32 := 1#32
  let arg21 : BitVec 32 := Scf.iv c0_i32_43 c1_i32_45 k0_t1
  let c4_i32_1030 : BitVec 32 := 4#32
  let v2670 : BitVec 32 := Scalar.addi arg21 c4_i32_1030
  let c256_i32_1032 : BitVec 32 := 256#32
  let v2672 : BitVec 32 := Scalar.muli v2670 c256_i32_1032
  let v2673 : BitVec 32 := v2672
  let c0_i32_1040 : BitVec 32 := 0#32
  ![v2673.toNat, 0]
@[reducible] def k0_t2_loop : Scf.Loop 32 :=
  let c0_i32_50 : BitVec 32 := 0#32
  let c64_i32 : BitVec 32 := 64#32
  let v57 : BitVec 32 := Scalar.addi c0_i32_50 c64_i32
  let c1_i32_51 : BitVec 32 := 1#32
  ⟨c0_i32_50, v57, c1_i32_51⟩
def k0_off143 (k0_t2 : Fin k0_t2_loop.trips) : Fin 1 → Nat :=
  let c0_i32_50 : BitVec 32 := 0#32
  let c1_i32_51 : BitVec 32 := 1#32
  let arg21 : BitVec 32 := Scf.iv c0_i32_50 c1_i32_51 k0_t2
  let v95 : Index := Scalar.indexCast arg21
  ![v95.toNat]
def k0_off144 (arg23 : BitVec 32) : Fin 1 → Nat :=
  let c3_i32_85 : BitVec 32 := 3#32
  let v98 : BitVec 32 := Scalar.remsi arg23 c3_i32_85
  ![v98.toNat]
def k0_cond4 (arg23 : BitVec 32) (v96 : BitVec 32) : BitVec 1 :=
  let c0_i32_92 : BitVec 32 := 0#32
  let v107 : BitVec 1 := Scalar.cmpi .sgt v96 c0_i32_92
  let c3_i32_93 : BitVec 32 := 3#32
  let v108 : BitVec 1 := Scalar.cmpi .sge arg23 c3_i32_93
  let v109 : BitVec 1 := Scalar.andi v107 v108
  let v110 : BitVec 32 := Scalar.extui v109
  let c0_i32_94 : BitVec 32 := 0#32
  let v111 : BitVec 1 := Scalar.cmpi .ne v110 c0_i32_94
  v111

def k0_off145 (arg23 : BitVec 32) : Fin 3 → Nat :=
  let c3_i32_85 : BitVec 32 := 3#32
  let v98 : BitVec 32 := Scalar.remsi arg23 c3_i32_85
  let c0_i32_107 : BitVec 32 := 0#32
  let c0_i32_108 : BitVec 32 := 0#32
  ![v98.toNat, 0, 0]
@[reducible] def k0_t3_loop (arg22 : BitVec 32) (v96 : BitVec 32) : Scf.Loop 32 :=
  let c0_i32_95 : BitVec 32 := 0#32
  let c0_i32_87 : BitVec 32 := 0#32
  let v101 : BitVec 1 := Scalar.cmpi .sgt v96 c0_i32_87
  let v97 : BitVec 32 := Scalar.addi arg22 v96
  let c16_i32 : BitVec 32 := 16#32
  let v99 : BitVec 32 := Scalar.divsi arg22 c16_i32
  let c16_i32_86 : BitVec 32 := 16#32
  let v100 : BitVec 32 := Scalar.muli v99 c16_i32_86
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_97 : BitVec 32 := 1#32
  ⟨c0_i32_95, v116, c1_i32_97⟩
def k0_mult33 (arg26 : BitVec 32) : BitVec 32 :=
  let c256_i32_111 : BitVec 32 := 256#32
  let v144 : BitVec 32 := Scalar.muli arg26 c256_i32_111
  v144
def k0_cond5 (arg22 : BitVec 32) (v96 : BitVec 32) (k0_t3 : Fin (k0_t3_loop arg22 v96).trips) (arg26 : BitVec 32) : BitVec 1 :=
  let c192_i32 : BitVec 32 := 192#32
  let v131 : BitVec 1 := Scalar.cmpi .slt arg26 c192_i32
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c256_i32_106 : BitVec 32 := 256#32
  let v132 : BitVec 32 := Scalar.divsi v129 c256_i32_106
  let c4_i32_107 : BitVec 32 := 4#32
  let v133 : BitVec 32 := Scalar.addi v132 c4_i32_107
  let v134 : BitVec 1 := Scalar.cmpi .slt arg26 v133
  let v135 : BitVec 1 := Scalar.andi v131 v134
  let v136 : BitVec 32 := Scalar.extui v135
  let c0_i32_108 : BitVec 32 := 0#32
  let v137 : BitVec 1 := Scalar.cmpi .ne v136 c0_i32_108
  v137

def k0_off146 (arg26 : BitVec 32) : Fin 2 → Nat :=
  let c0_i32_112 : BitVec 32 := 0#32
  let c4_i32_110 : BitVec 32 := 4#32
  let v143 : BitVec 32 := Scalar.remsi arg26 c4_i32_110
  ![0, v143.toNat]
def k0_off147 (arg26 : BitVec 32) : Fin 3 → Nat :=
  let c4_i32_110 : BitVec 32 := 4#32
  let v143 : BitVec 32 := Scalar.remsi arg26 c4_i32_110
  let c0_i32_113 : BitVec 32 := 0#32
  let c0_i32_114 : BitVec 32 := 0#32
  ![v143.toNat, 0, 0]
def k0_off148 (arg26 : BitVec 32) : Fin 2 → Nat :=
  let c256_i32_111 : BitVec 32 := 256#32
  let v144 : BitVec 32 := Scalar.muli arg26 c256_i32_111
  let v145 : BitVec 32 := v144
  let c0_i32_115 : BitVec 32 := 0#32
  ![v145.toNat, 0]
def k0_off149 (arg26 : BitVec 32) : Fin 2 → Nat :=
  let c1_i32_116 : BitVec 32 := 1#32
  let c4_i32_110 : BitVec 32 := 4#32
  let v143 : BitVec 32 := Scalar.remsi arg26 c4_i32_110
  ![1, v143.toNat]
def k0_off150 (arg26 : BitVec 32) : Fin 3 → Nat :=
  let c4_i32_110 : BitVec 32 := 4#32
  let v143 : BitVec 32 := Scalar.remsi arg26 c4_i32_110
  let c0_i32_117 : BitVec 32 := 0#32
  let c0_i32_118 : BitVec 32 := 0#32
  ![v143.toNat, 0, 0]
def k0_off151 (arg26 : BitVec 32) : Fin 2 → Nat :=
  let c256_i32_111 : BitVec 32 := 256#32
  let v144 : BitVec 32 := Scalar.muli arg26 c256_i32_111
  let v145 : BitVec 32 := v144
  let c0_i32_119 : BitVec 32 := 0#32
  ![v145.toNat, 0]
def k0_mult34 (arg26 : BitVec 32) : BitVec 32 :=
  let c2_i32_1163 : BitVec 32 := 2#32
  let v2910 : BitVec 32 := Scalar.subi arg26 c2_i32_1163
  let c256_i32_1165 : BitVec 32 := 256#32
  let v2912 : BitVec 32 := Scalar.muli v2910 c256_i32_1165
  v2912
def k0_cond6 (arg26 : BitVec 32) : BitVec 1 :=
  let c2_i32_120 : BitVec 32 := 2#32
  let v156 : BitVec 1 := Scalar.cmpi .sge arg26 c2_i32_120
  let v157 : BitVec 32 := Scalar.extui v156
  let c0_i32_121 : BitVec 32 := 0#32
  let v158 : BitVec 1 := Scalar.cmpi .ne v157 c0_i32_121
  v158

def k0_off152 (arg26 : BitVec 32) : Fin 2 → Nat :=
  let c0_i32_1166 : BitVec 32 := 0#32
  let c2_i32_1163 : BitVec 32 := 2#32
  let v2910 : BitVec 32 := Scalar.subi arg26 c2_i32_1163
  let c2_i32_1164 : BitVec 32 := 2#32
  let v2911 : BitVec 32 := Scalar.remsi v2910 c2_i32_1164
  ![0, v2911.toNat]
def k0_off153 (arg26 : BitVec 32) : Fin 2 → Nat :=
  let c2_i32_1163 : BitVec 32 := 2#32
  let v2910 : BitVec 32 := Scalar.subi arg26 c2_i32_1163
  let c256_i32_1165 : BitVec 32 := 256#32
  let v2912 : BitVec 32 := Scalar.muli v2910 c256_i32_1165
  let v2913 : BitVec 32 := v2912
  let c0_i32_1167 : BitVec 32 := 0#32
  ![v2913.toNat, 0]
def k0_off154 (arg26 : BitVec 32) : Fin 3 → Nat :=
  let c2_i32_1163 : BitVec 32 := 2#32
  let v2910 : BitVec 32 := Scalar.subi arg26 c2_i32_1163
  let c2_i32_1164 : BitVec 32 := 2#32
  let v2911 : BitVec 32 := Scalar.remsi v2910 c2_i32_1164
  let c0_i32_1168 : BitVec 32 := 0#32
  let c0_i32_1169 : BitVec 32 := 0#32
  ![v2911.toNat, 0, 0]
def k0_off155 (arg26 : BitVec 32) : Fin 2 → Nat :=
  let c1_i32_1170 : BitVec 32 := 1#32
  let c2_i32_1163 : BitVec 32 := 2#32
  let v2910 : BitVec 32 := Scalar.subi arg26 c2_i32_1163
  let c2_i32_1164 : BitVec 32 := 2#32
  let v2911 : BitVec 32 := Scalar.remsi v2910 c2_i32_1164
  ![1, v2911.toNat]
def k0_off156 (arg26 : BitVec 32) : Fin 2 → Nat :=
  let c2_i32_1163 : BitVec 32 := 2#32
  let v2910 : BitVec 32 := Scalar.subi arg26 c2_i32_1163
  let c256_i32_1165 : BitVec 32 := 256#32
  let v2912 : BitVec 32 := Scalar.muli v2910 c256_i32_1165
  let v2913 : BitVec 32 := v2912
  let c0_i32_1171 : BitVec 32 := 0#32
  ![v2913.toNat, 0]
def k0_off157 (arg26 : BitVec 32) : Fin 3 → Nat :=
  let c2_i32_1163 : BitVec 32 := 2#32
  let v2910 : BitVec 32 := Scalar.subi arg26 c2_i32_1163
  let c2_i32_1164 : BitVec 32 := 2#32
  let v2911 : BitVec 32 := Scalar.remsi v2910 c2_i32_1164
  let c0_i32_1172 : BitVec 32 := 0#32
  let c0_i32_1173 : BitVec 32 := 0#32
  ![v2911.toNat, 0, 0]
def k0_mult35 (arg22 : BitVec 32) (v96 : BitVec 32) (k0_t3 : Fin (k0_t3_loop arg22 v96).trips) : BitVec 32 :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  v159
def k0_off158 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v173 : Index := Scalar.indexCast v160
  let c0_124 : Index := 0#32
  ![v173.toNat, 0]
def k0_off159 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v179 : Index := Scalar.indexCast v160
  let c128 : Index := 128#32
  ![v179.toNat, 128]
def k0_off160 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v185 : Index := Scalar.indexCast v160
  let c256 : Index := 256#32
  ![v185.toNat, 256]
def k0_off161 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v191 : Index := Scalar.indexCast v160
  let c384 : Index := 384#32
  ![v191.toNat, 384]
def k0_off162 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v197 : Index := Scalar.indexCast v160
  let c512 : Index := 512#32
  ![v197.toNat, 512]
def k0_off163 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v203 : Index := Scalar.indexCast v160
  let c640 : Index := 640#32
  ![v203.toNat, 640]
def k0_off164 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v209 : Index := Scalar.indexCast v160
  let c768 : Index := 768#32
  ![v209.toNat, 768]
def k0_off165 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v215 : Index := Scalar.indexCast v160
  let c896 : Index := 896#32
  ![v215.toNat, 896]
def k0_off166 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v221 : Index := Scalar.indexCast v160
  let c1024 : Index := 1024#32
  ![v221.toNat, 1024]
def k0_off167 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v227 : Index := Scalar.indexCast v160
  let c1152 : Index := 1152#32
  ![v227.toNat, 1152]
def k0_off168 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v233 : Index := Scalar.indexCast v160
  let c1280 : Index := 1280#32
  ![v233.toNat, 1280]
def k0_off169 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v239 : Index := Scalar.indexCast v160
  let c0_147 : Index := 0#32
  ![v239.toNat, 0]
def k0_off170 (arg23 : BitVec 32) : Fin 3 → Nat :=
  let c3_i32_85 : BitVec 32 := 3#32
  let v98 : BitVec 32 := Scalar.remsi arg23 c3_i32_85
  let v243 : Index := Scalar.indexCast v98
  let c0_151 : Index := 0#32
  let c0_152 : Index := 0#32
  ![v243.toNat, 0, 0]
def k0_mult36 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  v256
def k0_mult37 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let c0_i32_160 : BitVec 32 := 0#32
  let v258 : BitVec 32 := Scalar.addi v257 c0_i32_160
  v258
def k0_off171 (arg26 : BitVec 32) : Fin 3 → Nat :=
  let c4_i32_156 : BitVec 32 := 4#32
  let v253 : BitVec 32 := Scalar.remsi arg26 c4_i32_156
  let v260 : Index := Scalar.indexCast v253
  let c0_161 : Index := 0#32
  let c0_162 : Index := 0#32
  ![v260.toNat, 0, 0]
def k0_off172 (arg26 : BitVec 32) (c0_i32_174 : BitVec 32) : Fin 2 → Nat :=
  let c2_i32_173 : BitVec 32 := 2#32
  let v296 : BitVec 32 := Scalar.muli c2_i32_173 arg26
  let v297 : BitVec 32 := Scalar.addi v296 c0_i32_174
  let v298 : Index := Scalar.indexCast v297
  let c0_175 : Index := 0#32
  ![v298.toNat, 0]
def k0_off173 (arg26 : BitVec 32) : Fin 3 → Nat :=
  let c2_i32_157 : BitVec 32 := 2#32
  let v254 : BitVec 32 := Scalar.remsi arg26 c2_i32_157
  let v310 : Index := Scalar.indexCast v254
  let c0_178 : Index := 0#32
  let c0_179 : Index := 0#32
  ![v310.toNat, 0, 0]
def k0_off174 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v318 : Index := Scalar.indexCast v259
  let c0_180 : Index := 0#32
  ![v318.toNat, 0]
def k0_off175 (arg26 : BitVec 32) : Fin 3 → Nat :=
  let c4_i32_156 : BitVec 32 := 4#32
  let v253 : BitVec 32 := Scalar.remsi arg26 c4_i32_156
  let v322 : Index := Scalar.indexCast v253
  let c0_181 : Index := 0#32
  let c0_182 : Index := 0#32
  ![v322.toNat, 0, 0]
def k0_off176 (arg26 : BitVec 32) (c0_i32_198 : BitVec 32) : Fin 2 → Nat :=
  let c2_i32_197 : BitVec 32 := 2#32
  let v363 : BitVec 32 := Scalar.muli c2_i32_197 arg26
  let v364 : BitVec 32 := Scalar.addi v363 c0_i32_198
  let v365 : Index := Scalar.indexCast v364
  let c0_199 : Index := 0#32
  ![v365.toNat, 0]
def k0_off177 (arg26 : BitVec 32) : Fin 3 → Nat :=
  let c2_i32_157 : BitVec 32 := 2#32
  let v254 : BitVec 32 := Scalar.remsi arg26 c2_i32_157
  let v377 : Index := Scalar.indexCast v254
  let c0_202 : Index := 0#32
  let c0_203 : Index := 0#32
  ![v377.toNat, 0, 0]
def k0_off178 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v385 : Index := Scalar.indexCast v259
  let c0_204 : Index := 0#32
  ![v385.toNat, 0]
def k0_off179 (arg26 : BitVec 32) : Fin 3 → Nat :=
  let c4_i32_156 : BitVec 32 := 4#32
  let v253 : BitVec 32 := Scalar.remsi arg26 c4_i32_156
  let v389 : Index := Scalar.indexCast v253
  let c0_205 : Index := 0#32
  let c1024_206 : Index := 1024#32
  ![v389.toNat, 0, 1024]
def k0_off180 (arg26 : BitVec 32) (c0_i32_222 : BitVec 32) : Fin 2 → Nat :=
  let c2_i32_221 : BitVec 32 := 2#32
  let v430 : BitVec 32 := Scalar.muli c2_i32_221 arg26
  let v431 : BitVec 32 := Scalar.addi v430 c0_i32_222
  let v432 : Index := Scalar.indexCast v431
  let c8 : Index := 8#32
  ![v432.toNat, 8]
def k0_off181 (arg26 : BitVec 32) : Fin 3 → Nat :=
  let c2_i32_157 : BitVec 32 := 2#32
  let v254 : BitVec 32 := Scalar.remsi arg26 c2_i32_157
  let v444 : Index := Scalar.indexCast v254
  let c0_225 : Index := 0#32
  let c1024_226 : Index := 1024#32
  ![v444.toNat, 0, 1024]
def k0_off182 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v452 : Index := Scalar.indexCast v259
  let c1024_227 : Index := 1024#32
  ![v452.toNat, 1024]
def k0_mult38 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let c128_i32 : BitVec 32 := 128#32
  let v456 : BitVec 32 := Scalar.addi v257 c128_i32
  v456
def k0_off183 (arg26 : BitVec 32) : Fin 3 → Nat :=
  let c4_i32_156 : BitVec 32 := 4#32
  let v253 : BitVec 32 := Scalar.remsi arg26 c4_i32_156
  let v458 : Index := Scalar.indexCast v253
  let c128_228 : Index := 128#32
  let c0_229 : Index := 0#32
  ![v458.toNat, 128, 0]
def k0_off184 (arg26 : BitVec 32) : Fin 3 → Nat :=
  let c2_i32_157 : BitVec 32 := 2#32
  let v254 : BitVec 32 := Scalar.remsi arg26 c2_i32_157
  let v508 : Index := Scalar.indexCast v254
  let c128_248 : Index := 128#32
  let c0_249 : Index := 0#32
  ![v508.toNat, 128, 0]
def k0_off185 (arg26 : BitVec 32) : Fin 3 → Nat :=
  let c4_i32_156 : BitVec 32 := 4#32
  let v253 : BitVec 32 := Scalar.remsi arg26 c4_i32_156
  let v520 : Index := Scalar.indexCast v253
  let c128_251 : Index := 128#32
  let c0_252 : Index := 0#32
  ![v520.toNat, 128, 0]
def k0_off186 (arg26 : BitVec 32) : Fin 3 → Nat :=
  let c2_i32_157 : BitVec 32 := 2#32
  let v254 : BitVec 32 := Scalar.remsi arg26 c2_i32_157
  let v575 : Index := Scalar.indexCast v254
  let c128_272 : Index := 128#32
  let c0_273 : Index := 0#32
  ![v575.toNat, 128, 0]
def k0_off187 (arg26 : BitVec 32) : Fin 3 → Nat :=
  let c4_i32_156 : BitVec 32 := 4#32
  let v253 : BitVec 32 := Scalar.remsi arg26 c4_i32_156
  let v587 : Index := Scalar.indexCast v253
  let c128_275 : Index := 128#32
  let c1024_276 : Index := 1024#32
  ![v587.toNat, 128, 1024]
def k0_off188 (arg26 : BitVec 32) : Fin 3 → Nat :=
  let c2_i32_157 : BitVec 32 := 2#32
  let v254 : BitVec 32 := Scalar.remsi arg26 c2_i32_157
  let v642 : Index := Scalar.indexCast v254
  let c128_296 : Index := 128#32
  let c1024_297 : Index := 1024#32
  ![v642.toNat, 128, 1024]
def k0_off189 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v654 : Index := Scalar.indexCast v160
  let c256_299 : Index := 256#32
  ![v654.toNat, 256]
def k0_off190 (arg23 : BitVec 32) : Fin 3 → Nat :=
  let c3_i32_85 : BitVec 32 := 3#32
  let v98 : BitVec 32 := Scalar.remsi arg23 c3_i32_85
  let v658 : Index := Scalar.indexCast v98
  let c256_303 : Index := 256#32
  let c0_304 : Index := 0#32
  ![v658.toNat, 256, 0]
def k0_mult39 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  v671
def k0_mult40 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let c0_i32_312 : BitVec 32 := 0#32
  let v673 : BitVec 32 := Scalar.addi v672 c0_i32_312
  v673
def k0_off191 (arg26 : BitVec 32) : Fin 3 → Nat :=
  let c4_i32_308 : BitVec 32 := 4#32
  let v668 : BitVec 32 := Scalar.remsi arg26 c4_i32_308
  let v675 : Index := Scalar.indexCast v668
  let c0_313 : Index := 0#32
  let c256_314 : Index := 256#32
  ![v675.toNat, 0, 256]
def k0_off192 (arg26 : BitVec 32) (c0_i32_329 : BitVec 32) : Fin 2 → Nat :=
  let c2_i32_328 : BitVec 32 := 2#32
  let v711 : BitVec 32 := Scalar.muli c2_i32_328 arg26
  let v712 : BitVec 32 := Scalar.addi v711 c0_i32_329
  let v713 : Index := Scalar.indexCast v712
  let c256_330 : Index := 256#32
  ![v713.toNat, 256]
def k0_off193 (arg26 : BitVec 32) : Fin 3 → Nat :=
  let c2_i32_309 : BitVec 32 := 2#32
  let v669 : BitVec 32 := Scalar.remsi arg26 c2_i32_309
  let v725 : Index := Scalar.indexCast v669
  let c0_333 : Index := 0#32
  let c256_334 : Index := 256#32
  ![v725.toNat, 0, 256]
def k0_off194 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v733 : Index := Scalar.indexCast v674
  let c256_335 : Index := 256#32
  ![v733.toNat, 256]
def k0_off195 (arg26 : BitVec 32) : Fin 3 → Nat :=
  let c4_i32_308 : BitVec 32 := 4#32
  let v668 : BitVec 32 := Scalar.remsi arg26 c4_i32_308
  let v737 : Index := Scalar.indexCast v668
  let c0_336 : Index := 0#32
  let c128_337 : Index := 128#32
  ![v737.toNat, 0, 128]
def k0_off196 (arg26 : BitVec 32) (c0_i32_353 : BitVec 32) : Fin 2 → Nat :=
  let c2_i32_352 : BitVec 32 := 2#32
  let v778 : BitVec 32 := Scalar.muli c2_i32_352 arg26
  let v779 : BitVec 32 := Scalar.addi v778 c0_i32_353
  let v780 : Index := Scalar.indexCast v779
  let c1 : Index := 1#32
  ![v780.toNat, 1]
def k0_off197 (arg26 : BitVec 32) : Fin 3 → Nat :=
  let c2_i32_309 : BitVec 32 := 2#32
  let v669 : BitVec 32 := Scalar.remsi arg26 c2_i32_309
  let v792 : Index := Scalar.indexCast v669
  let c0_356 : Index := 0#32
  let c128_357 : Index := 128#32
  ![v792.toNat, 0, 128]
def k0_off198 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v800 : Index := Scalar.indexCast v674
  let c128_358 : Index := 128#32
  ![v800.toNat, 128]
def k0_off199 (arg26 : BitVec 32) : Fin 3 → Nat :=
  let c4_i32_308 : BitVec 32 := 4#32
  let v668 : BitVec 32 := Scalar.remsi arg26 c4_i32_308
  let v804 : Index := Scalar.indexCast v668
  let c0_359 : Index := 0#32
  let c1152_360 : Index := 1152#32
  ![v804.toNat, 0, 1152]
def k0_off200 (arg26 : BitVec 32) (c0_i32_376 : BitVec 32) : Fin 2 → Nat :=
  let c2_i32_375 : BitVec 32 := 2#32
  let v845 : BitVec 32 := Scalar.muli c2_i32_375 arg26
  let v846 : BitVec 32 := Scalar.addi v845 c0_i32_376
  let v847 : Index := Scalar.indexCast v846
  let c9 : Index := 9#32
  ![v847.toNat, 9]
def k0_off201 (arg26 : BitVec 32) : Fin 3 → Nat :=
  let c2_i32_309 : BitVec 32 := 2#32
  let v669 : BitVec 32 := Scalar.remsi arg26 c2_i32_309
  let v859 : Index := Scalar.indexCast v669
  let c0_379 : Index := 0#32
  let c1152_380 : Index := 1152#32
  ![v859.toNat, 0, 1152]
def k0_off202 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v867 : Index := Scalar.indexCast v674
  let c1152_381 : Index := 1152#32
  ![v867.toNat, 1152]
def k0_mult41 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let c128_i32_382 : BitVec 32 := 128#32
  let v871 : BitVec 32 := Scalar.addi v672 c128_i32_382
  v871
def k0_off203 (arg26 : BitVec 32) : Fin 3 → Nat :=
  let c4_i32_308 : BitVec 32 := 4#32
  let v668 : BitVec 32 := Scalar.remsi arg26 c4_i32_308
  let v873 : Index := Scalar.indexCast v668
  let c128_383 : Index := 128#32
  let c256_384 : Index := 256#32
  ![v873.toNat, 128, 256]
def k0_off204 (arg26 : BitVec 32) : Fin 3 → Nat :=
  let c2_i32_309 : BitVec 32 := 2#32
  let v669 : BitVec 32 := Scalar.remsi arg26 c2_i32_309
  let v923 : Index := Scalar.indexCast v669
  let c128_403 : Index := 128#32
  let c256_404 : Index := 256#32
  ![v923.toNat, 128, 256]
def k0_off205 (arg26 : BitVec 32) : Fin 3 → Nat :=
  let c4_i32_308 : BitVec 32 := 4#32
  let v668 : BitVec 32 := Scalar.remsi arg26 c4_i32_308
  let v935 : Index := Scalar.indexCast v668
  let c128_406 : Index := 128#32
  let c128_407 : Index := 128#32
  ![v935.toNat, 128, 128]
def k0_off206 (arg26 : BitVec 32) : Fin 3 → Nat :=
  let c2_i32_309 : BitVec 32 := 2#32
  let v669 : BitVec 32 := Scalar.remsi arg26 c2_i32_309
  let v990 : Index := Scalar.indexCast v669
  let c128_427 : Index := 128#32
  let c128_428 : Index := 128#32
  ![v990.toNat, 128, 128]
def k0_off207 (arg26 : BitVec 32) : Fin 3 → Nat :=
  let c4_i32_308 : BitVec 32 := 4#32
  let v668 : BitVec 32 := Scalar.remsi arg26 c4_i32_308
  let v1002 : Index := Scalar.indexCast v668
  let c128_430 : Index := 128#32
  let c1152_431 : Index := 1152#32
  ![v1002.toNat, 128, 1152]
def k0_off208 (arg26 : BitVec 32) : Fin 3 → Nat :=
  let c2_i32_309 : BitVec 32 := 2#32
  let v669 : BitVec 32 := Scalar.remsi arg26 c2_i32_309
  let v1057 : Index := Scalar.indexCast v669
  let c128_451 : Index := 128#32
  let c1152_452 : Index := 1152#32
  ![v1057.toNat, 128, 1152]
def k0_off209 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1069 : Index := Scalar.indexCast v160
  let c512_454 : Index := 512#32
  ![v1069.toNat, 512]
def k0_off210 (arg23 : BitVec 32) : Fin 3 → Nat :=
  let c3_i32_85 : BitVec 32 := 3#32
  let v98 : BitVec 32 := Scalar.remsi arg23 c3_i32_85
  let v1073 : Index := Scalar.indexCast v98
  let c512_458 : Index := 512#32
  let c0_459 : Index := 0#32
  ![v1073.toNat, 512, 0]
def k0_mult42 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  v1086
def k0_mult43 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let c0_i32_467 : BitVec 32 := 0#32
  let v1088 : BitVec 32 := Scalar.addi v1087 c0_i32_467
  v1088
def k0_off211 (arg26 : BitVec 32) : Fin 3 → Nat :=
  let c4_i32_463 : BitVec 32 := 4#32
  let v1083 : BitVec 32 := Scalar.remsi arg26 c4_i32_463
  let v1090 : Index := Scalar.indexCast v1083
  let c0_468 : Index := 0#32
  let c512_469 : Index := 512#32
  ![v1090.toNat, 0, 512]
def k0_off212 (arg26 : BitVec 32) (c0_i32_484 : BitVec 32) : Fin 2 → Nat :=
  let c2_i32_483 : BitVec 32 := 2#32
  let v1126 : BitVec 32 := Scalar.muli c2_i32_483 arg26
  let v1127 : BitVec 32 := Scalar.addi v1126 c0_i32_484
  let v1128 : Index := Scalar.indexCast v1127
  let c512_485 : Index := 512#32
  ![v1128.toNat, 512]
def k0_off213 (arg26 : BitVec 32) : Fin 3 → Nat :=
  let c2_i32_464 : BitVec 32 := 2#32
  let v1084 : BitVec 32 := Scalar.remsi arg26 c2_i32_464
  let v1140 : Index := Scalar.indexCast v1084
  let c0_488 : Index := 0#32
  let c512_489 : Index := 512#32
  ![v1140.toNat, 0, 512]
def k0_off214 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1148 : Index := Scalar.indexCast v1089
  let c512_490 : Index := 512#32
  ![v1148.toNat, 512]
def k0_off215 (arg26 : BitVec 32) : Fin 3 → Nat :=
  let c4_i32_463 : BitVec 32 := 4#32
  let v1083 : BitVec 32 := Scalar.remsi arg26 c4_i32_463
  let v1152 : Index := Scalar.indexCast v1083
  let c0_491 : Index := 0#32
  let c256_492 : Index := 256#32
  ![v1152.toNat, 0, 256]
def k0_off216 (arg26 : BitVec 32) (c0_i32_508 : BitVec 32) : Fin 2 → Nat :=
  let c2_i32_507 : BitVec 32 := 2#32
  let v1193 : BitVec 32 := Scalar.muli c2_i32_507 arg26
  let v1194 : BitVec 32 := Scalar.addi v1193 c0_i32_508
  let v1195 : Index := Scalar.indexCast v1194
  let c2 : Index := 2#32
  ![v1195.toNat, 2]
def k0_off217 (arg26 : BitVec 32) : Fin 3 → Nat :=
  let c2_i32_464 : BitVec 32 := 2#32
  let v1084 : BitVec 32 := Scalar.remsi arg26 c2_i32_464
  let v1207 : Index := Scalar.indexCast v1084
  let c0_511 : Index := 0#32
  let c256_512 : Index := 256#32
  ![v1207.toNat, 0, 256]
def k0_off218 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1215 : Index := Scalar.indexCast v1089
  let c256_513 : Index := 256#32
  ![v1215.toNat, 256]
def k0_off219 (arg26 : BitVec 32) : Fin 3 → Nat :=
  let c4_i32_463 : BitVec 32 := 4#32
  let v1083 : BitVec 32 := Scalar.remsi arg26 c4_i32_463
  let v1219 : Index := Scalar.indexCast v1083
  let c0_514 : Index := 0#32
  let c1280_515 : Index := 1280#32
  ![v1219.toNat, 0, 1280]
def k0_off220 (arg26 : BitVec 32) (c0_i32_531 : BitVec 32) : Fin 2 → Nat :=
  let c2_i32_530 : BitVec 32 := 2#32
  let v1260 : BitVec 32 := Scalar.muli c2_i32_530 arg26
  let v1261 : BitVec 32 := Scalar.addi v1260 c0_i32_531
  let v1262 : Index := Scalar.indexCast v1261
  let c10 : Index := 10#32
  ![v1262.toNat, 10]
def k0_off221 (arg26 : BitVec 32) : Fin 3 → Nat :=
  let c2_i32_464 : BitVec 32 := 2#32
  let v1084 : BitVec 32 := Scalar.remsi arg26 c2_i32_464
  let v1274 : Index := Scalar.indexCast v1084
  let c0_534 : Index := 0#32
  let c1280_535 : Index := 1280#32
  ![v1274.toNat, 0, 1280]
def k0_off222 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1282 : Index := Scalar.indexCast v1089
  let c1280_536 : Index := 1280#32
  ![v1282.toNat, 1280]
def k0_mult44 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let c128_i32_537 : BitVec 32 := 128#32
  let v1286 : BitVec 32 := Scalar.addi v1087 c128_i32_537
  v1286
def k0_off223 (arg26 : BitVec 32) : Fin 3 → Nat :=
  let c4_i32_463 : BitVec 32 := 4#32
  let v1083 : BitVec 32 := Scalar.remsi arg26 c4_i32_463
  let v1288 : Index := Scalar.indexCast v1083
  let c128_538 : Index := 128#32
  let c512_539 : Index := 512#32
  ![v1288.toNat, 128, 512]
def k0_off224 (arg26 : BitVec 32) : Fin 3 → Nat :=
  let c2_i32_464 : BitVec 32 := 2#32
  let v1084 : BitVec 32 := Scalar.remsi arg26 c2_i32_464
  let v1338 : Index := Scalar.indexCast v1084
  let c128_558 : Index := 128#32
  let c512_559 : Index := 512#32
  ![v1338.toNat, 128, 512]
def k0_off225 (arg26 : BitVec 32) : Fin 3 → Nat :=
  let c4_i32_463 : BitVec 32 := 4#32
  let v1083 : BitVec 32 := Scalar.remsi arg26 c4_i32_463
  let v1350 : Index := Scalar.indexCast v1083
  let c128_561 : Index := 128#32
  let c256_562 : Index := 256#32
  ![v1350.toNat, 128, 256]
def k0_off226 (arg26 : BitVec 32) : Fin 3 → Nat :=
  let c2_i32_464 : BitVec 32 := 2#32
  let v1084 : BitVec 32 := Scalar.remsi arg26 c2_i32_464
  let v1405 : Index := Scalar.indexCast v1084
  let c128_582 : Index := 128#32
  let c256_583 : Index := 256#32
  ![v1405.toNat, 128, 256]
def k0_off227 (arg26 : BitVec 32) : Fin 3 → Nat :=
  let c4_i32_463 : BitVec 32 := 4#32
  let v1083 : BitVec 32 := Scalar.remsi arg26 c4_i32_463
  let v1417 : Index := Scalar.indexCast v1083
  let c128_585 : Index := 128#32
  let c1280_586 : Index := 1280#32
  ![v1417.toNat, 128, 1280]
def k0_off228 (arg26 : BitVec 32) : Fin 3 → Nat :=
  let c2_i32_464 : BitVec 32 := 2#32
  let v1084 : BitVec 32 := Scalar.remsi arg26 c2_i32_464
  let v1472 : Index := Scalar.indexCast v1084
  let c128_606 : Index := 128#32
  let c1280_607 : Index := 1280#32
  ![v1472.toNat, 128, 1280]
def k0_off229 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1484 : Index := Scalar.indexCast v160
  let c768_609 : Index := 768#32
  ![v1484.toNat, 768]
def k0_off230 (arg23 : BitVec 32) : Fin 3 → Nat :=
  let c3_i32_85 : BitVec 32 := 3#32
  let v98 : BitVec 32 := Scalar.remsi arg23 c3_i32_85
  let v1488 : Index := Scalar.indexCast v98
  let c768_613 : Index := 768#32
  let c0_614 : Index := 0#32
  ![v1488.toNat, 768, 0]
def k0_mult45 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  v1501
def k0_mult46 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let c0_i32_622 : BitVec 32 := 0#32
  let v1503 : BitVec 32 := Scalar.addi v1502 c0_i32_622
  v1503
def k0_off231 (arg26 : BitVec 32) : Fin 3 → Nat :=
  let c4_i32_618 : BitVec 32 := 4#32
  let v1498 : BitVec 32 := Scalar.remsi arg26 c4_i32_618
  let v1505 : Index := Scalar.indexCast v1498
  let c0_623 : Index := 0#32
  let c768_624 : Index := 768#32
  ![v1505.toNat, 0, 768]
def k0_off232 (arg26 : BitVec 32) (c0_i32_639 : BitVec 32) : Fin 2 → Nat :=
  let c2_i32_638 : BitVec 32 := 2#32
  let v1541 : BitVec 32 := Scalar.muli c2_i32_638 arg26
  let v1542 : BitVec 32 := Scalar.addi v1541 c0_i32_639
  let v1543 : Index := Scalar.indexCast v1542
  let c768_640 : Index := 768#32
  ![v1543.toNat, 768]
def k0_off233 (arg26 : BitVec 32) : Fin 3 → Nat :=
  let c2_i32_619 : BitVec 32 := 2#32
  let v1499 : BitVec 32 := Scalar.remsi arg26 c2_i32_619
  let v1555 : Index := Scalar.indexCast v1499
  let c0_643 : Index := 0#32
  let c768_644 : Index := 768#32
  ![v1555.toNat, 0, 768]
def k0_off234 (arg26 : BitVec 32) (c0_i32_622 : BitVec 32) : Fin 2 → Nat :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let v1503 : BitVec 32 := Scalar.addi v1502 c0_i32_622
  let v1504 : BitVec 32 := v1503
  let v1563 : Index := Scalar.indexCast v1504
  let c768_645 : Index := 768#32
  ![v1563.toNat, 768]
def k0_off235 (arg26 : BitVec 32) : Fin 3 → Nat :=
  let c4_i32_618 : BitVec 32 := 4#32
  let v1498 : BitVec 32 := Scalar.remsi arg26 c4_i32_618
  let v1567 : Index := Scalar.indexCast v1498
  let c0_646 : Index := 0#32
  let c384_647 : Index := 384#32
  ![v1567.toNat, 0, 384]
def k0_off236 (arg26 : BitVec 32) (c0_i32_663 : BitVec 32) : Fin 2 → Nat :=
  let c2_i32_662 : BitVec 32 := 2#32
  let v1608 : BitVec 32 := Scalar.muli c2_i32_662 arg26
  let v1609 : BitVec 32 := Scalar.addi v1608 c0_i32_663
  let v1610 : Index := Scalar.indexCast v1609
  let c3 : Index := 3#32
  ![v1610.toNat, 3]
def k0_off237 (arg26 : BitVec 32) : Fin 3 → Nat :=
  let c2_i32_619 : BitVec 32 := 2#32
  let v1499 : BitVec 32 := Scalar.remsi arg26 c2_i32_619
  let v1622 : Index := Scalar.indexCast v1499
  let c0_666 : Index := 0#32
  let c384_667 : Index := 384#32
  ![v1622.toNat, 0, 384]
def k0_off238 (arg26 : BitVec 32) (c0_i32_622 : BitVec 32) : Fin 2 → Nat :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let v1503 : BitVec 32 := Scalar.addi v1502 c0_i32_622
  let v1504 : BitVec 32 := v1503
  let v1630 : Index := Scalar.indexCast v1504
  let c384_668 : Index := 384#32
  ![v1630.toNat, 384]
def k0_mult47 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let c128_i32_669 : BitVec 32 := 128#32
  let v1634 : BitVec 32 := Scalar.addi v1502 c128_i32_669
  v1634
def k0_off239 (arg26 : BitVec 32) : Fin 3 → Nat :=
  let c4_i32_618 : BitVec 32 := 4#32
  let v1498 : BitVec 32 := Scalar.remsi arg26 c4_i32_618
  let v1636 : Index := Scalar.indexCast v1498
  let c128_670 : Index := 128#32
  let c768_671 : Index := 768#32
  ![v1636.toNat, 128, 768]
def k0_off240 (arg26 : BitVec 32) : Fin 3 → Nat :=
  let c2_i32_619 : BitVec 32 := 2#32
  let v1499 : BitVec 32 := Scalar.remsi arg26 c2_i32_619
  let v1686 : Index := Scalar.indexCast v1499
  let c128_690 : Index := 128#32
  let c768_691 : Index := 768#32
  ![v1686.toNat, 128, 768]
def k0_off241 (arg26 : BitVec 32) : Fin 3 → Nat :=
  let c4_i32_618 : BitVec 32 := 4#32
  let v1498 : BitVec 32 := Scalar.remsi arg26 c4_i32_618
  let v1698 : Index := Scalar.indexCast v1498
  let c128_693 : Index := 128#32
  let c384_694 : Index := 384#32
  ![v1698.toNat, 128, 384]
def k0_off242 (arg26 : BitVec 32) : Fin 3 → Nat :=
  let c2_i32_619 : BitVec 32 := 2#32
  let v1499 : BitVec 32 := Scalar.remsi arg26 c2_i32_619
  let v1753 : Index := Scalar.indexCast v1499
  let c128_714 : Index := 128#32
  let c384_715 : Index := 384#32
  ![v1753.toNat, 128, 384]
def k0_off243 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1765 : Index := Scalar.indexCast v160
  let c1024_717 : Index := 1024#32
  ![v1765.toNat, 1024]
def k0_off244 (arg23 : BitVec 32) : Fin 3 → Nat :=
  let c3_i32_85 : BitVec 32 := 3#32
  let v98 : BitVec 32 := Scalar.remsi arg23 c3_i32_85
  let v1769 : Index := Scalar.indexCast v98
  let c1024_721 : Index := 1024#32
  let c0_722 : Index := 0#32
  ![v1769.toNat, 1024, 0]
def k0_mult48 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  v1782
def k0_mult49 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let c0_i32_730 : BitVec 32 := 0#32
  let v1784 : BitVec 32 := Scalar.addi v1783 c0_i32_730
  v1784
def k0_off245 (arg26 : BitVec 32) : Fin 3 → Nat :=
  let c4_i32_726 : BitVec 32 := 4#32
  let v1779 : BitVec 32 := Scalar.remsi arg26 c4_i32_726
  let v1786 : Index := Scalar.indexCast v1779
  let c0_731 : Index := 0#32
  let c1024_732 : Index := 1024#32
  ![v1786.toNat, 0, 1024]
def k0_off246 (arg26 : BitVec 32) (c0_i32_747 : BitVec 32) : Fin 2 → Nat :=
  let c2_i32_746 : BitVec 32 := 2#32
  let v1822 : BitVec 32 := Scalar.muli c2_i32_746 arg26
  let v1823 : BitVec 32 := Scalar.addi v1822 c0_i32_747
  let v1824 : Index := Scalar.indexCast v1823
  let c1024_748 : Index := 1024#32
  ![v1824.toNat, 1024]
def k0_off247 (arg26 : BitVec 32) : Fin 3 → Nat :=
  let c2_i32_727 : BitVec 32 := 2#32
  let v1780 : BitVec 32 := Scalar.remsi arg26 c2_i32_727
  let v1836 : Index := Scalar.indexCast v1780
  let c0_751 : Index := 0#32
  let c1024_752 : Index := 1024#32
  ![v1836.toNat, 0, 1024]
def k0_off248 (arg26 : BitVec 32) (c0_i32_730 : BitVec 32) : Fin 2 → Nat :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let v1784 : BitVec 32 := Scalar.addi v1783 c0_i32_730
  let v1785 : BitVec 32 := v1784
  let v1844 : Index := Scalar.indexCast v1785
  let c1024_753 : Index := 1024#32
  ![v1844.toNat, 1024]
def k0_off249 (arg26 : BitVec 32) : Fin 3 → Nat :=
  let c4_i32_726 : BitVec 32 := 4#32
  let v1779 : BitVec 32 := Scalar.remsi arg26 c4_i32_726
  let v1848 : Index := Scalar.indexCast v1779
  let c0_754 : Index := 0#32
  let c512_755 : Index := 512#32
  ![v1848.toNat, 0, 512]
def k0_off250 (arg26 : BitVec 32) (c0_i32_771 : BitVec 32) : Fin 2 → Nat :=
  let c2_i32_770 : BitVec 32 := 2#32
  let v1889 : BitVec 32 := Scalar.muli c2_i32_770 arg26
  let v1890 : BitVec 32 := Scalar.addi v1889 c0_i32_771
  let v1891 : Index := Scalar.indexCast v1890
  let c4 : Index := 4#32
  ![v1891.toNat, 4]
def k0_off251 (arg26 : BitVec 32) : Fin 3 → Nat :=
  let c2_i32_727 : BitVec 32 := 2#32
  let v1780 : BitVec 32 := Scalar.remsi arg26 c2_i32_727
  let v1903 : Index := Scalar.indexCast v1780
  let c0_774 : Index := 0#32
  let c512_775 : Index := 512#32
  ![v1903.toNat, 0, 512]
def k0_off252 (arg26 : BitVec 32) (c0_i32_730 : BitVec 32) : Fin 2 → Nat :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let v1784 : BitVec 32 := Scalar.addi v1783 c0_i32_730
  let v1785 : BitVec 32 := v1784
  let v1911 : Index := Scalar.indexCast v1785
  let c512_776 : Index := 512#32
  ![v1911.toNat, 512]
def k0_mult50 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let c128_i32_777 : BitVec 32 := 128#32
  let v1915 : BitVec 32 := Scalar.addi v1783 c128_i32_777
  v1915
def k0_off253 (arg26 : BitVec 32) : Fin 3 → Nat :=
  let c4_i32_726 : BitVec 32 := 4#32
  let v1779 : BitVec 32 := Scalar.remsi arg26 c4_i32_726
  let v1917 : Index := Scalar.indexCast v1779
  let c128_778 : Index := 128#32
  let c1024_779 : Index := 1024#32
  ![v1917.toNat, 128, 1024]
def k0_off254 (arg26 : BitVec 32) : Fin 3 → Nat :=
  let c2_i32_727 : BitVec 32 := 2#32
  let v1780 : BitVec 32 := Scalar.remsi arg26 c2_i32_727
  let v1967 : Index := Scalar.indexCast v1780
  let c128_798 : Index := 128#32
  let c1024_799 : Index := 1024#32
  ![v1967.toNat, 128, 1024]
def k0_off255 (arg26 : BitVec 32) : Fin 3 → Nat :=
  let c4_i32_726 : BitVec 32 := 4#32
  let v1779 : BitVec 32 := Scalar.remsi arg26 c4_i32_726
  let v1979 : Index := Scalar.indexCast v1779
  let c128_801 : Index := 128#32
  let c512_802 : Index := 512#32
  ![v1979.toNat, 128, 512]
def k0_off256 (arg26 : BitVec 32) : Fin 3 → Nat :=
  let c2_i32_727 : BitVec 32 := 2#32
  let v1780 : BitVec 32 := Scalar.remsi arg26 c2_i32_727
  let v2034 : Index := Scalar.indexCast v1780
  let c128_822 : Index := 128#32
  let c512_823 : Index := 512#32
  ![v2034.toNat, 128, 512]
def k0_off257 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2046 : Index := Scalar.indexCast v160
  let c1280_825 : Index := 1280#32
  ![v2046.toNat, 1280]
def k0_off258 (arg23 : BitVec 32) : Fin 3 → Nat :=
  let c3_i32_85 : BitVec 32 := 3#32
  let v98 : BitVec 32 := Scalar.remsi arg23 c3_i32_85
  let v2050 : Index := Scalar.indexCast v98
  let c1280_829 : Index := 1280#32
  let c0_830 : Index := 0#32
  ![v2050.toNat, 1280, 0]
def k0_mult51 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  v2063
def k0_mult52 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let c0_i32_838 : BitVec 32 := 0#32
  let v2065 : BitVec 32 := Scalar.addi v2064 c0_i32_838
  v2065
def k0_off259 (arg26 : BitVec 32) : Fin 3 → Nat :=
  let c4_i32_834 : BitVec 32 := 4#32
  let v2060 : BitVec 32 := Scalar.remsi arg26 c4_i32_834
  let v2067 : Index := Scalar.indexCast v2060
  let c0_839 : Index := 0#32
  let c1280_840 : Index := 1280#32
  ![v2067.toNat, 0, 1280]
def k0_off260 (arg26 : BitVec 32) (c0_i32_855 : BitVec 32) : Fin 2 → Nat :=
  let c2_i32_854 : BitVec 32 := 2#32
  let v2103 : BitVec 32 := Scalar.muli c2_i32_854 arg26
  let v2104 : BitVec 32 := Scalar.addi v2103 c0_i32_855
  let v2105 : Index := Scalar.indexCast v2104
  let c1280_856 : Index := 1280#32
  ![v2105.toNat, 1280]
def k0_off261 (arg26 : BitVec 32) : Fin 3 → Nat :=
  let c2_i32_835 : BitVec 32 := 2#32
  let v2061 : BitVec 32 := Scalar.remsi arg26 c2_i32_835
  let v2117 : Index := Scalar.indexCast v2061
  let c0_859 : Index := 0#32
  let c1280_860 : Index := 1280#32
  ![v2117.toNat, 0, 1280]
def k0_off262 (arg26 : BitVec 32) (c0_i32_838 : BitVec 32) : Fin 2 → Nat :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let v2065 : BitVec 32 := Scalar.addi v2064 c0_i32_838
  let v2066 : BitVec 32 := v2065
  let v2125 : Index := Scalar.indexCast v2066
  let c1280_861 : Index := 1280#32
  ![v2125.toNat, 1280]
def k0_off263 (arg26 : BitVec 32) : Fin 3 → Nat :=
  let c4_i32_834 : BitVec 32 := 4#32
  let v2060 : BitVec 32 := Scalar.remsi arg26 c4_i32_834
  let v2129 : Index := Scalar.indexCast v2060
  let c0_862 : Index := 0#32
  let c640_863 : Index := 640#32
  ![v2129.toNat, 0, 640]
def k0_off264 (arg26 : BitVec 32) (c0_i32_879 : BitVec 32) : Fin 2 → Nat :=
  let c2_i32_878 : BitVec 32 := 2#32
  let v2170 : BitVec 32 := Scalar.muli c2_i32_878 arg26
  let v2171 : BitVec 32 := Scalar.addi v2170 c0_i32_879
  let v2172 : Index := Scalar.indexCast v2171
  let c5 : Index := 5#32
  ![v2172.toNat, 5]
def k0_off265 (arg26 : BitVec 32) : Fin 3 → Nat :=
  let c2_i32_835 : BitVec 32 := 2#32
  let v2061 : BitVec 32 := Scalar.remsi arg26 c2_i32_835
  let v2184 : Index := Scalar.indexCast v2061
  let c0_882 : Index := 0#32
  let c640_883 : Index := 640#32
  ![v2184.toNat, 0, 640]
def k0_off266 (arg26 : BitVec 32) (c0_i32_838 : BitVec 32) : Fin 2 → Nat :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let v2065 : BitVec 32 := Scalar.addi v2064 c0_i32_838
  let v2066 : BitVec 32 := v2065
  let v2192 : Index := Scalar.indexCast v2066
  let c640_884 : Index := 640#32
  ![v2192.toNat, 640]
def k0_mult53 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let c128_i32_885 : BitVec 32 := 128#32
  let v2196 : BitVec 32 := Scalar.addi v2064 c128_i32_885
  v2196
def k0_off267 (arg26 : BitVec 32) : Fin 3 → Nat :=
  let c4_i32_834 : BitVec 32 := 4#32
  let v2060 : BitVec 32 := Scalar.remsi arg26 c4_i32_834
  let v2198 : Index := Scalar.indexCast v2060
  let c128_886 : Index := 128#32
  let c1280_887 : Index := 1280#32
  ![v2198.toNat, 128, 1280]
def k0_off268 (arg26 : BitVec 32) : Fin 3 → Nat :=
  let c2_i32_835 : BitVec 32 := 2#32
  let v2061 : BitVec 32 := Scalar.remsi arg26 c2_i32_835
  let v2248 : Index := Scalar.indexCast v2061
  let c128_906 : Index := 128#32
  let c1280_907 : Index := 1280#32
  ![v2248.toNat, 128, 1280]
def k0_off269 (arg26 : BitVec 32) : Fin 3 → Nat :=
  let c4_i32_834 : BitVec 32 := 4#32
  let v2060 : BitVec 32 := Scalar.remsi arg26 c4_i32_834
  let v2260 : Index := Scalar.indexCast v2060
  let c128_909 : Index := 128#32
  let c640_910 : Index := 640#32
  ![v2260.toNat, 128, 640]
def k0_off270 (arg26 : BitVec 32) : Fin 3 → Nat :=
  let c2_i32_835 : BitVec 32 := 2#32
  let v2061 : BitVec 32 := Scalar.remsi arg26 c2_i32_835
  let v2315 : Index := Scalar.indexCast v2061
  let c128_930 : Index := 128#32
  let c640_931 : Index := 640#32
  ![v2315.toNat, 128, 640]
def k0_off271 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2327 : Index := Scalar.indexCast v160
  let c1536 : Index := 1536#32
  ![v2327.toNat, 1536]
def k0_off272 (arg23 : BitVec 32) : Fin 3 → Nat :=
  let c3_i32_85 : BitVec 32 := 3#32
  let v98 : BitVec 32 := Scalar.remsi arg23 c3_i32_85
  let v2331 : Index := Scalar.indexCast v98
  let c1536_936 : Index := 1536#32
  let c0_937 : Index := 0#32
  ![v2331.toNat, 1536, 0]
def k0_mult54 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  v2344
def k0_mult55 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let c0_i32_945 : BitVec 32 := 0#32
  let v2346 : BitVec 32 := Scalar.addi v2345 c0_i32_945
  v2346
def k0_off273 (arg26 : BitVec 32) : Fin 3 → Nat :=
  let c4_i32_941 : BitVec 32 := 4#32
  let v2341 : BitVec 32 := Scalar.remsi arg26 c4_i32_941
  let v2348 : Index := Scalar.indexCast v2341
  let c0_946 : Index := 0#32
  let c1536_947 : Index := 1536#32
  ![v2348.toNat, 0, 1536]
def k0_off274 (arg26 : BitVec 32) (c0_i32_962 : BitVec 32) : Fin 2 → Nat :=
  let c2_i32_961 : BitVec 32 := 2#32
  let v2384 : BitVec 32 := Scalar.muli c2_i32_961 arg26
  let v2385 : BitVec 32 := Scalar.addi v2384 c0_i32_962
  let v2386 : Index := Scalar.indexCast v2385
  let c1536_963 : Index := 1536#32
  ![v2386.toNat, 1536]
def k0_off275 (arg26 : BitVec 32) : Fin 3 → Nat :=
  let c2_i32_942 : BitVec 32 := 2#32
  let v2342 : BitVec 32 := Scalar.remsi arg26 c2_i32_942
  let v2398 : Index := Scalar.indexCast v2342
  let c0_966 : Index := 0#32
  let c1536_967 : Index := 1536#32
  ![v2398.toNat, 0, 1536]
def k0_off276 (arg26 : BitVec 32) (c0_i32_945 : BitVec 32) : Fin 2 → Nat :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let v2346 : BitVec 32 := Scalar.addi v2345 c0_i32_945
  let v2347 : BitVec 32 := v2346
  let v2406 : Index := Scalar.indexCast v2347
  let c1536_968 : Index := 1536#32
  ![v2406.toNat, 1536]
def k0_off277 (arg26 : BitVec 32) : Fin 3 → Nat :=
  let c4_i32_941 : BitVec 32 := 4#32
  let v2341 : BitVec 32 := Scalar.remsi arg26 c4_i32_941
  let v2410 : Index := Scalar.indexCast v2341
  let c0_969 : Index := 0#32
  let c768_970 : Index := 768#32
  ![v2410.toNat, 0, 768]
def k0_off278 (arg26 : BitVec 32) (c0_i32_986 : BitVec 32) : Fin 2 → Nat :=
  let c2_i32_985 : BitVec 32 := 2#32
  let v2451 : BitVec 32 := Scalar.muli c2_i32_985 arg26
  let v2452 : BitVec 32 := Scalar.addi v2451 c0_i32_986
  let v2453 : Index := Scalar.indexCast v2452
  let c6 : Index := 6#32
  ![v2453.toNat, 6]
def k0_off279 (arg26 : BitVec 32) : Fin 3 → Nat :=
  let c2_i32_942 : BitVec 32 := 2#32
  let v2342 : BitVec 32 := Scalar.remsi arg26 c2_i32_942
  let v2465 : Index := Scalar.indexCast v2342
  let c0_989 : Index := 0#32
  let c768_990 : Index := 768#32
  ![v2465.toNat, 0, 768]
def k0_off280 (arg26 : BitVec 32) (c0_i32_945 : BitVec 32) : Fin 2 → Nat :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let v2346 : BitVec 32 := Scalar.addi v2345 c0_i32_945
  let v2347 : BitVec 32 := v2346
  let v2473 : Index := Scalar.indexCast v2347
  let c768_991 : Index := 768#32
  ![v2473.toNat, 768]
def k0_mult56 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let c128_i32_992 : BitVec 32 := 128#32
  let v2477 : BitVec 32 := Scalar.addi v2345 c128_i32_992
  v2477
def k0_off281 (arg26 : BitVec 32) : Fin 3 → Nat :=
  let c4_i32_941 : BitVec 32 := 4#32
  let v2341 : BitVec 32 := Scalar.remsi arg26 c4_i32_941
  let v2479 : Index := Scalar.indexCast v2341
  let c128_993 : Index := 128#32
  let c1536_994 : Index := 1536#32
  ![v2479.toNat, 128, 1536]
def k0_off282 (arg26 : BitVec 32) : Fin 3 → Nat :=
  let c2_i32_942 : BitVec 32 := 2#32
  let v2342 : BitVec 32 := Scalar.remsi arg26 c2_i32_942
  let v2529 : Index := Scalar.indexCast v2342
  let c128_1013 : Index := 128#32
  let c1536_1014 : Index := 1536#32
  ![v2529.toNat, 128, 1536]
def k0_off283 (arg26 : BitVec 32) : Fin 3 → Nat :=
  let c4_i32_941 : BitVec 32 := 4#32
  let v2341 : BitVec 32 := Scalar.remsi arg26 c4_i32_941
  let v2541 : Index := Scalar.indexCast v2341
  let c128_1016 : Index := 128#32
  let c768_1017 : Index := 768#32
  ![v2541.toNat, 128, 768]
def k0_off284 (arg26 : BitVec 32) : Fin 3 → Nat :=
  let c2_i32_942 : BitVec 32 := 2#32
  let v2342 : BitVec 32 := Scalar.remsi arg26 c2_i32_942
  let v2596 : Index := Scalar.indexCast v2342
  let c128_1037 : Index := 128#32
  let c768_1038 : Index := 768#32
  ![v2596.toNat, 128, 768]
def k0_off285 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2608 : Index := Scalar.indexCast v160
  let c1792 : Index := 1792#32
  ![v2608.toNat, 1792]
def k0_off286 (arg23 : BitVec 32) : Fin 3 → Nat :=
  let c3_i32_85 : BitVec 32 := 3#32
  let v98 : BitVec 32 := Scalar.remsi arg23 c3_i32_85
  let v2612 : Index := Scalar.indexCast v98
  let c1792_1043 : Index := 1792#32
  let c0_1044 : Index := 0#32
  ![v2612.toNat, 1792, 0]
def k0_mult57 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  v2625
def k0_mult58 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let c0_i32_1052 : BitVec 32 := 0#32
  let v2627 : BitVec 32 := Scalar.addi v2626 c0_i32_1052
  v2627
def k0_off287 (arg26 : BitVec 32) : Fin 3 → Nat :=
  let c4_i32_1048 : BitVec 32 := 4#32
  let v2622 : BitVec 32 := Scalar.remsi arg26 c4_i32_1048
  let v2629 : Index := Scalar.indexCast v2622
  let c0_1053 : Index := 0#32
  let c1792_1054 : Index := 1792#32
  ![v2629.toNat, 0, 1792]
def k0_off288 (arg26 : BitVec 32) (c0_i32_1069 : BitVec 32) : Fin 2 → Nat :=
  let c2_i32_1068 : BitVec 32 := 2#32
  let v2665 : BitVec 32 := Scalar.muli c2_i32_1068 arg26
  let v2666 : BitVec 32 := Scalar.addi v2665 c0_i32_1069
  let v2667 : Index := Scalar.indexCast v2666
  let c1792_1070 : Index := 1792#32
  ![v2667.toNat, 1792]
def k0_off289 (arg26 : BitVec 32) : Fin 3 → Nat :=
  let c2_i32_1049 : BitVec 32 := 2#32
  let v2623 : BitVec 32 := Scalar.remsi arg26 c2_i32_1049
  let v2679 : Index := Scalar.indexCast v2623
  let c0_1073 : Index := 0#32
  let c1792_1074 : Index := 1792#32
  ![v2679.toNat, 0, 1792]
def k0_off290 (arg26 : BitVec 32) (c0_i32_1052 : BitVec 32) : Fin 2 → Nat :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let v2627 : BitVec 32 := Scalar.addi v2626 c0_i32_1052
  let v2628 : BitVec 32 := v2627
  let v2687 : Index := Scalar.indexCast v2628
  let c1792_1075 : Index := 1792#32
  ![v2687.toNat, 1792]
def k0_off291 (arg26 : BitVec 32) : Fin 3 → Nat :=
  let c4_i32_1048 : BitVec 32 := 4#32
  let v2622 : BitVec 32 := Scalar.remsi arg26 c4_i32_1048
  let v2691 : Index := Scalar.indexCast v2622
  let c0_1076 : Index := 0#32
  let c896_1077 : Index := 896#32
  ![v2691.toNat, 0, 896]
def k0_off292 (arg26 : BitVec 32) (c0_i32_1093 : BitVec 32) : Fin 2 → Nat :=
  let c2_i32_1092 : BitVec 32 := 2#32
  let v2732 : BitVec 32 := Scalar.muli c2_i32_1092 arg26
  let v2733 : BitVec 32 := Scalar.addi v2732 c0_i32_1093
  let v2734 : Index := Scalar.indexCast v2733
  let c7 : Index := 7#32
  ![v2734.toNat, 7]
def k0_off293 (arg26 : BitVec 32) : Fin 3 → Nat :=
  let c2_i32_1049 : BitVec 32 := 2#32
  let v2623 : BitVec 32 := Scalar.remsi arg26 c2_i32_1049
  let v2746 : Index := Scalar.indexCast v2623
  let c0_1096 : Index := 0#32
  let c896_1097 : Index := 896#32
  ![v2746.toNat, 0, 896]
def k0_off294 (arg26 : BitVec 32) (c0_i32_1052 : BitVec 32) : Fin 2 → Nat :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let v2627 : BitVec 32 := Scalar.addi v2626 c0_i32_1052
  let v2628 : BitVec 32 := v2627
  let v2754 : Index := Scalar.indexCast v2628
  let c896_1098 : Index := 896#32
  ![v2754.toNat, 896]
def k0_mult59 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let c128_i32_1099 : BitVec 32 := 128#32
  let v2758 : BitVec 32 := Scalar.addi v2626 c128_i32_1099
  v2758
def k0_off295 (arg26 : BitVec 32) : Fin 3 → Nat :=
  let c4_i32_1048 : BitVec 32 := 4#32
  let v2622 : BitVec 32 := Scalar.remsi arg26 c4_i32_1048
  let v2760 : Index := Scalar.indexCast v2622
  let c128_1100 : Index := 128#32
  let c1792_1101 : Index := 1792#32
  ![v2760.toNat, 128, 1792]
def k0_off296 (arg26 : BitVec 32) : Fin 3 → Nat :=
  let c2_i32_1049 : BitVec 32 := 2#32
  let v2623 : BitVec 32 := Scalar.remsi arg26 c2_i32_1049
  let v2810 : Index := Scalar.indexCast v2623
  let c128_1120 : Index := 128#32
  let c1792_1121 : Index := 1792#32
  ![v2810.toNat, 128, 1792]
def k0_off297 (arg26 : BitVec 32) : Fin 3 → Nat :=
  let c4_i32_1048 : BitVec 32 := 4#32
  let v2622 : BitVec 32 := Scalar.remsi arg26 c4_i32_1048
  let v2822 : Index := Scalar.indexCast v2622
  let c128_1123 : Index := 128#32
  let c896_1124 : Index := 896#32
  ![v2822.toNat, 128, 896]
def k0_off298 (arg26 : BitVec 32) : Fin 3 → Nat :=
  let c2_i32_1049 : BitVec 32 := 2#32
  let v2623 : BitVec 32 := Scalar.remsi arg26 c2_i32_1049
  let v2877 : Index := Scalar.indexCast v2623
  let c128_1144 : Index := 128#32
  let c896_1145 : Index := 896#32
  ![v2877.toNat, 128, 896]
def k0_mult60 (arg26 : BitVec 32) : BitVec 32 :=
  let c256_i32_1148 : BitVec 32 := 256#32
  let v2890 : BitVec 32 := Scalar.muli arg26 c256_i32_1148
  v2890
def k0_off299 (arg26 : BitVec 32) : Fin 2 → Nat :=
  let c0_i32_1149 : BitVec 32 := 0#32
  let c2_i32_1147 : BitVec 32 := 2#32
  let v2889 : BitVec 32 := Scalar.remsi arg26 c2_i32_1147
  ![0, v2889.toNat]
def k0_off300 (arg26 : BitVec 32) : Fin 3 → Nat :=
  let c2_i32_1147 : BitVec 32 := 2#32
  let v2889 : BitVec 32 := Scalar.remsi arg26 c2_i32_1147
  let c0_i32_1151 : BitVec 32 := 0#32
  let c0_i32_1152 : BitVec 32 := 0#32
  ![v2889.toNat, 0, 0]
def k0_off301 (arg26 : BitVec 32) : Fin 2 → Nat :=
  let c1_i32_1153 : BitVec 32 := 1#32
  let c2_i32_1147 : BitVec 32 := 2#32
  let v2889 : BitVec 32 := Scalar.remsi arg26 c2_i32_1147
  ![1, v2889.toNat]
def k0_off302 (arg26 : BitVec 32) : Fin 3 → Nat :=
  let c2_i32_1147 : BitVec 32 := 2#32
  let v2889 : BitVec 32 := Scalar.remsi arg26 c2_i32_1147
  let c0_i32_1155 : BitVec 32 := 0#32
  let c0_i32_1156 : BitVec 32 := 0#32
  ![v2889.toNat, 0, 0]
def k0_mult61 (arg26 : BitVec 32) : BitVec 32 :=
  let c4_i32_1163 : BitVec 32 := 4#32
  let v2910 : BitVec 32 := Scalar.addi arg26 c4_i32_1163
  let c256_i32_1165 : BitVec 32 := 256#32
  let v2912 : BitVec 32 := Scalar.muli v2910 c256_i32_1165
  v2912
def k0_cond7 (arg26 : BitVec 32) : BitVec 1 :=
  let c4_i32_1157 : BitVec 32 := 4#32
  let v2902 : BitVec 32 := Scalar.addi arg26 c4_i32_1157
  let c192_i32_1158 : BitVec 32 := 192#32
  let v2903 : BitVec 1 := Scalar.cmpi .slt v2902 c192_i32_1158
  let v2904 : BitVec 32 := Scalar.extui v2903
  let c0_i32_1159 : BitVec 32 := 0#32
  let v2905 : BitVec 1 := Scalar.cmpi .ne v2904 c0_i32_1159
  v2905

def k0_off303 (arg26 : BitVec 32) : Fin 2 → Nat :=
  let c0_i32_1166 : BitVec 32 := 0#32
  let c4_i32_1163 : BitVec 32 := 4#32
  let v2910 : BitVec 32 := Scalar.addi arg26 c4_i32_1163
  let c4_i32_1164 : BitVec 32 := 4#32
  let v2911 : BitVec 32 := Scalar.remsi v2910 c4_i32_1164
  ![0, v2911.toNat]
def k0_off304 (arg26 : BitVec 32) : Fin 3 → Nat :=
  let c4_i32_1163 : BitVec 32 := 4#32
  let v2910 : BitVec 32 := Scalar.addi arg26 c4_i32_1163
  let c4_i32_1164 : BitVec 32 := 4#32
  let v2911 : BitVec 32 := Scalar.remsi v2910 c4_i32_1164
  let c0_i32_1167 : BitVec 32 := 0#32
  let c0_i32_1168 : BitVec 32 := 0#32
  ![v2911.toNat, 0, 0]
def k0_off305 (arg26 : BitVec 32) : Fin 2 → Nat :=
  let c4_i32_1163 : BitVec 32 := 4#32
  let v2910 : BitVec 32 := Scalar.addi arg26 c4_i32_1163
  let c256_i32_1165 : BitVec 32 := 256#32
  let v2912 : BitVec 32 := Scalar.muli v2910 c256_i32_1165
  let v2913 : BitVec 32 := v2912
  let c0_i32_1169 : BitVec 32 := 0#32
  ![v2913.toNat, 0]
def k0_off306 (arg26 : BitVec 32) : Fin 2 → Nat :=
  let c1_i32_1170 : BitVec 32 := 1#32
  let c4_i32_1163 : BitVec 32 := 4#32
  let v2910 : BitVec 32 := Scalar.addi arg26 c4_i32_1163
  let c4_i32_1164 : BitVec 32 := 4#32
  let v2911 : BitVec 32 := Scalar.remsi v2910 c4_i32_1164
  ![1, v2911.toNat]
def k0_off307 (arg26 : BitVec 32) : Fin 3 → Nat :=
  let c4_i32_1163 : BitVec 32 := 4#32
  let v2910 : BitVec 32 := Scalar.addi arg26 c4_i32_1163
  let c4_i32_1164 : BitVec 32 := 4#32
  let v2911 : BitVec 32 := Scalar.remsi v2910 c4_i32_1164
  let c0_i32_1171 : BitVec 32 := 0#32
  let c0_i32_1172 : BitVec 32 := 0#32
  ![v2911.toNat, 0, 0]
def k0_off308 (arg26 : BitVec 32) : Fin 2 → Nat :=
  let c4_i32_1163 : BitVec 32 := 4#32
  let v2910 : BitVec 32 := Scalar.addi arg26 c4_i32_1163
  let c256_i32_1165 : BitVec 32 := 256#32
  let v2912 : BitVec 32 := Scalar.muli v2910 c256_i32_1165
  let v2913 : BitVec 32 := v2912
  let c0_i32_1173 : BitVec 32 := 0#32
  ![v2913.toNat, 0]
def k0_mult62 (arg22 : BitVec 32) (v96 : BitVec 32) (k0_t3 : Fin (k0_t3_loop arg22 v96).trips) : BitVec 32 :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  v143
def k0_cond9 (arg22 : BitVec 32) (v96 : BitVec 32) (k0_t3 : Fin (k0_t3_loop arg22 v96).trips) (arg26 : BitVec 32) : BitVec 1 :=
  let c192_i32 : BitVec 32 := 192#32
  let v131 : BitVec 1 := Scalar.cmpi .slt arg26 c192_i32
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c256_i32_106 : BitVec 32 := 256#32
  let v132 : BitVec 32 := Scalar.divsi v129 c256_i32_106
  let c4_i32_107 : BitVec 32 := 4#32
  let v133 : BitVec 32 := Scalar.addi v132 c4_i32_107
  let v134 : BitVec 1 := Scalar.cmpi .slt arg26 v133
  let v135 : BitVec 1 := Scalar.andi v131 v134
  let v_true : BitVec 1 := 1#1
  let v138 : BitVec 1 := Scalar.xori v135 v_true
  let v139 : BitVec 32 := Scalar.extui v138
  let c0_i32_109 : BitVec 32 := 0#32
  let v140 : BitVec 1 := Scalar.cmpi .ne v139 c0_i32_109
  v140

def k0_off309 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v157 : Index := Scalar.indexCast v144
  let c0_112 : Index := 0#32
  ![v157.toNat, 0]
def k0_off310 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v163 : Index := Scalar.indexCast v144
  let c128 : Index := 128#32
  ![v163.toNat, 128]
def k0_off311 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v169 : Index := Scalar.indexCast v144
  let c256 : Index := 256#32
  ![v169.toNat, 256]
def k0_off312 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v175 : Index := Scalar.indexCast v144
  let c384 : Index := 384#32
  ![v175.toNat, 384]
def k0_off313 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v181 : Index := Scalar.indexCast v144
  let c512 : Index := 512#32
  ![v181.toNat, 512]
def k0_off314 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v187 : Index := Scalar.indexCast v144
  let c640 : Index := 640#32
  ![v187.toNat, 640]
def k0_off315 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v193 : Index := Scalar.indexCast v144
  let c768 : Index := 768#32
  ![v193.toNat, 768]
def k0_off316 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v199 : Index := Scalar.indexCast v144
  let c896 : Index := 896#32
  ![v199.toNat, 896]
def k0_off317 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v205 : Index := Scalar.indexCast v144
  let c1024 : Index := 1024#32
  ![v205.toNat, 1024]
def k0_off318 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v211 : Index := Scalar.indexCast v144
  let c1152 : Index := 1152#32
  ![v211.toNat, 1152]
def k0_off319 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v217 : Index := Scalar.indexCast v144
  let c1280 : Index := 1280#32
  ![v217.toNat, 1280]
def k0_off320 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v223 : Index := Scalar.indexCast v144
  let c0_135 : Index := 0#32
  ![v223.toNat, 0]
def k0_off321 (arg23 : BitVec 32) : Fin 3 → Nat :=
  let c3_i32_85 : BitVec 32 := 3#32
  let v98 : BitVec 32 := Scalar.remsi arg23 c3_i32_85
  let v227 : Index := Scalar.indexCast v98
  let c0_139 : Index := 0#32
  let c0_140 : Index := 0#32
  ![v227.toNat, 0, 0]
def k0_off322 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v237 : Index := Scalar.indexCast v144
  let c256_144 : Index := 256#32
  ![v237.toNat, 256]
def k0_off323 (arg23 : BitVec 32) : Fin 3 → Nat :=
  let c3_i32_85 : BitVec 32 := 3#32
  let v98 : BitVec 32 := Scalar.remsi arg23 c3_i32_85
  let v241 : Index := Scalar.indexCast v98
  let c256_148 : Index := 256#32
  let c0_149 : Index := 0#32
  ![v241.toNat, 256, 0]
def k0_off324 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v251 : Index := Scalar.indexCast v144
  let c512_153 : Index := 512#32
  ![v251.toNat, 512]
def k0_off325 (arg23 : BitVec 32) : Fin 3 → Nat :=
  let c3_i32_85 : BitVec 32 := 3#32
  let v98 : BitVec 32 := Scalar.remsi arg23 c3_i32_85
  let v255 : Index := Scalar.indexCast v98
  let c512_157 : Index := 512#32
  let c0_158 : Index := 0#32
  ![v255.toNat, 512, 0]
def k0_off326 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v265 : Index := Scalar.indexCast v144
  let c768_162 : Index := 768#32
  ![v265.toNat, 768]
def k0_off327 (arg23 : BitVec 32) : Fin 3 → Nat :=
  let c3_i32_85 : BitVec 32 := 3#32
  let v98 : BitVec 32 := Scalar.remsi arg23 c3_i32_85
  let v269 : Index := Scalar.indexCast v98
  let c768_166 : Index := 768#32
  let c0_167 : Index := 0#32
  ![v269.toNat, 768, 0]
def k0_off328 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v279 : Index := Scalar.indexCast v144
  let c1024_171 : Index := 1024#32
  ![v279.toNat, 1024]
def k0_off329 (arg23 : BitVec 32) : Fin 3 → Nat :=
  let c3_i32_85 : BitVec 32 := 3#32
  let v98 : BitVec 32 := Scalar.remsi arg23 c3_i32_85
  let v283 : Index := Scalar.indexCast v98
  let c1024_175 : Index := 1024#32
  let c0_176 : Index := 0#32
  ![v283.toNat, 1024, 0]
def k0_off330 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v293 : Index := Scalar.indexCast v144
  let c1280_180 : Index := 1280#32
  ![v293.toNat, 1280]
def k0_off331 (arg23 : BitVec 32) : Fin 3 → Nat :=
  let c3_i32_85 : BitVec 32 := 3#32
  let v98 : BitVec 32 := Scalar.remsi arg23 c3_i32_85
  let v297 : Index := Scalar.indexCast v98
  let c1280_184 : Index := 1280#32
  let c0_185 : Index := 0#32
  ![v297.toNat, 1280, 0]
def k0_off332 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v307 : Index := Scalar.indexCast v144
  let c1536 : Index := 1536#32
  ![v307.toNat, 1536]
def k0_off333 (arg23 : BitVec 32) : Fin 3 → Nat :=
  let c3_i32_85 : BitVec 32 := 3#32
  let v98 : BitVec 32 := Scalar.remsi arg23 c3_i32_85
  let v311 : Index := Scalar.indexCast v98
  let c1536_192 : Index := 1536#32
  let c0_193 : Index := 0#32
  ![v311.toNat, 1536, 0]
def k0_off334 (arg22 : BitVec 32) (v96 : BitVec 32) (k0_t3 : Fin (k0_t3_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c1_i32_97 : BitVec 32 := 1#32
  let arg25 : BitVec 32 := Scf.iv c0_i32_95 c1_i32_97 k0_t3
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v321 : Index := Scalar.indexCast v144
  let c1792 : Index := 1792#32
  ![v321.toNat, 1792]
def k0_off335 (arg23 : BitVec 32) : Fin 3 → Nat :=
  let c3_i32_85 : BitVec 32 := 3#32
  let v98 : BitVec 32 := Scalar.remsi arg23 c3_i32_85
  let v325 : Index := Scalar.indexCast v98
  let c1792_200 : Index := 1792#32
  let c0_201 : Index := 0#32
  ![v325.toNat, 1792, 0]

def k0_chk2_0 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), 256 ∣ (k0_mult33 arg26).toNat) ∧
  (∀ (k0_h5 : k0_cond5 arg22 v96 k0_t3 arg26 = 1#1), ∀ a, (k0_off146 arg26) a + S1x1.size a ≤ S2x4.size a) ∧
  (∀ (k0_h5 : k0_cond5 arg22 v96 k0_t3 arg26 = 1#1), ∀ a, (k0_off147 arg26) a + S1x256x2048.size a ≤ S4x256x2048.size a) ∧
  (∀ (k0_h5 : k0_cond5 arg22 v96 k0_t3 arg26 = 1#1), ∀ a, (k0_off148 arg26) a + S256x2048.size a ≤ S49152x2048.size a) ∧
  (∀ (k0_h5 : k0_cond5 arg22 v96 k0_t3 arg26 = 1#1), ∀ (hinb : ∀ a, (k0_off148 arg26) a + S256x2048.size a ≤ S49152x2048.size a), (Rect.unit (s := S49152x2048) (k0_off148 arg26) S256x2048.size hinb).WholeWords (EltTy.packing .bf16)) ∧
  (∀ (k0_h5 : k0_cond5 arg22 v96 k0_t3 arg26 = 1#1), ∀ (hinb : ∀ a, (k0_off147 arg26) a + S1x256x2048.size a ≤ S4x256x2048.size a), (Rect.unit (s := S4x256x2048) (k0_off147 arg26) S1x256x2048.size hinb).WholeWords (EltTy.packing .bf16)) ∧
  (∀ (k0_h5 : k0_cond5 arg22 v96 k0_t3 arg26 = 1#1), ∀ a, (k0_off149 arg26) a + S1x1.size a ≤ S2x4.size a) ∧
  (∀ (k0_h5 : k0_cond5 arg22 v96 k0_t3 arg26 = 1#1), ∀ a, (k0_off150 arg26) a + S1x256x1408.size a ≤ S4x256x1408.size a) ∧
  (∀ (k0_h5 : k0_cond5 arg22 v96 k0_t3 arg26 = 1#1), ∀ a, (k0_off151 arg26) a + S256x1408.size a ≤ S49152x1408.size a) ∧
  (∀ (k0_h5 : k0_cond5 arg22 v96 k0_t3 arg26 = 1#1), ∀ (hinb : ∀ a, (k0_off151 arg26) a + S256x1408.size a ≤ S49152x1408.size a), (Rect.unit (s := S49152x1408) (k0_off151 arg26) S256x1408.size hinb).WholeWords (EltTy.packing .bf16)) ∧
  (∀ (k0_h5 : k0_cond5 arg22 v96 k0_t3 arg26 = 1#1), ∀ (hinb : ∀ a, (k0_off150 arg26) a + S1x256x1408.size a ≤ S4x256x1408.size a), (Rect.unit (s := S4x256x1408) (k0_off150 arg26) S1x256x1408.size hinb).WholeWords (EltTy.packing .bf16)) ∧
  (∀ (k0_h5 : k0_cond5 arg22 v96 k0_t3 arg26 = 1#1), ∀ (k0_h6 : k0_cond6 arg26 = 1#1), 256 ∣ (k0_mult34 arg26).toNat) ∧
  (∀ (k0_h5 : k0_cond5 arg22 v96 k0_t3 arg26 = 1#1), ∀ (k0_h6 : k0_cond6 arg26 = 1#1), ∀ a, (k0_off152 arg26) a + S1x1.size a ≤ S2x2.size a) ∧
  (∀ (k0_h5 : k0_cond5 arg22 v96 k0_t3 arg26 = 1#1), ∀ (k0_h6 : k0_cond6 arg26 = 1#1), ∀ a, (k0_off153 arg26) a + S256x2048.size a ≤ S49152x2048.size a) ∧
  (∀ (k0_h5 : k0_cond5 arg22 v96 k0_t3 arg26 = 1#1), ∀ (k0_h6 : k0_cond6 arg26 = 1#1), ∀ a, (k0_off154 arg26) a + S1x256x2048.size a ≤ S2x256x2048.size a) ∧
  (∀ (k0_h5 : k0_cond5 arg22 v96 k0_t3 arg26 = 1#1), ∀ (k0_h6 : k0_cond6 arg26 = 1#1), ∀ (hinb : ∀ a, (k0_off154 arg26) a + S1x256x2048.size a ≤ S2x256x2048.size a), (Rect.unit (s := S2x256x2048) (k0_off154 arg26) S1x256x2048.size hinb).WholeWords (EltTy.packing .fp8e4m3)) ∧
  (∀ (k0_h5 : k0_cond5 arg22 v96 k0_t3 arg26 = 1#1), ∀ (k0_h6 : k0_cond6 arg26 = 1#1), ∀ (hinb : ∀ a, (k0_off153 arg26) a + S256x2048.size a ≤ S49152x2048.size a), (Rect.unit (s := S49152x2048) (k0_off153 arg26) S256x2048.size hinb).WholeWords (EltTy.packing .fp8e4m3)) ∧
  (∀ (k0_h5 : k0_cond5 arg22 v96 k0_t3 arg26 = 1#1), ∀ (k0_h6 : k0_cond6 arg26 = 1#1), ∀ a, (k0_off155 arg26) a + S1x1.size a ≤ S2x2.size a) ∧
  (∀ (k0_h5 : k0_cond5 arg22 v96 k0_t3 arg26 = 1#1), ∀ (k0_h6 : k0_cond6 arg26 = 1#1), ∀ a, (k0_off156 arg26) a + S256x1408.size a ≤ S49152x1408.size a) ∧
  (∀ (k0_h5 : k0_cond5 arg22 v96 k0_t3 arg26 = 1#1), ∀ (k0_h6 : k0_cond6 arg26 = 1#1), ∀ a, (k0_off157 arg26) a + S1x256x1408.size a ≤ S2x256x1408.size a) ∧
  (∀ (k0_h5 : k0_cond5 arg22 v96 k0_t3 arg26 = 1#1), ∀ (k0_h6 : k0_cond6 arg26 = 1#1), ∀ (hinb : ∀ a, (k0_off157 arg26) a + S1x256x1408.size a ≤ S2x256x1408.size a), (Rect.unit (s := S2x256x1408) (k0_off157 arg26) S1x256x1408.size hinb).WholeWords (EltTy.packing .fp8e5m2)) ∧
  (∀ (k0_h5 : k0_cond5 arg22 v96 k0_t3 arg26 = 1#1), ∀ (k0_h6 : k0_cond6 arg26 = 1#1), ∀ (hinb : ∀ a, (k0_off156 arg26) a + S256x1408.size a ≤ S49152x1408.size a), (Rect.unit (s := S49152x1408) (k0_off156 arg26) S256x1408.size hinb).WholeWords (EltTy.packing .fp8e5m2)) ∧
  (∀ (k0_h5 : k0_cond5 arg22 v96 k0_t3 arg26 = 1#1), 16 ∣ (k0_mult35 arg22 v96 k0_t3).toNat) ∧
  (∀ (k0_h5 : k0_cond5 arg22 v96 k0_t3 arg26 = 1#1), ∀ a, (k0_off158 arg22 v96 k0_t3) a + S256x128.size a ≤ S1280x1408.size a) ∧
  (∀ (k0_h5 : k0_cond5 arg22 v96 k0_t3 arg26 = 1#1), ∀ a, (k0_off159 arg22 v96 k0_t3) a + S256x128.size a ≤ S1280x1408.size a) ∧
  (∀ (k0_h5 : k0_cond5 arg22 v96 k0_t3 arg26 = 1#1), ∀ a, (k0_off160 arg22 v96 k0_t3) a + S256x128.size a ≤ S1280x1408.size a) ∧
  (∀ (k0_h5 : k0_cond5 arg22 v96 k0_t3 arg26 = 1#1), ∀ a, (k0_off161 arg22 v96 k0_t3) a + S256x128.size a ≤ S1280x1408.size a) ∧
  (∀ (k0_h5 : k0_cond5 arg22 v96 k0_t3 arg26 = 1#1), ∀ a, (k0_off162 arg22 v96 k0_t3) a + S256x128.size a ≤ S1280x1408.size a) ∧
  (∀ (k0_h5 : k0_cond5 arg22 v96 k0_t3 arg26 = 1#1), ∀ a, (k0_off163 arg22 v96 k0_t3) a + S256x128.size a ≤ S1280x1408.size a) ∧
  (∀ (k0_h5 : k0_cond5 arg22 v96 k0_t3 arg26 = 1#1), ∀ a, (k0_off164 arg22 v96 k0_t3) a + S256x128.size a ≤ S1280x1408.size a) ∧
  (∀ (k0_h5 : k0_cond5 arg22 v96 k0_t3 arg26 = 1#1), ∀ a, (k0_off165 arg22 v96 k0_t3) a + S256x128.size a ≤ S1280x1408.size a) ∧
  (∀ (k0_h5 : k0_cond5 arg22 v96 k0_t3 arg26 = 1#1), ∀ a, (k0_off166 arg22 v96 k0_t3) a + S256x128.size a ≤ S1280x1408.size a)
def k0_chk2_1 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ a, (k0_off167 arg22 v96 k0_t3) a + S256x128.size a ≤ S1280x1408.size a) ∧
  (∀ (k0_h5 : k0_cond5 arg22 v96 k0_t3 arg26 = 1#1), ∀ a, (k0_off168 arg22 v96 k0_t3) a + S256x128.size a ≤ S1280x1408.size a) ∧
  (∀ (k0_h5 : k0_cond5 arg22 v96 k0_t3 arg26 = 1#1), ∀ a, (k0_off169 arg22 v96 k0_t3) a + S256x256.size a ≤ S1280x2048.size a) ∧
  (∀ (k0_h5 : k0_cond5 arg22 v96 k0_t3 arg26 = 1#1), ∀ a, (k0_off170 arg23) a + S1x256x1408.size a ≤ S3x2048x1408.size a) ∧
  (∀ (k0_h5 : k0_cond5 arg22 v96 k0_t3 arg26 = 1#1), 256 ∣ (k0_mult36 arg26).toNat) ∧
  (∀ (k0_h5 : k0_cond5 arg22 v96 k0_t3 arg26 = 1#1), 128 ∣ (k0_mult37 arg26).toNat) ∧
  (∀ (k0_h5 : k0_cond5 arg22 v96 k0_t3 arg26 = 1#1), ∀ a, (k0_off171 arg26) a + S1x128x256.size a ≤ S4x256x2048.size a) ∧
  (∀ (k0_h5 : k0_cond5 arg22 v96 k0_t3 arg26 = 1#1), ∀ (r : Fin 2), ∀ a, (k0_off172 arg26 (BitVec.ofNat 32 r.val)) a + S1x256.size a ≤ S384x2048.size a) ∧
  (∀ (k0_h5 : k0_cond5 arg22 v96 k0_t3 arg26 = 1#1), ∀ a, (k0_off173 arg26) a + S1x128x256.size a ≤ S2x256x2048.size a) ∧
  (∀ (k0_h5 : k0_cond5 arg22 v96 k0_t3 arg26 = 1#1), ∀ (hinb : ∀ a, (k0_off173 arg26) a + S1x128x256.size a ≤ S2x256x2048.size a), (Rect.unit (s := S2x256x2048) (k0_off173 arg26) S1x128x256.size hinb).PackedRows (EltTy.packing .fp8e4m3)) ∧
  (∀ (k0_h5 : k0_cond5 arg22 v96 k0_t3 arg26 = 1#1), ∀ (r : Fin 2), ∀ a, (k0_off174 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off174 arg26 (BitVec.ofNat 32 (128 * r.val))) a + S128x256.size a ≤ S1280x2048.size a), (Rect.unit (s := S1280x2048) (k0_off174 arg26 (BitVec.ofNat 32 (128 * r.val))) S128x256.size hinb).PackedRows (EltTy.packing .bf16)) ∧
  (∀ (k0_h5 : k0_cond5 arg22 v96 k0_t3 arg26 = 1#1), ∀ a, (k0_off175 arg26) a + S1x128x128.size a ≤ S4x256x1408.size a) ∧
  (∀ (k0_h5 : k0_cond5 arg22 v96 k0_t3 arg26 = 1#1), ∀ (r : Fin 2), ∀ a, (k0_off176 arg26 (BitVec.ofNat 32 r.val)) a + S1x1.size a ≤ S384x11.size a) ∧
  (∀ (k0_h5 : k0_cond5 arg22 v96 k0_t3 arg26 = 1#1), ∀ a, (k0_off177 arg26) a + S1x128x128.size a ≤ S2x256x1408.size a) ∧
  (∀ (k0_h5 : k0_cond5 arg22 v96 k0_t3 arg26 = 1#1), ∀ (hinb : ∀ a, (k0_off177 arg26) a + S1x128x128.size a ≤ S2x256x1408.size a), (Rect.unit (s := S2x256x1408) (k0_off177 arg26) S1x128x128.size hinb).PackedRows (EltTy.packing .fp8e5m2)) ∧
  (∀ (k0_h5 : k0_cond5 arg22 v96 k0_t3 arg26 = 1#1), ∀ (r : Fin 2), ∀ a, (k0_off178 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off178 arg26 (BitVec.ofNat 32 (128 * r.val))) a + S128x128.size a ≤ S1280x1408.size a), (Rect.unit (s := S1280x1408) (k0_off178 arg26 (BitVec.ofNat 32 (128 * r.val))) S128x128.size hinb).PackedRows (EltTy.packing .bf16)) ∧
  (∀ (k0_h5 : k0_cond5 arg22 v96 k0_t3 arg26 = 1#1), ∀ a, (k0_off179 arg26) a + S1x128x128.size a ≤ S4x256x1408.size a) ∧
  (∀ (k0_h5 : k0_cond5 arg22 v96 k0_t3 arg26 = 1#1), ∀ (r : Fin 2), ∀ a, (k0_off180 arg26 (BitVec.ofNat 32 r.val)) a + S1x1.size a ≤ S384x11.size a) ∧
  (∀ (k0_h5 : k0_cond5 arg22 v96 k0_t3 arg26 = 1#1), ∀ a, (k0_off181 arg26) a + S1x128x128.size a ≤ S2x256x1408.size a) ∧
  (∀ (k0_h5 : k0_cond5 arg22 v96 k0_t3 arg26 = 1#1), ∀ (hinb : ∀ a, (k0_off181 arg26) a + S1x128x128.size a ≤ S2x256x1408.size a), (Rect.unit (s := S2x256x1408) (k0_off181 arg26) S1x128x128.size hinb).PackedRows (EltTy.packing .fp8e5m2)) ∧
  (∀ (k0_h5 : k0_cond5 arg22 v96 k0_t3 arg26 = 1#1), ∀ (r : Fin 2), ∀ a, (k0_off182 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off182 arg26 (BitVec.ofNat 32 (128 * r.val))) a + S128x128.size a ≤ S1280x1408.size a), (Rect.unit (s := S1280x1408) (k0_off182 arg26 (BitVec.ofNat 32 (128 * r.val))) S128x128.size hinb).PackedRows (EltTy.packing .bf16)) ∧
  (∀ (k0_h5 : k0_cond5 arg22 v96 k0_t3 arg26 = 1#1), 128 ∣ (k0_mult38 arg26).toNat) ∧
  (∀ (k0_h5 : k0_cond5 arg22 v96 k0_t3 arg26 = 1#1), ∀ a, (k0_off183 arg26) a + S1x128x256.size a ≤ S4x256x2048.size a) ∧
  (∀ (k0_h5 : k0_cond5 arg22 v96 k0_t3 arg26 = 1#1), ∀ a, (k0_off184 arg26) a + S1x128x256.size a ≤ S2x256x2048.size a) ∧
  (∀ (k0_h5 : k0_cond5 arg22 v96 k0_t3 arg26 = 1#1), ∀ (hinb : ∀ a, (k0_off184 arg26) a + S1x128x256.size a ≤ S2x256x2048.size a), (Rect.unit (s := S2x256x2048) (k0_off184 arg26) S1x128x256.size hinb).PackedRows (EltTy.packing .fp8e4m3)) ∧
  (∀ (k0_h5 : k0_cond5 arg22 v96 k0_t3 arg26 = 1#1), ∀ a, (k0_off185 arg26) a + S1x128x128.size a ≤ S4x256x1408.size a) ∧
  (∀ (k0_h5 : k0_cond5 arg22 v96 k0_t3 arg26 = 1#1), ∀ a, (k0_off186 arg26) a + S1x128x128.size a ≤ S2x256x1408.size a) ∧
  (∀ (k0_h5 : k0_cond5 arg22 v96 k0_t3 arg26 = 1#1), ∀ (hinb : ∀ a, (k0_off186 arg26) a + S1x128x128.size a ≤ S2x256x1408.size a), (Rect.unit (s := S2x256x1408) (k0_off186 arg26) S1x128x128.size hinb).PackedRows (EltTy.packing .fp8e5m2)) ∧
  (∀ (k0_h5 : k0_cond5 arg22 v96 k0_t3 arg26 = 1#1), ∀ a, (k0_off187 arg26) a + S1x128x128.size a ≤ S4x256x1408.size a)
def k0_chk2_2 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ a, (k0_off188 arg26) a + S1x128x128.size a ≤ S2x256x1408.size a) ∧
  (∀ (k0_h5 : k0_cond5 arg22 v96 k0_t3 arg26 = 1#1), ∀ (hinb : ∀ a, (k0_off188 arg26) a + S1x128x128.size a ≤ S2x256x1408.size a), (Rect.unit (s := S2x256x1408) (k0_off188 arg26) S1x128x128.size hinb).PackedRows (EltTy.packing .fp8e5m2)) ∧
  (∀ (k0_h5 : k0_cond5 arg22 v96 k0_t3 arg26 = 1#1), ∀ a, (k0_off189 arg22 v96 k0_t3) a + S256x256.size a ≤ S1280x2048.size a) ∧
  (∀ (k0_h5 : k0_cond5 arg22 v96 k0_t3 arg26 = 1#1), ∀ a, (k0_off190 arg23) a + S1x256x1408.size a ≤ S3x2048x1408.size a) ∧
  (∀ (k0_h5 : k0_cond5 arg22 v96 k0_t3 arg26 = 1#1), 256 ∣ (k0_mult39 arg26).toNat) ∧
  (∀ (k0_h5 : k0_cond5 arg22 v96 k0_t3 arg26 = 1#1), 128 ∣ (k0_mult40 arg26).toNat) ∧
  (∀ (k0_h5 : k0_cond5 arg22 v96 k0_t3 arg26 = 1#1), ∀ a, (k0_off191 arg26) a + S1x128x256.size a ≤ S4x256x2048.size a) ∧
  (∀ (k0_h5 : k0_cond5 arg22 v96 k0_t3 arg26 = 1#1), ∀ (r : Fin 2), ∀ a, (k0_off192 arg26 (BitVec.ofNat 32 r.val)) a + S1x256.size a ≤ S384x2048.size a) ∧
  (∀ (k0_h5 : k0_cond5 arg22 v96 k0_t3 arg26 = 1#1), ∀ a, (k0_off193 arg26) a + S1x128x256.size a ≤ S2x256x2048.size a) ∧
  (∀ (k0_h5 : k0_cond5 arg22 v96 k0_t3 arg26 = 1#1), ∀ (hinb : ∀ a, (k0_off193 arg26) a + S1x128x256.size a ≤ S2x256x2048.size a), (Rect.unit (s := S2x256x2048) (k0_off193 arg26) S1x128x256.size hinb).PackedRows (EltTy.packing .fp8e4m3)) ∧
  (∀ (k0_h5 : k0_cond5 arg22 v96 k0_t3 arg26 = 1#1), ∀ (r : Fin 2), ∀ a, (k0_off194 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off194 arg26 (BitVec.ofNat 32 (128 * r.val))) a + S128x256.size a ≤ S1280x2048.size a), (Rect.unit (s := S1280x2048) (k0_off194 arg26 (BitVec.ofNat 32 (128 * r.val))) S128x256.size hinb).PackedRows (EltTy.packing .bf16)) ∧
  (∀ (k0_h5 : k0_cond5 arg22 v96 k0_t3 arg26 = 1#1), ∀ a, (k0_off195 arg26) a + S1x128x128.size a ≤ S4x256x1408.size a) ∧
  (∀ (k0_h5 : k0_cond5 arg22 v96 k0_t3 arg26 = 1#1), ∀ (r : Fin 2), ∀ a, (k0_off196 arg26 (BitVec.ofNat 32 r.val)) a + S1x1.size a ≤ S384x11.size a) ∧
  (∀ (k0_h5 : k0_cond5 arg22 v96 k0_t3 arg26 = 1#1), ∀ a, (k0_off197 arg26) a + S1x128x128.size a ≤ S2x256x1408.size a) ∧
  (∀ (k0_h5 : k0_cond5 arg22 v96 k0_t3 arg26 = 1#1), ∀ (hinb : ∀ a, (k0_off197 arg26) a + S1x128x128.size a ≤ S2x256x1408.size a), (Rect.unit (s := S2x256x1408) (k0_off197 arg26) S1x128x128.size hinb).PackedRows (EltTy.packing .fp8e5m2)) ∧
  (∀ (k0_h5 : k0_cond5 arg22 v96 k0_t3 arg26 = 1#1), ∀ (r : Fin 2), ∀ a, (k0_off198 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off198 arg26 (BitVec.ofNat 32 (128 * r.val))) a + S128x128.size a ≤ S1280x1408.size a), (Rect.unit (s := S1280x1408) (k0_off198 arg26 (BitVec.ofNat 32 (128 * r.val))) S128x128.size hinb).PackedRows (EltTy.packing .bf16)) ∧
  (∀ (k0_h5 : k0_cond5 arg22 v96 k0_t3 arg26 = 1#1), ∀ a, (k0_off199 arg26) a + S1x128x128.size a ≤ S4x256x1408.size a) ∧
  (∀ (k0_h5 : k0_cond5 arg22 v96 k0_t3 arg26 = 1#1), ∀ (r : Fin 2), ∀ a, (k0_off200 arg26 (BitVec.ofNat 32 r.val)) a + S1x1.size a ≤ S384x11.size a) ∧
  (∀ (k0_h5 : k0_cond5 arg22 v96 k0_t3 arg26 = 1#1), ∀ a, (k0_off201 arg26) a + S1x128x128.size a ≤ S2x256x1408.size a) ∧
  (∀ (k0_h5 : k0_cond5 arg22 v96 k0_t3 arg26 = 1#1), ∀ (hinb : ∀ a, (k0_off201 arg26) a + S1x128x128.size a ≤ S2x256x1408.size a), (Rect.unit (s := S2x256x1408) (k0_off201 arg26) S1x128x128.size hinb).PackedRows (EltTy.packing .fp8e5m2)) ∧
  (∀ (k0_h5 : k0_cond5 arg22 v96 k0_t3 arg26 = 1#1), ∀ (r : Fin 2), ∀ a, (k0_off202 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off202 arg26 (BitVec.ofNat 32 (128 * r.val))) a + S128x128.size a ≤ S1280x1408.size a), (Rect.unit (s := S1280x1408) (k0_off202 arg26 (BitVec.ofNat 32 (128 * r.val))) S128x128.size hinb).PackedRows (EltTy.packing .bf16)) ∧
  (∀ (k0_h5 : k0_cond5 arg22 v96 k0_t3 arg26 = 1#1), 128 ∣ (k0_mult41 arg26).toNat) ∧
  (∀ (k0_h5 : k0_cond5 arg22 v96 k0_t3 arg26 = 1#1), ∀ a, (k0_off203 arg26) a + S1x128x256.size a ≤ S4x256x2048.size a) ∧
  (∀ (k0_h5 : k0_cond5 arg22 v96 k0_t3 arg26 = 1#1), ∀ a, (k0_off204 arg26) a + S1x128x256.size a ≤ S2x256x2048.size a) ∧
  (∀ (k0_h5 : k0_cond5 arg22 v96 k0_t3 arg26 = 1#1), ∀ (hinb : ∀ a, (k0_off204 arg26) a + S1x128x256.size a ≤ S2x256x2048.size a), (Rect.unit (s := S2x256x2048) (k0_off204 arg26) S1x128x256.size hinb).PackedRows (EltTy.packing .fp8e4m3)) ∧
  (∀ (k0_h5 : k0_cond5 arg22 v96 k0_t3 arg26 = 1#1), ∀ a, (k0_off205 arg26) a + S1x128x128.size a ≤ S4x256x1408.size a) ∧
  (∀ (k0_h5 : k0_cond5 arg22 v96 k0_t3 arg26 = 1#1), ∀ a, (k0_off206 arg26) a + S1x128x128.size a ≤ S2x256x1408.size a) ∧
  (∀ (k0_h5 : k0_cond5 arg22 v96 k0_t3 arg26 = 1#1), ∀ (hinb : ∀ a, (k0_off206 arg26) a + S1x128x128.size a ≤ S2x256x1408.size a), (Rect.unit (s := S2x256x1408) (k0_off206 arg26) S1x128x128.size hinb).PackedRows (EltTy.packing .fp8e5m2)) ∧
  (∀ (k0_h5 : k0_cond5 arg22 v96 k0_t3 arg26 = 1#1), ∀ a, (k0_off207 arg26) a + S1x128x128.size a ≤ S4x256x1408.size a)
def k0_chk2_3 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ a, (k0_off208 arg26) a + S1x128x128.size a ≤ S2x256x1408.size a) ∧
  (∀ (k0_h5 : k0_cond5 arg22 v96 k0_t3 arg26 = 1#1), ∀ (hinb : ∀ a, (k0_off208 arg26) a + S1x128x128.size a ≤ S2x256x1408.size a), (Rect.unit (s := S2x256x1408) (k0_off208 arg26) S1x128x128.size hinb).PackedRows (EltTy.packing .fp8e5m2)) ∧
  (∀ (k0_h5 : k0_cond5 arg22 v96 k0_t3 arg26 = 1#1), ∀ a, (k0_off209 arg22 v96 k0_t3) a + S256x256.size a ≤ S1280x2048.size a) ∧
  (∀ (k0_h5 : k0_cond5 arg22 v96 k0_t3 arg26 = 1#1), ∀ a, (k0_off210 arg23) a + S1x256x1408.size a ≤ S3x2048x1408.size a) ∧
  (∀ (k0_h5 : k0_cond5 arg22 v96 k0_t3 arg26 = 1#1), 256 ∣ (k0_mult42 arg26).toNat) ∧
  (∀ (k0_h5 : k0_cond5 arg22 v96 k0_t3 arg26 = 1#1), 128 ∣ (k0_mult43 arg26).toNat) ∧
  (∀ (k0_h5 : k0_cond5 arg22 v96 k0_t3 arg26 = 1#1), ∀ a, (k0_off211 arg26) a + S1x128x256.size a ≤ S4x256x2048.size a) ∧
  (∀ (k0_h5 : k0_cond5 arg22 v96 k0_t3 arg26 = 1#1), ∀ (r : Fin 2), ∀ a, (k0_off212 arg26 (BitVec.ofNat 32 r.val)) a + S1x256.size a ≤ S384x2048.size a) ∧
  (∀ (k0_h5 : k0_cond5 arg22 v96 k0_t3 arg26 = 1#1), ∀ a, (k0_off213 arg26) a + S1x128x256.size a ≤ S2x256x2048.size a) ∧
  (∀ (k0_h5 : k0_cond5 arg22 v96 k0_t3 arg26 = 1#1), ∀ (hinb : ∀ a, (k0_off213 arg26) a + S1x128x256.size a ≤ S2x256x2048.size a), (Rect.unit (s := S2x256x2048) (k0_off213 arg26) S1x128x256.size hinb).PackedRows (EltTy.packing .fp8e4m3)) ∧
  (∀ (k0_h5 : k0_cond5 arg22 v96 k0_t3 arg26 = 1#1), ∀ (r : Fin 2), ∀ a, (k0_off214 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off214 arg26 (BitVec.ofNat 32 (128 * r.val))) a + S128x256.size a ≤ S1280x2048.size a), (Rect.unit (s := S1280x2048) (k0_off214 arg26 (BitVec.ofNat 32 (128 * r.val))) S128x256.size hinb).PackedRows (EltTy.packing .bf16)) ∧
  (∀ (k0_h5 : k0_cond5 arg22 v96 k0_t3 arg26 = 1#1), ∀ a, (k0_off215 arg26) a + S1x128x128.size a ≤ S4x256x1408.size a) ∧
  (∀ (k0_h5 : k0_cond5 arg22 v96 k0_t3 arg26 = 1#1), ∀ (r : Fin 2), ∀ a, (k0_off216 arg26 (BitVec.ofNat 32 r.val)) a + S1x1.size a ≤ S384x11.size a) ∧
  (∀ (k0_h5 : k0_cond5 arg22 v96 k0_t3 arg26 = 1#1), ∀ a, (k0_off217 arg26) a + S1x128x128.size a ≤ S2x256x1408.size a) ∧
  (∀ (k0_h5 : k0_cond5 arg22 v96 k0_t3 arg26 = 1#1), ∀ (hinb : ∀ a, (k0_off217 arg26) a + S1x128x128.size a ≤ S2x256x1408.size a), (Rect.unit (s := S2x256x1408) (k0_off217 arg26) S1x128x128.size hinb).PackedRows (EltTy.packing .fp8e5m2)) ∧
  (∀ (k0_h5 : k0_cond5 arg22 v96 k0_t3 arg26 = 1#1), ∀ (r : Fin 2), ∀ a, (k0_off218 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off218 arg26 (BitVec.ofNat 32 (128 * r.val))) a + S128x128.size a ≤ S1280x1408.size a), (Rect.unit (s := S1280x1408) (k0_off218 arg26 (BitVec.ofNat 32 (128 * r.val))) S128x128.size hinb).PackedRows (EltTy.packing .bf16)) ∧
  (∀ (k0_h5 : k0_cond5 arg22 v96 k0_t3 arg26 = 1#1), ∀ a, (k0_off219 arg26) a + S1x128x128.size a ≤ S4x256x1408.size a) ∧
  (∀ (k0_h5 : k0_cond5 arg22 v96 k0_t3 arg26 = 1#1), ∀ (r : Fin 2), ∀ a, (k0_off220 arg26 (BitVec.ofNat 32 r.val)) a + S1x1.size a ≤ S384x11.size a) ∧
  (∀ (k0_h5 : k0_cond5 arg22 v96 k0_t3 arg26 = 1#1), ∀ a, (k0_off221 arg26) a + S1x128x128.size a ≤ S2x256x1408.size a) ∧
  (∀ (k0_h5 : k0_cond5 arg22 v96 k0_t3 arg26 = 1#1), ∀ (hinb : ∀ a, (k0_off221 arg26) a + S1x128x128.size a ≤ S2x256x1408.size a), (Rect.unit (s := S2x256x1408) (k0_off221 arg26) S1x128x128.size hinb).PackedRows (EltTy.packing .fp8e5m2)) ∧
  (∀ (k0_h5 : k0_cond5 arg22 v96 k0_t3 arg26 = 1#1), ∀ (r : Fin 2), ∀ a, (k0_off222 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off222 arg26 (BitVec.ofNat 32 (128 * r.val))) a + S128x128.size a ≤ S1280x1408.size a), (Rect.unit (s := S1280x1408) (k0_off222 arg26 (BitVec.ofNat 32 (128 * r.val))) S128x128.size hinb).PackedRows (EltTy.packing .bf16)) ∧
  (∀ (k0_h5 : k0_cond5 arg22 v96 k0_t3 arg26 = 1#1), 128 ∣ (k0_mult44 arg26).toNat) ∧
  (∀ (k0_h5 : k0_cond5 arg22 v96 k0_t3 arg26 = 1#1), ∀ a, (k0_off223 arg26) a + S1x128x256.size a ≤ S4x256x2048.size a) ∧
  (∀ (k0_h5 : k0_cond5 arg22 v96 k0_t3 arg26 = 1#1), ∀ a, (k0_off224 arg26) a + S1x128x256.size a ≤ S2x256x2048.size a) ∧
  (∀ (k0_h5 : k0_cond5 arg22 v96 k0_t3 arg26 = 1#1), ∀ (hinb : ∀ a, (k0_off224 arg26) a + S1x128x256.size a ≤ S2x256x2048.size a), (Rect.unit (s := S2x256x2048) (k0_off224 arg26) S1x128x256.size hinb).PackedRows (EltTy.packing .fp8e4m3)) ∧
  (∀ (k0_h5 : k0_cond5 arg22 v96 k0_t3 arg26 = 1#1), ∀ a, (k0_off225 arg26) a + S1x128x128.size a ≤ S4x256x1408.size a) ∧
  (∀ (k0_h5 : k0_cond5 arg22 v96 k0_t3 arg26 = 1#1), ∀ a, (k0_off226 arg26) a + S1x128x128.size a ≤ S2x256x1408.size a) ∧
  (∀ (k0_h5 : k0_cond5 arg22 v96 k0_t3 arg26 = 1#1), ∀ (hinb : ∀ a, (k0_off226 arg26) a + S1x128x128.size a ≤ S2x256x1408.size a), (Rect.unit (s := S2x256x1408) (k0_off226 arg26) S1x128x128.size hinb).PackedRows (EltTy.packing .fp8e5m2)) ∧
  (∀ (k0_h5 : k0_cond5 arg22 v96 k0_t3 arg26 = 1#1), ∀ a, (k0_off227 arg26) a + S1x128x128.size a ≤ S4x256x1408.size a)
def k0_chk2_4 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ a, (k0_off228 arg26) a + S1x128x128.size a ≤ S2x256x1408.size a) ∧
  (∀ (k0_h5 : k0_cond5 arg22 v96 k0_t3 arg26 = 1#1), ∀ (hinb : ∀ a, (k0_off228 arg26) a + S1x128x128.size a ≤ S2x256x1408.size a), (Rect.unit (s := S2x256x1408) (k0_off228 arg26) S1x128x128.size hinb).PackedRows (EltTy.packing .fp8e5m2)) ∧
  (∀ (k0_h5 : k0_cond5 arg22 v96 k0_t3 arg26 = 1#1), ∀ a, (k0_off229 arg22 v96 k0_t3) a + S256x256.size a ≤ S1280x2048.size a) ∧
  (∀ (k0_h5 : k0_cond5 arg22 v96 k0_t3 arg26 = 1#1), ∀ a, (k0_off230 arg23) a + S1x256x1408.size a ≤ S3x2048x1408.size a) ∧
  (∀ (k0_h5 : k0_cond5 arg22 v96 k0_t3 arg26 = 1#1), 256 ∣ (k0_mult45 arg26).toNat) ∧
  (∀ (k0_h5 : k0_cond5 arg22 v96 k0_t3 arg26 = 1#1), 128 ∣ (k0_mult46 arg26).toNat) ∧
  (∀ (k0_h5 : k0_cond5 arg22 v96 k0_t3 arg26 = 1#1), ∀ a, (k0_off231 arg26) a + S1x128x256.size a ≤ S4x256x2048.size a) ∧
  (∀ (k0_h5 : k0_cond5 arg22 v96 k0_t3 arg26 = 1#1), ∀ (r : Fin 2), ∀ a, (k0_off232 arg26 (BitVec.ofNat 32 r.val)) a + S1x256.size a ≤ S384x2048.size a) ∧
  (∀ (k0_h5 : k0_cond5 arg22 v96 k0_t3 arg26 = 1#1), ∀ a, (k0_off233 arg26) a + S1x128x256.size a ≤ S2x256x2048.size a) ∧
  (∀ (k0_h5 : k0_cond5 arg22 v96 k0_t3 arg26 = 1#1), ∀ (hinb : ∀ a, (k0_off233 arg26) a + S1x128x256.size a ≤ S2x256x2048.size a), (Rect.unit (s := S2x256x2048) (k0_off233 arg26) S1x128x256.size hinb).PackedRows (EltTy.packing .fp8e4m3)) ∧
  (∀ (k0_h5 : k0_cond5 arg22 v96 k0_t3 arg26 = 1#1), ∀ (r : Fin 2), ∀ a, (k0_off234 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off234 arg26 (BitVec.ofNat 32 (128 * r.val))) a + S128x256.size a ≤ S1280x2048.size a), (Rect.unit (s := S1280x2048) (k0_off234 arg26 (BitVec.ofNat 32 (128 * r.val))) S128x256.size hinb).PackedRows (EltTy.packing .bf16)) ∧
  (∀ (k0_h5 : k0_cond5 arg22 v96 k0_t3 arg26 = 1#1), ∀ a, (k0_off235 arg26) a + S1x128x128.size a ≤ S4x256x1408.size a) ∧
  (∀ (k0_h5 : k0_cond5 arg22 v96 k0_t3 arg26 = 1#1), ∀ (r : Fin 2), ∀ a, (k0_off236 arg26 (BitVec.ofNat 32 r.val)) a + S1x1.size a ≤ S384x11.size a) ∧
  (∀ (k0_h5 : k0_cond5 arg22 v96 k0_t3 arg26 = 1#1), ∀ a, (k0_off237 arg26) a + S1x128x128.size a ≤ S2x256x1408.size a) ∧
  (∀ (k0_h5 : k0_cond5 arg22 v96 k0_t3 arg26 = 1#1), ∀ (hinb : ∀ a, (k0_off237 arg26) a + S1x128x128.size a ≤ S2x256x1408.size a), (Rect.unit (s := S2x256x1408) (k0_off237 arg26) S1x128x128.size hinb).PackedRows (EltTy.packing .fp8e5m2)) ∧
  (∀ (k0_h5 : k0_cond5 arg22 v96 k0_t3 arg26 = 1#1), ∀ (r : Fin 2), ∀ a, (k0_off238 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off238 arg26 (BitVec.ofNat 32 (128 * r.val))) a + S128x128.size a ≤ S1280x1408.size a), (Rect.unit (s := S1280x1408) (k0_off238 arg26 (BitVec.ofNat 32 (128 * r.val))) S128x128.size hinb).PackedRows (EltTy.packing .bf16)) ∧
  (∀ (k0_h5 : k0_cond5 arg22 v96 k0_t3 arg26 = 1#1), 128 ∣ (k0_mult47 arg26).toNat) ∧
  (∀ (k0_h5 : k0_cond5 arg22 v96 k0_t3 arg26 = 1#1), ∀ a, (k0_off239 arg26) a + S1x128x256.size a ≤ S4x256x2048.size a) ∧
  (∀ (k0_h5 : k0_cond5 arg22 v96 k0_t3 arg26 = 1#1), ∀ a, (k0_off240 arg26) a + S1x128x256.size a ≤ S2x256x2048.size a) ∧
  (∀ (k0_h5 : k0_cond5 arg22 v96 k0_t3 arg26 = 1#1), ∀ (hinb : ∀ a, (k0_off240 arg26) a + S1x128x256.size a ≤ S2x256x2048.size a), (Rect.unit (s := S2x256x2048) (k0_off240 arg26) S1x128x256.size hinb).PackedRows (EltTy.packing .fp8e4m3)) ∧
  (∀ (k0_h5 : k0_cond5 arg22 v96 k0_t3 arg26 = 1#1), ∀ a, (k0_off241 arg26) a + S1x128x128.size a ≤ S4x256x1408.size a) ∧
  (∀ (k0_h5 : k0_cond5 arg22 v96 k0_t3 arg26 = 1#1), ∀ a, (k0_off242 arg26) a + S1x128x128.size a ≤ S2x256x1408.size a) ∧
  (∀ (k0_h5 : k0_cond5 arg22 v96 k0_t3 arg26 = 1#1), ∀ (hinb : ∀ a, (k0_off242 arg26) a + S1x128x128.size a ≤ S2x256x1408.size a), (Rect.unit (s := S2x256x1408) (k0_off242 arg26) S1x128x128.size hinb).PackedRows (EltTy.packing .fp8e5m2)) ∧
  (∀ (k0_h5 : k0_cond5 arg22 v96 k0_t3 arg26 = 1#1), ∀ a, (k0_off243 arg22 v96 k0_t3) a + S256x256.size a ≤ S1280x2048.size a) ∧
  (∀ (k0_h5 : k0_cond5 arg22 v96 k0_t3 arg26 = 1#1), ∀ a, (k0_off244 arg23) a + S1x256x1408.size a ≤ S3x2048x1408.size a) ∧
  (∀ (k0_h5 : k0_cond5 arg22 v96 k0_t3 arg26 = 1#1), 256 ∣ (k0_mult48 arg26).toNat) ∧
  (∀ (k0_h5 : k0_cond5 arg22 v96 k0_t3 arg26 = 1#1), 128 ∣ (k0_mult49 arg26).toNat) ∧
  (∀ (k0_h5 : k0_cond5 arg22 v96 k0_t3 arg26 = 1#1), ∀ a, (k0_off245 arg26) a + S1x128x256.size a ≤ S4x256x2048.size a) ∧
  (∀ (k0_h5 : k0_cond5 arg22 v96 k0_t3 arg26 = 1#1), ∀ (r : Fin 2), ∀ a, (k0_off246 arg26 (BitVec.ofNat 32 r.val)) a + S1x256.size a ≤ S384x2048.size a) ∧
  (∀ (k0_h5 : k0_cond5 arg22 v96 k0_t3 arg26 = 1#1), ∀ a, (k0_off247 arg26) a + S1x128x256.size a ≤ S2x256x2048.size a)
def k0_chk2_5 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ (hinb : ∀ a, (k0_off247 arg26) a + S1x128x256.size a ≤ S2x256x2048.size a), (Rect.unit (s := S2x256x2048) (k0_off247 arg26) S1x128x256.size hinb).PackedRows (EltTy.packing .fp8e4m3)) ∧
  (∀ (k0_h5 : k0_cond5 arg22 v96 k0_t3 arg26 = 1#1), ∀ (r : Fin 2), ∀ a, (k0_off248 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off248 arg26 (BitVec.ofNat 32 (128 * r.val))) a + S128x256.size a ≤ S1280x2048.size a), (Rect.unit (s := S1280x2048) (k0_off248 arg26 (BitVec.ofNat 32 (128 * r.val))) S128x256.size hinb).PackedRows (EltTy.packing .bf16)) ∧
  (∀ (k0_h5 : k0_cond5 arg22 v96 k0_t3 arg26 = 1#1), ∀ a, (k0_off249 arg26) a + S1x128x128.size a ≤ S4x256x1408.size a) ∧
  (∀ (k0_h5 : k0_cond5 arg22 v96 k0_t3 arg26 = 1#1), ∀ (r : Fin 2), ∀ a, (k0_off250 arg26 (BitVec.ofNat 32 r.val)) a + S1x1.size a ≤ S384x11.size a) ∧
  (∀ (k0_h5 : k0_cond5 arg22 v96 k0_t3 arg26 = 1#1), ∀ a, (k0_off251 arg26) a + S1x128x128.size a ≤ S2x256x1408.size a) ∧
  (∀ (k0_h5 : k0_cond5 arg22 v96 k0_t3 arg26 = 1#1), ∀ (hinb : ∀ a, (k0_off251 arg26) a + S1x128x128.size a ≤ S2x256x1408.size a), (Rect.unit (s := S2x256x1408) (k0_off251 arg26) S1x128x128.size hinb).PackedRows (EltTy.packing .fp8e5m2)) ∧
  (∀ (k0_h5 : k0_cond5 arg22 v96 k0_t3 arg26 = 1#1), ∀ (r : Fin 2), ∀ a, (k0_off252 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off252 arg26 (BitVec.ofNat 32 (128 * r.val))) a + S128x128.size a ≤ S1280x1408.size a), (Rect.unit (s := S1280x1408) (k0_off252 arg26 (BitVec.ofNat 32 (128 * r.val))) S128x128.size hinb).PackedRows (EltTy.packing .bf16)) ∧
  (∀ (k0_h5 : k0_cond5 arg22 v96 k0_t3 arg26 = 1#1), 128 ∣ (k0_mult50 arg26).toNat) ∧
  (∀ (k0_h5 : k0_cond5 arg22 v96 k0_t3 arg26 = 1#1), ∀ a, (k0_off253 arg26) a + S1x128x256.size a ≤ S4x256x2048.size a) ∧
  (∀ (k0_h5 : k0_cond5 arg22 v96 k0_t3 arg26 = 1#1), ∀ a, (k0_off254 arg26) a + S1x128x256.size a ≤ S2x256x2048.size a) ∧
  (∀ (k0_h5 : k0_cond5 arg22 v96 k0_t3 arg26 = 1#1), ∀ (hinb : ∀ a, (k0_off254 arg26) a + S1x128x256.size a ≤ S2x256x2048.size a), (Rect.unit (s := S2x256x2048) (k0_off254 arg26) S1x128x256.size hinb).PackedRows (EltTy.packing .fp8e4m3)) ∧
  (∀ (k0_h5 : k0_cond5 arg22 v96 k0_t3 arg26 = 1#1), ∀ a, (k0_off255 arg26) a + S1x128x128.size a ≤ S4x256x1408.size a) ∧
  (∀ (k0_h5 : k0_cond5 arg22 v96 k0_t3 arg26 = 1#1), ∀ a, (k0_off256 arg26) a + S1x128x128.size a ≤ S2x256x1408.size a) ∧
  (∀ (k0_h5 : k0_cond5 arg22 v96 k0_t3 arg26 = 1#1), ∀ (hinb : ∀ a, (k0_off256 arg26) a + S1x128x128.size a ≤ S2x256x1408.size a), (Rect.unit (s := S2x256x1408) (k0_off256 arg26) S1x128x128.size hinb).PackedRows (EltTy.packing .fp8e5m2)) ∧
  (∀ (k0_h5 : k0_cond5 arg22 v96 k0_t3 arg26 = 1#1), ∀ a, (k0_off257 arg22 v96 k0_t3) a + S256x256.size a ≤ S1280x2048.size a) ∧
  (∀ (k0_h5 : k0_cond5 arg22 v96 k0_t3 arg26 = 1#1), ∀ a, (k0_off258 arg23) a + S1x256x1408.size a ≤ S3x2048x1408.size a) ∧
  (∀ (k0_h5 : k0_cond5 arg22 v96 k0_t3 arg26 = 1#1), 256 ∣ (k0_mult51 arg26).toNat) ∧
  (∀ (k0_h5 : k0_cond5 arg22 v96 k0_t3 arg26 = 1#1), 128 ∣ (k0_mult52 arg26).toNat) ∧
  (∀ (k0_h5 : k0_cond5 arg22 v96 k0_t3 arg26 = 1#1), ∀ a, (k0_off259 arg26) a + S1x128x256.size a ≤ S4x256x2048.size a) ∧
  (∀ (k0_h5 : k0_cond5 arg22 v96 k0_t3 arg26 = 1#1), ∀ (r : Fin 2), ∀ a, (k0_off260 arg26 (BitVec.ofNat 32 r.val)) a + S1x256.size a ≤ S384x2048.size a) ∧
  (∀ (k0_h5 : k0_cond5 arg22 v96 k0_t3 arg26 = 1#1), ∀ a, (k0_off261 arg26) a + S1x128x256.size a ≤ S2x256x2048.size a) ∧
  (∀ (k0_h5 : k0_cond5 arg22 v96 k0_t3 arg26 = 1#1), ∀ (hinb : ∀ a, (k0_off261 arg26) a + S1x128x256.size a ≤ S2x256x2048.size a), (Rect.unit (s := S2x256x2048) (k0_off261 arg26) S1x128x256.size hinb).PackedRows (EltTy.packing .fp8e4m3)) ∧
  (∀ (k0_h5 : k0_cond5 arg22 v96 k0_t3 arg26 = 1#1), ∀ (r : Fin 2), ∀ a, (k0_off262 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off262 arg26 (BitVec.ofNat 32 (128 * r.val))) a + S128x256.size a ≤ S1280x2048.size a), (Rect.unit (s := S1280x2048) (k0_off262 arg26 (BitVec.ofNat 32 (128 * r.val))) S128x256.size hinb).PackedRows (EltTy.packing .bf16)) ∧
  (∀ (k0_h5 : k0_cond5 arg22 v96 k0_t3 arg26 = 1#1), ∀ a, (k0_off263 arg26) a + S1x128x128.size a ≤ S4x256x1408.size a) ∧
  (∀ (k0_h5 : k0_cond5 arg22 v96 k0_t3 arg26 = 1#1), ∀ (r : Fin 2), ∀ a, (k0_off264 arg26 (BitVec.ofNat 32 r.val)) a + S1x1.size a ≤ S384x11.size a) ∧
  (∀ (k0_h5 : k0_cond5 arg22 v96 k0_t3 arg26 = 1#1), ∀ a, (k0_off265 arg26) a + S1x128x128.size a ≤ S2x256x1408.size a) ∧
  (∀ (k0_h5 : k0_cond5 arg22 v96 k0_t3 arg26 = 1#1), ∀ (hinb : ∀ a, (k0_off265 arg26) a + S1x128x128.size a ≤ S2x256x1408.size a), (Rect.unit (s := S2x256x1408) (k0_off265 arg26) S1x128x128.size hinb).PackedRows (EltTy.packing .fp8e5m2)) ∧
  (∀ (k0_h5 : k0_cond5 arg22 v96 k0_t3 arg26 = 1#1), ∀ (r : Fin 2), ∀ a, (k0_off266 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off266 arg26 (BitVec.ofNat 32 (128 * r.val))) a + S128x128.size a ≤ S1280x1408.size a), (Rect.unit (s := S1280x1408) (k0_off266 arg26 (BitVec.ofNat 32 (128 * r.val))) S128x128.size hinb).PackedRows (EltTy.packing .bf16))
def k0_chk2_6 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), 128 ∣ (k0_mult53 arg26).toNat) ∧
  (∀ (k0_h5 : k0_cond5 arg22 v96 k0_t3 arg26 = 1#1), ∀ a, (k0_off267 arg26) a + S1x128x256.size a ≤ S4x256x2048.size a) ∧
  (∀ (k0_h5 : k0_cond5 arg22 v96 k0_t3 arg26 = 1#1), ∀ a, (k0_off268 arg26) a + S1x128x256.size a ≤ S2x256x2048.size a) ∧
  (∀ (k0_h5 : k0_cond5 arg22 v96 k0_t3 arg26 = 1#1), ∀ (hinb : ∀ a, (k0_off268 arg26) a + S1x128x256.size a ≤ S2x256x2048.size a), (Rect.unit (s := S2x256x2048) (k0_off268 arg26) S1x128x256.size hinb).PackedRows (EltTy.packing .fp8e4m3)) ∧
  (∀ (k0_h5 : k0_cond5 arg22 v96 k0_t3 arg26 = 1#1), ∀ a, (k0_off269 arg26) a + S1x128x128.size a ≤ S4x256x1408.size a) ∧
  (∀ (k0_h5 : k0_cond5 arg22 v96 k0_t3 arg26 = 1#1), ∀ a, (k0_off270 arg26) a + S1x128x128.size a ≤ S2x256x1408.size a) ∧
  (∀ (k0_h5 : k0_cond5 arg22 v96 k0_t3 arg26 = 1#1), ∀ (hinb : ∀ a, (k0_off270 arg26) a + S1x128x128.size a ≤ S2x256x1408.size a), (Rect.unit (s := S2x256x1408) (k0_off270 arg26) S1x128x128.size hinb).PackedRows (EltTy.packing .fp8e5m2)) ∧
  (∀ (k0_h5 : k0_cond5 arg22 v96 k0_t3 arg26 = 1#1), ∀ a, (k0_off271 arg22 v96 k0_t3) a + S256x256.size a ≤ S1280x2048.size a) ∧
  (∀ (k0_h5 : k0_cond5 arg22 v96 k0_t3 arg26 = 1#1), ∀ a, (k0_off272 arg23) a + S1x256x1408.size a ≤ S3x2048x1408.size a) ∧
  (∀ (k0_h5 : k0_cond5 arg22 v96 k0_t3 arg26 = 1#1), 256 ∣ (k0_mult54 arg26).toNat) ∧
  (∀ (k0_h5 : k0_cond5 arg22 v96 k0_t3 arg26 = 1#1), 128 ∣ (k0_mult55 arg26).toNat) ∧
  (∀ (k0_h5 : k0_cond5 arg22 v96 k0_t3 arg26 = 1#1), ∀ a, (k0_off273 arg26) a + S1x128x256.size a ≤ S4x256x2048.size a) ∧
  (∀ (k0_h5 : k0_cond5 arg22 v96 k0_t3 arg26 = 1#1), ∀ (r : Fin 2), ∀ a, (k0_off274 arg26 (BitVec.ofNat 32 r.val)) a + S1x256.size a ≤ S384x2048.size a) ∧
  (∀ (k0_h5 : k0_cond5 arg22 v96 k0_t3 arg26 = 1#1), ∀ a, (k0_off275 arg26) a + S1x128x256.size a ≤ S2x256x2048.size a) ∧
  (∀ (k0_h5 : k0_cond5 arg22 v96 k0_t3 arg26 = 1#1), ∀ (hinb : ∀ a, (k0_off275 arg26) a + S1x128x256.size a ≤ S2x256x2048.size a), (Rect.unit (s := S2x256x2048) (k0_off275 arg26) S1x128x256.size hinb).PackedRows (EltTy.packing .fp8e4m3)) ∧
  (∀ (k0_h5 : k0_cond5 arg22 v96 k0_t3 arg26 = 1#1), ∀ (r : Fin 2), ∀ a, (k0_off276 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off276 arg26 (BitVec.ofNat 32 (128 * r.val))) a + S128x256.size a ≤ S1280x2048.size a), (Rect.unit (s := S1280x2048) (k0_off276 arg26 (BitVec.ofNat 32 (128 * r.val))) S128x256.size hinb).PackedRows (EltTy.packing .bf16)) ∧
  (∀ (k0_h5 : k0_cond5 arg22 v96 k0_t3 arg26 = 1#1), ∀ a, (k0_off277 arg26) a + S1x128x128.size a ≤ S4x256x1408.size a) ∧
  (∀ (k0_h5 : k0_cond5 arg22 v96 k0_t3 arg26 = 1#1), ∀ (r : Fin 2), ∀ a, (k0_off278 arg26 (BitVec.ofNat 32 r.val)) a + S1x1.size a ≤ S384x11.size a) ∧
  (∀ (k0_h5 : k0_cond5 arg22 v96 k0_t3 arg26 = 1#1), ∀ a, (k0_off279 arg26) a + S1x128x128.size a ≤ S2x256x1408.size a) ∧
  (∀ (k0_h5 : k0_cond5 arg22 v96 k0_t3 arg26 = 1#1), ∀ (hinb : ∀ a, (k0_off279 arg26) a + S1x128x128.size a ≤ S2x256x1408.size a), (Rect.unit (s := S2x256x1408) (k0_off279 arg26) S1x128x128.size hinb).PackedRows (EltTy.packing .fp8e5m2)) ∧
  (∀ (k0_h5 : k0_cond5 arg22 v96 k0_t3 arg26 = 1#1), ∀ (r : Fin 2), ∀ a, (k0_off280 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off280 arg26 (BitVec.ofNat 32 (128 * r.val))) a + S128x128.size a ≤ S1280x1408.size a), (Rect.unit (s := S1280x1408) (k0_off280 arg26 (BitVec.ofNat 32 (128 * r.val))) S128x128.size hinb).PackedRows (EltTy.packing .bf16)) ∧
  (∀ (k0_h5 : k0_cond5 arg22 v96 k0_t3 arg26 = 1#1), 128 ∣ (k0_mult56 arg26).toNat) ∧
  (∀ (k0_h5 : k0_cond5 arg22 v96 k0_t3 arg26 = 1#1), ∀ a, (k0_off281 arg26) a + S1x128x256.size a ≤ S4x256x2048.size a) ∧
  (∀ (k0_h5 : k0_cond5 arg22 v96 k0_t3 arg26 = 1#1), ∀ a, (k0_off282 arg26) a + S1x128x256.size a ≤ S2x256x2048.size a) ∧
  (∀ (k0_h5 : k0_cond5 arg22 v96 k0_t3 arg26 = 1#1), ∀ (hinb : ∀ a, (k0_off282 arg26) a + S1x128x256.size a ≤ S2x256x2048.size a), (Rect.unit (s := S2x256x2048) (k0_off282 arg26) S1x128x256.size hinb).PackedRows (EltTy.packing .fp8e4m3)) ∧
  (∀ (k0_h5 : k0_cond5 arg22 v96 k0_t3 arg26 = 1#1), ∀ a, (k0_off283 arg26) a + S1x128x128.size a ≤ S4x256x1408.size a) ∧
  (∀ (k0_h5 : k0_cond5 arg22 v96 k0_t3 arg26 = 1#1), ∀ a, (k0_off284 arg26) a + S1x128x128.size a ≤ S2x256x1408.size a) ∧
  (∀ (k0_h5 : k0_cond5 arg22 v96 k0_t3 arg26 = 1#1), ∀ (hinb : ∀ a, (k0_off284 arg26) a + S1x128x128.size a ≤ S2x256x1408.size a), (Rect.unit (s := S2x256x1408) (k0_off284 arg26) S1x128x128.size hinb).PackedRows (EltTy.packing .fp8e5m2)) ∧
  (∀ (k0_h5 : k0_cond5 arg22 v96 k0_t3 arg26 = 1#1), ∀ a, (k0_off285 arg22 v96 k0_t3) a + S256x256.size a ≤ S1280x2048.size a) ∧
  (∀ (k0_h5 : k0_cond5 arg22 v96 k0_t3 arg26 = 1#1), ∀ a, (k0_off286 arg23) a + S1x256x1408.size a ≤ S3x2048x1408.size a)
def k0_chk2_7 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), 256 ∣ (k0_mult57 arg26).toNat) ∧
  (∀ (k0_h5 : k0_cond5 arg22 v96 k0_t3 arg26 = 1#1), 128 ∣ (k0_mult58 arg26).toNat) ∧
  (∀ (k0_h5 : k0_cond5 arg22 v96 k0_t3 arg26 = 1#1), ∀ a, (k0_off287 arg26) a + S1x128x256.size a ≤ S4x256x2048.size a) ∧
  (∀ (k0_h5 : k0_cond5 arg22 v96 k0_t3 arg26 = 1#1), ∀ (r : Fin 2), ∀ a, (k0_off288 arg26 (BitVec.ofNat 32 r.val)) a + S1x256.size a ≤ S384x2048.size a) ∧
  (∀ (k0_h5 : k0_cond5 arg22 v96 k0_t3 arg26 = 1#1), ∀ a, (k0_off289 arg26) a + S1x128x256.size a ≤ S2x256x2048.size a) ∧
  (∀ (k0_h5 : k0_cond5 arg22 v96 k0_t3 arg26 = 1#1), ∀ (hinb : ∀ a, (k0_off289 arg26) a + S1x128x256.size a ≤ S2x256x2048.size a), (Rect.unit (s := S2x256x2048) (k0_off289 arg26) S1x128x256.size hinb).PackedRows (EltTy.packing .fp8e4m3)) ∧
  (∀ (k0_h5 : k0_cond5 arg22 v96 k0_t3 arg26 = 1#1), ∀ (r : Fin 2), ∀ a, (k0_off290 arg26 (BitVec.ofNat 32 (128 * r.val))) a + S128x256.size a ≤ S1280x2048.size a) ∧
  (∀ (k0_h5 : k0_cond5 arg22 v96 k0_t3 arg26 = 1#1), ∀ (r : Fin 2), ∀ (hinb : ∀ a, (k0_off290 arg26 (BitVec.ofNat 32 (128 * r.val))) a + S128x256.size a ≤ S1280x2048.size a), (Rect.unit (s := S1280x2048) (k0_off290 arg26 (BitVec.ofNat 32 (128 * r.val))) S128x256.size hinb).PackedRows (EltTy.packing .bf16)) ∧
  (∀ (k0_h5 : k0_cond5 arg22 v96 k0_t3 arg26 = 1#1), ∀ a, (k0_off291 arg26) a + S1x128x128.size a ≤ S4x256x1408.size a) ∧
  (∀ (k0_h5 : k0_cond5 arg22 v96 k0_t3 arg26 = 1#1), ∀ (r : Fin 2), ∀ a, (k0_off292 arg26 (BitVec.ofNat 32 r.val)) a + S1x1.size a ≤ S384x11.size a) ∧
  (∀ (k0_h5 : k0_cond5 arg22 v96 k0_t3 arg26 = 1#1), ∀ a, (k0_off293 arg26) a + S1x128x128.size a ≤ S2x256x1408.size a) ∧
  (∀ (k0_h5 : k0_cond5 arg22 v96 k0_t3 arg26 = 1#1), ∀ (hinb : ∀ a, (k0_off293 arg26) a + S1x128x128.size a ≤ S2x256x1408.size a), (Rect.unit (s := S2x256x1408) (k0_off293 arg26) S1x128x128.size hinb).PackedRows (EltTy.packing .fp8e5m2)) ∧
  (∀ (k0_h5 : k0_cond5 arg22 v96 k0_t3 arg26 = 1#1), ∀ (r : Fin 2), ∀ a, (k0_off294 arg26 (BitVec.ofNat 32 (128 * r.val))) a + S128x128.size a ≤ S1280x1408.size a) ∧
  (∀ (k0_h5 : k0_cond5 arg22 v96 k0_t3 arg26 = 1#1), ∀ (r : Fin 2), ∀ (hinb : ∀ a, (k0_off294 arg26 (BitVec.ofNat 32 (128 * r.val))) a + S128x128.size a ≤ S1280x1408.size a), (Rect.unit (s := S1280x1408) (k0_off294 arg26 (BitVec.ofNat 32 (128 * r.val))) S128x128.size hinb).PackedRows (EltTy.packing .bf16)) ∧
  (∀ (k0_h5 : k0_cond5 arg22 v96 k0_t3 arg26 = 1#1), 128 ∣ (k0_mult59 arg26).toNat) ∧
  (∀ (k0_h5 : k0_cond5 arg22 v96 k0_t3 arg26 = 1#1), ∀ a, (k0_off295 arg26) a + S1x128x256.size a ≤ S4x256x2048.size a) ∧
  (∀ (k0_h5 : k0_cond5 arg22 v96 k0_t3 arg26 = 1#1), ∀ a, (k0_off296 arg26) a + S1x128x256.size a ≤ S2x256x2048.size a) ∧
  (∀ (k0_h5 : k0_cond5 arg22 v96 k0_t3 arg26 = 1#1), ∀ (hinb : ∀ a, (k0_off296 arg26) a + S1x128x256.size a ≤ S2x256x2048.size a), (Rect.unit (s := S2x256x2048) (k0_off296 arg26) S1x128x256.size hinb).PackedRows (EltTy.packing .fp8e4m3)) ∧
  (∀ (k0_h5 : k0_cond5 arg22 v96 k0_t3 arg26 = 1#1), ∀ a, (k0_off297 arg26) a + S1x128x128.size a ≤ S4x256x1408.size a) ∧
  (∀ (k0_h5 : k0_cond5 arg22 v96 k0_t3 arg26 = 1#1), ∀ a, (k0_off298 arg26) a + S1x128x128.size a ≤ S2x256x1408.size a) ∧
  (∀ (k0_h5 : k0_cond5 arg22 v96 k0_t3 arg26 = 1#1), ∀ (hinb : ∀ a, (k0_off298 arg26) a + S1x128x128.size a ≤ S2x256x1408.size a), (Rect.unit (s := S2x256x1408) (k0_off298 arg26) S1x128x128.size hinb).PackedRows (EltTy.packing .fp8e5m2)) ∧
  (∀ (k0_h5 : k0_cond5 arg22 v96 k0_t3 arg26 = 1#1), 256 ∣ (k0_mult60 arg26).toNat) ∧
  (∀ (k0_h5 : k0_cond5 arg22 v96 k0_t3 arg26 = 1#1), ∀ a, (k0_off299 arg26) a + S1x1.size a ≤ S2x2.size a) ∧
  (∀ (k0_h5 : k0_cond5 arg22 v96 k0_t3 arg26 = 1#1), ∀ a, (k0_off300 arg26) a + S1x256x2048.size a ≤ S2x256x2048.size a) ∧
  (∀ (k0_h5 : k0_cond5 arg22 v96 k0_t3 arg26 = 1#1), ∀ (hinb : ∀ a, (k0_off300 arg26) a + S1x256x2048.size a ≤ S2x256x2048.size a), (Rect.unit (s := S2x256x2048) (k0_off300 arg26) S1x256x2048.size hinb).WholeWords (EltTy.packing .fp8e4m3)) ∧
  (∀ (k0_h5 : k0_cond5 arg22 v96 k0_t3 arg26 = 1#1), ∀ (hinb : ∀ a, (k0_off148 arg26) a + S256x2048.size a ≤ S49152x2048.size a), (Rect.unit (s := S49152x2048) (k0_off148 arg26) S256x2048.size hinb).WholeWords (EltTy.packing .fp8e4m3)) ∧
  (∀ (k0_h5 : k0_cond5 arg22 v96 k0_t3 arg26 = 1#1), ∀ a, (k0_off301 arg26) a + S1x1.size a ≤ S2x2.size a) ∧
  (∀ (k0_h5 : k0_cond5 arg22 v96 k0_t3 arg26 = 1#1), ∀ a, (k0_off302 arg26) a + S1x256x1408.size a ≤ S2x256x1408.size a) ∧
  (∀ (k0_h5 : k0_cond5 arg22 v96 k0_t3 arg26 = 1#1), ∀ (hinb : ∀ a, (k0_off302 arg26) a + S1x256x1408.size a ≤ S2x256x1408.size a), (Rect.unit (s := S2x256x1408) (k0_off302 arg26) S1x256x1408.size hinb).WholeWords (EltTy.packing .fp8e5m2)) ∧
  (∀ (k0_h5 : k0_cond5 arg22 v96 k0_t3 arg26 = 1#1), ∀ (hinb : ∀ a, (k0_off151 arg26) a + S256x1408.size a ≤ S49152x1408.size a), (Rect.unit (s := S49152x1408) (k0_off151 arg26) S256x1408.size hinb).WholeWords (EltTy.packing .fp8e5m2)) ∧
  (∀ (k0_h5 : k0_cond5 arg22 v96 k0_t3 arg26 = 1#1), ∀ (k0_h7 : k0_cond7 arg26 = 1#1), 256 ∣ (k0_mult61 arg26).toNat) ∧
  (∀ (k0_h5 : k0_cond5 arg22 v96 k0_t3 arg26 = 1#1), ∀ (k0_h7 : k0_cond7 arg26 = 1#1), ∀ a, (k0_off303 arg26) a + S1x1.size a ≤ S2x4.size a)
def k0_chk2_8 (arg22 : BitVec 32) (arg23 : BitVec 32) (v96 : BitVec 32) (k0_t3 : Fin (k0_t3_loop arg22 v96).trips) (arg26 : BitVec 32) : Prop :=
  (∀ (k0_h5 : k0_cond5 arg22 v96 k0_t3 arg26 = 1#1), ∀ (k0_h7 : k0_cond7 arg26 = 1#1), ∀ a, (k0_off304 arg26) a + S1x256x2048.size a ≤ S4x256x2048.size a) ∧
  (∀ (k0_h5 : k0_cond5 arg22 v96 k0_t3 arg26 = 1#1), ∀ (k0_h7 : k0_cond7 arg26 = 1#1), ∀ a, (k0_off305 arg26) a + S256x2048.size a ≤ S49152x2048.size a) ∧
  (∀ (k0_h5 : k0_cond5 arg22 v96 k0_t3 arg26 = 1#1), ∀ (k0_h7 : k0_cond7 arg26 = 1#1), ∀ (hinb : ∀ a, (k0_off305 arg26) a + S256x2048.size a ≤ S49152x2048.size a), (Rect.unit (s := S49152x2048) (k0_off305 arg26) S256x2048.size hinb).WholeWords (EltTy.packing .bf16)) ∧
  (∀ (k0_h5 : k0_cond5 arg22 v96 k0_t3 arg26 = 1#1), ∀ (k0_h7 : k0_cond7 arg26 = 1#1), ∀ (hinb : ∀ a, (k0_off304 arg26) a + S1x256x2048.size a ≤ S4x256x2048.size a), (Rect.unit (s := S4x256x2048) (k0_off304 arg26) S1x256x2048.size hinb).WholeWords (EltTy.packing .bf16)) ∧
  (∀ (k0_h5 : k0_cond5 arg22 v96 k0_t3 arg26 = 1#1), ∀ (k0_h7 : k0_cond7 arg26 = 1#1), ∀ a, (k0_off306 arg26) a + S1x1.size a ≤ S2x4.size a) ∧
  (∀ (k0_h5 : k0_cond5 arg22 v96 k0_t3 arg26 = 1#1), ∀ (k0_h7 : k0_cond7 arg26 = 1#1), ∀ a, (k0_off307 arg26) a + S1x256x1408.size a ≤ S4x256x1408.size a) ∧
  (∀ (k0_h5 : k0_cond5 arg22 v96 k0_t3 arg26 = 1#1), ∀ (k0_h7 : k0_cond7 arg26 = 1#1), ∀ a, (k0_off308 arg26) a + S256x1408.size a ≤ S49152x1408.size a) ∧
  (∀ (k0_h5 : k0_cond5 arg22 v96 k0_t3 arg26 = 1#1), ∀ (k0_h7 : k0_cond7 arg26 = 1#1), ∀ (hinb : ∀ a, (k0_off308 arg26) a + S256x1408.size a ≤ S49152x1408.size a), (Rect.unit (s := S49152x1408) (k0_off308 arg26) S256x1408.size hinb).WholeWords (EltTy.packing .bf16)) ∧
  (∀ (k0_h5 : k0_cond5 arg22 v96 k0_t3 arg26 = 1#1), ∀ (k0_h7 : k0_cond7 arg26 = 1#1), ∀ (hinb : ∀ a, (k0_off307 arg26) a + S1x256x1408.size a ≤ S4x256x1408.size a), (Rect.unit (s := S4x256x1408) (k0_off307 arg26) S1x256x1408.size hinb).WholeWords (EltTy.packing .bf16)) ∧
  (∀ (k0_h9 : k0_cond9 arg22 v96 k0_t3 arg26 = 1#1), 16 ∣ (k0_mult62 arg22 v96 k0_t3).toNat) ∧
  (∀ (k0_h9 : k0_cond9 arg22 v96 k0_t3 arg26 = 1#1), ∀ a, (k0_off309 arg22 v96 k0_t3) a + S256x128.size a ≤ S1280x1408.size a) ∧
  (∀ (k0_h9 : k0_cond9 arg22 v96 k0_t3 arg26 = 1#1), ∀ a, (k0_off310 arg22 v96 k0_t3) a + S256x128.size a ≤ S1280x1408.size a) ∧
  (∀ (k0_h9 : k0_cond9 arg22 v96 k0_t3 arg26 = 1#1), ∀ a, (k0_off311 arg22 v96 k0_t3) a + S256x128.size a ≤ S1280x1408.size a) ∧
  (∀ (k0_h9 : k0_cond9 arg22 v96 k0_t3 arg26 = 1#1), ∀ a, (k0_off312 arg22 v96 k0_t3) a + S256x128.size a ≤ S1280x1408.size a) ∧
  (∀ (k0_h9 : k0_cond9 arg22 v96 k0_t3 arg26 = 1#1), ∀ a, (k0_off313 arg22 v96 k0_t3) a + S256x128.size a ≤ S1280x1408.size a) ∧
  (∀ (k0_h9 : k0_cond9 arg22 v96 k0_t3 arg26 = 1#1), ∀ a, (k0_off314 arg22 v96 k0_t3) a + S256x128.size a ≤ S1280x1408.size a) ∧
  (∀ (k0_h9 : k0_cond9 arg22 v96 k0_t3 arg26 = 1#1), ∀ a, (k0_off315 arg22 v96 k0_t3) a + S256x128.size a ≤ S1280x1408.size a) ∧
  (∀ (k0_h9 : k0_cond9 arg22 v96 k0_t3 arg26 = 1#1), ∀ a, (k0_off316 arg22 v96 k0_t3) a + S256x128.size a ≤ S1280x1408.size a) ∧
  (∀ (k0_h9 : k0_cond9 arg22 v96 k0_t3 arg26 = 1#1), ∀ a, (k0_off317 arg22 v96 k0_t3) a + S256x128.size a ≤ S1280x1408.size a) ∧
  (∀ (k0_h9 : k0_cond9 arg22 v96 k0_t3 arg26 = 1#1), ∀ a, (k0_off318 arg22 v96 k0_t3) a + S256x128.size a ≤ S1280x1408.size a) ∧
  (∀ (k0_h9 : k0_cond9 arg22 v96 k0_t3 arg26 = 1#1), ∀ a, (k0_off319 arg22 v96 k0_t3) a + S256x128.size a ≤ S1280x1408.size a) ∧
  (∀ (k0_h9 : k0_cond9 arg22 v96 k0_t3 arg26 = 1#1), ∀ a, (k0_off320 arg22 v96 k0_t3) a + S256x256.size a ≤ S1280x2048.size a) ∧
  (∀ (k0_h9 : k0_cond9 arg22 v96 k0_t3 arg26 = 1#1), ∀ a, (k0_off321 arg23) a + S1x256x1408.size a ≤ S3x2048x1408.size a) ∧
  (∀ (k0_h9 : k0_cond9 arg22 v96 k0_t3 arg26 = 1#1), ∀ a, (k0_off322 arg22 v96 k0_t3) a + S256x256.size a ≤ S1280x2048.size a) ∧
  (∀ (k0_h9 : k0_cond9 arg22 v96 k0_t3 arg26 = 1#1), ∀ a, (k0_off323 arg23) a + S1x256x1408.size a ≤ S3x2048x1408.size a) ∧
  (∀ (k0_h9 : k0_cond9 arg22 v96 k0_t3 arg26 = 1#1), ∀ a, (k0_off324 arg22 v96 k0_t3) a + S256x256.size a ≤ S1280x2048.size a) ∧
  (∀ (k0_h9 : k0_cond9 arg22 v96 k0_t3 arg26 = 1#1), ∀ a, (k0_off325 arg23) a + S1x256x1408.size a ≤ S3x2048x1408.size a) ∧
  (∀ (k0_h9 : k0_cond9 arg22 v96 k0_t3 arg26 = 1#1), ∀ a, (k0_off326 arg22 v96 k0_t3) a + S256x256.size a ≤ S1280x2048.size a) ∧
  (∀ (k0_h9 : k0_cond9 arg22 v96 k0_t3 arg26 = 1#1), ∀ a, (k0_off327 arg23) a + S1x256x1408.size a ≤ S3x2048x1408.size a) ∧
  (∀ (k0_h9 : k0_cond9 arg22 v96 k0_t3 arg26 = 1#1), ∀ a, (k0_off328 arg22 v96 k0_t3) a + S256x256.size a ≤ S1280x2048.size a) ∧
  (∀ (k0_h9 : k0_cond9 arg22 v96 k0_t3 arg26 = 1#1), ∀ a, (k0_off329 arg23) a + S1x256x1408.size a ≤ S3x2048x1408.size a) ∧
  (∀ (k0_h9 : k0_cond9 arg22 v96 k0_t3 arg26 = 1#1), ∀ a, (k0_off330 arg22 v96 k0_t3) a + S256x256.size a ≤ S1280x2048.size a)
def k0_chk2_9 (arg22 : BitVec 32) (arg23 : BitVec 32) (v96 : BitVec 32) (k0_t3 : Fin (k0_t3_loop arg22 v96).trips) (arg26 : BitVec 32) : Prop :=
  (∀ (k0_h9 : k0_cond9 arg22 v96 k0_t3 arg26 = 1#1), ∀ a, (k0_off331 arg23) a + S1x256x1408.size a ≤ S3x2048x1408.size a) ∧
  (∀ (k0_h9 : k0_cond9 arg22 v96 k0_t3 arg26 = 1#1), ∀ a, (k0_off332 arg22 v96 k0_t3) a + S256x256.size a ≤ S1280x2048.size a) ∧
  (∀ (k0_h9 : k0_cond9 arg22 v96 k0_t3 arg26 = 1#1), ∀ a, (k0_off333 arg23) a + S1x256x1408.size a ≤ S3x2048x1408.size a) ∧
  (∀ (k0_h9 : k0_cond9 arg22 v96 k0_t3 arg26 = 1#1), ∀ a, (k0_off334 arg22 v96 k0_t3) a + S256x256.size a ≤ S1280x2048.size a) ∧
  (∀ (k0_h9 : k0_cond9 arg22 v96 k0_t3 arg26 = 1#1), ∀ a, (k0_off335 arg23) a + S1x256x1408.size a ≤ S3x2048x1408.size a)
def k0_chk2 (arg22 : BitVec 32) (arg23 : BitVec 32) (v96 : BitVec 32) (k0_t3 : Fin (k0_t3_loop arg22 v96).trips) (arg26 : BitVec 32) : Prop :=
  k0_chk2_0 arg22 arg23 v96 k0_t3 arg26 ∧
  k0_chk2_1 arg22 arg23 v96 k0_t3 arg26 ∧
  k0_chk2_2 arg22 arg23 v96 k0_t3 arg26 ∧
  k0_chk2_3 arg22 arg23 v96 k0_t3 arg26 ∧
  k0_chk2_4 arg22 arg23 v96 k0_t3 arg26 ∧
  k0_chk2_5 arg22 arg23 v96 k0_t3 arg26 ∧
  k0_chk2_6 arg22 arg23 v96 k0_t3 arg26 ∧
  k0_chk2_7 arg22 arg23 v96 k0_t3 arg26 ∧
  k0_chk2_8 arg22 arg23 v96 k0_t3 arg26 ∧
  k0_chk2_9 arg22 arg23 v96 k0_t3 arg26
theorem k0_mult33_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult33 arg26).toNat := fun arg22 arg23 v96 k0_t3 arg26 k0_hw2 k0_h5 => k0_hw2.1.1 k0_h5
theorem k0_off146_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off146 arg26) a + S1x1.size a ≤ S2x4.size a := fun arg22 arg23 v96 k0_t3 arg26 k0_hw2 k0_h5 => k0_hw2.1.2.1 k0_h5
theorem k0_off147_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off147 arg26) a + S1x256x2048.size a ≤ S4x256x2048.size a := fun arg22 arg23 v96 k0_t3 arg26 k0_hw2 k0_h5 => k0_hw2.1.2.2.1 k0_h5
theorem k0_off148_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off148 arg26) a + S256x2048.size a ≤ S49152x2048.size a := fun arg22 arg23 v96 k0_t3 arg26 k0_hw2 k0_h5 => k0_hw2.1.2.2.2.1 k0_h5
theorem k0_off148_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S49152x2048) (k0_off148 arg26) S256x2048.size (k0_off148_inb arg22 arg23 v96 k0_t3 arg26 k0_hw2 k0_h5)).WholeWords (EltTy.packing .bf16) := fun arg22 arg23 v96 k0_t3 arg26 k0_hw2 k0_h5 => k0_hw2.1.2.2.2.2.1 k0_h5 (k0_off148_inb arg22 arg23 v96 k0_t3 arg26 k0_hw2 k0_h5)
theorem k0_off147_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S4x256x2048) (k0_off147 arg26) S1x256x2048.size (k0_off147_inb arg22 arg23 v96 k0_t3 arg26 k0_hw2 k0_h5)).WholeWords (EltTy.packing .bf16) := fun arg22 arg23 v96 k0_t3 arg26 k0_hw2 k0_h5 => k0_hw2.1.2.2.2.2.2.1 k0_h5 (k0_off147_inb arg22 arg23 v96 k0_t3 arg26 k0_hw2 k0_h5)
theorem k0_off149_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off149 arg26) a + S1x1.size a ≤ S2x4.size a := fun arg22 arg23 v96 k0_t3 arg26 k0_hw2 k0_h5 => k0_hw2.1.2.2.2.2.2.2.1 k0_h5
theorem k0_off150_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off150 arg26) a + S1x256x1408.size a ≤ S4x256x1408.size a := fun arg22 arg23 v96 k0_t3 arg26 k0_hw2 k0_h5 => k0_hw2.1.2.2.2.2.2.2.2.1 k0_h5
theorem k0_off151_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off151 arg26) a + S256x1408.size a ≤ S49152x1408.size a := fun arg22 arg23 v96 k0_t3 arg26 k0_hw2 k0_h5 => k0_hw2.1.2.2.2.2.2.2.2.2.1 k0_h5
theorem k0_off151_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S49152x1408) (k0_off151 arg26) S256x1408.size (k0_off151_inb arg22 arg23 v96 k0_t3 arg26 k0_hw2 k0_h5)).WholeWords (EltTy.packing .bf16) := fun arg22 arg23 v96 k0_t3 arg26 k0_hw2 k0_h5 => k0_hw2.1.2.2.2.2.2.2.2.2.2.1 k0_h5 (k0_off151_inb arg22 arg23 v96 k0_t3 arg26 k0_hw2 k0_h5)
theorem k0_off150_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S4x256x1408) (k0_off150 arg26) S1x256x1408.size (k0_off150_inb arg22 arg23 v96 k0_t3 arg26 k0_hw2 k0_h5)).WholeWords (EltTy.packing .bf16) := fun arg22 arg23 v96 k0_t3 arg26 k0_hw2 k0_h5 => k0_hw2.1.2.2.2.2.2.2.2.2.2.2.1 k0_h5 (k0_off150_inb arg22 arg23 v96 k0_t3 arg26 k0_hw2 k0_h5)
theorem k0_mult34_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), 256 ∣ (k0_mult34 arg26).toNat := fun arg22 arg23 v96 k0_t3 arg26 k0_hw2 k0_h5 k0_h6 => k0_hw2.1.2.2.2.2.2.2.2.2.2.2.2.1 k0_h5 k0_h6
theorem k0_off152_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off152 arg26) a + S1x1.size a ≤ S2x2.size a := fun arg22 arg23 v96 k0_t3 arg26 k0_hw2 k0_h5 k0_h6 => k0_hw2.1.2.2.2.2.2.2.2.2.2.2.2.2.1 k0_h5 k0_h6
theorem k0_off153_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off153 arg26) a + S256x2048.size a ≤ S49152x2048.size a := fun arg22 arg23 v96 k0_t3 arg26 k0_hw2 k0_h5 k0_h6 => k0_hw2.1.2.2.2.2.2.2.2.2.2.2.2.2.2.1 k0_h5 k0_h6
theorem k0_off154_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off154 arg26) a + S1x256x2048.size a ≤ S2x256x2048.size a := fun arg22 arg23 v96 k0_t3 arg26 k0_hw2 k0_h5 k0_h6 => k0_hw2.1.2.2.2.2.2.2.2.2.2.2.2.2.2.2.1 k0_h5 k0_h6
theorem k0_off154_wordsfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), (Rect.unit (s := S2x256x2048) (k0_off154 arg26) S1x256x2048.size (k0_off154_inb arg22 arg23 v96 k0_t3 arg26 k0_hw2 k0_h5 k0_h6)).WholeWords (EltTy.packing .fp8e4m3) := fun arg22 arg23 v96 k0_t3 arg26 k0_hw2 k0_h5 k0_h6 => k0_hw2.1.2.2.2.2.2.2.2.2.2.2.2.2.2.2.2.1 k0_h5 k0_h6 (k0_off154_inb arg22 arg23 v96 k0_t3 arg26 k0_hw2 k0_h5 k0_h6)
theorem k0_off153_wordsfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), (Rect.unit (s := S49152x2048) (k0_off153 arg26) S256x2048.size (k0_off153_inb arg22 arg23 v96 k0_t3 arg26 k0_hw2 k0_h5 k0_h6)).WholeWords (EltTy.packing .fp8e4m3) := fun arg22 arg23 v96 k0_t3 arg26 k0_hw2 k0_h5 k0_h6 => k0_hw2.1.2.2.2.2.2.2.2.2.2.2.2.2.2.2.2.2.1 k0_h5 k0_h6 (k0_off153_inb arg22 arg23 v96 k0_t3 arg26 k0_hw2 k0_h5 k0_h6)
theorem k0_off155_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off155 arg26) a + S1x1.size a ≤ S2x2.size a := fun arg22 arg23 v96 k0_t3 arg26 k0_hw2 k0_h5 k0_h6 => k0_hw2.1.2.2.2.2.2.2.2.2.2.2.2.2.2.2.2.2.2.1 k0_h5 k0_h6
theorem k0_off156_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off156 arg26) a + S256x1408.size a ≤ S49152x1408.size a := fun arg22 arg23 v96 k0_t3 arg26 k0_hw2 k0_h5 k0_h6 => k0_hw2.1.2.2.2.2.2.2.2.2.2.2.2.2.2.2.2.2.2.2.1 k0_h5 k0_h6
theorem k0_off157_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), ∀ a, (k0_off157 arg26) a + S1x256x1408.size a ≤ S2x256x1408.size a := fun arg22 arg23 v96 k0_t3 arg26 k0_hw2 k0_h5 k0_h6 => k0_hw2.1.2.2.2.2.2.2.2.2.2.2.2.2.2.2.2.2.2.2.2.1 k0_h5 k0_h6
theorem k0_off157_wordsfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), (Rect.unit (s := S2x256x1408) (k0_off157 arg26) S1x256x1408.size (k0_off157_inb arg22 arg23 v96 k0_t3 arg26 k0_hw2 k0_h5 k0_h6)).WholeWords (EltTy.packing .fp8e5m2) := fun arg22 arg23 v96 k0_t3 arg26 k0_hw2 k0_h5 k0_h6 => k0_hw2.1.2.2.2.2.2.2.2.2.2.2.2.2.2.2.2.2.2.2.2.2.1 k0_h5 k0_h6 (k0_off157_inb arg22 arg23 v96 k0_t3 arg26 k0_hw2 k0_h5 k0_h6)
theorem k0_off156_wordsfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h6 : k0_cond6 arg26 = 1#1), (Rect.unit (s := S49152x1408) (k0_off156 arg26) S256x1408.size (k0_off156_inb arg22 arg23 v96 k0_t3 arg26 k0_hw2 k0_h5 k0_h6)).WholeWords (EltTy.packing .fp8e5m2) := fun arg22 arg23 v96 k0_t3 arg26 k0_hw2 k0_h5 k0_h6 => k0_hw2.1.2.2.2.2.2.2.2.2.2.2.2.2.2.2.2.2.2.2.2.2.2.1 k0_h5 k0_h6 (k0_off156_inb arg22 arg23 v96 k0_t3 arg26 k0_hw2 k0_h5 k0_h6)
theorem k0_mult35_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 16 ∣ (k0_mult35 arg22 v96 k0_t3).toNat := fun arg22 arg23 v96 k0_t3 arg26 k0_hw2 k0_h5 => k0_hw2.1.2.2.2.2.2.2.2.2.2.2.2.2.2.2.2.2.2.2.2.2.2.2.1 k0_h5
theorem k0_off158_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off158 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.1 k0_h5
theorem k0_off159_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off159 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.1 k0_h5
theorem k0_off160_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off160 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.1 k0_h5
theorem k0_off161_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off161 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.1 k0_h5
theorem k0_off162_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off162 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.2.1 k0_h5
theorem k0_off163_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off163 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.2.2.1 k0_h5
theorem k0_off164_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off164 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.2.2.2.1 k0_h5
theorem k0_off165_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off165 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.2.2.2.2.1 k0_h5
theorem k0_off166_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off166 arg22 v96 k0_t3) a + S256x128.size a ≤ S1280x1408.size a := fun arg22 arg23 v96 k0_t3 arg26 k0_hw2 k0_h5 => k0_hw2.1.2.2.2.2.2.2.2.2.2.2.2.2.2.2.2.2.2.2.2.2.2.2.2.2.2.2.2.2.2.2.2 k0_h5
theorem k0_off167_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off167 arg22 v96 k0_t3) a + S256x128.size a ≤ S1280x1408.size a := fun arg22 arg23 v96 k0_t3 arg26 k0_hw2 k0_h5 => k0_hw2.2.1.1 k0_h5
theorem k0_off168_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off168 arg22 v96 k0_t3) a + S256x128.size a ≤ S1280x1408.size a := fun arg22 arg23 v96 k0_t3 arg26 k0_hw2 k0_h5 => k0_hw2.2.1.2.1 k0_h5
theorem k0_off169_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off169 arg22 v96 k0_t3) a + S256x256.size a ≤ S1280x2048.size a := fun arg22 arg23 v96 k0_t3 arg26 k0_hw2 k0_h5 => k0_hw2.2.1.2.2.1 k0_h5
theorem k0_off170_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off170 arg23) a + S1x256x1408.size a ≤ S3x2048x1408.size a := fun arg22 arg23 v96 k0_t3 arg26 k0_hw2 k0_h5 => k0_hw2.2.1.2.2.2.1 k0_h5
theorem k0_mult36_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult36 arg26).toNat := fun arg22 arg23 v96 k0_t3 arg26 k0_hw2 k0_h5 => k0_hw2.2.1.2.2.2.2.1 k0_h5
theorem k0_mult37_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult37 arg26).toNat := fun arg22 arg23 v96 k0_t3 arg26 k0_hw2 k0_h5 => k0_hw2.2.1.2.2.2.2.2.1 k0_h5
theorem k0_off171_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off171 arg26) a + S1x128x256.size a ≤ S4x256x2048.size a := fun arg22 arg23 v96 k0_t3 arg26 k0_hw2 k0_h5 => k0_hw2.2.1.2.2.2.2.2.2.1 k0_h5
theorem k0_off172_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off172 arg26 (BitVec.ofNat 32 r.val)) a + S1x256.size a ≤ S384x2048.size a := fun arg22 arg23 v96 k0_t3 arg26 k0_hw2 k0_h5 r => k0_hw2.2.1.2.2.2.2.2.2.2.1 k0_h5 r
theorem k0_off173_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off173 arg26) a + S1x128x256.size a ≤ S2x256x2048.size a := fun arg22 arg23 v96 k0_t3 arg26 k0_hw2 k0_h5 => k0_hw2.2.1.2.2.2.2.2.2.2.2.1 k0_h5
theorem k0_off173_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off173 arg26) S1x128x256.size (k0_off173_inb arg22 arg23 v96 k0_t3 arg26 k0_hw2 k0_h5)).PackedRows (EltTy.packing .fp8e4m3) := fun arg22 arg23 v96 k0_t3 arg26 k0_hw2 k0_h5 => k0_hw2.2.1.2.2.2.2.2.2.2.2.2.1 k0_h5 (k0_off173_inb arg22 arg23 v96 k0_t3 arg26 k0_hw2 k0_h5)
theorem k0_off174_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off174 arg26 (BitVec.ofNat 32 (128 * r.val))) a + S128x256.size a ≤ S1280x2048.size a := fun arg22 arg23 v96 k0_t3 arg26 k0_hw2 k0_h5 r => k0_hw2.2.1.2.2.2.2.2.2.2.2.2.2.1 k0_h5 r
theorem k0_off174_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off174 arg26 (BitVec.ofNat 32 (128 * r.val))) S128x256.size (k0_off174_inb arg22 arg23 v96 k0_t3 arg26 k0_hw2 k0_h5 r)).PackedRows (EltTy.packing .bf16) := fun arg22 arg23 v96 k0_t3 arg26 k0_hw2 k0_h5 r => k0_hw2.2.1.2.2.2.2.2.2.2.2.2.2.2.1 k0_h5 r (k0_off174_inb arg22 arg23 v96 k0_t3 arg26 k0_hw2 k0_h5 r)
theorem k0_off175_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off175 arg26) a + S1x128x128.size a ≤ S4x256x1408.size a := fun arg22 arg23 v96 k0_t3 arg26 k0_hw2 k0_h5 => k0_hw2.2.1.2.2.2.2.2.2.2.2.2.2.2.2.1 k0_h5
theorem k0_off176_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off176 arg26 (BitVec.ofNat 32 r.val)) a + S1x1.size a ≤ S384x11.size a := fun arg22 arg23 v96 k0_t3 arg26 k0_hw2 k0_h5 r => k0_hw2.2.1.2.2.2.2.2.2.2.2.2.2.2.2.2.1 k0_h5 r
theorem k0_off177_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off177 arg26) a + S1x128x128.size a ≤ S2x256x1408.size a := fun arg22 arg23 v96 k0_t3 arg26 k0_hw2 k0_h5 => k0_hw2.2.1.2.2.2.2.2.2.2.2.2.2.2.2.2.2.1 k0_h5
theorem k0_off177_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off177 arg26) S1x128x128.size (k0_off177_inb arg22 arg23 v96 k0_t3 arg26 k0_hw2 k0_h5)).PackedRows (EltTy.packing .fp8e5m2) := fun arg22 arg23 v96 k0_t3 arg26 k0_hw2 k0_h5 => k0_hw2.2.1.2.2.2.2.2.2.2.2.2.2.2.2.2.2.2.1 k0_h5 (k0_off177_inb arg22 arg23 v96 k0_t3 arg26 k0_hw2 k0_h5)
theorem k0_off178_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off178 arg26 (BitVec.ofNat 32 (128 * r.val))) a + S128x128.size a ≤ S1280x1408.size a := fun arg22 arg23 v96 k0_t3 arg26 k0_hw2 k0_h5 r => k0_hw2.2.1.2.2.2.2.2.2.2.2.2.2.2.2.2.2.2.2.1 k0_h5 r
theorem k0_off178_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off178 arg26 (BitVec.ofNat 32 (128 * r.val))) S128x128.size (k0_off178_inb arg22 arg23 v96 k0_t3 arg26 k0_hw2 k0_h5 r)).PackedRows (EltTy.packing .bf16) := fun arg22 arg23 v96 k0_t3 arg26 k0_hw2 k0_h5 r => k0_hw2.2.1.2.2.2.2.2.2.2.2.2.2.2.2.2.2.2.2.2.1 k0_h5 r (k0_off178_inb arg22 arg23 v96 k0_t3 arg26 k0_hw2 k0_h5 r)
theorem k0_off179_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off179 arg26) a + S1x128x128.size a ≤ S4x256x1408.size a := fun arg22 arg23 v96 k0_t3 arg26 k0_hw2 k0_h5 => k0_hw2.2.1.2.2.2.2.2.2.2.2.2.2.2.2.2.2.2.2.2.2.1 k0_h5
theorem k0_off180_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off180 arg26 (BitVec.ofNat 32 r.val)) a + S1x1.size a ≤ S384x11.size a := fun arg22 arg23 v96 k0_t3 arg26 k0_hw2 k0_h5 r => k0_hw2.2.1.2.2.2.2.2.2.2.2.2.2.2.2.2.2.2.2.2.2.2.1 k0_h5 r
theorem k0_off181_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off181 arg26) a + S1x128x128.size a ≤ S2x256x1408.size a := fun arg22 arg23 v96 k0_t3 arg26 k0_hw2 k0_h5 => k0_hw2.2.1.2.2.2.2.2.2.2.2.2.2.2.2.2.2.2.2.2.2.2.2.1 k0_h5
theorem k0_off181_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off181 arg26) S1x128x128.size (k0_off181_inb arg22 arg23 v96 k0_t3 arg26 k0_hw2 k0_h5)).PackedRows (EltTy.packing .fp8e5m2) := fun arg22 arg23 v96 k0_t3 arg26 k0_hw2 k0_h5 => k0_hw2.2.1.2.2.2.2.2.2.2.2.2.2.2.2.2.2.2.2.2.2.2.2.2.1 k0_h5 (k0_off181_inb arg22 arg23 v96 k0_t3 arg26 k0_hw2 k0_h5)
theorem k0_off182_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off182 arg26 (BitVec.ofNat 32 (128 * r.val))) a + S128x128.size a ≤ S1280x1408.size a := fun arg22 arg23 v96 k0_t3 arg26 k0_hw2 k0_h5 r => k0_hw2.2.1.2.2.2.2.2.2.2.2.2.2.2.2.2.2.2.2.2.2.2.2.2.2.1 k0_h5 r
theorem k0_off182_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off182 arg26 (BitVec.ofNat 32 (128 * r.val))) S128x128.size (k0_off182_inb arg22 arg23 v96 k0_t3 arg26 k0_hw2 k0_h5 r)).PackedRows (EltTy.packing .bf16) := fun arg22 arg23 v96 k0_t3 arg26 k0_hw2 k0_h5 r => k0_hw2.2.1.2.2.2.2.2.2.2.2.2.2.2.2.2.2.2.2.2.2.2.2.2.2.2.1 k0_h5 r (k0_off182_inb arg22 arg23 v96 k0_t3 arg26 k0_hw2 k0_h5 r)
theorem k0_mult38_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult38 arg26).toNat := fun arg22 arg23 v96 k0_t3 arg26 k0_hw2 k0_h5 => k0_hw2.2.1.2.2.2.2.2.2.2.2.2.2.2.2.2.2.2.2.2.2.2.2.2.2.2.2.1 k0_h5
theorem k0_off183_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off183 arg26) a + S1x128x256.size a ≤ S4x256x2048.size a := fun arg22 arg23 v96 k0_t3 arg26 k0_hw2 k0_h5 => k0_hw2.2.1.2.2.2.2.2.2.2.2.2.2.2.2.2.2.2.2.2.2.2.2.2.2.2.2.2.1 k0_h5
theorem k0_off184_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off184 arg26) a + S1x128x256.size a ≤ S2x256x2048.size a := fun arg22 arg23 v96 k0_t3 arg26 k0_hw2 k0_h5 => k0_hw2.2.1.2.2.2.2.2.2.2.2.2.2.2.2.2.2.2.2.2.2.2.2.2.2.2.2.2.2.1 k0_h5
theorem k0_off184_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off184 arg26) S1x128x256.size (k0_off184_inb arg22 arg23 v96 k0_t3 arg26 k0_hw2 k0_h5)).PackedRows (EltTy.packing .fp8e4m3) := fun arg22 arg23 v96 k0_t3 arg26 k0_hw2 k0_h5 => k0_hw2.2.1.2.2.2.2.2.2.2.2.2.2.2.2.2.2.2.2.2.2.2.2.2.2.2.2.2.2.2.1 k0_h5 (k0_off184_inb arg22 arg23 v96 k0_t3 arg26 k0_hw2 k0_h5)
theorem k0_off185_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off185 arg26) a + S1x128x128.size a ≤ S4x256x1408.size a := fun arg22 arg23 v96 k0_t3 arg26 k0_hw2 k0_h5 => k0_hw2.2.1.2.2.2.2.2.2.2.2.2.2.2.2.2.2.2.2.2.2.2.2.2.2.2.2.2.2.2.2.1 k0_h5
theorem k0_off186_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off186 arg26) a + S1x128x128.size a ≤ S2x256x1408.size a := fun arg22 arg23 v96 k0_t3 arg26 k0_hw2 k0_h5 => k0_hw2.2.1.2.2.2.2.2.2.2.2.2.2.2.2.2.2.2.2.2.2.2.2.2.2.2.2.2.2.2.2.2.1 k0_h5
theorem k0_off186_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off186 arg26) S1x128x128.size (k0_off186_inb arg22 arg23 v96 k0_t3 arg26 k0_hw2 k0_h5)).PackedRows (EltTy.packing .fp8e5m2) := fun arg22 arg23 v96 k0_t3 arg26 k0_hw2 k0_h5 => k0_hw2.2.1.2.2.2.2.2.2.2.2.2.2.2.2.2.2.2.2.2.2.2.2.2.2.2.2.2.2.2.2.2.2.1 k0_h5 (k0_off186_inb arg22 arg23 v96 k0_t3 arg26 k0_hw2 k0_h5)
theorem k0_off187_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off187 arg26) a + S1x128x128.size a ≤ S4x256x1408.size a := fun arg22 arg23 v96 k0_t3 arg26 k0_hw2 k0_h5 => k0_hw2.2.1.2.2.2.2.2.2.2.2.2.2.2.2.2.2.2.2.2.2.2.2.2.2.2.2.2.2.2.2.2.2.2 k0_h5
theorem k0_off188_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off188 arg26) a + S1x128x128.size a ≤ S2x256x1408.size a := fun arg22 arg23 v96 k0_t3 arg26 k0_hw2 k0_h5 => k0_hw2.2.2.1.1 k0_h5
theorem k0_off188_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off188 arg26) S1x128x128.size (k0_off188_inb arg22 arg23 v96 k0_t3 arg26 k0_hw2 k0_h5)).PackedRows (EltTy.packing .fp8e5m2) := fun arg22 arg23 v96 k0_t3 arg26 k0_hw2 k0_h5 => k0_hw2.2.2.1.2.1 k0_h5 (k0_off188_inb arg22 arg23 v96 k0_t3 arg26 k0_hw2 k0_h5)
theorem k0_off189_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off189 arg22 v96 k0_t3) a + S256x256.size a ≤ S1280x2048.size a := fun arg22 arg23 v96 k0_t3 arg26 k0_hw2 k0_h5 => k0_hw2.2.2.1.2.2.1 k0_h5
theorem k0_off190_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off190 arg23) a + S1x256x1408.size a ≤ S3x2048x1408.size a := fun arg22 arg23 v96 k0_t3 arg26 k0_hw2 k0_h5 => k0_hw2.2.2.1.2.2.2.1 k0_h5
theorem k0_mult39_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult39 arg26).toNat := fun arg22 arg23 v96 k0_t3 arg26 k0_hw2 k0_h5 => k0_hw2.2.2.1.2.2.2.2.1 k0_h5
theorem k0_mult40_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult40 arg26).toNat := fun arg22 arg23 v96 k0_t3 arg26 k0_hw2 k0_h5 => k0_hw2.2.2.1.2.2.2.2.2.1 k0_h5
theorem k0_off191_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off191 arg26) a + S1x128x256.size a ≤ S4x256x2048.size a := fun arg22 arg23 v96 k0_t3 arg26 k0_hw2 k0_h5 => k0_hw2.2.2.1.2.2.2.2.2.2.1 k0_h5
theorem k0_off192_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off192 arg26 (BitVec.ofNat 32 r.val)) a + S1x256.size a ≤ S384x2048.size a := fun arg22 arg23 v96 k0_t3 arg26 k0_hw2 k0_h5 r => k0_hw2.2.2.1.2.2.2.2.2.2.2.1 k0_h5 r
theorem k0_off193_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off193 arg26) a + S1x128x256.size a ≤ S2x256x2048.size a := fun arg22 arg23 v96 k0_t3 arg26 k0_hw2 k0_h5 => k0_hw2.2.2.1.2.2.2.2.2.2.2.2.1 k0_h5
theorem k0_off193_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off193 arg26) S1x128x256.size (k0_off193_inb arg22 arg23 v96 k0_t3 arg26 k0_hw2 k0_h5)).PackedRows (EltTy.packing .fp8e4m3) := fun arg22 arg23 v96 k0_t3 arg26 k0_hw2 k0_h5 => k0_hw2.2.2.1.2.2.2.2.2.2.2.2.2.1 k0_h5 (k0_off193_inb arg22 arg23 v96 k0_t3 arg26 k0_hw2 k0_h5)
theorem k0_off194_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off194 arg26 (BitVec.ofNat 32 (128 * r.val))) a + S128x256.size a ≤ S1280x2048.size a := fun arg22 arg23 v96 k0_t3 arg26 k0_hw2 k0_h5 r => k0_hw2.2.2.1.2.2.2.2.2.2.2.2.2.2.1 k0_h5 r
theorem k0_off194_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off194 arg26 (BitVec.ofNat 32 (128 * r.val))) S128x256.size (k0_off194_inb arg22 arg23 v96 k0_t3 arg26 k0_hw2 k0_h5 r)).PackedRows (EltTy.packing .bf16) := fun arg22 arg23 v96 k0_t3 arg26 k0_hw2 k0_h5 r => k0_hw2.2.2.1.2.2.2.2.2.2.2.2.2.2.2.1 k0_h5 r (k0_off194_inb arg22 arg23 v96 k0_t3 arg26 k0_hw2 k0_h5 r)
theorem k0_off195_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off195 arg26) a + S1x128x128.size a ≤ S4x256x1408.size a := fun arg22 arg23 v96 k0_t3 arg26 k0_hw2 k0_h5 => k0_hw2.2.2.1.2.2.2.2.2.2.2.2.2.2.2.2.1 k0_h5
theorem k0_off196_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off196 arg26 (BitVec.ofNat 32 r.val)) a + S1x1.size a ≤ S384x11.size a := fun arg22 arg23 v96 k0_t3 arg26 k0_hw2 k0_h5 r => k0_hw2.2.2.1.2.2.2.2.2.2.2.2.2.2.2.2.2.1 k0_h5 r
theorem k0_off197_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off197 arg26) a + S1x128x128.size a ≤ S2x256x1408.size a := fun arg22 arg23 v96 k0_t3 arg26 k0_hw2 k0_h5 => k0_hw2.2.2.1.2.2.2.2.2.2.2.2.2.2.2.2.2.2.1 k0_h5
theorem k0_off197_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off197 arg26) S1x128x128.size (k0_off197_inb arg22 arg23 v96 k0_t3 arg26 k0_hw2 k0_h5)).PackedRows (EltTy.packing .fp8e5m2) := fun arg22 arg23 v96 k0_t3 arg26 k0_hw2 k0_h5 => k0_hw2.2.2.1.2.2.2.2.2.2.2.2.2.2.2.2.2.2.2.1 k0_h5 (k0_off197_inb arg22 arg23 v96 k0_t3 arg26 k0_hw2 k0_h5)
theorem k0_off198_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off198 arg26 (BitVec.ofNat 32 (128 * r.val))) a + S128x128.size a ≤ S1280x1408.size a := fun arg22 arg23 v96 k0_t3 arg26 k0_hw2 k0_h5 r => k0_hw2.2.2.1.2.2.2.2.2.2.2.2.2.2.2.2.2.2.2.2.1 k0_h5 r
theorem k0_off198_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off198 arg26 (BitVec.ofNat 32 (128 * r.val))) S128x128.size (k0_off198_inb arg22 arg23 v96 k0_t3 arg26 k0_hw2 k0_h5 r)).PackedRows (EltTy.packing .bf16) := fun arg22 arg23 v96 k0_t3 arg26 k0_hw2 k0_h5 r => k0_hw2.2.2.1.2.2.2.2.2.2.2.2.2.2.2.2.2.2.2.2.2.1 k0_h5 r (k0_off198_inb arg22 arg23 v96 k0_t3 arg26 k0_hw2 k0_h5 r)
theorem k0_off199_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off199 arg26) a + S1x128x128.size a ≤ S4x256x1408.size a := fun arg22 arg23 v96 k0_t3 arg26 k0_hw2 k0_h5 => k0_hw2.2.2.1.2.2.2.2.2.2.2.2.2.2.2.2.2.2.2.2.2.2.1 k0_h5
theorem k0_off200_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off200 arg26 (BitVec.ofNat 32 r.val)) a + S1x1.size a ≤ S384x11.size a := fun arg22 arg23 v96 k0_t3 arg26 k0_hw2 k0_h5 r => k0_hw2.2.2.1.2.2.2.2.2.2.2.2.2.2.2.2.2.2.2.2.2.2.2.1 k0_h5 r
theorem k0_off201_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off201 arg26) a + S1x128x128.size a ≤ S2x256x1408.size a := fun arg22 arg23 v96 k0_t3 arg26 k0_hw2 k0_h5 => k0_hw2.2.2.1.2.2.2.2.2.2.2.2.2.2.2.2.2.2.2.2.2.2.2.2.1 k0_h5
theorem k0_off201_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off201 arg26) S1x128x128.size (k0_off201_inb arg22 arg23 v96 k0_t3 arg26 k0_hw2 k0_h5)).PackedRows (EltTy.packing .fp8e5m2) := fun arg22 arg23 v96 k0_t3 arg26 k0_hw2 k0_h5 => k0_hw2.2.2.1.2.2.2.2.2.2.2.2.2.2.2.2.2.2.2.2.2.2.2.2.2.1 k0_h5 (k0_off201_inb arg22 arg23 v96 k0_t3 arg26 k0_hw2 k0_h5)
theorem k0_off202_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off202 arg26 (BitVec.ofNat 32 (128 * r.val))) a + S128x128.size a ≤ S1280x1408.size a := fun arg22 arg23 v96 k0_t3 arg26 k0_hw2 k0_h5 r => k0_hw2.2.2.1.2.2.2.2.2.2.2.2.2.2.2.2.2.2.2.2.2.2.2.2.2.2.1 k0_h5 r
theorem k0_off202_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off202 arg26 (BitVec.ofNat 32 (128 * r.val))) S128x128.size (k0_off202_inb arg22 arg23 v96 k0_t3 arg26 k0_hw2 k0_h5 r)).PackedRows (EltTy.packing .bf16) := fun arg22 arg23 v96 k0_t3 arg26 k0_hw2 k0_h5 r => k0_hw2.2.2.1.2.2.2.2.2.2.2.2.2.2.2.2.2.2.2.2.2.2.2.2.2.2.2.1 k0_h5 r (k0_off202_inb arg22 arg23 v96 k0_t3 arg26 k0_hw2 k0_h5 r)
theorem k0_mult41_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult41 arg26).toNat := fun arg22 arg23 v96 k0_t3 arg26 k0_hw2 k0_h5 => k0_hw2.2.2.1.2.2.2.2.2.2.2.2.2.2.2.2.2.2.2.2.2.2.2.2.2.2.2.2.1 k0_h5
theorem k0_off203_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off203 arg26) a + S1x128x256.size a ≤ S4x256x2048.size a := fun arg22 arg23 v96 k0_t3 arg26 k0_hw2 k0_h5 => k0_hw2.2.2.1.2.2.2.2.2.2.2.2.2.2.2.2.2.2.2.2.2.2.2.2.2.2.2.2.2.1 k0_h5
theorem k0_off204_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off204 arg26) a + S1x128x256.size a ≤ S2x256x2048.size a := fun arg22 arg23 v96 k0_t3 arg26 k0_hw2 k0_h5 => k0_hw2.2.2.1.2.2.2.2.2.2.2.2.2.2.2.2.2.2.2.2.2.2.2.2.2.2.2.2.2.2.1 k0_h5
theorem k0_off204_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off204 arg26) S1x128x256.size (k0_off204_inb arg22 arg23 v96 k0_t3 arg26 k0_hw2 k0_h5)).PackedRows (EltTy.packing .fp8e4m3) := fun arg22 arg23 v96 k0_t3 arg26 k0_hw2 k0_h5 => k0_hw2.2.2.1.2.2.2.2.2.2.2.2.2.2.2.2.2.2.2.2.2.2.2.2.2.2.2.2.2.2.2.1 k0_h5 (k0_off204_inb arg22 arg23 v96 k0_t3 arg26 k0_hw2 k0_h5)
theorem k0_off205_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off205 arg26) a + S1x128x128.size a ≤ S4x256x1408.size a := fun arg22 arg23 v96 k0_t3 arg26 k0_hw2 k0_h5 => k0_hw2.2.2.1.2.2.2.2.2.2.2.2.2.2.2.2.2.2.2.2.2.2.2.2.2.2.2.2.2.2.2.2.1 k0_h5
theorem k0_off206_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off206 arg26) a + S1x128x128.size a ≤ S2x256x1408.size a := fun arg22 arg23 v96 k0_t3 arg26 k0_hw2 k0_h5 => k0_hw2.2.2.1.2.2.2.2.2.2.2.2.2.2.2.2.2.2.2.2.2.2.2.2.2.2.2.2.2.2.2.2.2.1 k0_h5
theorem k0_off206_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off206 arg26) S1x128x128.size (k0_off206_inb arg22 arg23 v96 k0_t3 arg26 k0_hw2 k0_h5)).PackedRows (EltTy.packing .fp8e5m2) := fun arg22 arg23 v96 k0_t3 arg26 k0_hw2 k0_h5 => k0_hw2.2.2.1.2.2.2.2.2.2.2.2.2.2.2.2.2.2.2.2.2.2.2.2.2.2.2.2.2.2.2.2.2.2.1 k0_h5 (k0_off206_inb arg22 arg23 v96 k0_t3 arg26 k0_hw2 k0_h5)
theorem k0_off207_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off207 arg26) a + S1x128x128.size a ≤ S4x256x1408.size a := fun arg22 arg23 v96 k0_t3 arg26 k0_hw2 k0_h5 => k0_hw2.2.2.1.2.2.2.2.2.2.2.2.2.2.2.2.2.2.2.2.2.2.2.2.2.2.2.2.2.2.2.2.2.2.2 k0_h5
theorem k0_off208_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off208 arg26) a + S1x128x128.size a ≤ S2x256x1408.size a := fun arg22 arg23 v96 k0_t3 arg26 k0_hw2 k0_h5 => k0_hw2.2.2.2.1.1 k0_h5
theorem k0_off208_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off208 arg26) S1x128x128.size (k0_off208_inb arg22 arg23 v96 k0_t3 arg26 k0_hw2 k0_h5)).PackedRows (EltTy.packing .fp8e5m2) := fun arg22 arg23 v96 k0_t3 arg26 k0_hw2 k0_h5 => k0_hw2.2.2.2.1.2.1 k0_h5 (k0_off208_inb arg22 arg23 v96 k0_t3 arg26 k0_hw2 k0_h5)
theorem k0_off209_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off209 arg22 v96 k0_t3) a + S256x256.size a ≤ S1280x2048.size a := fun arg22 arg23 v96 k0_t3 arg26 k0_hw2 k0_h5 => k0_hw2.2.2.2.1.2.2.1 k0_h5
theorem k0_off210_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off210 arg23) a + S1x256x1408.size a ≤ S3x2048x1408.size a := fun arg22 arg23 v96 k0_t3 arg26 k0_hw2 k0_h5 => k0_hw2.2.2.2.1.2.2.2.1 k0_h5
theorem k0_mult42_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult42 arg26).toNat := fun arg22 arg23 v96 k0_t3 arg26 k0_hw2 k0_h5 => k0_hw2.2.2.2.1.2.2.2.2.1 k0_h5
theorem k0_mult43_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult43 arg26).toNat := fun arg22 arg23 v96 k0_t3 arg26 k0_hw2 k0_h5 => k0_hw2.2.2.2.1.2.2.2.2.2.1 k0_h5
theorem k0_off211_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off211 arg26) a + S1x128x256.size a ≤ S4x256x2048.size a := fun arg22 arg23 v96 k0_t3 arg26 k0_hw2 k0_h5 => k0_hw2.2.2.2.1.2.2.2.2.2.2.1 k0_h5
theorem k0_off212_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off212 arg26 (BitVec.ofNat 32 r.val)) a + S1x256.size a ≤ S384x2048.size a := fun arg22 arg23 v96 k0_t3 arg26 k0_hw2 k0_h5 r => k0_hw2.2.2.2.1.2.2.2.2.2.2.2.1 k0_h5 r
theorem k0_off213_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off213 arg26) a + S1x128x256.size a ≤ S2x256x2048.size a := fun arg22 arg23 v96 k0_t3 arg26 k0_hw2 k0_h5 => k0_hw2.2.2.2.1.2.2.2.2.2.2.2.2.1 k0_h5
theorem k0_off213_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off213 arg26) S1x128x256.size (k0_off213_inb arg22 arg23 v96 k0_t3 arg26 k0_hw2 k0_h5)).PackedRows (EltTy.packing .fp8e4m3) := fun arg22 arg23 v96 k0_t3 arg26 k0_hw2 k0_h5 => k0_hw2.2.2.2.1.2.2.2.2.2.2.2.2.2.1 k0_h5 (k0_off213_inb arg22 arg23 v96 k0_t3 arg26 k0_hw2 k0_h5)
theorem k0_off214_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off214 arg26 (BitVec.ofNat 32 (128 * r.val))) a + S128x256.size a ≤ S1280x2048.size a := fun arg22 arg23 v96 k0_t3 arg26 k0_hw2 k0_h5 r => k0_hw2.2.2.2.1.2.2.2.2.2.2.2.2.2.2.1 k0_h5 r
theorem k0_off214_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off214 arg26 (BitVec.ofNat 32 (128 * r.val))) S128x256.size (k0_off214_inb arg22 arg23 v96 k0_t3 arg26 k0_hw2 k0_h5 r)).PackedRows (EltTy.packing .bf16) := fun arg22 arg23 v96 k0_t3 arg26 k0_hw2 k0_h5 r => k0_hw2.2.2.2.1.2.2.2.2.2.2.2.2.2.2.2.1 k0_h5 r (k0_off214_inb arg22 arg23 v96 k0_t3 arg26 k0_hw2 k0_h5 r)
theorem k0_off215_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off215 arg26) a + S1x128x128.size a ≤ S4x256x1408.size a := fun arg22 arg23 v96 k0_t3 arg26 k0_hw2 k0_h5 => k0_hw2.2.2.2.1.2.2.2.2.2.2.2.2.2.2.2.2.1 k0_h5
theorem k0_off216_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off216 arg26 (BitVec.ofNat 32 r.val)) a + S1x1.size a ≤ S384x11.size a := fun arg22 arg23 v96 k0_t3 arg26 k0_hw2 k0_h5 r => k0_hw2.2.2.2.1.2.2.2.2.2.2.2.2.2.2.2.2.2.1 k0_h5 r
theorem k0_off217_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off217 arg26) a + S1x128x128.size a ≤ S2x256x1408.size a := fun arg22 arg23 v96 k0_t3 arg26 k0_hw2 k0_h5 => k0_hw2.2.2.2.1.2.2.2.2.2.2.2.2.2.2.2.2.2.2.1 k0_h5
theorem k0_off217_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off217 arg26) S1x128x128.size (k0_off217_inb arg22 arg23 v96 k0_t3 arg26 k0_hw2 k0_h5)).PackedRows (EltTy.packing .fp8e5m2) := fun arg22 arg23 v96 k0_t3 arg26 k0_hw2 k0_h5 => k0_hw2.2.2.2.1.2.2.2.2.2.2.2.2.2.2.2.2.2.2.2.1 k0_h5 (k0_off217_inb arg22 arg23 v96 k0_t3 arg26 k0_hw2 k0_h5)
theorem k0_off218_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off218 arg26 (BitVec.ofNat 32 (128 * r.val))) a + S128x128.size a ≤ S1280x1408.size a := fun arg22 arg23 v96 k0_t3 arg26 k0_hw2 k0_h5 r => k0_hw2.2.2.2.1.2.2.2.2.2.2.2.2.2.2.2.2.2.2.2.2.1 k0_h5 r
theorem k0_off218_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off218 arg26 (BitVec.ofNat 32 (128 * r.val))) S128x128.size (k0_off218_inb arg22 arg23 v96 k0_t3 arg26 k0_hw2 k0_h5 r)).PackedRows (EltTy.packing .bf16) := fun arg22 arg23 v96 k0_t3 arg26 k0_hw2 k0_h5 r => k0_hw2.2.2.2.1.2.2.2.2.2.2.2.2.2.2.2.2.2.2.2.2.2.1 k0_h5 r (k0_off218_inb arg22 arg23 v96 k0_t3 arg26 k0_hw2 k0_h5 r)
theorem k0_off219_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off219 arg26) a + S1x128x128.size a ≤ S4x256x1408.size a := fun arg22 arg23 v96 k0_t3 arg26 k0_hw2 k0_h5 => k0_hw2.2.2.2.1.2.2.2.2.2.2.2.2.2.2.2.2.2.2.2.2.2.2.1 k0_h5
theorem k0_off220_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off220 arg26 (BitVec.ofNat 32 r.val)) a + S1x1.size a ≤ S384x11.size a := fun arg22 arg23 v96 k0_t3 arg26 k0_hw2 k0_h5 r => k0_hw2.2.2.2.1.2.2.2.2.2.2.2.2.2.2.2.2.2.2.2.2.2.2.2.1 k0_h5 r
theorem k0_off221_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off221 arg26) a + S1x128x128.size a ≤ S2x256x1408.size a := fun arg22 arg23 v96 k0_t3 arg26 k0_hw2 k0_h5 => k0_hw2.2.2.2.1.2.2.2.2.2.2.2.2.2.2.2.2.2.2.2.2.2.2.2.2.1 k0_h5
theorem k0_off221_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off221 arg26) S1x128x128.size (k0_off221_inb arg22 arg23 v96 k0_t3 arg26 k0_hw2 k0_h5)).PackedRows (EltTy.packing .fp8e5m2) := fun arg22 arg23 v96 k0_t3 arg26 k0_hw2 k0_h5 => k0_hw2.2.2.2.1.2.2.2.2.2.2.2.2.2.2.2.2.2.2.2.2.2.2.2.2.2.1 k0_h5 (k0_off221_inb arg22 arg23 v96 k0_t3 arg26 k0_hw2 k0_h5)
theorem k0_off222_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off222 arg26 (BitVec.ofNat 32 (128 * r.val))) a + S128x128.size a ≤ S1280x1408.size a := fun arg22 arg23 v96 k0_t3 arg26 k0_hw2 k0_h5 r => k0_hw2.2.2.2.1.2.2.2.2.2.2.2.2.2.2.2.2.2.2.2.2.2.2.2.2.2.2.1 k0_h5 r
theorem k0_off222_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off222 arg26 (BitVec.ofNat 32 (128 * r.val))) S128x128.size (k0_off222_inb arg22 arg23 v96 k0_t3 arg26 k0_hw2 k0_h5 r)).PackedRows (EltTy.packing .bf16) := fun arg22 arg23 v96 k0_t3 arg26 k0_hw2 k0_h5 r => k0_hw2.2.2.2.1.2.2.2.2.2.2.2.2.2.2.2.2.2.2.2.2.2.2.2.2.2.2.2.1 k0_h5 r (k0_off222_inb arg22 arg23 v96 k0_t3 arg26 k0_hw2 k0_h5 r)
theorem k0_mult44_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult44 arg26).toNat := fun arg22 arg23 v96 k0_t3 arg26 k0_hw2 k0_h5 => k0_hw2.2.2.2.1.2.2.2.2.2.2.2.2.2.2.2.2.2.2.2.2.2.2.2.2.2.2.2.2.1 k0_h5
theorem k0_off223_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off223 arg26) a + S1x128x256.size a ≤ S4x256x2048.size a := fun arg22 arg23 v96 k0_t3 arg26 k0_hw2 k0_h5 => k0_hw2.2.2.2.1.2.2.2.2.2.2.2.2.2.2.2.2.2.2.2.2.2.2.2.2.2.2.2.2.2.1 k0_h5
theorem k0_off224_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off224 arg26) a + S1x128x256.size a ≤ S2x256x2048.size a := fun arg22 arg23 v96 k0_t3 arg26 k0_hw2 k0_h5 => k0_hw2.2.2.2.1.2.2.2.2.2.2.2.2.2.2.2.2.2.2.2.2.2.2.2.2.2.2.2.2.2.2.1 k0_h5
theorem k0_off224_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off224 arg26) S1x128x256.size (k0_off224_inb arg22 arg23 v96 k0_t3 arg26 k0_hw2 k0_h5)).PackedRows (EltTy.packing .fp8e4m3) := fun arg22 arg23 v96 k0_t3 arg26 k0_hw2 k0_h5 => k0_hw2.2.2.2.1.2.2.2.2.2.2.2.2.2.2.2.2.2.2.2.2.2.2.2.2.2.2.2.2.2.2.2.1 k0_h5 (k0_off224_inb arg22 arg23 v96 k0_t3 arg26 k0_hw2 k0_h5)
theorem k0_off225_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off225 arg26) a + S1x128x128.size a ≤ S4x256x1408.size a := fun arg22 arg23 v96 k0_t3 arg26 k0_hw2 k0_h5 => k0_hw2.2.2.2.1.2.2.2.2.2.2.2.2.2.2.2.2.2.2.2.2.2.2.2.2.2.2.2.2.2.2.2.2.1 k0_h5
theorem k0_off226_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off226 arg26) a + S1x128x128.size a ≤ S2x256x1408.size a := fun arg22 arg23 v96 k0_t3 arg26 k0_hw2 k0_h5 => k0_hw2.2.2.2.1.2.2.2.2.2.2.2.2.2.2.2.2.2.2.2.2.2.2.2.2.2.2.2.2.2.2.2.2.2.1 k0_h5
theorem k0_off226_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off226 arg26) S1x128x128.size (k0_off226_inb arg22 arg23 v96 k0_t3 arg26 k0_hw2 k0_h5)).PackedRows (EltTy.packing .fp8e5m2) := fun arg22 arg23 v96 k0_t3 arg26 k0_hw2 k0_h5 => k0_hw2.2.2.2.1.2.2.2.2.2.2.2.2.2.2.2.2.2.2.2.2.2.2.2.2.2.2.2.2.2.2.2.2.2.2.1 k0_h5 (k0_off226_inb arg22 arg23 v96 k0_t3 arg26 k0_hw2 k0_h5)
theorem k0_off227_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off227 arg26) a + S1x128x128.size a ≤ S4x256x1408.size a := fun arg22 arg23 v96 k0_t3 arg26 k0_hw2 k0_h5 => k0_hw2.2.2.2.1.2.2.2.2.2.2.2.2.2.2.2.2.2.2.2.2.2.2.2.2.2.2.2.2.2.2.2.2.2.2.2 k0_h5
theorem k0_off228_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off228 arg26) a + S1x128x128.size a ≤ S2x256x1408.size a := fun arg22 arg23 v96 k0_t3 arg26 k0_hw2 k0_h5 => k0_hw2.2.2.2.2.1.1 k0_h5
theorem k0_off228_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off228 arg26) S1x128x128.size (k0_off228_inb arg22 arg23 v96 k0_t3 arg26 k0_hw2 k0_h5)).PackedRows (EltTy.packing .fp8e5m2) := fun arg22 arg23 v96 k0_t3 arg26 k0_hw2 k0_h5 => k0_hw2.2.2.2.2.1.2.1 k0_h5 (k0_off228_inb arg22 arg23 v96 k0_t3 arg26 k0_hw2 k0_h5)
theorem k0_off229_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off229 arg22 v96 k0_t3) a + S256x256.size a ≤ S1280x2048.size a := fun arg22 arg23 v96 k0_t3 arg26 k0_hw2 k0_h5 => k0_hw2.2.2.2.2.1.2.2.1 k0_h5
theorem k0_off230_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off230 arg23) a + S1x256x1408.size a ≤ S3x2048x1408.size a := fun arg22 arg23 v96 k0_t3 arg26 k0_hw2 k0_h5 => k0_hw2.2.2.2.2.1.2.2.2.1 k0_h5
theorem k0_mult45_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult45 arg26).toNat := fun arg22 arg23 v96 k0_t3 arg26 k0_hw2 k0_h5 => k0_hw2.2.2.2.2.1.2.2.2.2.1 k0_h5
theorem k0_mult46_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult46 arg26).toNat := fun arg22 arg23 v96 k0_t3 arg26 k0_hw2 k0_h5 => k0_hw2.2.2.2.2.1.2.2.2.2.2.1 k0_h5
theorem k0_off231_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off231 arg26) a + S1x128x256.size a ≤ S4x256x2048.size a := fun arg22 arg23 v96 k0_t3 arg26 k0_hw2 k0_h5 => k0_hw2.2.2.2.2.1.2.2.2.2.2.2.1 k0_h5
theorem k0_off232_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off232 arg26 (BitVec.ofNat 32 r.val)) a + S1x256.size a ≤ S384x2048.size a := fun arg22 arg23 v96 k0_t3 arg26 k0_hw2 k0_h5 r => k0_hw2.2.2.2.2.1.2.2.2.2.2.2.2.1 k0_h5 r
theorem k0_off233_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off233 arg26) a + S1x128x256.size a ≤ S2x256x2048.size a := fun arg22 arg23 v96 k0_t3 arg26 k0_hw2 k0_h5 => k0_hw2.2.2.2.2.1.2.2.2.2.2.2.2.2.1 k0_h5
theorem k0_off233_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off233 arg26) S1x128x256.size (k0_off233_inb arg22 arg23 v96 k0_t3 arg26 k0_hw2 k0_h5)).PackedRows (EltTy.packing .fp8e4m3) := fun arg22 arg23 v96 k0_t3 arg26 k0_hw2 k0_h5 => k0_hw2.2.2.2.2.1.2.2.2.2.2.2.2.2.2.1 k0_h5 (k0_off233_inb arg22 arg23 v96 k0_t3 arg26 k0_hw2 k0_h5)
theorem k0_off234_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off234 arg26 (BitVec.ofNat 32 (128 * r.val))) a + S128x256.size a ≤ S1280x2048.size a := fun arg22 arg23 v96 k0_t3 arg26 k0_hw2 k0_h5 r => k0_hw2.2.2.2.2.1.2.2.2.2.2.2.2.2.2.2.1 k0_h5 r
theorem k0_off234_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off234 arg26 (BitVec.ofNat 32 (128 * r.val))) S128x256.size (k0_off234_inb arg22 arg23 v96 k0_t3 arg26 k0_hw2 k0_h5 r)).PackedRows (EltTy.packing .bf16) := fun arg22 arg23 v96 k0_t3 arg26 k0_hw2 k0_h5 r => k0_hw2.2.2.2.2.1.2.2.2.2.2.2.2.2.2.2.2.1 k0_h5 r (k0_off234_inb arg22 arg23 v96 k0_t3 arg26 k0_hw2 k0_h5 r)
theorem k0_off235_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off235 arg26) a + S1x128x128.size a ≤ S4x256x1408.size a := fun arg22 arg23 v96 k0_t3 arg26 k0_hw2 k0_h5 => k0_hw2.2.2.2.2.1.2.2.2.2.2.2.2.2.2.2.2.2.1 k0_h5
theorem k0_off236_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off236 arg26 (BitVec.ofNat 32 r.val)) a + S1x1.size a ≤ S384x11.size a := fun arg22 arg23 v96 k0_t3 arg26 k0_hw2 k0_h5 r => k0_hw2.2.2.2.2.1.2.2.2.2.2.2.2.2.2.2.2.2.2.1 k0_h5 r
theorem k0_off237_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off237 arg26) a + S1x128x128.size a ≤ S2x256x1408.size a := fun arg22 arg23 v96 k0_t3 arg26 k0_hw2 k0_h5 => k0_hw2.2.2.2.2.1.2.2.2.2.2.2.2.2.2.2.2.2.2.2.1 k0_h5
theorem k0_off237_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off237 arg26) S1x128x128.size (k0_off237_inb arg22 arg23 v96 k0_t3 arg26 k0_hw2 k0_h5)).PackedRows (EltTy.packing .fp8e5m2) := fun arg22 arg23 v96 k0_t3 arg26 k0_hw2 k0_h5 => k0_hw2.2.2.2.2.1.2.2.2.2.2.2.2.2.2.2.2.2.2.2.2.1 k0_h5 (k0_off237_inb arg22 arg23 v96 k0_t3 arg26 k0_hw2 k0_h5)
theorem k0_off238_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off238 arg26 (BitVec.ofNat 32 (128 * r.val))) a + S128x128.size a ≤ S1280x1408.size a := fun arg22 arg23 v96 k0_t3 arg26 k0_hw2 k0_h5 r => k0_hw2.2.2.2.2.1.2.2.2.2.2.2.2.2.2.2.2.2.2.2.2.2.1 k0_h5 r
theorem k0_off238_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off238 arg26 (BitVec.ofNat 32 (128 * r.val))) S128x128.size (k0_off238_inb arg22 arg23 v96 k0_t3 arg26 k0_hw2 k0_h5 r)).PackedRows (EltTy.packing .bf16) := fun arg22 arg23 v96 k0_t3 arg26 k0_hw2 k0_h5 r => k0_hw2.2.2.2.2.1.2.2.2.2.2.2.2.2.2.2.2.2.2.2.2.2.2.1 k0_h5 r (k0_off238_inb arg22 arg23 v96 k0_t3 arg26 k0_hw2 k0_h5 r)
theorem k0_mult47_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult47 arg26).toNat := fun arg22 arg23 v96 k0_t3 arg26 k0_hw2 k0_h5 => k0_hw2.2.2.2.2.1.2.2.2.2.2.2.2.2.2.2.2.2.2.2.2.2.2.2.1 k0_h5
theorem k0_off239_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off239 arg26) a + S1x128x256.size a ≤ S4x256x2048.size a := fun arg22 arg23 v96 k0_t3 arg26 k0_hw2 k0_h5 => k0_hw2.2.2.2.2.1.2.2.2.2.2.2.2.2.2.2.2.2.2.2.2.2.2.2.2.1 k0_h5
theorem k0_off240_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off240 arg26) a + S1x128x256.size a ≤ S2x256x2048.size a := fun arg22 arg23 v96 k0_t3 arg26 k0_hw2 k0_h5 => k0_hw2.2.2.2.2.1.2.2.2.2.2.2.2.2.2.2.2.2.2.2.2.2.2.2.2.2.1 k0_h5
theorem k0_off240_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off240 arg26) S1x128x256.size (k0_off240_inb arg22 arg23 v96 k0_t3 arg26 k0_hw2 k0_h5)).PackedRows (EltTy.packing .fp8e4m3) := fun arg22 arg23 v96 k0_t3 arg26 k0_hw2 k0_h5 => k0_hw2.2.2.2.2.1.2.2.2.2.2.2.2.2.2.2.2.2.2.2.2.2.2.2.2.2.2.1 k0_h5 (k0_off240_inb arg22 arg23 v96 k0_t3 arg26 k0_hw2 k0_h5)
theorem k0_off241_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off241 arg26) a + S1x128x128.size a ≤ S4x256x1408.size a := fun arg22 arg23 v96 k0_t3 arg26 k0_hw2 k0_h5 => k0_hw2.2.2.2.2.1.2.2.2.2.2.2.2.2.2.2.2.2.2.2.2.2.2.2.2.2.2.2.1 k0_h5
theorem k0_off242_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off242 arg26) a + S1x128x128.size a ≤ S2x256x1408.size a := fun arg22 arg23 v96 k0_t3 arg26 k0_hw2 k0_h5 => k0_hw2.2.2.2.2.1.2.2.2.2.2.2.2.2.2.2.2.2.2.2.2.2.2.2.2.2.2.2.2.1 k0_h5
theorem k0_off242_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off242 arg26) S1x128x128.size (k0_off242_inb arg22 arg23 v96 k0_t3 arg26 k0_hw2 k0_h5)).PackedRows (EltTy.packing .fp8e5m2) := fun arg22 arg23 v96 k0_t3 arg26 k0_hw2 k0_h5 => k0_hw2.2.2.2.2.1.2.2.2.2.2.2.2.2.2.2.2.2.2.2.2.2.2.2.2.2.2.2.2.2.1 k0_h5 (k0_off242_inb arg22 arg23 v96 k0_t3 arg26 k0_hw2 k0_h5)
theorem k0_off243_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off243 arg22 v96 k0_t3) a + S256x256.size a ≤ S1280x2048.size a := fun arg22 arg23 v96 k0_t3 arg26 k0_hw2 k0_h5 => k0_hw2.2.2.2.2.1.2.2.2.2.2.2.2.2.2.2.2.2.2.2.2.2.2.2.2.2.2.2.2.2.2.1 k0_h5
theorem k0_off244_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off244 arg23) a + S1x256x1408.size a ≤ S3x2048x1408.size a := fun arg22 arg23 v96 k0_t3 arg26 k0_hw2 k0_h5 => k0_hw2.2.2.2.2.1.2.2.2.2.2.2.2.2.2.2.2.2.2.2.2.2.2.2.2.2.2.2.2.2.2.2.1 k0_h5
theorem k0_mult48_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult48 arg26).toNat := fun arg22 arg23 v96 k0_t3 arg26 k0_hw2 k0_h5 => k0_hw2.2.2.2.2.1.2.2.2.2.2.2.2.2.2.2.2.2.2.2.2.2.2.2.2.2.2.2.2.2.2.2.2.1 k0_h5
theorem k0_mult49_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult49 arg26).toNat := fun arg22 arg23 v96 k0_t3 arg26 k0_hw2 k0_h5 => k0_hw2.2.2.2.2.1.2.2.2.2.2.2.2.2.2.2.2.2.2.2.2.2.2.2.2.2.2.2.2.2.2.2.2.2.1 k0_h5
theorem k0_off245_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off245 arg26) a + S1x128x256.size a ≤ S4x256x2048.size a := fun arg22 arg23 v96 k0_t3 arg26 k0_hw2 k0_h5 => k0_hw2.2.2.2.2.1.2.2.2.2.2.2.2.2.2.2.2.2.2.2.2.2.2.2.2.2.2.2.2.2.2.2.2.2.2.1 k0_h5
theorem k0_off246_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off246 arg26 (BitVec.ofNat 32 r.val)) a + S1x256.size a ≤ S384x2048.size a := fun arg22 arg23 v96 k0_t3 arg26 k0_hw2 k0_h5 r => k0_hw2.2.2.2.2.1.2.2.2.2.2.2.2.2.2.2.2.2.2.2.2.2.2.2.2.2.2.2.2.2.2.2.2.2.2.2.1 k0_h5 r
theorem k0_off247_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off247 arg26) a + S1x128x256.size a ≤ S2x256x2048.size a := fun arg22 arg23 v96 k0_t3 arg26 k0_hw2 k0_h5 => k0_hw2.2.2.2.2.1.2.2.2.2.2.2.2.2.2.2.2.2.2.2.2.2.2.2.2.2.2.2.2.2.2.2.2.2.2.2.2 k0_h5
theorem k0_off247_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off247 arg26) S1x128x256.size (k0_off247_inb arg22 arg23 v96 k0_t3 arg26 k0_hw2 k0_h5)).PackedRows (EltTy.packing .fp8e4m3) := fun arg22 arg23 v96 k0_t3 arg26 k0_hw2 k0_h5 => k0_hw2.2.2.2.2.2.1.1 k0_h5 (k0_off247_inb arg22 arg23 v96 k0_t3 arg26 k0_hw2 k0_h5)
theorem k0_off248_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off248 arg26 (BitVec.ofNat 32 (128 * r.val))) a + S128x256.size a ≤ S1280x2048.size a := fun arg22 arg23 v96 k0_t3 arg26 k0_hw2 k0_h5 r => k0_hw2.2.2.2.2.2.1.2.1 k0_h5 r
theorem k0_off248_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off248 arg26 (BitVec.ofNat 32 (128 * r.val))) S128x256.size (k0_off248_inb arg22 arg23 v96 k0_t3 arg26 k0_hw2 k0_h5 r)).PackedRows (EltTy.packing .bf16) := fun arg22 arg23 v96 k0_t3 arg26 k0_hw2 k0_h5 r => k0_hw2.2.2.2.2.2.1.2.2.1 k0_h5 r (k0_off248_inb arg22 arg23 v96 k0_t3 arg26 k0_hw2 k0_h5 r)
theorem k0_off249_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off249 arg26) a + S1x128x128.size a ≤ S4x256x1408.size a := fun arg22 arg23 v96 k0_t3 arg26 k0_hw2 k0_h5 => k0_hw2.2.2.2.2.2.1.2.2.2.1 k0_h5
theorem k0_off250_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off250 arg26 (BitVec.ofNat 32 r.val)) a + S1x1.size a ≤ S384x11.size a := fun arg22 arg23 v96 k0_t3 arg26 k0_hw2 k0_h5 r => k0_hw2.2.2.2.2.2.1.2.2.2.2.1 k0_h5 r
theorem k0_off251_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off251 arg26) a + S1x128x128.size a ≤ S2x256x1408.size a := fun arg22 arg23 v96 k0_t3 arg26 k0_hw2 k0_h5 => k0_hw2.2.2.2.2.2.1.2.2.2.2.2.1 k0_h5
theorem k0_off251_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off251 arg26) S1x128x128.size (k0_off251_inb arg22 arg23 v96 k0_t3 arg26 k0_hw2 k0_h5)).PackedRows (EltTy.packing .fp8e5m2) := fun arg22 arg23 v96 k0_t3 arg26 k0_hw2 k0_h5 => k0_hw2.2.2.2.2.2.1.2.2.2.2.2.2.1 k0_h5 (k0_off251_inb arg22 arg23 v96 k0_t3 arg26 k0_hw2 k0_h5)
theorem k0_off252_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off252 arg26 (BitVec.ofNat 32 (128 * r.val))) a + S128x128.size a ≤ S1280x1408.size a := fun arg22 arg23 v96 k0_t3 arg26 k0_hw2 k0_h5 r => k0_hw2.2.2.2.2.2.1.2.2.2.2.2.2.2.1 k0_h5 r
theorem k0_off252_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off252 arg26 (BitVec.ofNat 32 (128 * r.val))) S128x128.size (k0_off252_inb arg22 arg23 v96 k0_t3 arg26 k0_hw2 k0_h5 r)).PackedRows (EltTy.packing .bf16) := fun arg22 arg23 v96 k0_t3 arg26 k0_hw2 k0_h5 r => k0_hw2.2.2.2.2.2.1.2.2.2.2.2.2.2.2.1 k0_h5 r (k0_off252_inb arg22 arg23 v96 k0_t3 arg26 k0_hw2 k0_h5 r)
theorem k0_mult50_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult50 arg26).toNat := fun arg22 arg23 v96 k0_t3 arg26 k0_hw2 k0_h5 => k0_hw2.2.2.2.2.2.1.2.2.2.2.2.2.2.2.2.1 k0_h5
theorem k0_off253_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off253 arg26) a + S1x128x256.size a ≤ S4x256x2048.size a := fun arg22 arg23 v96 k0_t3 arg26 k0_hw2 k0_h5 => k0_hw2.2.2.2.2.2.1.2.2.2.2.2.2.2.2.2.2.1 k0_h5
theorem k0_off254_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off254 arg26) a + S1x128x256.size a ≤ S2x256x2048.size a := fun arg22 arg23 v96 k0_t3 arg26 k0_hw2 k0_h5 => k0_hw2.2.2.2.2.2.1.2.2.2.2.2.2.2.2.2.2.2.1 k0_h5
theorem k0_off254_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off254 arg26) S1x128x256.size (k0_off254_inb arg22 arg23 v96 k0_t3 arg26 k0_hw2 k0_h5)).PackedRows (EltTy.packing .fp8e4m3) := fun arg22 arg23 v96 k0_t3 arg26 k0_hw2 k0_h5 => k0_hw2.2.2.2.2.2.1.2.2.2.2.2.2.2.2.2.2.2.2.1 k0_h5 (k0_off254_inb arg22 arg23 v96 k0_t3 arg26 k0_hw2 k0_h5)
theorem k0_off255_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off255 arg26) a + S1x128x128.size a ≤ S4x256x1408.size a := fun arg22 arg23 v96 k0_t3 arg26 k0_hw2 k0_h5 => k0_hw2.2.2.2.2.2.1.2.2.2.2.2.2.2.2.2.2.2.2.2.1 k0_h5
theorem k0_off256_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off256 arg26) a + S1x128x128.size a ≤ S2x256x1408.size a := fun arg22 arg23 v96 k0_t3 arg26 k0_hw2 k0_h5 => k0_hw2.2.2.2.2.2.1.2.2.2.2.2.2.2.2.2.2.2.2.2.2.1 k0_h5
theorem k0_off256_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off256 arg26) S1x128x128.size (k0_off256_inb arg22 arg23 v96 k0_t3 arg26 k0_hw2 k0_h5)).PackedRows (EltTy.packing .fp8e5m2) := fun arg22 arg23 v96 k0_t3 arg26 k0_hw2 k0_h5 => k0_hw2.2.2.2.2.2.1.2.2.2.2.2.2.2.2.2.2.2.2.2.2.2.1 k0_h5 (k0_off256_inb arg22 arg23 v96 k0_t3 arg26 k0_hw2 k0_h5)
theorem k0_off257_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off257 arg22 v96 k0_t3) a + S256x256.size a ≤ S1280x2048.size a := fun arg22 arg23 v96 k0_t3 arg26 k0_hw2 k0_h5 => k0_hw2.2.2.2.2.2.1.2.2.2.2.2.2.2.2.2.2.2.2.2.2.2.2.1 k0_h5
theorem k0_off258_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off258 arg23) a + S1x256x1408.size a ≤ S3x2048x1408.size a := fun arg22 arg23 v96 k0_t3 arg26 k0_hw2 k0_h5 => k0_hw2.2.2.2.2.2.1.2.2.2.2.2.2.2.2.2.2.2.2.2.2.2.2.2.1 k0_h5
theorem k0_mult51_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult51 arg26).toNat := fun arg22 arg23 v96 k0_t3 arg26 k0_hw2 k0_h5 => k0_hw2.2.2.2.2.2.1.2.2.2.2.2.2.2.2.2.2.2.2.2.2.2.2.2.2.1 k0_h5
theorem k0_mult52_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult52 arg26).toNat := fun arg22 arg23 v96 k0_t3 arg26 k0_hw2 k0_h5 => k0_hw2.2.2.2.2.2.1.2.2.2.2.2.2.2.2.2.2.2.2.2.2.2.2.2.2.2.1 k0_h5
theorem k0_off259_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off259 arg26) a + S1x128x256.size a ≤ S4x256x2048.size a := fun arg22 arg23 v96 k0_t3 arg26 k0_hw2 k0_h5 => k0_hw2.2.2.2.2.2.1.2.2.2.2.2.2.2.2.2.2.2.2.2.2.2.2.2.2.2.2.1 k0_h5
theorem k0_off260_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off260 arg26 (BitVec.ofNat 32 r.val)) a + S1x256.size a ≤ S384x2048.size a := fun arg22 arg23 v96 k0_t3 arg26 k0_hw2 k0_h5 r => k0_hw2.2.2.2.2.2.1.2.2.2.2.2.2.2.2.2.2.2.2.2.2.2.2.2.2.2.2.2.1 k0_h5 r
theorem k0_off261_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off261 arg26) a + S1x128x256.size a ≤ S2x256x2048.size a := fun arg22 arg23 v96 k0_t3 arg26 k0_hw2 k0_h5 => k0_hw2.2.2.2.2.2.1.2.2.2.2.2.2.2.2.2.2.2.2.2.2.2.2.2.2.2.2.2.2.1 k0_h5
theorem k0_off261_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off261 arg26) S1x128x256.size (k0_off261_inb arg22 arg23 v96 k0_t3 arg26 k0_hw2 k0_h5)).PackedRows (EltTy.packing .fp8e4m3) := fun arg22 arg23 v96 k0_t3 arg26 k0_hw2 k0_h5 => k0_hw2.2.2.2.2.2.1.2.2.2.2.2.2.2.2.2.2.2.2.2.2.2.2.2.2.2.2.2.2.2.1 k0_h5 (k0_off261_inb arg22 arg23 v96 k0_t3 arg26 k0_hw2 k0_h5)
theorem k0_off262_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off262 arg26 (BitVec.ofNat 32 (128 * r.val))) a + S128x256.size a ≤ S1280x2048.size a := fun arg22 arg23 v96 k0_t3 arg26 k0_hw2 k0_h5 r => k0_hw2.2.2.2.2.2.1.2.2.2.2.2.2.2.2.2.2.2.2.2.2.2.2.2.2.2.2.2.2.2.2.1 k0_h5 r
theorem k0_off262_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off262 arg26 (BitVec.ofNat 32 (128 * r.val))) S128x256.size (k0_off262_inb arg22 arg23 v96 k0_t3 arg26 k0_hw2 k0_h5 r)).PackedRows (EltTy.packing .bf16) := fun arg22 arg23 v96 k0_t3 arg26 k0_hw2 k0_h5 r => k0_hw2.2.2.2.2.2.1.2.2.2.2.2.2.2.2.2.2.2.2.2.2.2.2.2.2.2.2.2.2.2.2.2.1 k0_h5 r (k0_off262_inb arg22 arg23 v96 k0_t3 arg26 k0_hw2 k0_h5 r)
theorem k0_off263_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off263 arg26) a + S1x128x128.size a ≤ S4x256x1408.size a := fun arg22 arg23 v96 k0_t3 arg26 k0_hw2 k0_h5 => k0_hw2.2.2.2.2.2.1.2.2.2.2.2.2.2.2.2.2.2.2.2.2.2.2.2.2.2.2.2.2.2.2.2.2.1 k0_h5
theorem k0_off264_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off264 arg26 (BitVec.ofNat 32 r.val)) a + S1x1.size a ≤ S384x11.size a := fun arg22 arg23 v96 k0_t3 arg26 k0_hw2 k0_h5 r => k0_hw2.2.2.2.2.2.1.2.2.2.2.2.2.2.2.2.2.2.2.2.2.2.2.2.2.2.2.2.2.2.2.2.2.2.1 k0_h5 r
theorem k0_off265_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off265 arg26) a + S1x128x128.size a ≤ S2x256x1408.size a := fun arg22 arg23 v96 k0_t3 arg26 k0_hw2 k0_h5 => k0_hw2.2.2.2.2.2.1.2.2.2.2.2.2.2.2.2.2.2.2.2.2.2.2.2.2.2.2.2.2.2.2.2.2.2.2.1 k0_h5
theorem k0_off265_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off265 arg26) S1x128x128.size (k0_off265_inb arg22 arg23 v96 k0_t3 arg26 k0_hw2 k0_h5)).PackedRows (EltTy.packing .fp8e5m2) := fun arg22 arg23 v96 k0_t3 arg26 k0_hw2 k0_h5 => k0_hw2.2.2.2.2.2.1.2.2.2.2.2.2.2.2.2.2.2.2.2.2.2.2.2.2.2.2.2.2.2.2.2.2.2.2.2.1 k0_h5 (k0_off265_inb arg22 arg23 v96 k0_t3 arg26 k0_hw2 k0_h5)
theorem k0_off266_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off266 arg26 (BitVec.ofNat 32 (128 * r.val))) a + S128x128.size a ≤ S1280x1408.size a := fun arg22 arg23 v96 k0_t3 arg26 k0_hw2 k0_h5 r => k0_hw2.2.2.2.2.2.1.2.2.2.2.2.2.2.2.2.2.2.2.2.2.2.2.2.2.2.2.2.2.2.2.2.2.2.2.2.2.1 k0_h5 r
theorem k0_off266_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off266 arg26 (BitVec.ofNat 32 (128 * r.val))) S128x128.size (k0_off266_inb arg22 arg23 v96 k0_t3 arg26 k0_hw2 k0_h5 r)).PackedRows (EltTy.packing .bf16) := fun arg22 arg23 v96 k0_t3 arg26 k0_hw2 k0_h5 r => k0_hw2.2.2.2.2.2.1.2.2.2.2.2.2.2.2.2.2.2.2.2.2.2.2.2.2.2.2.2.2.2.2.2.2.2.2.2.2.2 k0_h5 r (k0_off266_inb arg22 arg23 v96 k0_t3 arg26 k0_hw2 k0_h5 r)
theorem k0_mult53_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult53 arg26).toNat := fun arg22 arg23 v96 k0_t3 arg26 k0_hw2 k0_h5 => k0_hw2.2.2.2.2.2.2.1.1 k0_h5
theorem k0_off267_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off267 arg26) a + S1x128x256.size a ≤ S4x256x2048.size a := fun arg22 arg23 v96 k0_t3 arg26 k0_hw2 k0_h5 => k0_hw2.2.2.2.2.2.2.1.2.1 k0_h5
theorem k0_off268_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off268 arg26) a + S1x128x256.size a ≤ S2x256x2048.size a := fun arg22 arg23 v96 k0_t3 arg26 k0_hw2 k0_h5 => k0_hw2.2.2.2.2.2.2.1.2.2.1 k0_h5
theorem k0_off268_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off268 arg26) S1x128x256.size (k0_off268_inb arg22 arg23 v96 k0_t3 arg26 k0_hw2 k0_h5)).PackedRows (EltTy.packing .fp8e4m3) := fun arg22 arg23 v96 k0_t3 arg26 k0_hw2 k0_h5 => k0_hw2.2.2.2.2.2.2.1.2.2.2.1 k0_h5 (k0_off268_inb arg22 arg23 v96 k0_t3 arg26 k0_hw2 k0_h5)
theorem k0_off269_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off269 arg26) a + S1x128x128.size a ≤ S4x256x1408.size a := fun arg22 arg23 v96 k0_t3 arg26 k0_hw2 k0_h5 => k0_hw2.2.2.2.2.2.2.1.2.2.2.2.1 k0_h5
theorem k0_off270_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off270 arg26) a + S1x128x128.size a ≤ S2x256x1408.size a := fun arg22 arg23 v96 k0_t3 arg26 k0_hw2 k0_h5 => k0_hw2.2.2.2.2.2.2.1.2.2.2.2.2.1 k0_h5
theorem k0_off270_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off270 arg26) S1x128x128.size (k0_off270_inb arg22 arg23 v96 k0_t3 arg26 k0_hw2 k0_h5)).PackedRows (EltTy.packing .fp8e5m2) := fun arg22 arg23 v96 k0_t3 arg26 k0_hw2 k0_h5 => k0_hw2.2.2.2.2.2.2.1.2.2.2.2.2.2.1 k0_h5 (k0_off270_inb arg22 arg23 v96 k0_t3 arg26 k0_hw2 k0_h5)
theorem k0_off271_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off271 arg22 v96 k0_t3) a + S256x256.size a ≤ S1280x2048.size a := fun arg22 arg23 v96 k0_t3 arg26 k0_hw2 k0_h5 => k0_hw2.2.2.2.2.2.2.1.2.2.2.2.2.2.2.1 k0_h5
theorem k0_off272_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off272 arg23) a + S1x256x1408.size a ≤ S3x2048x1408.size a := fun arg22 arg23 v96 k0_t3 arg26 k0_hw2 k0_h5 => k0_hw2.2.2.2.2.2.2.1.2.2.2.2.2.2.2.2.1 k0_h5
theorem k0_mult54_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult54 arg26).toNat := fun arg22 arg23 v96 k0_t3 arg26 k0_hw2 k0_h5 => k0_hw2.2.2.2.2.2.2.1.2.2.2.2.2.2.2.2.2.1 k0_h5
theorem k0_mult55_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult55 arg26).toNat := fun arg22 arg23 v96 k0_t3 arg26 k0_hw2 k0_h5 => k0_hw2.2.2.2.2.2.2.1.2.2.2.2.2.2.2.2.2.2.1 k0_h5
theorem k0_off273_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off273 arg26) a + S1x128x256.size a ≤ S4x256x2048.size a := fun arg22 arg23 v96 k0_t3 arg26 k0_hw2 k0_h5 => k0_hw2.2.2.2.2.2.2.1.2.2.2.2.2.2.2.2.2.2.2.1 k0_h5
theorem k0_off274_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off274 arg26 (BitVec.ofNat 32 r.val)) a + S1x256.size a ≤ S384x2048.size a := fun arg22 arg23 v96 k0_t3 arg26 k0_hw2 k0_h5 r => k0_hw2.2.2.2.2.2.2.1.2.2.2.2.2.2.2.2.2.2.2.2.1 k0_h5 r
theorem k0_off275_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off275 arg26) a + S1x128x256.size a ≤ S2x256x2048.size a := fun arg22 arg23 v96 k0_t3 arg26 k0_hw2 k0_h5 => k0_hw2.2.2.2.2.2.2.1.2.2.2.2.2.2.2.2.2.2.2.2.2.1 k0_h5
theorem k0_off275_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off275 arg26) S1x128x256.size (k0_off275_inb arg22 arg23 v96 k0_t3 arg26 k0_hw2 k0_h5)).PackedRows (EltTy.packing .fp8e4m3) := fun arg22 arg23 v96 k0_t3 arg26 k0_hw2 k0_h5 => k0_hw2.2.2.2.2.2.2.1.2.2.2.2.2.2.2.2.2.2.2.2.2.2.1 k0_h5 (k0_off275_inb arg22 arg23 v96 k0_t3 arg26 k0_hw2 k0_h5)
theorem k0_off276_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off276 arg26 (BitVec.ofNat 32 (128 * r.val))) a + S128x256.size a ≤ S1280x2048.size a := fun arg22 arg23 v96 k0_t3 arg26 k0_hw2 k0_h5 r => k0_hw2.2.2.2.2.2.2.1.2.2.2.2.2.2.2.2.2.2.2.2.2.2.2.1 k0_h5 r
theorem k0_off276_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off276 arg26 (BitVec.ofNat 32 (128 * r.val))) S128x256.size (k0_off276_inb arg22 arg23 v96 k0_t3 arg26 k0_hw2 k0_h5 r)).PackedRows (EltTy.packing .bf16) := fun arg22 arg23 v96 k0_t3 arg26 k0_hw2 k0_h5 r => k0_hw2.2.2.2.2.2.2.1.2.2.2.2.2.2.2.2.2.2.2.2.2.2.2.2.1 k0_h5 r (k0_off276_inb arg22 arg23 v96 k0_t3 arg26 k0_hw2 k0_h5 r)
theorem k0_off277_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off277 arg26) a + S1x128x128.size a ≤ S4x256x1408.size a := fun arg22 arg23 v96 k0_t3 arg26 k0_hw2 k0_h5 => k0_hw2.2.2.2.2.2.2.1.2.2.2.2.2.2.2.2.2.2.2.2.2.2.2.2.2.1 k0_h5
theorem k0_off278_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off278 arg26 (BitVec.ofNat 32 r.val)) a + S1x1.size a ≤ S384x11.size a := fun arg22 arg23 v96 k0_t3 arg26 k0_hw2 k0_h5 r => k0_hw2.2.2.2.2.2.2.1.2.2.2.2.2.2.2.2.2.2.2.2.2.2.2.2.2.2.1 k0_h5 r
theorem k0_off279_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off279 arg26) a + S1x128x128.size a ≤ S2x256x1408.size a := fun arg22 arg23 v96 k0_t3 arg26 k0_hw2 k0_h5 => k0_hw2.2.2.2.2.2.2.1.2.2.2.2.2.2.2.2.2.2.2.2.2.2.2.2.2.2.2.1 k0_h5
theorem k0_off279_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off279 arg26) S1x128x128.size (k0_off279_inb arg22 arg23 v96 k0_t3 arg26 k0_hw2 k0_h5)).PackedRows (EltTy.packing .fp8e5m2) := fun arg22 arg23 v96 k0_t3 arg26 k0_hw2 k0_h5 => k0_hw2.2.2.2.2.2.2.1.2.2.2.2.2.2.2.2.2.2.2.2.2.2.2.2.2.2.2.2.1 k0_h5 (k0_off279_inb arg22 arg23 v96 k0_t3 arg26 k0_hw2 k0_h5)
theorem k0_off280_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off280 arg26 (BitVec.ofNat 32 (128 * r.val))) a + S128x128.size a ≤ S1280x1408.size a := fun arg22 arg23 v96 k0_t3 arg26 k0_hw2 k0_h5 r => k0_hw2.2.2.2.2.2.2.1.2.2.2.2.2.2.2.2.2.2.2.2.2.2.2.2.2.2.2.2.2.1 k0_h5 r
theorem k0_off280_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off280 arg26 (BitVec.ofNat 32 (128 * r.val))) S128x128.size (k0_off280_inb arg22 arg23 v96 k0_t3 arg26 k0_hw2 k0_h5 r)).PackedRows (EltTy.packing .bf16) := fun arg22 arg23 v96 k0_t3 arg26 k0_hw2 k0_h5 r => k0_hw2.2.2.2.2.2.2.1.2.2.2.2.2.2.2.2.2.2.2.2.2.2.2.2.2.2.2.2.2.2.1 k0_h5 r (k0_off280_inb arg22 arg23 v96 k0_t3 arg26 k0_hw2 k0_h5 r)
theorem k0_mult56_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult56 arg26).toNat := fun arg22 arg23 v96 k0_t3 arg26 k0_hw2 k0_h5 => k0_hw2.2.2.2.2.2.2.1.2.2.2.2.2.2.2.2.2.2.2.2.2.2.2.2.2.2.2.2.2.2.2.1 k0_h5
theorem k0_off281_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off281 arg26) a + S1x128x256.size a ≤ S4x256x2048.size a := fun arg22 arg23 v96 k0_t3 arg26 k0_hw2 k0_h5 => k0_hw2.2.2.2.2.2.2.1.2.2.2.2.2.2.2.2.2.2.2.2.2.2.2.2.2.2.2.2.2.2.2.2.1 k0_h5
theorem k0_off282_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off282 arg26) a + S1x128x256.size a ≤ S2x256x2048.size a := fun arg22 arg23 v96 k0_t3 arg26 k0_hw2 k0_h5 => k0_hw2.2.2.2.2.2.2.1.2.2.2.2.2.2.2.2.2.2.2.2.2.2.2.2.2.2.2.2.2.2.2.2.2.1 k0_h5
theorem k0_off282_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off282 arg26) S1x128x256.size (k0_off282_inb arg22 arg23 v96 k0_t3 arg26 k0_hw2 k0_h5)).PackedRows (EltTy.packing .fp8e4m3) := fun arg22 arg23 v96 k0_t3 arg26 k0_hw2 k0_h5 => k0_hw2.2.2.2.2.2.2.1.2.2.2.2.2.2.2.2.2.2.2.2.2.2.2.2.2.2.2.2.2.2.2.2.2.2.1 k0_h5 (k0_off282_inb arg22 arg23 v96 k0_t3 arg26 k0_hw2 k0_h5)
theorem k0_off283_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off283 arg26) a + S1x128x128.size a ≤ S4x256x1408.size a := fun arg22 arg23 v96 k0_t3 arg26 k0_hw2 k0_h5 => k0_hw2.2.2.2.2.2.2.1.2.2.2.2.2.2.2.2.2.2.2.2.2.2.2.2.2.2.2.2.2.2.2.2.2.2.2.1 k0_h5
theorem k0_off284_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off284 arg26) a + S1x128x128.size a ≤ S2x256x1408.size a := fun arg22 arg23 v96 k0_t3 arg26 k0_hw2 k0_h5 => k0_hw2.2.2.2.2.2.2.1.2.2.2.2.2.2.2.2.2.2.2.2.2.2.2.2.2.2.2.2.2.2.2.2.2.2.2.2.1 k0_h5
theorem k0_off284_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off284 arg26) S1x128x128.size (k0_off284_inb arg22 arg23 v96 k0_t3 arg26 k0_hw2 k0_h5)).PackedRows (EltTy.packing .fp8e5m2) := fun arg22 arg23 v96 k0_t3 arg26 k0_hw2 k0_h5 => k0_hw2.2.2.2.2.2.2.1.2.2.2.2.2.2.2.2.2.2.2.2.2.2.2.2.2.2.2.2.2.2.2.2.2.2.2.2.2.1 k0_h5 (k0_off284_inb arg22 arg23 v96 k0_t3 arg26 k0_hw2 k0_h5)
theorem k0_off285_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off285 arg22 v96 k0_t3) a + S256x256.size a ≤ S1280x2048.size a := fun arg22 arg23 v96 k0_t3 arg26 k0_hw2 k0_h5 => k0_hw2.2.2.2.2.2.2.1.2.2.2.2.2.2.2.2.2.2.2.2.2.2.2.2.2.2.2.2.2.2.2.2.2.2.2.2.2.2.1 k0_h5
theorem k0_off286_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off286 arg23) a + S1x256x1408.size a ≤ S3x2048x1408.size a := fun arg22 arg23 v96 k0_t3 arg26 k0_hw2 k0_h5 => k0_hw2.2.2.2.2.2.2.1.2.2.2.2.2.2.2.2.2.2.2.2.2.2.2.2.2.2.2.2.2.2.2.2.2.2.2.2.2.2.2 k0_h5
theorem k0_mult57_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult57 arg26).toNat := fun arg22 arg23 v96 k0_t3 arg26 k0_hw2 k0_h5 => k0_hw2.2.2.2.2.2.2.2.1.1 k0_h5
theorem k0_mult58_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult58 arg26).toNat := fun arg22 arg23 v96 k0_t3 arg26 k0_hw2 k0_h5 => k0_hw2.2.2.2.2.2.2.2.1.2.1 k0_h5
theorem k0_off287_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off287 arg26) a + S1x128x256.size a ≤ S4x256x2048.size a := fun arg22 arg23 v96 k0_t3 arg26 k0_hw2 k0_h5 => k0_hw2.2.2.2.2.2.2.2.1.2.2.1 k0_h5
theorem k0_off288_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off288 arg26 (BitVec.ofNat 32 r.val)) a + S1x256.size a ≤ S384x2048.size a := fun arg22 arg23 v96 k0_t3 arg26 k0_hw2 k0_h5 r => k0_hw2.2.2.2.2.2.2.2.1.2.2.2.1 k0_h5 r
theorem k0_off289_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off289 arg26) a + S1x128x256.size a ≤ S2x256x2048.size a := fun arg22 arg23 v96 k0_t3 arg26 k0_hw2 k0_h5 => k0_hw2.2.2.2.2.2.2.2.1.2.2.2.2.1 k0_h5
theorem k0_off289_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off289 arg26) S1x128x256.size (k0_off289_inb arg22 arg23 v96 k0_t3 arg26 k0_hw2 k0_h5)).PackedRows (EltTy.packing .fp8e4m3) := fun arg22 arg23 v96 k0_t3 arg26 k0_hw2 k0_h5 => k0_hw2.2.2.2.2.2.2.2.1.2.2.2.2.2.1 k0_h5 (k0_off289_inb arg22 arg23 v96 k0_t3 arg26 k0_hw2 k0_h5)
theorem k0_off290_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off290 arg26 (BitVec.ofNat 32 (128 * r.val))) a + S128x256.size a ≤ S1280x2048.size a := fun arg22 arg23 v96 k0_t3 arg26 k0_hw2 k0_h5 r => k0_hw2.2.2.2.2.2.2.2.1.2.2.2.2.2.2.1 k0_h5 r
theorem k0_off290_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x2048) (k0_off290 arg26 (BitVec.ofNat 32 (128 * r.val))) S128x256.size (k0_off290_inb arg22 arg23 v96 k0_t3 arg26 k0_hw2 k0_h5 r)).PackedRows (EltTy.packing .bf16) := fun arg22 arg23 v96 k0_t3 arg26 k0_hw2 k0_h5 r => k0_hw2.2.2.2.2.2.2.2.1.2.2.2.2.2.2.2.1 k0_h5 r (k0_off290_inb arg22 arg23 v96 k0_t3 arg26 k0_hw2 k0_h5 r)
theorem k0_off291_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off291 arg26) a + S1x128x128.size a ≤ S4x256x1408.size a := fun arg22 arg23 v96 k0_t3 arg26 k0_hw2 k0_h5 => k0_hw2.2.2.2.2.2.2.2.1.2.2.2.2.2.2.2.2.1 k0_h5
theorem k0_off292_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off292 arg26 (BitVec.ofNat 32 r.val)) a + S1x1.size a ≤ S384x11.size a := fun arg22 arg23 v96 k0_t3 arg26 k0_hw2 k0_h5 r => k0_hw2.2.2.2.2.2.2.2.1.2.2.2.2.2.2.2.2.2.1 k0_h5 r
theorem k0_off293_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off293 arg26) a + S1x128x128.size a ≤ S2x256x1408.size a := fun arg22 arg23 v96 k0_t3 arg26 k0_hw2 k0_h5 => k0_hw2.2.2.2.2.2.2.2.1.2.2.2.2.2.2.2.2.2.2.1 k0_h5
theorem k0_off293_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off293 arg26) S1x128x128.size (k0_off293_inb arg22 arg23 v96 k0_t3 arg26 k0_hw2 k0_h5)).PackedRows (EltTy.packing .fp8e5m2) := fun arg22 arg23 v96 k0_t3 arg26 k0_hw2 k0_h5 => k0_hw2.2.2.2.2.2.2.2.1.2.2.2.2.2.2.2.2.2.2.2.1 k0_h5 (k0_off293_inb arg22 arg23 v96 k0_t3 arg26 k0_hw2 k0_h5)
theorem k0_off294_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), ∀ a, (k0_off294 arg26 (BitVec.ofNat 32 (128 * r.val))) a + S128x128.size a ≤ S1280x1408.size a := fun arg22 arg23 v96 k0_t3 arg26 k0_hw2 k0_h5 r => k0_hw2.2.2.2.2.2.2.2.1.2.2.2.2.2.2.2.2.2.2.2.2.1 k0_h5 r
theorem k0_off294_packedbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (r : Fin 2), (Rect.unit (s := S1280x1408) (k0_off294 arg26 (BitVec.ofNat 32 (128 * r.val))) S128x128.size (k0_off294_inb arg22 arg23 v96 k0_t3 arg26 k0_hw2 k0_h5 r)).PackedRows (EltTy.packing .bf16) := fun arg22 arg23 v96 k0_t3 arg26 k0_hw2 k0_h5 r => k0_hw2.2.2.2.2.2.2.2.1.2.2.2.2.2.2.2.2.2.2.2.2.2.1 k0_h5 r (k0_off294_inb arg22 arg23 v96 k0_t3 arg26 k0_hw2 k0_h5 r)
theorem k0_mult59_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 128 ∣ (k0_mult59 arg26).toNat := fun arg22 arg23 v96 k0_t3 arg26 k0_hw2 k0_h5 => k0_hw2.2.2.2.2.2.2.2.1.2.2.2.2.2.2.2.2.2.2.2.2.2.2.1 k0_h5
theorem k0_off295_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off295 arg26) a + S1x128x256.size a ≤ S4x256x2048.size a := fun arg22 arg23 v96 k0_t3 arg26 k0_hw2 k0_h5 => k0_hw2.2.2.2.2.2.2.2.1.2.2.2.2.2.2.2.2.2.2.2.2.2.2.2.1 k0_h5
theorem k0_off296_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off296 arg26) a + S1x128x256.size a ≤ S2x256x2048.size a := fun arg22 arg23 v96 k0_t3 arg26 k0_hw2 k0_h5 => k0_hw2.2.2.2.2.2.2.2.1.2.2.2.2.2.2.2.2.2.2.2.2.2.2.2.2.1 k0_h5
theorem k0_off296_packedfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off296 arg26) S1x128x256.size (k0_off296_inb arg22 arg23 v96 k0_t3 arg26 k0_hw2 k0_h5)).PackedRows (EltTy.packing .fp8e4m3) := fun arg22 arg23 v96 k0_t3 arg26 k0_hw2 k0_h5 => k0_hw2.2.2.2.2.2.2.2.1.2.2.2.2.2.2.2.2.2.2.2.2.2.2.2.2.2.1 k0_h5 (k0_off296_inb arg22 arg23 v96 k0_t3 arg26 k0_hw2 k0_h5)
theorem k0_off297_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off297 arg26) a + S1x128x128.size a ≤ S4x256x1408.size a := fun arg22 arg23 v96 k0_t3 arg26 k0_hw2 k0_h5 => k0_hw2.2.2.2.2.2.2.2.1.2.2.2.2.2.2.2.2.2.2.2.2.2.2.2.2.2.2.1 k0_h5
theorem k0_off298_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off298 arg26) a + S1x128x128.size a ≤ S2x256x1408.size a := fun arg22 arg23 v96 k0_t3 arg26 k0_hw2 k0_h5 => k0_hw2.2.2.2.2.2.2.2.1.2.2.2.2.2.2.2.2.2.2.2.2.2.2.2.2.2.2.2.1 k0_h5
theorem k0_off298_packedfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off298 arg26) S1x128x128.size (k0_off298_inb arg22 arg23 v96 k0_t3 arg26 k0_hw2 k0_h5)).PackedRows (EltTy.packing .fp8e5m2) := fun arg22 arg23 v96 k0_t3 arg26 k0_hw2 k0_h5 => k0_hw2.2.2.2.2.2.2.2.1.2.2.2.2.2.2.2.2.2.2.2.2.2.2.2.2.2.2.2.2.1 k0_h5 (k0_off298_inb arg22 arg23 v96 k0_t3 arg26 k0_hw2 k0_h5)
theorem k0_mult60_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), 256 ∣ (k0_mult60 arg26).toNat := fun arg22 arg23 v96 k0_t3 arg26 k0_hw2 k0_h5 => k0_hw2.2.2.2.2.2.2.2.1.2.2.2.2.2.2.2.2.2.2.2.2.2.2.2.2.2.2.2.2.2.1 k0_h5
theorem k0_off299_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off299 arg26) a + S1x1.size a ≤ S2x2.size a := fun arg22 arg23 v96 k0_t3 arg26 k0_hw2 k0_h5 => k0_hw2.2.2.2.2.2.2.2.1.2.2.2.2.2.2.2.2.2.2.2.2.2.2.2.2.2.2.2.2.2.2.1 k0_h5
theorem k0_off300_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off300 arg26) a + S1x256x2048.size a ≤ S2x256x2048.size a := fun arg22 arg23 v96 k0_t3 arg26 k0_hw2 k0_h5 => k0_hw2.2.2.2.2.2.2.2.1.2.2.2.2.2.2.2.2.2.2.2.2.2.2.2.2.2.2.2.2.2.2.2.1 k0_h5
theorem k0_off300_wordsfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x2048) (k0_off300 arg26) S1x256x2048.size (k0_off300_inb arg22 arg23 v96 k0_t3 arg26 k0_hw2 k0_h5)).WholeWords (EltTy.packing .fp8e4m3) := fun arg22 arg23 v96 k0_t3 arg26 k0_hw2 k0_h5 => k0_hw2.2.2.2.2.2.2.2.1.2.2.2.2.2.2.2.2.2.2.2.2.2.2.2.2.2.2.2.2.2.2.2.2.1 k0_h5 (k0_off300_inb arg22 arg23 v96 k0_t3 arg26 k0_hw2 k0_h5)
theorem k0_off148_wordsfp8e4m3 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S49152x2048) (k0_off148 arg26) S256x2048.size (k0_off148_inb arg22 arg23 v96 k0_t3 arg26 k0_hw2 k0_h5)).WholeWords (EltTy.packing .fp8e4m3) := fun arg22 arg23 v96 k0_t3 arg26 k0_hw2 k0_h5 => k0_hw2.2.2.2.2.2.2.2.1.2.2.2.2.2.2.2.2.2.2.2.2.2.2.2.2.2.2.2.2.2.2.2.2.2.1 k0_h5 (k0_off148_inb arg22 arg23 v96 k0_t3 arg26 k0_hw2 k0_h5)
theorem k0_off301_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off301 arg26) a + S1x1.size a ≤ S2x2.size a := fun arg22 arg23 v96 k0_t3 arg26 k0_hw2 k0_h5 => k0_hw2.2.2.2.2.2.2.2.1.2.2.2.2.2.2.2.2.2.2.2.2.2.2.2.2.2.2.2.2.2.2.2.2.2.2.1 k0_h5
theorem k0_off302_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ a, (k0_off302 arg26) a + S1x256x1408.size a ≤ S2x256x1408.size a := fun arg22 arg23 v96 k0_t3 arg26 k0_hw2 k0_h5 => k0_hw2.2.2.2.2.2.2.2.1.2.2.2.2.2.2.2.2.2.2.2.2.2.2.2.2.2.2.2.2.2.2.2.2.2.2.2.1 k0_h5
theorem k0_off302_wordsfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S2x256x1408) (k0_off302 arg26) S1x256x1408.size (k0_off302_inb arg22 arg23 v96 k0_t3 arg26 k0_hw2 k0_h5)).WholeWords (EltTy.packing .fp8e5m2) := fun arg22 arg23 v96 k0_t3 arg26 k0_hw2 k0_h5 => k0_hw2.2.2.2.2.2.2.2.1.2.2.2.2.2.2.2.2.2.2.2.2.2.2.2.2.2.2.2.2.2.2.2.2.2.2.2.2.1 k0_h5 (k0_off302_inb arg22 arg23 v96 k0_t3 arg26 k0_hw2 k0_h5)
theorem k0_off151_wordsfp8e5m2 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), (Rect.unit (s := S49152x1408) (k0_off151 arg26) S256x1408.size (k0_off151_inb arg22 arg23 v96 k0_t3 arg26 k0_hw2 k0_h5)).WholeWords (EltTy.packing .fp8e5m2) := fun arg22 arg23 v96 k0_t3 arg26 k0_hw2 k0_h5 => k0_hw2.2.2.2.2.2.2.2.1.2.2.2.2.2.2.2.2.2.2.2.2.2.2.2.2.2.2.2.2.2.2.2.2.2.2.2.2.2.1 k0_h5 (k0_off151_inb arg22 arg23 v96 k0_t3 arg26 k0_hw2 k0_h5)
theorem k0_mult61_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), 256 ∣ (k0_mult61 arg26).toNat := fun arg22 arg23 v96 k0_t3 arg26 k0_hw2 k0_h5 k0_h7 => k0_hw2.2.2.2.2.2.2.2.1.2.2.2.2.2.2.2.2.2.2.2.2.2.2.2.2.2.2.2.2.2.2.2.2.2.2.2.2.2.2.1 k0_h5 k0_h7
theorem k0_off303_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off303 arg26) a + S1x1.size a ≤ S2x4.size a := fun arg22 arg23 v96 k0_t3 arg26 k0_hw2 k0_h5 k0_h7 => k0_hw2.2.2.2.2.2.2.2.1.2.2.2.2.2.2.2.2.2.2.2.2.2.2.2.2.2.2.2.2.2.2.2.2.2.2.2.2.2.2.2 k0_h5 k0_h7
theorem k0_off304_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off304 arg26) a + S1x256x2048.size a ≤ S4x256x2048.size a := fun arg22 arg23 v96 k0_t3 arg26 k0_hw2 k0_h5 k0_h7 => k0_hw2.2.2.2.2.2.2.2.2.1.1 k0_h5 k0_h7
theorem k0_off305_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off305 arg26) a + S256x2048.size a ≤ S49152x2048.size a := fun arg22 arg23 v96 k0_t3 arg26 k0_hw2 k0_h5 k0_h7 => k0_hw2.2.2.2.2.2.2.2.2.1.2.1 k0_h5 k0_h7
theorem k0_off305_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), (Rect.unit (s := S49152x2048) (k0_off305 arg26) S256x2048.size (k0_off305_inb arg22 arg23 v96 k0_t3 arg26 k0_hw2 k0_h5 k0_h7)).WholeWords (EltTy.packing .bf16) := fun arg22 arg23 v96 k0_t3 arg26 k0_hw2 k0_h5 k0_h7 => k0_hw2.2.2.2.2.2.2.2.2.1.2.2.1 k0_h5 k0_h7 (k0_off305_inb arg22 arg23 v96 k0_t3 arg26 k0_hw2 k0_h5 k0_h7)
theorem k0_off304_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), (Rect.unit (s := S4x256x2048) (k0_off304 arg26) S1x256x2048.size (k0_off304_inb arg22 arg23 v96 k0_t3 arg26 k0_hw2 k0_h5 k0_h7)).WholeWords (EltTy.packing .bf16) := fun arg22 arg23 v96 k0_t3 arg26 k0_hw2 k0_h5 k0_h7 => k0_hw2.2.2.2.2.2.2.2.2.1.2.2.2.1 k0_h5 k0_h7 (k0_off304_inb arg22 arg23 v96 k0_t3 arg26 k0_hw2 k0_h5 k0_h7)
theorem k0_off306_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off306 arg26) a + S1x1.size a ≤ S2x4.size a := fun arg22 arg23 v96 k0_t3 arg26 k0_hw2 k0_h5 k0_h7 => k0_hw2.2.2.2.2.2.2.2.2.1.2.2.2.2.1 k0_h5 k0_h7
theorem k0_off307_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off307 arg26) a + S1x256x1408.size a ≤ S4x256x1408.size a := fun arg22 arg23 v96 k0_t3 arg26 k0_hw2 k0_h5 k0_h7 => k0_hw2.2.2.2.2.2.2.2.2.1.2.2.2.2.2.1 k0_h5 k0_h7
theorem k0_off308_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), ∀ a, (k0_off308 arg26) a + S256x1408.size a ≤ S49152x1408.size a := fun arg22 arg23 v96 k0_t3 arg26 k0_hw2 k0_h5 k0_h7 => k0_hw2.2.2.2.2.2.2.2.2.1.2.2.2.2.2.2.1 k0_h5 k0_h7
theorem k0_off308_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), (Rect.unit (s := S49152x1408) (k0_off308 arg26) S256x1408.size (k0_off308_inb arg22 arg23 v96 k0_t3 arg26 k0_hw2 k0_h5 k0_h7)).WholeWords (EltTy.packing .bf16) := fun arg22 arg23 v96 k0_t3 arg26 k0_hw2 k0_h5 k0_h7 => k0_hw2.2.2.2.2.2.2.2.2.1.2.2.2.2.2.2.2.1 k0_h5 k0_h7 (k0_off308_inb arg22 arg23 v96 k0_t3 arg26 k0_hw2 k0_h5 k0_h7)
theorem k0_off307_wordsbf16 : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h5 : k0_cond5 arg22 v96 k0_t3 arg26 = 1#1), ∀ (k0_h7 : k0_cond7 arg26 = 1#1), (Rect.unit (s := S4x256x1408) (k0_off307 arg26) S1x256x1408.size (k0_off307_inb arg22 arg23 v96 k0_t3 arg26 k0_hw2 k0_h5 k0_h7)).WholeWords (EltTy.packing .bf16) := fun arg22 arg23 v96 k0_t3 arg26 k0_hw2 k0_h5 k0_h7 => k0_hw2.2.2.2.2.2.2.2.2.1.2.2.2.2.2.2.2.2.1 k0_h5 k0_h7 (k0_off307_inb arg22 arg23 v96 k0_t3 arg26 k0_hw2 k0_h5 k0_h7)
theorem k0_mult62_dvd : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), 16 ∣ (k0_mult62 arg22 v96 k0_t3).toNat := fun arg22 arg23 v96 k0_t3 arg26 k0_hw2 k0_h9 => k0_hw2.2.2.2.2.2.2.2.2.1.2.2.2.2.2.2.2.2.2.1 k0_h9
theorem k0_off309_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off309 arg22 v96 k0_t3) a + S256x128.size a ≤ S1280x1408.size a := fun arg22 arg23 v96 k0_t3 arg26 k0_hw2 k0_h9 => k0_hw2.2.2.2.2.2.2.2.2.1.2.2.2.2.2.2.2.2.2.2.1 k0_h9
theorem k0_off310_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off310 arg22 v96 k0_t3) a + S256x128.size a ≤ S1280x1408.size a := fun arg22 arg23 v96 k0_t3 arg26 k0_hw2 k0_h9 => k0_hw2.2.2.2.2.2.2.2.2.1.2.2.2.2.2.2.2.2.2.2.2.1 k0_h9
theorem k0_off311_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off311 arg22 v96 k0_t3) a + S256x128.size a ≤ S1280x1408.size a := fun arg22 arg23 v96 k0_t3 arg26 k0_hw2 k0_h9 => k0_hw2.2.2.2.2.2.2.2.2.1.2.2.2.2.2.2.2.2.2.2.2.2.1 k0_h9
theorem k0_off312_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off312 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.1 k0_h9
theorem k0_off313_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off313 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.1 k0_h9
theorem k0_off314_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off314 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.1 k0_h9
theorem k0_off315_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off315 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.2.1 k0_h9
theorem k0_off316_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off316 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.2.2.1 k0_h9
theorem k0_off317_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off317 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.2.2.2.1 k0_h9
theorem k0_off318_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off318 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.2.2.2.2.1 k0_h9
theorem k0_off319_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off319 arg22 v96 k0_t3) a + S256x128.size a ≤ S1280x1408.size a := fun arg22 arg23 v96 k0_t3 arg26 k0_hw2 k0_h9 => k0_hw2.2.2.2.2.2.2.2.2.1.2.2.2.2.2.2.2.2.2.2.2.2.2.2.2.2.2.2.2.2.1 k0_h9
theorem k0_off320_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off320 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.1 k0_h9
theorem k0_off321_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off321 arg23) a + S1x256x1408.size a ≤ S3x2048x1408.size a := fun arg22 arg23 v96 k0_t3 arg26 k0_hw2 k0_h9 => k0_hw2.2.2.2.2.2.2.2.2.1.2.2.2.2.2.2.2.2.2.2.2.2.2.2.2.2.2.2.2.2.2.2.1 k0_h9
theorem k0_off322_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off322 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.2.2.1 k0_h9
theorem k0_off323_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off323 arg23) a + S1x256x1408.size a ≤ S3x2048x1408.size a := fun arg22 arg23 v96 k0_t3 arg26 k0_hw2 k0_h9 => k0_hw2.2.2.2.2.2.2.2.2.1.2.2.2.2.2.2.2.2.2.2.2.2.2.2.2.2.2.2.2.2.2.2.2.2.1 k0_h9
theorem k0_off324_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off324 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.2.2.2.2.1 k0_h9
theorem k0_off325_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off325 arg23) a + S1x256x1408.size a ≤ S3x2048x1408.size a := fun arg22 arg23 v96 k0_t3 arg26 k0_hw2 k0_h9 => k0_hw2.2.2.2.2.2.2.2.2.1.2.2.2.2.2.2.2.2.2.2.2.2.2.2.2.2.2.2.2.2.2.2.2.2.2.2.1 k0_h9
theorem k0_off326_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off326 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.2.2.2.2.2.2.1 k0_h9
theorem k0_off327_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off327 arg23) a + S1x256x1408.size a ≤ S3x2048x1408.size a := fun arg22 arg23 v96 k0_t3 arg26 k0_hw2 k0_h9 => k0_hw2.2.2.2.2.2.2.2.2.1.2.2.2.2.2.2.2.2.2.2.2.2.2.2.2.2.2.2.2.2.2.2.2.2.2.2.2.2.1 k0_h9
theorem k0_off328_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off328 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.2.2.2.2.2.2.2.2.1 k0_h9
theorem k0_off329_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off329 arg23) a + S1x256x1408.size a ≤ S3x2048x1408.size a := fun arg22 arg23 v96 k0_t3 arg26 k0_hw2 k0_h9 => k0_hw2.2.2.2.2.2.2.2.2.1.2.2.2.2.2.2.2.2.2.2.2.2.2.2.2.2.2.2.2.2.2.2.2.2.2.2.2.2.2.2.1 k0_h9
theorem k0_off330_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off330 arg22 v96 k0_t3) a + S256x256.size a ≤ S1280x2048.size a := fun arg22 arg23 v96 k0_t3 arg26 k0_hw2 k0_h9 => k0_hw2.2.2.2.2.2.2.2.2.1.2.2.2.2.2.2.2.2.2.2.2.2.2.2.2.2.2.2.2.2.2.2.2.2.2.2.2.2.2.2.2 k0_h9
theorem k0_off331_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off331 arg23) a + S1x256x1408.size a ≤ S3x2048x1408.size a := fun arg22 arg23 v96 k0_t3 arg26 k0_hw2 k0_h9 => k0_hw2.2.2.2.2.2.2.2.2.2.1 k0_h9
theorem k0_off332_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off332 arg22 v96 k0_t3) a + S256x256.size a ≤ S1280x2048.size a := fun arg22 arg23 v96 k0_t3 arg26 k0_hw2 k0_h9 => k0_hw2.2.2.2.2.2.2.2.2.2.2.1 k0_h9
theorem k0_off333_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off333 arg23) a + S1x256x1408.size a ≤ S3x2048x1408.size a := fun arg22 arg23 v96 k0_t3 arg26 k0_hw2 k0_h9 => k0_hw2.2.2.2.2.2.2.2.2.2.2.2.1 k0_h9
theorem k0_off334_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off334 arg22 v96 k0_t3) a + S256x256.size a ≤ S1280x2048.size a := fun arg22 arg23 v96 k0_t3 arg26 k0_hw2 k0_h9 => k0_hw2.2.2.2.2.2.2.2.2.2.2.2.2.1 k0_h9
theorem k0_off335_inb : ∀ (arg22 : BitVec 32) (arg23 : BitVec 32) (v96 : BitVec 32) (k0_t3 : Fin (k0_t3_loop arg22 v96).trips) (arg26 : BitVec 32) (k0_hw2 : k0_chk2 arg22 arg23 v96 k0_t3 arg26), ∀ (k0_h9 : k0_cond9 arg22 v96 k0_t3 arg26 = 1#1), ∀ a, (k0_off335 arg23) a + S1x256x1408.size a ≤ S3x2048x1408.size a := fun arg22 arg23 v96 k0_t3 arg26 k0_hw2 k0_h9 => k0_hw2.2.2.2.2.2.2.2.2.2.2.2.2.2 k0_h9

@[reducible] def k0_t4_loop (arg22 : BitVec 32) (v96 : BitVec 32) : Scf.Loop 32 :=
  let c0_i32_95 : BitVec 32 := 0#32
  let c0_i32_87 : BitVec 32 := 0#32
  let v101 : BitVec 1 := Scalar.cmpi .sgt v96 c0_i32_87
  let v97 : BitVec 32 := Scalar.addi arg22 v96
  let c16_i32 : BitVec 32 := 16#32
  let v99 : BitVec 32 := Scalar.divsi arg22 c16_i32
  let c16_i32_86 : BitVec 32 := 16#32
  let v100 : BitVec 32 := Scalar.muli v99 c16_i32_86
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let v113 : BitVec 32 := Scalar.addi c0_i32_95 v112
  let c1_i32_98 : BitVec 32 := 1#32
  ⟨v116, v113, c1_i32_98⟩
def k0_mult63 (arg26 : BitVec 32) : BitVec 32 :=
  let c256_i32_111 : BitVec 32 := 256#32
  let v144 : BitVec 32 := Scalar.muli arg26 c256_i32_111
  v144
def k0_cond10 (arg22 : BitVec 32) (v96 : BitVec 32) (k0_t4 : Fin (k0_t4_loop arg22 v96).trips) (arg26 : BitVec 32) : BitVec 1 :=
  let c192_i32 : BitVec 32 := 192#32
  let v131 : BitVec 1 := Scalar.cmpi .slt arg26 c192_i32
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c256_i32_106 : BitVec 32 := 256#32
  let v132 : BitVec 32 := Scalar.divsi v129 c256_i32_106
  let c4_i32_107 : BitVec 32 := 4#32
  let v133 : BitVec 32 := Scalar.addi v132 c4_i32_107
  let v134 : BitVec 1 := Scalar.cmpi .slt arg26 v133
  let v135 : BitVec 1 := Scalar.andi v131 v134
  let v136 : BitVec 32 := Scalar.extui v135
  let c0_i32_108 : BitVec 32 := 0#32
  let v137 : BitVec 1 := Scalar.cmpi .ne v136 c0_i32_108
  v137

def k0_off336 (arg26 : BitVec 32) : Fin 2 → Nat :=
  let c0_i32_112 : BitVec 32 := 0#32
  let c4_i32_110 : BitVec 32 := 4#32
  let v143 : BitVec 32 := Scalar.remsi arg26 c4_i32_110
  ![0, v143.toNat]
def k0_off337 (arg26 : BitVec 32) : Fin 3 → Nat :=
  let c4_i32_110 : BitVec 32 := 4#32
  let v143 : BitVec 32 := Scalar.remsi arg26 c4_i32_110
  let c0_i32_113 : BitVec 32 := 0#32
  let c0_i32_114 : BitVec 32 := 0#32
  ![v143.toNat, 0, 0]
def k0_off338 (arg26 : BitVec 32) : Fin 2 → Nat :=
  let c256_i32_111 : BitVec 32 := 256#32
  let v144 : BitVec 32 := Scalar.muli arg26 c256_i32_111
  let v145 : BitVec 32 := v144
  let c0_i32_115 : BitVec 32 := 0#32
  ![v145.toNat, 0]
def k0_off339 (arg26 : BitVec 32) : Fin 2 → Nat :=
  let c1_i32_116 : BitVec 32 := 1#32
  let c4_i32_110 : BitVec 32 := 4#32
  let v143 : BitVec 32 := Scalar.remsi arg26 c4_i32_110
  ![1, v143.toNat]
def k0_off340 (arg26 : BitVec 32) : Fin 3 → Nat :=
  let c4_i32_110 : BitVec 32 := 4#32
  let v143 : BitVec 32 := Scalar.remsi arg26 c4_i32_110
  let c0_i32_117 : BitVec 32 := 0#32
  let c0_i32_118 : BitVec 32 := 0#32
  ![v143.toNat, 0, 0]
def k0_off341 (arg26 : BitVec 32) : Fin 2 → Nat :=
  let c256_i32_111 : BitVec 32 := 256#32
  let v144 : BitVec 32 := Scalar.muli arg26 c256_i32_111
  let v145 : BitVec 32 := v144
  let c0_i32_119 : BitVec 32 := 0#32
  ![v145.toNat, 0]
def k0_mult64 (arg26 : BitVec 32) : BitVec 32 :=
  let c2_i32_1163 : BitVec 32 := 2#32
  let v2910 : BitVec 32 := Scalar.subi arg26 c2_i32_1163
  let c256_i32_1165 : BitVec 32 := 256#32
  let v2912 : BitVec 32 := Scalar.muli v2910 c256_i32_1165
  v2912
def k0_cond11 (arg26 : BitVec 32) : BitVec 1 :=
  let c2_i32_120 : BitVec 32 := 2#32
  let v156 : BitVec 1 := Scalar.cmpi .sge arg26 c2_i32_120
  let v157 : BitVec 32 := Scalar.extui v156
  let c0_i32_121 : BitVec 32 := 0#32
  let v158 : BitVec 1 := Scalar.cmpi .ne v157 c0_i32_121
  v158

def k0_off342 (arg26 : BitVec 32) : Fin 2 → Nat :=
  let c0_i32_1166 : BitVec 32 := 0#32
  let c2_i32_1163 : BitVec 32 := 2#32
  let v2910 : BitVec 32 := Scalar.subi arg26 c2_i32_1163
  let c2_i32_1164 : BitVec 32 := 2#32
  let v2911 : BitVec 32 := Scalar.remsi v2910 c2_i32_1164
  ![0, v2911.toNat]
def k0_off343 (arg26 : BitVec 32) : Fin 2 → Nat :=
  let c2_i32_1163 : BitVec 32 := 2#32
  let v2910 : BitVec 32 := Scalar.subi arg26 c2_i32_1163
  let c256_i32_1165 : BitVec 32 := 256#32
  let v2912 : BitVec 32 := Scalar.muli v2910 c256_i32_1165
  let v2913 : BitVec 32 := v2912
  let c0_i32_1167 : BitVec 32 := 0#32
  ![v2913.toNat, 0]
def k0_off344 (arg26 : BitVec 32) : Fin 3 → Nat :=
  let c2_i32_1163 : BitVec 32 := 2#32
  let v2910 : BitVec 32 := Scalar.subi arg26 c2_i32_1163
  let c2_i32_1164 : BitVec 32 := 2#32
  let v2911 : BitVec 32 := Scalar.remsi v2910 c2_i32_1164
  let c0_i32_1168 : BitVec 32 := 0#32
  let c0_i32_1169 : BitVec 32 := 0#32
  ![v2911.toNat, 0, 0]
def k0_off345 (arg26 : BitVec 32) : Fin 2 → Nat :=
  let c1_i32_1170 : BitVec 32 := 1#32
  let c2_i32_1163 : BitVec 32 := 2#32
  let v2910 : BitVec 32 := Scalar.subi arg26 c2_i32_1163
  let c2_i32_1164 : BitVec 32 := 2#32
  let v2911 : BitVec 32 := Scalar.remsi v2910 c2_i32_1164
  ![1, v2911.toNat]
def k0_off346 (arg26 : BitVec 32) : Fin 2 → Nat :=
  let c2_i32_1163 : BitVec 32 := 2#32
  let v2910 : BitVec 32 := Scalar.subi arg26 c2_i32_1163
  let c256_i32_1165 : BitVec 32 := 256#32
  let v2912 : BitVec 32 := Scalar.muli v2910 c256_i32_1165
  let v2913 : BitVec 32 := v2912
  let c0_i32_1171 : BitVec 32 := 0#32
  ![v2913.toNat, 0]
def k0_off347 (arg26 : BitVec 32) : Fin 3 → Nat :=
  let c2_i32_1163 : BitVec 32 := 2#32
  let v2910 : BitVec 32 := Scalar.subi arg26 c2_i32_1163
  let c2_i32_1164 : BitVec 32 := 2#32
  let v2911 : BitVec 32 := Scalar.remsi v2910 c2_i32_1164
  let c0_i32_1172 : BitVec 32 := 0#32
  let c0_i32_1173 : BitVec 32 := 0#32
  ![v2911.toNat, 0, 0]
def k0_mult65 (arg22 : BitVec 32) (v96 : BitVec 32) (k0_t4 : Fin (k0_t4_loop arg22 v96).trips) : BitVec 32 :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  v159
def k0_off348 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v173 : Index := Scalar.indexCast v160
  let c0_124 : Index := 0#32
  ![v173.toNat, 0]
def k0_off349 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v179 : Index := Scalar.indexCast v160
  let c128 : Index := 128#32
  ![v179.toNat, 128]
def k0_off350 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v185 : Index := Scalar.indexCast v160
  let c256 : Index := 256#32
  ![v185.toNat, 256]
def k0_off351 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v191 : Index := Scalar.indexCast v160
  let c384 : Index := 384#32
  ![v191.toNat, 384]
def k0_off352 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v197 : Index := Scalar.indexCast v160
  let c512 : Index := 512#32
  ![v197.toNat, 512]
def k0_off353 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v203 : Index := Scalar.indexCast v160
  let c640 : Index := 640#32
  ![v203.toNat, 640]
def k0_off354 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v209 : Index := Scalar.indexCast v160
  let c768 : Index := 768#32
  ![v209.toNat, 768]
def k0_off355 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v215 : Index := Scalar.indexCast v160
  let c896 : Index := 896#32
  ![v215.toNat, 896]
def k0_off356 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v221 : Index := Scalar.indexCast v160
  let c1024 : Index := 1024#32
  ![v221.toNat, 1024]
def k0_off357 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v227 : Index := Scalar.indexCast v160
  let c1152 : Index := 1152#32
  ![v227.toNat, 1152]
def k0_off358 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v233 : Index := Scalar.indexCast v160
  let c1280 : Index := 1280#32
  ![v233.toNat, 1280]
def k0_off359 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v239 : Index := Scalar.indexCast v160
  let c0_147 : Index := 0#32
  ![v239.toNat, 0]
def k0_off360 (arg23 : BitVec 32) : Fin 3 → Nat :=
  let c3_i32_85 : BitVec 32 := 3#32
  let v98 : BitVec 32 := Scalar.remsi arg23 c3_i32_85
  let v243 : Index := Scalar.indexCast v98
  let c0_151 : Index := 0#32
  let c0_152 : Index := 0#32
  ![v243.toNat, 0, 0]
def k0_mult66 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  v256
def k0_mult67 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let c0_i32_160 : BitVec 32 := 0#32
  let v258 : BitVec 32 := Scalar.addi v257 c0_i32_160
  v258
def k0_off361 (arg26 : BitVec 32) : Fin 3 → Nat :=
  let c4_i32_156 : BitVec 32 := 4#32
  let v253 : BitVec 32 := Scalar.remsi arg26 c4_i32_156
  let v260 : Index := Scalar.indexCast v253
  let c0_161 : Index := 0#32
  let c0_162 : Index := 0#32
  ![v260.toNat, 0, 0]
def k0_off362 (arg26 : BitVec 32) (c0_i32_174 : BitVec 32) : Fin 2 → Nat :=
  let c2_i32_173 : BitVec 32 := 2#32
  let v296 : BitVec 32 := Scalar.muli c2_i32_173 arg26
  let v297 : BitVec 32 := Scalar.addi v296 c0_i32_174
  let v298 : Index := Scalar.indexCast v297
  let c0_175 : Index := 0#32
  ![v298.toNat, 0]
def k0_off363 (arg26 : BitVec 32) : Fin 3 → Nat :=
  let c2_i32_157 : BitVec 32 := 2#32
  let v254 : BitVec 32 := Scalar.remsi arg26 c2_i32_157
  let v310 : Index := Scalar.indexCast v254
  let c0_178 : Index := 0#32
  let c0_179 : Index := 0#32
  ![v310.toNat, 0, 0]
def k0_off364 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v318 : Index := Scalar.indexCast v259
  let c0_180 : Index := 0#32
  ![v318.toNat, 0]
def k0_off365 (arg26 : BitVec 32) : Fin 3 → Nat :=
  let c4_i32_156 : BitVec 32 := 4#32
  let v253 : BitVec 32 := Scalar.remsi arg26 c4_i32_156
  let v322 : Index := Scalar.indexCast v253
  let c0_181 : Index := 0#32
  let c0_182 : Index := 0#32
  ![v322.toNat, 0, 0]
def k0_off366 (arg26 : BitVec 32) (c0_i32_198 : BitVec 32) : Fin 2 → Nat :=
  let c2_i32_197 : BitVec 32 := 2#32
  let v363 : BitVec 32 := Scalar.muli c2_i32_197 arg26
  let v364 : BitVec 32 := Scalar.addi v363 c0_i32_198
  let v365 : Index := Scalar.indexCast v364
  let c0_199 : Index := 0#32
  ![v365.toNat, 0]
def k0_off367 (arg26 : BitVec 32) : Fin 3 → Nat :=
  let c2_i32_157 : BitVec 32 := 2#32
  let v254 : BitVec 32 := Scalar.remsi arg26 c2_i32_157
  let v377 : Index := Scalar.indexCast v254
  let c0_202 : Index := 0#32
  let c0_203 : Index := 0#32
  ![v377.toNat, 0, 0]
def k0_off368 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v385 : Index := Scalar.indexCast v259
  let c0_204 : Index := 0#32
  ![v385.toNat, 0]
def k0_off369 (arg26 : BitVec 32) : Fin 3 → Nat :=
  let c4_i32_156 : BitVec 32 := 4#32
  let v253 : BitVec 32 := Scalar.remsi arg26 c4_i32_156
  let v389 : Index := Scalar.indexCast v253
  let c0_205 : Index := 0#32
  let c1024_206 : Index := 1024#32
  ![v389.toNat, 0, 1024]
def k0_off370 (arg26 : BitVec 32) (c0_i32_222 : BitVec 32) : Fin 2 → Nat :=
  let c2_i32_221 : BitVec 32 := 2#32
  let v430 : BitVec 32 := Scalar.muli c2_i32_221 arg26
  let v431 : BitVec 32 := Scalar.addi v430 c0_i32_222
  let v432 : Index := Scalar.indexCast v431
  let c8 : Index := 8#32
  ![v432.toNat, 8]
def k0_off371 (arg26 : BitVec 32) : Fin 3 → Nat :=
  let c2_i32_157 : BitVec 32 := 2#32
  let v254 : BitVec 32 := Scalar.remsi arg26 c2_i32_157
  let v444 : Index := Scalar.indexCast v254
  let c0_225 : Index := 0#32
  let c1024_226 : Index := 1024#32
  ![v444.toNat, 0, 1024]
def k0_off372 (arg26 : BitVec 32) (c0_i32_160 : BitVec 32) : Fin 2 → Nat :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let v258 : BitVec 32 := Scalar.addi v257 c0_i32_160
  let v259 : BitVec 32 := v258
  let v452 : Index := Scalar.indexCast v259
  let c1024_227 : Index := 1024#32
  ![v452.toNat, 1024]
def k0_mult68 (arg26 : BitVec 32) : BitVec 32 :=
  let c4_i32_158 : BitVec 32 := 4#32
  let v255 : BitVec 32 := Scalar.remsi arg26 c4_i32_158
  let c256_i32_159 : BitVec 32 := 256#32
  let v256 : BitVec 32 := Scalar.muli v255 c256_i32_159
  let v257 : BitVec 32 := v256
  let c128_i32 : BitVec 32 := 128#32
  let v456 : BitVec 32 := Scalar.addi v257 c128_i32
  v456
def k0_off373 (arg26 : BitVec 32) : Fin 3 → Nat :=
  let c4_i32_156 : BitVec 32 := 4#32
  let v253 : BitVec 32 := Scalar.remsi arg26 c4_i32_156
  let v458 : Index := Scalar.indexCast v253
  let c128_228 : Index := 128#32
  let c0_229 : Index := 0#32
  ![v458.toNat, 128, 0]
def k0_off374 (arg26 : BitVec 32) : Fin 3 → Nat :=
  let c2_i32_157 : BitVec 32 := 2#32
  let v254 : BitVec 32 := Scalar.remsi arg26 c2_i32_157
  let v508 : Index := Scalar.indexCast v254
  let c128_248 : Index := 128#32
  let c0_249 : Index := 0#32
  ![v508.toNat, 128, 0]
def k0_off375 (arg26 : BitVec 32) : Fin 3 → Nat :=
  let c4_i32_156 : BitVec 32 := 4#32
  let v253 : BitVec 32 := Scalar.remsi arg26 c4_i32_156
  let v520 : Index := Scalar.indexCast v253
  let c128_251 : Index := 128#32
  let c0_252 : Index := 0#32
  ![v520.toNat, 128, 0]
def k0_off376 (arg26 : BitVec 32) : Fin 3 → Nat :=
  let c2_i32_157 : BitVec 32 := 2#32
  let v254 : BitVec 32 := Scalar.remsi arg26 c2_i32_157
  let v575 : Index := Scalar.indexCast v254
  let c128_272 : Index := 128#32
  let c0_273 : Index := 0#32
  ![v575.toNat, 128, 0]
def k0_off377 (arg26 : BitVec 32) : Fin 3 → Nat :=
  let c4_i32_156 : BitVec 32 := 4#32
  let v253 : BitVec 32 := Scalar.remsi arg26 c4_i32_156
  let v587 : Index := Scalar.indexCast v253
  let c128_275 : Index := 128#32
  let c1024_276 : Index := 1024#32
  ![v587.toNat, 128, 1024]
def k0_off378 (arg26 : BitVec 32) : Fin 3 → Nat :=
  let c2_i32_157 : BitVec 32 := 2#32
  let v254 : BitVec 32 := Scalar.remsi arg26 c2_i32_157
  let v642 : Index := Scalar.indexCast v254
  let c128_296 : Index := 128#32
  let c1024_297 : Index := 1024#32
  ![v642.toNat, 128, 1024]
def k0_off379 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v654 : Index := Scalar.indexCast v160
  let c256_299 : Index := 256#32
  ![v654.toNat, 256]
def k0_off380 (arg23 : BitVec 32) : Fin 3 → Nat :=
  let c3_i32_85 : BitVec 32 := 3#32
  let v98 : BitVec 32 := Scalar.remsi arg23 c3_i32_85
  let v658 : Index := Scalar.indexCast v98
  let c256_303 : Index := 256#32
  let c0_304 : Index := 0#32
  ![v658.toNat, 256, 0]
def k0_mult69 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  v671
def k0_mult70 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let c0_i32_312 : BitVec 32 := 0#32
  let v673 : BitVec 32 := Scalar.addi v672 c0_i32_312
  v673
def k0_off381 (arg26 : BitVec 32) : Fin 3 → Nat :=
  let c4_i32_308 : BitVec 32 := 4#32
  let v668 : BitVec 32 := Scalar.remsi arg26 c4_i32_308
  let v675 : Index := Scalar.indexCast v668
  let c0_313 : Index := 0#32
  let c256_314 : Index := 256#32
  ![v675.toNat, 0, 256]
def k0_off382 (arg26 : BitVec 32) (c0_i32_329 : BitVec 32) : Fin 2 → Nat :=
  let c2_i32_328 : BitVec 32 := 2#32
  let v711 : BitVec 32 := Scalar.muli c2_i32_328 arg26
  let v712 : BitVec 32 := Scalar.addi v711 c0_i32_329
  let v713 : Index := Scalar.indexCast v712
  let c256_330 : Index := 256#32
  ![v713.toNat, 256]
def k0_off383 (arg26 : BitVec 32) : Fin 3 → Nat :=
  let c2_i32_309 : BitVec 32 := 2#32
  let v669 : BitVec 32 := Scalar.remsi arg26 c2_i32_309
  let v725 : Index := Scalar.indexCast v669
  let c0_333 : Index := 0#32
  let c256_334 : Index := 256#32
  ![v725.toNat, 0, 256]
def k0_off384 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v733 : Index := Scalar.indexCast v674
  let c256_335 : Index := 256#32
  ![v733.toNat, 256]
def k0_off385 (arg26 : BitVec 32) : Fin 3 → Nat :=
  let c4_i32_308 : BitVec 32 := 4#32
  let v668 : BitVec 32 := Scalar.remsi arg26 c4_i32_308
  let v737 : Index := Scalar.indexCast v668
  let c0_336 : Index := 0#32
  let c128_337 : Index := 128#32
  ![v737.toNat, 0, 128]
def k0_off386 (arg26 : BitVec 32) (c0_i32_353 : BitVec 32) : Fin 2 → Nat :=
  let c2_i32_352 : BitVec 32 := 2#32
  let v778 : BitVec 32 := Scalar.muli c2_i32_352 arg26
  let v779 : BitVec 32 := Scalar.addi v778 c0_i32_353
  let v780 : Index := Scalar.indexCast v779
  let c1 : Index := 1#32
  ![v780.toNat, 1]
def k0_off387 (arg26 : BitVec 32) : Fin 3 → Nat :=
  let c2_i32_309 : BitVec 32 := 2#32
  let v669 : BitVec 32 := Scalar.remsi arg26 c2_i32_309
  let v792 : Index := Scalar.indexCast v669
  let c0_356 : Index := 0#32
  let c128_357 : Index := 128#32
  ![v792.toNat, 0, 128]
def k0_off388 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v800 : Index := Scalar.indexCast v674
  let c128_358 : Index := 128#32
  ![v800.toNat, 128]
def k0_off389 (arg26 : BitVec 32) : Fin 3 → Nat :=
  let c4_i32_308 : BitVec 32 := 4#32
  let v668 : BitVec 32 := Scalar.remsi arg26 c4_i32_308
  let v804 : Index := Scalar.indexCast v668
  let c0_359 : Index := 0#32
  let c1152_360 : Index := 1152#32
  ![v804.toNat, 0, 1152]
def k0_off390 (arg26 : BitVec 32) (c0_i32_376 : BitVec 32) : Fin 2 → Nat :=
  let c2_i32_375 : BitVec 32 := 2#32
  let v845 : BitVec 32 := Scalar.muli c2_i32_375 arg26
  let v846 : BitVec 32 := Scalar.addi v845 c0_i32_376
  let v847 : Index := Scalar.indexCast v846
  let c9 : Index := 9#32
  ![v847.toNat, 9]
def k0_off391 (arg26 : BitVec 32) : Fin 3 → Nat :=
  let c2_i32_309 : BitVec 32 := 2#32
  let v669 : BitVec 32 := Scalar.remsi arg26 c2_i32_309
  let v859 : Index := Scalar.indexCast v669
  let c0_379 : Index := 0#32
  let c1152_380 : Index := 1152#32
  ![v859.toNat, 0, 1152]
def k0_off392 (arg26 : BitVec 32) (c0_i32_312 : BitVec 32) : Fin 2 → Nat :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let v673 : BitVec 32 := Scalar.addi v672 c0_i32_312
  let v674 : BitVec 32 := v673
  let v867 : Index := Scalar.indexCast v674
  let c1152_381 : Index := 1152#32
  ![v867.toNat, 1152]
def k0_mult71 (arg26 : BitVec 32) : BitVec 32 :=
  let c4_i32_310 : BitVec 32 := 4#32
  let v670 : BitVec 32 := Scalar.remsi arg26 c4_i32_310
  let c256_i32_311 : BitVec 32 := 256#32
  let v671 : BitVec 32 := Scalar.muli v670 c256_i32_311
  let v672 : BitVec 32 := v671
  let c128_i32_382 : BitVec 32 := 128#32
  let v871 : BitVec 32 := Scalar.addi v672 c128_i32_382
  v871
def k0_off393 (arg26 : BitVec 32) : Fin 3 → Nat :=
  let c4_i32_308 : BitVec 32 := 4#32
  let v668 : BitVec 32 := Scalar.remsi arg26 c4_i32_308
  let v873 : Index := Scalar.indexCast v668
  let c128_383 : Index := 128#32
  let c256_384 : Index := 256#32
  ![v873.toNat, 128, 256]
def k0_off394 (arg26 : BitVec 32) : Fin 3 → Nat :=
  let c2_i32_309 : BitVec 32 := 2#32
  let v669 : BitVec 32 := Scalar.remsi arg26 c2_i32_309
  let v923 : Index := Scalar.indexCast v669
  let c128_403 : Index := 128#32
  let c256_404 : Index := 256#32
  ![v923.toNat, 128, 256]
def k0_off395 (arg26 : BitVec 32) : Fin 3 → Nat :=
  let c4_i32_308 : BitVec 32 := 4#32
  let v668 : BitVec 32 := Scalar.remsi arg26 c4_i32_308
  let v935 : Index := Scalar.indexCast v668
  let c128_406 : Index := 128#32
  let c128_407 : Index := 128#32
  ![v935.toNat, 128, 128]
def k0_off396 (arg26 : BitVec 32) : Fin 3 → Nat :=
  let c2_i32_309 : BitVec 32 := 2#32
  let v669 : BitVec 32 := Scalar.remsi arg26 c2_i32_309
  let v990 : Index := Scalar.indexCast v669
  let c128_427 : Index := 128#32
  let c128_428 : Index := 128#32
  ![v990.toNat, 128, 128]
def k0_off397 (arg26 : BitVec 32) : Fin 3 → Nat :=
  let c4_i32_308 : BitVec 32 := 4#32
  let v668 : BitVec 32 := Scalar.remsi arg26 c4_i32_308
  let v1002 : Index := Scalar.indexCast v668
  let c128_430 : Index := 128#32
  let c1152_431 : Index := 1152#32
  ![v1002.toNat, 128, 1152]
def k0_off398 (arg26 : BitVec 32) : Fin 3 → Nat :=
  let c2_i32_309 : BitVec 32 := 2#32
  let v669 : BitVec 32 := Scalar.remsi arg26 c2_i32_309
  let v1057 : Index := Scalar.indexCast v669
  let c128_451 : Index := 128#32
  let c1152_452 : Index := 1152#32
  ![v1057.toNat, 128, 1152]
def k0_off399 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1069 : Index := Scalar.indexCast v160
  let c512_454 : Index := 512#32
  ![v1069.toNat, 512]
def k0_off400 (arg23 : BitVec 32) : Fin 3 → Nat :=
  let c3_i32_85 : BitVec 32 := 3#32
  let v98 : BitVec 32 := Scalar.remsi arg23 c3_i32_85
  let v1073 : Index := Scalar.indexCast v98
  let c512_458 : Index := 512#32
  let c0_459 : Index := 0#32
  ![v1073.toNat, 512, 0]
def k0_mult72 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  v1086
def k0_mult73 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let c0_i32_467 : BitVec 32 := 0#32
  let v1088 : BitVec 32 := Scalar.addi v1087 c0_i32_467
  v1088
def k0_off401 (arg26 : BitVec 32) : Fin 3 → Nat :=
  let c4_i32_463 : BitVec 32 := 4#32
  let v1083 : BitVec 32 := Scalar.remsi arg26 c4_i32_463
  let v1090 : Index := Scalar.indexCast v1083
  let c0_468 : Index := 0#32
  let c512_469 : Index := 512#32
  ![v1090.toNat, 0, 512]
def k0_off402 (arg26 : BitVec 32) (c0_i32_484 : BitVec 32) : Fin 2 → Nat :=
  let c2_i32_483 : BitVec 32 := 2#32
  let v1126 : BitVec 32 := Scalar.muli c2_i32_483 arg26
  let v1127 : BitVec 32 := Scalar.addi v1126 c0_i32_484
  let v1128 : Index := Scalar.indexCast v1127
  let c512_485 : Index := 512#32
  ![v1128.toNat, 512]
def k0_off403 (arg26 : BitVec 32) : Fin 3 → Nat :=
  let c2_i32_464 : BitVec 32 := 2#32
  let v1084 : BitVec 32 := Scalar.remsi arg26 c2_i32_464
  let v1140 : Index := Scalar.indexCast v1084
  let c0_488 : Index := 0#32
  let c512_489 : Index := 512#32
  ![v1140.toNat, 0, 512]
def k0_off404 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1148 : Index := Scalar.indexCast v1089
  let c512_490 : Index := 512#32
  ![v1148.toNat, 512]
def k0_off405 (arg26 : BitVec 32) : Fin 3 → Nat :=
  let c4_i32_463 : BitVec 32 := 4#32
  let v1083 : BitVec 32 := Scalar.remsi arg26 c4_i32_463
  let v1152 : Index := Scalar.indexCast v1083
  let c0_491 : Index := 0#32
  let c256_492 : Index := 256#32
  ![v1152.toNat, 0, 256]
def k0_off406 (arg26 : BitVec 32) (c0_i32_508 : BitVec 32) : Fin 2 → Nat :=
  let c2_i32_507 : BitVec 32 := 2#32
  let v1193 : BitVec 32 := Scalar.muli c2_i32_507 arg26
  let v1194 : BitVec 32 := Scalar.addi v1193 c0_i32_508
  let v1195 : Index := Scalar.indexCast v1194
  let c2 : Index := 2#32
  ![v1195.toNat, 2]
def k0_off407 (arg26 : BitVec 32) : Fin 3 → Nat :=
  let c2_i32_464 : BitVec 32 := 2#32
  let v1084 : BitVec 32 := Scalar.remsi arg26 c2_i32_464
  let v1207 : Index := Scalar.indexCast v1084
  let c0_511 : Index := 0#32
  let c256_512 : Index := 256#32
  ![v1207.toNat, 0, 256]
def k0_off408 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1215 : Index := Scalar.indexCast v1089
  let c256_513 : Index := 256#32
  ![v1215.toNat, 256]
def k0_off409 (arg26 : BitVec 32) : Fin 3 → Nat :=
  let c4_i32_463 : BitVec 32 := 4#32
  let v1083 : BitVec 32 := Scalar.remsi arg26 c4_i32_463
  let v1219 : Index := Scalar.indexCast v1083
  let c0_514 : Index := 0#32
  let c1280_515 : Index := 1280#32
  ![v1219.toNat, 0, 1280]
def k0_off410 (arg26 : BitVec 32) (c0_i32_531 : BitVec 32) : Fin 2 → Nat :=
  let c2_i32_530 : BitVec 32 := 2#32
  let v1260 : BitVec 32 := Scalar.muli c2_i32_530 arg26
  let v1261 : BitVec 32 := Scalar.addi v1260 c0_i32_531
  let v1262 : Index := Scalar.indexCast v1261
  let c10 : Index := 10#32
  ![v1262.toNat, 10]
def k0_off411 (arg26 : BitVec 32) : Fin 3 → Nat :=
  let c2_i32_464 : BitVec 32 := 2#32
  let v1084 : BitVec 32 := Scalar.remsi arg26 c2_i32_464
  let v1274 : Index := Scalar.indexCast v1084
  let c0_534 : Index := 0#32
  let c1280_535 : Index := 1280#32
  ![v1274.toNat, 0, 1280]
def k0_off412 (arg26 : BitVec 32) (c0_i32_467 : BitVec 32) : Fin 2 → Nat :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let v1088 : BitVec 32 := Scalar.addi v1087 c0_i32_467
  let v1089 : BitVec 32 := v1088
  let v1282 : Index := Scalar.indexCast v1089
  let c1280_536 : Index := 1280#32
  ![v1282.toNat, 1280]
def k0_mult74 (arg26 : BitVec 32) : BitVec 32 :=
  let c4_i32_465 : BitVec 32 := 4#32
  let v1085 : BitVec 32 := Scalar.remsi arg26 c4_i32_465
  let c256_i32_466 : BitVec 32 := 256#32
  let v1086 : BitVec 32 := Scalar.muli v1085 c256_i32_466
  let v1087 : BitVec 32 := v1086
  let c128_i32_537 : BitVec 32 := 128#32
  let v1286 : BitVec 32 := Scalar.addi v1087 c128_i32_537
  v1286
def k0_off413 (arg26 : BitVec 32) : Fin 3 → Nat :=
  let c4_i32_463 : BitVec 32 := 4#32
  let v1083 : BitVec 32 := Scalar.remsi arg26 c4_i32_463
  let v1288 : Index := Scalar.indexCast v1083
  let c128_538 : Index := 128#32
  let c512_539 : Index := 512#32
  ![v1288.toNat, 128, 512]
def k0_off414 (arg26 : BitVec 32) : Fin 3 → Nat :=
  let c2_i32_464 : BitVec 32 := 2#32
  let v1084 : BitVec 32 := Scalar.remsi arg26 c2_i32_464
  let v1338 : Index := Scalar.indexCast v1084
  let c128_558 : Index := 128#32
  let c512_559 : Index := 512#32
  ![v1338.toNat, 128, 512]
def k0_off415 (arg26 : BitVec 32) : Fin 3 → Nat :=
  let c4_i32_463 : BitVec 32 := 4#32
  let v1083 : BitVec 32 := Scalar.remsi arg26 c4_i32_463
  let v1350 : Index := Scalar.indexCast v1083
  let c128_561 : Index := 128#32
  let c256_562 : Index := 256#32
  ![v1350.toNat, 128, 256]
def k0_off416 (arg26 : BitVec 32) : Fin 3 → Nat :=
  let c2_i32_464 : BitVec 32 := 2#32
  let v1084 : BitVec 32 := Scalar.remsi arg26 c2_i32_464
  let v1405 : Index := Scalar.indexCast v1084
  let c128_582 : Index := 128#32
  let c256_583 : Index := 256#32
  ![v1405.toNat, 128, 256]
def k0_off417 (arg26 : BitVec 32) : Fin 3 → Nat :=
  let c4_i32_463 : BitVec 32 := 4#32
  let v1083 : BitVec 32 := Scalar.remsi arg26 c4_i32_463
  let v1417 : Index := Scalar.indexCast v1083
  let c128_585 : Index := 128#32
  let c1280_586 : Index := 1280#32
  ![v1417.toNat, 128, 1280]
def k0_off418 (arg26 : BitVec 32) : Fin 3 → Nat :=
  let c2_i32_464 : BitVec 32 := 2#32
  let v1084 : BitVec 32 := Scalar.remsi arg26 c2_i32_464
  let v1472 : Index := Scalar.indexCast v1084
  let c128_606 : Index := 128#32
  let c1280_607 : Index := 1280#32
  ![v1472.toNat, 128, 1280]
def k0_off419 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1484 : Index := Scalar.indexCast v160
  let c768_609 : Index := 768#32
  ![v1484.toNat, 768]
def k0_off420 (arg23 : BitVec 32) : Fin 3 → Nat :=
  let c3_i32_85 : BitVec 32 := 3#32
  let v98 : BitVec 32 := Scalar.remsi arg23 c3_i32_85
  let v1488 : Index := Scalar.indexCast v98
  let c768_613 : Index := 768#32
  let c0_614 : Index := 0#32
  ![v1488.toNat, 768, 0]
def k0_mult75 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  v1501
def k0_mult76 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let c0_i32_622 : BitVec 32 := 0#32
  let v1503 : BitVec 32 := Scalar.addi v1502 c0_i32_622
  v1503
def k0_off421 (arg26 : BitVec 32) : Fin 3 → Nat :=
  let c4_i32_618 : BitVec 32 := 4#32
  let v1498 : BitVec 32 := Scalar.remsi arg26 c4_i32_618
  let v1505 : Index := Scalar.indexCast v1498
  let c0_623 : Index := 0#32
  let c768_624 : Index := 768#32
  ![v1505.toNat, 0, 768]
def k0_off422 (arg26 : BitVec 32) (c0_i32_639 : BitVec 32) : Fin 2 → Nat :=
  let c2_i32_638 : BitVec 32 := 2#32
  let v1541 : BitVec 32 := Scalar.muli c2_i32_638 arg26
  let v1542 : BitVec 32 := Scalar.addi v1541 c0_i32_639
  let v1543 : Index := Scalar.indexCast v1542
  let c768_640 : Index := 768#32
  ![v1543.toNat, 768]
def k0_off423 (arg26 : BitVec 32) : Fin 3 → Nat :=
  let c2_i32_619 : BitVec 32 := 2#32
  let v1499 : BitVec 32 := Scalar.remsi arg26 c2_i32_619
  let v1555 : Index := Scalar.indexCast v1499
  let c0_643 : Index := 0#32
  let c768_644 : Index := 768#32
  ![v1555.toNat, 0, 768]
def k0_off424 (arg26 : BitVec 32) (c0_i32_622 : BitVec 32) : Fin 2 → Nat :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let v1503 : BitVec 32 := Scalar.addi v1502 c0_i32_622
  let v1504 : BitVec 32 := v1503
  let v1563 : Index := Scalar.indexCast v1504
  let c768_645 : Index := 768#32
  ![v1563.toNat, 768]
def k0_off425 (arg26 : BitVec 32) : Fin 3 → Nat :=
  let c4_i32_618 : BitVec 32 := 4#32
  let v1498 : BitVec 32 := Scalar.remsi arg26 c4_i32_618
  let v1567 : Index := Scalar.indexCast v1498
  let c0_646 : Index := 0#32
  let c384_647 : Index := 384#32
  ![v1567.toNat, 0, 384]
def k0_off426 (arg26 : BitVec 32) (c0_i32_663 : BitVec 32) : Fin 2 → Nat :=
  let c2_i32_662 : BitVec 32 := 2#32
  let v1608 : BitVec 32 := Scalar.muli c2_i32_662 arg26
  let v1609 : BitVec 32 := Scalar.addi v1608 c0_i32_663
  let v1610 : Index := Scalar.indexCast v1609
  let c3 : Index := 3#32
  ![v1610.toNat, 3]
def k0_off427 (arg26 : BitVec 32) : Fin 3 → Nat :=
  let c2_i32_619 : BitVec 32 := 2#32
  let v1499 : BitVec 32 := Scalar.remsi arg26 c2_i32_619
  let v1622 : Index := Scalar.indexCast v1499
  let c0_666 : Index := 0#32
  let c384_667 : Index := 384#32
  ![v1622.toNat, 0, 384]
def k0_off428 (arg26 : BitVec 32) (c0_i32_622 : BitVec 32) : Fin 2 → Nat :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let v1503 : BitVec 32 := Scalar.addi v1502 c0_i32_622
  let v1504 : BitVec 32 := v1503
  let v1630 : Index := Scalar.indexCast v1504
  let c384_668 : Index := 384#32
  ![v1630.toNat, 384]
def k0_mult77 (arg26 : BitVec 32) : BitVec 32 :=
  let c4_i32_620 : BitVec 32 := 4#32
  let v1500 : BitVec 32 := Scalar.remsi arg26 c4_i32_620
  let c256_i32_621 : BitVec 32 := 256#32
  let v1501 : BitVec 32 := Scalar.muli v1500 c256_i32_621
  let v1502 : BitVec 32 := v1501
  let c128_i32_669 : BitVec 32 := 128#32
  let v1634 : BitVec 32 := Scalar.addi v1502 c128_i32_669
  v1634
def k0_off429 (arg26 : BitVec 32) : Fin 3 → Nat :=
  let c4_i32_618 : BitVec 32 := 4#32
  let v1498 : BitVec 32 := Scalar.remsi arg26 c4_i32_618
  let v1636 : Index := Scalar.indexCast v1498
  let c128_670 : Index := 128#32
  let c768_671 : Index := 768#32
  ![v1636.toNat, 128, 768]
def k0_off430 (arg26 : BitVec 32) : Fin 3 → Nat :=
  let c2_i32_619 : BitVec 32 := 2#32
  let v1499 : BitVec 32 := Scalar.remsi arg26 c2_i32_619
  let v1686 : Index := Scalar.indexCast v1499
  let c128_690 : Index := 128#32
  let c768_691 : Index := 768#32
  ![v1686.toNat, 128, 768]
def k0_off431 (arg26 : BitVec 32) : Fin 3 → Nat :=
  let c4_i32_618 : BitVec 32 := 4#32
  let v1498 : BitVec 32 := Scalar.remsi arg26 c4_i32_618
  let v1698 : Index := Scalar.indexCast v1498
  let c128_693 : Index := 128#32
  let c384_694 : Index := 384#32
  ![v1698.toNat, 128, 384]
def k0_off432 (arg26 : BitVec 32) : Fin 3 → Nat :=
  let c2_i32_619 : BitVec 32 := 2#32
  let v1499 : BitVec 32 := Scalar.remsi arg26 c2_i32_619
  let v1753 : Index := Scalar.indexCast v1499
  let c128_714 : Index := 128#32
  let c384_715 : Index := 384#32
  ![v1753.toNat, 128, 384]
def k0_off433 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v1765 : Index := Scalar.indexCast v160
  let c1024_717 : Index := 1024#32
  ![v1765.toNat, 1024]
def k0_off434 (arg23 : BitVec 32) : Fin 3 → Nat :=
  let c3_i32_85 : BitVec 32 := 3#32
  let v98 : BitVec 32 := Scalar.remsi arg23 c3_i32_85
  let v1769 : Index := Scalar.indexCast v98
  let c1024_721 : Index := 1024#32
  let c0_722 : Index := 0#32
  ![v1769.toNat, 1024, 0]
def k0_mult78 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  v1782
def k0_mult79 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let c0_i32_730 : BitVec 32 := 0#32
  let v1784 : BitVec 32 := Scalar.addi v1783 c0_i32_730
  v1784
def k0_off435 (arg26 : BitVec 32) : Fin 3 → Nat :=
  let c4_i32_726 : BitVec 32 := 4#32
  let v1779 : BitVec 32 := Scalar.remsi arg26 c4_i32_726
  let v1786 : Index := Scalar.indexCast v1779
  let c0_731 : Index := 0#32
  let c1024_732 : Index := 1024#32
  ![v1786.toNat, 0, 1024]
def k0_off436 (arg26 : BitVec 32) (c0_i32_747 : BitVec 32) : Fin 2 → Nat :=
  let c2_i32_746 : BitVec 32 := 2#32
  let v1822 : BitVec 32 := Scalar.muli c2_i32_746 arg26
  let v1823 : BitVec 32 := Scalar.addi v1822 c0_i32_747
  let v1824 : Index := Scalar.indexCast v1823
  let c1024_748 : Index := 1024#32
  ![v1824.toNat, 1024]
def k0_off437 (arg26 : BitVec 32) : Fin 3 → Nat :=
  let c2_i32_727 : BitVec 32 := 2#32
  let v1780 : BitVec 32 := Scalar.remsi arg26 c2_i32_727
  let v1836 : Index := Scalar.indexCast v1780
  let c0_751 : Index := 0#32
  let c1024_752 : Index := 1024#32
  ![v1836.toNat, 0, 1024]
def k0_off438 (arg26 : BitVec 32) (c0_i32_730 : BitVec 32) : Fin 2 → Nat :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let v1784 : BitVec 32 := Scalar.addi v1783 c0_i32_730
  let v1785 : BitVec 32 := v1784
  let v1844 : Index := Scalar.indexCast v1785
  let c1024_753 : Index := 1024#32
  ![v1844.toNat, 1024]
def k0_off439 (arg26 : BitVec 32) : Fin 3 → Nat :=
  let c4_i32_726 : BitVec 32 := 4#32
  let v1779 : BitVec 32 := Scalar.remsi arg26 c4_i32_726
  let v1848 : Index := Scalar.indexCast v1779
  let c0_754 : Index := 0#32
  let c512_755 : Index := 512#32
  ![v1848.toNat, 0, 512]
def k0_off440 (arg26 : BitVec 32) (c0_i32_771 : BitVec 32) : Fin 2 → Nat :=
  let c2_i32_770 : BitVec 32 := 2#32
  let v1889 : BitVec 32 := Scalar.muli c2_i32_770 arg26
  let v1890 : BitVec 32 := Scalar.addi v1889 c0_i32_771
  let v1891 : Index := Scalar.indexCast v1890
  let c4 : Index := 4#32
  ![v1891.toNat, 4]
def k0_off441 (arg26 : BitVec 32) : Fin 3 → Nat :=
  let c2_i32_727 : BitVec 32 := 2#32
  let v1780 : BitVec 32 := Scalar.remsi arg26 c2_i32_727
  let v1903 : Index := Scalar.indexCast v1780
  let c0_774 : Index := 0#32
  let c512_775 : Index := 512#32
  ![v1903.toNat, 0, 512]
def k0_off442 (arg26 : BitVec 32) (c0_i32_730 : BitVec 32) : Fin 2 → Nat :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let v1784 : BitVec 32 := Scalar.addi v1783 c0_i32_730
  let v1785 : BitVec 32 := v1784
  let v1911 : Index := Scalar.indexCast v1785
  let c512_776 : Index := 512#32
  ![v1911.toNat, 512]
def k0_mult80 (arg26 : BitVec 32) : BitVec 32 :=
  let c4_i32_728 : BitVec 32 := 4#32
  let v1781 : BitVec 32 := Scalar.remsi arg26 c4_i32_728
  let c256_i32_729 : BitVec 32 := 256#32
  let v1782 : BitVec 32 := Scalar.muli v1781 c256_i32_729
  let v1783 : BitVec 32 := v1782
  let c128_i32_777 : BitVec 32 := 128#32
  let v1915 : BitVec 32 := Scalar.addi v1783 c128_i32_777
  v1915
def k0_off443 (arg26 : BitVec 32) : Fin 3 → Nat :=
  let c4_i32_726 : BitVec 32 := 4#32
  let v1779 : BitVec 32 := Scalar.remsi arg26 c4_i32_726
  let v1917 : Index := Scalar.indexCast v1779
  let c128_778 : Index := 128#32
  let c1024_779 : Index := 1024#32
  ![v1917.toNat, 128, 1024]
def k0_off444 (arg26 : BitVec 32) : Fin 3 → Nat :=
  let c2_i32_727 : BitVec 32 := 2#32
  let v1780 : BitVec 32 := Scalar.remsi arg26 c2_i32_727
  let v1967 : Index := Scalar.indexCast v1780
  let c128_798 : Index := 128#32
  let c1024_799 : Index := 1024#32
  ![v1967.toNat, 128, 1024]
def k0_off445 (arg26 : BitVec 32) : Fin 3 → Nat :=
  let c4_i32_726 : BitVec 32 := 4#32
  let v1779 : BitVec 32 := Scalar.remsi arg26 c4_i32_726
  let v1979 : Index := Scalar.indexCast v1779
  let c128_801 : Index := 128#32
  let c512_802 : Index := 512#32
  ![v1979.toNat, 128, 512]
def k0_off446 (arg26 : BitVec 32) : Fin 3 → Nat :=
  let c2_i32_727 : BitVec 32 := 2#32
  let v1780 : BitVec 32 := Scalar.remsi arg26 c2_i32_727
  let v2034 : Index := Scalar.indexCast v1780
  let c128_822 : Index := 128#32
  let c512_823 : Index := 512#32
  ![v2034.toNat, 128, 512]
def k0_off447 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2046 : Index := Scalar.indexCast v160
  let c1280_825 : Index := 1280#32
  ![v2046.toNat, 1280]
def k0_off448 (arg23 : BitVec 32) : Fin 3 → Nat :=
  let c3_i32_85 : BitVec 32 := 3#32
  let v98 : BitVec 32 := Scalar.remsi arg23 c3_i32_85
  let v2050 : Index := Scalar.indexCast v98
  let c1280_829 : Index := 1280#32
  let c0_830 : Index := 0#32
  ![v2050.toNat, 1280, 0]
def k0_mult81 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  v2063
def k0_mult82 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let c0_i32_838 : BitVec 32 := 0#32
  let v2065 : BitVec 32 := Scalar.addi v2064 c0_i32_838
  v2065
def k0_off449 (arg26 : BitVec 32) : Fin 3 → Nat :=
  let c4_i32_834 : BitVec 32 := 4#32
  let v2060 : BitVec 32 := Scalar.remsi arg26 c4_i32_834
  let v2067 : Index := Scalar.indexCast v2060
  let c0_839 : Index := 0#32
  let c1280_840 : Index := 1280#32
  ![v2067.toNat, 0, 1280]
def k0_off450 (arg26 : BitVec 32) (c0_i32_855 : BitVec 32) : Fin 2 → Nat :=
  let c2_i32_854 : BitVec 32 := 2#32
  let v2103 : BitVec 32 := Scalar.muli c2_i32_854 arg26
  let v2104 : BitVec 32 := Scalar.addi v2103 c0_i32_855
  let v2105 : Index := Scalar.indexCast v2104
  let c1280_856 : Index := 1280#32
  ![v2105.toNat, 1280]
def k0_off451 (arg26 : BitVec 32) : Fin 3 → Nat :=
  let c2_i32_835 : BitVec 32 := 2#32
  let v2061 : BitVec 32 := Scalar.remsi arg26 c2_i32_835
  let v2117 : Index := Scalar.indexCast v2061
  let c0_859 : Index := 0#32
  let c1280_860 : Index := 1280#32
  ![v2117.toNat, 0, 1280]
def k0_off452 (arg26 : BitVec 32) (c0_i32_838 : BitVec 32) : Fin 2 → Nat :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let v2065 : BitVec 32 := Scalar.addi v2064 c0_i32_838
  let v2066 : BitVec 32 := v2065
  let v2125 : Index := Scalar.indexCast v2066
  let c1280_861 : Index := 1280#32
  ![v2125.toNat, 1280]
def k0_off453 (arg26 : BitVec 32) : Fin 3 → Nat :=
  let c4_i32_834 : BitVec 32 := 4#32
  let v2060 : BitVec 32 := Scalar.remsi arg26 c4_i32_834
  let v2129 : Index := Scalar.indexCast v2060
  let c0_862 : Index := 0#32
  let c640_863 : Index := 640#32
  ![v2129.toNat, 0, 640]
def k0_off454 (arg26 : BitVec 32) (c0_i32_879 : BitVec 32) : Fin 2 → Nat :=
  let c2_i32_878 : BitVec 32 := 2#32
  let v2170 : BitVec 32 := Scalar.muli c2_i32_878 arg26
  let v2171 : BitVec 32 := Scalar.addi v2170 c0_i32_879
  let v2172 : Index := Scalar.indexCast v2171
  let c5 : Index := 5#32
  ![v2172.toNat, 5]
def k0_off455 (arg26 : BitVec 32) : Fin 3 → Nat :=
  let c2_i32_835 : BitVec 32 := 2#32
  let v2061 : BitVec 32 := Scalar.remsi arg26 c2_i32_835
  let v2184 : Index := Scalar.indexCast v2061
  let c0_882 : Index := 0#32
  let c640_883 : Index := 640#32
  ![v2184.toNat, 0, 640]
def k0_off456 (arg26 : BitVec 32) (c0_i32_838 : BitVec 32) : Fin 2 → Nat :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let v2065 : BitVec 32 := Scalar.addi v2064 c0_i32_838
  let v2066 : BitVec 32 := v2065
  let v2192 : Index := Scalar.indexCast v2066
  let c640_884 : Index := 640#32
  ![v2192.toNat, 640]
def k0_mult83 (arg26 : BitVec 32) : BitVec 32 :=
  let c4_i32_836 : BitVec 32 := 4#32
  let v2062 : BitVec 32 := Scalar.remsi arg26 c4_i32_836
  let c256_i32_837 : BitVec 32 := 256#32
  let v2063 : BitVec 32 := Scalar.muli v2062 c256_i32_837
  let v2064 : BitVec 32 := v2063
  let c128_i32_885 : BitVec 32 := 128#32
  let v2196 : BitVec 32 := Scalar.addi v2064 c128_i32_885
  v2196
def k0_off457 (arg26 : BitVec 32) : Fin 3 → Nat :=
  let c4_i32_834 : BitVec 32 := 4#32
  let v2060 : BitVec 32 := Scalar.remsi arg26 c4_i32_834
  let v2198 : Index := Scalar.indexCast v2060
  let c128_886 : Index := 128#32
  let c1280_887 : Index := 1280#32
  ![v2198.toNat, 128, 1280]
def k0_off458 (arg26 : BitVec 32) : Fin 3 → Nat :=
  let c2_i32_835 : BitVec 32 := 2#32
  let v2061 : BitVec 32 := Scalar.remsi arg26 c2_i32_835
  let v2248 : Index := Scalar.indexCast v2061
  let c128_906 : Index := 128#32
  let c1280_907 : Index := 1280#32
  ![v2248.toNat, 128, 1280]
def k0_off459 (arg26 : BitVec 32) : Fin 3 → Nat :=
  let c4_i32_834 : BitVec 32 := 4#32
  let v2060 : BitVec 32 := Scalar.remsi arg26 c4_i32_834
  let v2260 : Index := Scalar.indexCast v2060
  let c128_909 : Index := 128#32
  let c640_910 : Index := 640#32
  ![v2260.toNat, 128, 640]
def k0_off460 (arg26 : BitVec 32) : Fin 3 → Nat :=
  let c2_i32_835 : BitVec 32 := 2#32
  let v2061 : BitVec 32 := Scalar.remsi arg26 c2_i32_835
  let v2315 : Index := Scalar.indexCast v2061
  let c128_930 : Index := 128#32
  let c640_931 : Index := 640#32
  ![v2315.toNat, 128, 640]
def k0_off461 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2327 : Index := Scalar.indexCast v160
  let c1536 : Index := 1536#32
  ![v2327.toNat, 1536]
def k0_off462 (arg23 : BitVec 32) : Fin 3 → Nat :=
  let c3_i32_85 : BitVec 32 := 3#32
  let v98 : BitVec 32 := Scalar.remsi arg23 c3_i32_85
  let v2331 : Index := Scalar.indexCast v98
  let c1536_936 : Index := 1536#32
  let c0_937 : Index := 0#32
  ![v2331.toNat, 1536, 0]
def k0_mult84 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  v2344
def k0_mult85 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let c0_i32_945 : BitVec 32 := 0#32
  let v2346 : BitVec 32 := Scalar.addi v2345 c0_i32_945
  v2346
def k0_off463 (arg26 : BitVec 32) : Fin 3 → Nat :=
  let c4_i32_941 : BitVec 32 := 4#32
  let v2341 : BitVec 32 := Scalar.remsi arg26 c4_i32_941
  let v2348 : Index := Scalar.indexCast v2341
  let c0_946 : Index := 0#32
  let c1536_947 : Index := 1536#32
  ![v2348.toNat, 0, 1536]
def k0_off464 (arg26 : BitVec 32) (c0_i32_962 : BitVec 32) : Fin 2 → Nat :=
  let c2_i32_961 : BitVec 32 := 2#32
  let v2384 : BitVec 32 := Scalar.muli c2_i32_961 arg26
  let v2385 : BitVec 32 := Scalar.addi v2384 c0_i32_962
  let v2386 : Index := Scalar.indexCast v2385
  let c1536_963 : Index := 1536#32
  ![v2386.toNat, 1536]
def k0_off465 (arg26 : BitVec 32) : Fin 3 → Nat :=
  let c2_i32_942 : BitVec 32 := 2#32
  let v2342 : BitVec 32 := Scalar.remsi arg26 c2_i32_942
  let v2398 : Index := Scalar.indexCast v2342
  let c0_966 : Index := 0#32
  let c1536_967 : Index := 1536#32
  ![v2398.toNat, 0, 1536]
def k0_off466 (arg26 : BitVec 32) (c0_i32_945 : BitVec 32) : Fin 2 → Nat :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let v2346 : BitVec 32 := Scalar.addi v2345 c0_i32_945
  let v2347 : BitVec 32 := v2346
  let v2406 : Index := Scalar.indexCast v2347
  let c1536_968 : Index := 1536#32
  ![v2406.toNat, 1536]
def k0_off467 (arg26 : BitVec 32) : Fin 3 → Nat :=
  let c4_i32_941 : BitVec 32 := 4#32
  let v2341 : BitVec 32 := Scalar.remsi arg26 c4_i32_941
  let v2410 : Index := Scalar.indexCast v2341
  let c0_969 : Index := 0#32
  let c768_970 : Index := 768#32
  ![v2410.toNat, 0, 768]
def k0_off468 (arg26 : BitVec 32) (c0_i32_986 : BitVec 32) : Fin 2 → Nat :=
  let c2_i32_985 : BitVec 32 := 2#32
  let v2451 : BitVec 32 := Scalar.muli c2_i32_985 arg26
  let v2452 : BitVec 32 := Scalar.addi v2451 c0_i32_986
  let v2453 : Index := Scalar.indexCast v2452
  let c6 : Index := 6#32
  ![v2453.toNat, 6]
def k0_off469 (arg26 : BitVec 32) : Fin 3 → Nat :=
  let c2_i32_942 : BitVec 32 := 2#32
  let v2342 : BitVec 32 := Scalar.remsi arg26 c2_i32_942
  let v2465 : Index := Scalar.indexCast v2342
  let c0_989 : Index := 0#32
  let c768_990 : Index := 768#32
  ![v2465.toNat, 0, 768]
def k0_off470 (arg26 : BitVec 32) (c0_i32_945 : BitVec 32) : Fin 2 → Nat :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let v2346 : BitVec 32 := Scalar.addi v2345 c0_i32_945
  let v2347 : BitVec 32 := v2346
  let v2473 : Index := Scalar.indexCast v2347
  let c768_991 : Index := 768#32
  ![v2473.toNat, 768]
def k0_mult86 (arg26 : BitVec 32) : BitVec 32 :=
  let c4_i32_943 : BitVec 32 := 4#32
  let v2343 : BitVec 32 := Scalar.remsi arg26 c4_i32_943
  let c256_i32_944 : BitVec 32 := 256#32
  let v2344 : BitVec 32 := Scalar.muli v2343 c256_i32_944
  let v2345 : BitVec 32 := v2344
  let c128_i32_992 : BitVec 32 := 128#32
  let v2477 : BitVec 32 := Scalar.addi v2345 c128_i32_992
  v2477
def k0_off471 (arg26 : BitVec 32) : Fin 3 → Nat :=
  let c4_i32_941 : BitVec 32 := 4#32
  let v2341 : BitVec 32 := Scalar.remsi arg26 c4_i32_941
  let v2479 : Index := Scalar.indexCast v2341
  let c128_993 : Index := 128#32
  let c1536_994 : Index := 1536#32
  ![v2479.toNat, 128, 1536]
def k0_off472 (arg26 : BitVec 32) : Fin 3 → Nat :=
  let c2_i32_942 : BitVec 32 := 2#32
  let v2342 : BitVec 32 := Scalar.remsi arg26 c2_i32_942
  let v2529 : Index := Scalar.indexCast v2342
  let c128_1013 : Index := 128#32
  let c1536_1014 : Index := 1536#32
  ![v2529.toNat, 128, 1536]
def k0_off473 (arg26 : BitVec 32) : Fin 3 → Nat :=
  let c4_i32_941 : BitVec 32 := 4#32
  let v2341 : BitVec 32 := Scalar.remsi arg26 c4_i32_941
  let v2541 : Index := Scalar.indexCast v2341
  let c128_1016 : Index := 128#32
  let c768_1017 : Index := 768#32
  ![v2541.toNat, 128, 768]
def k0_off474 (arg26 : BitVec 32) : Fin 3 → Nat :=
  let c2_i32_942 : BitVec 32 := 2#32
  let v2342 : BitVec 32 := Scalar.remsi arg26 c2_i32_942
  let v2596 : Index := Scalar.indexCast v2342
  let c128_1037 : Index := 128#32
  let c768_1038 : Index := 768#32
  ![v2596.toNat, 128, 768]
def k0_off475 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v159 : BitVec 32 := Scalar.remsi v129 c1024_i32
  let v160 : BitVec 32 := v159
  let v2608 : Index := Scalar.indexCast v160
  let c1792 : Index := 1792#32
  ![v2608.toNat, 1792]
def k0_off476 (arg23 : BitVec 32) : Fin 3 → Nat :=
  let c3_i32_85 : BitVec 32 := 3#32
  let v98 : BitVec 32 := Scalar.remsi arg23 c3_i32_85
  let v2612 : Index := Scalar.indexCast v98
  let c1792_1043 : Index := 1792#32
  let c0_1044 : Index := 0#32
  ![v2612.toNat, 1792, 0]
def k0_mult87 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  v2625
def k0_mult88 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let c0_i32_1052 : BitVec 32 := 0#32
  let v2627 : BitVec 32 := Scalar.addi v2626 c0_i32_1052
  v2627
def k0_off477 (arg26 : BitVec 32) : Fin 3 → Nat :=
  let c4_i32_1048 : BitVec 32 := 4#32
  let v2622 : BitVec 32 := Scalar.remsi arg26 c4_i32_1048
  let v2629 : Index := Scalar.indexCast v2622
  let c0_1053 : Index := 0#32
  let c1792_1054 : Index := 1792#32
  ![v2629.toNat, 0, 1792]
def k0_off478 (arg26 : BitVec 32) (c0_i32_1069 : BitVec 32) : Fin 2 → Nat :=
  let c2_i32_1068 : BitVec 32 := 2#32
  let v2665 : BitVec 32 := Scalar.muli c2_i32_1068 arg26
  let v2666 : BitVec 32 := Scalar.addi v2665 c0_i32_1069
  let v2667 : Index := Scalar.indexCast v2666
  let c1792_1070 : Index := 1792#32
  ![v2667.toNat, 1792]
def k0_off479 (arg26 : BitVec 32) : Fin 3 → Nat :=
  let c2_i32_1049 : BitVec 32 := 2#32
  let v2623 : BitVec 32 := Scalar.remsi arg26 c2_i32_1049
  let v2679 : Index := Scalar.indexCast v2623
  let c0_1073 : Index := 0#32
  let c1792_1074 : Index := 1792#32
  ![v2679.toNat, 0, 1792]
def k0_off480 (arg26 : BitVec 32) (c0_i32_1052 : BitVec 32) : Fin 2 → Nat :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let v2627 : BitVec 32 := Scalar.addi v2626 c0_i32_1052
  let v2628 : BitVec 32 := v2627
  let v2687 : Index := Scalar.indexCast v2628
  let c1792_1075 : Index := 1792#32
  ![v2687.toNat, 1792]
def k0_off481 (arg26 : BitVec 32) : Fin 3 → Nat :=
  let c4_i32_1048 : BitVec 32 := 4#32
  let v2622 : BitVec 32 := Scalar.remsi arg26 c4_i32_1048
  let v2691 : Index := Scalar.indexCast v2622
  let c0_1076 : Index := 0#32
  let c896_1077 : Index := 896#32
  ![v2691.toNat, 0, 896]
def k0_off482 (arg26 : BitVec 32) (c0_i32_1093 : BitVec 32) : Fin 2 → Nat :=
  let c2_i32_1092 : BitVec 32 := 2#32
  let v2732 : BitVec 32 := Scalar.muli c2_i32_1092 arg26
  let v2733 : BitVec 32 := Scalar.addi v2732 c0_i32_1093
  let v2734 : Index := Scalar.indexCast v2733
  let c7 : Index := 7#32
  ![v2734.toNat, 7]
def k0_off483 (arg26 : BitVec 32) : Fin 3 → Nat :=
  let c2_i32_1049 : BitVec 32 := 2#32
  let v2623 : BitVec 32 := Scalar.remsi arg26 c2_i32_1049
  let v2746 : Index := Scalar.indexCast v2623
  let c0_1096 : Index := 0#32
  let c896_1097 : Index := 896#32
  ![v2746.toNat, 0, 896]
def k0_off484 (arg26 : BitVec 32) (c0_i32_1052 : BitVec 32) : Fin 2 → Nat :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let v2627 : BitVec 32 := Scalar.addi v2626 c0_i32_1052
  let v2628 : BitVec 32 := v2627
  let v2754 : Index := Scalar.indexCast v2628
  let c896_1098 : Index := 896#32
  ![v2754.toNat, 896]
def k0_mult89 (arg26 : BitVec 32) : BitVec 32 :=
  let c4_i32_1050 : BitVec 32 := 4#32
  let v2624 : BitVec 32 := Scalar.remsi arg26 c4_i32_1050
  let c256_i32_1051 : BitVec 32 := 256#32
  let v2625 : BitVec 32 := Scalar.muli v2624 c256_i32_1051
  let v2626 : BitVec 32 := v2625
  let c128_i32_1099 : BitVec 32 := 128#32
  let v2758 : BitVec 32 := Scalar.addi v2626 c128_i32_1099
  v2758
def k0_off485 (arg26 : BitVec 32) : Fin 3 → Nat :=
  let c4_i32_1048 : BitVec 32 := 4#32
  let v2622 : BitVec 32 := Scalar.remsi arg26 c4_i32_1048
  let v2760 : Index := Scalar.indexCast v2622
  let c128_1100 : Index := 128#32
  let c1792_1101 : Index := 1792#32
  ![v2760.toNat, 128, 1792]
def k0_off486 (arg26 : BitVec 32) : Fin 3 → Nat :=
  let c2_i32_1049 : BitVec 32 := 2#32
  let v2623 : BitVec 32 := Scalar.remsi arg26 c2_i32_1049
  let v2810 : Index := Scalar.indexCast v2623
  let c128_1120 : Index := 128#32
  let c1792_1121 : Index := 1792#32
  ![v2810.toNat, 128, 1792]
def k0_off487 (arg26 : BitVec 32) : Fin 3 → Nat :=
  let c4_i32_1048 : BitVec 32 := 4#32
  let v2622 : BitVec 32 := Scalar.remsi arg26 c4_i32_1048
  let v2822 : Index := Scalar.indexCast v2622
  let c128_1123 : Index := 128#32
  let c896_1124 : Index := 896#32
  ![v2822.toNat, 128, 896]
def k0_off488 (arg26 : BitVec 32) : Fin 3 → Nat :=
  let c2_i32_1049 : BitVec 32 := 2#32
  let v2623 : BitVec 32 := Scalar.remsi arg26 c2_i32_1049
  let v2877 : Index := Scalar.indexCast v2623
  let c128_1144 : Index := 128#32
  let c896_1145 : Index := 896#32
  ![v2877.toNat, 128, 896]
def k0_mult90 (arg26 : BitVec 32) : BitVec 32 :=
  let c256_i32_1148 : BitVec 32 := 256#32
  let v2890 : BitVec 32 := Scalar.muli arg26 c256_i32_1148
  v2890
def k0_off489 (arg26 : BitVec 32) : Fin 2 → Nat :=
  let c0_i32_1149 : BitVec 32 := 0#32
  let c2_i32_1147 : BitVec 32 := 2#32
  let v2889 : BitVec 32 := Scalar.remsi arg26 c2_i32_1147
  ![0, v2889.toNat]
def k0_off490 (arg26 : BitVec 32) : Fin 3 → Nat :=
  let c2_i32_1147 : BitVec 32 := 2#32
  let v2889 : BitVec 32 := Scalar.remsi arg26 c2_i32_1147
  let c0_i32_1151 : BitVec 32 := 0#32
  let c0_i32_1152 : BitVec 32 := 0#32
  ![v2889.toNat, 0, 0]
def k0_off491 (arg26 : BitVec 32) : Fin 2 → Nat :=
  let c1_i32_1153 : BitVec 32 := 1#32
  let c2_i32_1147 : BitVec 32 := 2#32
  let v2889 : BitVec 32 := Scalar.remsi arg26 c2_i32_1147
  ![1, v2889.toNat]
def k0_off492 (arg26 : BitVec 32) : Fin 3 → Nat :=
  let c2_i32_1147 : BitVec 32 := 2#32
  let v2889 : BitVec 32 := Scalar.remsi arg26 c2_i32_1147
  let c0_i32_1155 : BitVec 32 := 0#32
  let c0_i32_1156 : BitVec 32 := 0#32
  ![v2889.toNat, 0, 0]
def k0_mult91 (arg26 : BitVec 32) : BitVec 32 :=
  let c4_i32_1163 : BitVec 32 := 4#32
  let v2910 : BitVec 32 := Scalar.addi arg26 c4_i32_1163
  let c256_i32_1165 : BitVec 32 := 256#32
  let v2912 : BitVec 32 := Scalar.muli v2910 c256_i32_1165
  v2912
def k0_cond12 (arg26 : BitVec 32) : BitVec 1 :=
  let c4_i32_1157 : BitVec 32 := 4#32
  let v2902 : BitVec 32 := Scalar.addi arg26 c4_i32_1157
  let c192_i32_1158 : BitVec 32 := 192#32
  let v2903 : BitVec 1 := Scalar.cmpi .slt v2902 c192_i32_1158
  let v2904 : BitVec 32 := Scalar.extui v2903
  let c0_i32_1159 : BitVec 32 := 0#32
  let v2905 : BitVec 1 := Scalar.cmpi .ne v2904 c0_i32_1159
  v2905

def k0_off493 (arg26 : BitVec 32) : Fin 2 → Nat :=
  let c0_i32_1166 : BitVec 32 := 0#32
  let c4_i32_1163 : BitVec 32 := 4#32
  let v2910 : BitVec 32 := Scalar.addi arg26 c4_i32_1163
  let c4_i32_1164 : BitVec 32 := 4#32
  let v2911 : BitVec 32 := Scalar.remsi v2910 c4_i32_1164
  ![0, v2911.toNat]
def k0_off494 (arg26 : BitVec 32) : Fin 3 → Nat :=
  let c4_i32_1163 : BitVec 32 := 4#32
  let v2910 : BitVec 32 := Scalar.addi arg26 c4_i32_1163
  let c4_i32_1164 : BitVec 32 := 4#32
  let v2911 : BitVec 32 := Scalar.remsi v2910 c4_i32_1164
  let c0_i32_1167 : BitVec 32 := 0#32
  let c0_i32_1168 : BitVec 32 := 0#32
  ![v2911.toNat, 0, 0]
def k0_off495 (arg26 : BitVec 32) : Fin 2 → Nat :=
  let c4_i32_1163 : BitVec 32 := 4#32
  let v2910 : BitVec 32 := Scalar.addi arg26 c4_i32_1163
  let c256_i32_1165 : BitVec 32 := 256#32
  let v2912 : BitVec 32 := Scalar.muli v2910 c256_i32_1165
  let v2913 : BitVec 32 := v2912
  let c0_i32_1169 : BitVec 32 := 0#32
  ![v2913.toNat, 0]
def k0_off496 (arg26 : BitVec 32) : Fin 2 → Nat :=
  let c1_i32_1170 : BitVec 32 := 1#32
  let c4_i32_1163 : BitVec 32 := 4#32
  let v2910 : BitVec 32 := Scalar.addi arg26 c4_i32_1163
  let c4_i32_1164 : BitVec 32 := 4#32
  let v2911 : BitVec 32 := Scalar.remsi v2910 c4_i32_1164
  ![1, v2911.toNat]
def k0_off497 (arg26 : BitVec 32) : Fin 3 → Nat :=
  let c4_i32_1163 : BitVec 32 := 4#32
  let v2910 : BitVec 32 := Scalar.addi arg26 c4_i32_1163
  let c4_i32_1164 : BitVec 32 := 4#32
  let v2911 : BitVec 32 := Scalar.remsi v2910 c4_i32_1164
  let c0_i32_1171 : BitVec 32 := 0#32
  let c0_i32_1172 : BitVec 32 := 0#32
  ![v2911.toNat, 0, 0]
def k0_off498 (arg26 : BitVec 32) : Fin 2 → Nat :=
  let c4_i32_1163 : BitVec 32 := 4#32
  let v2910 : BitVec 32 := Scalar.addi arg26 c4_i32_1163
  let c256_i32_1165 : BitVec 32 := 256#32
  let v2912 : BitVec 32 := Scalar.muli v2910 c256_i32_1165
  let v2913 : BitVec 32 := v2912
  let c0_i32_1173 : BitVec 32 := 0#32
  ![v2913.toNat, 0]
def k0_mult92 (arg22 : BitVec 32) (v96 : BitVec 32) (k0_t4 : Fin (k0_t4_loop arg22 v96).trips) : BitVec 32 :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  v143
def k0_cond14 (arg22 : BitVec 32) (v96 : BitVec 32) (k0_t4 : Fin (k0_t4_loop arg22 v96).trips) (arg26 : BitVec 32) : BitVec 1 :=
  let c192_i32 : BitVec 32 := 192#32
  let v131 : BitVec 1 := Scalar.cmpi .slt arg26 c192_i32
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c256_i32_106 : BitVec 32 := 256#32
  let v132 : BitVec 32 := Scalar.divsi v129 c256_i32_106
  let c4_i32_107 : BitVec 32 := 4#32
  let v133 : BitVec 32 := Scalar.addi v132 c4_i32_107
  let v134 : BitVec 1 := Scalar.cmpi .slt arg26 v133
  let v135 : BitVec 1 := Scalar.andi v131 v134
  let v_true : BitVec 1 := 1#1
  let v138 : BitVec 1 := Scalar.xori v135 v_true
  let v139 : BitVec 32 := Scalar.extui v138
  let c0_i32_109 : BitVec 32 := 0#32
  let v140 : BitVec 1 := Scalar.cmpi .ne v139 c0_i32_109
  v140

def k0_off499 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v157 : Index := Scalar.indexCast v144
  let c0_112 : Index := 0#32
  ![v157.toNat, 0]
def k0_off500 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v163 : Index := Scalar.indexCast v144
  let c128 : Index := 128#32
  ![v163.toNat, 128]
def k0_off501 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v169 : Index := Scalar.indexCast v144
  let c256 : Index := 256#32
  ![v169.toNat, 256]
def k0_off502 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v175 : Index := Scalar.indexCast v144
  let c384 : Index := 384#32
  ![v175.toNat, 384]
def k0_off503 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v181 : Index := Scalar.indexCast v144
  let c512 : Index := 512#32
  ![v181.toNat, 512]
def k0_off504 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v187 : Index := Scalar.indexCast v144
  let c640 : Index := 640#32
  ![v187.toNat, 640]
def k0_off505 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v193 : Index := Scalar.indexCast v144
  let c768 : Index := 768#32
  ![v193.toNat, 768]
def k0_off506 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v199 : Index := Scalar.indexCast v144
  let c896 : Index := 896#32
  ![v199.toNat, 896]
def k0_off507 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v205 : Index := Scalar.indexCast v144
  let c1024 : Index := 1024#32
  ![v205.toNat, 1024]
def k0_off508 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v211 : Index := Scalar.indexCast v144
  let c1152 : Index := 1152#32
  ![v211.toNat, 1152]
def k0_off509 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v217 : Index := Scalar.indexCast v144
  let c1280 : Index := 1280#32
  ![v217.toNat, 1280]
def k0_off510 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v223 : Index := Scalar.indexCast v144
  let c0_135 : Index := 0#32
  ![v223.toNat, 0]
def k0_off511 (arg23 : BitVec 32) : Fin 3 → Nat :=
  let c3_i32_85 : BitVec 32 := 3#32
  let v98 : BitVec 32 := Scalar.remsi arg23 c3_i32_85
  let v227 : Index := Scalar.indexCast v98
  let c0_139 : Index := 0#32
  let c0_140 : Index := 0#32
  ![v227.toNat, 0, 0]
def k0_off512 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v237 : Index := Scalar.indexCast v144
  let c256_144 : Index := 256#32
  ![v237.toNat, 256]
def k0_off513 (arg23 : BitVec 32) : Fin 3 → Nat :=
  let c3_i32_85 : BitVec 32 := 3#32
  let v98 : BitVec 32 := Scalar.remsi arg23 c3_i32_85
  let v241 : Index := Scalar.indexCast v98
  let c256_148 : Index := 256#32
  let c0_149 : Index := 0#32
  ![v241.toNat, 256, 0]
def k0_off514 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v251 : Index := Scalar.indexCast v144
  let c512_153 : Index := 512#32
  ![v251.toNat, 512]
def k0_off515 (arg23 : BitVec 32) : Fin 3 → Nat :=
  let c3_i32_85 : BitVec 32 := 3#32
  let v98 : BitVec 32 := Scalar.remsi arg23 c3_i32_85
  let v255 : Index := Scalar.indexCast v98
  let c512_157 : Index := 512#32
  let c0_158 : Index := 0#32
  ![v255.toNat, 512, 0]
def k0_off516 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v265 : Index := Scalar.indexCast v144
  let c768_162 : Index := 768#32
  ![v265.toNat, 768]
def k0_off517 (arg23 : BitVec 32) : Fin 3 → Nat :=
  let c3_i32_85 : BitVec 32 := 3#32
  let v98 : BitVec 32 := Scalar.remsi arg23 c3_i32_85
  let v269 : Index := Scalar.indexCast v98
  let c768_166 : Index := 768#32
  let c0_167 : Index := 0#32
  ![v269.toNat, 768, 0]
def k0_off518 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v279 : Index := Scalar.indexCast v144
  let c1024_171 : Index := 1024#32
  ![v279.toNat, 1024]
def k0_off519 (arg23 : BitVec 32) : Fin 3 → Nat :=
  let c3_i32_85 : BitVec 32 := 3#32
  let v98 : BitVec 32 := Scalar.remsi arg23 c3_i32_85
  let v283 : Index := Scalar.indexCast v98
  let c1024_175 : Index := 1024#32
  let c0_176 : Index := 0#32
  ![v283.toNat, 1024, 0]
def k0_off520 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v293 : Index := Scalar.indexCast v144
  let c1280_180 : Index := 1280#32
  ![v293.toNat, 1280]
def k0_off521 (arg23 : BitVec 32) : Fin 3 → Nat :=
  let c3_i32_85 : BitVec 32 := 3#32
  let v98 : BitVec 32 := Scalar.remsi arg23 c3_i32_85
  let v297 : Index := Scalar.indexCast v98
  let c1280_184 : Index := 1280#32
  let c0_185 : Index := 0#32
  ![v297.toNat, 1280, 0]
def k0_off522 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v307 : Index := Scalar.indexCast v144
  let c1536 : Index := 1536#32
  ![v307.toNat, 1536]
def k0_off523 (arg23 : BitVec 32) : Fin 3 → Nat :=
  let c3_i32_85 : BitVec 32 := 3#32
  let v98 : BitVec 32 := Scalar.remsi arg23 c3_i32_85
  let v311 : Index := Scalar.indexCast v98
  let c1536_192 : Index := 1536#32
  let c0_193 : Index := 0#32
  ![v311.toNat, 1536, 0]
def k0_off524 (arg22 : BitVec 32) (v96 : BitVec 32) (k0_t4 : Fin (k0_t4_loop arg22 v96).trips) : Fin 2 → Nat :=
  let c16_i32 : BitVec 32 := 16#32
  let v99 : BitVec 32 := Scalar.divsi arg22 c16_i32
  let c16_i32_86 : BitVec 32 := 16#32
  let v100 : BitVec 32 := Scalar.muli v99 c16_i32_86
  let c0_i32_95 : BitVec 32 := 0#32
  let c0_i32_87 : BitVec 32 := 0#32
  let v101 : BitVec 1 := Scalar.cmpi .sgt v96 c0_i32_87
  let v97 : BitVec 32 := Scalar.addi arg22 v96
  let v102 : BitVec 32 := Scalar.subi v97 v100
  let c256_i32_88 : BitVec 32 := 256#32
  let v103 : BitVec 32 := Scalar.addi v102 c256_i32_88
  let c1_i32_89 : BitVec 32 := 1#32
  let v104 : BitVec 32 := Scalar.subi v103 c1_i32_89
  let c256_i32_90 : BitVec 32 := 256#32
  let v105 : BitVec 32 := Scalar.divsi v104 c256_i32_90
  let c0_i32_91 : BitVec 32 := 0#32
  let v106 : BitVec 32 := Scalar.select v101 v105 c0_i32_91
  let v112 : BitVec 32 := Scalar.subi v106 c0_i32_95
  let c1_i32_96 : BitVec 32 := 1#32
  let v114 : BitVec 32 := Scalar.divsi v112 c1_i32_96
  let v115 : BitVec 32 := Scalar.muli v114 c1_i32_96
  let v116 : BitVec 32 := Scalar.addi c0_i32_95 v115
  let c1_i32_98 : BitVec 32 := 1#32
  let arg25 : BitVec 32 := Scf.iv v116 c1_i32_98 k0_t4
  let c256_i32_104 : BitVec 32 := 256#32
  let v128 : BitVec 32 := Scalar.muli arg25 c256_i32_104
  let v129 : BitVec 32 := Scalar.addi v100 v128
  let c1024_i32 : BitVec 32 := 1024#32
  let v143 : BitVec 32 := Scalar.remsi v129 c1024_i32
  let v144 : BitVec 32 := v143
  let v321 : Index := Scalar.indexCast v144
  let c1792 : Index := 1792#32
  ![v321.toNat, 1792]
def k0_off525 (arg23 : BitVec 32) : Fin 3 → Nat :=
  let c3_i32_85 : BitVec 32 := 3#32
  let v98 : BitVec 32 := Scalar.remsi arg23 c3_i32_85
  let v325 : Index := Scalar.indexCast v98
  let c1792_200 : Index := 1792#32
  let c0_201 : Index := 0#32
  ![v325.toNat, 1792, 0]

def k0_chk3_0 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), 256 ∣ (k0_mult63 arg26).toNat) ∧
  (∀ (k0_h10 : k0_cond10 arg22 v96 k0_t4 arg26 = 1#1), ∀ a, (k0_off336 arg26) a + S1x1.size a ≤ S2x4.size a) ∧
  (∀ (k0_h10 : k0_cond10 arg22 v96 k0_t4 arg26 = 1#1), ∀ a, (k0_off337 arg26) a + S1x256x2048.size a ≤ S4x256x2048.size a) ∧
  (∀ (k0_h10 : k0_cond10 arg22 v96 k0_t4 arg26 = 1#1), ∀ a, (k0_off338 arg26) a + S256x2048.size a ≤ S49152x2048.size a) ∧
  (∀ (k0_h10 : k0_cond10 arg22 v96 k0_t4 arg26 = 1#1), ∀ (hinb : ∀ a, (k0_off338 arg26) a + S256x2048.size a ≤ S49152x2048.size a), (Rect.unit (s := S49152x2048) (k0_off338 arg26) S256x2048.size hinb).WholeWords (EltTy.packing .bf16)) ∧
  (∀ (k0_h10 : k0_cond10 arg22 v96 k0_t4 arg26 = 1#1), ∀ (hinb : ∀ a, (k0_off337 arg26) a + S1x256x2048.size a ≤ S4x256x2048.size a), (Rect.unit (s := S4x256x2048) (k0_off337 arg26) S1x256x2048.size hinb).WholeWords (EltTy.packing .bf16)) ∧
  (∀ (k0_h10 : k0_cond10 arg22 v96 k0_t4 arg26 = 1#1), ∀ a, (k0_off339 arg26) a + S1x1.size a ≤ S2x4.size a) ∧
  (∀ (k0_h10 : k0_cond10 arg22 v96 k0_t4 arg26 = 1#1), ∀ a, (k0_off340 arg26) a + S1x256x1408.size a ≤ S4x256x1408.size a) ∧
  (∀ (k0_h10 : k0_cond10 arg22 v96 k0_t4 arg26 = 1#1), ∀ a, (k0_off341 arg26) a + S256x1408.size a ≤ S49152x1408.size a) ∧
  (∀ (k0_h10 : k0_cond10 arg22 v96 k0_t4 arg26 = 1#1), ∀ (hinb : ∀ a, (k0_off341 arg26) a + S256x1408.size a ≤ S49152x1408.size a), (Rect.unit (s := S49152x1408) (k0_off341 arg26) S256x1408.size hinb).WholeWords (EltTy.packing .bf16)) ∧
  (∀ (k0_h10 : k0_cond10 arg22 v96 k0_t4 arg26 = 1#1), ∀ (hinb : ∀ a, (k0_off340 arg26) a + S1x256x1408.size a ≤ S4x256x1408.size a), (Rect.unit (s := S4x256x1408) (k0_off340 arg26) S1x256x1408.size hinb).WholeWords (EltTy.packing .bf16)) ∧
  (∀ (k0_h10 : k0_cond10 arg22 v96 k0_t4 arg26 = 1#1), ∀ (k0_h11 : k0_cond11 arg26 = 1#1), 256 ∣ (k0_mult64 arg26).toNat) ∧
  (∀ (k0_h10 : k0_cond10 arg22 v96 k0_t4 arg26 = 1#1), ∀ (k0_h11 : k0_cond11 arg26 = 1#1), ∀ a, (k0_off342 arg26) a + S1x1.size a ≤ S2x2.size a) ∧
  (∀ (k0_h10 : k0_cond10 arg22 v96 k0_t4 arg26 = 1#1), ∀ (k0_h11 : k0_cond11 arg26 = 1#1), ∀ a, (k0_off343 arg26) a + S256x2048.size a ≤ S49152x2048.size a) ∧
  (∀ (k0_h10 : k0_cond10 arg22 v96 k0_t4 arg26 = 1#1), ∀ (k0_h11 : k0_cond11 arg26 = 1#1), ∀ a, (k0_off344 arg26) a + S1x256x2048.size a ≤ S2x256x2048.size a) ∧
  (∀ (k0_h10 : k0_cond10 arg22 v96 k0_t4 arg26 = 1#1), ∀ (k0_h11 : k0_cond11 arg26 = 1#1), ∀ (hinb : ∀ a, (k0_off344 arg26) a + S1x256x2048.size a ≤ S2x256x2048.size a), (Rect.unit (s := S2x256x2048) (k0_off344 arg26) S1x256x2048.size hinb).WholeWords (EltTy.packing .fp8e4m3)) ∧
  (∀ (k0_h10 : k0_cond10 arg22 v96 k0_t4 arg26 = 1#1), ∀ (k0_h11 : k0_cond11 arg26 = 1#1), ∀ (hinb : ∀ a, (k0_off343 arg26) a + S256x2048.size a ≤ S49152x2048.size a), (Rect.unit (s := S49152x2048) (k0_off343 arg26) S256x2048.size hinb).WholeWords (EltTy.packing .fp8e4m3)) ∧
  (∀ (k0_h10 : k0_cond10 arg22 v96 k0_t4 arg26 = 1#1), ∀ (k0_h11 : k0_cond11 arg26 = 1#1), ∀ a, (k0_off345 arg26) a + S1x1.size a ≤ S2x2.size a) ∧
  (∀ (k0_h10 : k0_cond10 arg22 v96 k0_t4 arg26 = 1#1), ∀ (k0_h11 : k0_cond11 arg26 = 1#1), ∀ a, (k0_off346 arg26) a + S256x1408.size a ≤ S49152x1408.size a) ∧
  (∀ (k0_h10 : k0_cond10 arg22 v96 k0_t4 arg26 = 1#1), ∀ (k0_h11 : k0_cond11 arg26 = 1#1), ∀ a, (k0_off347 arg26) a + S1x256x1408.size a ≤ S2x256x1408.size a) ∧
  (∀ (k0_h10 : k0_cond10 arg22 v96 k0_t4 arg26 = 1#1), ∀ (k0_h11 : k0_cond11 arg26 = 1#1), ∀ (hinb : ∀ a, (k0_off347 arg26) a + S1x256x1408.size a ≤ S2x256x1408.size a), (Rect.unit (s := S2x256x1408) (k0_off347 arg26) S1x256x1408.size hinb).WholeWords (EltTy.packing .fp8e5m2)) ∧
  (∀ (k0_h10 : k0_cond10 arg22 v96 k0_t4 arg26 = 1#1), ∀ (k0_h11 : k0_cond11 arg26 = 1#1), ∀ (hinb : ∀ a, (k0_off346 arg26) a + S256x1408.size a ≤ S49152x1408.size a), (Rect.unit (s := S49152x1408) (k0_off346 arg26) S256x1408.size hinb).WholeWords (EltTy.packing .fp8e5m2)) ∧
  (∀ (k0_h10 : k0_cond10 arg22 v96 k0_t4 arg26 = 1#1), 16 ∣ (k0_mult65 arg22 v96 k0_t4).toNat) ∧
  (∀ (k0_h10 : k0_cond10 arg22 v96 k0_t4 arg26 = 1#1), ∀ a, (k0_off348 arg22 v96 k0_t4) a + S256x128.size a ≤ S1280x1408.size a) ∧
  (∀ (k0_h10 : k0_cond10 arg22 v96 k0_t4 arg26 = 1#1), ∀ a, (k0_off349 arg22 v96 k0_t4) a + S256x128.size a ≤ S1280x1408.size a) ∧
  (∀ (k0_h10 : k0_cond10 arg22 v96 k0_t4 arg26 = 1#1), ∀ a, (k0_off350 arg22 v96 k0_t4) a + S256x128.size a ≤ S1280x1408.size a) ∧
  (∀ (k0_h10 : k0_cond10 arg22 v96 k0_t4 arg26 = 1#1), ∀ a, (k0_off351 arg22 v96 k0_t4) a + S256x128.size a ≤ S1280x1408.size a) ∧
  (∀ (k0_h10 : k0_cond10 arg22 v96 k0_t4 arg26 = 1#1), ∀ a, (k0_off352 arg22 v96 k0_t4) a + S256x128.size a ≤ S1280x1408.size a) ∧
  (∀ (k0_h10 : k0_cond10 arg22 v96 k0_t4 arg26 = 1#1), ∀ a, (k0_off353 arg22 v96 k0_t4) a + S256x128.size a ≤ S1280x1408.size a) ∧
  (∀ (k0_h10 : k0_cond10 arg22 v96 k0_t4 arg26 = 1#1), ∀ a, (k0_off354 arg22 v96 k0_t4) a + S256x128.size a ≤ S1280x1408.size a) ∧
  (∀ (k0_h10 : k0_cond10 arg22 v96 k0_t4 arg26 = 1#1), ∀ a, (k0_off355 arg22 v96 k0_t4) a + S256x128.size a ≤ S1280x1408.size a) ∧
  (∀ (k0_h10 : k0_cond10 arg22 v96 k0_t4 arg26 = 1#1), ∀ a, (k0_off356 arg22 v96 k0_t4) a + S256x128.size a ≤ S1280x1408.size a)
def k0_chk3_1 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ a, (k0_off357 arg22 v96 k0_t4) a + S256x128.size a ≤ S1280x1408.size a) ∧
  (∀ (k0_h10 : k0_cond10 arg22 v96 k0_t4 arg26 = 1#1), ∀ a, (k0_off358 arg22 v96 k0_t4) a + S256x128.size a ≤ S1280x1408.size a) ∧
  (∀ (k0_h10 : k0_cond10 arg22 v96 k0_t4 arg26 = 1#1), ∀ a, (k0_off359 arg22 v96 k0_t4) a + S256x256.size a ≤ S1280x2048.size a) ∧
  (∀ (k0_h10 : k0_cond10 arg22 v96 k0_t4 arg26 = 1#1), ∀ a, (k0_off360 arg23) a + S1x256x1408.size a ≤ S3x2048x1408.size a) ∧
  (∀ (k0_h10 : k0_cond10 arg22 v96 k0_t4 arg26 = 1#1), 256 ∣ (k0_mult66 arg26).toNat) ∧
  (∀ (k0_h10 : k0_cond10 arg22 v96 k0_t4 arg26 = 1#1), 128 ∣ (k0_mult67 arg26).toNat) ∧
  (∀ (k0_h10 : k0_cond10 arg22 v96 k0_t4 arg26 = 1#1), ∀ a, (k0_off361 arg26) a + S1x128x256.size a ≤ S4x256x2048.size a) ∧
  (∀ (k0_h10 : k0_cond10 arg22 v96 k0_t4 arg26 = 1#1), ∀ (r : Fin 2), ∀ a, (k0_off362 arg26 (BitVec.ofNat 32 r.val)) a + S1x256.size a ≤ S384x2048.size a) ∧
  (∀ (k0_h10 : k0_cond10 arg22 v96 k0_t4 arg26 = 1#1), ∀ a, (k0_off363 arg26) a + S1x128x256.size a ≤ S2x256x2048.size a) ∧
  (∀ (k0_h10 : k0_cond10 arg22 v96 k0_t4 arg26 = 1#1), ∀ (hinb : ∀ a, (k0_off363 arg26) a + S1x128x256.size a ≤ S2x256x2048.size a), (Rect.unit (s := S2x256x2048) (k0_off363 arg26) S1x128x256.size hinb).PackedRows (EltTy.packing .fp8e4m3)) ∧
  (∀ (k0_h10 : k0_cond10 arg22 v96 k0_t4 arg26 = 1#1), ∀ (r : Fin 2), ∀ a, (k0_off364 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off364 arg26 (BitVec.ofNat 32 (128 * r.val))) a + S128x256.size a ≤ S1280x2048.size a), (Rect.unit (s := S1280x2048) (k0_off364 arg26 (BitVec.ofNat 32 (128 * r.val))) S128x256.size hinb).PackedRows (EltTy.packing .bf16)) ∧
  (∀ (k0_h10 : k0_cond10 arg22 v96 k0_t4 arg26 = 1#1), ∀ a, (k0_off365 arg26) a + S1x128x128.size a ≤ S4x256x1408.size a) ∧
  (∀ (k0_h10 : k0_cond10 arg22 v96 k0_t4 arg26 = 1#1), ∀ (r : Fin 2), ∀ a, (k0_off366 arg26 (BitVec.ofNat 32 r.val)) a + S1x1.size a ≤ S384x11.size a) ∧
  (∀ (k0_h10 : k0_cond10 arg22 v96 k0_t4 arg26 = 1#1), ∀ a, (k0_off367 arg26) a + S1x128x128.size a ≤ S2x256x1408.size a) ∧
  (∀ (k0_h10 : k0_cond10 arg22 v96 k0_t4 arg26 = 1#1), ∀ (hinb : ∀ a, (k0_off367 arg26) a + S1x128x128.size a ≤ S2x256x1408.size a), (Rect.unit (s := S2x256x1408) (k0_off367 arg26) S1x128x128.size hinb).PackedRows (EltTy.packing .fp8e5m2)) ∧
  (∀ (k0_h10 : k0_cond10 arg22 v96 k0_t4 arg26 = 1#1), ∀ (r : Fin 2), ∀ a, (k0_off368 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off368 arg26 (BitVec.ofNat 32 (128 * r.val))) a + S128x128.size a ≤ S1280x1408.size a), (Rect.unit (s := S1280x1408) (k0_off368 arg26 (BitVec.ofNat 32 (128 * r.val))) S128x128.size hinb).PackedRows (EltTy.packing .bf16)) ∧
  (∀ (k0_h10 : k0_cond10 arg22 v96 k0_t4 arg26 = 1#1), ∀ a, (k0_off369 arg26) a + S1x128x128.size a ≤ S4x256x1408.size a) ∧
  (∀ (k0_h10 : k0_cond10 arg22 v96 k0_t4 arg26 = 1#1), ∀ (r : Fin 2), ∀ a, (k0_off370 arg26 (BitVec.ofNat 32 r.val)) a + S1x1.size a ≤ S384x11.size a) ∧
  (∀ (k0_h10 : k0_cond10 arg22 v96 k0_t4 arg26 = 1#1), ∀ a, (k0_off371 arg26) a + S1x128x128.size a ≤ S2x256x1408.size a) ∧
  (∀ (k0_h10 : k0_cond10 arg22 v96 k0_t4 arg26 = 1#1), ∀ (hinb : ∀ a, (k0_off371 arg26) a + S1x128x128.size a ≤ S2x256x1408.size a), (Rect.unit (s := S2x256x1408) (k0_off371 arg26) S1x128x128.size hinb).PackedRows (EltTy.packing .fp8e5m2)) ∧
  (∀ (k0_h10 : k0_cond10 arg22 v96 k0_t4 arg26 = 1#1), ∀ (r : Fin 2), ∀ a, (k0_off372 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off372 arg26 (BitVec.ofNat 32 (128 * r.val))) a + S128x128.size a ≤ S1280x1408.size a), (Rect.unit (s := S1280x1408) (k0_off372 arg26 (BitVec.ofNat 32 (128 * r.val))) S128x128.size hinb).PackedRows (EltTy.packing .bf16)) ∧
  (∀ (k0_h10 : k0_cond10 arg22 v96 k0_t4 arg26 = 1#1), 128 ∣ (k0_mult68 arg26).toNat) ∧
  (∀ (k0_h10 : k0_cond10 arg22 v96 k0_t4 arg26 = 1#1), ∀ a, (k0_off373 arg26) a + S1x128x256.size a ≤ S4x256x2048.size a) ∧
  (∀ (k0_h10 : k0_cond10 arg22 v96 k0_t4 arg26 = 1#1), ∀ a, (k0_off374 arg26) a + S1x128x256.size a ≤ S2x256x2048.size a) ∧
  (∀ (k0_h10 : k0_cond10 arg22 v96 k0_t4 arg26 = 1#1), ∀ (hinb : ∀ a, (k0_off374 arg26) a + S1x128x256.size a ≤ S2x256x2048.size a), (Rect.unit (s := S2x256x2048) (k0_off374 arg26) S1x128x256.size hinb).PackedRows (EltTy.packing .fp8e4m3)) ∧
  (∀ (k0_h10 : k0_cond10 arg22 v96 k0_t4 arg26 = 1#1), ∀ a, (k0_off375 arg26) a + S1x128x128.size a ≤ S4x256x1408.size a) ∧
  (∀ (k0_h10 : k0_cond10 arg22 v96 k0_t4 arg26 = 1#1), ∀ a, (k0_off376 arg26) a + S1x128x128.size a ≤ S2x256x1408.size a) ∧
  (∀ (k0_h10 : k0_cond10 arg22 v96 k0_t4 arg26 = 1#1), ∀ (hinb : ∀ a, (k0_off376 arg26) a + S1x128x128.size a ≤ S2x256x1408.size a), (Rect.unit (s := S2x256x1408) (k0_off376 arg26) S1x128x128.size hinb).PackedRows (EltTy.packing .fp8e5m2)) ∧
  (∀ (k0_h10 : k0_cond10 arg22 v96 k0_t4 arg26 = 1#1), ∀ a, (k0_off377 arg26) a + S1x128x128.size a ≤ S4x256x1408.size a)
def k0_chk3_2 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ a, (k0_off378 arg26) a + S1x128x128.size a ≤ S2x256x1408.size a) ∧
  (∀ (k0_h10 : k0_cond10 arg22 v96 k0_t4 arg26 = 1#1), ∀ (hinb : ∀ a, (k0_off378 arg26) a + S1x128x128.size a ≤ S2x256x1408.size a), (Rect.unit (s := S2x256x1408) (k0_off378 arg26) S1x128x128.size hinb).PackedRows (EltTy.packing .fp8e5m2)) ∧
  (∀ (k0_h10 : k0_cond10 arg22 v96 k0_t4 arg26 = 1#1), ∀ a, (k0_off379 arg22 v96 k0_t4) a + S256x256.size a ≤ S1280x2048.size a) ∧
  (∀ (k0_h10 : k0_cond10 arg22 v96 k0_t4 arg26 = 1#1), ∀ a, (k0_off380 arg23) a + S1x256x1408.size a ≤ S3x2048x1408.size a) ∧
  (∀ (k0_h10 : k0_cond10 arg22 v96 k0_t4 arg26 = 1#1), 256 ∣ (k0_mult69 arg26).toNat) ∧
  (∀ (k0_h10 : k0_cond10 arg22 v96 k0_t4 arg26 = 1#1), 128 ∣ (k0_mult70 arg26).toNat) ∧
  (∀ (k0_h10 : k0_cond10 arg22 v96 k0_t4 arg26 = 1#1), ∀ a, (k0_off381 arg26) a + S1x128x256.size a ≤ S4x256x2048.size a) ∧
  (∀ (k0_h10 : k0_cond10 arg22 v96 k0_t4 arg26 = 1#1), ∀ (r : Fin 2), ∀ a, (k0_off382 arg26 (BitVec.ofNat 32 r.val)) a + S1x256.size a ≤ S384x2048.size a) ∧
  (∀ (k0_h10 : k0_cond10 arg22 v96 k0_t4 arg26 = 1#1), ∀ a, (k0_off383 arg26) a + S1x128x256.size a ≤ S2x256x2048.size a) ∧
  (∀ (k0_h10 : k0_cond10 arg22 v96 k0_t4 arg26 = 1#1), ∀ (hinb : ∀ a, (k0_off383 arg26) a + S1x128x256.size a ≤ S2x256x2048.size a), (Rect.unit (s := S2x256x2048) (k0_off383 arg26) S1x128x256.size hinb).PackedRows (EltTy.packing .fp8e4m3)) ∧
  (∀ (k0_h10 : k0_cond10 arg22 v96 k0_t4 arg26 = 1#1), ∀ (r : Fin 2), ∀ a, (k0_off384 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off384 arg26 (BitVec.ofNat 32 (128 * r.val))) a + S128x256.size a ≤ S1280x2048.size a), (Rect.unit (s := S1280x2048) (k0_off384 arg26 (BitVec.ofNat 32 (128 * r.val))) S128x256.size hinb).PackedRows (EltTy.packing .bf16)) ∧
  (∀ (k0_h10 : k0_cond10 arg22 v96 k0_t4 arg26 = 1#1), ∀ a, (k0_off385 arg26) a + S1x128x128.size a ≤ S4x256x1408.size a) ∧
  (∀ (k0_h10 : k0_cond10 arg22 v96 k0_t4 arg26 = 1#1), ∀ (r : Fin 2), ∀ a, (k0_off386 arg26 (BitVec.ofNat 32 r.val)) a + S1x1.size a ≤ S384x11.size a) ∧
  (∀ (k0_h10 : k0_cond10 arg22 v96 k0_t4 arg26 = 1#1), ∀ a, (k0_off387 arg26) a + S1x128x128.size a ≤ S2x256x1408.size a) ∧
  (∀ (k0_h10 : k0_cond10 arg22 v96 k0_t4 arg26 = 1#1), ∀ (hinb : ∀ a, (k0_off387 arg26) a + S1x128x128.size a ≤ S2x256x1408.size a), (Rect.unit (s := S2x256x1408) (k0_off387 arg26) S1x128x128.size hinb).PackedRows (EltTy.packing .fp8e5m2)) ∧
  (∀ (k0_h10 : k0_cond10 arg22 v96 k0_t4 arg26 = 1#1), ∀ (r : Fin 2), ∀ a, (k0_off388 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off388 arg26 (BitVec.ofNat 32 (128 * r.val))) a + S128x128.size a ≤ S1280x1408.size a), (Rect.unit (s := S1280x1408) (k0_off388 arg26 (BitVec.ofNat 32 (128 * r.val))) S128x128.size hinb).PackedRows (EltTy.packing .bf16)) ∧
  (∀ (k0_h10 : k0_cond10 arg22 v96 k0_t4 arg26 = 1#1), ∀ a, (k0_off389 arg26) a + S1x128x128.size a ≤ S4x256x1408.size a) ∧
  (∀ (k0_h10 : k0_cond10 arg22 v96 k0_t4 arg26 = 1#1), ∀ (r : Fin 2), ∀ a, (k0_off390 arg26 (BitVec.ofNat 32 r.val)) a + S1x1.size a ≤ S384x11.size a) ∧
  (∀ (k0_h10 : k0_cond10 arg22 v96 k0_t4 arg26 = 1#1), ∀ a, (k0_off391 arg26) a + S1x128x128.size a ≤ S2x256x1408.size a) ∧
  (∀ (k0_h10 : k0_cond10 arg22 v96 k0_t4 arg26 = 1#1), ∀ (hinb : ∀ a, (k0_off391 arg26) a + S1x128x128.size a ≤ S2x256x1408.size a), (Rect.unit (s := S2x256x1408) (k0_off391 arg26) S1x128x128.size hinb).PackedRows (EltTy.packing .fp8e5m2)) ∧
  (∀ (k0_h10 : k0_cond10 arg22 v96 k0_t4 arg26 = 1#1), ∀ (r : Fin 2), ∀ a, (k0_off392 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off392 arg26 (BitVec.ofNat 32 (128 * r.val))) a + S128x128.size a ≤ S1280x1408.size a), (Rect.unit (s := S1280x1408) (k0_off392 arg26 (BitVec.ofNat 32 (128 * r.val))) S128x128.size hinb).PackedRows (EltTy.packing .bf16)) ∧
  (∀ (k0_h10 : k0_cond10 arg22 v96 k0_t4 arg26 = 1#1), 128 ∣ (k0_mult71 arg26).toNat) ∧
  (∀ (k0_h10 : k0_cond10 arg22 v96 k0_t4 arg26 = 1#1), ∀ a, (k0_off393 arg26) a + S1x128x256.size a ≤ S4x256x2048.size a) ∧
  (∀ (k0_h10 : k0_cond10 arg22 v96 k0_t4 arg26 = 1#1), ∀ a, (k0_off394 arg26) a + S1x128x256.size a ≤ S2x256x2048.size a) ∧
  (∀ (k0_h10 : k0_cond10 arg22 v96 k0_t4 arg26 = 1#1), ∀ (hinb : ∀ a, (k0_off394 arg26) a + S1x128x256.size a ≤ S2x256x2048.size a), (Rect.unit (s := S2x256x2048) (k0_off394 arg26) S1x128x256.size hinb).PackedRows (EltTy.packing .fp8e4m3)) ∧
  (∀ (k0_h10 : k0_cond10 arg22 v96 k0_t4 arg26 = 1#1), ∀ a, (k0_off395 arg26) a + S1x128x128.size a ≤ S4x256x1408.size a) ∧
  (∀ (k0_h10 : k0_cond10 arg22 v96 k0_t4 arg26 = 1#1), ∀ a, (k0_off396 arg26) a + S1x128x128.size a ≤ S2x256x1408.size a) ∧
  (∀ (k0_h10 : k0_cond10 arg22 v96 k0_t4 arg26 = 1#1), ∀ (hinb : ∀ a, (k0_off396 arg26) a + S1x128x128.size a ≤ S2x256x1408.size a), (Rect.unit (s := S2x256x1408) (k0_off396 arg26) S1x128x128.size hinb).PackedRows (EltTy.packing .fp8e5m2)) ∧
  (∀ (k0_h10 : k0_cond10 arg22 v96 k0_t4 arg26 = 1#1), ∀ a, (k0_off397 arg26) a + S1x128x128.size a ≤ S4x256x1408.size a)
def k0_chk3_3 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ a, (k0_off398 arg26) a + S1x128x128.size a ≤ S2x256x1408.size a) ∧
  (∀ (k0_h10 : k0_cond10 arg22 v96 k0_t4 arg26 = 1#1), ∀ (hinb : ∀ a, (k0_off398 arg26) a + S1x128x128.size a ≤ S2x256x1408.size a), (Rect.unit (s := S2x256x1408) (k0_off398 arg26) S1x128x128.size hinb).PackedRows (EltTy.packing .fp8e5m2)) ∧
  (∀ (k0_h10 : k0_cond10 arg22 v96 k0_t4 arg26 = 1#1), ∀ a, (k0_off399 arg22 v96 k0_t4) a + S256x256.size a ≤ S1280x2048.size a) ∧
  (∀ (k0_h10 : k0_cond10 arg22 v96 k0_t4 arg26 = 1#1), ∀ a, (k0_off400 arg23) a + S1x256x1408.size a ≤ S3x2048x1408.size a) ∧
  (∀ (k0_h10 : k0_cond10 arg22 v96 k0_t4 arg26 = 1#1), 256 ∣ (k0_mult72 arg26).toNat) ∧
  (∀ (k0_h10 : k0_cond10 arg22 v96 k0_t4 arg26 = 1#1), 128 ∣ (k0_mult73 arg26).toNat) ∧
  (∀ (k0_h10 : k0_cond10 arg22 v96 k0_t4 arg26 = 1#1), ∀ a, (k0_off401 arg26) a + S1x128x256.size a ≤ S4x256x2048.size a) ∧
  (∀ (k0_h10 : k0_cond10 arg22 v96 k0_t4 arg26 = 1#1), ∀ (r : Fin 2), ∀ a, (k0_off402 arg26 (BitVec.ofNat 32 r.val)) a + S1x256.size a ≤ S384x2048.size a) ∧
  (∀ (k0_h10 : k0_cond10 arg22 v96 k0_t4 arg26 = 1#1), ∀ a, (k0_off403 arg26) a + S1x128x256.size a ≤ S2x256x2048.size a) ∧
  (∀ (k0_h10 : k0_cond10 arg22 v96 k0_t4 arg26 = 1#1), ∀ (hinb : ∀ a, (k0_off403 arg26) a + S1x128x256.size a ≤ S2x256x2048.size a), (Rect.unit (s := S2x256x2048) (k0_off403 arg26) S1x128x256.size hinb).PackedRows (EltTy.packing .fp8e4m3)) ∧
  (∀ (k0_h10 : k0_cond10 arg22 v96 k0_t4 arg26 = 1#1), ∀ (r : Fin 2), ∀ a, (k0_off404 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off404 arg26 (BitVec.ofNat 32 (128 * r.val))) a + S128x256.size a ≤ S1280x2048.size a), (Rect.unit (s := S1280x2048) (k0_off404 arg26 (BitVec.ofNat 32 (128 * r.val))) S128x256.size hinb).PackedRows (EltTy.packing .bf16)) ∧
  (∀ (k0_h10 : k0_cond10 arg22 v96 k0_t4 arg26 = 1#1), ∀ a, (k0_off405 arg26) a + S1x128x128.size a ≤ S4x256x1408.size a) ∧
  (∀ (k0_h10 : k0_cond10 arg22 v96 k0_t4 arg26 = 1#1), ∀ (r : Fin 2), ∀ a, (k0_off406 arg26 (BitVec.ofNat 32 r.val)) a + S1x1.size a ≤ S384x11.size a) ∧
  (∀ (k0_h10 : k0_cond10 arg22 v96 k0_t4 arg26 = 1#1), ∀ a, (k0_off407 arg26) a + S1x128x128.size a ≤ S2x256x1408.size a) ∧
  (∀ (k0_h10 : k0_cond10 arg22 v96 k0_t4 arg26 = 1#1), ∀ (hinb : ∀ a, (k0_off407 arg26) a + S1x128x128.size a ≤ S2x256x1408.size a), (Rect.unit (s := S2x256x1408) (k0_off407 arg26) S1x128x128.size hinb).PackedRows (EltTy.packing .fp8e5m2)) ∧
  (∀ (k0_h10 : k0_cond10 arg22 v96 k0_t4 arg26 = 1#1), ∀ (r : Fin 2), ∀ a, (k0_off408 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off408 arg26 (BitVec.ofNat 32 (128 * r.val))) a + S128x128.size a ≤ S1280x1408.size a), (Rect.unit (s := S1280x1408) (k0_off408 arg26 (BitVec.ofNat 32 (128 * r.val))) S128x128.size hinb).PackedRows (EltTy.packing .bf16)) ∧
  (∀ (k0_h10 : k0_cond10 arg22 v96 k0_t4 arg26 = 1#1), ∀ a, (k0_off409 arg26) a + S1x128x128.size a ≤ S4x256x1408.size a) ∧
  (∀ (k0_h10 : k0_cond10 arg22 v96 k0_t4 arg26 = 1#1), ∀ (r : Fin 2), ∀ a, (k0_off410 arg26 (BitVec.ofNat 32 r.val)) a + S1x1.size a ≤ S384x11.size a) ∧
  (∀ (k0_h10 : k0_cond10 arg22 v96 k0_t4 arg26 = 1#1), ∀ a, (k0_off411 arg26) a + S1x128x128.size a ≤ S2x256x1408.size a) ∧
  (∀ (k0_h10 : k0_cond10 arg22 v96 k0_t4 arg26 = 1#1), ∀ (hinb : ∀ a, (k0_off411 arg26) a + S1x128x128.size a ≤ S2x256x1408.size a), (Rect.unit (s := S2x256x1408) (k0_off411 arg26) S1x128x128.size hinb).PackedRows (EltTy.packing .fp8e5m2)) ∧
  (∀ (k0_h10 : k0_cond10 arg22 v96 k0_t4 arg26 = 1#1), ∀ (r : Fin 2), ∀ a, (k0_off412 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off412 arg26 (BitVec.ofNat 32 (128 * r.val))) a + S128x128.size a ≤ S1280x1408.size a), (Rect.unit (s := S1280x1408) (k0_off412 arg26 (BitVec.ofNat 32 (128 * r.val))) S128x128.size hinb).PackedRows (EltTy.packing .bf16)) ∧
  (∀ (k0_h10 : k0_cond10 arg22 v96 k0_t4 arg26 = 1#1), 128 ∣ (k0_mult74 arg26).toNat) ∧
  (∀ (k0_h10 : k0_cond10 arg22 v96 k0_t4 arg26 = 1#1), ∀ a, (k0_off413 arg26) a + S1x128x256.size a ≤ S4x256x2048.size a) ∧
  (∀ (k0_h10 : k0_cond10 arg22 v96 k0_t4 arg26 = 1#1), ∀ a, (k0_off414 arg26) a + S1x128x256.size a ≤ S2x256x2048.size a) ∧
  (∀ (k0_h10 : k0_cond10 arg22 v96 k0_t4 arg26 = 1#1), ∀ (hinb : ∀ a, (k0_off414 arg26) a + S1x128x256.size a ≤ S2x256x2048.size a), (Rect.unit (s := S2x256x2048) (k0_off414 arg26) S1x128x256.size hinb).PackedRows (EltTy.packing .fp8e4m3)) ∧
  (∀ (k0_h10 : k0_cond10 arg22 v96 k0_t4 arg26 = 1#1), ∀ a, (k0_off415 arg26) a + S1x128x128.size a ≤ S4x256x1408.size a) ∧
  (∀ (k0_h10 : k0_cond10 arg22 v96 k0_t4 arg26 = 1#1), ∀ a, (k0_off416 arg26) a + S1x128x128.size a ≤ S2x256x1408.size a) ∧
  (∀ (k0_h10 : k0_cond10 arg22 v96 k0_t4 arg26 = 1#1), ∀ (hinb : ∀ a, (k0_off416 arg26) a + S1x128x128.size a ≤ S2x256x1408.size a), (Rect.unit (s := S2x256x1408) (k0_off416 arg26) S1x128x128.size hinb).PackedRows (EltTy.packing .fp8e5m2)) ∧
  (∀ (k0_h10 : k0_cond10 arg22 v96 k0_t4 arg26 = 1#1), ∀ a, (k0_off417 arg26) a + S1x128x128.size a ≤ S4x256x1408.size a)
def k0_chk3_4 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ a, (k0_off418 arg26) a + S1x128x128.size a ≤ S2x256x1408.size a) ∧
  (∀ (k0_h10 : k0_cond10 arg22 v96 k0_t4 arg26 = 1#1), ∀ (hinb : ∀ a, (k0_off418 arg26) a + S1x128x128.size a ≤ S2x256x1408.size a), (Rect.unit (s := S2x256x1408) (k0_off418 arg26) S1x128x128.size hinb).PackedRows (EltTy.packing .fp8e5m2)) ∧
  (∀ (k0_h10 : k0_cond10 arg22 v96 k0_t4 arg26 = 1#1), ∀ a, (k0_off419 arg22 v96 k0_t4) a + S256x256.size a ≤ S1280x2048.size a) ∧
  (∀ (k0_h10 : k0_cond10 arg22 v96 k0_t4 arg26 = 1#1), ∀ a, (k0_off420 arg23) a + S1x256x1408.size a ≤ S3x2048x1408.size a) ∧
  (∀ (k0_h10 : k0_cond10 arg22 v96 k0_t4 arg26 = 1#1), 256 ∣ (k0_mult75 arg26).toNat) ∧
  (∀ (k0_h10 : k0_cond10 arg22 v96 k0_t4 arg26 = 1#1), 128 ∣ (k0_mult76 arg26).toNat) ∧
  (∀ (k0_h10 : k0_cond10 arg22 v96 k0_t4 arg26 = 1#1), ∀ a, (k0_off421 arg26) a + S1x128x256.size a ≤ S4x256x2048.size a) ∧
  (∀ (k0_h10 : k0_cond10 arg22 v96 k0_t4 arg26 = 1#1), ∀ (r : Fin 2), ∀ a, (k0_off422 arg26 (BitVec.ofNat 32 r.val)) a + S1x256.size a ≤ S384x2048.size a) ∧
  (∀ (k0_h10 : k0_cond10 arg22 v96 k0_t4 arg26 = 1#1), ∀ a, (k0_off423 arg26) a + S1x128x256.size a ≤ S2x256x2048.size a) ∧
  (∀ (k0_h10 : k0_cond10 arg22 v96 k0_t4 arg26 = 1#1), ∀ (hinb : ∀ a, (k0_off423 arg26) a + S1x128x256.size a ≤ S2x256x2048.size a), (Rect.unit (s := S2x256x2048) (k0_off423 arg26) S1x128x256.size hinb).PackedRows (EltTy.packing .fp8e4m3)) ∧
  (∀ (k0_h10 : k0_cond10 arg22 v96 k0_t4 arg26 = 1#1), ∀ (r : Fin 2), ∀ a, (k0_off424 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off424 arg26 (BitVec.ofNat 32 (128 * r.val))) a + S128x256.size a ≤ S1280x2048.size a), (Rect.unit (s := S1280x2048) (k0_off424 arg26 (BitVec.ofNat 32 (128 * r.val))) S128x256.size hinb).PackedRows (EltTy.packing .bf16)) ∧
  (∀ (k0_h10 : k0_cond10 arg22 v96 k0_t4 arg26 = 1#1), ∀ a, (k0_off425 arg26) a + S1x128x128.size a ≤ S4x256x1408.size a) ∧
  (∀ (k0_h10 : k0_cond10 arg22 v96 k0_t4 arg26 = 1#1), ∀ (r : Fin 2), ∀ a, (k0_off426 arg26 (BitVec.ofNat 32 r.val)) a + S1x1.size a ≤ S384x11.size a) ∧
  (∀ (k0_h10 : k0_cond10 arg22 v96 k0_t4 arg26 = 1#1), ∀ a, (k0_off427 arg26) a + S1x128x128.size a ≤ S2x256x1408.size a) ∧
  (∀ (k0_h10 : k0_cond10 arg22 v96 k0_t4 arg26 = 1#1), ∀ (hinb : ∀ a, (k0_off427 arg26) a + S1x128x128.size a ≤ S2x256x1408.size a), (Rect.unit (s := S2x256x1408) (k0_off427 arg26) S1x128x128.size hinb).PackedRows (EltTy.packing .fp8e5m2)) ∧
  (∀ (k0_h10 : k0_cond10 arg22 v96 k0_t4 arg26 = 1#1), ∀ (r : Fin 2), ∀ a, (k0_off428 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off428 arg26 (BitVec.ofNat 32 (128 * r.val))) a + S128x128.size a ≤ S1280x1408.size a), (Rect.unit (s := S1280x1408) (k0_off428 arg26 (BitVec.ofNat 32 (128 * r.val))) S128x128.size hinb).PackedRows (EltTy.packing .bf16)) ∧
  (∀ (k0_h10 : k0_cond10 arg22 v96 k0_t4 arg26 = 1#1), 128 ∣ (k0_mult77 arg26).toNat) ∧
  (∀ (k0_h10 : k0_cond10 arg22 v96 k0_t4 arg26 = 1#1), ∀ a, (k0_off429 arg26) a + S1x128x256.size a ≤ S4x256x2048.size a) ∧
  (∀ (k0_h10 : k0_cond10 arg22 v96 k0_t4 arg26 = 1#1), ∀ a, (k0_off430 arg26) a + S1x128x256.size a ≤ S2x256x2048.size a) ∧
  (∀ (k0_h10 : k0_cond10 arg22 v96 k0_t4 arg26 = 1#1), ∀ (hinb : ∀ a, (k0_off430 arg26) a + S1x128x256.size a ≤ S2x256x2048.size a), (Rect.unit (s := S2x256x2048) (k0_off430 arg26) S1x128x256.size hinb).PackedRows (EltTy.packing .fp8e4m3)) ∧
  (∀ (k0_h10 : k0_cond10 arg22 v96 k0_t4 arg26 = 1#1), ∀ a, (k0_off431 arg26) a + S1x128x128.size a ≤ S4x256x1408.size a) ∧
  (∀ (k0_h10 : k0_cond10 arg22 v96 k0_t4 arg26 = 1#1), ∀ a, (k0_off432 arg26) a + S1x128x128.size a ≤ S2x256x1408.size a) ∧
  (∀ (k0_h10 : k0_cond10 arg22 v96 k0_t4 arg26 = 1#1), ∀ (hinb : ∀ a, (k0_off432 arg26) a + S1x128x128.size a ≤ S2x256x1408.size a), (Rect.unit (s := S2x256x1408) (k0_off432 arg26) S1x128x128.size hinb).PackedRows (EltTy.packing .fp8e5m2)) ∧
  (∀ (k0_h10 : k0_cond10 arg22 v96 k0_t4 arg26 = 1#1), ∀ a, (k0_off433 arg22 v96 k0_t4) a + S256x256.size a ≤ S1280x2048.size a) ∧
  (∀ (k0_h10 : k0_cond10 arg22 v96 k0_t4 arg26 = 1#1), ∀ a, (k0_off434 arg23) a + S1x256x1408.size a ≤ S3x2048x1408.size a) ∧
  (∀ (k0_h10 : k0_cond10 arg22 v96 k0_t4 arg26 = 1#1), 256 ∣ (k0_mult78 arg26).toNat) ∧
  (∀ (k0_h10 : k0_cond10 arg22 v96 k0_t4 arg26 = 1#1), 128 ∣ (k0_mult79 arg26).toNat) ∧
  (∀ (k0_h10 : k0_cond10 arg22 v96 k0_t4 arg26 = 1#1), ∀ a, (k0_off435 arg26) a + S1x128x256.size a ≤ S4x256x2048.size a) ∧
  (∀ (k0_h10 : k0_cond10 arg22 v96 k0_t4 arg26 = 1#1), ∀ (r : Fin 2), ∀ a, (k0_off436 arg26 (BitVec.ofNat 32 r.val)) a + S1x256.size a ≤ S384x2048.size a) ∧
  (∀ (k0_h10 : k0_cond10 arg22 v96 k0_t4 arg26 = 1#1), ∀ a, (k0_off437 arg26) a + S1x128x256.size a ≤ S2x256x2048.size a)
def k0_chk3_5 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ (hinb : ∀ a, (k0_off437 arg26) a + S1x128x256.size a ≤ S2x256x2048.size a), (Rect.unit (s := S2x256x2048) (k0_off437 arg26) S1x128x256.size hinb).PackedRows (EltTy.packing .fp8e4m3)) ∧
  (∀ (k0_h10 : k0_cond10 arg22 v96 k0_t4 arg26 = 1#1), ∀ (r : Fin 2), ∀ a, (k0_off438 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off438 arg26 (BitVec.ofNat 32 (128 * r.val))) a + S128x256.size a ≤ S1280x2048.size a), (Rect.unit (s := S1280x2048) (k0_off438 arg26 (BitVec.ofNat 32 (128 * r.val))) S128x256.size hinb).PackedRows (EltTy.packing .bf16)) ∧
  (∀ (k0_h10 : k0_cond10 arg22 v96 k0_t4 arg26 = 1#1), ∀ a, (k0_off439 arg26) a + S1x128x128.size a ≤ S4x256x1408.size a) ∧
  (∀ (k0_h10 : k0_cond10 arg22 v96 k0_t4 arg26 = 1#1), ∀ (r : Fin 2), ∀ a, (k0_off440 arg26 (BitVec.ofNat 32 r.val)) a + S1x1.size a ≤ S384x11.size a) ∧
  (∀ (k0_h10 : k0_cond10 arg22 v96 k0_t4 arg26 = 1#1), ∀ a, (k0_off441 arg26) a + S1x128x128.size a ≤ S2x256x1408.size a) ∧
  (∀ (k0_h10 : k0_cond10 arg22 v96 k0_t4 arg26 = 1#1), ∀ (hinb : ∀ a, (k0_off441 arg26) a + S1x128x128.size a ≤ S2x256x1408.size a), (Rect.unit (s := S2x256x1408) (k0_off441 arg26) S1x128x128.size hinb).PackedRows (EltTy.packing .fp8e5m2)) ∧
  (∀ (k0_h10 : k0_cond10 arg22 v96 k0_t4 arg26 = 1#1), ∀ (r : Fin 2), ∀ a, (k0_off442 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off442 arg26 (BitVec.ofNat 32 (128 * r.val))) a + S128x128.size a ≤ S1280x1408.size a), (Rect.unit (s := S1280x1408) (k0_off442 arg26 (BitVec.ofNat 32 (128 * r.val))) S128x128.size hinb).PackedRows (EltTy.packing .bf16)) ∧
  (∀ (k0_h10 : k0_cond10 arg22 v96 k0_t4 arg26 = 1#1), 128 ∣ (k0_mult80 arg26).toNat) ∧
  (∀ (k0_h10 : k0_cond10 arg22 v96 k0_t4 arg26 = 1#1), ∀ a, (k0_off443 arg26) a + S1x128x256.size a ≤ S4x256x2048.size a) ∧
  (∀ (k0_h10 : k0_cond10 arg22 v96 k0_t4 arg26 = 1#1), ∀ a, (k0_off444 arg26) a + S1x128x256.size a ≤ S2x256x2048.size a) ∧
  (∀ (k0_h10 : k0_cond10 arg22 v96 k0_t4 arg26 = 1#1), ∀ (hinb : ∀ a, (k0_off444 arg26) a + S1x128x256.size a ≤ S2x256x2048.size a), (Rect.unit (s := S2x256x2048) (k0_off444 arg26) S1x128x256.size hinb).PackedRows (EltTy.packing .fp8e4m3)) ∧
  (∀ (k0_h10 : k0_cond10 arg22 v96 k0_t4 arg26 = 1#1), ∀ a, (k0_off445 arg26) a + S1x128x128.size a ≤ S4x256x1408.size a) ∧
  (∀ (k0_h10 : k0_cond10 arg22 v96 k0_t4 arg26 = 1#1), ∀ a, (k0_off446 arg26) a + S1x128x128.size a ≤ S2x256x1408.size a) ∧
  (∀ (k0_h10 : k0_cond10 arg22 v96 k0_t4 arg26 = 1#1), ∀ (hinb : ∀ a, (k0_off446 arg26) a + S1x128x128.size a ≤ S2x256x1408.size a), (Rect.unit (s := S2x256x1408) (k0_off446 arg26) S1x128x128.size hinb).PackedRows (EltTy.packing .fp8e5m2)) ∧
  (∀ (k0_h10 : k0_cond10 arg22 v96 k0_t4 arg26 = 1#1), ∀ a, (k0_off447 arg22 v96 k0_t4) a + S256x256.size a ≤ S1280x2048.size a) ∧
  (∀ (k0_h10 : k0_cond10 arg22 v96 k0_t4 arg26 = 1#1), ∀ a, (k0_off448 arg23) a + S1x256x1408.size a ≤ S3x2048x1408.size a) ∧
  (∀ (k0_h10 : k0_cond10 arg22 v96 k0_t4 arg26 = 1#1), 256 ∣ (k0_mult81 arg26).toNat) ∧
  (∀ (k0_h10 : k0_cond10 arg22 v96 k0_t4 arg26 = 1#1), 128 ∣ (k0_mult82 arg26).toNat) ∧
  (∀ (k0_h10 : k0_cond10 arg22 v96 k0_t4 arg26 = 1#1), ∀ a, (k0_off449 arg26) a + S1x128x256.size a ≤ S4x256x2048.size a) ∧
  (∀ (k0_h10 : k0_cond10 arg22 v96 k0_t4 arg26 = 1#1), ∀ (r : Fin 2), ∀ a, (k0_off450 arg26 (BitVec.ofNat 32 r.val)) a + S1x256.size a ≤ S384x2048.size a) ∧
  (∀ (k0_h10 : k0_cond10 arg22 v96 k0_t4 arg26 = 1#1), ∀ a, (k0_off451 arg26) a + S1x128x256.size a ≤ S2x256x2048.size a) ∧
  (∀ (k0_h10 : k0_cond10 arg22 v96 k0_t4 arg26 = 1#1), ∀ (hinb : ∀ a, (k0_off451 arg26) a + S1x128x256.size a ≤ S2x256x2048.size a), (Rect.unit (s := S2x256x2048) (k0_off451 arg26) S1x128x256.size hinb).PackedRows (EltTy.packing .fp8e4m3)) ∧
  (∀ (k0_h10 : k0_cond10 arg22 v96 k0_t4 arg26 = 1#1), ∀ (r : Fin 2), ∀ a, (k0_off452 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off452 arg26 (BitVec.ofNat 32 (128 * r.val))) a + S128x256.size a ≤ S1280x2048.size a), (Rect.unit (s := S1280x2048) (k0_off452 arg26 (BitVec.ofNat 32 (128 * r.val))) S128x256.size hinb).PackedRows (EltTy.packing .bf16)) ∧
  (∀ (k0_h10 : k0_cond10 arg22 v96 k0_t4 arg26 = 1#1), ∀ a, (k0_off453 arg26) a + S1x128x128.size a ≤ S4x256x1408.size a) ∧
  (∀ (k0_h10 : k0_cond10 arg22 v96 k0_t4 arg26 = 1#1), ∀ (r : Fin 2), ∀ a, (k0_off454 arg26 (BitVec.ofNat 32 r.val)) a + S1x1.size a ≤ S384x11.size a) ∧
  (∀ (k0_h10 : k0_cond10 arg22 v96 k0_t4 arg26 = 1#1), ∀ a, (k0_off455 arg26) a + S1x128x128.size a ≤ S2x256x1408.size a) ∧
  (∀ (k0_h10 : k0_cond10 arg22 v96 k0_t4 arg26 = 1#1), ∀ (hinb : ∀ a, (k0_off455 arg26) a + S1x128x128.size a ≤ S2x256x1408.size a), (Rect.unit (s := S2x256x1408) (k0_off455 arg26) S1x128x128.size hinb).PackedRows (EltTy.packing .fp8e5m2)) ∧
  (∀ (k0_h10 : k0_cond10 arg22 v96 k0_t4 arg26 = 1#1), ∀ (r : Fin 2), ∀ a, (k0_off456 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off456 arg26 (BitVec.ofNat 32 (128 * r.val))) a + S128x128.size a ≤ S1280x1408.size a), (Rect.unit (s := S1280x1408) (k0_off456 arg26 (BitVec.ofNat 32 (128 * r.val))) S128x128.size hinb).PackedRows (EltTy.packing .bf16))
def k0_chk3_6 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), 128 ∣ (k0_mult83 arg26).toNat) ∧
  (∀ (k0_h10 : k0_cond10 arg22 v96 k0_t4 arg26 = 1#1), ∀ a, (k0_off457 arg26) a + S1x128x256.size a ≤ S4x256x2048.size a) ∧
  (∀ (k0_h10 : k0_cond10 arg22 v96 k0_t4 arg26 = 1#1), ∀ a, (k0_off458 arg26) a + S1x128x256.size a ≤ S2x256x2048.size a) ∧
  (∀ (k0_h10 : k0_cond10 arg22 v96 k0_t4 arg26 = 1#1), ∀ (hinb : ∀ a, (k0_off458 arg26) a + S1x128x256.size a ≤ S2x256x2048.size a), (Rect.unit (s := S2x256x2048) (k0_off458 arg26) S1x128x256.size hinb).PackedRows (EltTy.packing .fp8e4m3)) ∧
  (∀ (k0_h10 : k0_cond10 arg22 v96 k0_t4 arg26 = 1#1), ∀ a, (k0_off459 arg26) a + S1x128x128.size a ≤ S4x256x1408.size a) ∧
  (∀ (k0_h10 : k0_cond10 arg22 v96 k0_t4 arg26 = 1#1), ∀ a, (k0_off460 arg26) a + S1x128x128.size a ≤ S2x256x1408.size a) ∧
  (∀ (k0_h10 : k0_cond10 arg22 v96 k0_t4 arg26 = 1#1), ∀ (hinb : ∀ a, (k0_off460 arg26) a + S1x128x128.size a ≤ S2x256x1408.size a), (Rect.unit (s := S2x256x1408) (k0_off460 arg26) S1x128x128.size hinb).PackedRows (EltTy.packing .fp8e5m2)) ∧
  (∀ (k0_h10 : k0_cond10 arg22 v96 k0_t4 arg26 = 1#1), ∀ a, (k0_off461 arg22 v96 k0_t4) a + S256x256.size a ≤ S1280x2048.size a) ∧
  (∀ (k0_h10 : k0_cond10 arg22 v96 k0_t4 arg26 = 1#1), ∀ a, (k0_off462 arg23) a + S1x256x1408.size a ≤ S3x2048x1408.size a) ∧
  (∀ (k0_h10 : k0_cond10 arg22 v96 k0_t4 arg26 = 1#1), 256 ∣ (k0_mult84 arg26).toNat) ∧
  (∀ (k0_h10 : k0_cond10 arg22 v96 k0_t4 arg26 = 1#1), 128 ∣ (k0_mult85 arg26).toNat) ∧
  (∀ (k0_h10 : k0_cond10 arg22 v96 k0_t4 arg26 = 1#1), ∀ a, (k0_off463 arg26) a + S1x128x256.size a ≤ S4x256x2048.size a) ∧
  (∀ (k0_h10 : k0_cond10 arg22 v96 k0_t4 arg26 = 1#1), ∀ (r : Fin 2), ∀ a, (k0_off464 arg26 (BitVec.ofNat 32 r.val)) a + S1x256.size a ≤ S384x2048.size a) ∧
  (∀ (k0_h10 : k0_cond10 arg22 v96 k0_t4 arg26 = 1#1), ∀ a, (k0_off465 arg26) a + S1x128x256.size a ≤ S2x256x2048.size a) ∧
  (∀ (k0_h10 : k0_cond10 arg22 v96 k0_t4 arg26 = 1#1), ∀ (hinb : ∀ a, (k0_off465 arg26) a + S1x128x256.size a ≤ S2x256x2048.size a), (Rect.unit (s := S2x256x2048) (k0_off465 arg26) S1x128x256.size hinb).PackedRows (EltTy.packing .fp8e4m3)) ∧
  (∀ (k0_h10 : k0_cond10 arg22 v96 k0_t4 arg26 = 1#1), ∀ (r : Fin 2), ∀ a, (k0_off466 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off466 arg26 (BitVec.ofNat 32 (128 * r.val))) a + S128x256.size a ≤ S1280x2048.size a), (Rect.unit (s := S1280x2048) (k0_off466 arg26 (BitVec.ofNat 32 (128 * r.val))) S128x256.size hinb).PackedRows (EltTy.packing .bf16)) ∧
  (∀ (k0_h10 : k0_cond10 arg22 v96 k0_t4 arg26 = 1#1), ∀ a, (k0_off467 arg26) a + S1x128x128.size a ≤ S4x256x1408.size a) ∧
  (∀ (k0_h10 : k0_cond10 arg22 v96 k0_t4 arg26 = 1#1), ∀ (r : Fin 2), ∀ a, (k0_off468 arg26 (BitVec.ofNat 32 r.val)) a + S1x1.size a ≤ S384x11.size a) ∧
  (∀ (k0_h10 : k0_cond10 arg22 v96 k0_t4 arg26 = 1#1), ∀ a, (k0_off469 arg26) a + S1x128x128.size a ≤ S2x256x1408.size a) ∧
  (∀ (k0_h10 : k0_cond10 arg22 v96 k0_t4 arg26 = 1#1), ∀ (hinb : ∀ a, (k0_off469 arg26) a + S1x128x128.size a ≤ S2x256x1408.size a), (Rect.unit (s := S2x256x1408) (k0_off469 arg26) S1x128x128.size hinb).PackedRows (EltTy.packing .fp8e5m2)) ∧
  (∀ (k0_h10 : k0_cond10 arg22 v96 k0_t4 arg26 = 1#1), ∀ (r : Fin 2), ∀ a, (k0_off470 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off470 arg26 (BitVec.ofNat 32 (128 * r.val))) a + S128x128.size a ≤ S1280x1408.size a), (Rect.unit (s := S1280x1408) (k0_off470 arg26 (BitVec.ofNat 32 (128 * r.val))) S128x128.size hinb).PackedRows (EltTy.packing .bf16)) ∧
  (∀ (k0_h10 : k0_cond10 arg22 v96 k0_t4 arg26 = 1#1), 128 ∣ (k0_mult86 arg26).toNat) ∧
  (∀ (k0_h10 : k0_cond10 arg22 v96 k0_t4 arg26 = 1#1), ∀ a, (k0_off471 arg26) a + S1x128x256.size a ≤ S4x256x2048.size a) ∧
  (∀ (k0_h10 : k0_cond10 arg22 v96 k0_t4 arg26 = 1#1), ∀ a, (k0_off472 arg26) a + S1x128x256.size a ≤ S2x256x2048.size a) ∧
  (∀ (k0_h10 : k0_cond10 arg22 v96 k0_t4 arg26 = 1#1), ∀ (hinb : ∀ a, (k0_off472 arg26) a + S1x128x256.size a ≤ S2x256x2048.size a), (Rect.unit (s := S2x256x2048) (k0_off472 arg26) S1x128x256.size hinb).PackedRows (EltTy.packing .fp8e4m3)) ∧
  (∀ (k0_h10 : k0_cond10 arg22 v96 k0_t4 arg26 = 1#1), ∀ a, (k0_off473 arg26) a + S1x128x128.size a ≤ S4x256x1408.size a) ∧
  (∀ (k0_h10 : k0_cond10 arg22 v96 k0_t4 arg26 = 1#1), ∀ a, (k0_off474 arg26) a + S1x128x128.size a ≤ S2x256x1408.size a) ∧
  (∀ (k0_h10 : k0_cond10 arg22 v96 k0_t4 arg26 = 1#1), ∀ (hinb : ∀ a, (k0_off474 arg26) a + S1x128x128.size a ≤ S2x256x1408.size a), (Rect.unit (s := S2x256x1408) (k0_off474 arg26) S1x128x128.size hinb).PackedRows (EltTy.packing .fp8e5m2)) ∧
  (∀ (k0_h10 : k0_cond10 arg22 v96 k0_t4 arg26 = 1#1), ∀ a, (k0_off475 arg22 v96 k0_t4) a + S256x256.size a ≤ S1280x2048.size a) ∧
  (∀ (k0_h10 : k0_cond10 arg22 v96 k0_t4 arg26 = 1#1), ∀ a, (k0_off476 arg23) a + S1x256x1408.size a ≤ S3x2048x1408.size a)
def k0_chk3_7 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), 256 ∣ (k0_mult87 arg26).toNat) ∧
  (∀ (k0_h10 : k0_cond10 arg22 v96 k0_t4 arg26 = 1#1), 128 ∣ (k0_mult88 arg26).toNat) ∧
  (∀ (k0_h10 : k0_cond10 arg22 v96 k0_t4 arg26 = 1#1), ∀ a, (k0_off477 arg26) a + S1x128x256.size a ≤ S4x256x2048.size a) ∧
  (∀ (k0_h10 : k0_cond10 arg22 v96 k0_t4 arg26 = 1#1), ∀ (r : Fin 2), ∀ a, (k0_off478 arg26 (BitVec.ofNat 32 r.val)) a + S1x256.size a ≤ S384x2048.size a) ∧
  (∀ (k0_h10 : k0_cond10 arg22 v96 k0_t4 arg26 = 1#1), ∀ a, (k0_off479 arg26) a + S1x128x256.size a ≤ S2x256x2048.size a) ∧
  (∀ (k0_h10 : k0_cond10 arg22 v96 k0_t4 arg26 = 1#1), ∀ (hinb : ∀ a, (k0_off479 arg26) a + S1x128x256.size a ≤ S2x256x2048.size a), (Rect.unit (s := S2x256x2048) (k0_off479 arg26) S1x128x256.size hinb).PackedRows (EltTy.packing .fp8e4m3)) ∧
  (∀ (k0_h10 : k0_cond10 arg22 v96 k0_t4 arg26 = 1#1), ∀ (r : Fin 2), ∀ a, (k0_off480 arg26 (BitVec.ofNat 32 (128 * r.val))) a + S128x256.size a ≤ S1280x2048.size a) ∧
  (∀ (k0_h10 : k0_cond10 arg22 v96 k0_t4 arg26 = 1#1), ∀ (r : Fin 2), ∀ (hinb : ∀ a, (k0_off480 arg26 (BitVec.ofNat 32 (128 * r.val))) a + S128x256.size a ≤ S1280x2048.size a), (Rect.unit (s := S1280x2048) (k0_off480 arg26 (BitVec.ofNat 32 (128 * r.val))) S128x256.size hinb).PackedRows (EltTy.packing .bf16)) ∧
  (∀ (k0_h10 : k0_cond10 arg22 v96 k0_t4 arg26 = 1#1), ∀ a, (k0_off481 arg26) a + S1x128x128.size a ≤ S4x256x1408.size a) ∧
  (∀ (k0_h10 : k0_cond10 arg22 v96 k0_t4 arg26 = 1#1), ∀ (r : Fin 2), ∀ a, (k0_off482 arg26 (BitVec.ofNat 32 r.val)) a + S1x1.size a ≤ S384x11.size a) ∧
  (∀ (k0_h10 : k0_cond10 arg22 v96 k0_t4 arg26 = 1#1), ∀ a, (k0_off483 arg26) a + S1x128x128.size a ≤ S2x256x1408.size a) ∧
  (∀ (k0_h10 : k0_cond10 arg22 v96 k0_t4 arg26 = 1#1), ∀ (hinb : ∀ a, (k0_off483 arg26) a + S1x128x128.size a ≤ S2x256x1408.size a), (Rect.unit (s := S2x256x1408) (k0_off483 arg26) S1x128x128.size hinb).PackedRows (EltTy.packing .fp8e5m2)) ∧
  (∀ (k0_h10 : k0_cond10 arg22 v96 k0_t4 arg26 = 1#1), ∀ (r : Fin 2), ∀ a, (k0_off484 arg26 (BitVec.ofNat 32 (128 * r.val))) a + S128x128.size a ≤ S1280x1408.size a) ∧
  (∀ (k0_h10 : k0_cond10 arg22 v96 k0_t4 arg26 = 1#1), ∀ (r : Fin 2), ∀ (hinb : ∀ a, (k0_off484 arg26 (BitVec.ofNat 32 (128 * r.val))) a + S128x128.size a ≤ S1280x1408.size a), (Rect.unit (s := S1280x1408) (k0_off484 arg26 (BitVec.ofNat 32 (128 * r.val))) S128x128.size hinb).PackedRows (EltTy.packing .bf16)) ∧
  (∀ (k0_h10 : k0_cond10 arg22 v96 k0_t4 arg26 = 1#1), 128 ∣ (k0_mult89 arg26).toNat) ∧
  (∀ (k0_h10 : k0_cond10 arg22 v96 k0_t4 arg26 = 1#1), ∀ a, (k0_off485 arg26) a + S1x128x256.size a ≤ S4x256x2048.size a) ∧
  (∀ (k0_h10 : k0_cond10 arg22 v96 k0_t4 arg26 = 1#1), ∀ a, (k0_off486 arg26) a + S1x128x256.size a ≤ S2x256x2048.size a) ∧
  (∀ (k0_h10 : k0_cond10 arg22 v96 k0_t4 arg26 = 1#1), ∀ (hinb : ∀ a, (k0_off486 arg26) a + S1x128x256.size a ≤ S2x256x2048.size a), (Rect.unit (s := S2x256x2048) (k0_off486 arg26) S1x128x256.size hinb).PackedRows (EltTy.packing .fp8e4m3)) ∧
  (∀ (k0_h10 : k0_cond10 arg22 v96 k0_t4 arg26 = 1#1), ∀ a, (k0_off487 arg26) a + S1x128x128.size a ≤ S4x256x1408.size a) ∧
  (∀ (k0_h10 : k0_cond10 arg22 v96 k0_t4 arg26 = 1#1), ∀ a, (k0_off488 arg26) a + S1x128x128.size a ≤ S2x256x1408.size a) ∧
  (∀ (k0_h10 : k0_cond10 arg22 v96 k0_t4 arg26 = 1#1), ∀ (hinb : ∀ a, (k0_off488 arg26) a + S1x128x128.size a ≤ S2x256x1408.size a), (Rect.unit (s := S2x256x1408) (k0_off488 arg26) S1x128x128.size hinb).PackedRows (EltTy.packing .fp8e5m2)) ∧
  (∀ (k0_h10 : k0_cond10 arg22 v96 k0_t4 arg26 = 1#1), 256 ∣ (k0_mult90 arg26).toNat) ∧
  (∀ (k0_h10 : k0_cond10 arg22 v96 k0_t4 arg26 = 1#1), ∀ a, (k0_off489 arg26) a + S1x1.size a ≤ S2x2.size a) ∧
  (∀ (k0_h10 : k0_cond10 arg22 v96 k0_t4 arg26 = 1#1), ∀ a, (k0_off490 arg26) a + S1x256x2048.size a ≤ S2x256x2048.size a) ∧
  (∀ (k0_h10 : k0_cond10 arg22 v96 k0_t4 arg26 = 1#1), ∀ (hinb : ∀ a, (k0_off490 arg26) a + S1x256x2048.size a ≤ S2x256x2048.size a), (Rect.unit (s := S2x256x2048) (k0_off490 arg26) S1x256x2048.size hinb).WholeWords (EltTy.packing .fp8e4m3)) ∧
  (∀ (k0_h10 : k0_cond10 arg22 v96 k0_t4 arg26 = 1#1), ∀ (hinb : ∀ a, (k0_off338 arg26) a + S256x2048.size a ≤ S49152x2048.size a), (Rect.unit (s := S49152x2048) (k0_off338 arg26) S256x2048.size hinb).WholeWords (EltTy.packing .fp8e4m3)) ∧
  (∀ (k0_h10 : k0_cond10 arg22 v96 k0_t4 arg26 = 1#1), ∀ a, (k0_off491 arg26) a + S1x1.size a ≤ S2x2.size a) ∧
  (∀ (k0_h10 : k0_cond10 arg22 v96 k0_t4 arg26 = 1#1), ∀ a, (k0_off492 arg26) a + S1x256x1408.size a ≤ S2x256x1408.size a) ∧
  (∀ (k0_h10 : k0_cond10 arg22 v96 k0_t4 arg26 = 1#1), ∀ (hinb : ∀ a, (k0_off492 arg26) a + S1x256x1408.size a ≤ S2x256x1408.size a), (Rect.unit (s := S2x256x1408) (k0_off492 arg26) S1x256x1408.size hinb).WholeWords (EltTy.packing .fp8e5m2)) ∧
  (∀ (k0_h10 : k0_cond10 arg22 v96 k0_t4 arg26 = 1#1), ∀ (hinb : ∀ a, (k0_off341 arg26) a + S256x1408.size a ≤ S49152x1408.size a), (Rect.unit (s := S49152x1408) (k0_off341 arg26) S256x1408.size hinb).WholeWords (EltTy.packing .fp8e5m2)) ∧
  (∀ (k0_h10 : k0_cond10 arg22 v96 k0_t4 arg26 = 1#1), ∀ (k0_h12 : k0_cond12 arg26 = 1#1), 256 ∣ (k0_mult91 arg26).toNat) ∧
  (∀ (k0_h10 : k0_cond10 arg22 v96 k0_t4 arg26 = 1#1), ∀ (k0_h12 : k0_cond12 arg26 = 1#1), ∀ a, (k0_off493 arg26) a + S1x1.size a ≤ S2x4.size a)
def k0_chk3_8 (arg22 : BitVec 32) (arg23 : BitVec 32) (v96 : BitVec 32) (k0_t4 : Fin (k0_t4_loop arg22 v96).trips) (arg26 : BitVec 32) : Prop :=
  (∀ (k0_h10 : k0_cond10 arg22 v96 k0_t4 arg26 = 1#1), ∀ (k0_h12 : k0_cond12 arg26 = 1#1), ∀ a, (k0_off494 arg26) a + S1x256x2048.size a ≤ S4x256x2048.size a) ∧
  (∀ (k0_h10 : k0_cond10 arg22 v96 k0_t4 arg26 = 1#1), ∀ (k0_h12 : k0_cond12 arg26 = 1#1), ∀ a, (k0_off495 arg26) a + S256x2048.size a ≤ S49152x2048.size a) ∧
  (∀ (k0_h10 : k0_cond10 arg22 v96 k0_t4 arg26 = 1#1), ∀ (k0_h12 : k0_cond12 arg26 = 1#1), ∀ (hinb : ∀ a, (k0_off495 arg26) a + S256x2048.size a ≤ S49152x2048.size a), (Rect.unit (s := S49152x2048) (k0_off495 arg26) S256x2048.size hinb).WholeWords (EltTy.packing .bf16)) ∧
  (∀ (k0_h10 : k0_cond10 arg22 v96 k0_t4 arg26 = 1#1), ∀ (k0_h12 : k0_cond12 arg26 = 1#1), ∀ (hinb : ∀ a, (k0_off494 arg26) a + S1x256x2048.size a ≤ S4x256x2048.size a), (Rect.unit (s := S4x256x2048) (k0_off494 arg26) S1x256x2048.size hinb).WholeWords (EltTy.packing .bf16)) ∧
  (∀ (k0_h10 : k0_cond10 arg22 v96 k0_t4 arg26 = 1#1), ∀ (k0_h12 : k0_cond12 arg26 = 1#1), ∀ a, (k0_off496 arg26) a + S1x1.size a ≤ S2x4.size a) ∧
  (∀ (k0_h10 : k0_cond10 arg22 v96 k0_t4 arg26 = 1#1), ∀ (k0_h12 : k0_cond12 arg26 = 1#1), ∀ a, (k0_off497 arg26) a + S1x256x1408.size a ≤ S4x256x1408.size a) ∧
  (∀ (k0_h10 : k0_cond10 arg22 v96 k0_t4 arg26 = 1#1), ∀ (k0_h12 : k0_cond12 arg26 = 1#1), ∀ a, (k0_off498 arg26) a + S256x1408.size a ≤ S49152x1408.size a) ∧
  (∀ (k0_h10 : k0_cond10 arg22 v96 k0_t4 arg26 = 1#1), ∀ (k0_h12 : k0_cond12 arg26 = 1#1), ∀ (hinb : ∀ a, (k0_off498 arg26) a + S256x1408.size a ≤ S49152x1408.size a), (Rect.unit (s := S49152x1408) (k0_off498 arg26) S256x1408.size hinb).WholeWords (EltTy.packing .bf16)) ∧
  (∀ (k0_h10 : k0_cond10 arg22 v96 k0_t4 arg26 = 1#1), ∀ (k0_h12 : k0_cond12 arg26 = 1#1), ∀ (hinb : ∀ a, (k0_off497 arg26) a + S1x256x1408.size a ≤ S4x256x1408.size a), (Rect.unit (s := S4x256x1408) (k0_off497 arg26) S1x256x1408.size hinb).WholeWords (EltTy.packing .bf16)) ∧
  (∀ (k0_h14 : k0_cond14 arg22 v96 k0_t4 arg26 = 1#1), 16 ∣ (k0_mult92 arg22 v96 k0_t4).toNat) ∧
  (∀ (k0_h14 : k0_cond14 arg22 v96 k0_t4 arg26 = 1#1), ∀ a, (k0_off499 arg22 v96 k0_t4) a + S256x128.size a ≤ S1280x1408.size a) ∧
  (∀ (k0_h14 : k0_cond14 arg22 v96 k0_t4 arg26 = 1#1), ∀ a, (k0_off500 arg22 v96 k0_t4) a + S256x128.size a ≤ S1280x1408.size a) ∧
  (∀ (k0_h14 : k0_cond14 arg22 v96 k0_t4 arg26 = 1#1), ∀ a, (k0_off501 arg22 v96 k0_t4) a + S256x128.size a ≤ S1280x1408.size a) ∧
  (∀ (k0_h14 : k0_cond14 arg22 v96 k0_t4 arg26 = 1#1), ∀ a, (k0_off502 arg22 v96 k0_t4) a + S256x128.size a ≤ S1280x1408.size a) ∧
  (∀ (k0_h14 : k0_cond14 arg22 v96 k0_t4 arg26 = 1#1), ∀ a, (k0_off503 arg22 v96 k0_t4) a + S256x128.size a ≤ S1280x1408.size a) ∧
  (∀ (k0_h14 : k0_cond14 arg22 v96 k0_t4 arg26 = 1#1), ∀ a, (k0_off504 arg22 v96 k0_t4) a + S256x128.size a ≤ S1280x1408.size a) ∧
  (∀ (k0_h14 : k0_cond14 arg22 v96 k0_t4 arg26 = 1#1), ∀ a, (k0_off505 arg22 v96 k0_t4) a + S256x128.size a ≤ S1280x1408.size a) ∧
  (∀ (k0_h14 : k0_cond14 arg22 v96 k0_t4 arg26 = 1#1), ∀ a, (k0_off506 arg22 v96 k0_t4) a + S256x128.size a ≤ S1280x1408.size a) ∧
  (∀ (k0_h14 : k0_cond14 arg22 v96 k0_t4 arg26 = 1#1), ∀ a, (k0_off507 arg22 v96 k0_t4) a + S256x128.size a ≤ S1280x1408.size a) ∧
  (∀ (k0_h14 : k0_cond14 arg22 v96 k0_t4 arg26 = 1#1), ∀ a, (k0_off508 arg22 v96 k0_t4) a + S256x128.size a ≤ S1280x1408.size a) ∧
  (∀ (k0_h14 : k0_cond14 arg22 v96 k0_t4 arg26 = 1#1), ∀ a, (k0_off509 arg22 v96 k0_t4) a + S256x128.size a ≤ S1280x1408.size a) ∧
  (∀ (k0_h14 : k0_cond14 arg22 v96 k0_t4 arg26 = 1#1), ∀ a, (k0_off510 arg22 v96 k0_t4) a + S256x256.size a ≤ S1280x2048.size a) ∧
  (∀ (k0_h14 : k0_cond14 arg22 v96 k0_t4 arg26 = 1#1), ∀ a, (k0_off511 arg23) a + S1x256x1408.size a ≤ S3x2048x1408.size a) ∧
  (∀ (k0_h14 : k0_cond14 arg22 v96 k0_t4 arg26 = 1#1), ∀ a, (k0_off512 arg22 v96 k0_t4) a + S256x256.size a ≤ S1280x2048.size a) ∧
  (∀ (k0_h14 : k0_cond14 arg22 v96 k0_t4 arg26 = 1#1), ∀ a, (k0_off513 arg23) a + S1x256x1408.size a ≤ S3x2048x1408.size a) ∧
  (∀ (k0_h14 : k0_cond14 arg22 v96 k0_t4 arg26 = 1#1), ∀ a, (k0_off514 arg22 v96 k0_t4) a + S256x256.size a ≤ S1280x2048.size a) ∧
  (∀ (k0_h14 : k0_cond14 arg22 v96 k0_t4 arg26 = 1#1), ∀ a, (k0_off515 arg23) a + S1x256x1408.size a ≤ S3x2048x1408.size a) ∧
  (∀ (k0_h14 : k0_cond14 arg22 v96 k0_t4 arg26 = 1#1), ∀ a, (k0_off516 arg22 v96 k0_t4) a + S256x256.size a ≤ S1280x2048.size a) ∧
  (∀ (k0_h14 : k0_cond14 arg22 v96 k0_t4 arg26 = 1#1), ∀ a, (k0_off517 arg23) a + S1x256x1408.size a ≤ S3x2048x1408.size a) ∧
  (∀ (k0_h14 : k0_cond14 arg22 v96 k0_t4 arg26 = 1#1), ∀ a, (k0_off518 arg22 v96 k0_t4) a + S256x256.size a ≤ S1280x2048.size a) ∧
  (∀ (k0_h14 : k0_cond14 arg22 v96 k0_t4 arg26 = 1#1), ∀ a, (k0_off519 arg23) a + S1x256x1408.size a ≤ S3x2048x1408.size a) ∧
  (∀ (k0_h14 : k0_cond14 arg22 v96 k0_t4 arg26 = 1#1), ∀ a, (k0_off520 arg22 v96 k0_t4) a + S256x256.size a ≤ S1280x2048.size a)
def k0_chk3_9 (arg22 : BitVec 32) (arg23 : BitVec 32) (v96 : BitVec 32) (k0_t4 : Fin (k0_t4_loop arg22 v96).trips) (arg26 : BitVec 32) : Prop :=
  (∀ (k0_h14 : k0_cond14 arg22 v96 k0_t4 arg26 = 1#1), ∀ a, (k0_off521 arg23) a + S1x256x1408.size a ≤ S3x2048x1408.size a) ∧
  (∀ (k0_h14 : k0_cond14 arg22 v96 k0_t4 arg26 = 1#1), ∀ a, (k0_off522 arg22 v96 k0_t4) a + S256x256.size a ≤ S1280x2048.size a) ∧
  (∀ (k0_h14 : k0_cond14 arg22 v96 k0_t4 arg26 = 1#1), ∀ a, (k0_off523 arg23) a + S1x256x1408.size a ≤ S3x2048x1408.size a) ∧
  (∀ (k0_h14 : k0_cond14 arg22 v96 k0_t4 arg26 = 1#1), ∀ a, (k0_off524 arg22 v96 k0_t4) a + S256x256.size a ≤ S1280x2048.size a) ∧
  (∀ (k0_h14 : k0_cond14 arg22 v96 k0_t4 arg26 = 1#1), ∀ a, (k0_off525 arg23) a + S1x256x1408.size a ≤ S3x2048x1408.size a)
def k0_chk3 (arg22 : BitVec 32) (arg23 : BitVec 32) (v96 : BitVec 32) (k0_t4 : Fin (k0_t4_loop arg22 v96).trips) (arg26 : BitVec 32) : Prop :=
  k0_chk3_0 arg22 arg23 v96 k0_t4 arg26 ∧
  k0_chk3_1 arg22 arg23 v96 k0_t4 arg26 ∧
  k0_chk3_2 arg22 arg23 v96 k0_t4 arg26 ∧
  k0_chk3_3 arg22 arg23 v96 k0_t4 arg26 ∧
  k0_chk3_4 arg22 arg23 v96 k0_t4 arg26 ∧
  k0_chk3_5 arg22 arg23 v96 k0_t4 arg26 ∧
  k0_chk3_6 arg22 arg23 v96 k0_t4 arg26 ∧
  k0_chk3_7 arg22 arg23 v96 k0_t4 arg26 ∧
  k0_chk3_8 arg22 arg23 v96 k0_t4 arg26 ∧
  k0_chk3_9 arg22 arg23 v96 k0_t4 arg26
theorem k0_mult63_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult63 arg26).toNat := fun arg22 arg23 v96 k0_t4 arg26 k0_hw3 k0_h10 => k0_hw3.1.1 k0_h10
theorem k0_off336_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off336 arg26) a + S1x1.size a ≤ S2x4.size a := fun arg22 arg23 v96 k0_t4 arg26 k0_hw3 k0_h10 => k0_hw3.1.2.1 k0_h10
theorem k0_off337_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off337 arg26) a + S1x256x2048.size a ≤ S4x256x2048.size a := fun arg22 arg23 v96 k0_t4 arg26 k0_hw3 k0_h10 => k0_hw3.1.2.2.1 k0_h10
theorem k0_off338_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off338 arg26) a + S256x2048.size a ≤ S49152x2048.size a := fun arg22 arg23 v96 k0_t4 arg26 k0_hw3 k0_h10 => k0_hw3.1.2.2.2.1 k0_h10
theorem k0_off338_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S49152x2048) (k0_off338 arg26) S256x2048.size (k0_off338_inb arg22 arg23 v96 k0_t4 arg26 k0_hw3 k0_h10)).WholeWords (EltTy.packing .bf16) := fun arg22 arg23 v96 k0_t4 arg26 k0_hw3 k0_h10 => k0_hw3.1.2.2.2.2.1 k0_h10 (k0_off338_inb arg22 arg23 v96 k0_t4 arg26 k0_hw3 k0_h10)
theorem k0_off337_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S4x256x2048) (k0_off337 arg26) S1x256x2048.size (k0_off337_inb arg22 arg23 v96 k0_t4 arg26 k0_hw3 k0_h10)).WholeWords (EltTy.packing .bf16) := fun arg22 arg23 v96 k0_t4 arg26 k0_hw3 k0_h10 => k0_hw3.1.2.2.2.2.2.1 k0_h10 (k0_off337_inb arg22 arg23 v96 k0_t4 arg26 k0_hw3 k0_h10)
theorem k0_off339_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off339 arg26) a + S1x1.size a ≤ S2x4.size a := fun arg22 arg23 v96 k0_t4 arg26 k0_hw3 k0_h10 => k0_hw3.1.2.2.2.2.2.2.1 k0_h10
theorem k0_off340_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off340 arg26) a + S1x256x1408.size a ≤ S4x256x1408.size a := fun arg22 arg23 v96 k0_t4 arg26 k0_hw3 k0_h10 => k0_hw3.1.2.2.2.2.2.2.2.1 k0_h10
theorem k0_off341_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off341 arg26) a + S256x1408.size a ≤ S49152x1408.size a := fun arg22 arg23 v96 k0_t4 arg26 k0_hw3 k0_h10 => k0_hw3.1.2.2.2.2.2.2.2.2.1 k0_h10
theorem k0_off341_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S49152x1408) (k0_off341 arg26) S256x1408.size (k0_off341_inb arg22 arg23 v96 k0_t4 arg26 k0_hw3 k0_h10)).WholeWords (EltTy.packing .bf16) := fun arg22 arg23 v96 k0_t4 arg26 k0_hw3 k0_h10 => k0_hw3.1.2.2.2.2.2.2.2.2.2.1 k0_h10 (k0_off341_inb arg22 arg23 v96 k0_t4 arg26 k0_hw3 k0_h10)
theorem k0_off340_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S4x256x1408) (k0_off340 arg26) S1x256x1408.size (k0_off340_inb arg22 arg23 v96 k0_t4 arg26 k0_hw3 k0_h10)).WholeWords (EltTy.packing .bf16) := fun arg22 arg23 v96 k0_t4 arg26 k0_hw3 k0_h10 => k0_hw3.1.2.2.2.2.2.2.2.2.2.2.1 k0_h10 (k0_off340_inb arg22 arg23 v96 k0_t4 arg26 k0_hw3 k0_h10)
theorem k0_mult64_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), 256 ∣ (k0_mult64 arg26).toNat := fun arg22 arg23 v96 k0_t4 arg26 k0_hw3 k0_h10 k0_h11 => k0_hw3.1.2.2.2.2.2.2.2.2.2.2.2.1 k0_h10 k0_h11
theorem k0_off342_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off342 arg26) a + S1x1.size a ≤ S2x2.size a := fun arg22 arg23 v96 k0_t4 arg26 k0_hw3 k0_h10 k0_h11 => k0_hw3.1.2.2.2.2.2.2.2.2.2.2.2.2.1 k0_h10 k0_h11
theorem k0_off343_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off343 arg26) a + S256x2048.size a ≤ S49152x2048.size a := fun arg22 arg23 v96 k0_t4 arg26 k0_hw3 k0_h10 k0_h11 => k0_hw3.1.2.2.2.2.2.2.2.2.2.2.2.2.2.1 k0_h10 k0_h11
theorem k0_off344_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off344 arg26) a + S1x256x2048.size a ≤ S2x256x2048.size a := fun arg22 arg23 v96 k0_t4 arg26 k0_hw3 k0_h10 k0_h11 => k0_hw3.1.2.2.2.2.2.2.2.2.2.2.2.2.2.2.1 k0_h10 k0_h11
theorem k0_off344_wordsfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), (Rect.unit (s := S2x256x2048) (k0_off344 arg26) S1x256x2048.size (k0_off344_inb arg22 arg23 v96 k0_t4 arg26 k0_hw3 k0_h10 k0_h11)).WholeWords (EltTy.packing .fp8e4m3) := fun arg22 arg23 v96 k0_t4 arg26 k0_hw3 k0_h10 k0_h11 => k0_hw3.1.2.2.2.2.2.2.2.2.2.2.2.2.2.2.2.1 k0_h10 k0_h11 (k0_off344_inb arg22 arg23 v96 k0_t4 arg26 k0_hw3 k0_h10 k0_h11)
theorem k0_off343_wordsfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), (Rect.unit (s := S49152x2048) (k0_off343 arg26) S256x2048.size (k0_off343_inb arg22 arg23 v96 k0_t4 arg26 k0_hw3 k0_h10 k0_h11)).WholeWords (EltTy.packing .fp8e4m3) := fun arg22 arg23 v96 k0_t4 arg26 k0_hw3 k0_h10 k0_h11 => k0_hw3.1.2.2.2.2.2.2.2.2.2.2.2.2.2.2.2.2.1 k0_h10 k0_h11 (k0_off343_inb arg22 arg23 v96 k0_t4 arg26 k0_hw3 k0_h10 k0_h11)
theorem k0_off345_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off345 arg26) a + S1x1.size a ≤ S2x2.size a := fun arg22 arg23 v96 k0_t4 arg26 k0_hw3 k0_h10 k0_h11 => k0_hw3.1.2.2.2.2.2.2.2.2.2.2.2.2.2.2.2.2.2.1 k0_h10 k0_h11
theorem k0_off346_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off346 arg26) a + S256x1408.size a ≤ S49152x1408.size a := fun arg22 arg23 v96 k0_t4 arg26 k0_hw3 k0_h10 k0_h11 => k0_hw3.1.2.2.2.2.2.2.2.2.2.2.2.2.2.2.2.2.2.2.1 k0_h10 k0_h11
theorem k0_off347_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), ∀ a, (k0_off347 arg26) a + S1x256x1408.size a ≤ S2x256x1408.size a := fun arg22 arg23 v96 k0_t4 arg26 k0_hw3 k0_h10 k0_h11 => k0_hw3.1.2.2.2.2.2.2.2.2.2.2.2.2.2.2.2.2.2.2.2.1 k0_h10 k0_h11
theorem k0_off347_wordsfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), (Rect.unit (s := S2x256x1408) (k0_off347 arg26) S1x256x1408.size (k0_off347_inb arg22 arg23 v96 k0_t4 arg26 k0_hw3 k0_h10 k0_h11)).WholeWords (EltTy.packing .fp8e5m2) := fun arg22 arg23 v96 k0_t4 arg26 k0_hw3 k0_h10 k0_h11 => k0_hw3.1.2.2.2.2.2.2.2.2.2.2.2.2.2.2.2.2.2.2.2.2.1 k0_h10 k0_h11 (k0_off347_inb arg22 arg23 v96 k0_t4 arg26 k0_hw3 k0_h10 k0_h11)
theorem k0_off346_wordsfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h11 : k0_cond11 arg26 = 1#1), (Rect.unit (s := S49152x1408) (k0_off346 arg26) S256x1408.size (k0_off346_inb arg22 arg23 v96 k0_t4 arg26 k0_hw3 k0_h10 k0_h11)).WholeWords (EltTy.packing .fp8e5m2) := fun arg22 arg23 v96 k0_t4 arg26 k0_hw3 k0_h10 k0_h11 => k0_hw3.1.2.2.2.2.2.2.2.2.2.2.2.2.2.2.2.2.2.2.2.2.2.1 k0_h10 k0_h11 (k0_off346_inb arg22 arg23 v96 k0_t4 arg26 k0_hw3 k0_h10 k0_h11)
theorem k0_mult65_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 16 ∣ (k0_mult65 arg22 v96 k0_t4).toNat := fun arg22 arg23 v96 k0_t4 arg26 k0_hw3 k0_h10 => k0_hw3.1.2.2.2.2.2.2.2.2.2.2.2.2.2.2.2.2.2.2.2.2.2.2.1 k0_h10
theorem k0_off348_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off348 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.1 k0_h10
theorem k0_off349_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off349 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.1 k0_h10
theorem k0_off350_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off350 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.1 k0_h10
theorem k0_off351_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off351 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.1 k0_h10
theorem k0_off352_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off352 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.2.1 k0_h10
theorem k0_off353_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off353 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.2.2.1 k0_h10
theorem k0_off354_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off354 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.2.2.2.1 k0_h10
theorem k0_off355_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off355 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.2.2.2.2.1 k0_h10
theorem k0_off356_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off356 arg22 v96 k0_t4) a + S256x128.size a ≤ S1280x1408.size a := fun arg22 arg23 v96 k0_t4 arg26 k0_hw3 k0_h10 => k0_hw3.1.2.2.2.2.2.2.2.2.2.2.2.2.2.2.2.2.2.2.2.2.2.2.2.2.2.2.2.2.2.2.2 k0_h10
theorem k0_off357_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off357 arg22 v96 k0_t4) a + S256x128.size a ≤ S1280x1408.size a := fun arg22 arg23 v96 k0_t4 arg26 k0_hw3 k0_h10 => k0_hw3.2.1.1 k0_h10
theorem k0_off358_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off358 arg22 v96 k0_t4) a + S256x128.size a ≤ S1280x1408.size a := fun arg22 arg23 v96 k0_t4 arg26 k0_hw3 k0_h10 => k0_hw3.2.1.2.1 k0_h10
theorem k0_off359_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off359 arg22 v96 k0_t4) a + S256x256.size a ≤ S1280x2048.size a := fun arg22 arg23 v96 k0_t4 arg26 k0_hw3 k0_h10 => k0_hw3.2.1.2.2.1 k0_h10
theorem k0_off360_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off360 arg23) a + S1x256x1408.size a ≤ S3x2048x1408.size a := fun arg22 arg23 v96 k0_t4 arg26 k0_hw3 k0_h10 => k0_hw3.2.1.2.2.2.1 k0_h10
theorem k0_mult66_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult66 arg26).toNat := fun arg22 arg23 v96 k0_t4 arg26 k0_hw3 k0_h10 => k0_hw3.2.1.2.2.2.2.1 k0_h10
theorem k0_mult67_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult67 arg26).toNat := fun arg22 arg23 v96 k0_t4 arg26 k0_hw3 k0_h10 => k0_hw3.2.1.2.2.2.2.2.1 k0_h10
theorem k0_off361_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off361 arg26) a + S1x128x256.size a ≤ S4x256x2048.size a := fun arg22 arg23 v96 k0_t4 arg26 k0_hw3 k0_h10 => k0_hw3.2.1.2.2.2.2.2.2.1 k0_h10
theorem k0_off362_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off362 arg26 (BitVec.ofNat 32 r.val)) a + S1x256.size a ≤ S384x2048.size a := fun arg22 arg23 v96 k0_t4 arg26 k0_hw3 k0_h10 r => k0_hw3.2.1.2.2.2.2.2.2.2.1 k0_h10 r
theorem k0_off363_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off363 arg26) a + S1x128x256.size a ≤ S2x256x2048.size a := fun arg22 arg23 v96 k0_t4 arg26 k0_hw3 k0_h10 => k0_hw3.2.1.2.2.2.2.2.2.2.2.1 k0_h10
theorem k0_off363_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off363 arg26) S1x128x256.size (k0_off363_inb arg22 arg23 v96 k0_t4 arg26 k0_hw3 k0_h10)).PackedRows (EltTy.packing .fp8e4m3) := fun arg22 arg23 v96 k0_t4 arg26 k0_hw3 k0_h10 => k0_hw3.2.1.2.2.2.2.2.2.2.2.2.1 k0_h10 (k0_off363_inb arg22 arg23 v96 k0_t4 arg26 k0_hw3 k0_h10)
theorem k0_off364_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off364 arg26 (BitVec.ofNat 32 (128 * r.val))) a + S128x256.size a ≤ S1280x2048.size a := fun arg22 arg23 v96 k0_t4 arg26 k0_hw3 k0_h10 r => k0_hw3.2.1.2.2.2.2.2.2.2.2.2.2.1 k0_h10 r
theorem k0_off364_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off364 arg26 (BitVec.ofNat 32 (128 * r.val))) S128x256.size (k0_off364_inb arg22 arg23 v96 k0_t4 arg26 k0_hw3 k0_h10 r)).PackedRows (EltTy.packing .bf16) := fun arg22 arg23 v96 k0_t4 arg26 k0_hw3 k0_h10 r => k0_hw3.2.1.2.2.2.2.2.2.2.2.2.2.2.1 k0_h10 r (k0_off364_inb arg22 arg23 v96 k0_t4 arg26 k0_hw3 k0_h10 r)
theorem k0_off365_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off365 arg26) a + S1x128x128.size a ≤ S4x256x1408.size a := fun arg22 arg23 v96 k0_t4 arg26 k0_hw3 k0_h10 => k0_hw3.2.1.2.2.2.2.2.2.2.2.2.2.2.2.1 k0_h10
theorem k0_off366_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off366 arg26 (BitVec.ofNat 32 r.val)) a + S1x1.size a ≤ S384x11.size a := fun arg22 arg23 v96 k0_t4 arg26 k0_hw3 k0_h10 r => k0_hw3.2.1.2.2.2.2.2.2.2.2.2.2.2.2.2.1 k0_h10 r
theorem k0_off367_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off367 arg26) a + S1x128x128.size a ≤ S2x256x1408.size a := fun arg22 arg23 v96 k0_t4 arg26 k0_hw3 k0_h10 => k0_hw3.2.1.2.2.2.2.2.2.2.2.2.2.2.2.2.2.1 k0_h10
theorem k0_off367_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off367 arg26) S1x128x128.size (k0_off367_inb arg22 arg23 v96 k0_t4 arg26 k0_hw3 k0_h10)).PackedRows (EltTy.packing .fp8e5m2) := fun arg22 arg23 v96 k0_t4 arg26 k0_hw3 k0_h10 => k0_hw3.2.1.2.2.2.2.2.2.2.2.2.2.2.2.2.2.2.1 k0_h10 (k0_off367_inb arg22 arg23 v96 k0_t4 arg26 k0_hw3 k0_h10)
theorem k0_off368_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off368 arg26 (BitVec.ofNat 32 (128 * r.val))) a + S128x128.size a ≤ S1280x1408.size a := fun arg22 arg23 v96 k0_t4 arg26 k0_hw3 k0_h10 r => k0_hw3.2.1.2.2.2.2.2.2.2.2.2.2.2.2.2.2.2.2.1 k0_h10 r
theorem k0_off368_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off368 arg26 (BitVec.ofNat 32 (128 * r.val))) S128x128.size (k0_off368_inb arg22 arg23 v96 k0_t4 arg26 k0_hw3 k0_h10 r)).PackedRows (EltTy.packing .bf16) := fun arg22 arg23 v96 k0_t4 arg26 k0_hw3 k0_h10 r => k0_hw3.2.1.2.2.2.2.2.2.2.2.2.2.2.2.2.2.2.2.2.1 k0_h10 r (k0_off368_inb arg22 arg23 v96 k0_t4 arg26 k0_hw3 k0_h10 r)
theorem k0_off369_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off369 arg26) a + S1x128x128.size a ≤ S4x256x1408.size a := fun arg22 arg23 v96 k0_t4 arg26 k0_hw3 k0_h10 => k0_hw3.2.1.2.2.2.2.2.2.2.2.2.2.2.2.2.2.2.2.2.2.1 k0_h10
theorem k0_off370_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off370 arg26 (BitVec.ofNat 32 r.val)) a + S1x1.size a ≤ S384x11.size a := fun arg22 arg23 v96 k0_t4 arg26 k0_hw3 k0_h10 r => k0_hw3.2.1.2.2.2.2.2.2.2.2.2.2.2.2.2.2.2.2.2.2.2.1 k0_h10 r
theorem k0_off371_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off371 arg26) a + S1x128x128.size a ≤ S2x256x1408.size a := fun arg22 arg23 v96 k0_t4 arg26 k0_hw3 k0_h10 => k0_hw3.2.1.2.2.2.2.2.2.2.2.2.2.2.2.2.2.2.2.2.2.2.2.1 k0_h10
theorem k0_off371_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off371 arg26) S1x128x128.size (k0_off371_inb arg22 arg23 v96 k0_t4 arg26 k0_hw3 k0_h10)).PackedRows (EltTy.packing .fp8e5m2) := fun arg22 arg23 v96 k0_t4 arg26 k0_hw3 k0_h10 => k0_hw3.2.1.2.2.2.2.2.2.2.2.2.2.2.2.2.2.2.2.2.2.2.2.2.1 k0_h10 (k0_off371_inb arg22 arg23 v96 k0_t4 arg26 k0_hw3 k0_h10)
theorem k0_off372_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off372 arg26 (BitVec.ofNat 32 (128 * r.val))) a + S128x128.size a ≤ S1280x1408.size a := fun arg22 arg23 v96 k0_t4 arg26 k0_hw3 k0_h10 r => k0_hw3.2.1.2.2.2.2.2.2.2.2.2.2.2.2.2.2.2.2.2.2.2.2.2.2.1 k0_h10 r
theorem k0_off372_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off372 arg26 (BitVec.ofNat 32 (128 * r.val))) S128x128.size (k0_off372_inb arg22 arg23 v96 k0_t4 arg26 k0_hw3 k0_h10 r)).PackedRows (EltTy.packing .bf16) := fun arg22 arg23 v96 k0_t4 arg26 k0_hw3 k0_h10 r => k0_hw3.2.1.2.2.2.2.2.2.2.2.2.2.2.2.2.2.2.2.2.2.2.2.2.2.2.1 k0_h10 r (k0_off372_inb arg22 arg23 v96 k0_t4 arg26 k0_hw3 k0_h10 r)
theorem k0_mult68_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult68 arg26).toNat := fun arg22 arg23 v96 k0_t4 arg26 k0_hw3 k0_h10 => k0_hw3.2.1.2.2.2.2.2.2.2.2.2.2.2.2.2.2.2.2.2.2.2.2.2.2.2.2.1 k0_h10
theorem k0_off373_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off373 arg26) a + S1x128x256.size a ≤ S4x256x2048.size a := fun arg22 arg23 v96 k0_t4 arg26 k0_hw3 k0_h10 => k0_hw3.2.1.2.2.2.2.2.2.2.2.2.2.2.2.2.2.2.2.2.2.2.2.2.2.2.2.2.1 k0_h10
theorem k0_off374_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off374 arg26) a + S1x128x256.size a ≤ S2x256x2048.size a := fun arg22 arg23 v96 k0_t4 arg26 k0_hw3 k0_h10 => k0_hw3.2.1.2.2.2.2.2.2.2.2.2.2.2.2.2.2.2.2.2.2.2.2.2.2.2.2.2.2.1 k0_h10
theorem k0_off374_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off374 arg26) S1x128x256.size (k0_off374_inb arg22 arg23 v96 k0_t4 arg26 k0_hw3 k0_h10)).PackedRows (EltTy.packing .fp8e4m3) := fun arg22 arg23 v96 k0_t4 arg26 k0_hw3 k0_h10 => k0_hw3.2.1.2.2.2.2.2.2.2.2.2.2.2.2.2.2.2.2.2.2.2.2.2.2.2.2.2.2.2.1 k0_h10 (k0_off374_inb arg22 arg23 v96 k0_t4 arg26 k0_hw3 k0_h10)
theorem k0_off375_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off375 arg26) a + S1x128x128.size a ≤ S4x256x1408.size a := fun arg22 arg23 v96 k0_t4 arg26 k0_hw3 k0_h10 => k0_hw3.2.1.2.2.2.2.2.2.2.2.2.2.2.2.2.2.2.2.2.2.2.2.2.2.2.2.2.2.2.2.1 k0_h10
theorem k0_off376_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off376 arg26) a + S1x128x128.size a ≤ S2x256x1408.size a := fun arg22 arg23 v96 k0_t4 arg26 k0_hw3 k0_h10 => k0_hw3.2.1.2.2.2.2.2.2.2.2.2.2.2.2.2.2.2.2.2.2.2.2.2.2.2.2.2.2.2.2.2.1 k0_h10
theorem k0_off376_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off376 arg26) S1x128x128.size (k0_off376_inb arg22 arg23 v96 k0_t4 arg26 k0_hw3 k0_h10)).PackedRows (EltTy.packing .fp8e5m2) := fun arg22 arg23 v96 k0_t4 arg26 k0_hw3 k0_h10 => k0_hw3.2.1.2.2.2.2.2.2.2.2.2.2.2.2.2.2.2.2.2.2.2.2.2.2.2.2.2.2.2.2.2.2.1 k0_h10 (k0_off376_inb arg22 arg23 v96 k0_t4 arg26 k0_hw3 k0_h10)
theorem k0_off377_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off377 arg26) a + S1x128x128.size a ≤ S4x256x1408.size a := fun arg22 arg23 v96 k0_t4 arg26 k0_hw3 k0_h10 => k0_hw3.2.1.2.2.2.2.2.2.2.2.2.2.2.2.2.2.2.2.2.2.2.2.2.2.2.2.2.2.2.2.2.2.2 k0_h10
theorem k0_off378_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off378 arg26) a + S1x128x128.size a ≤ S2x256x1408.size a := fun arg22 arg23 v96 k0_t4 arg26 k0_hw3 k0_h10 => k0_hw3.2.2.1.1 k0_h10
theorem k0_off378_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off378 arg26) S1x128x128.size (k0_off378_inb arg22 arg23 v96 k0_t4 arg26 k0_hw3 k0_h10)).PackedRows (EltTy.packing .fp8e5m2) := fun arg22 arg23 v96 k0_t4 arg26 k0_hw3 k0_h10 => k0_hw3.2.2.1.2.1 k0_h10 (k0_off378_inb arg22 arg23 v96 k0_t4 arg26 k0_hw3 k0_h10)
theorem k0_off379_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off379 arg22 v96 k0_t4) a + S256x256.size a ≤ S1280x2048.size a := fun arg22 arg23 v96 k0_t4 arg26 k0_hw3 k0_h10 => k0_hw3.2.2.1.2.2.1 k0_h10
theorem k0_off380_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off380 arg23) a + S1x256x1408.size a ≤ S3x2048x1408.size a := fun arg22 arg23 v96 k0_t4 arg26 k0_hw3 k0_h10 => k0_hw3.2.2.1.2.2.2.1 k0_h10
theorem k0_mult69_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult69 arg26).toNat := fun arg22 arg23 v96 k0_t4 arg26 k0_hw3 k0_h10 => k0_hw3.2.2.1.2.2.2.2.1 k0_h10
theorem k0_mult70_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult70 arg26).toNat := fun arg22 arg23 v96 k0_t4 arg26 k0_hw3 k0_h10 => k0_hw3.2.2.1.2.2.2.2.2.1 k0_h10
theorem k0_off381_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off381 arg26) a + S1x128x256.size a ≤ S4x256x2048.size a := fun arg22 arg23 v96 k0_t4 arg26 k0_hw3 k0_h10 => k0_hw3.2.2.1.2.2.2.2.2.2.1 k0_h10
theorem k0_off382_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off382 arg26 (BitVec.ofNat 32 r.val)) a + S1x256.size a ≤ S384x2048.size a := fun arg22 arg23 v96 k0_t4 arg26 k0_hw3 k0_h10 r => k0_hw3.2.2.1.2.2.2.2.2.2.2.1 k0_h10 r
theorem k0_off383_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off383 arg26) a + S1x128x256.size a ≤ S2x256x2048.size a := fun arg22 arg23 v96 k0_t4 arg26 k0_hw3 k0_h10 => k0_hw3.2.2.1.2.2.2.2.2.2.2.2.1 k0_h10
theorem k0_off383_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off383 arg26) S1x128x256.size (k0_off383_inb arg22 arg23 v96 k0_t4 arg26 k0_hw3 k0_h10)).PackedRows (EltTy.packing .fp8e4m3) := fun arg22 arg23 v96 k0_t4 arg26 k0_hw3 k0_h10 => k0_hw3.2.2.1.2.2.2.2.2.2.2.2.2.1 k0_h10 (k0_off383_inb arg22 arg23 v96 k0_t4 arg26 k0_hw3 k0_h10)
theorem k0_off384_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off384 arg26 (BitVec.ofNat 32 (128 * r.val))) a + S128x256.size a ≤ S1280x2048.size a := fun arg22 arg23 v96 k0_t4 arg26 k0_hw3 k0_h10 r => k0_hw3.2.2.1.2.2.2.2.2.2.2.2.2.2.1 k0_h10 r
theorem k0_off384_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off384 arg26 (BitVec.ofNat 32 (128 * r.val))) S128x256.size (k0_off384_inb arg22 arg23 v96 k0_t4 arg26 k0_hw3 k0_h10 r)).PackedRows (EltTy.packing .bf16) := fun arg22 arg23 v96 k0_t4 arg26 k0_hw3 k0_h10 r => k0_hw3.2.2.1.2.2.2.2.2.2.2.2.2.2.2.1 k0_h10 r (k0_off384_inb arg22 arg23 v96 k0_t4 arg26 k0_hw3 k0_h10 r)
theorem k0_off385_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off385 arg26) a + S1x128x128.size a ≤ S4x256x1408.size a := fun arg22 arg23 v96 k0_t4 arg26 k0_hw3 k0_h10 => k0_hw3.2.2.1.2.2.2.2.2.2.2.2.2.2.2.2.1 k0_h10
theorem k0_off386_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off386 arg26 (BitVec.ofNat 32 r.val)) a + S1x1.size a ≤ S384x11.size a := fun arg22 arg23 v96 k0_t4 arg26 k0_hw3 k0_h10 r => k0_hw3.2.2.1.2.2.2.2.2.2.2.2.2.2.2.2.2.1 k0_h10 r
theorem k0_off387_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off387 arg26) a + S1x128x128.size a ≤ S2x256x1408.size a := fun arg22 arg23 v96 k0_t4 arg26 k0_hw3 k0_h10 => k0_hw3.2.2.1.2.2.2.2.2.2.2.2.2.2.2.2.2.2.1 k0_h10
theorem k0_off387_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off387 arg26) S1x128x128.size (k0_off387_inb arg22 arg23 v96 k0_t4 arg26 k0_hw3 k0_h10)).PackedRows (EltTy.packing .fp8e5m2) := fun arg22 arg23 v96 k0_t4 arg26 k0_hw3 k0_h10 => k0_hw3.2.2.1.2.2.2.2.2.2.2.2.2.2.2.2.2.2.2.1 k0_h10 (k0_off387_inb arg22 arg23 v96 k0_t4 arg26 k0_hw3 k0_h10)
theorem k0_off388_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off388 arg26 (BitVec.ofNat 32 (128 * r.val))) a + S128x128.size a ≤ S1280x1408.size a := fun arg22 arg23 v96 k0_t4 arg26 k0_hw3 k0_h10 r => k0_hw3.2.2.1.2.2.2.2.2.2.2.2.2.2.2.2.2.2.2.2.1 k0_h10 r
theorem k0_off388_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off388 arg26 (BitVec.ofNat 32 (128 * r.val))) S128x128.size (k0_off388_inb arg22 arg23 v96 k0_t4 arg26 k0_hw3 k0_h10 r)).PackedRows (EltTy.packing .bf16) := fun arg22 arg23 v96 k0_t4 arg26 k0_hw3 k0_h10 r => k0_hw3.2.2.1.2.2.2.2.2.2.2.2.2.2.2.2.2.2.2.2.2.1 k0_h10 r (k0_off388_inb arg22 arg23 v96 k0_t4 arg26 k0_hw3 k0_h10 r)
theorem k0_off389_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off389 arg26) a + S1x128x128.size a ≤ S4x256x1408.size a := fun arg22 arg23 v96 k0_t4 arg26 k0_hw3 k0_h10 => k0_hw3.2.2.1.2.2.2.2.2.2.2.2.2.2.2.2.2.2.2.2.2.2.1 k0_h10
theorem k0_off390_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off390 arg26 (BitVec.ofNat 32 r.val)) a + S1x1.size a ≤ S384x11.size a := fun arg22 arg23 v96 k0_t4 arg26 k0_hw3 k0_h10 r => k0_hw3.2.2.1.2.2.2.2.2.2.2.2.2.2.2.2.2.2.2.2.2.2.2.1 k0_h10 r
theorem k0_off391_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off391 arg26) a + S1x128x128.size a ≤ S2x256x1408.size a := fun arg22 arg23 v96 k0_t4 arg26 k0_hw3 k0_h10 => k0_hw3.2.2.1.2.2.2.2.2.2.2.2.2.2.2.2.2.2.2.2.2.2.2.2.1 k0_h10
theorem k0_off391_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off391 arg26) S1x128x128.size (k0_off391_inb arg22 arg23 v96 k0_t4 arg26 k0_hw3 k0_h10)).PackedRows (EltTy.packing .fp8e5m2) := fun arg22 arg23 v96 k0_t4 arg26 k0_hw3 k0_h10 => k0_hw3.2.2.1.2.2.2.2.2.2.2.2.2.2.2.2.2.2.2.2.2.2.2.2.2.1 k0_h10 (k0_off391_inb arg22 arg23 v96 k0_t4 arg26 k0_hw3 k0_h10)
theorem k0_off392_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off392 arg26 (BitVec.ofNat 32 (128 * r.val))) a + S128x128.size a ≤ S1280x1408.size a := fun arg22 arg23 v96 k0_t4 arg26 k0_hw3 k0_h10 r => k0_hw3.2.2.1.2.2.2.2.2.2.2.2.2.2.2.2.2.2.2.2.2.2.2.2.2.2.1 k0_h10 r
theorem k0_off392_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off392 arg26 (BitVec.ofNat 32 (128 * r.val))) S128x128.size (k0_off392_inb arg22 arg23 v96 k0_t4 arg26 k0_hw3 k0_h10 r)).PackedRows (EltTy.packing .bf16) := fun arg22 arg23 v96 k0_t4 arg26 k0_hw3 k0_h10 r => k0_hw3.2.2.1.2.2.2.2.2.2.2.2.2.2.2.2.2.2.2.2.2.2.2.2.2.2.2.1 k0_h10 r (k0_off392_inb arg22 arg23 v96 k0_t4 arg26 k0_hw3 k0_h10 r)
theorem k0_mult71_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult71 arg26).toNat := fun arg22 arg23 v96 k0_t4 arg26 k0_hw3 k0_h10 => k0_hw3.2.2.1.2.2.2.2.2.2.2.2.2.2.2.2.2.2.2.2.2.2.2.2.2.2.2.2.1 k0_h10
theorem k0_off393_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off393 arg26) a + S1x128x256.size a ≤ S4x256x2048.size a := fun arg22 arg23 v96 k0_t4 arg26 k0_hw3 k0_h10 => k0_hw3.2.2.1.2.2.2.2.2.2.2.2.2.2.2.2.2.2.2.2.2.2.2.2.2.2.2.2.2.1 k0_h10
theorem k0_off394_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off394 arg26) a + S1x128x256.size a ≤ S2x256x2048.size a := fun arg22 arg23 v96 k0_t4 arg26 k0_hw3 k0_h10 => k0_hw3.2.2.1.2.2.2.2.2.2.2.2.2.2.2.2.2.2.2.2.2.2.2.2.2.2.2.2.2.2.1 k0_h10
theorem k0_off394_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off394 arg26) S1x128x256.size (k0_off394_inb arg22 arg23 v96 k0_t4 arg26 k0_hw3 k0_h10)).PackedRows (EltTy.packing .fp8e4m3) := fun arg22 arg23 v96 k0_t4 arg26 k0_hw3 k0_h10 => k0_hw3.2.2.1.2.2.2.2.2.2.2.2.2.2.2.2.2.2.2.2.2.2.2.2.2.2.2.2.2.2.2.1 k0_h10 (k0_off394_inb arg22 arg23 v96 k0_t4 arg26 k0_hw3 k0_h10)
theorem k0_off395_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off395 arg26) a + S1x128x128.size a ≤ S4x256x1408.size a := fun arg22 arg23 v96 k0_t4 arg26 k0_hw3 k0_h10 => k0_hw3.2.2.1.2.2.2.2.2.2.2.2.2.2.2.2.2.2.2.2.2.2.2.2.2.2.2.2.2.2.2.2.1 k0_h10
theorem k0_off396_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off396 arg26) a + S1x128x128.size a ≤ S2x256x1408.size a := fun arg22 arg23 v96 k0_t4 arg26 k0_hw3 k0_h10 => k0_hw3.2.2.1.2.2.2.2.2.2.2.2.2.2.2.2.2.2.2.2.2.2.2.2.2.2.2.2.2.2.2.2.2.1 k0_h10
theorem k0_off396_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off396 arg26) S1x128x128.size (k0_off396_inb arg22 arg23 v96 k0_t4 arg26 k0_hw3 k0_h10)).PackedRows (EltTy.packing .fp8e5m2) := fun arg22 arg23 v96 k0_t4 arg26 k0_hw3 k0_h10 => k0_hw3.2.2.1.2.2.2.2.2.2.2.2.2.2.2.2.2.2.2.2.2.2.2.2.2.2.2.2.2.2.2.2.2.2.1 k0_h10 (k0_off396_inb arg22 arg23 v96 k0_t4 arg26 k0_hw3 k0_h10)
theorem k0_off397_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off397 arg26) a + S1x128x128.size a ≤ S4x256x1408.size a := fun arg22 arg23 v96 k0_t4 arg26 k0_hw3 k0_h10 => k0_hw3.2.2.1.2.2.2.2.2.2.2.2.2.2.2.2.2.2.2.2.2.2.2.2.2.2.2.2.2.2.2.2.2.2.2 k0_h10
theorem k0_off398_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off398 arg26) a + S1x128x128.size a ≤ S2x256x1408.size a := fun arg22 arg23 v96 k0_t4 arg26 k0_hw3 k0_h10 => k0_hw3.2.2.2.1.1 k0_h10
theorem k0_off398_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off398 arg26) S1x128x128.size (k0_off398_inb arg22 arg23 v96 k0_t4 arg26 k0_hw3 k0_h10)).PackedRows (EltTy.packing .fp8e5m2) := fun arg22 arg23 v96 k0_t4 arg26 k0_hw3 k0_h10 => k0_hw3.2.2.2.1.2.1 k0_h10 (k0_off398_inb arg22 arg23 v96 k0_t4 arg26 k0_hw3 k0_h10)
theorem k0_off399_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off399 arg22 v96 k0_t4) a + S256x256.size a ≤ S1280x2048.size a := fun arg22 arg23 v96 k0_t4 arg26 k0_hw3 k0_h10 => k0_hw3.2.2.2.1.2.2.1 k0_h10
theorem k0_off400_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off400 arg23) a + S1x256x1408.size a ≤ S3x2048x1408.size a := fun arg22 arg23 v96 k0_t4 arg26 k0_hw3 k0_h10 => k0_hw3.2.2.2.1.2.2.2.1 k0_h10
theorem k0_mult72_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult72 arg26).toNat := fun arg22 arg23 v96 k0_t4 arg26 k0_hw3 k0_h10 => k0_hw3.2.2.2.1.2.2.2.2.1 k0_h10
theorem k0_mult73_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult73 arg26).toNat := fun arg22 arg23 v96 k0_t4 arg26 k0_hw3 k0_h10 => k0_hw3.2.2.2.1.2.2.2.2.2.1 k0_h10
theorem k0_off401_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off401 arg26) a + S1x128x256.size a ≤ S4x256x2048.size a := fun arg22 arg23 v96 k0_t4 arg26 k0_hw3 k0_h10 => k0_hw3.2.2.2.1.2.2.2.2.2.2.1 k0_h10
theorem k0_off402_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off402 arg26 (BitVec.ofNat 32 r.val)) a + S1x256.size a ≤ S384x2048.size a := fun arg22 arg23 v96 k0_t4 arg26 k0_hw3 k0_h10 r => k0_hw3.2.2.2.1.2.2.2.2.2.2.2.1 k0_h10 r
theorem k0_off403_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off403 arg26) a + S1x128x256.size a ≤ S2x256x2048.size a := fun arg22 arg23 v96 k0_t4 arg26 k0_hw3 k0_h10 => k0_hw3.2.2.2.1.2.2.2.2.2.2.2.2.1 k0_h10
theorem k0_off403_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off403 arg26) S1x128x256.size (k0_off403_inb arg22 arg23 v96 k0_t4 arg26 k0_hw3 k0_h10)).PackedRows (EltTy.packing .fp8e4m3) := fun arg22 arg23 v96 k0_t4 arg26 k0_hw3 k0_h10 => k0_hw3.2.2.2.1.2.2.2.2.2.2.2.2.2.1 k0_h10 (k0_off403_inb arg22 arg23 v96 k0_t4 arg26 k0_hw3 k0_h10)
theorem k0_off404_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off404 arg26 (BitVec.ofNat 32 (128 * r.val))) a + S128x256.size a ≤ S1280x2048.size a := fun arg22 arg23 v96 k0_t4 arg26 k0_hw3 k0_h10 r => k0_hw3.2.2.2.1.2.2.2.2.2.2.2.2.2.2.1 k0_h10 r
theorem k0_off404_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off404 arg26 (BitVec.ofNat 32 (128 * r.val))) S128x256.size (k0_off404_inb arg22 arg23 v96 k0_t4 arg26 k0_hw3 k0_h10 r)).PackedRows (EltTy.packing .bf16) := fun arg22 arg23 v96 k0_t4 arg26 k0_hw3 k0_h10 r => k0_hw3.2.2.2.1.2.2.2.2.2.2.2.2.2.2.2.1 k0_h10 r (k0_off404_inb arg22 arg23 v96 k0_t4 arg26 k0_hw3 k0_h10 r)
theorem k0_off405_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off405 arg26) a + S1x128x128.size a ≤ S4x256x1408.size a := fun arg22 arg23 v96 k0_t4 arg26 k0_hw3 k0_h10 => k0_hw3.2.2.2.1.2.2.2.2.2.2.2.2.2.2.2.2.1 k0_h10
theorem k0_off406_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off406 arg26 (BitVec.ofNat 32 r.val)) a + S1x1.size a ≤ S384x11.size a := fun arg22 arg23 v96 k0_t4 arg26 k0_hw3 k0_h10 r => k0_hw3.2.2.2.1.2.2.2.2.2.2.2.2.2.2.2.2.2.1 k0_h10 r
theorem k0_off407_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off407 arg26) a + S1x128x128.size a ≤ S2x256x1408.size a := fun arg22 arg23 v96 k0_t4 arg26 k0_hw3 k0_h10 => k0_hw3.2.2.2.1.2.2.2.2.2.2.2.2.2.2.2.2.2.2.1 k0_h10
theorem k0_off407_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off407 arg26) S1x128x128.size (k0_off407_inb arg22 arg23 v96 k0_t4 arg26 k0_hw3 k0_h10)).PackedRows (EltTy.packing .fp8e5m2) := fun arg22 arg23 v96 k0_t4 arg26 k0_hw3 k0_h10 => k0_hw3.2.2.2.1.2.2.2.2.2.2.2.2.2.2.2.2.2.2.2.1 k0_h10 (k0_off407_inb arg22 arg23 v96 k0_t4 arg26 k0_hw3 k0_h10)
theorem k0_off408_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off408 arg26 (BitVec.ofNat 32 (128 * r.val))) a + S128x128.size a ≤ S1280x1408.size a := fun arg22 arg23 v96 k0_t4 arg26 k0_hw3 k0_h10 r => k0_hw3.2.2.2.1.2.2.2.2.2.2.2.2.2.2.2.2.2.2.2.2.1 k0_h10 r
theorem k0_off408_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off408 arg26 (BitVec.ofNat 32 (128 * r.val))) S128x128.size (k0_off408_inb arg22 arg23 v96 k0_t4 arg26 k0_hw3 k0_h10 r)).PackedRows (EltTy.packing .bf16) := fun arg22 arg23 v96 k0_t4 arg26 k0_hw3 k0_h10 r => k0_hw3.2.2.2.1.2.2.2.2.2.2.2.2.2.2.2.2.2.2.2.2.2.1 k0_h10 r (k0_off408_inb arg22 arg23 v96 k0_t4 arg26 k0_hw3 k0_h10 r)
theorem k0_off409_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off409 arg26) a + S1x128x128.size a ≤ S4x256x1408.size a := fun arg22 arg23 v96 k0_t4 arg26 k0_hw3 k0_h10 => k0_hw3.2.2.2.1.2.2.2.2.2.2.2.2.2.2.2.2.2.2.2.2.2.2.1 k0_h10
theorem k0_off410_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off410 arg26 (BitVec.ofNat 32 r.val)) a + S1x1.size a ≤ S384x11.size a := fun arg22 arg23 v96 k0_t4 arg26 k0_hw3 k0_h10 r => k0_hw3.2.2.2.1.2.2.2.2.2.2.2.2.2.2.2.2.2.2.2.2.2.2.2.1 k0_h10 r
theorem k0_off411_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off411 arg26) a + S1x128x128.size a ≤ S2x256x1408.size a := fun arg22 arg23 v96 k0_t4 arg26 k0_hw3 k0_h10 => k0_hw3.2.2.2.1.2.2.2.2.2.2.2.2.2.2.2.2.2.2.2.2.2.2.2.2.1 k0_h10
theorem k0_off411_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off411 arg26) S1x128x128.size (k0_off411_inb arg22 arg23 v96 k0_t4 arg26 k0_hw3 k0_h10)).PackedRows (EltTy.packing .fp8e5m2) := fun arg22 arg23 v96 k0_t4 arg26 k0_hw3 k0_h10 => k0_hw3.2.2.2.1.2.2.2.2.2.2.2.2.2.2.2.2.2.2.2.2.2.2.2.2.2.1 k0_h10 (k0_off411_inb arg22 arg23 v96 k0_t4 arg26 k0_hw3 k0_h10)
theorem k0_off412_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off412 arg26 (BitVec.ofNat 32 (128 * r.val))) a + S128x128.size a ≤ S1280x1408.size a := fun arg22 arg23 v96 k0_t4 arg26 k0_hw3 k0_h10 r => k0_hw3.2.2.2.1.2.2.2.2.2.2.2.2.2.2.2.2.2.2.2.2.2.2.2.2.2.2.1 k0_h10 r
theorem k0_off412_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off412 arg26 (BitVec.ofNat 32 (128 * r.val))) S128x128.size (k0_off412_inb arg22 arg23 v96 k0_t4 arg26 k0_hw3 k0_h10 r)).PackedRows (EltTy.packing .bf16) := fun arg22 arg23 v96 k0_t4 arg26 k0_hw3 k0_h10 r => k0_hw3.2.2.2.1.2.2.2.2.2.2.2.2.2.2.2.2.2.2.2.2.2.2.2.2.2.2.2.1 k0_h10 r (k0_off412_inb arg22 arg23 v96 k0_t4 arg26 k0_hw3 k0_h10 r)
theorem k0_mult74_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult74 arg26).toNat := fun arg22 arg23 v96 k0_t4 arg26 k0_hw3 k0_h10 => k0_hw3.2.2.2.1.2.2.2.2.2.2.2.2.2.2.2.2.2.2.2.2.2.2.2.2.2.2.2.2.1 k0_h10
theorem k0_off413_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off413 arg26) a + S1x128x256.size a ≤ S4x256x2048.size a := fun arg22 arg23 v96 k0_t4 arg26 k0_hw3 k0_h10 => k0_hw3.2.2.2.1.2.2.2.2.2.2.2.2.2.2.2.2.2.2.2.2.2.2.2.2.2.2.2.2.2.1 k0_h10
theorem k0_off414_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off414 arg26) a + S1x128x256.size a ≤ S2x256x2048.size a := fun arg22 arg23 v96 k0_t4 arg26 k0_hw3 k0_h10 => k0_hw3.2.2.2.1.2.2.2.2.2.2.2.2.2.2.2.2.2.2.2.2.2.2.2.2.2.2.2.2.2.2.1 k0_h10
theorem k0_off414_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off414 arg26) S1x128x256.size (k0_off414_inb arg22 arg23 v96 k0_t4 arg26 k0_hw3 k0_h10)).PackedRows (EltTy.packing .fp8e4m3) := fun arg22 arg23 v96 k0_t4 arg26 k0_hw3 k0_h10 => k0_hw3.2.2.2.1.2.2.2.2.2.2.2.2.2.2.2.2.2.2.2.2.2.2.2.2.2.2.2.2.2.2.2.1 k0_h10 (k0_off414_inb arg22 arg23 v96 k0_t4 arg26 k0_hw3 k0_h10)
theorem k0_off415_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off415 arg26) a + S1x128x128.size a ≤ S4x256x1408.size a := fun arg22 arg23 v96 k0_t4 arg26 k0_hw3 k0_h10 => k0_hw3.2.2.2.1.2.2.2.2.2.2.2.2.2.2.2.2.2.2.2.2.2.2.2.2.2.2.2.2.2.2.2.2.1 k0_h10
theorem k0_off416_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off416 arg26) a + S1x128x128.size a ≤ S2x256x1408.size a := fun arg22 arg23 v96 k0_t4 arg26 k0_hw3 k0_h10 => k0_hw3.2.2.2.1.2.2.2.2.2.2.2.2.2.2.2.2.2.2.2.2.2.2.2.2.2.2.2.2.2.2.2.2.2.1 k0_h10
theorem k0_off416_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off416 arg26) S1x128x128.size (k0_off416_inb arg22 arg23 v96 k0_t4 arg26 k0_hw3 k0_h10)).PackedRows (EltTy.packing .fp8e5m2) := fun arg22 arg23 v96 k0_t4 arg26 k0_hw3 k0_h10 => k0_hw3.2.2.2.1.2.2.2.2.2.2.2.2.2.2.2.2.2.2.2.2.2.2.2.2.2.2.2.2.2.2.2.2.2.2.1 k0_h10 (k0_off416_inb arg22 arg23 v96 k0_t4 arg26 k0_hw3 k0_h10)
theorem k0_off417_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off417 arg26) a + S1x128x128.size a ≤ S4x256x1408.size a := fun arg22 arg23 v96 k0_t4 arg26 k0_hw3 k0_h10 => k0_hw3.2.2.2.1.2.2.2.2.2.2.2.2.2.2.2.2.2.2.2.2.2.2.2.2.2.2.2.2.2.2.2.2.2.2.2 k0_h10
theorem k0_off418_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off418 arg26) a + S1x128x128.size a ≤ S2x256x1408.size a := fun arg22 arg23 v96 k0_t4 arg26 k0_hw3 k0_h10 => k0_hw3.2.2.2.2.1.1 k0_h10
theorem k0_off418_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off418 arg26) S1x128x128.size (k0_off418_inb arg22 arg23 v96 k0_t4 arg26 k0_hw3 k0_h10)).PackedRows (EltTy.packing .fp8e5m2) := fun arg22 arg23 v96 k0_t4 arg26 k0_hw3 k0_h10 => k0_hw3.2.2.2.2.1.2.1 k0_h10 (k0_off418_inb arg22 arg23 v96 k0_t4 arg26 k0_hw3 k0_h10)
theorem k0_off419_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off419 arg22 v96 k0_t4) a + S256x256.size a ≤ S1280x2048.size a := fun arg22 arg23 v96 k0_t4 arg26 k0_hw3 k0_h10 => k0_hw3.2.2.2.2.1.2.2.1 k0_h10
theorem k0_off420_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off420 arg23) a + S1x256x1408.size a ≤ S3x2048x1408.size a := fun arg22 arg23 v96 k0_t4 arg26 k0_hw3 k0_h10 => k0_hw3.2.2.2.2.1.2.2.2.1 k0_h10
theorem k0_mult75_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult75 arg26).toNat := fun arg22 arg23 v96 k0_t4 arg26 k0_hw3 k0_h10 => k0_hw3.2.2.2.2.1.2.2.2.2.1 k0_h10
theorem k0_mult76_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult76 arg26).toNat := fun arg22 arg23 v96 k0_t4 arg26 k0_hw3 k0_h10 => k0_hw3.2.2.2.2.1.2.2.2.2.2.1 k0_h10
theorem k0_off421_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off421 arg26) a + S1x128x256.size a ≤ S4x256x2048.size a := fun arg22 arg23 v96 k0_t4 arg26 k0_hw3 k0_h10 => k0_hw3.2.2.2.2.1.2.2.2.2.2.2.1 k0_h10
theorem k0_off422_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off422 arg26 (BitVec.ofNat 32 r.val)) a + S1x256.size a ≤ S384x2048.size a := fun arg22 arg23 v96 k0_t4 arg26 k0_hw3 k0_h10 r => k0_hw3.2.2.2.2.1.2.2.2.2.2.2.2.1 k0_h10 r
theorem k0_off423_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off423 arg26) a + S1x128x256.size a ≤ S2x256x2048.size a := fun arg22 arg23 v96 k0_t4 arg26 k0_hw3 k0_h10 => k0_hw3.2.2.2.2.1.2.2.2.2.2.2.2.2.1 k0_h10
theorem k0_off423_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off423 arg26) S1x128x256.size (k0_off423_inb arg22 arg23 v96 k0_t4 arg26 k0_hw3 k0_h10)).PackedRows (EltTy.packing .fp8e4m3) := fun arg22 arg23 v96 k0_t4 arg26 k0_hw3 k0_h10 => k0_hw3.2.2.2.2.1.2.2.2.2.2.2.2.2.2.1 k0_h10 (k0_off423_inb arg22 arg23 v96 k0_t4 arg26 k0_hw3 k0_h10)
theorem k0_off424_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off424 arg26 (BitVec.ofNat 32 (128 * r.val))) a + S128x256.size a ≤ S1280x2048.size a := fun arg22 arg23 v96 k0_t4 arg26 k0_hw3 k0_h10 r => k0_hw3.2.2.2.2.1.2.2.2.2.2.2.2.2.2.2.1 k0_h10 r
theorem k0_off424_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off424 arg26 (BitVec.ofNat 32 (128 * r.val))) S128x256.size (k0_off424_inb arg22 arg23 v96 k0_t4 arg26 k0_hw3 k0_h10 r)).PackedRows (EltTy.packing .bf16) := fun arg22 arg23 v96 k0_t4 arg26 k0_hw3 k0_h10 r => k0_hw3.2.2.2.2.1.2.2.2.2.2.2.2.2.2.2.2.1 k0_h10 r (k0_off424_inb arg22 arg23 v96 k0_t4 arg26 k0_hw3 k0_h10 r)
theorem k0_off425_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off425 arg26) a + S1x128x128.size a ≤ S4x256x1408.size a := fun arg22 arg23 v96 k0_t4 arg26 k0_hw3 k0_h10 => k0_hw3.2.2.2.2.1.2.2.2.2.2.2.2.2.2.2.2.2.1 k0_h10
theorem k0_off426_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off426 arg26 (BitVec.ofNat 32 r.val)) a + S1x1.size a ≤ S384x11.size a := fun arg22 arg23 v96 k0_t4 arg26 k0_hw3 k0_h10 r => k0_hw3.2.2.2.2.1.2.2.2.2.2.2.2.2.2.2.2.2.2.1 k0_h10 r
theorem k0_off427_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off427 arg26) a + S1x128x128.size a ≤ S2x256x1408.size a := fun arg22 arg23 v96 k0_t4 arg26 k0_hw3 k0_h10 => k0_hw3.2.2.2.2.1.2.2.2.2.2.2.2.2.2.2.2.2.2.2.1 k0_h10
theorem k0_off427_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off427 arg26) S1x128x128.size (k0_off427_inb arg22 arg23 v96 k0_t4 arg26 k0_hw3 k0_h10)).PackedRows (EltTy.packing .fp8e5m2) := fun arg22 arg23 v96 k0_t4 arg26 k0_hw3 k0_h10 => k0_hw3.2.2.2.2.1.2.2.2.2.2.2.2.2.2.2.2.2.2.2.2.1 k0_h10 (k0_off427_inb arg22 arg23 v96 k0_t4 arg26 k0_hw3 k0_h10)
theorem k0_off428_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off428 arg26 (BitVec.ofNat 32 (128 * r.val))) a + S128x128.size a ≤ S1280x1408.size a := fun arg22 arg23 v96 k0_t4 arg26 k0_hw3 k0_h10 r => k0_hw3.2.2.2.2.1.2.2.2.2.2.2.2.2.2.2.2.2.2.2.2.2.1 k0_h10 r
theorem k0_off428_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off428 arg26 (BitVec.ofNat 32 (128 * r.val))) S128x128.size (k0_off428_inb arg22 arg23 v96 k0_t4 arg26 k0_hw3 k0_h10 r)).PackedRows (EltTy.packing .bf16) := fun arg22 arg23 v96 k0_t4 arg26 k0_hw3 k0_h10 r => k0_hw3.2.2.2.2.1.2.2.2.2.2.2.2.2.2.2.2.2.2.2.2.2.2.1 k0_h10 r (k0_off428_inb arg22 arg23 v96 k0_t4 arg26 k0_hw3 k0_h10 r)
theorem k0_mult77_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult77 arg26).toNat := fun arg22 arg23 v96 k0_t4 arg26 k0_hw3 k0_h10 => k0_hw3.2.2.2.2.1.2.2.2.2.2.2.2.2.2.2.2.2.2.2.2.2.2.2.1 k0_h10
theorem k0_off429_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off429 arg26) a + S1x128x256.size a ≤ S4x256x2048.size a := fun arg22 arg23 v96 k0_t4 arg26 k0_hw3 k0_h10 => k0_hw3.2.2.2.2.1.2.2.2.2.2.2.2.2.2.2.2.2.2.2.2.2.2.2.2.1 k0_h10
theorem k0_off430_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off430 arg26) a + S1x128x256.size a ≤ S2x256x2048.size a := fun arg22 arg23 v96 k0_t4 arg26 k0_hw3 k0_h10 => k0_hw3.2.2.2.2.1.2.2.2.2.2.2.2.2.2.2.2.2.2.2.2.2.2.2.2.2.1 k0_h10
theorem k0_off430_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off430 arg26) S1x128x256.size (k0_off430_inb arg22 arg23 v96 k0_t4 arg26 k0_hw3 k0_h10)).PackedRows (EltTy.packing .fp8e4m3) := fun arg22 arg23 v96 k0_t4 arg26 k0_hw3 k0_h10 => k0_hw3.2.2.2.2.1.2.2.2.2.2.2.2.2.2.2.2.2.2.2.2.2.2.2.2.2.2.1 k0_h10 (k0_off430_inb arg22 arg23 v96 k0_t4 arg26 k0_hw3 k0_h10)
theorem k0_off431_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off431 arg26) a + S1x128x128.size a ≤ S4x256x1408.size a := fun arg22 arg23 v96 k0_t4 arg26 k0_hw3 k0_h10 => k0_hw3.2.2.2.2.1.2.2.2.2.2.2.2.2.2.2.2.2.2.2.2.2.2.2.2.2.2.2.1 k0_h10
theorem k0_off432_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off432 arg26) a + S1x128x128.size a ≤ S2x256x1408.size a := fun arg22 arg23 v96 k0_t4 arg26 k0_hw3 k0_h10 => k0_hw3.2.2.2.2.1.2.2.2.2.2.2.2.2.2.2.2.2.2.2.2.2.2.2.2.2.2.2.2.1 k0_h10
theorem k0_off432_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off432 arg26) S1x128x128.size (k0_off432_inb arg22 arg23 v96 k0_t4 arg26 k0_hw3 k0_h10)).PackedRows (EltTy.packing .fp8e5m2) := fun arg22 arg23 v96 k0_t4 arg26 k0_hw3 k0_h10 => k0_hw3.2.2.2.2.1.2.2.2.2.2.2.2.2.2.2.2.2.2.2.2.2.2.2.2.2.2.2.2.2.1 k0_h10 (k0_off432_inb arg22 arg23 v96 k0_t4 arg26 k0_hw3 k0_h10)
theorem k0_off433_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off433 arg22 v96 k0_t4) a + S256x256.size a ≤ S1280x2048.size a := fun arg22 arg23 v96 k0_t4 arg26 k0_hw3 k0_h10 => k0_hw3.2.2.2.2.1.2.2.2.2.2.2.2.2.2.2.2.2.2.2.2.2.2.2.2.2.2.2.2.2.2.1 k0_h10
theorem k0_off434_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off434 arg23) a + S1x256x1408.size a ≤ S3x2048x1408.size a := fun arg22 arg23 v96 k0_t4 arg26 k0_hw3 k0_h10 => k0_hw3.2.2.2.2.1.2.2.2.2.2.2.2.2.2.2.2.2.2.2.2.2.2.2.2.2.2.2.2.2.2.2.1 k0_h10
theorem k0_mult78_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult78 arg26).toNat := fun arg22 arg23 v96 k0_t4 arg26 k0_hw3 k0_h10 => k0_hw3.2.2.2.2.1.2.2.2.2.2.2.2.2.2.2.2.2.2.2.2.2.2.2.2.2.2.2.2.2.2.2.2.1 k0_h10
theorem k0_mult79_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult79 arg26).toNat := fun arg22 arg23 v96 k0_t4 arg26 k0_hw3 k0_h10 => k0_hw3.2.2.2.2.1.2.2.2.2.2.2.2.2.2.2.2.2.2.2.2.2.2.2.2.2.2.2.2.2.2.2.2.2.1 k0_h10
theorem k0_off435_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off435 arg26) a + S1x128x256.size a ≤ S4x256x2048.size a := fun arg22 arg23 v96 k0_t4 arg26 k0_hw3 k0_h10 => k0_hw3.2.2.2.2.1.2.2.2.2.2.2.2.2.2.2.2.2.2.2.2.2.2.2.2.2.2.2.2.2.2.2.2.2.2.1 k0_h10
theorem k0_off436_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off436 arg26 (BitVec.ofNat 32 r.val)) a + S1x256.size a ≤ S384x2048.size a := fun arg22 arg23 v96 k0_t4 arg26 k0_hw3 k0_h10 r => k0_hw3.2.2.2.2.1.2.2.2.2.2.2.2.2.2.2.2.2.2.2.2.2.2.2.2.2.2.2.2.2.2.2.2.2.2.2.1 k0_h10 r
theorem k0_off437_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off437 arg26) a + S1x128x256.size a ≤ S2x256x2048.size a := fun arg22 arg23 v96 k0_t4 arg26 k0_hw3 k0_h10 => k0_hw3.2.2.2.2.1.2.2.2.2.2.2.2.2.2.2.2.2.2.2.2.2.2.2.2.2.2.2.2.2.2.2.2.2.2.2.2 k0_h10
theorem k0_off437_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off437 arg26) S1x128x256.size (k0_off437_inb arg22 arg23 v96 k0_t4 arg26 k0_hw3 k0_h10)).PackedRows (EltTy.packing .fp8e4m3) := fun arg22 arg23 v96 k0_t4 arg26 k0_hw3 k0_h10 => k0_hw3.2.2.2.2.2.1.1 k0_h10 (k0_off437_inb arg22 arg23 v96 k0_t4 arg26 k0_hw3 k0_h10)
theorem k0_off438_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off438 arg26 (BitVec.ofNat 32 (128 * r.val))) a + S128x256.size a ≤ S1280x2048.size a := fun arg22 arg23 v96 k0_t4 arg26 k0_hw3 k0_h10 r => k0_hw3.2.2.2.2.2.1.2.1 k0_h10 r
theorem k0_off438_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off438 arg26 (BitVec.ofNat 32 (128 * r.val))) S128x256.size (k0_off438_inb arg22 arg23 v96 k0_t4 arg26 k0_hw3 k0_h10 r)).PackedRows (EltTy.packing .bf16) := fun arg22 arg23 v96 k0_t4 arg26 k0_hw3 k0_h10 r => k0_hw3.2.2.2.2.2.1.2.2.1 k0_h10 r (k0_off438_inb arg22 arg23 v96 k0_t4 arg26 k0_hw3 k0_h10 r)
theorem k0_off439_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off439 arg26) a + S1x128x128.size a ≤ S4x256x1408.size a := fun arg22 arg23 v96 k0_t4 arg26 k0_hw3 k0_h10 => k0_hw3.2.2.2.2.2.1.2.2.2.1 k0_h10
theorem k0_off440_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off440 arg26 (BitVec.ofNat 32 r.val)) a + S1x1.size a ≤ S384x11.size a := fun arg22 arg23 v96 k0_t4 arg26 k0_hw3 k0_h10 r => k0_hw3.2.2.2.2.2.1.2.2.2.2.1 k0_h10 r
theorem k0_off441_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off441 arg26) a + S1x128x128.size a ≤ S2x256x1408.size a := fun arg22 arg23 v96 k0_t4 arg26 k0_hw3 k0_h10 => k0_hw3.2.2.2.2.2.1.2.2.2.2.2.1 k0_h10
theorem k0_off441_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off441 arg26) S1x128x128.size (k0_off441_inb arg22 arg23 v96 k0_t4 arg26 k0_hw3 k0_h10)).PackedRows (EltTy.packing .fp8e5m2) := fun arg22 arg23 v96 k0_t4 arg26 k0_hw3 k0_h10 => k0_hw3.2.2.2.2.2.1.2.2.2.2.2.2.1 k0_h10 (k0_off441_inb arg22 arg23 v96 k0_t4 arg26 k0_hw3 k0_h10)
theorem k0_off442_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off442 arg26 (BitVec.ofNat 32 (128 * r.val))) a + S128x128.size a ≤ S1280x1408.size a := fun arg22 arg23 v96 k0_t4 arg26 k0_hw3 k0_h10 r => k0_hw3.2.2.2.2.2.1.2.2.2.2.2.2.2.1 k0_h10 r
theorem k0_off442_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off442 arg26 (BitVec.ofNat 32 (128 * r.val))) S128x128.size (k0_off442_inb arg22 arg23 v96 k0_t4 arg26 k0_hw3 k0_h10 r)).PackedRows (EltTy.packing .bf16) := fun arg22 arg23 v96 k0_t4 arg26 k0_hw3 k0_h10 r => k0_hw3.2.2.2.2.2.1.2.2.2.2.2.2.2.2.1 k0_h10 r (k0_off442_inb arg22 arg23 v96 k0_t4 arg26 k0_hw3 k0_h10 r)
theorem k0_mult80_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult80 arg26).toNat := fun arg22 arg23 v96 k0_t4 arg26 k0_hw3 k0_h10 => k0_hw3.2.2.2.2.2.1.2.2.2.2.2.2.2.2.2.1 k0_h10
theorem k0_off443_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off443 arg26) a + S1x128x256.size a ≤ S4x256x2048.size a := fun arg22 arg23 v96 k0_t4 arg26 k0_hw3 k0_h10 => k0_hw3.2.2.2.2.2.1.2.2.2.2.2.2.2.2.2.2.1 k0_h10
theorem k0_off444_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off444 arg26) a + S1x128x256.size a ≤ S2x256x2048.size a := fun arg22 arg23 v96 k0_t4 arg26 k0_hw3 k0_h10 => k0_hw3.2.2.2.2.2.1.2.2.2.2.2.2.2.2.2.2.2.1 k0_h10
theorem k0_off444_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off444 arg26) S1x128x256.size (k0_off444_inb arg22 arg23 v96 k0_t4 arg26 k0_hw3 k0_h10)).PackedRows (EltTy.packing .fp8e4m3) := fun arg22 arg23 v96 k0_t4 arg26 k0_hw3 k0_h10 => k0_hw3.2.2.2.2.2.1.2.2.2.2.2.2.2.2.2.2.2.2.1 k0_h10 (k0_off444_inb arg22 arg23 v96 k0_t4 arg26 k0_hw3 k0_h10)
theorem k0_off445_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off445 arg26) a + S1x128x128.size a ≤ S4x256x1408.size a := fun arg22 arg23 v96 k0_t4 arg26 k0_hw3 k0_h10 => k0_hw3.2.2.2.2.2.1.2.2.2.2.2.2.2.2.2.2.2.2.2.1 k0_h10
theorem k0_off446_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off446 arg26) a + S1x128x128.size a ≤ S2x256x1408.size a := fun arg22 arg23 v96 k0_t4 arg26 k0_hw3 k0_h10 => k0_hw3.2.2.2.2.2.1.2.2.2.2.2.2.2.2.2.2.2.2.2.2.1 k0_h10
theorem k0_off446_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off446 arg26) S1x128x128.size (k0_off446_inb arg22 arg23 v96 k0_t4 arg26 k0_hw3 k0_h10)).PackedRows (EltTy.packing .fp8e5m2) := fun arg22 arg23 v96 k0_t4 arg26 k0_hw3 k0_h10 => k0_hw3.2.2.2.2.2.1.2.2.2.2.2.2.2.2.2.2.2.2.2.2.2.1 k0_h10 (k0_off446_inb arg22 arg23 v96 k0_t4 arg26 k0_hw3 k0_h10)
theorem k0_off447_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off447 arg22 v96 k0_t4) a + S256x256.size a ≤ S1280x2048.size a := fun arg22 arg23 v96 k0_t4 arg26 k0_hw3 k0_h10 => k0_hw3.2.2.2.2.2.1.2.2.2.2.2.2.2.2.2.2.2.2.2.2.2.2.1 k0_h10
theorem k0_off448_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off448 arg23) a + S1x256x1408.size a ≤ S3x2048x1408.size a := fun arg22 arg23 v96 k0_t4 arg26 k0_hw3 k0_h10 => k0_hw3.2.2.2.2.2.1.2.2.2.2.2.2.2.2.2.2.2.2.2.2.2.2.2.1 k0_h10
theorem k0_mult81_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult81 arg26).toNat := fun arg22 arg23 v96 k0_t4 arg26 k0_hw3 k0_h10 => k0_hw3.2.2.2.2.2.1.2.2.2.2.2.2.2.2.2.2.2.2.2.2.2.2.2.2.1 k0_h10
theorem k0_mult82_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult82 arg26).toNat := fun arg22 arg23 v96 k0_t4 arg26 k0_hw3 k0_h10 => k0_hw3.2.2.2.2.2.1.2.2.2.2.2.2.2.2.2.2.2.2.2.2.2.2.2.2.2.1 k0_h10
theorem k0_off449_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off449 arg26) a + S1x128x256.size a ≤ S4x256x2048.size a := fun arg22 arg23 v96 k0_t4 arg26 k0_hw3 k0_h10 => k0_hw3.2.2.2.2.2.1.2.2.2.2.2.2.2.2.2.2.2.2.2.2.2.2.2.2.2.2.1 k0_h10
theorem k0_off450_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off450 arg26 (BitVec.ofNat 32 r.val)) a + S1x256.size a ≤ S384x2048.size a := fun arg22 arg23 v96 k0_t4 arg26 k0_hw3 k0_h10 r => k0_hw3.2.2.2.2.2.1.2.2.2.2.2.2.2.2.2.2.2.2.2.2.2.2.2.2.2.2.2.1 k0_h10 r
theorem k0_off451_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off451 arg26) a + S1x128x256.size a ≤ S2x256x2048.size a := fun arg22 arg23 v96 k0_t4 arg26 k0_hw3 k0_h10 => k0_hw3.2.2.2.2.2.1.2.2.2.2.2.2.2.2.2.2.2.2.2.2.2.2.2.2.2.2.2.2.1 k0_h10
theorem k0_off451_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off451 arg26) S1x128x256.size (k0_off451_inb arg22 arg23 v96 k0_t4 arg26 k0_hw3 k0_h10)).PackedRows (EltTy.packing .fp8e4m3) := fun arg22 arg23 v96 k0_t4 arg26 k0_hw3 k0_h10 => k0_hw3.2.2.2.2.2.1.2.2.2.2.2.2.2.2.2.2.2.2.2.2.2.2.2.2.2.2.2.2.2.1 k0_h10 (k0_off451_inb arg22 arg23 v96 k0_t4 arg26 k0_hw3 k0_h10)
theorem k0_off452_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off452 arg26 (BitVec.ofNat 32 (128 * r.val))) a + S128x256.size a ≤ S1280x2048.size a := fun arg22 arg23 v96 k0_t4 arg26 k0_hw3 k0_h10 r => k0_hw3.2.2.2.2.2.1.2.2.2.2.2.2.2.2.2.2.2.2.2.2.2.2.2.2.2.2.2.2.2.2.1 k0_h10 r
theorem k0_off452_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off452 arg26 (BitVec.ofNat 32 (128 * r.val))) S128x256.size (k0_off452_inb arg22 arg23 v96 k0_t4 arg26 k0_hw3 k0_h10 r)).PackedRows (EltTy.packing .bf16) := fun arg22 arg23 v96 k0_t4 arg26 k0_hw3 k0_h10 r => k0_hw3.2.2.2.2.2.1.2.2.2.2.2.2.2.2.2.2.2.2.2.2.2.2.2.2.2.2.2.2.2.2.2.1 k0_h10 r (k0_off452_inb arg22 arg23 v96 k0_t4 arg26 k0_hw3 k0_h10 r)
theorem k0_off453_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off453 arg26) a + S1x128x128.size a ≤ S4x256x1408.size a := fun arg22 arg23 v96 k0_t4 arg26 k0_hw3 k0_h10 => k0_hw3.2.2.2.2.2.1.2.2.2.2.2.2.2.2.2.2.2.2.2.2.2.2.2.2.2.2.2.2.2.2.2.2.1 k0_h10
theorem k0_off454_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off454 arg26 (BitVec.ofNat 32 r.val)) a + S1x1.size a ≤ S384x11.size a := fun arg22 arg23 v96 k0_t4 arg26 k0_hw3 k0_h10 r => k0_hw3.2.2.2.2.2.1.2.2.2.2.2.2.2.2.2.2.2.2.2.2.2.2.2.2.2.2.2.2.2.2.2.2.2.1 k0_h10 r
theorem k0_off455_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off455 arg26) a + S1x128x128.size a ≤ S2x256x1408.size a := fun arg22 arg23 v96 k0_t4 arg26 k0_hw3 k0_h10 => k0_hw3.2.2.2.2.2.1.2.2.2.2.2.2.2.2.2.2.2.2.2.2.2.2.2.2.2.2.2.2.2.2.2.2.2.2.1 k0_h10
theorem k0_off455_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off455 arg26) S1x128x128.size (k0_off455_inb arg22 arg23 v96 k0_t4 arg26 k0_hw3 k0_h10)).PackedRows (EltTy.packing .fp8e5m2) := fun arg22 arg23 v96 k0_t4 arg26 k0_hw3 k0_h10 => k0_hw3.2.2.2.2.2.1.2.2.2.2.2.2.2.2.2.2.2.2.2.2.2.2.2.2.2.2.2.2.2.2.2.2.2.2.2.1 k0_h10 (k0_off455_inb arg22 arg23 v96 k0_t4 arg26 k0_hw3 k0_h10)
theorem k0_off456_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off456 arg26 (BitVec.ofNat 32 (128 * r.val))) a + S128x128.size a ≤ S1280x1408.size a := fun arg22 arg23 v96 k0_t4 arg26 k0_hw3 k0_h10 r => k0_hw3.2.2.2.2.2.1.2.2.2.2.2.2.2.2.2.2.2.2.2.2.2.2.2.2.2.2.2.2.2.2.2.2.2.2.2.2.1 k0_h10 r
theorem k0_off456_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off456 arg26 (BitVec.ofNat 32 (128 * r.val))) S128x128.size (k0_off456_inb arg22 arg23 v96 k0_t4 arg26 k0_hw3 k0_h10 r)).PackedRows (EltTy.packing .bf16) := fun arg22 arg23 v96 k0_t4 arg26 k0_hw3 k0_h10 r => k0_hw3.2.2.2.2.2.1.2.2.2.2.2.2.2.2.2.2.2.2.2.2.2.2.2.2.2.2.2.2.2.2.2.2.2.2.2.2.2 k0_h10 r (k0_off456_inb arg22 arg23 v96 k0_t4 arg26 k0_hw3 k0_h10 r)
theorem k0_mult83_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult83 arg26).toNat := fun arg22 arg23 v96 k0_t4 arg26 k0_hw3 k0_h10 => k0_hw3.2.2.2.2.2.2.1.1 k0_h10
theorem k0_off457_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off457 arg26) a + S1x128x256.size a ≤ S4x256x2048.size a := fun arg22 arg23 v96 k0_t4 arg26 k0_hw3 k0_h10 => k0_hw3.2.2.2.2.2.2.1.2.1 k0_h10
theorem k0_off458_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off458 arg26) a + S1x128x256.size a ≤ S2x256x2048.size a := fun arg22 arg23 v96 k0_t4 arg26 k0_hw3 k0_h10 => k0_hw3.2.2.2.2.2.2.1.2.2.1 k0_h10
theorem k0_off458_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off458 arg26) S1x128x256.size (k0_off458_inb arg22 arg23 v96 k0_t4 arg26 k0_hw3 k0_h10)).PackedRows (EltTy.packing .fp8e4m3) := fun arg22 arg23 v96 k0_t4 arg26 k0_hw3 k0_h10 => k0_hw3.2.2.2.2.2.2.1.2.2.2.1 k0_h10 (k0_off458_inb arg22 arg23 v96 k0_t4 arg26 k0_hw3 k0_h10)
theorem k0_off459_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off459 arg26) a + S1x128x128.size a ≤ S4x256x1408.size a := fun arg22 arg23 v96 k0_t4 arg26 k0_hw3 k0_h10 => k0_hw3.2.2.2.2.2.2.1.2.2.2.2.1 k0_h10
theorem k0_off460_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off460 arg26) a + S1x128x128.size a ≤ S2x256x1408.size a := fun arg22 arg23 v96 k0_t4 arg26 k0_hw3 k0_h10 => k0_hw3.2.2.2.2.2.2.1.2.2.2.2.2.1 k0_h10
theorem k0_off460_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off460 arg26) S1x128x128.size (k0_off460_inb arg22 arg23 v96 k0_t4 arg26 k0_hw3 k0_h10)).PackedRows (EltTy.packing .fp8e5m2) := fun arg22 arg23 v96 k0_t4 arg26 k0_hw3 k0_h10 => k0_hw3.2.2.2.2.2.2.1.2.2.2.2.2.2.1 k0_h10 (k0_off460_inb arg22 arg23 v96 k0_t4 arg26 k0_hw3 k0_h10)
theorem k0_off461_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off461 arg22 v96 k0_t4) a + S256x256.size a ≤ S1280x2048.size a := fun arg22 arg23 v96 k0_t4 arg26 k0_hw3 k0_h10 => k0_hw3.2.2.2.2.2.2.1.2.2.2.2.2.2.2.1 k0_h10
theorem k0_off462_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off462 arg23) a + S1x256x1408.size a ≤ S3x2048x1408.size a := fun arg22 arg23 v96 k0_t4 arg26 k0_hw3 k0_h10 => k0_hw3.2.2.2.2.2.2.1.2.2.2.2.2.2.2.2.1 k0_h10
theorem k0_mult84_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult84 arg26).toNat := fun arg22 arg23 v96 k0_t4 arg26 k0_hw3 k0_h10 => k0_hw3.2.2.2.2.2.2.1.2.2.2.2.2.2.2.2.2.1 k0_h10
theorem k0_mult85_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult85 arg26).toNat := fun arg22 arg23 v96 k0_t4 arg26 k0_hw3 k0_h10 => k0_hw3.2.2.2.2.2.2.1.2.2.2.2.2.2.2.2.2.2.1 k0_h10
theorem k0_off463_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off463 arg26) a + S1x128x256.size a ≤ S4x256x2048.size a := fun arg22 arg23 v96 k0_t4 arg26 k0_hw3 k0_h10 => k0_hw3.2.2.2.2.2.2.1.2.2.2.2.2.2.2.2.2.2.2.1 k0_h10
theorem k0_off464_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off464 arg26 (BitVec.ofNat 32 r.val)) a + S1x256.size a ≤ S384x2048.size a := fun arg22 arg23 v96 k0_t4 arg26 k0_hw3 k0_h10 r => k0_hw3.2.2.2.2.2.2.1.2.2.2.2.2.2.2.2.2.2.2.2.1 k0_h10 r
theorem k0_off465_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off465 arg26) a + S1x128x256.size a ≤ S2x256x2048.size a := fun arg22 arg23 v96 k0_t4 arg26 k0_hw3 k0_h10 => k0_hw3.2.2.2.2.2.2.1.2.2.2.2.2.2.2.2.2.2.2.2.2.1 k0_h10
theorem k0_off465_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off465 arg26) S1x128x256.size (k0_off465_inb arg22 arg23 v96 k0_t4 arg26 k0_hw3 k0_h10)).PackedRows (EltTy.packing .fp8e4m3) := fun arg22 arg23 v96 k0_t4 arg26 k0_hw3 k0_h10 => k0_hw3.2.2.2.2.2.2.1.2.2.2.2.2.2.2.2.2.2.2.2.2.2.1 k0_h10 (k0_off465_inb arg22 arg23 v96 k0_t4 arg26 k0_hw3 k0_h10)
theorem k0_off466_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off466 arg26 (BitVec.ofNat 32 (128 * r.val))) a + S128x256.size a ≤ S1280x2048.size a := fun arg22 arg23 v96 k0_t4 arg26 k0_hw3 k0_h10 r => k0_hw3.2.2.2.2.2.2.1.2.2.2.2.2.2.2.2.2.2.2.2.2.2.2.1 k0_h10 r
theorem k0_off466_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off466 arg26 (BitVec.ofNat 32 (128 * r.val))) S128x256.size (k0_off466_inb arg22 arg23 v96 k0_t4 arg26 k0_hw3 k0_h10 r)).PackedRows (EltTy.packing .bf16) := fun arg22 arg23 v96 k0_t4 arg26 k0_hw3 k0_h10 r => k0_hw3.2.2.2.2.2.2.1.2.2.2.2.2.2.2.2.2.2.2.2.2.2.2.2.1 k0_h10 r (k0_off466_inb arg22 arg23 v96 k0_t4 arg26 k0_hw3 k0_h10 r)
theorem k0_off467_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off467 arg26) a + S1x128x128.size a ≤ S4x256x1408.size a := fun arg22 arg23 v96 k0_t4 arg26 k0_hw3 k0_h10 => k0_hw3.2.2.2.2.2.2.1.2.2.2.2.2.2.2.2.2.2.2.2.2.2.2.2.2.1 k0_h10
theorem k0_off468_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off468 arg26 (BitVec.ofNat 32 r.val)) a + S1x1.size a ≤ S384x11.size a := fun arg22 arg23 v96 k0_t4 arg26 k0_hw3 k0_h10 r => k0_hw3.2.2.2.2.2.2.1.2.2.2.2.2.2.2.2.2.2.2.2.2.2.2.2.2.2.1 k0_h10 r
theorem k0_off469_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off469 arg26) a + S1x128x128.size a ≤ S2x256x1408.size a := fun arg22 arg23 v96 k0_t4 arg26 k0_hw3 k0_h10 => k0_hw3.2.2.2.2.2.2.1.2.2.2.2.2.2.2.2.2.2.2.2.2.2.2.2.2.2.2.1 k0_h10
theorem k0_off469_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off469 arg26) S1x128x128.size (k0_off469_inb arg22 arg23 v96 k0_t4 arg26 k0_hw3 k0_h10)).PackedRows (EltTy.packing .fp8e5m2) := fun arg22 arg23 v96 k0_t4 arg26 k0_hw3 k0_h10 => k0_hw3.2.2.2.2.2.2.1.2.2.2.2.2.2.2.2.2.2.2.2.2.2.2.2.2.2.2.2.1 k0_h10 (k0_off469_inb arg22 arg23 v96 k0_t4 arg26 k0_hw3 k0_h10)
theorem k0_off470_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off470 arg26 (BitVec.ofNat 32 (128 * r.val))) a + S128x128.size a ≤ S1280x1408.size a := fun arg22 arg23 v96 k0_t4 arg26 k0_hw3 k0_h10 r => k0_hw3.2.2.2.2.2.2.1.2.2.2.2.2.2.2.2.2.2.2.2.2.2.2.2.2.2.2.2.2.1 k0_h10 r
theorem k0_off470_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off470 arg26 (BitVec.ofNat 32 (128 * r.val))) S128x128.size (k0_off470_inb arg22 arg23 v96 k0_t4 arg26 k0_hw3 k0_h10 r)).PackedRows (EltTy.packing .bf16) := fun arg22 arg23 v96 k0_t4 arg26 k0_hw3 k0_h10 r => k0_hw3.2.2.2.2.2.2.1.2.2.2.2.2.2.2.2.2.2.2.2.2.2.2.2.2.2.2.2.2.2.1 k0_h10 r (k0_off470_inb arg22 arg23 v96 k0_t4 arg26 k0_hw3 k0_h10 r)
theorem k0_mult86_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult86 arg26).toNat := fun arg22 arg23 v96 k0_t4 arg26 k0_hw3 k0_h10 => k0_hw3.2.2.2.2.2.2.1.2.2.2.2.2.2.2.2.2.2.2.2.2.2.2.2.2.2.2.2.2.2.2.1 k0_h10
theorem k0_off471_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off471 arg26) a + S1x128x256.size a ≤ S4x256x2048.size a := fun arg22 arg23 v96 k0_t4 arg26 k0_hw3 k0_h10 => k0_hw3.2.2.2.2.2.2.1.2.2.2.2.2.2.2.2.2.2.2.2.2.2.2.2.2.2.2.2.2.2.2.2.1 k0_h10
theorem k0_off472_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off472 arg26) a + S1x128x256.size a ≤ S2x256x2048.size a := fun arg22 arg23 v96 k0_t4 arg26 k0_hw3 k0_h10 => k0_hw3.2.2.2.2.2.2.1.2.2.2.2.2.2.2.2.2.2.2.2.2.2.2.2.2.2.2.2.2.2.2.2.2.1 k0_h10
theorem k0_off472_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off472 arg26) S1x128x256.size (k0_off472_inb arg22 arg23 v96 k0_t4 arg26 k0_hw3 k0_h10)).PackedRows (EltTy.packing .fp8e4m3) := fun arg22 arg23 v96 k0_t4 arg26 k0_hw3 k0_h10 => k0_hw3.2.2.2.2.2.2.1.2.2.2.2.2.2.2.2.2.2.2.2.2.2.2.2.2.2.2.2.2.2.2.2.2.2.1 k0_h10 (k0_off472_inb arg22 arg23 v96 k0_t4 arg26 k0_hw3 k0_h10)
theorem k0_off473_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off473 arg26) a + S1x128x128.size a ≤ S4x256x1408.size a := fun arg22 arg23 v96 k0_t4 arg26 k0_hw3 k0_h10 => k0_hw3.2.2.2.2.2.2.1.2.2.2.2.2.2.2.2.2.2.2.2.2.2.2.2.2.2.2.2.2.2.2.2.2.2.2.1 k0_h10
theorem k0_off474_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off474 arg26) a + S1x128x128.size a ≤ S2x256x1408.size a := fun arg22 arg23 v96 k0_t4 arg26 k0_hw3 k0_h10 => k0_hw3.2.2.2.2.2.2.1.2.2.2.2.2.2.2.2.2.2.2.2.2.2.2.2.2.2.2.2.2.2.2.2.2.2.2.2.1 k0_h10
theorem k0_off474_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off474 arg26) S1x128x128.size (k0_off474_inb arg22 arg23 v96 k0_t4 arg26 k0_hw3 k0_h10)).PackedRows (EltTy.packing .fp8e5m2) := fun arg22 arg23 v96 k0_t4 arg26 k0_hw3 k0_h10 => k0_hw3.2.2.2.2.2.2.1.2.2.2.2.2.2.2.2.2.2.2.2.2.2.2.2.2.2.2.2.2.2.2.2.2.2.2.2.2.1 k0_h10 (k0_off474_inb arg22 arg23 v96 k0_t4 arg26 k0_hw3 k0_h10)
theorem k0_off475_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off475 arg22 v96 k0_t4) a + S256x256.size a ≤ S1280x2048.size a := fun arg22 arg23 v96 k0_t4 arg26 k0_hw3 k0_h10 => k0_hw3.2.2.2.2.2.2.1.2.2.2.2.2.2.2.2.2.2.2.2.2.2.2.2.2.2.2.2.2.2.2.2.2.2.2.2.2.2.1 k0_h10
theorem k0_off476_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off476 arg23) a + S1x256x1408.size a ≤ S3x2048x1408.size a := fun arg22 arg23 v96 k0_t4 arg26 k0_hw3 k0_h10 => k0_hw3.2.2.2.2.2.2.1.2.2.2.2.2.2.2.2.2.2.2.2.2.2.2.2.2.2.2.2.2.2.2.2.2.2.2.2.2.2.2 k0_h10
theorem k0_mult87_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult87 arg26).toNat := fun arg22 arg23 v96 k0_t4 arg26 k0_hw3 k0_h10 => k0_hw3.2.2.2.2.2.2.2.1.1 k0_h10
theorem k0_mult88_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult88 arg26).toNat := fun arg22 arg23 v96 k0_t4 arg26 k0_hw3 k0_h10 => k0_hw3.2.2.2.2.2.2.2.1.2.1 k0_h10
theorem k0_off477_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off477 arg26) a + S1x128x256.size a ≤ S4x256x2048.size a := fun arg22 arg23 v96 k0_t4 arg26 k0_hw3 k0_h10 => k0_hw3.2.2.2.2.2.2.2.1.2.2.1 k0_h10
theorem k0_off478_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off478 arg26 (BitVec.ofNat 32 r.val)) a + S1x256.size a ≤ S384x2048.size a := fun arg22 arg23 v96 k0_t4 arg26 k0_hw3 k0_h10 r => k0_hw3.2.2.2.2.2.2.2.1.2.2.2.1 k0_h10 r
theorem k0_off479_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off479 arg26) a + S1x128x256.size a ≤ S2x256x2048.size a := fun arg22 arg23 v96 k0_t4 arg26 k0_hw3 k0_h10 => k0_hw3.2.2.2.2.2.2.2.1.2.2.2.2.1 k0_h10
theorem k0_off479_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off479 arg26) S1x128x256.size (k0_off479_inb arg22 arg23 v96 k0_t4 arg26 k0_hw3 k0_h10)).PackedRows (EltTy.packing .fp8e4m3) := fun arg22 arg23 v96 k0_t4 arg26 k0_hw3 k0_h10 => k0_hw3.2.2.2.2.2.2.2.1.2.2.2.2.2.1 k0_h10 (k0_off479_inb arg22 arg23 v96 k0_t4 arg26 k0_hw3 k0_h10)
theorem k0_off480_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off480 arg26 (BitVec.ofNat 32 (128 * r.val))) a + S128x256.size a ≤ S1280x2048.size a := fun arg22 arg23 v96 k0_t4 arg26 k0_hw3 k0_h10 r => k0_hw3.2.2.2.2.2.2.2.1.2.2.2.2.2.2.1 k0_h10 r
theorem k0_off480_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x2048) (k0_off480 arg26 (BitVec.ofNat 32 (128 * r.val))) S128x256.size (k0_off480_inb arg22 arg23 v96 k0_t4 arg26 k0_hw3 k0_h10 r)).PackedRows (EltTy.packing .bf16) := fun arg22 arg23 v96 k0_t4 arg26 k0_hw3 k0_h10 r => k0_hw3.2.2.2.2.2.2.2.1.2.2.2.2.2.2.2.1 k0_h10 r (k0_off480_inb arg22 arg23 v96 k0_t4 arg26 k0_hw3 k0_h10 r)
theorem k0_off481_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off481 arg26) a + S1x128x128.size a ≤ S4x256x1408.size a := fun arg22 arg23 v96 k0_t4 arg26 k0_hw3 k0_h10 => k0_hw3.2.2.2.2.2.2.2.1.2.2.2.2.2.2.2.2.1 k0_h10
theorem k0_off482_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off482 arg26 (BitVec.ofNat 32 r.val)) a + S1x1.size a ≤ S384x11.size a := fun arg22 arg23 v96 k0_t4 arg26 k0_hw3 k0_h10 r => k0_hw3.2.2.2.2.2.2.2.1.2.2.2.2.2.2.2.2.2.1 k0_h10 r
theorem k0_off483_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off483 arg26) a + S1x128x128.size a ≤ S2x256x1408.size a := fun arg22 arg23 v96 k0_t4 arg26 k0_hw3 k0_h10 => k0_hw3.2.2.2.2.2.2.2.1.2.2.2.2.2.2.2.2.2.2.1 k0_h10
theorem k0_off483_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off483 arg26) S1x128x128.size (k0_off483_inb arg22 arg23 v96 k0_t4 arg26 k0_hw3 k0_h10)).PackedRows (EltTy.packing .fp8e5m2) := fun arg22 arg23 v96 k0_t4 arg26 k0_hw3 k0_h10 => k0_hw3.2.2.2.2.2.2.2.1.2.2.2.2.2.2.2.2.2.2.2.1 k0_h10 (k0_off483_inb arg22 arg23 v96 k0_t4 arg26 k0_hw3 k0_h10)
theorem k0_off484_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), ∀ a, (k0_off484 arg26 (BitVec.ofNat 32 (128 * r.val))) a + S128x128.size a ≤ S1280x1408.size a := fun arg22 arg23 v96 k0_t4 arg26 k0_hw3 k0_h10 r => k0_hw3.2.2.2.2.2.2.2.1.2.2.2.2.2.2.2.2.2.2.2.2.1 k0_h10 r
theorem k0_off484_packedbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (r : Fin 2), (Rect.unit (s := S1280x1408) (k0_off484 arg26 (BitVec.ofNat 32 (128 * r.val))) S128x128.size (k0_off484_inb arg22 arg23 v96 k0_t4 arg26 k0_hw3 k0_h10 r)).PackedRows (EltTy.packing .bf16) := fun arg22 arg23 v96 k0_t4 arg26 k0_hw3 k0_h10 r => k0_hw3.2.2.2.2.2.2.2.1.2.2.2.2.2.2.2.2.2.2.2.2.2.1 k0_h10 r (k0_off484_inb arg22 arg23 v96 k0_t4 arg26 k0_hw3 k0_h10 r)
theorem k0_mult89_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 128 ∣ (k0_mult89 arg26).toNat := fun arg22 arg23 v96 k0_t4 arg26 k0_hw3 k0_h10 => k0_hw3.2.2.2.2.2.2.2.1.2.2.2.2.2.2.2.2.2.2.2.2.2.2.1 k0_h10
theorem k0_off485_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off485 arg26) a + S1x128x256.size a ≤ S4x256x2048.size a := fun arg22 arg23 v96 k0_t4 arg26 k0_hw3 k0_h10 => k0_hw3.2.2.2.2.2.2.2.1.2.2.2.2.2.2.2.2.2.2.2.2.2.2.2.1 k0_h10
theorem k0_off486_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off486 arg26) a + S1x128x256.size a ≤ S2x256x2048.size a := fun arg22 arg23 v96 k0_t4 arg26 k0_hw3 k0_h10 => k0_hw3.2.2.2.2.2.2.2.1.2.2.2.2.2.2.2.2.2.2.2.2.2.2.2.2.1 k0_h10
theorem k0_off486_packedfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off486 arg26) S1x128x256.size (k0_off486_inb arg22 arg23 v96 k0_t4 arg26 k0_hw3 k0_h10)).PackedRows (EltTy.packing .fp8e4m3) := fun arg22 arg23 v96 k0_t4 arg26 k0_hw3 k0_h10 => k0_hw3.2.2.2.2.2.2.2.1.2.2.2.2.2.2.2.2.2.2.2.2.2.2.2.2.2.1 k0_h10 (k0_off486_inb arg22 arg23 v96 k0_t4 arg26 k0_hw3 k0_h10)
theorem k0_off487_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off487 arg26) a + S1x128x128.size a ≤ S4x256x1408.size a := fun arg22 arg23 v96 k0_t4 arg26 k0_hw3 k0_h10 => k0_hw3.2.2.2.2.2.2.2.1.2.2.2.2.2.2.2.2.2.2.2.2.2.2.2.2.2.2.1 k0_h10
theorem k0_off488_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off488 arg26) a + S1x128x128.size a ≤ S2x256x1408.size a := fun arg22 arg23 v96 k0_t4 arg26 k0_hw3 k0_h10 => k0_hw3.2.2.2.2.2.2.2.1.2.2.2.2.2.2.2.2.2.2.2.2.2.2.2.2.2.2.2.1 k0_h10
theorem k0_off488_packedfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off488 arg26) S1x128x128.size (k0_off488_inb arg22 arg23 v96 k0_t4 arg26 k0_hw3 k0_h10)).PackedRows (EltTy.packing .fp8e5m2) := fun arg22 arg23 v96 k0_t4 arg26 k0_hw3 k0_h10 => k0_hw3.2.2.2.2.2.2.2.1.2.2.2.2.2.2.2.2.2.2.2.2.2.2.2.2.2.2.2.2.1 k0_h10 (k0_off488_inb arg22 arg23 v96 k0_t4 arg26 k0_hw3 k0_h10)
theorem k0_mult90_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), 256 ∣ (k0_mult90 arg26).toNat := fun arg22 arg23 v96 k0_t4 arg26 k0_hw3 k0_h10 => k0_hw3.2.2.2.2.2.2.2.1.2.2.2.2.2.2.2.2.2.2.2.2.2.2.2.2.2.2.2.2.2.1 k0_h10
theorem k0_off489_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off489 arg26) a + S1x1.size a ≤ S2x2.size a := fun arg22 arg23 v96 k0_t4 arg26 k0_hw3 k0_h10 => k0_hw3.2.2.2.2.2.2.2.1.2.2.2.2.2.2.2.2.2.2.2.2.2.2.2.2.2.2.2.2.2.2.1 k0_h10
theorem k0_off490_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off490 arg26) a + S1x256x2048.size a ≤ S2x256x2048.size a := fun arg22 arg23 v96 k0_t4 arg26 k0_hw3 k0_h10 => k0_hw3.2.2.2.2.2.2.2.1.2.2.2.2.2.2.2.2.2.2.2.2.2.2.2.2.2.2.2.2.2.2.2.1 k0_h10
theorem k0_off490_wordsfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x2048) (k0_off490 arg26) S1x256x2048.size (k0_off490_inb arg22 arg23 v96 k0_t4 arg26 k0_hw3 k0_h10)).WholeWords (EltTy.packing .fp8e4m3) := fun arg22 arg23 v96 k0_t4 arg26 k0_hw3 k0_h10 => k0_hw3.2.2.2.2.2.2.2.1.2.2.2.2.2.2.2.2.2.2.2.2.2.2.2.2.2.2.2.2.2.2.2.2.1 k0_h10 (k0_off490_inb arg22 arg23 v96 k0_t4 arg26 k0_hw3 k0_h10)
theorem k0_off338_wordsfp8e4m3 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S49152x2048) (k0_off338 arg26) S256x2048.size (k0_off338_inb arg22 arg23 v96 k0_t4 arg26 k0_hw3 k0_h10)).WholeWords (EltTy.packing .fp8e4m3) := fun arg22 arg23 v96 k0_t4 arg26 k0_hw3 k0_h10 => k0_hw3.2.2.2.2.2.2.2.1.2.2.2.2.2.2.2.2.2.2.2.2.2.2.2.2.2.2.2.2.2.2.2.2.2.1 k0_h10 (k0_off338_inb arg22 arg23 v96 k0_t4 arg26 k0_hw3 k0_h10)
theorem k0_off491_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off491 arg26) a + S1x1.size a ≤ S2x2.size a := fun arg22 arg23 v96 k0_t4 arg26 k0_hw3 k0_h10 => k0_hw3.2.2.2.2.2.2.2.1.2.2.2.2.2.2.2.2.2.2.2.2.2.2.2.2.2.2.2.2.2.2.2.2.2.2.1 k0_h10
theorem k0_off492_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ a, (k0_off492 arg26) a + S1x256x1408.size a ≤ S2x256x1408.size a := fun arg22 arg23 v96 k0_t4 arg26 k0_hw3 k0_h10 => k0_hw3.2.2.2.2.2.2.2.1.2.2.2.2.2.2.2.2.2.2.2.2.2.2.2.2.2.2.2.2.2.2.2.2.2.2.2.1 k0_h10
theorem k0_off492_wordsfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S2x256x1408) (k0_off492 arg26) S1x256x1408.size (k0_off492_inb arg22 arg23 v96 k0_t4 arg26 k0_hw3 k0_h10)).WholeWords (EltTy.packing .fp8e5m2) := fun arg22 arg23 v96 k0_t4 arg26 k0_hw3 k0_h10 => k0_hw3.2.2.2.2.2.2.2.1.2.2.2.2.2.2.2.2.2.2.2.2.2.2.2.2.2.2.2.2.2.2.2.2.2.2.2.2.1 k0_h10 (k0_off492_inb arg22 arg23 v96 k0_t4 arg26 k0_hw3 k0_h10)
theorem k0_off341_wordsfp8e5m2 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), (Rect.unit (s := S49152x1408) (k0_off341 arg26) S256x1408.size (k0_off341_inb arg22 arg23 v96 k0_t4 arg26 k0_hw3 k0_h10)).WholeWords (EltTy.packing .fp8e5m2) := fun arg22 arg23 v96 k0_t4 arg26 k0_hw3 k0_h10 => k0_hw3.2.2.2.2.2.2.2.1.2.2.2.2.2.2.2.2.2.2.2.2.2.2.2.2.2.2.2.2.2.2.2.2.2.2.2.2.2.1 k0_h10 (k0_off341_inb arg22 arg23 v96 k0_t4 arg26 k0_hw3 k0_h10)
theorem k0_mult91_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), 256 ∣ (k0_mult91 arg26).toNat := fun arg22 arg23 v96 k0_t4 arg26 k0_hw3 k0_h10 k0_h12 => k0_hw3.2.2.2.2.2.2.2.1.2.2.2.2.2.2.2.2.2.2.2.2.2.2.2.2.2.2.2.2.2.2.2.2.2.2.2.2.2.2.1 k0_h10 k0_h12
theorem k0_off493_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off493 arg26) a + S1x1.size a ≤ S2x4.size a := fun arg22 arg23 v96 k0_t4 arg26 k0_hw3 k0_h10 k0_h12 => k0_hw3.2.2.2.2.2.2.2.1.2.2.2.2.2.2.2.2.2.2.2.2.2.2.2.2.2.2.2.2.2.2.2.2.2.2.2.2.2.2.2 k0_h10 k0_h12
theorem k0_off494_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off494 arg26) a + S1x256x2048.size a ≤ S4x256x2048.size a := fun arg22 arg23 v96 k0_t4 arg26 k0_hw3 k0_h10 k0_h12 => k0_hw3.2.2.2.2.2.2.2.2.1.1 k0_h10 k0_h12
theorem k0_off495_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off495 arg26) a + S256x2048.size a ≤ S49152x2048.size a := fun arg22 arg23 v96 k0_t4 arg26 k0_hw3 k0_h10 k0_h12 => k0_hw3.2.2.2.2.2.2.2.2.1.2.1 k0_h10 k0_h12
theorem k0_off495_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), (Rect.unit (s := S49152x2048) (k0_off495 arg26) S256x2048.size (k0_off495_inb arg22 arg23 v96 k0_t4 arg26 k0_hw3 k0_h10 k0_h12)).WholeWords (EltTy.packing .bf16) := fun arg22 arg23 v96 k0_t4 arg26 k0_hw3 k0_h10 k0_h12 => k0_hw3.2.2.2.2.2.2.2.2.1.2.2.1 k0_h10 k0_h12 (k0_off495_inb arg22 arg23 v96 k0_t4 arg26 k0_hw3 k0_h10 k0_h12)
theorem k0_off494_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), (Rect.unit (s := S4x256x2048) (k0_off494 arg26) S1x256x2048.size (k0_off494_inb arg22 arg23 v96 k0_t4 arg26 k0_hw3 k0_h10 k0_h12)).WholeWords (EltTy.packing .bf16) := fun arg22 arg23 v96 k0_t4 arg26 k0_hw3 k0_h10 k0_h12 => k0_hw3.2.2.2.2.2.2.2.2.1.2.2.2.1 k0_h10 k0_h12 (k0_off494_inb arg22 arg23 v96 k0_t4 arg26 k0_hw3 k0_h10 k0_h12)
theorem k0_off496_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off496 arg26) a + S1x1.size a ≤ S2x4.size a := fun arg22 arg23 v96 k0_t4 arg26 k0_hw3 k0_h10 k0_h12 => k0_hw3.2.2.2.2.2.2.2.2.1.2.2.2.2.1 k0_h10 k0_h12
theorem k0_off497_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off497 arg26) a + S1x256x1408.size a ≤ S4x256x1408.size a := fun arg22 arg23 v96 k0_t4 arg26 k0_hw3 k0_h10 k0_h12 => k0_hw3.2.2.2.2.2.2.2.2.1.2.2.2.2.2.1 k0_h10 k0_h12
theorem k0_off498_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), ∀ a, (k0_off498 arg26) a + S256x1408.size a ≤ S49152x1408.size a := fun arg22 arg23 v96 k0_t4 arg26 k0_hw3 k0_h10 k0_h12 => k0_hw3.2.2.2.2.2.2.2.2.1.2.2.2.2.2.2.1 k0_h10 k0_h12
theorem k0_off498_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), (Rect.unit (s := S49152x1408) (k0_off498 arg26) S256x1408.size (k0_off498_inb arg22 arg23 v96 k0_t4 arg26 k0_hw3 k0_h10 k0_h12)).WholeWords (EltTy.packing .bf16) := fun arg22 arg23 v96 k0_t4 arg26 k0_hw3 k0_h10 k0_h12 => k0_hw3.2.2.2.2.2.2.2.2.1.2.2.2.2.2.2.2.1 k0_h10 k0_h12 (k0_off498_inb arg22 arg23 v96 k0_t4 arg26 k0_hw3 k0_h10 k0_h12)
theorem k0_off497_wordsbf16 : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h10 : k0_cond10 arg22 v96 k0_t4 arg26 = 1#1), ∀ (k0_h12 : k0_cond12 arg26 = 1#1), (Rect.unit (s := S4x256x1408) (k0_off497 arg26) S1x256x1408.size (k0_off497_inb arg22 arg23 v96 k0_t4 arg26 k0_hw3 k0_h10 k0_h12)).WholeWords (EltTy.packing .bf16) := fun arg22 arg23 v96 k0_t4 arg26 k0_hw3 k0_h10 k0_h12 => k0_hw3.2.2.2.2.2.2.2.2.1.2.2.2.2.2.2.2.2.1 k0_h10 k0_h12 (k0_off497_inb arg22 arg23 v96 k0_t4 arg26 k0_hw3 k0_h10 k0_h12)
theorem k0_mult92_dvd : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), 16 ∣ (k0_mult92 arg22 v96 k0_t4).toNat := fun arg22 arg23 v96 k0_t4 arg26 k0_hw3 k0_h14 => k0_hw3.2.2.2.2.2.2.2.2.1.2.2.2.2.2.2.2.2.2.1 k0_h14
theorem k0_off499_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off499 arg22 v96 k0_t4) a + S256x128.size a ≤ S1280x1408.size a := fun arg22 arg23 v96 k0_t4 arg26 k0_hw3 k0_h14 => k0_hw3.2.2.2.2.2.2.2.2.1.2.2.2.2.2.2.2.2.2.2.1 k0_h14
theorem k0_off500_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off500 arg22 v96 k0_t4) a + S256x128.size a ≤ S1280x1408.size a := fun arg22 arg23 v96 k0_t4 arg26 k0_hw3 k0_h14 => k0_hw3.2.2.2.2.2.2.2.2.1.2.2.2.2.2.2.2.2.2.2.2.1 k0_h14
theorem k0_off501_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off501 arg22 v96 k0_t4) a + S256x128.size a ≤ S1280x1408.size a := fun arg22 arg23 v96 k0_t4 arg26 k0_hw3 k0_h14 => k0_hw3.2.2.2.2.2.2.2.2.1.2.2.2.2.2.2.2.2.2.2.2.2.1 k0_h14
theorem k0_off502_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off502 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.1 k0_h14
theorem k0_off503_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off503 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.1 k0_h14
theorem k0_off504_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off504 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.1 k0_h14
theorem k0_off505_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off505 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.2.1 k0_h14
theorem k0_off506_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off506 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.2.2.1 k0_h14
theorem k0_off507_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off507 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.2.2.2.1 k0_h14
theorem k0_off508_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off508 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.2.2.2.2.1 k0_h14
theorem k0_off509_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off509 arg22 v96 k0_t4) a + S256x128.size a ≤ S1280x1408.size a := fun arg22 arg23 v96 k0_t4 arg26 k0_hw3 k0_h14 => k0_hw3.2.2.2.2.2.2.2.2.1.2.2.2.2.2.2.2.2.2.2.2.2.2.2.2.2.2.2.2.2.1 k0_h14
theorem k0_off510_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off510 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.1 k0_h14
theorem k0_off511_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off511 arg23) a + S1x256x1408.size a ≤ S3x2048x1408.size a := fun arg22 arg23 v96 k0_t4 arg26 k0_hw3 k0_h14 => k0_hw3.2.2.2.2.2.2.2.2.1.2.2.2.2.2.2.2.2.2.2.2.2.2.2.2.2.2.2.2.2.2.2.1 k0_h14
theorem k0_off512_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off512 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.2.2.1 k0_h14
theorem k0_off513_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off513 arg23) a + S1x256x1408.size a ≤ S3x2048x1408.size a := fun arg22 arg23 v96 k0_t4 arg26 k0_hw3 k0_h14 => k0_hw3.2.2.2.2.2.2.2.2.1.2.2.2.2.2.2.2.2.2.2.2.2.2.2.2.2.2.2.2.2.2.2.2.2.1 k0_h14
theorem k0_off514_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off514 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.2.2.2.2.1 k0_h14
theorem k0_off515_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off515 arg23) a + S1x256x1408.size a ≤ S3x2048x1408.size a := fun arg22 arg23 v96 k0_t4 arg26 k0_hw3 k0_h14 => k0_hw3.2.2.2.2.2.2.2.2.1.2.2.2.2.2.2.2.2.2.2.2.2.2.2.2.2.2.2.2.2.2.2.2.2.2.2.1 k0_h14
theorem k0_off516_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off516 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.2.2.2.2.2.2.1 k0_h14
theorem k0_off517_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off517 arg23) a + S1x256x1408.size a ≤ S3x2048x1408.size a := fun arg22 arg23 v96 k0_t4 arg26 k0_hw3 k0_h14 => k0_hw3.2.2.2.2.2.2.2.2.1.2.2.2.2.2.2.2.2.2.2.2.2.2.2.2.2.2.2.2.2.2.2.2.2.2.2.2.2.1 k0_h14
theorem k0_off518_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off518 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.2.2.2.2.2.2.2.2.1 k0_h14
theorem k0_off519_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off519 arg23) a + S1x256x1408.size a ≤ S3x2048x1408.size a := fun arg22 arg23 v96 k0_t4 arg26 k0_hw3 k0_h14 => k0_hw3.2.2.2.2.2.2.2.2.1.2.2.2.2.2.2.2.2.2.2.2.2.2.2.2.2.2.2.2.2.2.2.2.2.2.2.2.2.2.2.1 k0_h14
theorem k0_off520_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off520 arg22 v96 k0_t4) a + S256x256.size a ≤ S1280x2048.size a := fun arg22 arg23 v96 k0_t4 arg26 k0_hw3 k0_h14 => k0_hw3.2.2.2.2.2.2.2.2.1.2.2.2.2.2.2.2.2.2.2.2.2.2.2.2.2.2.2.2.2.2.2.2.2.2.2.2.2.2.2.2 k0_h14
theorem k0_off521_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off521 arg23) a + S1x256x1408.size a ≤ S3x2048x1408.size a := fun arg22 arg23 v96 k0_t4 arg26 k0_hw3 k0_h14 => k0_hw3.2.2.2.2.2.2.2.2.2.1 k0_h14
theorem k0_off522_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off522 arg22 v96 k0_t4) a + S256x256.size a ≤ S1280x2048.size a := fun arg22 arg23 v96 k0_t4 arg26 k0_hw3 k0_h14 => k0_hw3.2.2.2.2.2.2.2.2.2.2.1 k0_h14
theorem k0_off523_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off523 arg23) a + S1x256x1408.size a ≤ S3x2048x1408.size a := fun arg22 arg23 v96 k0_t4 arg26 k0_hw3 k0_h14 => k0_hw3.2.2.2.2.2.2.2.2.2.2.2.1 k0_h14
theorem k0_off524_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off524 arg22 v96 k0_t4) a + S256x256.size a ≤ S1280x2048.size a := fun arg22 arg23 v96 k0_t4 arg26 k0_hw3 k0_h14 => k0_hw3.2.2.2.2.2.2.2.2.2.2.2.2.1 k0_h14
theorem k0_off525_inb : ∀ (arg22 : BitVec 32) (arg23 : BitVec 32) (v96 : BitVec 32) (k0_t4 : Fin (k0_t4_loop arg22 v96).trips) (arg26 : BitVec 32) (k0_hw3 : k0_chk3 arg22 arg23 v96 k0_t4 arg26), ∀ (k0_h14 : k0_cond14 arg22 v96 k0_t4 arg26 = 1#1), ∀ a, (k0_off525 arg23) a + S1x256x1408.size a ≤ S3x2048x1408.size a := fun arg22 arg23 v96 k0_t4 arg26 k0_hw3 k0_h14 => k0_hw3.2.2.2.2.2.2.2.2.2.2.2.2.2 k0_h14

def k0_off526 (arg23 : BitVec 32) : Fin 1 → Nat :=
  let c3_i32_85 : BitVec 32 := 3#32
  let v98 : BitVec 32 := Scalar.remsi arg23 c3_i32_85
  ![v98.toNat]
def k0_cond15 (v96 : BitVec 32) : BitVec 1 :=
  let c0_i32_99 : BitVec 32 := 0#32
  let v119 : BitVec 1 := Scalar.cmpi .sgt v96 c0_i32_99
  let v120 : BitVec 32 := Scalar.extui v119
  let c0_i32_100 : BitVec 32 := 0#32
  let v121 : BitVec 1 := Scalar.cmpi .ne v120 c0_i32_100
  v121

def k0_off527 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c0_i32_104 : BitVec 32 := 0#32
  let c0_i32_105 : BitVec 32 := 0#32
  ![arg21.toNat, 0, 0]
def k0_off528 (arg23 : BitVec 32) : Fin 3 → Nat :=
  let c3_i32_85 : BitVec 32 := 3#32
  let v98 : BitVec 32 := Scalar.remsi arg23 c3_i32_85
  let c0_i32_106 : BitVec 32 := 0#32
  let c0_i32_107 : BitVec 32 := 0#32
  ![v98.toNat, 0, 0]

def k0_chk1 (arg22 : BitVec 32) (arg23 : BitVec 32) (v96 : BitVec 32) : Prop :=
  (∀ (k0_h4 : k0_cond4 arg23 v96 = 1#1), ∀ a, (k0_off144 arg23) a + S1.size a ≤ S3.size a) ∧
  (∀ (k0_h4 : k0_cond4 arg23 v96 = 1#1), ∀ a, (k0_off145 arg23) a + S1x2048x1408.size a ≤ S3x2048x1408.size a) ∧
  ((k0_t3_loop arg22 v96).OK) ∧
  ((k0_t4_loop arg22 v96).OK) ∧
  (∀ (k0_h15 : k0_cond15 v96 = 1#1), ∀ a, (k0_off526 arg23) a + S1.size a ≤ S3.size a) ∧
  (∀ (k0_h15 : k0_cond15 v96 = 1#1), ∀ a, (k0_off528 arg23) a + S1x2048x1408.size a ≤ S3x2048x1408.size a)
theorem k0_off144_inb : ∀ (arg22 : BitVec 32) (arg23 : BitVec 32) (v96 : BitVec 32) (k0_hw1 : k0_chk1 arg22 arg23 v96), ∀ (k0_h4 : k0_cond4 arg23 v96 = 1#1), ∀ a, (k0_off144 arg23) a + S1.size a ≤ S3.size a := fun arg22 arg23 v96 k0_hw1 k0_h4 => k0_hw1.1 k0_h4
theorem k0_off145_inb : ∀ (arg22 : BitVec 32) (arg23 : BitVec 32) (v96 : BitVec 32) (k0_hw1 : k0_chk1 arg22 arg23 v96), ∀ (k0_h4 : k0_cond4 arg23 v96 = 1#1), ∀ a, (k0_off145 arg23) a + S1x2048x1408.size a ≤ S3x2048x1408.size a := fun arg22 arg23 v96 k0_hw1 k0_h4 => k0_hw1.2.1 k0_h4
theorem k0_t3_ok : ∀ (arg22 : BitVec 32) (arg23 : BitVec 32) (v96 : BitVec 32) (k0_hw1 : k0_chk1 arg22 arg23 v96), (k0_t3_loop arg22 v96).OK := fun arg22 arg23 v96 k0_hw1 => k0_hw1.2.2.1
theorem k0_t4_ok : ∀ (arg22 : BitVec 32) (arg23 : BitVec 32) (v96 : BitVec 32) (k0_hw1 : k0_chk1 arg22 arg23 v96), (k0_t4_loop arg22 v96).OK := fun arg22 arg23 v96 k0_hw1 => k0_hw1.2.2.2.1
theorem k0_off526_inb : ∀ (arg22 : BitVec 32) (arg23 : BitVec 32) (v96 : BitVec 32) (k0_hw1 : k0_chk1 arg22 arg23 v96), ∀ (k0_h15 : k0_cond15 v96 = 1#1), ∀ a, (k0_off526 arg23) a + S1.size a ≤ S3.size a := fun arg22 arg23 v96 k0_hw1 k0_h15 => k0_hw1.2.2.2.2.1 k0_h15
theorem k0_off528_inb : ∀ (arg22 : BitVec 32) (arg23 : BitVec 32) (v96 : BitVec 32) (k0_hw1 : k0_chk1 arg22 arg23 v96), ∀ (k0_h15 : k0_cond15 v96 = 1#1), ∀ a, (k0_off528 arg23) a + S1x2048x1408.size a ≤ S3x2048x1408.size a := fun arg22 arg23 v96 k0_hw1 k0_h15 => k0_hw1.2.2.2.2.2 k0_h15

def k0_off529 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c0_i32_105 : BitVec 32 := 0#32
  let c0_i32_106 : BitVec 32 := 0#32
  ![arg21.toNat, 0, 0]
def k0_off530 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c256_i32_108 : BitVec 32 := 256#32
  let c0_i32_109 : BitVec 32 := 0#32
  ![arg21.toNat, 256, 0]
def k0_off531 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c512_i32 : BitVec 32 := 512#32
  let c0_i32_111 : BitVec 32 := 0#32
  ![arg21.toNat, 512, 0]
def k0_off532 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c768_i32 : BitVec 32 := 768#32
  let c0_i32_113 : BitVec 32 := 0#32
  ![arg21.toNat, 768, 0]
def k0_off533 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c1024_i32 : BitVec 32 := 1024#32
  let c0_i32_115 : BitVec 32 := 0#32
  ![arg21.toNat, 1024, 0]
def k0_off534 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c1280_i32 : BitVec 32 := 1280#32
  let c0_i32_117 : BitVec 32 := 0#32
  ![arg21.toNat, 1280, 0]
def k0_off535 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c1536_i32 : BitVec 32 := 1536#32
  let c0_i32_119 : BitVec 32 := 0#32
  ![arg21.toNat, 1536, 0]
def k0_off536 (k0_t2 : Fin k0_t2_loop.trips) : Fin 3 → Nat :=
  let c0_i32_50 : BitVec 32 := 0#32
  let c1_i32_51 : BitVec 32 := 1#32
  let arg21 : BitVec 32 := Scf.iv c0_i32_50 c1_i32_51 k0_t2
  let c1792_i32 : BitVec 32 := 1792#32
  let c0_i32_121 : BitVec 32 := 0#32
  ![arg21.toNat, 1792, 0]
def k0_mult93 : BitVec 32 :=
  let c190_i32_54 : BitVec 32 := 190#32
  let c256_i32_55 : BitVec 32 := 256#32
  let v60 : BitVec 32 := Scalar.muli c190_i32_54 c256_i32_55
  v60
def k0_off537 (c190_i32 : BitVec 32) : Fin 2 → Nat :=
  let c0_i32_56 : BitVec 32 := 0#32
  let c2_i32_53 : BitVec 32 := 2#32
  let v59 : BitVec 32 := Scalar.remsi c190_i32 c2_i32_53
  ![0, v59.toNat]
def k0_off538 (c190_i32 : BitVec 32) : Fin 3 → Nat :=
  let c2_i32_53 : BitVec 32 := 2#32
  let v59 : BitVec 32 := Scalar.remsi c190_i32 c2_i32_53
  let c0_i32_58 : BitVec 32 := 0#32
  let c0_i32_59 : BitVec 32 := 0#32
  ![v59.toNat, 0, 0]
def k0_off539 (c190_i32 : BitVec 32) : Fin 2 → Nat :=
  let c1_i32_60 : BitVec 32 := 1#32
  let c2_i32_53 : BitVec 32 := 2#32
  let v59 : BitVec 32 := Scalar.remsi c190_i32 c2_i32_53
  ![1, v59.toNat]
def k0_off540 (c190_i32 : BitVec 32) : Fin 3 → Nat :=
  let c2_i32_53 : BitVec 32 := 2#32
  let v59 : BitVec 32 := Scalar.remsi c190_i32 c2_i32_53
  let c0_i32_62 : BitVec 32 := 0#32
  let c0_i32_63 : BitVec 32 := 0#32
  ![v59.toNat, 0, 0]
def k0_mult94 : BitVec 32 :=
  let c191_i32_65 : BitVec 32 := 191#32
  let c256_i32_66 : BitVec 32 := 256#32
  let v73 : BitVec 32 := Scalar.muli c191_i32_65 c256_i32_66
  v73
@[reducible] def k0_t5_loop (v58_1 : BitVec 32) : Scf.Loop 32 :=
  let c3_i32_75 : BitVec 32 := 3#32
  let v85 : BitVec 32 := Scalar.subi v58_1 c3_i32_75
  let c0_i32_76 : BitVec 32 := 0#32
  let v86 : BitVec 32 := Scalar.maxsi v85 c0_i32_76
  let v87 : BitVec 32 := Scalar.subi v58_1 v86
  let c1_i32_78 : BitVec 32 := 1#32
  let v89 : BitVec 32 := Scalar.divsi v87 c1_i32_78
  let v90 : BitVec 32 := Scalar.muli v89 c1_i32_78
  let v91 : BitVec 32 := Scalar.addi v86 v90
  let c1_i32_79 : BitVec 32 := 1#32
  ⟨v86, v91, c1_i32_79⟩

def k0_off541 (v58_1 : BitVec 32) (k0_t5 : Fin (k0_t5_loop v58_1).trips) : Fin 1 → Nat :=
  let c3_i32_75 : BitVec 32 := 3#32
  let v85 : BitVec 32 := Scalar.subi v58_1 c3_i32_75
  let c0_i32_76 : BitVec 32 := 0#32
  let v86 : BitVec 32 := Scalar.maxsi v85 c0_i32_76
  let c1_i32_79 : BitVec 32 := 1#32
  let arg21 : BitVec 32 := Scf.iv v86 c1_i32_79 k0_t5
  let c3_i32_85 : BitVec 32 := 3#32
  let v95 : BitVec 32 := Scalar.remsi arg21 c3_i32_85
  ![v95.toNat]
def k0_off542 (v58_1 : BitVec 32) (k0_t5 : Fin (k0_t5_loop v58_1).trips) : Fin 3 → Nat :=
  let c3_i32_75 : BitVec 32 := 3#32
  let v85 : BitVec 32 := Scalar.subi v58_1 c3_i32_75
  let c0_i32_76 : BitVec 32 := 0#32
  let v86 : BitVec 32 := Scalar.maxsi v85 c0_i32_76
  let c1_i32_79 : BitVec 32 := 1#32
  let arg21 : BitVec 32 := Scf.iv v86 c1_i32_79 k0_t5
  let c3_i32_85 : BitVec 32 := 3#32
  let v95 : BitVec 32 := Scalar.remsi arg21 c3_i32_85
  let c0_i32_89 : BitVec 32 := 0#32
  let c0_i32_90 : BitVec 32 := 0#32
  ![v95.toNat, 0, 0]
@[reducible] def k0_t6_loop (v58_1 : BitVec 32) : Scf.Loop 32 :=
  let c3_i32_75 : BitVec 32 := 3#32
  let v85 : BitVec 32 := Scalar.subi v58_1 c3_i32_75
  let c0_i32_76 : BitVec 32 := 0#32
  let v86 : BitVec 32 := Scalar.maxsi v85 c0_i32_76
  let v87 : BitVec 32 := Scalar.subi v58_1 v86
  let c1_i32_78 : BitVec 32 := 1#32
  let v89 : BitVec 32 := Scalar.divsi v87 c1_i32_78
  let v90 : BitVec 32 := Scalar.muli v89 c1_i32_78
  let v91 : BitVec 32 := Scalar.addi v86 v90
  let v88 : BitVec 32 := Scalar.addi v86 v87
  let c1_i32_80 : BitVec 32 := 1#32
  ⟨v91, v88, c1_i32_80⟩
def k0_off543 (v58_1 : BitVec 32) (k0_t6 : Fin (k0_t6_loop v58_1).trips) : Fin 1 → Nat :=
  let c3_i32_75 : BitVec 32 := 3#32
  let v85 : BitVec 32 := Scalar.subi v58_1 c3_i32_75
  let c0_i32_76 : BitVec 32 := 0#32
  let v86 : BitVec 32 := Scalar.maxsi v85 c0_i32_76
  let v87 : BitVec 32 := Scalar.subi v58_1 v86
  let c1_i32_78 : BitVec 32 := 1#32
  let v89 : BitVec 32 := Scalar.divsi v87 c1_i32_78
  let v90 : BitVec 32 := Scalar.muli v89 c1_i32_78
  let v91 : BitVec 32 := Scalar.addi v86 v90
  let c1_i32_80 : BitVec 32 := 1#32
  let arg21 : BitVec 32 := Scf.iv v91 c1_i32_80 k0_t6
  let c3_i32_85 : BitVec 32 := 3#32
  let v95 : BitVec 32 := Scalar.remsi arg21 c3_i32_85
  ![v95.toNat]
def k0_off544 (v58_1 : BitVec 32) (k0_t6 : Fin (k0_t6_loop v58_1).trips) : Fin 3 → Nat :=
  let c3_i32_75 : BitVec 32 := 3#32
  let v85 : BitVec 32 := Scalar.subi v58_1 c3_i32_75
  let c0_i32_76 : BitVec 32 := 0#32
  let v86 : BitVec 32 := Scalar.maxsi v85 c0_i32_76
  let v87 : BitVec 32 := Scalar.subi v58_1 v86
  let c1_i32_78 : BitVec 32 := 1#32
  let v89 : BitVec 32 := Scalar.divsi v87 c1_i32_78
  let v90 : BitVec 32 := Scalar.muli v89 c1_i32_78
  let v91 : BitVec 32 := Scalar.addi v86 v90
  let c1_i32_80 : BitVec 32 := 1#32
  let arg21 : BitVec 32 := Scf.iv v91 c1_i32_80 k0_t6
  let c3_i32_85 : BitVec 32 := 3#32
  let v95 : BitVec 32 := Scalar.remsi arg21 c3_i32_85
  let c0_i32_89 : BitVec 32 := 0#32
  let c0_i32_90 : BitVec 32 := 0#32
  ![v95.toNat, 0, 0]

def k0_chk4 (v58_1 : BitVec 32) : Prop :=
  ((k0_t5_loop v58_1).OK) ∧
  (∀ k0_t5 : Fin (k0_t5_loop v58_1).trips, ∀ a, (k0_off541 v58_1 k0_t5) a + S1.size a ≤ S3.size a) ∧
  (∀ k0_t5 : Fin (k0_t5_loop v58_1).trips, ∀ a, (k0_off542 v58_1 k0_t5) a + S1x2048x1408.size a ≤ S3x2048x1408.size a) ∧
  ((k0_t6_loop v58_1).OK) ∧
  (∀ k0_t6 : Fin (k0_t6_loop v58_1).trips, ∀ a, (k0_off543 v58_1 k0_t6) a + S1.size a ≤ S3.size a) ∧
  (∀ k0_t6 : Fin (k0_t6_loop v58_1).trips, ∀ a, (k0_off544 v58_1 k0_t6) a + S1x2048x1408.size a ≤ S3x2048x1408.size a)
theorem k0_t5_ok : ∀ (v58_1 : BitVec 32) (k0_hw4 : k0_chk4 v58_1), (k0_t5_loop v58_1).OK := fun v58_1 k0_hw4 => k0_hw4.1
theorem k0_off541_inb : ∀ (v58_1 : BitVec 32) (k0_hw4 : k0_chk4 v58_1) (k0_t5 : Fin (k0_t5_loop v58_1).trips), ∀ a, (k0_off541 v58_1 k0_t5) a + S1.size a ≤ S3.size a := fun v58_1 k0_hw4 k0_t5 => k0_hw4.2.1 k0_t5
theorem k0_off542_inb : ∀ (v58_1 : BitVec 32) (k0_hw4 : k0_chk4 v58_1) (k0_t5 : Fin (k0_t5_loop v58_1).trips), ∀ a, (k0_off542 v58_1 k0_t5) a + S1x2048x1408.size a ≤ S3x2048x1408.size a := fun v58_1 k0_hw4 k0_t5 => k0_hw4.2.2.1 k0_t5
theorem k0_t6_ok : ∀ (v58_1 : BitVec 32) (k0_hw4 : k0_chk4 v58_1), (k0_t6_loop v58_1).OK := fun v58_1 k0_hw4 => k0_hw4.2.2.2.1
theorem k0_off543_inb : ∀ (v58_1 : BitVec 32) (k0_hw4 : k0_chk4 v58_1) (k0_t6 : Fin (k0_t6_loop v58_1).trips), ∀ a, (k0_off543 v58_1 k0_t6) a + S1.size a ≤ S3.size a := fun v58_1 k0_hw4 k0_t6 => k0_hw4.2.2.2.2.1 k0_t6
theorem k0_off544_inb : ∀ (v58_1 : BitVec 32) (k0_hw4 : k0_chk4 v58_1) (k0_t6 : Fin (k0_t6_loop v58_1).trips), ∀ a, (k0_off544 v58_1 k0_t6) a + S1x2048x1408.size a ≤ S3x2048x1408.size a := fun v58_1 k0_hw4 k0_t6 => k0_hw4.2.2.2.2.2 k0_t6

@[reducible] def k0_t7_loop : Scf.Loop 32 :=
  let c0_i32_81 : BitVec 32 := 0#32
  let c64_i32_82 : BitVec 32 := 64#32
  let v94 : BitVec 32 := Scalar.addi c0_i32_81 c64_i32_82
  let c1_i32_83 : BitVec 32 := 1#32
  ⟨c0_i32_81, v94, c1_i32_83⟩
def k0_off545 (k0_t7 : Fin k0_t7_loop.trips) : Fin 1 → Nat :=
  let c0_i32_81 : BitVec 32 := 0#32
  let c1_i32_83 : BitVec 32 := 1#32
  let arg21 : BitVec 32 := Scf.iv c0_i32_81 c1_i32_83 k0_t7
  let v95 : Index := Scalar.indexCast arg21
  ![v95.toNat]
def k0_off546 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c0_i32_88 : BitVec 32 := 0#32
  let c0_i32_89 : BitVec 32 := 0#32
  ![arg21.toNat, 0, 0]
def k0_off547 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c256_i32_91 : BitVec 32 := 256#32
  let c0_i32_92 : BitVec 32 := 0#32
  ![arg21.toNat, 256, 0]
def k0_off548 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c512_i32 : BitVec 32 := 512#32
  let c0_i32_94 : BitVec 32 := 0#32
  ![arg21.toNat, 512, 0]
def k0_off549 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c768_i32 : BitVec 32 := 768#32
  let c0_i32_96 : BitVec 32 := 0#32
  ![arg21.toNat, 768, 0]
def k0_off550 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c1024_i32 : BitVec 32 := 1024#32
  let c0_i32_98 : BitVec 32 := 0#32
  ![arg21.toNat, 1024, 0]
def k0_off551 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c1280_i32 : BitVec 32 := 1280#32
  let c0_i32_100 : BitVec 32 := 0#32
  ![arg21.toNat, 1280, 0]
def k0_off552 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c1536_i32 : BitVec 32 := 1536#32
  let c0_i32_102 : BitVec 32 := 0#32
  ![arg21.toNat, 1536, 0]
def k0_off553 (k0_t7 : Fin k0_t7_loop.trips) : Fin 3 → Nat :=
  let c0_i32_81 : BitVec 32 := 0#32
  let c1_i32_83 : BitVec 32 := 1#32
  let arg21 : BitVec 32 := Scf.iv c0_i32_81 c1_i32_83 k0_t7
  let c1792_i32 : BitVec 32 := 1792#32
  let c0_i32_104 : BitVec 32 := 0#32
  ![arg21.toNat, 1792, 0]
abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S49152x2048 : Shape := ⟨2, ![49152, 2048]⟩
abbrev S49152x1408 : Shape := ⟨2, ![49152, 1408]⟩
abbrev S64 : Shape := ⟨1, ![64]⟩
abbrev S64x2048x1408 : Shape := ⟨3, ![64, 2048, 1408]⟩
abbrev S384x2048 : Shape := ⟨2, ![384, 2048]⟩
abbrev S384x11 : Shape := ⟨2, ![384, 11]⟩
abbrev S384x128x2048 : Shape := ⟨3, ![384, 128, 2048]⟩
abbrev S253x384x2048 : Shape := ⟨3, ![253, 384, 2048]⟩
abbrev S1x384x2048 : Shape := ⟨3, ![1, 384, 2048]⟩
abbrev S384x1x2048 : Shape := ⟨3, ![384, 1, 2048]⟩
abbrev S384x128x11x128 : Shape := ⟨4, ![384, 128, 11, 128]⟩
abbrev S384x128x11 : Shape := ⟨3, ![384, 128, 11]⟩
abbrev S253x384x11 : Shape := ⟨3, ![253, 384, 11]⟩
abbrev S1x384x11 : Shape := ⟨3, ![1, 384, 11]⟩
abbrev S384x1x11x1 : Shape := ⟨4, ![384, 1, 11, 1]⟩
abbrev S1 : Shape := ⟨1, ![1]⟩
abbrev S2048x1408 : Shape := ⟨2, ![2048, 1408]⟩
abbrev S1x2048x1408 : Shape := ⟨3, ![1, 2048, 1408]⟩

abbrev nBuf : Space → Nat
  | .hbm => 8
  | .vmem => 7
  | .smem => 1
  | _ => 0

abbrev bufTy : (tb : Table) → Fin (tcTables nBuf tb) → BufTy
  | .hbm, ⟨0, _⟩ => ⟨S49152x2048, .bf16⟩
  | .hbm, ⟨1, _⟩ => ⟨S49152x1408, .bf16⟩
  | .hbm, ⟨2, _⟩ => ⟨S64, .i32⟩
  | .hbm, ⟨3, _⟩ => ⟨S64x2048x1408, .f32⟩
  | .hbm, ⟨4, _⟩ => ⟨S49152x2048, .fp8e4m3⟩
  | .hbm, ⟨5, _⟩ => ⟨S384x2048, .f32⟩
  | .hbm, ⟨6, _⟩ => ⟨S49152x1408, .fp8e5m2⟩
  | .hbm, ⟨7, _⟩ => ⟨S384x11, .f32⟩
  | .local _ .vmem, ⟨0, _⟩ => ⟨S49152x2048, .bf16⟩
  | .local _ .vmem, ⟨1, _⟩ => ⟨S49152x1408, .bf16⟩
  | .local _ .vmem, ⟨2, _⟩ => ⟨S64x2048x1408, .f32⟩
  | .local _ .vmem, ⟨3, _⟩ => ⟨S49152x2048, .fp8e4m3⟩
  | .local _ .vmem, ⟨4, _⟩ => ⟨S384x2048, .f32⟩
  | .local _ .vmem, ⟨5, _⟩ => ⟨S49152x1408, .fp8e5m2⟩
  | .local _ .vmem, ⟨6, _⟩ => ⟨S384x11, .f32⟩
  | .local _ .smem, ⟨0, _⟩ => ⟨S64, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_30 : BitVec 32 := 0#32
  let c64_i32 : BitVec 32 := 64#32
  let v84 : BitVec 32 := Scalar.addi c0_i32_30 c64_i32
  let c1_i32 : BitVec 32 := 1#32
  ⟨c0_i32_30, v84, c1_i32⟩
def k0_off1 (k0_t1 : Fin k0_t1_loop.trips) : Fin 1 → Nat :=
  let c0_i32_30 : BitVec 32 := 0#32
  let c1_i32 : BitVec 32 := 1#32
  let arg8 : BitVec 32 := Scf.iv c0_i32_30 c1_i32 k0_t1
  let v86 : Index := Scalar.indexCast arg8
  ![v86.toNat]
def k0_off2 (k0_t1 : Fin k0_t1_loop.trips) : Fin 3 → Nat :=
  let c0_i32_30 : BitVec 32 := 0#32
  let c1_i32 : BitVec 32 := 1#32
  let arg8 : BitVec 32 := Scf.iv c0_i32_30 c1_i32 k0_t1
  let v97 : Index := Scalar.indexCast arg8
  let c0_34 : Index := 0#32
  let c0_35 : Index := 0#32
  ![v97.toNat, 0, 0]
abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S49152x1408 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pieces.lean ====
/- The kernel body put back together from short pieces: quantising one block of a tile, waiting for a
   tile and handing it on, taking the window of tokens, and multiplying one chunk of it. Each piece is
   a function of the tile number and of the places in it, so that what is proved about it is proved once. -/
module

public import proofs.«01_k».proof.Defs
public import proofs.«01_k».proof.Proof.Gen.KernelIdeal
public import Idealize.ShloMosaic.Lib.Tactic
public import Idealize.ShloMosaic.Lib.Affine
public import Idealize.ShloMosaic.Adequacy
@[expose] public section
noncomputable section
open Idealize.ShloMosaic Idealize.ShloMosaic.TcCoe Idealize.ShloMosaic.Tactic
open Idealize.SL Idealize.SL.Sem

namespace Cert.KernelIdeal.Hand
open Cert.KernelIdeal Facts₀ Facts

variable {F : FTy → Type} [FloatOps F]

/-! ## Words as numbers -/

theorem toNat_of_toInt {x : BitVec 32} {n : Nat} (h : x.toInt = (n : Int)) : x.toNat = n := by
  have := x.isLt
  rw [BitVec.toInt_eq_toNat_cond] at h
  split at h <;> omega

theorem toInt_of_lt {x : BitVec 32} (h : x.toNat < 2147483648) : x.toInt = (x.toNat : Int) := by
  rw [BitVec.toInt_eq_toNat_cond, if_pos (by omega)]

theorem isInt_iff {x : BitVec 32} {e : Int} : Affine.IsInt x e ↔ x.toInt = e := by unfold Affine.IsInt; exact Iff.rfl

theorem isInt_of_lt {x : BitVec 32} (h : x.toNat < 2147483648) : Affine.IsInt x (x.toNat : Int) :=
  isInt_iff.mpr (toInt_of_lt h)

theorem toNat_of_isInt {x : BitVec 32} {n : Nat} (h : Affine.IsInt x (n : Int)) : x.toNat = n :=
  toNat_of_toInt (isInt_iff.mp h)

theorem remsi_toNat (q d : BitVec 32) (hq : q.toNat < 2147483648) (hd : d.toNat < 2147483648) (h0 : 0 < d.toNat) :
    (Scalar.remsi q d).toNat = q.toNat % d.toNat :=
  toNat_of_isInt (Affine.remsi (isInt_of_lt hq) (isInt_of_lt hd) ⟨by omega, by omega, by omega⟩)

theorem divsi_toNat (q d : BitVec 32) (hq : q.toNat < 2147483648) (hd : d.toNat < 2147483648) (h0 : 0 < d.toNat) :
    (Scalar.divsi q d).toNat = q.toNat / d.toNat :=
  toNat_of_isInt (Affine.divsi (isInt_of_lt hq) (isInt_of_lt hd) ⟨by omega, by omega, by omega⟩)

theorem addi_toNat (x y : BitVec 32) (h : x.toNat + y.toNat < 4294967296) : (Scalar.addi x y).toNat = x.toNat + y.toNat := by
  show (x + y).toNat = _
  rw [BitVec.toNat_add]; exact Nat.mod_eq_of_lt h

theorem muli_toNat (x y : BitVec 32) (h : x.toNat * y.toNat < 4294967296) : (Scalar.muli x y).toNat = x.toNat * y.toNat := by
  show (x * y).toNat = _
  rw [BitVec.toNat_mul]; exact Nat.mod_eq_of_lt h

theorem subi_toNat (x y : BitVec 32) (h : y.toNat ≤ x.toNat) : (Scalar.subi x y).toNat = x.toNat - y.toNat := by
  show (x - y).toNat = _
  exact BitVec.toNat_sub_of_le (by simpa [BitVec.le_def] using h)

section cmp
variable {x y : BitVec 32} (hx : x.toNat < 2147483648) (hy : y.toNat < 2147483648)
include hx hy
theorem eq_iff : Scalar.cmpi .eq x y = 1#1 ↔ x.toNat = y.toNat :=
  ⟨fun h => by_contra fun hn => Affine.eq_fails (isInt_of_lt hx) (isInt_of_lt hy) (by omega) h,
    fun h => Affine.eq_holds (isInt_of_lt hx) (isInt_of_lt hy) (by omega)⟩
theorem slt_iff : Scalar.cmpi .slt x y = 1#1 ↔ x.toNat < y.toNat :=
  ⟨fun h => by_contra fun hn => Affine.slt_fails (isInt_of_lt hx) (isInt_of_lt hy) (by omega) h,
    fun h => Affine.slt_holds (isInt_of_lt hx) (isInt_of_lt hy) (by omega)⟩
theorem sgt_iff : Scalar.cmpi .sgt x y = 1#1 ↔ y.toNat < x.toNat :=
  ⟨fun h => by_contra fun hn => Affine.sgt_fails (isInt_of_lt hx) (isInt_of_lt hy) (by omega) h,
    fun h => Affine.sgt_holds (isInt_of_lt hx) (isInt_of_lt hy) (by omega)⟩
theorem sge_iff : Scalar.cmpi .sge x y = 1#1 ↔ y.toNat ≤ x.toNat :=
  ⟨fun h => by_contra fun hn => Affine.sge_fails (isInt_of_lt hx) (isInt_of_lt hy) (by omega) h,
    fun h => Affine.sge_holds (isInt_of_lt hx) (isInt_of_lt hy) (by omega)⟩
end cmp

theorem andi_iff (c d : BitVec 1) : Scalar.andi c d = 1#1 ↔ c = 1#1 ∧ d = 1#1 := by
  revert c d; decide

/-! ## Offsets -/

/-- Inside the ring of four incoming tiles. -/
abbrev oIn (q : BitVec 32) (r c : Nat) : Fin 3 → Nat := ![(Scalar.indexCast (Scalar.remsi q 4#32)).toNat, r, c]
/-- Inside the pair of outgoing tiles of codes. -/
abbrev oOut (q : BitVec 32) (r c : Nat) : Fin 3 → Nat := ![(Scalar.indexCast (Scalar.remsi q 2#32)).toNat, r, c]
/-- The row of a block's scales. -/
abbrev oS (q : BitVec 32) (b c : Nat) : Fin 2 → Nat :=
  ![(Scalar.indexCast (Scalar.addi (Scalar.muli 2#32 q) (BitVec.ofNat 32 b))).toNat, c]
/-- Inside the ring of dequantised tiles. -/
abbrev oW (q : BitVec 32) (r c : Nat) : Fin 2 → Nat :=
  ![(Scalar.indexCast (Scalar.addi (Scalar.muli (Scalar.remsi q 4#32) 256#32) (BitVec.ofNat 32 r))).toNat, c]
/-- The rows of a tile in the arrays of all tokens. -/
abbrev oRow (q : BitVec 32) : Fin 2 → Nat := ![(Scalar.muli q 256#32).toNat, 0]

theorem oIn_eq {q : BitVec 32} (hq : q.toNat < 192) (r c : Nat) : oIn q r c = ![q.toNat % 4, r, c] := by
  show ![(Scalar.remsi q 4#32).toNat, r, c] = _
  rw [remsi_toNat q 4#32 (by omega) (by decide) (by decide)]; rfl
theorem oOut_eq {q : BitVec 32} (hq : q.toNat < 192) (r c : Nat) : oOut q r c = ![q.toNat % 2, r, c] := by
  show ![(Scalar.remsi q 2#32).toNat, r, c] = _
  rw [remsi_toNat q 2#32 (by omega) (by decide) (by decide)]; rfl
theorem oS_eq {q : BitVec 32} (hq : q.toNat < 192) {b : Nat} (hb : b < 2) (c : Nat) : oS q b c = ![2 * q.toNat + b, c] := by
  show ![(Scalar.addi (Scalar.muli 2#32 q) (BitVec.ofNat 32 b)).toNat, c] = _
  have h1 : (BitVec.ofNat 32 b).toNat = b := by rw [BitVec.toNat_ofNat]; omega
  have h2 : (Scalar.muli 2#32 q).toNat = 2 * q.toNat := muli_toNat _ _ (by show 2 * _ < _; omega)
  rw [addi_toNat _ _ (by rw [h1, h2]; omega), h1, h2]
theorem oW_eq {q : BitVec 32} (hq : q.toNat < 192) {r : Nat} (hr : r < 256) (c : Nat) :
    oW q r c = ![256 * (q.toNat % 4) + r, c] := by
  show ![(Scalar.addi (Scalar.muli (Scalar.remsi q 4#32) 256#32) (BitVec.ofNat 32 r)).toNat, c] = _
  have h0 : (Scalar.remsi q 4#32).toNat = q.toNat % 4 := remsi_toNat q 4#32 (by omega) (by decide) (by decide)
  have h1 : (BitVec.ofNat 32 r).toNat = r := by rw [BitVec.toNat_ofNat]; omega
  have h2 : (Scalar.muli (Scalar.remsi q 4#32) 256#32).toNat = 256 * (q.toNat % 4) := by
    rw [muli_toNat _ _ (by rw [h0]; show _ * 256 < _; omega), h0]; show _ * 256 = _; omega
  rw [addi_toNat _ _ (by rw [h1, h2]; omega), h1, h2]
theorem oRow_eq {q : BitVec 32} (hq : q.toNat < 192) : oRow q = ![256 * q.toNat, 0] := by
  show ![(Scalar.muli q 256#32).toNat, 0] = _
  rw [muli_toNat _ _ (by show _ * 256 < _; omega)]
  show ![q.toNat * 256, 0] = _
  rw [Nat.mul_comm]

/-! ## Facts about the places -/

theorem packed_of {s : Shape} {p : Nat} {off size : Fin s.rank → Nat} {inb : ∀ a, off a + size a ≤ s.size a}
    (h2 : 2 ≤ s.rank) (d1 : p ∣ off (s.rowAx h2)) (d2 : p ∣ size (s.rowAx h2)) :
    (Rect.unit (s := s) off size inb).PackedRows p := .inr ⟨h2, rfl, .inl ⟨d1, d2⟩⟩

theorem inb3 {A B C a b c : Nat} {x y z : Nat} (h1 : x + a ≤ A) (h2 : y + b ≤ B) (h3 : z + c ≤ C) :
    ∀ k, (![x, y, z] : Fin 3 → Nat) k + (![a, b, c] : Fin 3 → Nat) k ≤ (![A, B, C] : Fin 3 → Nat) k := by
  intro k; match k with | 0 => exact h1 | 1 => exact h2 | 2 => exact h3
theorem inb2 {A B a b : Nat} {x y : Nat} (h1 : x + a ≤ A) (h2 : y + b ≤ B) :
    ∀ k, (![x, y] : Fin 2 → Nat) k + (![a, b] : Fin 2 → Nat) k ≤ (![A, B] : Fin 2 → Nat) k := by
  intro k; match k with | 0 => exact h1 | 1 => exact h2
theorem inb1 {A a x : Nat} (h1 : x + a ≤ A) :
    ∀ k, (![x] : Fin 1 → Nat) k + (![a] : Fin 1 → Nat) k ≤ (![A] : Fin 1 → Nat) k := by
  intro k; match k with | 0 => exact h1

section facts
variable {q : BitVec 32} (hq : q.toNat < 192) {r c b : Nat}
include hq

theorem inX_inb (hr : r + 128 ≤ 256) (hc : c + 256 ≤ 2048) : ∀ a, oIn q r c a + S1x128x256.size a ≤ S4x256x2048.size a := by
  rw [oIn_eq hq]; exact inb3 (by omega) hr hc
theorem inY_inb (hr : r + 128 ≤ 256) (hc : c + 128 ≤ 1408) : ∀ a, oIn q r c a + S1x128x128.size a ≤ S4x256x1408.size a := by
  rw [oIn_eq hq]; exact inb3 (by omega) hr hc
theorem outX_inb (hr : r + 128 ≤ 256) (hc : c + 256 ≤ 2048) : ∀ a, oOut q r c a + S1x128x256.size a ≤ S2x256x2048.size a := by
  rw [oOut_eq hq]; exact inb3 (by omega) hr hc
theorem outY_inb (hr : r + 128 ≤ 256) (hc : c + 128 ≤ 1408) : ∀ a, oOut q r c a + S1x128x128.size a ≤ S2x256x1408.size a := by
  rw [oOut_eq hq]; exact inb3 (by omega) hr hc
theorem sX_inb (hb : b < 2) (hc : c + 256 ≤ 2048) : ∀ a, oS q b c a + S1x256.size a ≤ S384x2048.size a := by
  rw [oS_eq hq hb]; exact inb2 (by omega) hc
theorem sY_inb (hb : b < 2) (hc : c + 1 ≤ 11) : ∀ a, oS q b c a + S1x1.size a ≤ S384x11.size a := by
  rw [oS_eq hq hb]; exact inb2 (by omega) hc
theorem wX_inb (hr : r + 128 ≤ 256) (hc : c + 256 ≤ 2048) : ∀ a, oW q r c a + S128x256.size a ≤ S1280x2048.size a := by
  rw [oW_eq hq (by omega)]; exact inb2 (by omega) hc
theorem wY_inb (hr : r + 128 ≤ 256) (hc : c + 128 ≤ 1408) : ∀ a, oW q r c a + S128x128.size a ≤ S1280x1408.size a := by
  rw [oW_eq hq (by omega)]; exact inb2 (by omega) hc
theorem outX_packed (hr : r + 128 ≤ 256) (hc : c + 256 ≤ 2048) (h4 : 4 ∣ r) :
    (Rect.unit (s := S2x256x2048) (oOut q r c) S1x128x256.size (outX_inb hq hr hc)).PackedRows (EltTy.packing .fp8e4m3) :=
  packed_of (by decide) (by exact h4) (by decide)
theorem outY_packed (hr : r + 128 ≤ 256) (hc : c + 128 ≤ 1408) (h4 : 4 ∣ r) :
    (Rect.unit (s := S2x256x1408) (oOut q r c) S1x128x128.size (outY_inb hq hr hc)).PackedRows (EltTy.packing .fp8e5m2) :=
  packed_of (by decide) (by exact h4) (by decide)
theorem oW_even (hr : r < 256) (h2 : 2 ∣ r) : 2 ∣ oW q r c 0 := by
  rw [oW_eq hq hr]; show 2 ∣ 256 * (q.toNat % 4) + r; omega
theorem wX_packed (hr : r + 128 ≤ 256) (hc : c + 256 ≤ 2048) (h2 : 2 ∣ r) :
    (Rect.unit (s := S1280x2048) (oW q r c) S128x256.size (wX_inb hq hr hc)).PackedRows (EltTy.packing .bf16) :=
  packed_of (by decide) (oW_even hq (by omega) h2) (by decide)
theorem wY_packed (hr : r + 128 ≤ 256) (hc : c + 128 ≤ 1408) (h2 : 2 ∣ r) :
    (Rect.unit (s := S1280x1408) (oW q r c) S128x128.size (wY_inb hq hr hc)).PackedRows (EltTy.packing .bf16) :=
  packed_of (by decide) (oW_even hq (by omega) h2) (by decide)

theorem slotX_inb : ∀ a, oIn q 0 0 a + S1x256x2048.size a ≤ S4x256x2048.size a := by
  rw [oIn_eq hq]; exact inb3 (by omega) (by omega) (by omega)
theorem slotY_inb : ∀ a, oIn q 0 0 a + S1x256x1408.size a ≤ S4x256x1408.size a := by
  rw [oIn_eq hq]; exact inb3 (by omega) (by omega) (by omega)
theorem cslotX_inb : ∀ a, oOut q 0 0 a + S1x256x2048.size a ≤ S2x256x2048.size a := by
  rw [oOut_eq hq]; exact inb3 (by omega) (by omega) (by omega)
theorem cslotY_inb : ∀ a, oOut q 0 0 a + S1x256x1408.size a ≤ S2x256x1408.size a := by
  rw [oOut_eq hq]; exact inb3 (by omega) (by omega) (by omega)
theorem rowX_inb : ∀ a, oRow q a + S256x2048.size a ≤ S49152x2048.size a := by
  rw [oRow_eq hq]; exact inb2 (by omega) (by omega)
theorem rowY_inb : ∀ a, oRow q a + S256x1408.size a ≤ S49152x1408.size a := by
  rw [oRow_eq hq]; exact inb2 (by omega) (by omega)
theorem oRow_dvd {p : Nat} (hp : p ∣ 256) : p ∣ oRow q 0 := by
  rw [oRow_eq hq]; exact Dvd.dvd.mul_right hp _
theorem slotX_words : (Rect.unit (s := S4x256x2048) (oIn q 0 0) S1x256x2048.size (slotX_inb hq)).WholeWords (EltTy.packing .bf16) :=
  .inl (packed_of (by decide) (by exact Nat.dvd_zero _) (by decide))
theorem slotY_words : (Rect.unit (s := S4x256x1408) (oIn q 0 0) S1x256x1408.size (slotY_inb hq)).WholeWords (EltTy.packing .bf16) :=
  .inl (packed_of (by decide) (by exact Nat.dvd_zero _) (by decide))
theorem cslotX_words : (Rect.unit (s := S2x256x2048) (oOut q 0 0) S1x256x2048.size (cslotX_inb hq)).WholeWords (EltTy.packing .fp8e4m3) :=
  .inl (packed_of (by decide) (by exact Nat.dvd_zero _) (by decide))
theorem cslotY_words : (Rect.unit (s := S2x256x1408) (oOut q 0 0) S1x256x1408.size (cslotY_inb hq)).WholeWords (EltTy.packing .fp8e5m2) :=
  .inl (packed_of (by decide) (by exact Nat.dvd_zero _) (by decide))
theorem rowX_words : (Rect.unit (s := S49152x2048) (oRow q) S256x2048.size (rowX_inb hq)).WholeWords (EltTy.packing .bf16) :=
  .inl (packed_of (by decide) (oRow_dvd hq (by decide)) (by decide))
theorem rowY_words : (Rect.unit (s := S49152x1408) (oRow q) S256x1408.size (rowY_inb hq)).WholeWords (EltTy.packing .bf16) :=
  .inl (packed_of (by decide) (oRow_dvd hq (by decide)) (by decide))
theorem crowX_words : (Rect.unit (s := S49152x2048) (oRow q) S256x2048.size (rowX_inb hq)).WholeWords (EltTy.packing .fp8e4m3) :=
  .inl (packed_of (by decide) (oRow_dvd hq (by decide)) (by decide))
theorem crowY_words : (Rect.unit (s := S49152x1408) (oRow q) S256x1408.size (rowY_inb hq)).WholeWords (EltTy.packing .fp8e5m2) :=
  .inl (packed_of (by decide) (oRow_dvd hq (by decide)) (by decide))
theorem semIn_inb {k : Nat} (hk : k < 2) : ∀ a, (![k, (Scalar.remsi q 4#32).toNat] : Fin 2 → Nat) a + S1x1.size a ≤ S2x4.size a := by
  rw [remsi_toNat q 4#32 (by omega) (by decide) (by decide)]
  exact inb2 (by omega) (by show q.toNat % 4 + 1 ≤ 4; omega)
theorem semOut_inb {k : Nat} (hk : k < 2) : ∀ a, (![k, (Scalar.remsi q 2#32).toNat] : Fin 2 → Nat) a + S1x1.size a ≤ S2x2.size a := by
  rw [remsi_toNat q 2#32 (by omega) (by decide) (by decide)]
  exact inb2 (by omega) (by show q.toNat % 2 + 1 ≤ 2; omega)
end facts

/-! ## The buffers -/

abbrev aX : Memref sig .tc .hbm S49152x2048 .bf16 := Memref.whole main_arg0
abbrev aDy : Memref sig .tc .hbm S49152x1408 .bf16 := Memref.whole main_arg1
abbrev aDw : Memref sig .tc .hbm S64x2048x1408 .f32 := Memref.whole main_v0_0
abbrev aXc : Memref sig .tc .hbm S49152x2048 .fp8e4m3 := Memref.whole main_v0_1
abbrev aDyc : Memref sig .tc .hbm S49152x1408 .fp8e5m2 := Memref.whole main_v0_3
abbrev aGs : Memref sig .tc .smem S64 .i32 := Memref.whole cc0_stg0_0
abbrev aXs : Memref sig .tc .vmem S384x2048 .f32 := Memref.whole cc0_stg1_0
abbrev aDys : Memref sig .tc .vmem S384x11 .f32 := Memref.whole cc0_stg2_0
abbrev aXin : Memref sig .tc .vmem S4x256x2048 .bf16 := Memref.whole cc0_scratch0
abbrev aDyin : Memref sig .tc .vmem S4x256x1408 .bf16 := Memref.whole cc0_scratch1
abbrev aXco : Memref sig .tc .vmem S2x256x2048 .fp8e4m3 := Memref.whole cc0_scratch2
abbrev aDyco : Memref sig .tc .vmem S2x256x1408 .fp8e5m2 := Memref.whole cc0_scratch3
abbrev aXw : Memref sig .tc .vmem S1280x2048 .bf16 := Memref.whole cc0_scratch4
abbrev aDyw : Memref sig .tc .vmem S1280x1408 .bf16 := Memref.whole cc0_scratch5
abbrev aDym : Memref sig .tc .vmem S256x1408 .bf16 := Memref.whole cc0_scratch6
abbrev aAcc : Memref sig .tc .vmem S3x2048x1408 .f32 := Memref.whole cc0_scratch7
abbrev aZero : Memref sig .tc .vmem S256x1408 .f32 := Memref.whole cc0_scratch8

/-! ## What a block is quantised to -/

/-- The biased exponent of a block's scale less one, read off the bound the block's largest entry gives. -/
def xBiased (t : FVec F S1x256 .f32) : IVec S1x256 32 :=
  let n : IVec S1x256 32 := shapeCast S1x256 (multiReductionI .add [0] S256
    (select (cmpf .olt (broadcastTo S255x256 t broadcasts_S1x256_S255x256)
        (bitcastToFloat .f32 (shli (addi (iota .tc S255x256 32 [0] iota_S255x256_d0_w32) (broadcast S255x256 1#32)) (broadcast S255x256 23#32))))
      (broadcast S255x256 0#32) (broadcast S255x256 1#32)) 0#32 reduces_S255x256_S256 rfl) shapeCasts_S256_S1x256
  select (cmpi .eq n (broadcast S1x256 0#32)) (broadcast S1x256 126#32) n

def xBound (v : FVec F S128x256 .bf16) : FVec F S1x256 .f32 :=
  mulf (extf .f32 (shapeCast S1x256 (multiReduction .maximumf [0] S256 (absf v) 0xFF80#16 reduces_S128x256_S256 (.inr rfl) rfl) shapeCasts_S256_S1x256) bitsLt_bf16_f32)
    (broadcast S1x256 (Scalar.ofBits .f32 0x3B124925#32))

def xScale (v : FVec F S128x256 .bf16) : FVec F S1x256 .f32 :=
  bitcastToFloat .f32 (shli (addi (xBiased (xBound v)) (broadcast S1x256 1#32)) (broadcast S1x256 23#32))

def xInv (v : FVec F S128x256 .bf16) : FVec F S1x256 .f32 :=
  bitcastToFloat .f32 (shli (subi (broadcast S1x256 253#32) (xBiased (xBound v))) (broadcast S1x256 23#32))

def xCode (v : FVec F S128x256 .bf16) : FVec F S128x256 .fp8e4m3 :=
  truncf .fp8e4m3 (minimumf (broadcast S128x256 (Scalar.truncf .bf16 bitsLt_bf16_f32 (Scalar.ofBits .f32 0x43E00000#32)))
    (maximumf (broadcast S128x256 (Scalar.truncf .bf16 bitsLt_bf16_f32 (Scalar.ofBits .f32 0xC3E00000#32)))
      (mulf v (broadcastTo S128x256 (truncf .bf16 (xInv v) bitsLt_bf16_f32) broadcasts_S1x256_S128x256)))) bitsLt_fp8e4m3_bf16

def xDeq (v : FVec F S128x256 .bf16) : FVec F S128x256 .bf16 :=
  mulf (extf .bf16 (xCode v) bitsLt_fp8e4m3_bf16) (broadcastTo S128x256 (truncf .bf16 (xScale v) bitsLt_bf16_f32) broadcasts_S1x256_S128x256)

def yBiased (t : FVec F S1x128 .f32) : IVec S1x128 32 :=
  let n : IVec S1x128 32 := shapeCast S1x128 (multiReductionI .add [0] S128
    (select (cmpf .olt (broadcastTo S255x128 t broadcasts_S1x128_S255x128)
        (bitcastToFloat .f32 (shli (addi (iota .tc S255x128 32 [0] iota_S255x128_d0_w32) (broadcast S255x128 1#32)) (broadcast S255x128 23#32))))
      (broadcast S255x128 0#32) (broadcast S255x128 1#32)) 0#32 reduces_S255x128_S128 rfl) shapeCasts_S128_S1x128
  select (cmpi .eq n (broadcast S1x128 0#32)) (broadcast S1x128 126#32) n

def yBound (v : FVec F S128x128 .bf16) : FVec F S1x128 .f32 :=
  mulf (broadcastTo S1x128 (shapeCast S1x1 (shapeCast S1x1 (multiReduction .maximumf [1] S1
      (extf .f32 (shapeCast S1x128 (multiReduction .maximumf [0] S128 (absf v) 0xFF80#16 reduces_S128x128_S128 (.inr rfl) rfl) shapeCasts_S128_S1x128) bitsLt_bf16_f32)
      0xFF800000#32 reduces_S1x128_S1 (.inl rfl) rfl) shapeCasts_S1_S1x1) shapeCasts_S1x1_S1x1) broadcasts_S1x1_S1x128)
    (broadcast S1x128 (Scalar.ofBits .f32 0x37924925#32))

def yScale (v : FVec F S128x128 .bf16) : FVec F S1x128 .f32 :=
  bitcastToFloat .f32 (shli (addi (yBiased (yBound v)) (broadcast S1x128 1#32)) (broadcast S1x128 23#32))

def yInv (v : FVec F S128x128 .bf16) : FVec F S1x128 .f32 :=
  bitcastToFloat .f32 (shli (subi (broadcast S1x128 253#32) (yBiased (yBound v))) (broadcast S1x128 23#32))

def yCode (v : FVec F S128x128 .bf16) : FVec F S128x128 .fp8e5m2 :=
  truncf .fp8e5m2 (minimumf (broadcast S128x128 (Scalar.truncf .bf16 bitsLt_bf16_f32 (Scalar.ofBits .f32 0x47600000#32)))
    (maximumf (broadcast S128x128 (Scalar.truncf .bf16 bitsLt_bf16_f32 (Scalar.ofBits .f32 0xC7600000#32)))
      (mulf v (broadcastTo S128x128 (truncf .bf16 (yInv v) bitsLt_bf16_f32) broadcasts_S1x128_S128x128)))) bitsLt_fp8e5m2_bf16

def yDeq (v : FVec F S128x128 .bf16) : FVec F S128x128 .bf16 :=
  mulf (extf .bf16 (yCode v) bitsLt_fp8e5m2_bf16) (broadcastTo S128x128 (truncf .bf16 (yScale v) bitsLt_bf16_f32) broadcasts_S1x128_S128x128)

def yScale1 (v : FVec F S128x128 .bf16) : FVec F S1x1 .f32 := extractStridedSlice S1x1 ![0, 0] (yScale v) slices_S1x128_o0_0_S1x1

/-! ## Quantising one block -/

/-- A block of `x`: read it, store its scale, its codes and what the codes stand for. -/
def quantX (q : BitVec 32) (hq : q.toNat < 192) (b i : Nat) (hb : b < 2) (hi : i < 8) :
    Prog (TpuEff nD τ sig (Elt F) Λ₀ .tc) PUnit := do
  have hr : 128 * b + 128 ≤ 256 := by omega
  have hc : 256 * i + 256 ≤ 2048 := by omega
  let v0 : Vec F S1x128x256 .bf16 ← Prog.lift (.load aXin (Rect.unit (s := S4x256x2048) (oIn q (128 * b) (256 * i)) S1x128x256.size (inX_inb hq hr hc)).toLoadRect (View.loadsAt_vmem h_S1x128x256))
  let v : FVec F S128x256 .bf16 := shapeCast S128x256 v0 shapeCasts_S1x128x256_S128x256
  let _v1 : Vec F S1x256 .f32 ← Prog.lift (.load aXs (Rect.unit (s := S384x2048) (oS q b (256 * i)) S1x256.size (sX_inb hq hb hc)).toLoadRect (View.loadsAt_vmem h_S1x256))
  Prog.lift (.store aXs (Rect.unit (s := S384x2048) (oS q b (256 * i)) S1x256.size (sX_inb hq hb hc)) (xScale v) Finset.univ (View.stores_vmem_bits_univ h_S1x256 rfl) (.inl rfl))
  let _v2 : Vec F S1x128x256 .fp8e4m3 ← Prog.lift (.load aXco (Rect.unit (s := S2x256x2048) (oOut q (128 * b) (256 * i)) S1x128x256.size (outX_inb hq hr hc)).toLoadRect (View.loadsAt_vmem h_S1x128x256))
  Prog.lift (.store aXco (Rect.unit (s := S2x256x2048) (oOut q (128 * b) (256 * i)) S1x128x256.size (outX_inb hq hr hc)) (shapeCast S1x128x256 (xCode v) shapeCasts_S128x256_S1x128x256) Finset.univ (View.stores_vmem h_S1x128x256 ((Memref.isWhole_whole cc0_scratch2).storeExact_slice rfl _ (outX_packed hq hr hc (by omega))) (fun _ => rfl)) (.inl rfl))
  let _v3 : Vec F S128x256 .bf16 ← Prog.lift (.load aXw (Rect.unit (s := S1280x2048) (oW q (128 * b) (256 * i)) S128x256.size (wX_inb hq hr hc)).toLoadRect (View.loadsAt_vmem h_S128x256))
  Prog.lift (.store aXw (Rect.unit (s := S1280x2048) (oW q (128 * b) (256 * i)) S128x256.size (wX_inb hq hr hc)) (shapeCast S128x256 (xDeq v) shapeCasts_S128x256_S128x256) Finset.univ (View.stores_vmem h_S128x256 ((Memref.isWhole_whole cc0_scratch4).storeExact_slice rfl _ (wX_packed hq hr hc (by omega))) (fun _ => rfl)) (.inl rfl))

/-- A block of `dy`, likewise; its scale is one number. -/
def quantY (q : BitVec 32) (hq : q.toNat < 192) (b j : Nat) (hb : b < 2) (hj : j < 11) :
    Prog (TpuEff nD τ sig (Elt F) Λ₀ .tc) PUnit := do
  have hr : 128 * b + 128 ≤ 256 := by omega
  have hc : 128 * j + 128 ≤ 1408 := by omega
  let v0 : Vec F S1x128x128 .bf16 ← Prog.lift (.load aDyin (Rect.unit (s := S4x256x1408) (oIn q (128 * b) (128 * j)) S1x128x128.size (inY_inb hq hr hc)).toLoadRect (View.loadsAt_vmem h_S1x128x128))
  let v : FVec F S128x128 .bf16 := shapeCast S128x128 v0 shapeCasts_S1x128x128_S128x128
  let _v1 : Vec F S1x1 .f32 ← Prog.lift (.load aDys (Rect.unit (s := S384x11) (oS q b j) S1x1.size (sY_inb hq hb hj)).toLoadRect (View.loadsAt_vmem h_S1x1))
  Prog.lift (.store aDys (Rect.unit (s := S384x11) (oS q b j) S1x1.size (sY_inb hq hb hj)) (yScale1 v) Finset.univ (View.stores_vmem_bits_univ h_S1x1 rfl) (.inl rfl))
  let _v2 : Vec F S1x128x128 .fp8e5m2 ← Prog.lift (.load aDyco (Rect.unit (s := S2x256x1408) (oOut q (128 * b) (128 * j)) S1x128x128.size (outY_inb hq hr hc)).toLoadRect (View.loadsAt_vmem h_S1x128x128))
  Prog.lift (.store aDyco (Rect.unit (s := S2x256x1408) (oOut q (128 * b) (128 * j)) S1x128x128.size (outY_inb hq hr hc)) (shapeCast S1x128x128 (yCode v) shapeCasts_S128x128_S1x128x128) Finset.univ (View.stores_vmem h_S1x128x128 ((Memref.isWhole_whole cc0_scratch3).storeExact_slice rfl _ (outY_packed hq hr hc (by omega))) (fun _ => rfl)) (.inl rfl))
  let _v3 : Vec F S128x128 .bf16 ← Prog.lift (.load aDyw (Rect.unit (s := S1280x1408) (oW q (128 * b) (128 * j)) S128x128.size (wY_inb hq hr hc)).toLoadRect (View.loadsAt_vmem h_S128x128))
  Prog.lift (.store aDyw (Rect.unit (s := S1280x1408) (oW q (128 * b) (128 * j)) S128x128.size (wY_inb hq hr hc)) (shapeCast S128x128 (yDeq v) shapeCasts_S128x128_S128x128) Finset.univ (View.stores_vmem h_S128x128 ((Memref.isWhole_whole cc0_scratch5).storeExact_slice rfl _ (wY_packed hq hr hc (by omega))) (fun _ => rfl)) (.inl rfl))

/-- Chunk `i` of a tile: both of its blocks of `x`, with the one or two blocks of `dy` that go with it. -/
def quantChunk (q : BitVec 32) (hq : q.toNat < 192) (i : Nat) (hi : i < 8) : Prog (TpuEff nD τ sig (Elt F) Λ₀ .tc) PUnit := do
  quantX q hq 0 i (by omega) hi
  quantY q hq 0 i (by omega) (by omega)
  if h : i < 3 then quantY q hq 0 (i + 8) (by omega) (by omega) else pure ⟨⟩
  quantX q hq 1 i (by omega) hi
  quantY q hq 1 i (by omega) (by omega)
  if h : i < 3 then quantY q hq 1 (i + 8) (by omega) (by omega) else pure ⟨⟩

/-! ## Moving tiles -/

abbrev semIn (q : BitVec 32) (hq : q.toNat < 192) (k : Nat) (hk : k < 2) :=
  ((cc0_scratch9.slice (Rect.unit (s := S2x4) ![k, (Scalar.remsi q 4#32).toNat] S1x1.size (semIn_inb hq hk))).squeeze S_ squeezes_S1x1_S_).sem
abbrev semOut (q : BitVec 32) (hq : q.toNat < 192) (k : Nat) (hk : k < 2) :=
  ((cc0_scratch10.slice (Rect.unit (s := S2x2) ![k, (Scalar.remsi q 2#32).toNat] S1x1.size (semOut_inb hq hk))).squeeze S_ squeezes_S1x1_S_).sem

abbrev slotX (q : BitVec 32) (hq : q.toNat < 192) : Memref sig .tc .vmem S256x2048 .bf16 :=
  (aXin.slice (Rect.unit (s := S4x256x2048) (oIn q 0 0) S1x256x2048.size (slotX_inb hq)) (fun _ => rfl)).squeeze S256x2048 squeezes_S1x256x2048_S256x2048
abbrev slotY (q : BitVec 32) (hq : q.toNat < 192) : Memref sig .tc .vmem S256x1408 .bf16 :=
  (aDyin.slice (Rect.unit (s := S4x256x1408) (oIn q 0 0) S1x256x1408.size (slotY_inb hq)) (fun _ => rfl)).squeeze S256x1408 squeezes_S1x256x1408_S256x1408
abbrev rowsX (q : BitVec 32) (hq : q.toNat < 192) : Memref sig .tc .hbm S256x2048 .bf16 :=
  aX.slice (Rect.unit (s := S49152x2048) (oRow q) S256x2048.size (rowX_inb hq)) (fun _ => rfl)
abbrev rowsY (q : BitVec 32) (hq : q.toNat < 192) : Memref sig .tc .hbm S256x1408 .bf16 :=
  aDy.slice (Rect.unit (s := S49152x1408) (oRow q) S256x1408.size (rowY_inb hq)) (fun _ => rfl)
abbrev cslotX (q : BitVec 32) (hq : q.toNat < 192) : Memref sig .tc .vmem S256x2048 .fp8e4m3 :=
  (aXco.slice (Rect.unit (s := S2x256x2048) (oOut q 0 0) S1x256x2048.size (cslotX_inb hq)) (fun _ => rfl)).squeeze S256x2048 squeezes_S1x256x2048_S256x2048
abbrev cslotY (q : BitVec 32) (hq : q.toNat < 192) : Memref sig .tc .vmem S256x1408 .fp8e5m2 :=
  (aDyco.slice (Rect.unit (s := S2x256x1408) (oOut q 0 0) S1x256x1408.size (cslotY_inb hq)) (fun _ => rfl)).squeeze S256x1408 squeezes_S1x256x1408_S256x1408
abbrev crowsX (q : BitVec 32) (hq : q.toNat < 192) : Memref sig .tc .hbm S256x2048 .fp8e4m3 :=
  aXc.slice (Rect.unit (s := S49152x2048) (oRow q) S256x2048.size (rowX_inb hq)) (fun _ => rfl)
abbrev crowsY (q : BitVec 32) (hq : q.toNat < 192) : Memref sig .tc .hbm S256x1408 .fp8e5m2 :=
  aDyc.slice (Rect.unit (s := S49152x1408) (oRow q) S256x1408.size (rowY_inb hq)) (fun _ => rfl)

def inStartX (q : BitVec 32) (hq : q.toNat < 192) : Prog (TpuEff nD τ sig (Elt F) Λ₀ .tc) PUnit :=
  Prog.lift (.enqueueDma (rowsX q hq) (.here (slotX q hq)) (.dma (semIn q hq 0 (by omega)))
    ((Memref.isWhole_whole main_arg0).wordExact_slice rfl _ (rowX_words hq)) (((Memref.isWhole_whole cc0_scratch0).wordExact_slice rfl _ (slotX_words hq)).reshape _ _) ⟨Or.inl rfl, trivial⟩)
def inStartY (q : BitVec 32) (hq : q.toNat < 192) : Prog (TpuEff nD τ sig (Elt F) Λ₀ .tc) PUnit :=
  Prog.lift (.enqueueDma (rowsY q hq) (.here (slotY q hq)) (.dma (semIn q hq 1 (by omega)))
    ((Memref.isWhole_whole main_arg1).wordExact_slice rfl _ (rowY_words hq)) (((Memref.isWhole_whole cc0_scratch1).wordExact_slice rfl _ (slotY_words hq)).reshape _ _) ⟨Or.inl rfl, trivial⟩)
def inWaitX (q : BitVec 32) (hq : q.toNat < 192) : Prog (TpuEff nD τ sig (Elt F) Λ₀ .tc) PUnit :=
  Prog.lift (.waitDma2 (semIn q hq 0 (by omega)) (rowsX q hq) (slotX q hq)
    ((Memref.isWhole_whole main_arg0).wordExact_slice rfl _ (rowX_words hq)) (((Memref.isWhole_whole cc0_scratch0).wordExact_slice rfl _ (slotX_words hq)).reshape _ _))
def inWaitY (q : BitVec 32) (hq : q.toNat < 192) : Prog (TpuEff nD τ sig (Elt F) Λ₀ .tc) PUnit :=
  Prog.lift (.waitDma2 (semIn q hq 1 (by omega)) (rowsY q hq) (slotY q hq)
    ((Memref.isWhole_whole main_arg1).wordExact_slice rfl _ (rowY_words hq)) (((Memref.isWhole_whole cc0_scratch1).wordExact_slice rfl _ (slotY_words hq)).reshape _ _))
def codeStartX (q : BitVec 32) (hq : q.toNat < 192) : Prog (TpuEff nD τ sig (Elt F) Λ₀ .tc) PUnit :=
  Prog.lift (.enqueueDma (cslotX q hq) (.here (crowsX q hq)) (.dma (semOut q hq 0 (by omega)))
    (((Memref.isWhole_whole cc0_scratch2).wordExact_slice rfl _ (cslotX_words hq)).reshape _ _) ((Memref.isWhole_whole main_v0_1).wordExact_slice rfl _ (crowX_words hq)) ⟨Or.inl rfl, trivial⟩)
def codeStartY (q : BitVec 32) (hq : q.toNat < 192) : Prog (TpuEff nD τ sig (Elt F) Λ₀ .tc) PUnit :=
  Prog.lift (.enqueueDma (cslotY q hq) (.here (crowsY q hq)) (.dma (semOut q hq 1 (by omega)))
    (((Memref.isWhole_whole cc0_scratch3).wordExact_slice rfl _ (cslotY_words hq)).reshape _ _) ((Memref.isWhole_whole main_v0_3).wordExact_slice rfl _ (crowY_words hq)) ⟨Or.inl rfl, trivial⟩)
def codeWaitX (q : BitVec 32) (hq : q.toNat < 192) : Prog (TpuEff nD τ sig (Elt F) Λ₀ .tc) PUnit :=
  Prog.lift (.waitDma2 (semOut q hq 0 (by omega)) (cslotX q hq) (crowsX q hq)
    (((Memref.isWhole_whole cc0_scratch2).wordExact_slice rfl _ (cslotX_words hq)).reshape _ _) ((Memref.isWhole_whole main_v0_1).wordExact_slice rfl _ (crowX_words hq)))
def codeWaitY (q : BitVec 32) (hq : q.toNat < 192) : Prog (TpuEff nD τ sig (Elt F) Λ₀ .tc) PUnit :=
  Prog.lift (.waitDma2 (semOut q hq 1 (by omega)) (cslotY q hq) (crowsY q hq)
    (((Memref.isWhole_whole cc0_scratch3).wordExact_slice rfl _ (cslotY_words hq)).reshape _ _) ((Memref.isWhole_whole main_v0_3).wordExact_slice rfl _ (crowY_words hq)))

/-- Whether a tile has one before it in its slot of codes. -/
abbrev hasPrev (q : BitVec 32) : BitVec 1 := Scalar.cmpi .ne (Scalar.extui (Scalar.cmpi .sge q 2#32) : BitVec 32) 0#32
/-- Whether there is a tile to fetch into the slot this one leaves. -/
abbrev hasNext (q : BitVec 32) : BitVec 1 := Scalar.cmpi .ne (Scalar.extui (Scalar.cmpi .slt (Scalar.addi q 4#32) 192#32) : BitVec 32) 0#32
/-- Whether a tile is the first of the ring. -/
abbrev isFirst (q : BitVec 32) : BitVec 1 := Scalar.cmpi .ne (Scalar.extui (Scalar.cmpi .eq (Scalar.remsi q 4#32) 0#32) : BitVec 32) 0#32

theorem flag_iff (c : BitVec 1) : (Scalar.cmpi .ne (Scalar.extui c : BitVec 32) 0#32 = 1#1) ↔ c = 1#1 := by
  revert c; decide

theorem hasPrev_iff {q : BitVec 32} (hq : q.toNat < 192) : hasPrev q = 1#1 ↔ 2 ≤ q.toNat := by
  rw [flag_iff]; exact sge_iff (x := q) (y := 2#32) (by omega) (by decide)
theorem hasNext_iff {q : BitVec 32} (hq : q.toNat < 192) : hasNext q = 1#1 ↔ q.toNat + 4 < 192 := by
  have h : (Scalar.addi q 4#32).toNat = q.toNat + 4 := addi_toNat _ _ (by show _ + 4 < _; omega)
  rw [flag_iff, slt_iff (by omega) (by decide), h]; exact Iff.rfl
theorem isFirst_iff {q : BitVec 32} (hq : q.toNat < 192) : isFirst q = 1#1 ↔ q.toNat % 4 = 0 := by
  have h : (Scalar.remsi q 4#32).toNat = q.toNat % 4 := remsi_toNat q 4#32 (by omega) (by decide) (by decide)
  rw [flag_iff, eq_iff (by omega) (by decide), h]; exact Iff.rfl

theorem prev_toNat {q : BitVec 32} (hq : q.toNat < 192) (h : hasPrev q = 1#1) : (Scalar.subi q 2#32).toNat = q.toNat - 2 :=
  subi_toNat _ _ ((hasPrev_iff hq).mp h)
theorem prev_lt {q : BitVec 32} (hq : q.toNat < 192) (h : hasPrev q = 1#1) : (Scalar.subi q 2#32).toNat < 192 := by
  rw [prev_toNat hq h]; omega
theorem next_toNat {q : BitVec 32} (hq : q.toNat < 192) : (Scalar.addi q 4#32).toNat = q.toNat + 4 :=
  addi_toNat _ _ (by show _ + 4 < _; omega)
theorem next_lt {q : BitVec 32} (hq : q.toNat < 192) (h : hasNext q = 1#1) : (Scalar.addi q 4#32).toNat < 192 := by
  rw [next_toNat hq]; exact (hasNext_iff hq).mp h

/-- Wait for tile `q`, and for its slot of codes to be free. -/
def quantWait (q : BitVec 32) (hq : q.toNat < 192) : Prog (TpuEff nD τ sig (Elt F) Λ₀ .tc) PUnit := do
  inWaitX q hq
  inWaitY q hq
  if h : hasPrev q = 1#1 then do
    codeWaitX (Scalar.subi q 2#32) (prev_lt hq h)
    codeWaitY (Scalar.subi q 2#32) (prev_lt hq h)
    pure ⟨⟩
  else pure ⟨⟩

/-- The first tile of the ring also stands behind the last one. -/
def mirror : Prog (TpuEff nD τ sig (Elt F) Λ₀ .tc) PUnit := do
  let v : Vec F S256x2048 .bf16 ← Prog.lift (.load aXw (Rect.unit (s := S1280x2048) ![0, 0] S256x2048.size inb_S1280x2048_S256x2048_0_0).toLoadRect (View.loadsAt_vmem h_S256x2048))
  let _v : Vec F S256x2048 .bf16 ← Prog.lift (.load aXw (Rect.unit (s := S1280x2048) ![1024, 0] S256x2048.size inb_S1280x2048_S256x2048_1024_0).toLoadRect (View.loadsAt_vmem h_S256x2048))
  Prog.lift (.store aXw (Rect.unit (s := S1280x2048) ![1024, 0] S256x2048.size inb_S1280x2048_S256x2048_1024_0) (shapeCast S256x2048 (v : FVec F S256x2048 .bf16) shapeCasts_S256x2048_S256x2048) Finset.univ (View.stores_vmem h_S256x2048 ((Memref.isWhole_whole cc0_scratch4).storeExact_slice rfl _ packedbf16_S1280x2048_S256x2048_1024_0) (fun _ => rfl)) (.inl rfl))
  let w : Vec F S256x1408 .bf16 ← Prog.lift (.load aDyw (Rect.unit (s := S1280x1408) ![0, 0] S256x1408.size inb_S1280x1408_S256x1408_0_0).toLoadRect (View.loadsAt_vmem h_S256x1408))
  let _w : Vec F S256x1408 .bf16 ← Prog.lift (.load aDyw (Rect.unit (s := S1280x1408) ![1024, 0] S256x1408.size inb_S1280x1408_S256x1408_1024_0).toLoadRect (View.loadsAt_vmem h_S256x1408))
  Prog.lift (.store aDyw (Rect.unit (s := S1280x1408) ![1024, 0] S256x1408.size inb_S1280x1408_S256x1408_1024_0) (shapeCast S256x1408 (w : FVec F S256x1408 .bf16) shapeCasts_S256x1408_S256x1408) Finset.univ (View.stores_vmem h_S256x1408 ((Memref.isWhole_whole cc0_scratch5).storeExact_slice rfl _ packedbf16_S1280x1408_S256x1408_1024_0) (fun _ => rfl)) (.inl rfl))
  pure ⟨⟩

/-- Send tile `q`'s codes out, fetch the tile that comes next into its slot. -/
def quantDone (q : BitVec 32) (hq : q.toNat < 192) : Prog (TpuEff nD τ sig (Elt F) Λ₀ .tc) PUnit := do
  codeStartX q hq
  codeStartY q hq
  if h : hasNext q = 1#1 then do
    inStartX (Scalar.addi q 4#32) (next_lt hq h)
    inStartY (Scalar.addi q 4#32) (next_lt hq h)
    pure ⟨⟩
  else pure ⟨⟩
  if isFirst q = 1#1 then mirror else pure ⟨⟩
  pure ⟨⟩

/-- All of tile `q`, on its own. -/
def quantTile (q : BitVec 32) (hq : q.toNat < 192) : Prog (TpuEff nD τ sig (Elt F) Λ₀ .tc) PUnit := do
  quantWait q hq
  quantChunk q hq 0 (by omega)
  quantChunk q hq 1 (by omega)
  quantChunk q hq 2 (by omega)
  quantChunk q hq 3 (by omega)
  quantChunk q hq 4 (by omega)
  quantChunk q hq 5 (by omega)
  quantChunk q hq 6 (by omega)
  quantChunk q hq 7 (by omega)
  quantDone q hq

/-! ## One pass over 256 tokens -/

/-- Which of 256 tokens from `a` lie in `[start, stop)`, as ones and zeros. -/
def keep (start stop a : BitVec 32) : FVec F S256x128 .bf16 :=
  let row : IVec S256x128 32 := addi (broadcast S256x128 a) (iota .tc S256x128 32 [0] iota_S256x128_d0_w32)
  truncf .bf16 (select (andi (cmpi .sge row (broadcast S256x128 start)) (cmpi .slt row (broadcast S256x128 stop)))
    (broadcast S256x128 (Scalar.ofBits .f32 0x3F800000#32 : F .f32)) (broadcast S256x128 (Scalar.ofBits .f32 0x00000000#32 : F .f32))) bitsLt_bf16_f32

/-- The accumulator's next chunk: what it holds (or zero on the first pass) plus the product. -/
def accNext (first : BitVec 1) (x : FVec F S256x256 .bf16) (dy : FVec F S256x1408 .bf16) (acc : FVec F S1x256x1408 .f32) : FVec F S1x256x1408 .f32 :=
  shapeCast S1x256x1408 (addf (Scalar.select first (broadcast S256x1408 (Scalar.ofBits .f32 0x00000000#32 : F .f32)) (shapeCast S256x1408 acc shapeCasts_S1x256x1408_S256x1408))
    (matmul dot_S256x256_S256x1408_S256x1408_0_0_1_1_n_n none x dy (constant S256x1408 .f32 0x00000000#32))) shapeCasts_S256x1408_S1x256x1408

theorem win_inbX {ra : BitVec 32} (hra : ra.toNat < 1024) {c : Nat} (hc : c + 256 ≤ 2048) :
    ∀ a, (![(Scalar.indexCast ra).toNat, c] : Fin 2 → Nat) a + S256x256.size a ≤ S1280x2048.size a :=
  inb2 (x := ra.toNat) (by omega) hc
theorem win_inbY {ra : BitVec 32} (hra : ra.toNat < 1024) {c : Nat} (hc : c + 128 ≤ 1408) :
    ∀ a, (![(Scalar.indexCast ra).toNat, c] : Fin 2 → Nat) a + S256x128.size a ≤ S1280x1408.size a :=
  inb2 (x := ra.toNat) (by omega) hc
theorem dym_inb {c : Nat} (hc : c + 128 ≤ 1408) : ∀ a, (![0, c] : Fin 2 → Nat) a + S256x128.size a ≤ S256x1408.size a :=
  inb2 (by omega) hc
theorem dym_packed {c : Nat} (hc : c + 128 ≤ 1408) :
    (Rect.unit (s := S256x1408) ![0, c] S256x128.size (dym_inb hc)).PackedRows (EltTy.packing .bf16) :=
  packed_of (by decide) (by exact Nat.dvd_zero _) (by decide)
theorem acc_inb {u : BitVec 32} (hu : u.toNat < 3) {c : Nat} (hc : c + 256 ≤ 2048) :
    ∀ a, (![(Scalar.indexCast u).toNat, c, 0] : Fin 3 → Nat) a + S1x256x1408.size a ≤ S3x2048x1408.size a :=
  inb3 (x := u.toNat) (by omega) hc (by omega)

/-- Take 128 columns of the window at ring row `ra`, with the tokens of other experts made zero. -/
def window1 (start stop a ra : BitVec 32) (hra : ra.toNat < 1024) (j : Nat) (hj : j < 11) : Prog (TpuEff nD τ sig (Elt F) Λ₀ .tc) PUnit := do
  have hc : 128 * j + 128 ≤ 1408 := by omega
  let v : Vec F S256x128 .bf16 ← Prog.lift (.load aDyw (Rect.unit (s := S1280x1408) ![(Scalar.indexCast ra).toNat, 128 * j] S256x128.size (win_inbY hra hc)).toLoadRect (View.loadsAt_vmem h_S256x128))
  let _w : Vec F S256x128 .bf16 ← Prog.lift (.load aDym (Rect.unit (s := S256x1408) ![0, 128 * j] S256x128.size (dym_inb hc)).toLoadRect (View.loadsAt_vmem h_S256x128))
  Prog.lift (.store aDym (Rect.unit (s := S256x1408) ![0, 128 * j] S256x128.size (dym_inb hc)) (shapeCast S256x128 (mulf (v : FVec F S256x128 .bf16) (keep start stop a)) shapeCasts_S256x128_S256x128) Finset.univ (View.stores_vmem h_S256x128 ((Memref.isWhole_whole cc0_scratch6).storeExact_slice rfl _ (dym_packed hc)) (fun _ => rfl)) (.inl rfl))

def window (start stop a ra : BitVec 32) (hra : ra.toNat < 1024) : Prog (TpuEff nD τ sig (Elt F) Λ₀ .tc) PUnit := do
  window1 start stop a ra hra 0 (by omega)
  window1 start stop a ra hra 1 (by omega)
  window1 start stop a ra hra 2 (by omega)
  window1 start stop a ra hra 3 (by omega)
  window1 start stop a ra hra 4 (by omega)
  window1 start stop a ra hra 5 (by omega)
  window1 start stop a ra hra 6 (by omega)
  window1 start stop a ra hra 7 (by omega)
  window1 start stop a ra hra 8 (by omega)
  window1 start stop a ra hra 9 (by omega)
  window1 start stop a ra hra 10 (by omega)

/-- Add 256 rows of the result: the product of 256 columns of the window of `x` with the masked window of `dy`. -/
def mm (first : BitVec 1) (ra u : BitVec 32) (hra : ra.toNat < 1024) (hu : u.toNat < 3) (i : Nat) (hi : i < 8) : Prog (TpuEff nD τ sig (Elt F) Λ₀ .tc) PUnit := do
  have hc : 256 * i + 256 ≤ 2048 := by omega
  let x : Vec F S256x256 .bf16 ← Prog.lift (.load aXw (Rect.unit (s := S1280x2048) ![(Scalar.indexCast ra).toNat, 256 * i] S256x256.size (win_inbX hra hc)).toLoadRect (View.loadsAt_vmem h_S256x256))
  let dy : Vec F S256x1408 .bf16 ← Prog.lift (.load aDym (Rect.unit (s := S256x1408) ![0, 0] S256x1408.size inb_S256x1408_S256x1408_0_0).toLoadRect (View.loadsAt_vmem h_S256x1408))
  let acc : Vec F S1x256x1408 .f32 ← Prog.lift (.load aAcc (Rect.unit (s := S3x2048x1408) ![(Scalar.indexCast u).toNat, 256 * i, 0] S1x256x1408.size (acc_inb hu hc)).toLoadRect (View.loadsAt_vmem h_S1x256x1408))
  let _acc : Vec F S1x256x1408 .f32 ← Prog.lift (.load aAcc (Rect.unit (s := S3x2048x1408) ![(Scalar.indexCast u).toNat, 256 * i, 0] S1x256x1408.size (acc_inb hu hc)).toLoadRect (View.loadsAt_vmem h_S1x256x1408))
  Prog.lift (.store aAcc (Rect.unit (s := S3x2048x1408) ![(Scalar.indexCast u).toNat, 256 * i, 0] S1x256x1408.size (acc_inb hu hc)) (accNext first x dy acc) Finset.univ (View.stores_vmem_bits_univ h_S1x256x1408 rfl) (.inl rfl))

/-- A pass that also quantises tile `q`, one chunk after each product. -/
def passQuant (start stop a : BitVec 32) (first : BitVec 1) (ra u q : BitVec 32) (hra : ra.toNat < 1024) (hu : u.toNat < 3) (hq : q.toNat < 192) :
    Prog (TpuEff nD τ sig (Elt F) Λ₀ .tc) PUnit := do
  quantWait q hq
  window start stop a ra hra
  mm first ra u hra hu 0 (by omega)
  quantChunk q hq 0 (by omega)
  mm first ra u hra hu 1 (by omega)
  quantChunk q hq 1 (by omega)
  mm first ra u hra hu 2 (by omega)
  quantChunk q hq 2 (by omega)
  mm first ra u hra hu 3 (by omega)
  quantChunk q hq 3 (by omega)
  mm first ra u hra hu 4 (by omega)
  quantChunk q hq 4 (by omega)
  mm first ra u hra hu 5 (by omega)
  quantChunk q hq 5 (by omega)
  mm first ra u hra hu 6 (by omega)
  quantChunk q hq 6 (by omega)
  mm first ra u hra hu 7 (by omega)
  quantChunk q hq 7 (by omega)
  quantDone q hq

/-- A pass after the last tile. -/
def passOnly (start stop a : BitVec 32) (first : BitVec 1) (ra u : BitVec 32) (hra : ra.toNat < 1024) (hu : u.toNat < 3) :
    Prog (TpuEff nD τ sig (Elt F) Λ₀ .tc) PUnit := do
  window start stop a ra hra
  mm first ra u hra hu 0 (by omega)
  mm first ra u hra hu 1 (by omega)
  mm first ra u hra hu 2 (by omega)
  mm first ra u hra hu 3 (by omega)
  mm first ra u hra hu 4 (by omega)
  mm first ra u hra hu 5 (by omega)
  mm first ra u hra hu 6 (by omega)
  mm first ra u hra hu 7 (by omega)
  pure ⟨⟩

/-- Where pass `k` of an expert starts. -/
abbrev passAt (start : BitVec 32) (k : Nat) : BitVec 32 :=
  Scalar.addi (Scalar.muli (Scalar.divsi start 16#32) 16#32) (Scalar.muli (Scf.iv 0#32 1#32 k) 256#32)

/-- Whether a pass quantises a tile. -/
abbrev doQuant (a q : BitVec 32) : BitVec 1 :=
  Scalar.andi (Scalar.cmpi .slt q 192#32) (Scalar.cmpi .slt q (Scalar.addi (Scalar.divsi a 256#32) 4#32))

theorem doQuant_lt {a q : BitVec 32} (hq : q.toNat ≤ 192) (h : doQuant a q = 1#1) : q.toNat < 192 :=
  (slt_iff (x := q) (y := 192#32) (by omega) (by decide)).mp ((andi_iff _ _).mp h).1

/-- One trip of an expert's loop over passes, after its checks. -/
def pass (start stop a : BitVec 32) (first : BitVec 1) (ra u q : BitVec 32) (hra : ra.toNat < 1024) (hu : u.toNat < 3) (hq : q.toNat ≤ 192) :
    Prog (TpuEff nD τ sig (Elt F) Λ₀ .tc) (BitVec 32) := do
  if h : Scalar.cmpi .ne (Scalar.extui (doQuant a q) : BitVec 32) 0#32 = 1#1 then
    passQuant start stop a first ra u q hra hu (doQuant_lt hq ((flag_iff _).mp h))
  else pure ⟨⟩
  if Scalar.cmpi .ne (Scalar.extui (Scalar.xori (doQuant a q) 1#1) : BitVec 32) 0#32 = 1#1 then
    passOnly start stop a first ra u hra hu
  else pure ⟨⟩
  pure (Scalar.addi q (Scalar.extui (doQuant a q)))

end Cert.KernelIdeal.Hand
end
-- ==== Proof.Base.lean ====
/- What the kernel's buffers hold as functions of its two inputs, bands of a buffer's leading axis,
   and what one store through a rectangle leaves. -/
module

public import proofs.«01_k».proof.Proof.Pieces
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Batch
public import Idealize.ShloMosaic.Lib.Transfers
public import Idealize.ShloMosaic.Lib.ValueIdxCore
public import Idealize.ShloMosaic.Lib.Tactic
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]

/-! ## What the buffers hold -/

/-- A rank-2 index from any two numbers. -/
abbrev nix2 {n0 n1 : Nat} (h0 : 0 < n0) (h1 : 0 < n1) (r c : Nat) : (⟨2, ![n0, n1]⟩ : Shape).Idx :=
  ix2 ⟨r % n0, Nat.mod_lt _ h0⟩ ⟨c % n1, Nat.mod_lt _ h1⟩

section Values
variable (X : S49152x2048.Idx → Elt F .bf16) (Y : S49152x1408.Idx → Elt F .bf16)

abbrev xat (t c : Nat) : Elt F .bf16 := X (nix2 (by decide) (by decide) t c)
abbrev yat (t c : Nat) : Elt F .bf16 := Y (nix2 (by decide) (by decide) t c)

/-- Block `(b, i)` of tile `k` of `x`. -/
def blkX (k b i : Nat) : FVec F S128x256 .bf16 := fun y => xat X (256 * k + 128 * b + (y 0).val) (256 * i + (y 1).val)
/-- Block `(b, j)` of tile `k` of `dy`. -/
def blkY (k b j : Nat) : FVec F S128x128 .bf16 := fun y => yat Y (256 * k + 128 * b + (y 0).val) (128 * j + (y 1).val)

/-- The scale, the code and the value it stands for, at a token and a column. -/
def xsAt (r c : Nat) : Elt F .f32 := xScale (blkX X (r / 2) (r % 2) (c / 256)) (nix2 (by decide) (by decide) 0 (c % 256))
def xcAt (t c : Nat) : Elt F .fp8e4m3 := xCode (blkX X (t / 256) (t % 256 / 128) (c / 256)) (nix2 (by decide) (by decide) (t % 128) (c % 256))
def xwAt (t c : Nat) : Elt F .bf16 := xDeq (blkX X (t / 256) (t % 256 / 128) (c / 256)) (nix2 (by decide) (by decide) (t % 128) (c % 256))
def ysAt (r c : Nat) : Elt F .f32 := yScale1 (blkY Y (r / 2) (r % 2) c) (nix2 (by decide) (by decide) 0 0)
def ycAt (t c : Nat) : Elt F .fp8e5m2 := yCode (blkY Y (t / 256) (t % 256 / 128) (c / 128)) (nix2 (by decide) (by decide) (t % 128) (c % 128))
def ywAt (t c : Nat) : Elt F .bf16 := yDeq (blkY Y (t / 256) (t % 256 / 128) (c / 128)) (nix2 (by decide) (by decide) (t % 128) (c % 128))

/-- Tile `k` in its slot. -/
def XIN (k : Nat) : S4x256x2048.Idx → Elt F .bf16 := fun j => xat X (256 * k + (j 1).val) (j 2).val
def YIN (k : Nat) : S4x256x1408.Idx → Elt F .bf16 := fun j => yat Y (256 * k + (j 1).val) (j 2).val
/-- The four results of the quantisation. -/
def XC : S49152x2048.Idx → Elt F .fp8e4m3 := fun j => xcAt X (j 0).val (j 1).val
def YC : S49152x1408.Idx → Elt F .fp8e5m2 := fun j => ycAt Y (j 0).val (j 1).val
def XS : S384x2048.Idx → Elt F .f32 := fun j => xsAt X (j 0).val (j 1).val
def YS : S384x11.Idx → Elt F .f32 := fun j => ysAt Y (j 0).val (j 1).val
end Values

/-! ## Bands of the leading axis -/

/-- The indices whose first coordinate lies in `[lo, hi)`. -/
def band (s : Shape) (lo hi : Nat) : Finset s.Idx := by
  classical exact Finset.univ.filter fun j => ∀ h : 0 < s.rank, lo ≤ (j ⟨0, h⟩).val ∧ (j ⟨0, h⟩).val < hi

theorem mem_band {s : Shape} {lo hi : Nat} (h : 0 < s.rank) {j : s.Idx} :
    j ∈ band s lo hi ↔ lo ≤ (j ⟨0, h⟩).val ∧ (j ⟨0, h⟩).val < hi := by
  unfold band
  simp only [Finset.mem_filter, Finset.mem_univ, true_and]
  exact ⟨fun H => H h, fun H _ => H⟩

theorem rect_band {s : Shape} (h : 0 < s.rank) (off size : Fin s.rank → Nat) (inb : ∀ a, off a + size a ≤ s.size a)
    (h0 : ∀ a : Fin s.rank, a.val ≠ 0 → off a = 0 ∧ size a = s.size a) :
    (Rect.unit off size inb).set = band s (off ⟨0, h⟩) (off ⟨0, h⟩ + size ⟨0, h⟩) := by
  ext j
  rw [Rect.mem_set_unit, mem_band h]
  refine ⟨fun H => H ⟨0, h⟩, fun H a => ?_⟩
  by_cases ha : a.val = 0
  · have : a = ⟨0, h⟩ := Fin.ext ha
    subst this; exact H
  · obtain ⟨e1, e2⟩ := h0 a ha
    rw [e1, e2]
    exact ⟨Nat.zero_le _, by rw [Nat.zero_add]; exact (j a).isLt⟩

theorem band_union {s : Shape} (h : 0 < s.rank) {lo mid hi : Nat} (h1 : lo ≤ mid) (h2 : mid ≤ hi) :
    band s lo mid ∪ band s mid hi = band s lo hi := by
  ext j
  rw [Finset.mem_union, mem_band h, mem_band h, mem_band h]; omega

theorem band_disjoint {s : Shape} (h : 0 < s.rank) {lo mid hi mid' : Nat} (h1 : mid ≤ mid') :
    Disjoint (band s lo mid) (band s mid' hi) := by
  rw [Finset.disjoint_left]
  intro j hj hj'
  rw [mem_band h] at hj hj'; omega

theorem band_univ {s : Shape} (h : 0 < s.rank) : band s 0 (s.size ⟨0, h⟩) = Finset.univ := by
  ext j
  rw [mem_band h]
  simp only [Finset.mem_univ, iff_true]
  exact ⟨Nat.zero_le _, (j ⟨0, h⟩).isLt⟩

theorem band_empty {s : Shape} (h : 0 < s.rank) {lo hi : Nat} (h1 : hi ≤ lo) : band s lo hi = ∅ := by
  ext j
  rw [mem_band h]
  simp only [Finset.notMem_empty, iff_false]; omega

/-! ## One store -/

theorem write_emb_whole {b : Ref sig .tc} (r : Rect b.ty.shape) (f : b.ty.Contents (Elt F)) (w : r.shape.Idx → Elt F b.ty.elt) (y : r.shape.Idx) :
    ((View.whole b).slice r).write (Elt F) f w Finset.univ (r.emb y) = w y :=
  View.write_emb_of_mem (v := (View.whole b).slice r) f w (Finset.mem_univ y)

theorem write_off_whole {b : Ref sig .tc} (r : Rect b.ty.shape) (f : b.ty.Contents (Elt F)) (w : r.shape.Idx → Elt F b.ty.elt) {j : b.ty.shape.Idx}
    (h : j ∉ r.set) : ((View.whole b).slice r).write (Elt F) f w Finset.univ j = f j :=
  View.write_of_not_mem (v := (View.whole b).slice r) f w Finset.univ (by
    show j ∉ ((View.whole b).slice r).set
    rw [View.set_slice_whole]; exact h)

/-- A store makes the buffer right where it writes, and leaves it right elsewhere. -/
theorem step_ok {b : Ref sig .tc} (r : Rect b.ty.shape) (f : b.ty.Contents (Elt F)) (w : r.shape.Idx → Elt F b.ty.elt)
    (G : b.ty.shape.Idx → Elt F b.ty.elt) (P P' : b.ty.shape.Idx → Prop) (hP : ∀ j, P j → f j = G j)
    (hw : ∀ y, P' (r.emb y) → w y = G (r.emb y)) (hn : ∀ j, P' j → j ∉ r.set → P j) :
    ∀ j, P' j → ((View.whole b).slice r).write (Elt F) f w Finset.univ j = G j := by
  intro j hj
  by_cases hm : j ∈ r.set
  · rw [← View.set_slice_whole] at hm
    obtain ⟨y, -, rfl⟩ := Finset.mem_map.mp hm
    show ((View.whole b).slice r).write (Elt F) f w Finset.univ (r.emb y) = _
    rw [write_emb_whole]; exact hw y hj
  · rw [write_off_whole r f w hm]; exact hP j (hn j hj hm)

theorem emb_unit_val {s : Shape} {off size : Fin s.rank → Nat} {inb : ∀ a, off a + size a ≤ s.size a} (y : (Rect.unit off size inb).shape.Idx) (a : Fin s.rank) :
    (((Rect.unit off size inb).emb y) a).val = off a + (y a).val := by
  rw [Rect.emb_apply, Rect.off_unit, Rect.stride_unit, Nat.one_mul]

/-! ## The logic -/

local notation "𝕄" => MT nD τ sig Unit (Elt F) ℕ (Pipeline.UD sig nD τ) ℕ

/-- The counters the transfers are counted with. -/
abbrev EC : UEmb Counters 𝕄 := countersEmb (U := Pipeline.UD sig nD τ)

abbrev WP (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

/-- Part of a buffer, held at a share. -/
abbrev ptq (c : Dev nD) {sp : Space} {s : Shape} {e : EltTy} (M : Memref sig .tc sp s e) (q : PosShare TreeShare) (S : Finset (Idx (M.view.loc (c : Thread nD τ))))
    (f : Buf (Elt F) (M.view.loc (c : Thread nD τ))) : sProp 𝕄 :=
  M.view.loc (c : Thread nD τ) ↦[S]{q} f
abbrev pt (c : Dev nD) {sp : Space} {s : Shape} {e : EltTy} (M : Memref sig .tc sp s e) (S : Finset (Idx (M.view.loc (c : Thread nD τ))))
    (f : Buf (Elt F) (M.view.loc (c : Thread nD τ))) : sProp 𝕄 := ptq c M fullShare S f

theorem lift_bind {α β : Type} (e : TpuEff nD τ sig (Elt F) Λ₀ .tc α) (k : α → Prog (TpuEff nD τ sig (Elt F) Λ₀ .tc) β) :
    (Prog.lift e >>= k) = .op e k := rfl
theorem lift_eq {α : Type} (e : TpuEff nD τ sig (Elt F) Λ₀ .tc α) : (Prog.lift e : Prog (TpuEff nD τ sig (Elt F) Λ₀ .tc) α) = .op e .ret := rfl

theorem wp_pure_intro (c : Dev nD) {α : Type} (a : α) (K : α → sProp 𝕄) : K a ⊢ WP c (.ret a) K := by
  unfold WP; rw [wp_ret]; iintro H; imodintro; iexact H
theorem wp_seq (c : Dev nD) {α β : Type} (p : Prog (TpuEff nD τ sig (Elt F) Λ₀ .tc) α) (k : α → Prog (TpuEff nD τ sig (Elt F) Λ₀ .tc) β) (K : β → sProp 𝕄) :
    WP c p (fun a => WP c (k a) K) ⊢ WP c (p >>= k) K := by
  unfold WP; rw [wp_bind]

/-- A band splits in two. -/
theorem pt_split (c : Dev nD) {sp : Space} {s : Shape} {e : EltTy} (M : Memref sig .tc sp s e) (q : PosShare TreeShare)
    (f : Buf (Elt F) (M.view.loc (c : Thread nD τ))) (h : 0 < (M.view.loc (c : Thread nD τ)).ty.shape.rank) {lo mid hi : Nat} (h1 : lo ≤ mid) (h2 : mid ≤ hi) :
    ptq c M q (band _ lo hi) f ⊣⊢ iprop(ptq c M q (band _ lo mid) f ∗ ptq c M q (band _ mid hi) f) := by
  unfold ptq
  rw [← band_union h h1 h2]
  exact pointsTo_union (band_disjoint h (Nat.le_refl _))

end Cert.KernelIdeal.Hand
end
-- ==== Proof.Quant.lean ====
/- Quantising one block, one chunk and one whole tile: what the kernel's buffers hold afterwards. -/
module

public import proofs.«01_k».proof.Proof.Base
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-! ## What holds while tile `q` is being quantised, with the blocks in `D` done -/

section Preds
variable (X : S49152x2048.Idx → Elt F .bf16) (Y : S49152x1408.Idx → Elt F .bf16) (q : Nat) (D : List (Nat × Nat))

def XsOk (f : S384x2048.Idx → Elt F .f32) : Prop :=
  ∀ j : S384x2048.Idx, ((j 0).val < 2 * q ∨ ((j 0).val / 2 = q ∧ ((j 0).val % 2, (j 1).val / 256) ∈ D)) → f j = XS X j
def YsOk (f : S384x11.Idx → Elt F .f32) : Prop :=
  ∀ j : S384x11.Idx, ((j 0).val < 2 * q ∨ ((j 0).val / 2 = q ∧ ((j 0).val % 2, (j 1).val) ∈ D)) → f j = YS Y j
def XcoOk (f : S2x256x2048.Idx → Elt F .fp8e4m3) : Prop :=
  ∀ j : S2x256x2048.Idx, ((j 0).val = q % 2 ∧ ((j 1).val / 128, (j 2).val / 256) ∈ D) → f j = xcAt X (256 * q + (j 1).val) (j 2).val
def YcoOk (f : S2x256x1408.Idx → Elt F .fp8e5m2) : Prop :=
  ∀ j : S2x256x1408.Idx, ((j 0).val = q % 2 ∧ ((j 1).val / 128, (j 2).val / 128) ∈ D) → f j = ycAt Y (256 * q + (j 1).val) (j 2).val
/-- Ring row `r` holds tile `k`: one of the three before `q`, or `q` itself where it is done, or the copy behind the ring. -/
def RingAt (w : Nat) (k : Nat) (r c : Nat) : Prop :=
  (r < 1024 ∧ k % 4 = r / 256 ∧ ((k < q ∧ q < k + 4) ∨ (k = q ∧ (r % 256 / 128, c / w) ∈ D)))
    ∨ (1024 ≤ r ∧ k % 4 = 0 ∧ k < q ∧ q ≤ k + 4)
def XwOk (f : S1280x2048.Idx → Elt F .bf16) : Prop :=
  ∀ (k : Nat) (j : S1280x2048.Idx), RingAt q D 256 k (j 0).val (j 1).val → f j = xwAt X (256 * k + (j 0).val % 256) (j 1).val
def YwOk (f : S1280x1408.Idx → Elt F .bf16) : Prop :=
  ∀ (k : Nat) (j : S1280x1408.Idx), RingAt q D 128 k (j 0).val (j 1).val → f j = ywAt Y (256 * k + (j 0).val % 256) (j 1).val
end Preds

/-! ## The values at a block's own indices -/

theorem nix2_self {n0 n1 r c : Nat} (h0 : 0 < n0) (h1 : 0 < n1) (y : (⟨2, ![n0, n1]⟩ : Shape).Idx) (e0 : r % n0 = (y 0).val) (e1 : c % n1 = (y 1).val) :
    nix2 h0 h1 r c = y := by
  rw [eq_ix2 y]
  exact congrArg₂ ix2 (Fin.ext e0) (Fin.ext e1)

section Values
variable (X : S49152x2048.Idx → Elt F .bf16) (Y : S49152x1408.Idx → Elt F .bf16) (n : Nat) {b i : Nat}

theorem xsAt_blk (hb : b < 2) (y : S1x256.Idx) : xsAt X (2 * n + b + (y 0).val) (256 * i + (y 1).val) = xScale (blkX X n b i) y := by
  have hy0 : (y 0).val < 1 := (y 0).isLt
  have hy1 : (y 1).val < 256 := (y 1).isLt
  unfold xsAt
  rw [show (2 * n + b + (y 0).val) / 2 = n by omega, show (2 * n + b + (y 0).val) % 2 = b by omega, show (256 * i + (y 1).val) / 256 = i by omega]
  exact congrArg _ (nix2_self _ _ y (by omega) (by omega))
theorem ysAt_blk (hb : b < 2) (y : S1x1.Idx) : ysAt Y (2 * n + b + (y 0).val) (i + (y 1).val) = yScale1 (blkY Y n b i) y := by
  have hy0 : (y 0).val < 1 := (y 0).isLt
  have hy1 : (y 1).val < 1 := (y 1).isLt
  unfold ysAt
  rw [show (2 * n + b + (y 0).val) / 2 = n by omega, show (2 * n + b + (y 0).val) % 2 = b by omega, show i + (y 1).val = i by omega]
  exact congrArg _ (nix2_self _ _ y (by omega) (by omega))

theorem xcAt_blk (hb : b < 2) (y : S128x256.Idx) : xcAt X (256 * n + (128 * b + (y 0).val)) (256 * i + (y 1).val) = xCode (blkX X n b i) y := by
  have hy0 : (y 0).val < 128 := (y 0).isLt
  have hy1 : (y 1).val < 256 := (y 1).isLt
  unfold xcAt
  rw [show (256 * n + (128 * b + (y 0).val)) / 256 = n by omega, show (256 * n + (128 * b + (y 0).val)) % 256 / 128 = b by omega, show (256 * i + (y 1).val) / 256 = i by omega]
  exact congrArg _ (nix2_self _ _ y (by omega) (by omega))
theorem xwAt_blk (hb : b < 2) (y : S128x256.Idx) : xwAt X (256 * n + (128 * b + (y 0).val)) (256 * i + (y 1).val) = xDeq (blkX X n b i) y := by
  have hy0 : (y 0).val < 128 := (y 0).isLt
  have hy1 : (y 1).val < 256 := (y 1).isLt
  unfold xwAt
  rw [show (256 * n + (128 * b + (y 0).val)) / 256 = n by omega, show (256 * n + (128 * b + (y 0).val)) % 256 / 128 = b by omega, show (256 * i + (y 1).val) / 256 = i by omega]
  exact congrArg _ (nix2_self _ _ y (by omega) (by omega))
theorem ycAt_blk (hb : b < 2) (y : S128x128.Idx) : ycAt Y (256 * n + (128 * b + (y 0).val)) (128 * i + (y 1).val) = yCode (blkY Y n b i) y := by
  have hy0 : (y 0).val < 128 := (y 0).isLt
  have hy1 : (y 1).val < 128 := (y 1).isLt
  unfold ycAt
  rw [show (256 * n + (128 * b + (y 0).val)) / 256 = n by omega, show (256 * n + (128 * b + (y 0).val)) % 256 / 128 = b by omega, show (128 * i + (y 1).val) / 128 = i by omega]
  exact congrArg _ (nix2_self _ _ y (by omega) (by omega))
theorem ywAt_blk (hb : b < 2) (y : S128x128.Idx) : ywAt Y (256 * n + (128 * b + (y 0).val)) (128 * i + (y 1).val) = yDeq (blkY Y n b i) y := by
  have hy0 : (y 0).val < 128 := (y 0).isLt
  have hy1 : (y 1).val < 128 := (y 1).isLt
  unfold ywAt
  rw [show (256 * n + (128 * b + (y 0).val)) / 256 = n by omega, show (256 * n + (128 * b + (y 0).val)) % 256 / 128 = b by omega, show (128 * i + (y 1).val) / 128 = i by omega]
  exact congrArg _ (nix2_self _ _ y (by omega) (by omega))
end Values

/-! ## The blocks read and written -/

section Steps
variable {X : S49152x2048.Idx → Elt F .bf16} {Y : S49152x1408.Idx → Elt F .bf16} {n : Nat} {D : List (Nat × Nat)} {b i : Nat}

theorem readX {off : Fin 3 → Nat} (hoff : off = ![n % 4, 128 * b, 256 * i]) (hinb : ∀ a, off a + S1x128x256.size a ≤ S4x256x2048.size a) :
    shapeCast S128x256 ((aXin.access (Rect.unit (s := S4x256x2048) off S1x128x256.size hinb)).read (Elt F) (XIN X n)) shapeCasts_S1x128x256_S128x256
      = blkX X n b i := by
  subst hoff
  funext y
  rw [shapeCast_dropUnit_apply]
  show XIN X n ((Rect.unit (s := S4x256x2048) _ S1x128x256.size hinb).emb _) = _
  unfold XIN blkX
  rw [emb_unit_val, emb_unit_val]
  show xat X (256 * n + (128 * b + (y 0).val)) (256 * i + (y 1).val) = _
  rw [Nat.add_assoc]
theorem readY {off : Fin 3 → Nat} (hoff : off = ![n % 4, 128 * b, 128 * i]) (hinb : ∀ a, off a + S1x128x128.size a ≤ S4x256x1408.size a) :
    shapeCast S128x128 ((aDyin.access (Rect.unit (s := S4x256x1408) off S1x128x128.size hinb)).read (Elt F) (YIN Y n)) shapeCasts_S1x128x128_S128x128
      = blkY Y n b i := by
  subst hoff
  funext y
  rw [shapeCast_dropUnit_apply]
  show YIN Y n ((Rect.unit (s := S4x256x1408) _ S1x128x128.size hinb).emb _) = _
  unfold YIN blkY
  rw [emb_unit_val, emb_unit_val]
  show yat Y (256 * n + (128 * b + (y 0).val)) (128 * i + (y 1).val) = _
  rw [Nat.add_assoc]

theorem xs_step (hb : b < 2) {off : Fin 2 → Nat} (hoff : off = ![2 * n + b, 256 * i]) (hinb : ∀ a, off a + S1x256.size a ≤ S384x2048.size a)
    (f : S384x2048.Idx → Elt F .f32) (h : XsOk X n D f) :
    XsOk X n ((b, i) :: D) ((aXs.access (Rect.unit (s := S384x2048) off S1x256.size hinb)).write (Elt F) f (xScale (blkX X n b i)) Finset.univ) := by
  subst hoff
  refine step_ok (b := cc0_stg1_0) (Rect.unit (s := S384x2048) _ S1x256.size hinb) f _ (XS X) _ _ h (fun y _ => ?_) (fun j hj hn => ?_)
  · unfold XS
    rw [emb_unit_val, emb_unit_val]
    exact (xsAt_blk X n hb y).symm
  · rw [Rect.mem_set_unit] at hn
    rcases hj with hj | ⟨h1, h2⟩
    · exact .inl hj
    · rcases List.mem_cons.mp h2 with h2 | h2
      · exfalso
        obtain ⟨e1, e2⟩ := Prod.mk.inj h2
        refine hn (Fin.forall_fin_two.mpr ⟨?_, ?_⟩)
        · show 2 * n + b ≤ (j 0).val ∧ (j 0).val < 2 * n + b + 1; omega
        · show 256 * i ≤ (j 1).val ∧ (j 1).val < 256 * i + 256; omega
      · exact .inr ⟨h1, h2⟩
theorem ys_step (hb : b < 2) {off : Fin 2 → Nat} (hoff : off = ![2 * n + b, i]) (hinb : ∀ a, off a + S1x1.size a ≤ S384x11.size a)
    (f : S384x11.Idx → Elt F .f32) (h : YsOk Y n D f) :
    YsOk Y n ((b, i) :: D) ((aDys.access (Rect.unit (s := S384x11) off S1x1.size hinb)).write (Elt F) f (yScale1 (blkY Y n b i)) Finset.univ) := by
  subst hoff
  refine step_ok (b := cc0_stg2_0) (Rect.unit (s := S384x11) _ S1x1.size hinb) f _ (YS Y) _ _ h (fun y _ => ?_) (fun j hj hn => ?_)
  · unfold YS
    rw [emb_unit_val, emb_unit_val]
    exact (ysAt_blk Y n hb y).symm
  · rw [Rect.mem_set_unit] at hn
    rcases hj with hj | ⟨h1, h2⟩
    · exact .inl hj
    · rcases List.mem_cons.mp h2 with h2 | h2
      · exfalso
        obtain ⟨e1, e2⟩ := Prod.mk.inj h2
        refine hn (Fin.forall_fin_two.mpr ⟨?_, ?_⟩)
        · show 2 * n + b ≤ (j 0).val ∧ (j 0).val < 2 * n + b + 1; omega
        · show i ≤ (j 1).val ∧ (j 1).val < i + 1; omega
      · exact .inr ⟨h1, h2⟩

theorem xco_step (hb : b < 2) {off : Fin 3 → Nat} (hoff : off = ![n % 2, 128 * b, 256 * i]) (hinb : ∀ a, off a + S1x128x256.size a ≤ S2x256x2048.size a)
    (f : S2x256x2048.Idx → Elt F .fp8e4m3) (h : XcoOk X n D f) :
    XcoOk X n ((b, i) :: D) ((aXco.access (Rect.unit (s := S2x256x2048) off S1x128x256.size hinb)).write (Elt F) f
      (shapeCast S1x128x256 (xCode (blkX X n b i)) shapeCasts_S128x256_S1x128x256) Finset.univ) := by
  subst hoff
  refine step_ok (b := cc0_scratch2) (Rect.unit (s := S2x256x2048) _ S1x128x256.size hinb) f _ (fun j => xcAt X (256 * n + (j 1).val) (j 2).val) _ _ h (fun y _ => ?_) (fun j hj hn => ?_)
  · rw [emb_unit_val, emb_unit_val]
    refine (shapeCast_addUnit_apply _ _ _ y).trans ?_
    exact (xcAt_blk X n hb (fun a => y a.succ)).symm
  · rw [Rect.mem_set_unit] at hn
    obtain ⟨h1, h2⟩ := hj
    rcases List.mem_cons.mp h2 with h2 | h2
    · exfalso
      obtain ⟨e1, e2⟩ := Prod.mk.inj h2
      refine hn (fun a => ?_)
      match a with
      | ⟨0, _⟩ => show n % 2 ≤ (j 0).val ∧ (j 0).val < n % 2 + 1; omega
      | ⟨1, _⟩ => show 128 * b ≤ (j 1).val ∧ (j 1).val < 128 * b + 128; omega
      | ⟨2, _⟩ => show 256 * i ≤ (j 2).val ∧ (j 2).val < 256 * i + 256; omega
    · exact ⟨h1, h2⟩
theorem yco_step (hb : b < 2) {off : Fin 3 → Nat} (hoff : off = ![n % 2, 128 * b, 128 * i]) (hinb : ∀ a, off a + S1x128x128.size a ≤ S2x256x1408.size a)
    (f : S2x256x1408.Idx → Elt F .fp8e5m2) (h : YcoOk Y n D f) :
    YcoOk Y n ((b, i) :: D) ((aDyco.access (Rect.unit (s := S2x256x1408) off S1x128x128.size hinb)).write (Elt F) f
      (shapeCast S1x128x128 (yCode (blkY Y n b i)) shapeCasts_S128x128_S1x128x128) Finset.univ) := by
  subst hoff
  refine step_ok (b := cc0_scratch3) (Rect.unit (s := S2x256x1408) _ S1x128x128.size hinb) f _ (fun j => ycAt Y (256 * n + (j 1).val) (j 2).val) _ _ h (fun y _ => ?_) (fun j hj hn => ?_)
  · rw [emb_unit_val, emb_unit_val]
    refine (shapeCast_addUnit_apply _ _ _ y).trans ?_
    exact (ycAt_blk Y n hb (fun a => y a.succ)).symm
  · rw [Rect.mem_set_unit] at hn
    obtain ⟨h1, h2⟩ := hj
    rcases List.mem_cons.mp h2 with h2 | h2
    · exfalso
      obtain ⟨e1, e2⟩ := Prod.mk.inj h2
      refine hn (fun a => ?_)
      match a with
      | ⟨0, _⟩ => show n % 2 ≤ (j 0).val ∧ (j 0).val < n % 2 + 1; omega
      | ⟨1, _⟩ => show 128 * b ≤ (j 1).val ∧ (j 1).val < 128 * b + 128; omega
      | ⟨2, _⟩ => show 128 * i ≤ (j 2).val ∧ (j 2).val < 128 * i + 128; omega
    · exact ⟨h1, h2⟩

theorem ring_self {w k r c : Nat} (hr : 256 * (n % 4) + 128 * b ≤ r ∧ r < 256 * (n % 4) + 128 * b + 128) (hb : b < 2) (h : RingAt n D w k r c) : k = n := by
  unfold RingAt at h
  omega
theorem ring_off {w k r c : Nat} (hw : 0 < w) (hn : ¬ ((256 * (n % 4) + 128 * b ≤ r ∧ r < 256 * (n % 4) + 128 * b + 128) ∧ (w * i ≤ c ∧ c < w * i + w)))
    (h : RingAt n ((b, i) :: D) w k r c) : RingAt n D w k r c := by
  rcases h with ⟨h1, h2, h3 | ⟨h3, h4⟩⟩ | h
  · exact .inl ⟨h1, h2, .inl h3⟩
  · rcases List.mem_cons.mp h4 with h4 | h4
    · exfalso
      obtain ⟨e1, e2⟩ := Prod.mk.inj h4
      subst e2
      have := Nat.div_add_mod c w
      have := Nat.mod_lt c hw
      exact hn ⟨by omega, by omega⟩
    · exact .inl ⟨h1, h2, .inr ⟨h3, h4⟩⟩
  · exact .inr h

theorem xw_step (hb : b < 2) {off : Fin 2 → Nat} (hoff : off = ![256 * (n % 4) + 128 * b, 256 * i]) (hinb : ∀ a, off a + S128x256.size a ≤ S1280x2048.size a)
    (f : S1280x2048.Idx → Elt F .bf16) (h : XwOk X n D f) :
    XwOk X n ((b, i) :: D) ((aXw.access (Rect.unit (s := S1280x2048) off S128x256.size hinb)).write (Elt F) f
      (shapeCast S128x256 (xDeq (blkX X n b i)) shapeCasts_S128x256_S128x256) Finset.univ) := by
  subst hoff
  intro k
  refine step_ok (b := cc0_scratch4) (Rect.unit (s := S1280x2048) _ S128x256.size hinb) f _ (fun j => xwAt X (256 * k + (j 0).val % 256) (j 1).val) _ _ (h k) (fun y hy => ?_) (fun j hj hn => ?_)
  · rw [emb_unit_val, emb_unit_val] at *
    have hy0 : (y 0).val < 128 := (y 0).isLt
    obtain rfl : k = n := ring_self (b := b) ⟨Nat.le_add_right _ _, Nat.add_lt_add_left hy0 _⟩ hb hy
    rw [shapeCast_self]
    refine (xwAt_blk X k hb y).symm.trans (congrArg₂ _ ?_ rfl)
    show _ = 256 * k + (256 * (k % 4) + 128 * b + (y 0).val) % 256
    omega
  · rw [Rect.mem_set_unit] at hn
    refine ring_off (by decide) (fun hh => hn (Fin.forall_fin_two.mpr hh)) hj
theorem yw_step (hb : b < 2) {off : Fin 2 → Nat} (hoff : off = ![256 * (n % 4) + 128 * b, 128 * i]) (hinb : ∀ a, off a + S128x128.size a ≤ S1280x1408.size a)
    (f : S1280x1408.Idx → Elt F .bf16) (h : YwOk Y n D f) :
    YwOk Y n ((b, i) :: D) ((aDyw.access (Rect.unit (s := S1280x1408) off S128x128.size hinb)).write (Elt F) f
      (shapeCast S128x128 (yDeq (blkY Y n b i)) shapeCasts_S128x128_S128x128) Finset.univ) := by
  subst hoff
  intro k
  refine step_ok (b := cc0_scratch5) (Rect.unit (s := S1280x1408) _ S128x128.size hinb) f _ (fun j => ywAt Y (256 * k + (j 0).val % 256) (j 1).val) _ _ (h k) (fun y hy => ?_) (fun j hj hn => ?_)
  · rw [emb_unit_val, emb_unit_val] at *
    have hy0 : (y 0).val < 128 := (y 0).isLt
    obtain rfl : k = n := ring_self (b := b) ⟨Nat.le_add_right _ _, Nat.add_lt_add_left hy0 _⟩ hb hy
    rw [shapeCast_self]
    refine (ywAt_blk Y k hb y).symm.trans (congrArg₂ _ ?_ rfl)
    show _ = 256 * k + (256 * (k % 4) + 128 * b + (y 0).val) % 256
    omega
  · rw [Rect.mem_set_unit] at hn
    refine ring_off (by decide) (fun hh => hn (Fin.forall_fin_two.mpr hh)) hj

end Steps

/-! ## Running them -/

section Runs
variable (c : Dev nD) (X : S49152x2048.Idx → Elt F .bf16) (Y : S49152x1408.Idx → Elt F .bf16)

/-- Tile `n` of `x` in its slot, with the blocks in `D` quantised. -/
def TX (n : Nat) (D : List (Nat × Nat)) : sProp 𝕄 :=
  iprop(pt c aXin (band S4x256x2048 (n % 4) (n % 4 + 1)) (XIN X n)
    ∗ (∃ f : S384x2048.Idx → Elt F .f32, pt c aXs Finset.univ f ∗ ⌜XsOk X n D f⌝)
    ∗ (∃ f : S2x256x2048.Idx → Elt F .fp8e4m3, pt c aXco (band S2x256x2048 (n % 2) (n % 2 + 1)) f ∗ ⌜XcoOk X n D f⌝)
    ∗ (∃ f : S1280x2048.Idx → Elt F .bf16, pt c aXw Finset.univ f ∗ ⌜XwOk X n D f⌝))
def TY (n : Nat) (D : List (Nat × Nat)) : sProp 𝕄 :=
  iprop(pt c aDyin (band S4x256x1408 (n % 4) (n % 4 + 1)) (YIN Y n)
    ∗ (∃ f : S384x11.Idx → Elt F .f32, pt c aDys Finset.univ f ∗ ⌜YsOk Y n D f⌝)
    ∗ (∃ f : S2x256x1408.Idx → Elt F .fp8e5m2, pt c aDyco (band S2x256x1408 (n % 2) (n % 2 + 1)) f ∗ ⌜YcoOk Y n D f⌝)
    ∗ (∃ f : S1280x1408.Idx → Elt F .bf16, pt c aDyw Finset.univ f ∗ ⌜YwOk Y n D f⌝))

theorem rect3_sub {A B C b' c' n r k : Nat} {off : Fin 3 → Nat} (hoff : off = ![n, r, k])
    (hinb : ∀ a, off a + (⟨3, ![1, b', c']⟩ : Shape).size a ≤ (⟨3, ![A, B, C]⟩ : Shape).size a) :
    (Rect.unit (s := ⟨3, ![A, B, C]⟩) off (⟨3, ![1, b', c']⟩ : Shape).size hinb).set ⊆ band ⟨3, ![A, B, C]⟩ n (n + 1) := by
  subst hoff
  intro j hj
  rw [mem_band (Nat.succ_pos 2)]
  exact (Rect.mem_set_unit.mp hj) 0

theorem slice_sub (b : Ref sig .tc) (r : Rect (b.ty).shape) {S : Finset (b.ty).shape.Idx} (h : r.set ⊆ S) : ((View.whole b).slice r).set ⊆ S := by
  rw [View.set_slice_whole]; exact h

theorem wp_quantX (q : BitVec 32) (hq : q.toNat < 192) (b i : Nat) (hb : b < 2) (hi : i < 8) (D : List (Nat × Nat)) (K : PUnit → sProp 𝕄) :
    TX c X q.toNat D ⊢ iprop((TX c X q.toNat ((b, i) :: D) -∗ K ⟨⟩) -∗ WP c (quantX q hq b i hb hi) K) := by
  have hr : 128 * b + 128 ≤ 256 := by omega
  have hc : 256 * i + 256 ≤ 2048 := by omega
  unfold TX quantX
  simp only [lift_bind]
  simp only [lift_eq]
  iintro ⟨Hin, ⟨%f1, H1, %h1⟩, ⟨%f2, H2, %h2⟩, ⟨%f3, H3, %h3⟩⟩ HK
  iapply (wp_load_rect Variants.none (c : Thread nD τ) none Set.univ (m := aXin) (r := Rect.unit (s := S4x256x2048) (oIn q (128 * b) (256 * i)) S1x128x256.size (inX_inb hq hr hc)) (S := band S4x256x2048 (q.toNat % 4) (q.toNat % 4 + 1)) (slice_sub _ _ (rect3_sub (oIn_eq hq _ _) _))) $$ Hin
  iintro Hin
  rw [readX (n := q.toNat) (oIn_eq hq _ _)]
  iapply (wp_load_rect Variants.none (c : Thread nD τ) none Set.univ (m := aXs) (r := Rect.unit (s := S384x2048) (oS q b (256 * i)) S1x256.size (sX_inb hq hb hc)) (S := Finset.univ) (Finset.subset_univ _)) $$ H1
  iintro H1
  iapply (wp_store Variants.none (c : Thread nD τ) none Set.univ (m := aXs) (r := Rect.unit (s := S384x2048) (oS q b (256 * i)) S1x256.size (sX_inb hq hb hc)) (Mk := Finset.univ) (S := Finset.univ) (Finset.subset_univ _)) $$ H1
  iintro H1
  iapply (wp_load_rect Variants.none (c : Thread nD τ) none Set.univ (m := aXco) (r := Rect.unit (s := S2x256x2048) (oOut q (128 * b) (256 * i)) S1x128x256.size (outX_inb hq hr hc)) (S := band S2x256x2048 (q.toNat % 2) (q.toNat % 2 + 1)) (slice_sub _ _ (rect3_sub (oOut_eq hq _ _) _))) $$ H2
  iintro H2
  iapply (wp_store Variants.none (c : Thread nD τ) none Set.univ (m := aXco) (r := Rect.unit (s := S2x256x2048) (oOut q (128 * b) (256 * i)) S1x128x256.size (outX_inb hq hr hc)) (Mk := Finset.univ) (S := band S2x256x2048 (q.toNat % 2) (q.toNat % 2 + 1)) (slice_sub _ _ (rect3_sub (oOut_eq hq _ _) _))) $$ H2
  iintro H2
  iapply (wp_load_rect Variants.none (c : Thread nD τ) none Set.univ (m := aXw) (r := Rect.unit (s := S1280x2048) (oW q (128 * b) (256 * i)) S128x256.size (wX_inb hq hr hc)) (S := Finset.univ) (Finset.subset_univ _)) $$ H3
  iintro H3
  iapply (wp_store Variants.none (c : Thread nD τ) none Set.univ (m := aXw) (r := Rect.unit (s := S1280x2048) (oW q (128 * b) (256 * i)) S128x256.size (wX_inb hq hr hc)) (Mk := Finset.univ) (S := Finset.univ) (Finset.subset_univ _)) $$ H3
  iintro H3
  iapply (wp_pure_intro c)
  iapply HK
  isplitl [Hin]; · iexact Hin
  isplitl [H1]
  · iexists _
    isplitl [H1]; · iexact H1
    ipureintro; exact xs_step hb (oS_eq hq hb _) _ _ h1
  isplitl [H2]
  · iexists _
    isplitl [H2]; · iexact H2
    ipureintro; exact xco_step hb (oOut_eq hq _ _) _ _ h2
  iexists _
  isplitl [H3]; · iexact H3
  ipureintro; exact xw_step hb (oW_eq hq (by omega) _) _ _ h3

theorem wp_quantY (q : BitVec 32) (hq : q.toNat < 192) (b j : Nat) (hb : b < 2) (hj : j < 11) (D : List (Nat × Nat)) (K : PUnit → sProp 𝕄) :
    TY c Y q.toNat D ⊢ iprop((TY c Y q.toNat ((b, j) :: D) -∗ K ⟨⟩) -∗ WP c (quantY q hq b j hb hj) K) := by
  have hr : 128 * b + 128 ≤ 256 := by omega
  have hc : 128 * j + 128 ≤ 1408 := by omega
  unfold TY quantY
  simp only [lift_bind]
  simp only [lift_eq]
  iintro ⟨Hin, ⟨%f1, H1, %h1⟩, ⟨%f2, H2, %h2⟩, ⟨%f3, H3, %h3⟩⟩ HK
  iapply (wp_load_rect Variants.none (c : Thread nD τ) none Set.univ (m := aDyin) (r := Rect.unit (s := S4x256x1408) (oIn q (128 * b) (128 * j)) S1x128x128.size (inY_inb hq hr hc)) (S := band S4x256x1408 (q.toNat % 4) (q.toNat % 4 + 1)) (slice_sub _ _ (rect3_sub (oIn_eq hq _ _) _))) $$ Hin
  iintro Hin
  rw [readY (n := q.toNat) (oIn_eq hq _ _)]
  iapply (wp_load_rect Variants.none (c : Thread nD τ) none Set.univ (m := aDys) (r := Rect.unit (s := S384x11) (oS q b j) S1x1.size (sY_inb hq hb hj)) (S := Finset.univ) (Finset.subset_univ _)) $$ H1
  iintro H1
  iapply (wp_store Variants.none (c : Thread nD τ) none Set.univ (m := aDys) (r := Rect.unit (s := S384x11) (oS q b j) S1x1.size (sY_inb hq hb hj)) (Mk := Finset.univ) (S := Finset.univ) (Finset.subset_univ _)) $$ H1
  iintro H1
  iapply (wp_load_rect Variants.none (c : Thread nD τ) none Set.univ (m := aDyco) (r := Rect.unit (s := S2x256x1408) (oOut q (128 * b) (128 * j)) S1x128x128.size (outY_inb hq hr hc)) (S := band S2x256x1408 (q.toNat % 2) (q.toNat % 2 + 1)) (slice_sub _ _ (rect3_sub (oOut_eq hq _ _) _))) $$ H2
  iintro H2
  iapply (wp_store Variants.none (c : Thread nD τ) none Set.univ (m := aDyco) (r := Rect.unit (s := S2x256x1408) (oOut q (128 * b) (128 * j)) S1x128x128.size (outY_inb hq hr hc)) (Mk := Finset.univ) (S := band S2x256x1408 (q.toNat % 2) (q.toNat % 2 + 1)) (slice_sub _ _ (rect3_sub (oOut_eq hq _ _) _))) $$ H2
  iintro H2
  iapply (wp_load_rect Variants.none (c : Thread nD τ) none Set.univ (m := aDyw) (r := Rect.unit (s := S1280x1408) (oW q (128 * b) (128 * j)) S128x128.size (wY_inb hq hr hc)) (S := Finset.univ) (Finset.subset_univ _)) $$ H3
  iintro H3
  iapply (wp_store Variants.none (c : Thread nD τ) none Set.univ (m := aDyw) (r := Rect.unit (s := S1280x1408) (oW q (128 * b) (128 * j)) S128x128.size (wY_inb hq hr hc)) (Mk := Finset.univ) (S := Finset.univ) (Finset.subset_univ _)) $$ H3
  iintro H3
  iapply (wp_pure_intro c)
  iapply HK
  isplitl [Hin]; · iexact Hin
  isplitl [H1]
  · iexists _
    isplitl [H1]; · iexact H1
    ipureintro; exact ys_step hb (oS_eq hq hb _) _ _ h1
  isplitl [H2]
  · iexists _
    isplitl [H2]; · iexact H2
    ipureintro; exact yco_step hb (oOut_eq hq _ _) _ _ h2
  iexists _
  isplitl [H3]; · iexact H3
  ipureintro; exact yw_step hb (oW_eq hq (by omega) _) _ _ h3

end Runs
end Cert.KernelIdeal.Hand
end
-- ==== Proof.Moves.lean ====
/- The copies between the arrays and the kernel's buffers: starting one, waiting for one, and what the buffers hold then. -/
module

public import proofs.«01_k».proof.Proof.Quant
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-- The core owes nothing, whatever it has waited for. -/
def OW (c : Dev nD) : sProp 𝕄 := iprop(∃ W : Waits sig Unit, owes (c : Thread nD τ) 0 W)

/-- A write through a view, where it lands. -/
theorem write_set {sp : Space} {s : Shape} {e : EltTy} (v : View sig .tc sp s e) (f : v.ty.Contents (Elt F)) (w : s.Idx → Elt F e) (G : v.ty.Contents (Elt F))
    (h : ∀ y, v.write (Elt F) f w Finset.univ (v.emb y) = G (v.emb y)) : ∀ j ∈ v.set, v.write (Elt F) f w Finset.univ j = G j := by
  intro j hj
  obtain ⟨y, -, rfl⟩ := Finset.mem_map.mp hj
  exact h y

/-- One copy started, on a semaphore at zero. -/
theorem wp_start (c : Dev nD) {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)} {q : PosShare TreeShare}
    {Ss : Finset (Idx (src.view.loc (c : Thread nD τ)))} {Sd : Finset (Idx (dst.view.loc (c : Thread nD τ)))}
    (hs : src.view.set = Ss) (hd : dst.view.set = Sd) {fs : Buf (Elt F) (src.view.loc (c : Thread nD τ))} {fd : Buf (Elt F) (dst.view.loc (c : Thread nD τ))}
    (G : Buf (Elt F) (dst.view.loc (c : Thread nD τ)))
    (hG : ∀ y, dst.view.write (Elt F) fd (src.view.read (Elt F) fs) Finset.univ (dst.view.emb y) = G (dst.view.emb y))
    {sm : DmaSem sig} (hsm : sem = sm) {N : ℕ} (hN : dst.view.dmaCredit = N) (hN0 : 0 < N) (K : PUnit → sProp 𝕄) :
    iprop((src.view.loc (c : Thread nD τ) ↦[Ss]{q} fs) ∗ (dst.view.loc (c : Thread nD τ) ↦[Sd]{fullShare} fd) ∗ semVal ((c : Thread nD τ), .dma sm) 0)
      ⊢ iprop((Flight EC (c : Thread nD τ) (.dma sm) () N iprop((dst.view.loc (c : Thread nD τ) ↦[Sd]{fullShare} G) ∗ (src.view.loc (c : Thread nD τ) ↦[Ss]{q} fs)) -∗ K ⟨⟩)
        -∗ WP c (Prog.lift (.enqueueDma src (.here dst) (.dma sem) hsrc hdst hsem)) K) := by
  subst hs hd hsm
  rw [lift_eq]
  iintro H HK
  iapply (wp_dmaLocal EC Variants.none (c : Thread nD τ) none (src := src) (dst := dst) (via := .same) (sm := .dma sem) () N hN hN0 (Finset.Subset.refl _)) $$ H
  iintro H
  iapply (wp_pure_intro c)
  iapply HK
  have h : (dst.view.loc (c : Thread nD τ) ↦[dst.view.set]{fullShare} (dst.view.write (Elt F) fd (ReadAs.same.apply (src.view.read (Elt F) fs)) Finset.univ) : sProp 𝕄)
      = (dst.view.loc (c : Thread nD τ) ↦[dst.view.set]{fullShare} G) := pointsTo_congr (write_set dst.view fd _ G hG)
  rw [h]
  iexact H

/-- One copy waited for. -/
theorem wp_wait (c : Dev nD) {sp sp' : Space} {s s' : Shape} {e e' : EltTy} {src : Memref sig .tc sp s' e'} {dst : Memref sig .tc sp' s e} {sem : DmaSem sig}
    {hsrc : src.view.WordExact} {hdst : dst.view.WordExact} {sm : DmaSem sig} (hsm : sem = sm) {N : ℕ} (hN : dst.view.dmaCredit = N) {D : sProp 𝕄} (K : PUnit → sProp 𝕄) :
    iprop(Flight EC (c : Thread nD τ) (.dma sm) () N D ∗ OW c)
      ⊢ iprop((iprop(D ∗ semVal ((c : Thread nD τ), .dma sm) 0 ∗ OW c) -∗ K ⟨⟩) -∗ WP c (Prog.lift (.waitDma2 sem src dst hsrc hdst)) K) := by
  subst hsm
  rw [lift_eq]
  unfold OW
  iintro ⟨HF, ⟨%W, HO⟩⟩ HK
  iapply (wp_waitLocal EC Variants.none (c : Thread nD τ) none (srcw := src) (dstw := dst) () hN) $$ [HF HO]
  · isplitl [HF]; · iexact HF
    iexact HO
  iintro ⟨HD, HS, HO⟩
  iapply (wp_pure_intro c)
  iapply HK
  isplitl [HD]; · iexact HD
  isplitl [HS]; · iexact HS
  iexists _; iexact HO

/-! ## Where slices and slabs lie -/

theorem slab_emb {sp : Space} {e : EltTy} {A R C R' C' : Nat} (m : Memref sig .tc sp ⟨3, ![A, R, C]⟩ e) {off : Fin 3 → Nat}
    (inb : ∀ a, off a + (⟨3, ![1, R', C']⟩ : Shape).size a ≤ (⟨3, ![A, R, C]⟩ : Shape).size a) (hst) (hq : (⟨3, ![1, R', C']⟩ : Shape).Squeezes ⟨2, ![R', C']⟩)
    (y : (⟨2, ![R', C']⟩ : Shape).Idx) :
    ((m.slice (Rect.unit (s := ⟨3, ![A, R, C]⟩) off (⟨3, ![1, R', C']⟩ : Shape).size inb) hst).squeeze ⟨2, ![R', C']⟩ hq).view.emb y
      = m.view.emb ((Rect.unit (s := ⟨3, ![A, R, C]⟩) off (⟨3, ![1, R', C']⟩ : Shape).size inb).emb (Fin.cons ⟨0, Nat.one_pos⟩ y)) := by
  show m.view.emb ((Rect.unit (s := ⟨3, ![A, R, C]⟩) off (⟨3, ![1, R', C']⟩ : Shape).size inb).emb (Shape.reshapeEquiv hq.numel_eq y)) = _
  congr 2
  exact Shape.reshapeEquiv_cons_one (d := ![R', C']) hq.numel_eq y

theorem slab_set {sp : Space} {e : EltTy} {A R C R' C' : Nat} (m : Memref sig .tc sp ⟨3, ![A, R, C]⟩ e) {off : Fin 3 → Nat}
    (inb : ∀ a, off a + (⟨3, ![1, R', C']⟩ : Shape).size a ≤ (⟨3, ![A, R, C]⟩ : Shape).size a) (hst) (hq : (⟨3, ![1, R', C']⟩ : Shape).Squeezes ⟨2, ![R', C']⟩) :
    ((m.slice (Rect.unit (s := ⟨3, ![A, R, C]⟩) off (⟨3, ![1, R', C']⟩ : Shape).size inb) hst).squeeze ⟨2, ![R', C']⟩ hq).view.set
      = (Rect.unit (s := ⟨3, ![A, R, C]⟩) off (⟨3, ![1, R', C']⟩ : Shape).size inb).set.map m.view.emb := by
  exact (View.set_reshape (m.slice (Rect.unit (s := ⟨3, ![A, R, C]⟩) off (⟨3, ![1, R', C']⟩ : Shape).size inb) hst).view hq.numel_eq).trans (View.set_slice _ _)

theorem map_whole {b : Ref sig .tc} (S : Finset b.ty.shape.Idx) : S.map (View.whole b).emb = S := by
  ext j
  rw [Finset.mem_map]
  exact ⟨fun ⟨y, hy, h⟩ => h ▸ hy, fun h => ⟨j, h, rfl⟩⟩

/-- A whole slab of a three-axis buffer is a band of it. -/
theorem rect3_band {A R C n : Nat} {off : Fin 3 → Nat} (hoff : off = ![n, 0, 0])
    (inb : ∀ a, off a + (⟨3, ![1, R, C]⟩ : Shape).size a ≤ (⟨3, ![A, R, C]⟩ : Shape).size a) :
    (Rect.unit (s := ⟨3, ![A, R, C]⟩) off (⟨3, ![1, R, C]⟩ : Shape).size inb).set = band ⟨3, ![A, R, C]⟩ n (n + 1) := by
  subst hoff
  exact rect_band (s := ⟨3, ![A, R, C]⟩) (Nat.succ_pos 2) _ _ inb (fun a ha => by
    match a with
    | ⟨0, _⟩ => exact absurd rfl ha
    | ⟨1, _⟩ => exact ⟨rfl, rfl⟩
    | ⟨2, _⟩ => exact ⟨rfl, rfl⟩)
theorem rect2_band {A C R n : Nat} {off : Fin 2 → Nat} (hoff : off = ![n, 0])
    (inb : ∀ a, off a + (⟨2, ![R, C]⟩ : Shape).size a ≤ (⟨2, ![A, C]⟩ : Shape).size a) :
    (Rect.unit (s := ⟨2, ![A, C]⟩) off (⟨2, ![R, C]⟩ : Shape).size inb).set = band ⟨2, ![A, C]⟩ n (n + R) := by
  subst hoff
  exact rect_band (s := ⟨2, ![A, C]⟩) (Nat.succ_pos 1) _ _ inb (fun a ha => by
    match a with
    | ⟨0, _⟩ => exact absurd rfl ha
    | ⟨1, _⟩ => exact ⟨rfl, rfl⟩)

/-! ## The semaphores -/

def sIn (k n : Nat) : DmaSem sig := ⟨(3 + 4 * k + n) % 19, Nat.mod_lt _ (by decide)⟩
def sOut (k n : Nat) : DmaSem sig := ⟨(11 + 2 * k + n) % 19, Nat.mod_lt _ (by decide)⟩

theorem semIn_key : ∀ (n : Fin 4) (k : Fin 2), ((cc0_scratch9.slice (Rect.unit (s := S2x4) ![k.val, n.val] S1x1.size (inb2 (x := k.val) (y := n.val) k.isLt n.isLt))).squeeze S_ squeezes_S1x1_S_).sem = sIn k n := by
  decide +kernel
theorem semIn_eq (q : BitVec 32) (hq : q.toNat < 192) (k : Nat) (hk : k < 2) : semIn q hq k hk = sIn k (q.toNat % 4) := by
  have h : (Scalar.remsi q 4#32).toNat = q.toNat % 4 := remsi_toNat q 4#32 (by omega) (by decide) (by decide)
  unfold semIn
  generalize (semIn_inb hq hk) = p
  revert p
  rw [h]
  intro p
  exact semIn_key ⟨q.toNat % 4, Nat.mod_lt _ (by decide)⟩ ⟨k, hk⟩
theorem semOut_key : ∀ (n : Fin 2) (k : Fin 2), ((cc0_scratch10.slice (Rect.unit (s := S2x2) ![k.val, n.val] S1x1.size (inb2 (x := k.val) (y := n.val) k.isLt n.isLt))).squeeze S_ squeezes_S1x1_S_).sem = sOut k n := by
  decide +kernel
theorem semOut_eq (q : BitVec 32) (hq : q.toNat < 192) (k : Nat) (hk : k < 2) : semOut q hq k hk = sOut k (q.toNat % 2) := by
  have h : (Scalar.remsi q 2#32).toNat = q.toNat % 2 := remsi_toNat q 2#32 (by omega) (by decide) (by decide)
  unfold semOut
  generalize (semOut_inb hq hk) = p
  revert p
  rw [h]
  intro p
  exact semOut_key ⟨q.toNat % 2, Nat.mod_lt _ (by decide)⟩ ⟨k, hk⟩

/-! ## The tiles' copies -/

abbrev NX : ℕ := Ref.dmaCredit cc0_scratch0 S256x2048 .bf16
abbrev NY : ℕ := Ref.dmaCredit cc0_scratch1 S256x1408 .bf16
abbrev NXC : ℕ := Ref.dmaCredit main_v0_1 S256x2048 .fp8e4m3
abbrev NYC : ℕ := Ref.dmaCredit main_v0_3 S256x1408 .fp8e5m2

section Tiles
variable (c : Dev nD) (X : S49152x2048.Idx → Elt F .bf16) (Y : S49152x1408.Idx → Elt F .bf16)

/-- The slot of `x` that tile `k` goes to: `k` on its way, or, past the last tile, nothing. -/
def SX (k : Nat) : sProp 𝕄 :=
  if k < 192 then Flight EC (c : Thread nD τ) (.dma (sIn 0 (k % 4))) () NX
      iprop(pt c aXin (band S4x256x2048 (k % 4) (k % 4 + 1)) (XIN X k) ∗ pt c aX (band S49152x2048 (256 * k) (256 * k + 256)) X)
  else iprop((∃ f : S4x256x2048.Idx → Elt F .bf16, pt c aXin (band S4x256x2048 (k % 4) (k % 4 + 1)) f) ∗ semVal ((c : Thread nD τ), .dma (sIn 0 (k % 4))) 0)
def SY (k : Nat) : sProp 𝕄 :=
  if k < 192 then Flight EC (c : Thread nD τ) (.dma (sIn 1 (k % 4))) () NY
      iprop(pt c aDyin (band S4x256x1408 (k % 4) (k % 4 + 1)) (YIN Y k) ∗ pt c aDy (band S49152x1408 (256 * k) (256 * k + 256)) Y)
  else iprop((∃ f : S4x256x1408.Idx → Elt F .bf16, pt c aDyin (band S4x256x1408 (k % 4) (k % 4 + 1)) f) ∗ semVal ((c : Thread nD τ), .dma (sIn 1 (k % 4))) 0)

theorem slotX_set (q : BitVec 32) (hq : q.toNat < 192) : (slotX q hq).view.set = band S4x256x2048 (q.toNat % 4) (q.toNat % 4 + 1) :=
  (slab_set aXin _ _ _).trans ((map_whole (b := cc0_scratch0) _).trans (rect3_band (oIn_eq hq 0 0) _))
theorem slotY_set (q : BitVec 32) (hq : q.toNat < 192) : (slotY q hq).view.set = band S4x256x1408 (q.toNat % 4) (q.toNat % 4 + 1) :=
  (slab_set aDyin _ _ _).trans ((map_whole (b := cc0_scratch1) _).trans (rect3_band (oIn_eq hq 0 0) _))
theorem cslotX_set (q : BitVec 32) (hq : q.toNat < 192) : (cslotX q hq).view.set = band S2x256x2048 (q.toNat % 2) (q.toNat % 2 + 1) :=
  (slab_set aXco _ _ _).trans ((map_whole (b := cc0_scratch2) _).trans (rect3_band (oOut_eq hq 0 0) _))
theorem cslotY_set (q : BitVec 32) (hq : q.toNat < 192) : (cslotY q hq).view.set = band S2x256x1408 (q.toNat % 2) (q.toNat % 2 + 1) :=
  (slab_set aDyco _ _ _).trans ((map_whole (b := cc0_scratch3) _).trans (rect3_band (oOut_eq hq 0 0) _))
theorem rowsX_set (q : BitVec 32) (hq : q.toNat < 192) : (rowsX q hq).view.set = band S49152x2048 (256 * q.toNat) (256 * q.toNat + 256) :=
  (View.set_slice_whole (b := main_arg0) _).trans (rect2_band (oRow_eq hq) _)
theorem rowsY_set (q : BitVec 32) (hq : q.toNat < 192) : (rowsY q hq).view.set = band S49152x1408 (256 * q.toNat) (256 * q.toNat + 256) :=
  (View.set_slice_whole (b := main_arg1) _).trans (rect2_band (oRow_eq hq) _)
theorem crowsX_set (q : BitVec 32) (hq : q.toNat < 192) : (crowsX q hq).view.set = band S49152x2048 (256 * q.toNat) (256 * q.toNat + 256) :=
  (View.set_slice_whole (b := main_v0_1) _).trans (rect2_band (oRow_eq hq) _)
theorem crowsY_set (q : BitVec 32) (hq : q.toNat < 192) : (crowsY q hq).view.set = band S49152x1408 (256 * q.toNat) (256 * q.toNat + 256) :=
  (View.set_slice_whole (b := main_v0_3) _).trans (rect2_band (oRow_eq hq) _)

end Tiles
end Cert.KernelIdeal.Hand
end
-- ==== Proof.Tiles.lean ====
/- Each tile's four copies: the two that fetch it and the two that send its codes out. -/
module

public import proofs.«01_k».proof.Proof.Moves
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

theorem oIn_at1 {q : BitVec 32} (hq : q.toNat < 192) : oIn q 0 0 1 = 0 := congrFun (oIn_eq hq 0 0) 1
theorem oIn_at2 {q : BitVec 32} (hq : q.toNat < 192) : oIn q 0 0 2 = 0 := congrFun (oIn_eq hq 0 0) 2
theorem oOut_at0 {q : BitVec 32} (hq : q.toNat < 192) : oOut q 0 0 0 = q.toNat % 2 := congrFun (oOut_eq hq 0 0) 0
theorem oOut_at1 {q : BitVec 32} (hq : q.toNat < 192) : oOut q 0 0 1 = 0 := congrFun (oOut_eq hq 0 0) 1
theorem oOut_at2 {q : BitVec 32} (hq : q.toNat < 192) : oOut q 0 0 2 = 0 := congrFun (oOut_eq hq 0 0) 2
theorem oRow_at0 {q : BitVec 32} (hq : q.toNat < 192) : oRow q 0 = 256 * q.toNat := congrFun (oRow_eq hq) 0
theorem oRow_at1 {q : BitVec 32} (hq : q.toNat < 192) : oRow q 1 = 0 := congrFun (oRow_eq hq) 1

section Tiles
variable (c : Dev nD) (X : S49152x2048.Idx → Elt F .bf16) (Y : S49152x1408.Idx → Elt F .bf16)

theorem slotX_emb (q : BitVec 32) (hq : q.toNat < 192) (y : S256x2048.Idx) :
    (slotX q hq).view.emb y = (Rect.unit (s := S4x256x2048) (oIn q 0 0) S1x256x2048.size (slotX_inb hq)).emb (Fin.cons ⟨0, Nat.one_pos⟩ y) :=
  slab_emb aXin _ _ _ y
theorem cslotX_emb (q : BitVec 32) (hq : q.toNat < 192) (y : S256x2048.Idx) :
    (cslotX q hq).view.emb y = (Rect.unit (s := S2x256x2048) (oOut q 0 0) S1x256x2048.size (cslotX_inb hq)).emb (Fin.cons ⟨0, Nat.one_pos⟩ y) :=
  slab_emb aXco _ _ _ y

/-- A fetched tile is the array's own rows. -/
theorem inX_val (q : BitVec 32) (hq : q.toNat < 192) (fd : S4x256x2048.Idx → Elt F .bf16) (y : S256x2048.Idx) :
    (slotX q hq).view.write (Elt F) fd ((rowsX q hq).view.read (Elt F) X) Finset.univ ((slotX q hq).view.emb y) = XIN X q.toNat ((slotX q hq).view.emb y) := by
  rw [View.write_emb_of_mem _ _ (Finset.mem_univ y), slotX_emb]
  unfold XIN
  rw [emb_unit_val, emb_unit_val, oIn_at1 hq, oIn_at2 hq]
  show X ((Rect.unit (s := S49152x2048) (oRow q) S256x2048.size (rowX_inb hq)).emb y) = xat X (256 * q.toNat + (0 + (y 0).val)) (0 + (y 1).val)
  have h0 : (y 0).val < 256 := (y 0).isLt
  have h1 : (y 1).val < 2048 := (y 1).isLt
  unfold xat
  refine congrArg X (nix2_self _ _ _ ?_ ?_).symm
  · rw [emb_unit_val, oRow_at0 hq]; omega
  · rw [emb_unit_val, oRow_at1 hq]; omega
/-- A tile of codes sent out lands on the array's own rows. -/
theorem codeX_val (q : BitVec 32) (hq : q.toNat < 192) {D : List (Nat × Nat)} (hD : ∀ b < 2, ∀ i < 8, (b, i) ∈ D) (f : S2x256x2048.Idx → Elt F .fp8e4m3)
    (hf : XcoOk X q.toNat D f) (fd : S49152x2048.Idx → Elt F .fp8e4m3) (y : S256x2048.Idx) :
    (crowsX q hq).view.write (Elt F) fd ((cslotX q hq).view.read (Elt F) f) Finset.univ ((crowsX q hq).view.emb y) = XC X ((crowsX q hq).view.emb y) := by
  rw [View.write_emb_of_mem _ _ (Finset.mem_univ y)]
  show f ((cslotX q hq).view.emb y) = XC X ((Rect.unit (s := S49152x2048) (oRow q) S256x2048.size (rowX_inb hq)).emb y)
  have h0 : (y 0).val < 256 := (y 0).isLt
  have h1 : (y 1).val < 2048 := (y 1).isLt
  rw [cslotX_emb]
  unfold XC
  rw [hf _ ⟨?_, ?_⟩, emb_unit_val, emb_unit_val, emb_unit_val, emb_unit_val, oOut_at1 hq, oOut_at2 hq, oRow_at0 hq, oRow_at1 hq]
  · show xcAt X (256 * q.toNat + (0 + (y 0).val)) (0 + (y 1).val) = xcAt X (256 * q.toNat + (y 0).val) (0 + (y 1).val)
    rw [Nat.zero_add]
  · rw [emb_unit_val, oOut_at0 hq]; exact Nat.add_zero _
  · rw [emb_unit_val, emb_unit_val, oOut_at1 hq, oOut_at2 hq]
    show ((0 + (y 0).val) / 128, (0 + (y 1).val) / 256) ∈ D
    exact hD _ (by omega) _ (by omega)

/-- The slot of codes that tile `k` will use: the tile two before it on its way out, or nothing. -/
def OX (k : Nat) : sProp 𝕄 :=
  if 2 ≤ k then Flight EC (c : Thread nD τ) (.dma (sOut 0 (k % 2))) () NXC
      iprop(pt c aXc (band S49152x2048 (256 * (k - 2)) (256 * (k - 2) + 256)) (XC X) ∗ (∃ f : S2x256x2048.Idx → Elt F .fp8e4m3, pt c aXco (band S2x256x2048 (k % 2) (k % 2 + 1)) f))
  else iprop((∃ f : S2x256x2048.Idx → Elt F .fp8e4m3, pt c aXco (band S2x256x2048 (k % 2) (k % 2 + 1)) f) ∗ semVal ((c : Thread nD τ), .dma (sOut 0 (k % 2))) 0)

theorem wp_inStartX (q : BitVec 32) (hq : q.toNat < 192) (K : PUnit → sProp 𝕄) :
    iprop((∃ f : S4x256x2048.Idx → Elt F .bf16, pt c aXin (band S4x256x2048 (q.toNat % 4) (q.toNat % 4 + 1)) f) ∗ semVal ((c : Thread nD τ), .dma (sIn 0 (q.toNat % 4))) 0
      ∗ pt c aX (band S49152x2048 (256 * q.toNat) (256 * q.toNat + 256)) X) ⊢ iprop((SX c X q.toNat -∗ K ⟨⟩) -∗ WP c (inStartX q hq) K) := by
  unfold SX inStartX
  rw [if_pos hq]
  iintro ⟨⟨%f, Hd⟩, Hv, Hs⟩ HK
  iapply (wp_start c (src := rowsX q hq) (dst := slotX q hq) (rowsX_set q hq) (slotX_set q hq) (XIN X q.toNat) (inX_val X q hq f) (semIn_eq q hq 0 _) rfl (View.dmaCredit_pos _ (by decide)) K) $$ [Hd Hv Hs]
  · isplitl [Hs]; · iexact Hs
    isplitl [Hd]; · iexact Hd
    iexact Hv
  iexact HK
theorem wp_inWaitX (q : BitVec 32) (hq : q.toNat < 192) (K : PUnit → sProp 𝕄) :
    iprop(SX c X q.toNat ∗ OW c) ⊢ iprop(((pt c aXin (band S4x256x2048 (q.toNat % 4) (q.toNat % 4 + 1)) (XIN X q.toNat)
      ∗ pt c aX (band S49152x2048 (256 * q.toNat) (256 * q.toNat + 256)) X ∗ semVal ((c : Thread nD τ), .dma (sIn 0 (q.toNat % 4))) 0 ∗ OW c) -∗ K ⟨⟩) -∗ WP c (inWaitX q hq) K) := by
  unfold SX inWaitX
  rw [if_pos hq]
  iintro H HK
  iapply (wp_wait c (semIn_eq q hq 0 _) rfl) $$ H
  iintro ⟨⟨Hd, Hs⟩, Hv, HO⟩
  iapply HK
  isplitl [Hd]; · iexact Hd
  isplitl [Hs]; · iexact Hs
  isplitl [Hv]; · iexact Hv
  iexact HO
theorem wp_codeStartX (q : BitVec 32) (hq : q.toNat < 192) {D : List (Nat × Nat)} (hD : ∀ b < 2, ∀ i < 8, (b, i) ∈ D) (f0 : S49152x2048.Idx → Elt F .fp8e4m3) (K : PUnit → sProp 𝕄) :
    iprop((∃ f : S2x256x2048.Idx → Elt F .fp8e4m3, pt c aXco (band S2x256x2048 (q.toNat % 2) (q.toNat % 2 + 1)) f ∗ ⌜XcoOk X q.toNat D f⌝)
      ∗ semVal ((c : Thread nD τ), .dma (sOut 0 (q.toNat % 2))) 0 ∗ pt c aXc (band S49152x2048 (256 * q.toNat) (256 * q.toNat + 256)) f0)
      ⊢ iprop((OX c X (q.toNat + 2) -∗ K ⟨⟩) -∗ WP c (codeStartX q hq) K) := by
  unfold OX codeStartX
  rw [if_pos (Nat.le_add_left _ _), Nat.add_sub_cancel, Nat.add_mod_right]
  iintro ⟨⟨%f, Hs, %hf⟩, Hv, Hd⟩ HK
  iapply (wp_start c (src := cslotX q hq) (dst := crowsX q hq) (cslotX_set q hq) (crowsX_set q hq) (XC X) (codeX_val X q hq hD f hf f0) (semOut_eq q hq 0 _) rfl (View.dmaCredit_pos _ (by decide)) K) $$ [Hd Hv Hs]
  · isplitl [Hs]; · iexact Hs
    isplitl [Hd]; · iexact Hd
    iexact Hv
  iintro H
  iapply HK
  iapply (Flight_mono EC (c : Thread nD τ) (sep_mono .rfl (exists_intro f))) $$ H
theorem wp_codeWaitX (q : BitVec 32) (hq : q.toNat < 192) (K : PUnit → sProp 𝕄) :
    iprop(OX c X (q.toNat + 2) ∗ OW c) ⊢ iprop(((pt c aXc (band S49152x2048 (256 * q.toNat) (256 * q.toNat + 256)) (XC X)
      ∗ (∃ f : S2x256x2048.Idx → Elt F .fp8e4m3, pt c aXco (band S2x256x2048 (q.toNat % 2) (q.toNat % 2 + 1)) f) ∗ semVal ((c : Thread nD τ), .dma (sOut 0 (q.toNat % 2))) 0 ∗ OW c) -∗ K ⟨⟩)
        -∗ WP c (codeWaitX q hq) K) := by
  unfold OX codeWaitX
  rw [if_pos (Nat.le_add_left _ _), Nat.add_sub_cancel, Nat.add_mod_right]
  iintro H HK
  iapply (wp_wait c (semOut_eq q hq 0 _) rfl) $$ H
  iintro ⟨⟨Hd, Hs⟩, Hv, HO⟩
  iapply HK
  isplitl [Hd]; · iexact Hd
  isplitl [Hs]; · iexact Hs
  isplitl [Hv]; · iexact Hv
  iexact HO

theorem slotY_emb (q : BitVec 32) (hq : q.toNat < 192) (y : S256x1408.Idx) :
    (slotY q hq).view.emb y = (Rect.unit (s := S4x256x1408) (oIn q 0 0) S1x256x1408.size (slotY_inb hq)).emb (Fin.cons ⟨0, Nat.one_pos⟩ y) :=
  slab_emb aDyin _ _ _ y
theorem cslotY_emb (q : BitVec 32) (hq : q.toNat < 192) (y : S256x1408.Idx) :
    (cslotY q hq).view.emb y = (Rect.unit (s := S2x256x1408) (oOut q 0 0) S1x256x1408.size (cslotY_inb hq)).emb (Fin.cons ⟨0, Nat.one_pos⟩ y) :=
  slab_emb aDyco _ _ _ y

/-- A fetched tile is the array's own rows. -/
theorem inY_val (q : BitVec 32) (hq : q.toNat < 192) (fd : S4x256x1408.Idx → Elt F .bf16) (y : S256x1408.Idx) :
    (slotY q hq).view.write (Elt F) fd ((rowsY q hq).view.read (Elt F) Y) Finset.univ ((slotY q hq).view.emb y) = YIN Y q.toNat ((slotY q hq).view.emb y) := by
  rw [View.write_emb_of_mem _ _ (Finset.mem_univ y), slotY_emb]
  unfold YIN
  rw [emb_unit_val, emb_unit_val, oIn_at1 hq, oIn_at2 hq]
  show Y ((Rect.unit (s := S49152x1408) (oRow q) S256x1408.size (rowY_inb hq)).emb y) = yat Y (256 * q.toNat + (0 + (y 0).val)) (0 + (y 1).val)
  have h0 : (y 0).val < 256 := (y 0).isLt
  have h1 : (y 1).val < 1408 := (y 1).isLt
  unfold yat
  refine congrArg Y (nix2_self _ _ _ ?_ ?_).symm
  · rw [emb_unit_val, oRow_at0 hq]; omega
  · rw [emb_unit_val, oRow_at1 hq]; omega
/-- A tile of codes sent out lands on the array's own rows. -/
theorem codeY_val (q : BitVec 32) (hq : q.toNat < 192) {D : List (Nat × Nat)} (hD : ∀ b < 2, ∀ i < 11, (b, i) ∈ D) (f : S2x256x1408.Idx → Elt F .fp8e5m2)
    (hf : YcoOk Y q.toNat D f) (fd : S49152x1408.Idx → Elt F .fp8e5m2) (y : S256x1408.Idx) :
    (crowsY q hq).view.write (Elt F) fd ((cslotY q hq).view.read (Elt F) f) Finset.univ ((crowsY q hq).view.emb y) = YC Y ((crowsY q hq).view.emb y) := by
  rw [View.write_emb_of_mem _ _ (Finset.mem_univ y)]
  show f ((cslotY q hq).view.emb y) = YC Y ((Rect.unit (s := S49152x1408) (oRow q) S256x1408.size (rowY_inb hq)).emb y)
  have h0 : (y 0).val < 256 := (y 0).isLt
  have h1 : (y 1).val < 1408 := (y 1).isLt
  rw [cslotY_emb]
  unfold YC
  rw [hf _ ⟨?_, ?_⟩, emb_unit_val, emb_unit_val, emb_unit_val, emb_unit_val, oOut_at1 hq, oOut_at2 hq, oRow_at0 hq, oRow_at1 hq]
  · show ycAt Y (256 * q.toNat + (0 + (y 0).val)) (0 + (y 1).val) = ycAt Y (256 * q.toNat + (y 0).val) (0 + (y 1).val)
    rw [Nat.zero_add]
  · rw [emb_unit_val, oOut_at0 hq]; exact Nat.add_zero _
  · rw [emb_unit_val, emb_unit_val, oOut_at1 hq, oOut_at2 hq]
    show ((0 + (y 0).val) / 128, (0 + (y 1).val) / 128) ∈ D
    exact hD _ (by omega) _ (by omega)

/-- The slot of codes that tile `k` will use: the tile two before it on its way out, or nothing. -/
def OY (k : Nat) : sProp 𝕄 :=
  if 2 ≤ k then Flight EC (c : Thread nD τ) (.dma (sOut 1 (k % 2))) () NYC
      iprop(pt c aDyc (band S49152x1408 (256 * (k - 2)) (256 * (k - 2) + 256)) (YC Y) ∗ (∃ f : S2x256x1408.Idx → Elt F .fp8e5m2, pt c aDyco (band S2x256x1408 (k % 2) (k % 2 + 1)) f))
  else iprop((∃ f : S2x256x1408.Idx → Elt F .fp8e5m2, pt c aDyco (band S2x256x1408 (k % 2) (k % 2 + 1)) f) ∗ semVal ((c : Thread nD τ), .dma (sOut 1 (k % 2))) 0)

theorem wp_inStartY (q : BitVec 32) (hq : q.toNat < 192) (K : PUnit → sProp 𝕄) :
    iprop((∃ f : S4x256x1408.Idx → Elt F .bf16, pt c aDyin (band S4x256x1408 (q.toNat % 4) (q.toNat % 4 + 1)) f) ∗ semVal ((c : Thread nD τ), .dma (sIn 1 (q.toNat % 4))) 0
      ∗ pt c aDy (band S49152x1408 (256 * q.toNat) (256 * q.toNat + 256)) Y) ⊢ iprop((SY c Y q.toNat -∗ K ⟨⟩) -∗ WP c (inStartY q hq) K) := by
  unfold SY inStartY
  rw [if_pos hq]
  iintro ⟨⟨%f, Hd⟩, Hv, Hs⟩ HK
  iapply (wp_start c (src := rowsY q hq) (dst := slotY q hq) (rowsY_set q hq) (slotY_set q hq) (YIN Y q.toNat) (inY_val Y q hq f) (semIn_eq q hq 1 _) rfl (View.dmaCredit_pos _ (by decide)) K) $$ [Hd Hv Hs]
  · isplitl [Hs]; · iexact Hs
    isplitl [Hd]; · iexact Hd
    iexact Hv
  iexact HK
theorem wp_inWaitY (q : BitVec 32) (hq : q.toNat < 192) (K : PUnit → sProp 𝕄) :
    iprop(SY c Y q.toNat ∗ OW c) ⊢ iprop(((pt c aDyin (band S4x256x1408 (q.toNat % 4) (q.toNat % 4 + 1)) (YIN Y q.toNat)
      ∗ pt c aDy (band S49152x1408 (256 * q.toNat) (256 * q.toNat + 256)) Y ∗ semVal ((c : Thread nD τ), .dma (sIn 1 (q.toNat % 4))) 0 ∗ OW c) -∗ K ⟨⟩) -∗ WP c (inWaitY q hq) K) := by
  unfold SY inWaitY
  rw [if_pos hq]
  iintro H HK
  iapply (wp_wait c (semIn_eq q hq 1 _) rfl) $$ H
  iintro ⟨⟨Hd, Hs⟩, Hv, HO⟩
  iapply HK
  isplitl [Hd]; · iexact Hd
  isplitl [Hs]; · iexact Hs
  isplitl [Hv]; · iexact Hv
  iexact HO
theorem wp_codeStartY (q : BitVec 32) (hq : q.toNat < 192) {D : List (Nat × Nat)} (hD : ∀ b < 2, ∀ i < 11, (b, i) ∈ D) (f0 : S49152x1408.Idx → Elt F .fp8e5m2) (K : PUnit → sProp 𝕄) :
    iprop((∃ f : S2x256x1408.Idx → Elt F .fp8e5m2, pt c aDyco (band S2x256x1408 (q.toNat % 2) (q.toNat % 2 + 1)) f ∗ ⌜YcoOk Y q.toNat D f⌝)
      ∗ semVal ((c : Thread nD τ), .dma (sOut 1 (q.toNat % 2))) 0 ∗ pt c aDyc (band S49152x1408 (256 * q.toNat) (256 * q.toNat + 256)) f0)
      ⊢ iprop((OY c Y (q.toNat + 2) -∗ K ⟨⟩) -∗ WP c (codeStartY q hq) K) := by
  unfold OY codeStartY
  rw [if_pos (Nat.le_add_left _ _), Nat.add_sub_cancel, Nat.add_mod_right]
  iintro ⟨⟨%f, Hs, %hf⟩, Hv, Hd⟩ HK
  iapply (wp_start c (src := cslotY q hq) (dst := crowsY q hq) (cslotY_set q hq) (crowsY_set q hq) (YC Y) (codeY_val Y q hq hD f hf f0) (semOut_eq q hq 1 _) rfl (View.dmaCredit_pos _ (by decide)) K) $$ [Hd Hv Hs]
  · isplitl [Hs]; · iexact Hs
    isplitl [Hd]; · iexact Hd
    iexact Hv
  iintro H
  iapply HK
  iapply (Flight_mono EC (c : Thread nD τ) (sep_mono .rfl (exists_intro f))) $$ H
theorem wp_codeWaitY (q : BitVec 32) (hq : q.toNat < 192) (K : PUnit → sProp 𝕄) :
    iprop(OY c Y (q.toNat + 2) ∗ OW c) ⊢ iprop(((pt c aDyc (band S49152x1408 (256 * q.toNat) (256 * q.toNat + 256)) (YC Y)
      ∗ (∃ f : S2x256x1408.Idx → Elt F .fp8e5m2, pt c aDyco (band S2x256x1408 (q.toNat % 2) (q.toNat % 2 + 1)) f) ∗ semVal ((c : Thread nD τ), .dma (sOut 1 (q.toNat % 2))) 0 ∗ OW c) -∗ K ⟨⟩)
        -∗ WP c (codeWaitY q hq) K) := by
  unfold OY codeWaitY
  rw [if_pos (Nat.le_add_left _ _), Nat.add_sub_cancel, Nat.add_mod_right]
  iintro H HK
  iapply (wp_wait c (semOut_eq q hq 1 _) rfl) $$ H
  iintro ⟨⟨Hd, Hs⟩, Hv, HO⟩
  iapply HK
  isplitl [Hd]; · iexact Hd
  isplitl [Hs]; · iexact Hs
  isplitl [Hv]; · iexact Hv
  iexact HO

end Tiles
end Cert.KernelIdeal.Hand
end
-- ==== Proof.Rings.lean ====
/- The rings: what is held between two tiles, and what one tile's work does to it. -/
module

public import proofs.«01_k».proof.Proof.Tiles
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

section Rings
variable (c : Dev nD) (X : S49152x2048.Idx → Elt F .bf16) (Y : S49152x1408.Idx → Elt F .bf16)

/-- The ring of `x` between two tiles, `q` of them done. -/
def XwB (q : Nat) (f : S1280x2048.Idx → Elt F .bf16) : Prop :=
  ∀ (k : Nat) (j : S1280x2048.Idx), k < q → q ≤ k + 4 → (((j 0).val < 1024 ∧ k % 4 = (j 0).val / 256) ∨ (1024 ≤ (j 0).val ∧ k % 4 = 0)) →
    f j = xwAt X (256 * k + (j 0).val % 256) (j 1).val
theorem XwB.open {q : Nat} {f : S1280x2048.Idx → Elt F .bf16} (h : XwB X q f) : XwOk X q [] f := by
  intro k j hk
  rcases hk with ⟨h1, h2, ⟨h3, h4⟩ | ⟨_, h4⟩⟩ | ⟨h1, h2, h3, h4⟩
  · exact h k j h3 (by omega) (.inl ⟨h1, h2⟩)
  · exact absurd h4 List.not_mem_nil
  · exact h k j h3 h4 (.inr ⟨h1, h2⟩)
/-- Where tile `q` is not the first of the ring, the copy behind the ring stays. -/
theorem XwB_next {q : Nat} {D : List (Nat × Nat)} (hD : ∀ b < 2, ∀ i < 8, (b, i) ∈ D) {f : S1280x2048.Idx → Elt F .bf16} (h : XwOk X q D f) (hq : q % 4 ≠ 0) :
    XwB X (q + 1) f := by
  intro k j h1 h2 h3
  have hj0 : (j 0).val < 1280 := (j 0).isLt
  have hj1 : (j 1).val < 2048 := (j 1).isLt
  refine h k j ?_
  unfold RingAt
  rcases h3 with ⟨h3, h4⟩ | ⟨h3, h4⟩
  · refine .inl ⟨h3, h4, ?_⟩
    by_cases hk : k = q
    · exact .inr ⟨hk, hD _ (by omega) _ (by omega)⟩
    · exact .inl (by omega)
  · exact .inr (by omega)
theorem XwB_mirror {q : Nat} {D : List (Nat × Nat)} (hD : ∀ b < 2, ∀ i < 8, (b, i) ∈ D) {f : S1280x2048.Idx → Elt F .bf16} (h : XwOk X q D f) (hq : q % 4 = 0) :
    XwB X (q + 1) ((aXw.access (Rect.unit (s := S1280x2048) ![1024, 0] S256x2048.size inb_S1280x2048_S256x2048_1024_0)).write (Elt F) f
      (shapeCast S256x2048 ((aXw.access (Rect.unit (s := S1280x2048) ![0, 0] S256x2048.size inb_S1280x2048_S256x2048_0_0)).read (Elt F) f) shapeCasts_S256x2048_S256x2048) Finset.univ) := by
  intro k j h1 h2 h3
  refine step_ok (b := cc0_scratch4) (Rect.unit (s := S1280x2048) ![1024, 0] S256x2048.size inb_S1280x2048_S256x2048_1024_0) f _
    (fun j => xwAt X (256 * k + (j 0).val % 256) (j 1).val) (fun j => ((j 0).val < 1024 ∧ k % 4 = (j 0).val / 256))
    (fun j => (((j 0).val < 1024 ∧ k % 4 = (j 0).val / 256) ∨ (1024 ≤ (j 0).val ∧ k % 4 = 0))) (fun j hj => ?_) (fun y hy => ?_) (fun j hj hn => ?_) j h3
  · have hj1 : (j 1).val < 2048 := (j 1).isLt
    refine h k j (.inl ⟨hj.1, hj.2, ?_⟩)
    by_cases hk : k = q
    · exact .inr ⟨hk, hD _ (by omega) _ (by omega)⟩
    · exact .inl (by omega)
  · have hy0 : (y 0).val < 256 := (y 0).isLt
    have hy1 : (y 1).val < 2048 := (y 1).isLt
    have e0 : (((Rect.unit (s := S1280x2048) ![1024, 0] S256x2048.size inb_S1280x2048_S256x2048_1024_0).emb y) 0).val = 1024 + (y 0).val := emb_unit_val _ _
    have e1 : (((Rect.unit (s := S1280x2048) ![1024, 0] S256x2048.size inb_S1280x2048_S256x2048_1024_0).emb y) 1).val = 0 + (y 1).val := emb_unit_val _ _
    have d0 : (((Rect.unit (s := S1280x2048) ![0, 0] S256x2048.size inb_S1280x2048_S256x2048_0_0).emb y) 0).val = 0 + (y 0).val := emb_unit_val _ _
    have d1 : (((Rect.unit (s := S1280x2048) ![0, 0] S256x2048.size inb_S1280x2048_S256x2048_0_0).emb y) 1).val = 0 + (y 1).val := emb_unit_val _ _
    rw [e0] at hy
    have hk : k = q := by omega
    refine (congrFun (shapeCast_self _ _) y).trans ?_
    show f ((Rect.unit (s := S1280x2048) ![0, 0] S256x2048.size inb_S1280x2048_S256x2048_0_0).emb y) = _
    rw [h k _ (.inl ⟨by rw [d0]; omega, by rw [d0]; omega, .inr ⟨hk, by rw [d0, d1]; exact hD _ (by omega) _ (by omega)⟩⟩), d0, d1, e0, e1]
    exact congrArg₂ _ (by omega) rfl
  · rcases hj with hj | hj
    · exact hj
    · exfalso
      rw [Rect.mem_set_unit] at hn
      have hj0 : (j 0).val < 1280 := (j 0).isLt
      have hj1 : (j 1).val < 2048 := (j 1).isLt
      refine hn (Fin.forall_fin_two.mpr ⟨?_, ?_⟩)
      · show 1024 ≤ (j 0).val ∧ (j 0).val < 1024 + 256; omega
      · show 0 ≤ (j 1).val ∧ (j 1).val < 0 + 2048; omega
theorem XsOk_next {q : Nat} {D : List (Nat × Nat)} (hD : ∀ b < 2, ∀ i < 8, (b, i) ∈ D) {f : S384x2048.Idx → Elt F .f32} (h : XsOk X q D f) : XsOk X (q + 1) [] f := by
  intro j hj
  rcases hj with hj | ⟨_, hj⟩
  · by_cases hq : (j 0).val < 2 * q
    · exact h j (.inl hq)
    · exact h j (.inr ⟨by omega, hD _ (by omega) _ (by have : (j 1).val < 2048 := (j 1).isLt; omega)⟩)
  · exact absurd hj List.not_mem_nil

/-- All that is held of `x` between two tiles, `q` of them done. -/
def TilesX (q : Nat) : sProp 𝕄 :=
  iprop(pt c aX (band S49152x2048 0 (256 * q)) X ∗ pt c aX (band S49152x2048 (256 * (q + 4)) 49152) X ∗ SX c X q ∗ SX c X (q + 1) ∗ SX c X (q + 2) ∗ SX c X (q + 3)
    ∗ OX c X q ∗ OX c X (q + 1) ∗ pt c aXc (band S49152x2048 0 (256 * (q - 2))) (XC X) ∗ (∃ f : S49152x2048.Idx → Elt F .fp8e4m3, pt c aXc (band S49152x2048 (256 * q) 49152) f)
    ∗ (∃ f : S384x2048.Idx → Elt F .f32, pt c aXs Finset.univ f ∗ ⌜XsOk X q [] f⌝) ∗ (∃ f : S1280x2048.Idx → Elt F .bf16, pt c aXw Finset.univ f ∗ ⌜XwB X q f⌝))
/-- What is held of `x` beside tile `q` while that tile is being quantised. -/
def MidX (q : Nat) : sProp 𝕄 :=
  iprop(pt c aX (band S49152x2048 0 (256 * q)) X ∗ pt c aX (band S49152x2048 (256 * q) (256 * q + 256)) X ∗ pt c aX (band S49152x2048 (256 * (q + 4)) 49152) X ∗ SX c X (q + 1) ∗ SX c X (q + 2) ∗ SX c X (q + 3)
    ∗ semVal ((c : Thread nD τ), .dma (sIn 0 (q % 4))) 0 ∗ OX c X (q + 1) ∗ semVal ((c : Thread nD τ), .dma (sOut 0 (q % 2))) 0
    ∗ pt c aXc (band S49152x2048 0 (256 * (q - 1))) (XC X) ∗ (∃ f : S49152x2048.Idx → Elt F .fp8e4m3, pt c aXc (band S49152x2048 (256 * q) 49152) f))

theorem openX (q : Nat) : iprop((pt c aX (band S49152x2048 0 (256 * q)) X ∗ pt c aX (band S49152x2048 (256 * (q + 4)) 49152) X ∗ SX c X (q + 1) ∗ SX c X (q + 2) ∗ SX c X (q + 3)
    ∗ OX c X (q + 1) ∗ (∃ f : S49152x2048.Idx → Elt F .fp8e4m3, pt c aXc (band S49152x2048 (256 * q) 49152) f)
    ∗ (∃ f : S384x2048.Idx → Elt F .f32, pt c aXs Finset.univ f ∗ ⌜XsOk X q [] f⌝) ∗ (∃ f : S1280x2048.Idx → Elt F .bf16, pt c aXw Finset.univ f ∗ ⌜XwB X q f⌝))
    ∗ (pt c aXin (band S4x256x2048 (q % 4) (q % 4 + 1)) (XIN X q) ∗ pt c aX (band S49152x2048 (256 * q) (256 * q + 256)) X ∗ semVal ((c : Thread nD τ), .dma (sIn 0 (q % 4))) 0)
    ∗ pt c aXc (band S49152x2048 0 (256 * (q - 1))) (XC X) ∗ (∃ f : S2x256x2048.Idx → Elt F .fp8e4m3, pt c aXco (band S2x256x2048 (q % 2) (q % 2 + 1)) f)
    ∗ semVal ((c : Thread nD τ), .dma (sOut 0 (q % 2))) 0) ⊢ iprop(MidX c X q ∗ TX c X q []) := by
  unfold MidX TX
  iintro ⟨⟨H1, H2, H3, H4, H5, H6, H7, H8, ⟨%f, H9, %hf⟩⟩, ⟨H10, H11, H12⟩, H13, ⟨%g, H14⟩, H15⟩
  isplitl [H1 H2 H3 H4 H5 H6 H7 H11 H12 H13 H15]
  · isplitl [H1]; · iexact H1
    isplitl [H11]; · iexact H11
    isplitl [H2]; · iexact H2
    isplitl [H3]; · iexact H3
    isplitl [H4]; · iexact H4
    isplitl [H5]; · iexact H5
    isplitl [H12]; · iexact H12
    isplitl [H6]; · iexact H6
    isplitl [H15]; · iexact H15
    isplitl [H13]; · iexact H13
    iexact H7
  isplitl [H10]; · iexact H10
  isplitl [H8]; · iexact H8
  isplitl [H14]
  · iexists g
    isplitl [H14]; · iexact H14
    ipureintro; exact fun j hj => absurd hj.2 List.not_mem_nil
  iexists f
  isplitl [H9]; · iexact H9
  ipureintro; exact hf.open

theorem joinX (q : Nat) (hq : 2 ≤ q) : iprop(pt c aXc (band S49152x2048 0 (256 * (q - 2))) (XC X) ∗ pt c aXc (band S49152x2048 (256 * (q - 2)) (256 * (q - 2) + 256)) (XC X))
    ⊢ (pt c aXc (band S49152x2048 0 (256 * (q - 1))) (XC X) : sProp 𝕄) := by
  rw [show 256 * (q - 1) = 256 * (q - 2) + 256 by omega]
  exact (pt_split c aXc fullShare (XC X) (Nat.succ_pos 1) (Nat.zero_le _) (Nat.le_add_right _ _)).2

/-- Tile `q`'s copies made, its slot free: the next tile asked for, or nothing more to ask for. -/
theorem lastX (q : Nat) (hq : 192 ≤ q + 4) : iprop(pt c aX (band S49152x2048 (256 * (q + 4)) 49152) X ∗ semVal ((c : Thread nD τ), .dma (sIn 0 (q % 4))) 0
      ∗ (∃ f : S4x256x2048.Idx → Elt F .bf16, pt c aXin (band S4x256x2048 (q % 4) (q % 4 + 1)) f)) ⊢ iprop(pt c aX (band S49152x2048 (256 * (q + 1 + 4)) 49152) X ∗ SX c X (q + 4)) := by
  unfold SX
  rw [if_neg (by omega), Nat.add_mod_right, band_empty (s := S49152x2048) (by decide) (show 49152 ≤ 256 * (q + 4) by omega), band_empty (s := S49152x2048) (by decide) (show 49152 ≤ 256 * (q + 1 + 4) by omega)]
  iintro ⟨H1, H2, H3⟩
  isplitl [H1]; · iexact H1
  isplitl [H3]; · iexact H3
  iexact H2
theorem closeX (q : Nat) (hq : q < 192) : iprop(pt c aX (band S49152x2048 0 (256 * q)) X ∗ pt c aX (band S49152x2048 (256 * q) (256 * q + 256)) X ∗ (SX c X (q + 1) ∗ SX c X (q + 2) ∗ SX c X (q + 3))
    ∗ (pt c aX (band S49152x2048 (256 * (q + 1 + 4)) 49152) X ∗ SX c X (q + 4)) ∗ OX c X (q + 1) ∗ OX c X (q + 2) ∗ pt c aXc (band S49152x2048 0 (256 * (q - 1))) (XC X)
    ∗ (∃ f : S49152x2048.Idx → Elt F .fp8e4m3, pt c aXc (band S49152x2048 (256 * q + 256) 49152) f)
    ∗ (∃ f : S384x2048.Idx → Elt F .f32, pt c aXs Finset.univ f ∗ ⌜XsOk X (q + 1) [] f⌝) ∗ (∃ f : S1280x2048.Idx → Elt F .bf16, pt c aXw Finset.univ f ∗ ⌜XwB X (q + 1) f⌝))
    ⊢ TilesX c X (q + 1) := by
  unfold TilesX
  have e1 : (q + 1 - 2) = q - 1 := by omega
  have e2 : 256 * (q + 1) = 256 * q + 256 := by omega
  rw [e1, e2]
  iintro ⟨H1, H2, ⟨H3, H4, H5⟩, ⟨H6, H7⟩, H8, H9, H10, H11, H12, H13⟩
  isplitl [H1 H2]
  · iapply ((pt_split c aX fullShare X (Nat.succ_pos 1) (Nat.zero_le (256 * q)) (Nat.le_add_right (256 * q) 256)).2)
    isplitl [H1]; · iexact H1
    iexact H2
  isplitl [H6]; · iexact H6
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

/-- The ring of `y` between two tiles, `q` of them done. -/
def YwB (q : Nat) (f : S1280x1408.Idx → Elt F .bf16) : Prop :=
  ∀ (k : Nat) (j : S1280x1408.Idx), k < q → q ≤ k + 4 → (((j 0).val < 1024 ∧ k % 4 = (j 0).val / 256) ∨ (1024 ≤ (j 0).val ∧ k % 4 = 0)) →
    f j = ywAt Y (256 * k + (j 0).val % 256) (j 1).val
theorem YwB.open {q : Nat} {f : S1280x1408.Idx → Elt F .bf16} (h : YwB Y q f) : YwOk Y q [] f := by
  intro k j hk
  rcases hk with ⟨h1, h2, ⟨h3, h4⟩ | ⟨_, h4⟩⟩ | ⟨h1, h2, h3, h4⟩
  · exact h k j h3 (by omega) (.inl ⟨h1, h2⟩)
  · exact absurd h4 List.not_mem_nil
  · exact h k j h3 h4 (.inr ⟨h1, h2⟩)
/-- Where tile `q` is not the first of the ring, the copy behind the ring stays. -/
theorem YwB_next {q : Nat} {D : List (Nat × Nat)} (hD : ∀ b < 2, ∀ i < 11, (b, i) ∈ D) {f : S1280x1408.Idx → Elt F .bf16} (h : YwOk Y q D f) (hq : q % 4 ≠ 0) :
    YwB Y (q + 1) f := by
  intro k j h1 h2 h3
  have hj0 : (j 0).val < 1280 := (j 0).isLt
  have hj1 : (j 1).val < 1408 := (j 1).isLt
  refine h k j ?_
  unfold RingAt
  rcases h3 with ⟨h3, h4⟩ | ⟨h3, h4⟩
  · refine .inl ⟨h3, h4, ?_⟩
    by_cases hk : k = q
    · exact .inr ⟨hk, hD _ (by omega) _ (by omega)⟩
    · exact .inl (by omega)
  · exact .inr (by omega)
theorem YwB_mirror {q : Nat} {D : List (Nat × Nat)} (hD : ∀ b < 2, ∀ i < 11, (b, i) ∈ D) {f : S1280x1408.Idx → Elt F .bf16} (h : YwOk Y q D f) (hq : q % 4 = 0) :
    YwB Y (q + 1) ((aDyw.access (Rect.unit (s := S1280x1408) ![1024, 0] S256x1408.size inb_S1280x1408_S256x1408_1024_0)).write (Elt F) f
      (shapeCast S256x1408 ((aDyw.access (Rect.unit (s := S1280x1408) ![0, 0] S256x1408.size inb_S1280x1408_S256x1408_0_0)).read (Elt F) f) shapeCasts_S256x1408_S256x1408) Finset.univ) := by
  intro k j h1 h2 h3
  refine step_ok (b := cc0_scratch5) (Rect.unit (s := S1280x1408) ![1024, 0] S256x1408.size inb_S1280x1408_S256x1408_1024_0) f _
    (fun j => ywAt Y (256 * k + (j 0).val % 256) (j 1).val) (fun j => ((j 0).val < 1024 ∧ k % 4 = (j 0).val / 256))
    (fun j => (((j 0).val < 1024 ∧ k % 4 = (j 0).val / 256) ∨ (1024 ≤ (j 0).val ∧ k % 4 = 0))) (fun j hj => ?_) (fun y hy => ?_) (fun j hj hn => ?_) j h3
  · have hj1 : (j 1).val < 1408 := (j 1).isLt
    refine h k j (.inl ⟨hj.1, hj.2, ?_⟩)
    by_cases hk : k = q
    · exact .inr ⟨hk, hD _ (by omega) _ (by omega)⟩
    · exact .inl (by omega)
  · have hy0 : (y 0).val < 256 := (y 0).isLt
    have hy1 : (y 1).val < 1408 := (y 1).isLt
    have e0 : (((Rect.unit (s := S1280x1408) ![1024, 0] S256x1408.size inb_S1280x1408_S256x1408_1024_0).emb y) 0).val = 1024 + (y 0).val := emb_unit_val _ _
    have e1 : (((Rect.unit (s := S1280x1408) ![1024, 0] S256x1408.size inb_S1280x1408_S256x1408_1024_0).emb y) 1).val = 0 + (y 1).val := emb_unit_val _ _
    have d0 : (((Rect.unit (s := S1280x1408) ![0, 0] S256x1408.size inb_S1280x1408_S256x1408_0_0).emb y) 0).val = 0 + (y 0).val := emb_unit_val _ _
    have d1 : (((Rect.unit (s := S1280x1408) ![0, 0] S256x1408.size inb_S1280x1408_S256x1408_0_0).emb y) 1).val = 0 + (y 1).val := emb_unit_val _ _
    rw [e0] at hy
    have hk : k = q := by omega
    refine (congrFun (shapeCast_self _ _) y).trans ?_
    show f ((Rect.unit (s := S1280x1408) ![0, 0] S256x1408.size inb_S1280x1408_S256x1408_0_0).emb y) = _
    rw [h k _ (.inl ⟨by rw [d0]; omega, by rw [d0]; omega, .inr ⟨hk, by rw [d0, d1]; exact hD _ (by omega) _ (by omega)⟩⟩), d0, d1, e0, e1]
    exact congrArg₂ _ (by omega) rfl
  · rcases hj with hj | hj
    · exact hj
    · exfalso
      rw [Rect.mem_set_unit] at hn
      have hj0 : (j 0).val < 1280 := (j 0).isLt
      have hj1 : (j 1).val < 1408 := (j 1).isLt
      refine hn (Fin.forall_fin_two.mpr ⟨?_, ?_⟩)
      · show 1024 ≤ (j 0).val ∧ (j 0).val < 1024 + 256; omega
      · show 0 ≤ (j 1).val ∧ (j 1).val < 0 + 1408; omega
theorem YsOk_next {q : Nat} {D : List (Nat × Nat)} (hD : ∀ b < 2, ∀ i < 11, (b, i) ∈ D) {f : S384x11.Idx → Elt F .f32} (h : YsOk Y q D f) : YsOk Y (q + 1) [] f := by
  intro j hj
  rcases hj with hj | ⟨_, hj⟩
  · by_cases hq : (j 0).val < 2 * q
    · exact h j (.inl hq)
    · exact h j (.inr ⟨by omega, hD _ (by omega) _ ((j 1).isLt)⟩)
  · exact absurd hj List.not_mem_nil

/-- All that is held of `y` between two tiles, `q` of them done. -/
def TilesY (q : Nat) : sProp 𝕄 :=
  iprop(pt c aDy (band S49152x1408 0 (256 * q)) Y ∗ pt c aDy (band S49152x1408 (256 * (q + 4)) 49152) Y ∗ SY c Y q ∗ SY c Y (q + 1) ∗ SY c Y (q + 2) ∗ SY c Y (q + 3)
    ∗ OY c Y q ∗ OY c Y (q + 1) ∗ pt c aDyc (band S49152x1408 0 (256 * (q - 2))) (YC Y) ∗ (∃ f : S49152x1408.Idx → Elt F .fp8e5m2, pt c aDyc (band S49152x1408 (256 * q) 49152) f)
    ∗ (∃ f : S384x11.Idx → Elt F .f32, pt c aDys Finset.univ f ∗ ⌜YsOk Y q [] f⌝) ∗ (∃ f : S1280x1408.Idx → Elt F .bf16, pt c aDyw Finset.univ f ∗ ⌜YwB Y q f⌝))
/-- What is held of `y` beside tile `q` while that tile is being quantised. -/
def MidY (q : Nat) : sProp 𝕄 :=
  iprop(pt c aDy (band S49152x1408 0 (256 * q)) Y ∗ pt c aDy (band S49152x1408 (256 * q) (256 * q + 256)) Y ∗ pt c aDy (band S49152x1408 (256 * (q + 4)) 49152) Y ∗ SY c Y (q + 1) ∗ SY c Y (q + 2) ∗ SY c Y (q + 3)
    ∗ semVal ((c : Thread nD τ), .dma (sIn 1 (q % 4))) 0 ∗ OY c Y (q + 1) ∗ semVal ((c : Thread nD τ), .dma (sOut 1 (q % 2))) 0
    ∗ pt c aDyc (band S49152x1408 0 (256 * (q - 1))) (YC Y) ∗ (∃ f : S49152x1408.Idx → Elt F .fp8e5m2, pt c aDyc (band S49152x1408 (256 * q) 49152) f))

theorem openY (q : Nat) : iprop((pt c aDy (band S49152x1408 0 (256 * q)) Y ∗ pt c aDy (band S49152x1408 (256 * (q + 4)) 49152) Y ∗ SY c Y (q + 1) ∗ SY c Y (q + 2) ∗ SY c Y (q + 3)
    ∗ OY c Y (q + 1) ∗ (∃ f : S49152x1408.Idx → Elt F .fp8e5m2, pt c aDyc (band S49152x1408 (256 * q) 49152) f)
    ∗ (∃ f : S384x11.Idx → Elt F .f32, pt c aDys Finset.univ f ∗ ⌜YsOk Y q [] f⌝) ∗ (∃ f : S1280x1408.Idx → Elt F .bf16, pt c aDyw Finset.univ f ∗ ⌜YwB Y q f⌝))
    ∗ (pt c aDyin (band S4x256x1408 (q % 4) (q % 4 + 1)) (YIN Y q) ∗ pt c aDy (band S49152x1408 (256 * q) (256 * q + 256)) Y ∗ semVal ((c : Thread nD τ), .dma (sIn 1 (q % 4))) 0)
    ∗ pt c aDyc (band S49152x1408 0 (256 * (q - 1))) (YC Y) ∗ (∃ f : S2x256x1408.Idx → Elt F .fp8e5m2, pt c aDyco (band S2x256x1408 (q % 2) (q % 2 + 1)) f)
    ∗ semVal ((c : Thread nD τ), .dma (sOut 1 (q % 2))) 0) ⊢ iprop(MidY c Y q ∗ TY c Y q []) := by
  unfold MidY TY
  iintro ⟨⟨H1, H2, H3, H4, H5, H6, H7, H8, ⟨%f, H9, %hf⟩⟩, ⟨H10, H11, H12⟩, H13, ⟨%g, H14⟩, H15⟩
  isplitl [H1 H2 H3 H4 H5 H6 H7 H11 H12 H13 H15]
  · isplitl [H1]; · iexact H1
    isplitl [H11]; · iexact H11
    isplitl [H2]; · iexact H2
    isplitl [H3]; · iexact H3
    isplitl [H4]; · iexact H4
    isplitl [H5]; · iexact H5
    isplitl [H12]; · iexact H12
    isplitl [H6]; · iexact H6
    isplitl [H15]; · iexact H15
    isplitl [H13]; · iexact H13
    iexact H7
  isplitl [H10]; · iexact H10
  isplitl [H8]; · iexact H8
  isplitl [H14]
  · iexists g
    isplitl [H14]; · iexact H14
    ipureintro; exact fun j hj => absurd hj.2 List.not_mem_nil
  iexists f
  isplitl [H9]; · iexact H9
  ipureintro; exact hf.open

theorem joinY (q : Nat) (hq : 2 ≤ q) : iprop(pt c aDyc (band S49152x1408 0 (256 * (q - 2))) (YC Y) ∗ pt c aDyc (band S49152x1408 (256 * (q - 2)) (256 * (q - 2) + 256)) (YC Y))
    ⊢ (pt c aDyc (band S49152x1408 0 (256 * (q - 1))) (YC Y) : sProp 𝕄) := by
  rw [show 256 * (q - 1) = 256 * (q - 2) + 256 by omega]
  exact (pt_split c aDyc fullShare (YC Y) (Nat.succ_pos 1) (Nat.zero_le _) (Nat.le_add_right _ _)).2

/-- Tile `q`'s copies made, its slot free: the next tile asked for, or nothing more to ask for. -/
theorem lastY (q : Nat) (hq : 192 ≤ q + 4) : iprop(pt c aDy (band S49152x1408 (256 * (q + 4)) 49152) Y ∗ semVal ((c : Thread nD τ), .dma (sIn 1 (q % 4))) 0
      ∗ (∃ f : S4x256x1408.Idx → Elt F .bf16, pt c aDyin (band S4x256x1408 (q % 4) (q % 4 + 1)) f)) ⊢ iprop(pt c aDy (band S49152x1408 (256 * (q + 1 + 4)) 49152) Y ∗ SY c Y (q + 4)) := by
  unfold SY
  rw [if_neg (by omega), Nat.add_mod_right, band_empty (s := S49152x1408) (by decide) (show 49152 ≤ 256 * (q + 4) by omega), band_empty (s := S49152x1408) (by decide) (show 49152 ≤ 256 * (q + 1 + 4) by omega)]
  iintro ⟨H1, H2, H3⟩
  isplitl [H1]; · iexact H1
  isplitl [H3]; · iexact H3
  iexact H2
theorem closeY (q : Nat) (hq : q < 192) : iprop(pt c aDy (band S49152x1408 0 (256 * q)) Y ∗ pt c aDy (band S49152x1408 (256 * q) (256 * q + 256)) Y ∗ (SY c Y (q + 1) ∗ SY c Y (q + 2) ∗ SY c Y (q + 3))
    ∗ (pt c aDy (band S49152x1408 (256 * (q + 1 + 4)) 49152) Y ∗ SY c Y (q + 4)) ∗ OY c Y (q + 1) ∗ OY c Y (q + 2) ∗ pt c aDyc (band S49152x1408 0 (256 * (q - 1))) (YC Y)
    ∗ (∃ f : S49152x1408.Idx → Elt F .fp8e5m2, pt c aDyc (band S49152x1408 (256 * q + 256) 49152) f)
    ∗ (∃ f : S384x11.Idx → Elt F .f32, pt c aDys Finset.univ f ∗ ⌜YsOk Y (q + 1) [] f⌝) ∗ (∃ f : S1280x1408.Idx → Elt F .bf16, pt c aDyw Finset.univ f ∗ ⌜YwB Y (q + 1) f⌝))
    ⊢ TilesY c Y (q + 1) := by
  unfold TilesY
  have e1 : (q + 1 - 2) = q - 1 := by omega
  have e2 : 256 * (q + 1) = 256 * q + 256 := by omega
  rw [e1, e2]
  iintro ⟨H1, H2, ⟨H3, H4, H5⟩, ⟨H6, H7⟩, H8, H9, H10, H11, H12, H13⟩
  isplitl [H1 H2]
  · iapply ((pt_split c aDy fullShare Y (Nat.succ_pos 1) (Nat.zero_le (256 * q)) (Nat.le_add_right (256 * q) 256)).2)
    isplitl [H1]; · iexact H1
    iexact H2
  isplitl [H6]; · iexact H6
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  iexact H13

end Rings
end Cert.KernelIdeal.Hand
end
-- ==== Proof.Work.lean ====
/- One tile's work: wait for it, quantise it chunk by chunk, send its codes out and ask for the tile four on. -/
module

public import proofs.«01_k».proof.Proof.Rings
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

section Work
variable (c : Dev nD) (X : S49152x2048.Idx → Elt F .bf16) (Y : S49152x1408.Idx → Elt F .bf16)

def doneX (i : Nat) (D : List (Nat × Nat)) : List (Nat × Nat) := (1, i) :: (0, i) :: D
def doneY (i : Nat) (D : List (Nat × Nat)) : List (Nat × Nat) :=
  if i < 3 then (1, i + 8) :: (1, i) :: (0, i + 8) :: (0, i) :: D else (1, i) :: (0, i) :: D

theorem wp_quantChunk (q : BitVec 32) (hq : q.toNat < 192) (i : Nat) (hi : i < 8) (D E : List (Nat × Nat)) (K : PUnit → sProp 𝕄) :
    iprop(TX c X q.toNat D ∗ TY c Y q.toNat E) ⊢ iprop(((TX c X q.toNat (doneX i D) ∗ TY c Y q.toNat (doneY i E)) -∗ K ⟨⟩) -∗ WP c (quantChunk q hq i hi) K) := by
  unfold quantChunk doneX doneY
  by_cases h : i < 3
  · simp only [h, ↓reduceDIte, ↓reduceIte]
    iintro ⟨HX, HY⟩ HK
    iapply (wp_seq c); iapply (wp_quantX c X q hq 0 i _ hi D _) $$ HX; iintro HX
    iapply (wp_seq c); iapply (wp_quantY c Y q hq 0 i _ _ E _) $$ HY; iintro HY
    iapply (wp_seq c); iapply (wp_quantY c Y q hq 0 (i + 8) _ _ _ _) $$ HY; iintro HY
    iapply (wp_seq c); iapply (wp_quantX c X q hq 1 i _ hi _ _) $$ HX; iintro HX
    iapply (wp_seq c); iapply (wp_quantY c Y q hq 1 i _ _ _ _) $$ HY; iintro HY
    iapply (wp_quantY c Y q hq 1 (i + 8) _ _ _ _) $$ HY; iintro HY
    iapply HK
    isplitl [HX]; · iexact HX
    iexact HY
  · simp only [h, ↓reduceDIte, ↓reduceIte, pure_bind]
    iintro ⟨HX, HY⟩ HK
    iapply (wp_seq c); iapply (wp_quantX c X q hq 0 i _ hi D _) $$ HX; iintro HX
    iapply (wp_seq c); iapply (wp_quantY c Y q hq 0 i _ _ E _) $$ HY; iintro HY
    iapply (wp_seq c); iapply (wp_quantX c X q hq 1 i _ hi _ _) $$ HX; iintro HX
    iapply (wp_seq c); iapply (wp_quantY c Y q hq 1 i _ _ _ _) $$ HY; iintro HY
    iapply (wp_pure_intro c)
    iapply HK
    isplitl [HX]; · iexact HX
    iexact HY

theorem idleX (q : Nat) (h : ¬ 2 ≤ q) : OX c X q ⊢ iprop((∃ f : S2x256x2048.Idx → Elt F .fp8e4m3, pt c aXco (band S2x256x2048 (q % 2) (q % 2 + 1)) f)
    ∗ semVal ((c : Thread nD τ), .dma (sOut 0 (q % 2))) 0) := by
  unfold OX; rw [if_neg h]
theorem idleY (q : Nat) (h : ¬ 2 ≤ q) : OY c Y q ⊢ iprop((∃ f : S2x256x1408.Idx → Elt F .fp8e5m2, pt c aDyco (band S2x256x1408 (q % 2) (q % 2 + 1)) f)
    ∗ semVal ((c : Thread nD τ), .dma (sOut 1 (q % 2))) 0) := by
  unfold OY; rw [if_neg h]

theorem wp_quantWait (q : BitVec 32) (hq : q.toNat < 192) (K : PUnit → sProp 𝕄) :
    iprop(TilesX c X q.toNat ∗ TilesY c Y q.toNat ∗ OW c)
      ⊢ iprop(((MidX c X q.toNat ∗ MidY c Y q.toNat ∗ (TX c X q.toNat [] ∗ TY c Y q.toNat []) ∗ OW c) -∗ K ⟨⟩) -∗ WP c (quantWait q hq) K) := by
  unfold TilesX TilesY quantWait
  iintro ⟨⟨X1, X2, X3, X4, X5, X6, X7, X8, X9, X10, X11, X12⟩, ⟨Y1, Y2, Y3, Y4, Y5, Y6, Y7, Y8, Y9, Y10, Y11, Y12⟩, HO⟩ HK
  iapply (wp_seq c); iapply (wp_inWaitX c X q hq _) $$ [X3 HO]
  · isplitl [X3]; · iexact X3
    iexact HO
  iintro ⟨A1, A2, A3, HO⟩
  iapply (wp_seq c); iapply (wp_inWaitY c Y q hq _) $$ [Y3 HO]
  · isplitl [Y3]; · iexact Y3
    iexact HO
  iintro ⟨B1, B2, B3, HO⟩
  by_cases h : hasPrev q = 1#1
  · rw [dif_pos h]
    have h2 : 2 ≤ q.toNat := (hasPrev_iff hq).mp h
    have hp : (Scalar.subi q 2#32).toNat = q.toNat - 2 := prev_toNat hq h
    have hp2 : (Scalar.subi q 2#32).toNat + 2 = q.toNat := by omega
    have hpm : (Scalar.subi q 2#32).toNat % 2 = q.toNat % 2 := by omega
    iapply (wp_seq c); iapply (wp_codeWaitX c X _ (prev_lt hq h) _) $$ [X7 HO]
    · rw [hp2]
      isplitl [X7]; · iexact X7
      iexact HO
    iintro ⟨A4, A5, A6, HO⟩
    iapply (wp_seq c); iapply (wp_codeWaitY c Y _ (prev_lt hq h) _) $$ [Y7 HO]
    · rw [hp2]
      isplitl [Y7]; · iexact Y7
      iexact HO
    iintro ⟨B4, B5, B6, HO⟩
    iapply (wp_pure_intro c)
    iapply HK
    rw [hp, ← hp, hpm, hp]
    ihave HX := (openX c X q.toNat) $$ [X1 X2 X4 X5 X6 X8 X9 X10 X11 X12 A1 A2 A3 A4 A5 A6]
    · isplitl [X1 X2 X4 X5 X6 X8 X10 X11 X12]
      · isplitl [X1]; · iexact X1
        isplitl [X2]; · iexact X2
        isplitl [X4]; · iexact X4
        isplitl [X5]; · iexact X5
        isplitl [X6]; · iexact X6
        isplitl [X8]; · iexact X8
        isplitl [X10]; · iexact X10
        isplitl [X11]; · iexact X11
        iexact X12
      isplitl [A1 A2 A3]
      · isplitl [A1]; · iexact A1
        isplitl [A2]; · iexact A2
        iexact A3
      isplitl [X9 A4]
      · iapply (joinX c X q.toNat h2)
        isplitl [X9]; · iexact X9
        iexact A4
      isplitl [A5]; · iexact A5
      iexact A6
    ihave HY := (openY c Y q.toNat) $$ [Y1 Y2 Y4 Y5 Y6 Y8 Y9 Y10 Y11 Y12 B1 B2 B3 B4 B5 B6]
    · isplitl [Y1 Y2 Y4 Y5 Y6 Y8 Y10 Y11 Y12]
      · isplitl [Y1]; · iexact Y1
        isplitl [Y2]; · iexact Y2
        isplitl [Y4]; · iexact Y4
        isplitl [Y5]; · iexact Y5
        isplitl [Y6]; · iexact Y6
        isplitl [Y8]; · iexact Y8
        isplitl [Y10]; · iexact Y10
        isplitl [Y11]; · iexact Y11
        iexact Y12
      isplitl [B1 B2 B3]
      · isplitl [B1]; · iexact B1
        isplitl [B2]; · iexact B2
        iexact B3
      isplitl [Y9 B4]
      · iapply (joinY c Y q.toNat h2)
        isplitl [Y9]; · iexact Y9
        iexact B4
      isplitl [B5]; · iexact B5
      iexact B6
    icases HX with ⟨HX, HTX⟩
    icases HY with ⟨HY, HTY⟩
    isplitl [HX]; · iexact HX
    isplitl [HY]; · iexact HY
    isplitl [HTX HTY]
    · isplitl [HTX]; · iexact HTX
      iexact HTY
    iexact HO
  · rw [dif_neg h]
    have h2 : ¬ 2 ≤ q.toNat := fun h' => h ((hasPrev_iff hq).mpr h')
    have hz : q.toNat - 2 = q.toNat - 1 := by omega
    ihave X7 := (idleX c X q.toNat h2) $$ X7
    ihave Y7 := (idleY c Y q.toNat h2) $$ Y7
    icases X7 with ⟨A5, A6⟩
    icases Y7 with ⟨B5, B6⟩
    iapply (wp_pure_intro c)
    iapply HK
    ihave HX := (openX c X q.toNat) $$ [X1 X2 X4 X5 X6 X8 X9 X10 X11 X12 A1 A2 A3 A5 A6]
    · isplitl [X1 X2 X4 X5 X6 X8 X10 X11 X12]
      · isplitl [X1]; · iexact X1
        isplitl [X2]; · iexact X2
        isplitl [X4]; · iexact X4
        isplitl [X5]; · iexact X5
        isplitl [X6]; · iexact X6
        isplitl [X8]; · iexact X8
        isplitl [X10]; · iexact X10
        isplitl [X11]; · iexact X11
        iexact X12
      isplitl [A1 A2 A3]
      · isplitl [A1]; · iexact A1
        isplitl [A2]; · iexact A2
        iexact A3
      isplitl [X9]; · rw [← hz]; iexact X9
      isplitl [A5]; · iexact A5
      iexact A6
    ihave HY := (openY c Y q.toNat) $$ [Y1 Y2 Y4 Y5 Y6 Y8 Y9 Y10 Y11 Y12 B1 B2 B3 B5 B6]
    · isplitl [Y1 Y2 Y4 Y5 Y6 Y8 Y10 Y11 Y12]
      · isplitl [Y1]; · iexact Y1
        isplitl [Y2]; · iexact Y2
        isplitl [Y4]; · iexact Y4
        isplitl [Y5]; · iexact Y5
        isplitl [Y6]; · iexact Y6
        isplitl [Y8]; · iexact Y8
        isplitl [Y10]; · iexact Y10
        isplitl [Y11]; · iexact Y11
        iexact Y12
      isplitl [B1 B2 B3]
      · isplitl [B1]; · iexact B1
        isplitl [B2]; · iexact B2
        iexact B3
      isplitl [Y9]; · rw [← hz]; iexact Y9
      isplitl [B5]; · iexact B5
      iexact B6
    icases HX with ⟨HX, HTX⟩
    icases HY with ⟨HY, HTY⟩
    isplitl [HX]; · iexact HX
    isplitl [HY]; · iexact HY
    isplitl [HTX HTY]
    · isplitl [HTX]; · iexact HTX
      iexact HTY
    iexact HO

/-- The two rings, before and after the copy behind them. -/
theorem wp_mirror {q : Nat} (hq : q % 4 = 0) {D E : List (Nat × Nat)} (hD : ∀ b < 2, ∀ i < 8, (b, i) ∈ D) (hE : ∀ b < 2, ∀ i < 11, (b, i) ∈ E) (K : PUnit → sProp 𝕄) :
    iprop((∃ f : S1280x2048.Idx → Elt F .bf16, pt c aXw Finset.univ f ∗ ⌜XwOk X q D f⌝) ∗ (∃ f : S1280x1408.Idx → Elt F .bf16, pt c aDyw Finset.univ f ∗ ⌜YwOk Y q E f⌝))
      ⊢ iprop((((∃ f : S1280x2048.Idx → Elt F .bf16, pt c aXw Finset.univ f ∗ ⌜XwB X (q + 1) f⌝) ∗ (∃ f : S1280x1408.Idx → Elt F .bf16, pt c aDyw Finset.univ f ∗ ⌜YwB Y (q + 1) f⌝)) -∗ K ⟨⟩)
        -∗ WP c (mirror (F := F)) K) := by
  unfold mirror
  simp only [lift_bind]
  iintro ⟨⟨%f, H1, %h1⟩, ⟨%g, H2, %h2⟩⟩ HK
  iapply (wp_load_rect Variants.none (c : Thread nD τ) none Set.univ (m := aXw) (r := Rect.unit (s := S1280x2048) ![0, 0] S256x2048.size inb_S1280x2048_S256x2048_0_0) (S := Finset.univ) (Finset.subset_univ _)) $$ H1
  iintro H1
  iapply (wp_load_rect Variants.none (c : Thread nD τ) none Set.univ (m := aXw) (r := Rect.unit (s := S1280x2048) ![1024, 0] S256x2048.size inb_S1280x2048_S256x2048_1024_0) (S := Finset.univ) (Finset.subset_univ _)) $$ H1
  iintro H1
  iapply (wp_store Variants.none (c : Thread nD τ) none Set.univ (m := aXw) (r := Rect.unit (s := S1280x2048) ![1024, 0] S256x2048.size inb_S1280x2048_S256x2048_1024_0) (Mk := Finset.univ) (S := Finset.univ) (Finset.subset_univ _)) $$ H1
  iintro H1
  iapply (wp_load_rect Variants.none (c : Thread nD τ) none Set.univ (m := aDyw) (r := Rect.unit (s := S1280x1408) ![0, 0] S256x1408.size inb_S1280x1408_S256x1408_0_0) (S := Finset.univ) (Finset.subset_univ _)) $$ H2
  iintro H2
  iapply (wp_load_rect Variants.none (c : Thread nD τ) none Set.univ (m := aDyw) (r := Rect.unit (s := S1280x1408) ![1024, 0] S256x1408.size inb_S1280x1408_S256x1408_1024_0) (S := Finset.univ) (Finset.subset_univ _)) $$ H2
  iintro H2
  iapply (wp_store Variants.none (c : Thread nD τ) none Set.univ (m := aDyw) (r := Rect.unit (s := S1280x1408) ![1024, 0] S256x1408.size inb_S1280x1408_S256x1408_1024_0) (Mk := Finset.univ) (S := Finset.univ) (Finset.subset_univ _)) $$ H2
  iintro H2
  iapply (wp_pure_intro c)
  iapply HK
  isplitl [H1]
  · iexists _
    isplitl [H1]; · iexact H1
    ipureintro; exact XwB_mirror X hD h1 hq
  · iexists _
    isplitl [H2]; · iexact H2
    ipureintro; exact YwB_mirror Y hE h2 hq

/-- The copy behind the rings, made only after the first tile of a turn. -/
theorem wp_mirrorIf (q : BitVec 32) (hq : q.toNat < 192) {D E : List (Nat × Nat)} (hD : ∀ b < 2, ∀ i < 8, (b, i) ∈ D) (hE : ∀ b < 2, ∀ i < 11, (b, i) ∈ E) (K : PUnit → sProp 𝕄) :
    iprop((∃ f : S1280x2048.Idx → Elt F .bf16, pt c aXw Finset.univ f ∗ ⌜XwOk X q.toNat D f⌝) ∗ (∃ f : S1280x1408.Idx → Elt F .bf16, pt c aDyw Finset.univ f ∗ ⌜YwOk Y q.toNat E f⌝))
      ⊢ iprop((((∃ f : S1280x2048.Idx → Elt F .bf16, pt c aXw Finset.univ f ∗ ⌜XwB X (q.toNat + 1) f⌝) ∗ (∃ f : S1280x1408.Idx → Elt F .bf16, pt c aDyw Finset.univ f ∗ ⌜YwB Y (q.toNat + 1) f⌝)) -∗ K ⟨⟩)
        -∗ WP c (if isFirst q = 1#1 then mirror (F := F) else pure ⟨⟩) K) := by
  by_cases h : isFirst q = 1#1
  · rw [if_pos h]
    exact wp_mirror c X Y ((isFirst_iff hq).mp h) hD hE K
  · rw [if_neg h]
    have h4 : q.toNat % 4 ≠ 0 := fun h' => h ((isFirst_iff hq).mpr h')
    iintro ⟨⟨%f, H1, %h1⟩, ⟨%g, H2, %h2⟩⟩ HK
    iapply (wp_pure_intro c)
    iapply HK
    isplitl [H1]
    · iexists _
      isplitl [H1]; · iexact H1
      ipureintro; exact XwB_next X hD h1 h4
    · iexists _
      isplitl [H2]; · iexact H2
      ipureintro; exact YwB_next Y hE h2 h4

/-- Asking for the tile four on, where there is one. -/
def nextIf (q : BitVec 32) (hq : q.toNat < 192) : Prog (TpuEff nD τ sig (Elt F) Λ₀ .tc) PUnit :=
  if h : hasNext q = 1#1 then do
    inStartX (Scalar.addi q 4#32) (next_lt hq h)
    inStartY (Scalar.addi q 4#32) (next_lt hq h)
    pure ⟨⟩
  else pure ⟨⟩
theorem wp_next (q : BitVec 32) (hq : q.toNat < 192) (K : PUnit → sProp 𝕄) :
    iprop((pt c aX (band S49152x2048 (256 * (q.toNat + 4)) 49152) X ∗ semVal ((c : Thread nD τ), .dma (sIn 0 (q.toNat % 4))) 0
        ∗ (∃ f : S4x256x2048.Idx → Elt F .bf16, pt c aXin (band S4x256x2048 (q.toNat % 4) (q.toNat % 4 + 1)) f))
      ∗ (pt c aDy (band S49152x1408 (256 * (q.toNat + 4)) 49152) Y ∗ semVal ((c : Thread nD τ), .dma (sIn 1 (q.toNat % 4))) 0
        ∗ (∃ f : S4x256x1408.Idx → Elt F .bf16, pt c aDyin (band S4x256x1408 (q.toNat % 4) (q.toNat % 4 + 1)) f)))
      ⊢ iprop((((pt c aX (band S49152x2048 (256 * (q.toNat + 1 + 4)) 49152) X ∗ SX c X (q.toNat + 4)) ∗ (pt c aDy (band S49152x1408 (256 * (q.toNat + 1 + 4)) 49152) Y ∗ SY c Y (q.toNat + 4))) -∗ K ⟨⟩)
        -∗ WP c (nextIf q hq) K) := by
  unfold nextIf
  by_cases h : hasNext q = 1#1
  · rw [dif_pos h]
    have h4 : q.toNat + 4 < 192 := (hasNext_iff hq).mp h
    have hn : (Scalar.addi q 4#32).toNat = q.toNat + 4 := next_toNat hq
    have hnm : (Scalar.addi q 4#32).toNat % 4 = q.toNat % 4 := by omega
    iintro ⟨⟨A1, A2, A3⟩, ⟨B1, B2, B3⟩⟩ HK
    ihave A1 := ((pt_split c aX fullShare X (Nat.succ_pos 1) (Nat.le_add_right (256 * (q.toNat + 4)) 256) (show 256 * (q.toNat + 4) + 256 ≤ 49152 by omega)).1) $$ A1
    icases A1 with ⟨A1, A4⟩
    ihave B1 := ((pt_split c aDy fullShare Y (Nat.succ_pos 1) (Nat.le_add_right (256 * (q.toNat + 4)) 256) (show 256 * (q.toNat + 4) + 256 ≤ 49152 by omega)).1) $$ B1
    icases B1 with ⟨B1, B4⟩
    iapply (wp_seq c); iapply (wp_inStartX c X _ (next_lt hq h) _) $$ [A1 A2 A3]
    · rw [hnm, hn]
      isplitl [A3]; · iexact A3
      isplitl [A2]; · iexact A2
      iexact A1
    iintro A5
    iapply (wp_seq c); iapply (wp_inStartY c Y _ (next_lt hq h) _) $$ [B1 B2 B3]
    · rw [hnm, hn]
      isplitl [B3]; · iexact B3
      isplitl [B2]; · iexact B2
      iexact B1
    iintro B5
    rw [hn]
    iapply (wp_pure_intro c)
    iapply HK
    rw [show 256 * (q.toNat + 1 + 4) = 256 * (q.toNat + 4) + 256 by omega]
    isplitl [A4 A5]
    · isplitl [A4]; · iexact A4
      iexact A5
    · isplitl [B4]; · iexact B4
      iexact B5
  · rw [dif_neg h]
    have h4 : 192 ≤ q.toNat + 4 := Nat.le_of_not_lt fun h' => h ((hasNext_iff hq).mpr h')
    iintro ⟨A, B⟩ HK
    iapply (wp_pure_intro c)
    iapply HK
    isplitl [A]
    · iapply (lastX c X q.toNat h4) $$ A
    · iapply (lastY c Y q.toNat h4) $$ B

theorem quantDone_eq (q : BitVec 32) (hq : q.toNat < 192) :
    quantDone (F := F) q hq = (codeStartX q hq >>= fun _ => codeStartY q hq >>= fun _ => nextIf q hq >>= fun _ => (if isFirst q = 1#1 then mirror (F := F) else pure ⟨⟩) >>= fun _ => pure ⟨⟩) := by
  unfold quantDone nextIf
  by_cases h : hasNext q = 1#1 <;> by_cases h' : isFirst q = 1#1 <;> simp [h, h']

theorem wp_quantDone (q : BitVec 32) (hq : q.toNat < 192) {D E : List (Nat × Nat)} (hD : ∀ b < 2, ∀ i < 8, (b, i) ∈ D) (hE : ∀ b < 2, ∀ i < 11, (b, i) ∈ E) (K : PUnit → sProp 𝕄) :
    iprop(MidX c X q.toNat ∗ MidY c Y q.toNat ∗ (TX c X q.toNat D ∗ TY c Y q.toNat E))
      ⊢ iprop(((TilesX c X (q.toNat + 1) ∗ TilesY c Y (q.toNat + 1)) -∗ K ⟨⟩) -∗ WP c (quantDone q hq) K) := by
  rw [quantDone_eq]
  unfold MidX MidY TX TY
  iintro ⟨⟨X1, X2, X3, X4, X5, X6, X7, X8, X9, X10, ⟨%fx, X11⟩⟩, ⟨Y1, Y2, Y3, Y4, Y5, Y6, Y7, Y8, Y9, Y10, ⟨%fy, Y11⟩⟩, ⟨A1, ⟨%sx, A2, %hsx⟩, A3, A4⟩, ⟨B1, ⟨%sy, B2, %hsy⟩, B3, B4⟩⟩ HK
  ihave X11 := ((pt_split c aXc fullShare fx (Nat.succ_pos 1) (Nat.le_add_right (256 * q.toNat) 256) (show 256 * q.toNat + 256 ≤ 49152 by omega)).1) $$ X11
  icases X11 with ⟨X11, X12⟩
  ihave Y11 := ((pt_split c aDyc fullShare fy (Nat.succ_pos 1) (Nat.le_add_right (256 * q.toNat) 256) (show 256 * q.toNat + 256 ≤ 49152 by omega)).1) $$ Y11
  icases Y11 with ⟨Y11, Y12⟩
  iapply (wp_seq c); iapply (wp_codeStartX c X q hq hD fx _) $$ [A3 X9 X11]
  · isplitl [A3]; · iexact A3
    isplitl [X9]; · iexact X9
    iexact X11
  iintro X9
  iapply (wp_seq c); iapply (wp_codeStartY c Y q hq hE fy _) $$ [B3 Y9 Y11]
  · isplitl [B3]; · iexact B3
    isplitl [Y9]; · iexact Y9
    iexact Y11
  iintro Y9
  iapply (wp_seq c); iapply (wp_next c X Y q hq _) $$ [X3 X7 A1 Y3 Y7 B1]
  · isplitl [X3 X7 A1]
    · isplitl [X3]; · iexact X3
      isplitl [X7]; · iexact X7
      iexists _; iexact A1
    · isplitl [Y3]; · iexact Y3
      isplitl [Y7]; · iexact Y7
      iexists _; iexact B1
  iintro ⟨X3, Y3⟩
  iapply (wp_seq c); iapply (wp_mirrorIf c X Y q hq hD hE _) $$ [A4 B4]
  · isplitl [A4]; · iexact A4
    iexact B4
  iintro ⟨A4, B4⟩
  iapply (wp_pure_intro c)
  iapply HK
  isplitl [X1 X2 X4 X5 X6 X3 X8 X9 X10 X12 A2 A4]
  · iapply (closeX c X q.toNat hq)
    isplitl [X1]; · iexact X1
    isplitl [X2]; · iexact X2
    isplitl [X4 X5 X6]
    · isplitl [X4]; · iexact X4
      isplitl [X5]; · iexact X5
      iexact X6
    isplitl [X3]; · iexact X3
    isplitl [X8]; · iexact X8
    isplitl [X9]; · iexact X9
    isplitl [X10]; · iexact X10
    isplitl [X12]; · iexists fx; iexact X12
    isplitl [A2]
    · iexists sx
      isplitl [A2]; · iexact A2
      ipureintro; exact XsOk_next X hD hsx
    iexact A4
  · iapply (closeY c Y q.toNat hq)
    isplitl [Y1]; · iexact Y1
    isplitl [Y2]; · iexact Y2
    isplitl [Y4 Y5 Y6]
    · isplitl [Y4]; · iexact Y4
      isplitl [Y5]; · iexact Y5
      iexact Y6
    isplitl [Y3]; · iexact Y3
    isplitl [Y8]; · iexact Y8
    isplitl [Y9]; · iexact Y9
    isplitl [Y10]; · iexact Y10
    isplitl [Y12]; · iexists fy; iexact Y12
    isplitl [B2]
    · iexists sy
      isplitl [B2]; · iexact B2
      ipureintro; exact YsOk_next Y hE hsy
    iexact B4

def allX : List (Nat × Nat) := doneX 7 (doneX 6 (doneX 5 (doneX 4 (doneX 3 (doneX 2 (doneX 1 (doneX 0 [])))))))
def allY : List (Nat × Nat) := doneY 7 (doneY 6 (doneY 5 (doneY 4 (doneY 3 (doneY 2 (doneY 1 (doneY 0 [])))))))
theorem mem_allX : ∀ b < 2, ∀ i < 8, (b, i) ∈ allX := by decide
theorem mem_allY : ∀ b < 2, ∀ i < 11, (b, i) ∈ allY := by decide

theorem wp_quantTile (q : BitVec 32) (hq : q.toNat < 192) (K : PUnit → sProp 𝕄) :
    iprop(TilesX c X q.toNat ∗ TilesY c Y q.toNat ∗ OW c)
      ⊢ iprop(((TilesX c X (q.toNat + 1) ∗ TilesY c Y (q.toNat + 1) ∗ OW c) -∗ K ⟨⟩) -∗ WP c (quantTile q hq) K) := by
  unfold quantTile
  iintro H HK
  iapply (wp_seq c); iapply (wp_quantWait c X Y q hq _) $$ H
  iintro ⟨HX, HY, HT, HO⟩
  iapply (wp_seq c); iapply (wp_quantChunk c X Y q hq 0 _ _ _ _) $$ HT; iintro HT
  iapply (wp_seq c); iapply (wp_quantChunk c X Y q hq 1 _ _ _ _) $$ HT; iintro HT
  iapply (wp_seq c); iapply (wp_quantChunk c X Y q hq 2 _ _ _ _) $$ HT; iintro HT
  iapply (wp_seq c); iapply (wp_quantChunk c X Y q hq 3 _ _ _ _) $$ HT; iintro HT
  iapply (wp_seq c); iapply (wp_quantChunk c X Y q hq 4 _ _ _ _) $$ HT; iintro HT
  iapply (wp_seq c); iapply (wp_quantChunk c X Y q hq 5 _ _ _ _) $$ HT; iintro HT
  iapply (wp_seq c); iapply (wp_quantChunk c X Y q hq 6 _ _ _ _) $$ HT; iintro HT
  iapply (wp_seq c); iapply (wp_quantChunk c X Y q hq 7 _ _ _ _) $$ HT; iintro HT
  iapply (wp_quantDone c X Y q hq mem_allX mem_allY _) $$ [HX HY HT]
  · isplitl [HX]; · iexact HX
    isplitl [HY]; · iexact HY
    iexact HT
  iintro ⟨HX, HY⟩
  iapply HK
  isplitl [HX]; · iexact HX
  isplitl [HY]; · iexact HY
  iexact HO

end Work
end Cert.KernelIdeal.Hand
end
-- ==== Proof.Pass.lean ====
/- One pass over a window of tokens: the mask, the products, and a tile quantised in between. -/
module

public import proofs.«01_k».proof.Proof.Work
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

section Pass
variable (c : Dev nD) (X : S49152x2048.Idx → Elt F .bf16) (Y : S49152x1408.Idx → Elt F .bf16)

/-! ## The window -/
section Win

/-- The ring of `x` at row `a % 1024` and on holds what it must of the tokens of `[start, stop)` in the window at `a`. -/
def WinX (start stop a : Nat) (f : S1280x2048.Idx → Elt F .bf16) : Prop :=
  ∀ (t : Nat) (j : S1280x2048.Idx), a ≤ t → t < a + 256 → start ≤ t → t < stop → (j 0).val = a % 1024 + (t - a) → f j = xwAt X t (j 1).val
/-- While tile `q` is being quantised. -/
theorem WinX_quant {q start stop a : Nat} {D : List (Nat × Nat)} {f : S1280x2048.Idx → Elt F .bf16} (h : XwOk X q D f)
    (h1 : a / 256 + 2 ≤ q) (h2 : q ≤ a / 256 + 3) : WinX X start stop a f := by
  intro t j h3 h4 h5 h6 h7
  rw [h (t / 256) j ?_]
  · exact congrArg₂ _ (by omega) rfl
  · unfold RingAt
    by_cases h8 : (j 0).val < 1024
    · exact .inl ⟨h8, by omega, .inl (by omega)⟩
    · exact .inr (by omega)
/-- Between two tiles. -/
theorem WinX_only {q start stop a : Nat} {f : S1280x2048.Idx → Elt F .bf16} (h : XwB X q f) (hs : stop ≤ 49152)
    (h1 : q = a / 256 + 4 ∨ (q = 192 ∧ 192 ≤ a / 256 + 4)) : WinX X start stop a f := by
  intro t j h3 h4 h5 h6 h7
  rw [h (t / 256) j (by omega) (by omega) (by omega)]
  exact congrArg₂ _ (by omega) rfl

/-- The ring of `dy` at row `a % 1024` and on holds what it must of the tokens of `[start, stop)` in the window at `a`. -/
def WinY (start stop a : Nat) (f : S1280x1408.Idx → Elt F .bf16) : Prop :=
  ∀ (t : Nat) (j : S1280x1408.Idx), a ≤ t → t < a + 256 → start ≤ t → t < stop → (j 0).val = a % 1024 + (t - a) → f j = ywAt Y t (j 1).val
/-- While tile `q` is being quantised. -/
theorem WinY_quant {q start stop a : Nat} {D : List (Nat × Nat)} {f : S1280x1408.Idx → Elt F .bf16} (h : YwOk Y q D f)
    (h1 : a / 256 + 2 ≤ q) (h2 : q ≤ a / 256 + 3) : WinY Y start stop a f := by
  intro t j h3 h4 h5 h6 h7
  rw [h (t / 256) j ?_]
  · exact congrArg₂ _ (by omega) rfl
  · unfold RingAt
    by_cases h8 : (j 0).val < 1024
    · exact .inl ⟨h8, by omega, .inl (by omega)⟩
    · exact .inr (by omega)
/-- Between two tiles. -/
theorem WinY_only {q start stop a : Nat} {f : S1280x1408.Idx → Elt F .bf16} (h : YwB Y q f) (hs : stop ≤ 49152)
    (h1 : q = a / 256 + 4 ∨ (q = 192 ∧ 192 ≤ a / 256 + 4)) : WinY Y start stop a f := by
  intro t j h3 h4 h5 h6 h7
  rw [h (t / 256) j (by omega) (by omega) (by omega)]
  exact congrArg₂ _ (by omega) rfl

end Win

/-- The first `n` groups of columns of the masked window hold the tokens of `[start, stop)`, the others times zero. -/
def DyOk (start stop a : BitVec 32) (n : Nat) (g : S256x1408.Idx → Elt F .bf16) : Prop :=
  ∀ y : S256x1408.Idx, (y 1).val < 128 * n → ∃ v : FVec F S256x128 .bf16,
    g y = mulf v (keep start stop a) (nix2 (by decide) (by decide) (y 0).val (y 1).val)
      ∧ (start.toNat ≤ a.toNat + (y 0).val → a.toNat + (y 0).val < stop.toNat →
          v (nix2 (by decide) (by decide) (y 0).val (y 1).val) = ywAt Y (a.toNat + (y 0).val) (y 1).val)

theorem dy_step {start stop a : BitVec 32} {j : Nat} {off : Fin 2 → Nat} (hoff : off = ![a.toNat % 1024, 128 * j])
    (inb : ∀ k, off k + S256x128.size k ≤ S1280x1408.size k) (inb' : ∀ k, (![0, 128 * j] : Fin 2 → Nat) k + S256x128.size k ≤ S256x1408.size k)
    (g : S256x1408.Idx → Elt F .bf16) (h : DyOk Y start stop a j g) (f : S1280x1408.Idx → Elt F .bf16) (hf : WinY Y start.toNat stop.toNat a.toNat f) :
    DyOk Y start stop a (j + 1) ((aDym.access (Rect.unit (s := S256x1408) ![0, 128 * j] S256x128.size inb')).write (Elt F) g
      (shapeCast S256x128 (mulf ((aDyw.access (Rect.unit (s := S1280x1408) off S256x128.size inb)).read (Elt F) f : FVec F S256x128 .bf16) (keep start stop a)) shapeCasts_S256x128_S256x128) Finset.univ) := by
  subst hoff
  intro y hy
  by_cases hm : y ∈ (Rect.unit (s := S256x1408) ![0, 128 * j] S256x128.size inb').set
  · have hm' : y ∈ ((View.whole cc0_scratch6).slice (Rect.unit (s := S256x1408) ![0, 128 * j] S256x128.size inb')).set := by
      rw [View.set_slice_whole]; exact hm
    obtain ⟨z, -, hz⟩ := Finset.mem_map.mp hm'
    have hz' : (Rect.unit (s := S256x1408) ![0, 128 * j] S256x128.size inb').emb z = y := hz
    have e0 : (y 0).val = 0 + (z 0).val := by rw [← hz']; exact emb_unit_val _ _
    have e1 : (y 1).val = 128 * j + (z 1).val := by rw [← hz']; exact emb_unit_val _ _
    have hz0 : (z 0).val < 256 := (z 0).isLt
    have hz1 : (z 1).val < 128 := (z 1).isLt
    have d0 : (((Rect.unit (s := S1280x1408) ![a.toNat % 1024, 128 * j] S256x128.size inb).emb z) 0).val = a.toNat % 1024 + (z 0).val := emb_unit_val _ _
    have d1 : (((Rect.unit (s := S1280x1408) ![a.toNat % 1024, 128 * j] S256x128.size inb).emb z) 1).val = 128 * j + (z 1).val := emb_unit_val _ _
    have hn : (nix2 (by decide) (by decide) (y 0).val (y 1).val : S256x128.Idx) = z := nix2_self _ _ z (by omega) (by omega)
    refine ⟨(aDyw.access (Rect.unit (s := S1280x1408) ![a.toNat % 1024, 128 * j] S256x128.size inb)).read (Elt F) f, ?_, ?_⟩
    · rw [hn, ← hz']
      refine (write_emb_whole (b := cc0_scratch6) _ g _ z).trans ?_
      exact congrFun (shapeCast_self _ _) z
    · intro h1 h2
      rw [hn]
      show f ((Rect.unit (s := S1280x1408) ![a.toNat % 1024, 128 * j] S256x128.size inb).emb z) = _
      rw [hf (a.toNat + (y 0).val) _ (by omega) (by omega) h1 h2 (by rw [d0]; omega), d1, e1]
  · have hy' : (y 1).val < 128 * j := by
      by_contra hc
      have hy0 : (y 0).val < 256 := (y 0).isLt
      refine hm (Rect.mem_set_unit.mpr (Fin.forall_fin_two.mpr ⟨?_, ?_⟩))
      · show 0 ≤ (y 0).val ∧ (y 0).val < 0 + 256; omega
      · show 128 * j ≤ (y 1).val ∧ (y 1).val < 128 * j + 128; omega
    obtain ⟨v, hv, hv'⟩ := h y hy'
    exact ⟨v, (write_off_whole (b := cc0_scratch6) _ g _ hm).trans hv, hv'⟩

theorem wp_window1 {P : (S1280x1408.Idx → Elt F .bf16) → Prop} (start stop a ra : BitVec 32) (hra : ra.toNat < 1024) (hP : ∀ f, P f → WinY Y start.toNat stop.toNat a.toNat f)
    (hr : ra.toNat = a.toNat % 1024) (j : Nat) (hj : j < 11) (K : PUnit → sProp 𝕄) :
    iprop((∃ f : S1280x1408.Idx → Elt F .bf16, pt c aDyw Finset.univ f ∗ ⌜P f⌝) ∗ (∃ g : S256x1408.Idx → Elt F .bf16, pt c aDym Finset.univ g ∗ ⌜DyOk Y start stop a j g⌝))
      ⊢ iprop((((∃ f : S1280x1408.Idx → Elt F .bf16, pt c aDyw Finset.univ f ∗ ⌜P f⌝) ∗ (∃ g : S256x1408.Idx → Elt F .bf16, pt c aDym Finset.univ g ∗ ⌜DyOk Y start stop a (j + 1) g⌝)) -∗ K ⟨⟩)
        -∗ WP c (window1 start stop a ra hra j hj) K) := by
  have hc : 128 * j + 128 ≤ 1408 := by omega
  unfold window1
  simp only [lift_bind]
  simp only [lift_eq]
  iintro ⟨⟨%f, H1, %h1⟩, ⟨%g, H2, %h2⟩⟩ HK
  iapply (wp_load_rect Variants.none (c : Thread nD τ) none Set.univ (m := aDyw) (r := Rect.unit (s := S1280x1408) ![(Scalar.indexCast ra).toNat, 128 * j] S256x128.size (win_inbY hra hc)) (S := Finset.univ) (Finset.subset_univ _)) $$ H1
  iintro H1
  iapply (wp_load_rect Variants.none (c : Thread nD τ) none Set.univ (m := aDym) (r := Rect.unit (s := S256x1408) ![0, 128 * j] S256x128.size (dym_inb hc)) (S := Finset.univ) (Finset.subset_univ _)) $$ H2
  iintro H2
  iapply (wp_store Variants.none (c : Thread nD τ) none Set.univ (m := aDym) (r := Rect.unit (s := S256x1408) ![0, 128 * j] S256x128.size (dym_inb hc)) (Mk := Finset.univ) (S := Finset.univ) (Finset.subset_univ _)) $$ H2
  iintro H2
  iapply (wp_pure_intro c)
  iapply HK
  isplitl [H1]
  · iexists f
    isplitl [H1]; · iexact H1
    ipureintro; exact h1
  · iexists _
    isplitl [H2]; · iexact H2
    ipureintro
    exact dy_step Y (show (![ra.toNat, 128 * j] : Fin 2 → Nat) = _ by rw [hr]) _ _ g h2 f (hP f h1)

theorem wp_window {P : (S1280x1408.Idx → Elt F .bf16) → Prop} (start stop a ra : BitVec 32) (hra : ra.toNat < 1024) (hP : ∀ f, P f → WinY Y start.toNat stop.toNat a.toNat f)
    (hr : ra.toNat = a.toNat % 1024) (K : PUnit → sProp 𝕄) :
    iprop((∃ f : S1280x1408.Idx → Elt F .bf16, pt c aDyw Finset.univ f ∗ ⌜P f⌝) ∗ (∃ g : S256x1408.Idx → Elt F .bf16, pt c aDym Finset.univ g))
      ⊢ iprop((((∃ f : S1280x1408.Idx → Elt F .bf16, pt c aDyw Finset.univ f ∗ ⌜P f⌝) ∗ (∃ g : S256x1408.Idx → Elt F .bf16, pt c aDym Finset.univ g ∗ ⌜DyOk Y start stop a 11 g⌝)) -∗ K ⟨⟩)
        -∗ WP c (window start stop a ra hra) K) := by
  unfold window
  iintro ⟨H1, ⟨%g, H2⟩⟩ HK
  iapply (wp_seq c); iapply (wp_window1 c Y start stop a ra hra hP hr 0 _ _) $$ [H1 H2]
  · isplitl [H1]; · iexact H1
    iexists g
    isplitl [H2]; · iexact H2
    ipureintro; exact fun y hy => absurd hy (Nat.not_lt_zero _)
  iintro H
  iapply (wp_seq c); iapply (wp_window1 c Y start stop a ra hra hP hr 1 _ _) $$ H; iintro H
  iapply (wp_seq c); iapply (wp_window1 c Y start stop a ra hra hP hr 2 _ _) $$ H; iintro H
  iapply (wp_seq c); iapply (wp_window1 c Y start stop a ra hra hP hr 3 _ _) $$ H; iintro H
  iapply (wp_seq c); iapply (wp_window1 c Y start stop a ra hra hP hr 4 _ _) $$ H; iintro H
  iapply (wp_seq c); iapply (wp_window1 c Y start stop a ra hra hP hr 5 _ _) $$ H; iintro H
  iapply (wp_seq c); iapply (wp_window1 c Y start stop a ra hra hP hr 6 _ _) $$ H; iintro H
  iapply (wp_seq c); iapply (wp_window1 c Y start stop a ra hra hP hr 7 _ _) $$ H; iintro H
  iapply (wp_seq c); iapply (wp_window1 c Y start stop a ra hra hP hr 8 _ _) $$ H; iintro H
  iapply (wp_seq c); iapply (wp_window1 c Y start stop a ra hra hP hr 9 _ _) $$ H; iintro H
  iapply (wp_window1 c Y start stop a ra hra hP hr 10 _ _) $$ H; iintro H
  iapply HK
  iexact H

/-! ## What the sums are -/

/-- Pass `p` of the expert whose tokens are `[start, stop)`. -/
structure PassOk (start stop a : BitVec 32) (p : Nat) (first : BitVec 1) : Prop where
  le : start.toNat ≤ stop.toNat
  top : stop.toNat ≤ 49152
  at_ : a.toNat = start.toNat / 16 * 16 + 256 * p
  lt : a.toNat < stop.toNat
  first_ : first = 1#1 ↔ p = 0

/-- A chunk of columns of the window of `x`. -/
def XOk (start stop a : BitVec 32) (i : Nat) (x : FVec F S256x256 .bf16) : Prop :=
  ∀ y : S256x256.Idx, start.toNat ≤ a.toNat + (y 0).val → a.toNat + (y 0).val < stop.toNat → x y = xwAt X (a.toNat + (y 0).val) (256 * i + (y 1).val)

/-- What is to be known of the sums: of chunk `i` after `p` passes, and how a pass keeps it up. -/
structure Sums where
  /-- Of chunk `i` of the rows of an expert, after `p` passes. -/
  AP : BitVec 32 → BitVec 32 → Nat → Nat → (S1x256x1408.Idx → Elt F .f32) → Prop
  ap0 : ∀ start stop i f, AP start stop 0 i f
  step : ∀ {start stop a p first}, PassOk start stop a p first → ∀ {i : Nat}, i < 8 → ∀ {x dy acc}, XOk X start stop a i x → DyOk Y start stop a 11 dy →
    AP start stop p i acc → AP start stop (p + 1) i (accNext first x dy acc)

abbrev nix3 {n0 n1 n2 : Nat} (h0 : 0 < n0) (h1 : 0 < n1) (h2 : 0 < n2) (a r c : Nat) : (⟨3, ![n0, n1, n2]⟩ : Shape).Idx :=
  ix3 ⟨a % n0, Nat.mod_lt _ h0⟩ ⟨r % n1, Nat.mod_lt _ h1⟩ ⟨c % n2, Nat.mod_lt _ h2⟩

/-- Chunk `i` of accumulator `u`. -/
def chunkAt (u i : Nat) (f : S3x2048x1408.Idx → Elt F .f32) : S1x256x1408.Idx → Elt F .f32 :=
  fun y => f (nix3 (by decide) (by decide) (by decide) u (256 * i + (y 1).val) (y 2).val)

variable {X Y} in
/-- The first `m` chunks of accumulator `u` have had pass `p`, the others only those before. -/
def AccOk (T : Sums X Y) (start stop : BitVec 32) (u p m : Nat) (f : S3x2048x1408.Idx → Elt F .f32) : Prop :=
  ∀ i < 8, T.AP start stop (if i < m then p + 1 else p) i (chunkAt u i f)

theorem chunk_emb {u i : Nat} (hu : u < 3) (hi : i < 8) (inb : ∀ k, (![u, 256 * i, 0] : Fin 3 → Nat) k + S1x256x1408.size k ≤ S3x2048x1408.size k) (y : S1x256x1408.Idx) :
    (nix3 (by decide) (by decide) (by decide) u (256 * i + (y 1).val) (y 2).val : S3x2048x1408.Idx)
      = (Rect.unit (s := S3x2048x1408) ![u, 256 * i, 0] S1x256x1408.size inb).emb y := by
  have hy0 : (y 0).val < 1 := (y 0).isLt
  have hy1 : (y 1).val < 256 := (y 1).isLt
  have hy2 : (y 2).val < 1408 := (y 2).isLt
  have e0 : (((Rect.unit (s := S3x2048x1408) ![u, 256 * i, 0] S1x256x1408.size inb).emb y) 0).val = u + (y 0).val := emb_unit_val _ _
  have e1 : (((Rect.unit (s := S3x2048x1408) ![u, 256 * i, 0] S1x256x1408.size inb).emb y) 1).val = 256 * i + (y 1).val := emb_unit_val _ _
  have e2 : (((Rect.unit (s := S3x2048x1408) ![u, 256 * i, 0] S1x256x1408.size inb).emb y) 2).val = 0 + (y 2).val := emb_unit_val _ _
  funext k
  match k with
  | 0 => exact Fin.ext (by rw [e0]; show u % 3 = _; omega)
  | 1 => exact Fin.ext (by rw [e1]; show (256 * i + (y 1).val) % 2048 = _; omega)
  | 2 => exact Fin.ext (by rw [e2]; show (y 2).val % 1408 = _; omega)

theorem chunk_read {u i : Nat} (hu : u < 3) (hi : i < 8) (inb : ∀ k, (![u, 256 * i, 0] : Fin 3 → Nat) k + S1x256x1408.size k ≤ S3x2048x1408.size k)
    (f : S3x2048x1408.Idx → Elt F .f32) :
    (aAcc.access (Rect.unit (s := S3x2048x1408) ![u, 256 * i, 0] S1x256x1408.size inb)).read (Elt F) f = chunkAt u i f := by
  funext y
  exact congrArg f (chunk_emb hu hi inb y).symm
theorem acc_on {u i : Nat} (inb : ∀ k, (![u, 256 * i, 0] : Fin 3 → Nat) k + S1x256x1408.size k ≤ S3x2048x1408.size k)
    (f : S3x2048x1408.Idx → Elt F .f32) (v : S1x256x1408.Idx → Elt F .f32) (y : S1x256x1408.Idx) :
    ((aAcc.access (Rect.unit (s := S3x2048x1408) ![u, 256 * i, 0] S1x256x1408.size inb)).write (Elt F) f v Finset.univ) ((Rect.unit (s := S3x2048x1408) ![u, 256 * i, 0] S1x256x1408.size inb).emb y) = v y :=
  write_emb_whole (b := cc0_scratch7) (Rect.unit (s := S3x2048x1408) ![u, 256 * i, 0] S1x256x1408.size inb) f v y
theorem chunk_write {u i : Nat} (hu : u < 3) (hi : i < 8) (inb : ∀ k, (![u, 256 * i, 0] : Fin 3 → Nat) k + S1x256x1408.size k ≤ S3x2048x1408.size k)
    (f : S3x2048x1408.Idx → Elt F .f32) (v : S1x256x1408.Idx → Elt F .f32) :
    chunkAt u i ((aAcc.access (Rect.unit (s := S3x2048x1408) ![u, 256 * i, 0] S1x256x1408.size inb)).write (Elt F) f v Finset.univ) = v := by
  funext y
  unfold chunkAt
  rw [chunk_emb hu hi inb y]
  exact acc_on inb f v y
theorem acc_off {u i : Nat} (inb : ∀ k, (![u, 256 * i, 0] : Fin 3 → Nat) k + S1x256x1408.size k ≤ S3x2048x1408.size k)
    (f : S3x2048x1408.Idx → Elt F .f32) (v : S1x256x1408.Idx → Elt F .f32) (j : S3x2048x1408.Idx) (hj : j ∉ (Rect.unit (s := S3x2048x1408) ![u, 256 * i, 0] S1x256x1408.size inb).set) :
    ((aAcc.access (Rect.unit (s := S3x2048x1408) ![u, 256 * i, 0] S1x256x1408.size inb)).write (Elt F) f v Finset.univ) j = f j :=
  write_off_whole (b := cc0_scratch7) (Rect.unit (s := S3x2048x1408) ![u, 256 * i, 0] S1x256x1408.size inb) f v hj
theorem chunk_off {u i i' : Nat} (hi' : i' < 8) (hne : i' ≠ i) (inb : ∀ k, (![u, 256 * i, 0] : Fin 3 → Nat) k + S1x256x1408.size k ≤ S3x2048x1408.size k)
    (f : S3x2048x1408.Idx → Elt F .f32) (v : S1x256x1408.Idx → Elt F .f32) :
    (chunkAt u i' ((aAcc.access (Rect.unit (s := S3x2048x1408) ![u, 256 * i, 0] S1x256x1408.size inb)).write (Elt F) f v Finset.univ) : S1x256x1408.Idx → Elt F .f32) = chunkAt u i' f := by
  funext y
  unfold chunkAt
  have hy1 : (y 1).val < 256 := (y 1).isLt
  refine acc_off inb f v _ (fun hm => ?_)
  have h1 := (Rect.mem_set_unit.mp hm) 1
  have h2 : 256 * i ≤ (256 * i' + (y 1).val) % 2048 ∧ (256 * i' + (y 1).val) % 2048 < 256 * i + 256 := h1
  omega

variable {X Y} in
theorem acc_step (T : Sums X Y) {start stop : BitVec 32} {u p i : Nat} (hu : u < 3) (hi : i < 8) {off : Fin 3 → Nat} (hoff : off = ![u, 256 * i, 0])
    (inb : ∀ k, off k + S1x256x1408.size k ≤ S3x2048x1408.size k) (f : S3x2048x1408.Idx → Elt F .f32) (h : AccOk T start stop u p i f)
    (g : (S1x256x1408.Idx → Elt F .f32) → S1x256x1408.Idx → Elt F .f32) (hg : ∀ w, T.AP start stop p i w → T.AP start stop (p + 1) i (g w)) :
    AccOk T start stop u p (i + 1) ((aAcc.access (Rect.unit (s := S3x2048x1408) off S1x256x1408.size inb)).write (Elt F) f
      (g ((aAcc.access (Rect.unit (s := S3x2048x1408) off S1x256x1408.size inb)).read (Elt F) f)) Finset.univ) := by
  subst hoff
  rw [chunk_read hu hi inb f]
  intro i' hi'
  have hw := h i' hi'
  by_cases e : i' = i
  · subst e
    rw [if_pos (Nat.lt_succ_self _), chunk_write hu hi]
    rw [if_neg (Nat.lt_irrefl _)] at hw
    exact hg _ hw
  · rw [chunk_off hi' e]
    by_cases hlt : i' < i
    · rw [if_pos hlt] at hw; rw [if_pos (by omega)]; exact hw
    · rw [if_neg hlt] at hw; rw [if_neg (by omega)]; exact hw

theorem x_window {start stop a : BitVec 32} {i : Nat} {off : Fin 2 → Nat} (hoff : off = ![a.toNat % 1024, 256 * i])
    (inb : ∀ k, off k + S256x256.size k ≤ S1280x2048.size k) (f : S1280x2048.Idx → Elt F .bf16) (hf : WinX X start.toNat stop.toNat a.toNat f) :
    XOk X start stop a i ((aXw.access (Rect.unit (s := S1280x2048) off S256x256.size inb)).read (Elt F) f) := by
  subst hoff
  intro y h1 h2
  have hy0 : (y 0).val < 256 := (y 0).isLt
  have d0 : (((Rect.unit (s := S1280x2048) ![a.toNat % 1024, 256 * i] S256x256.size inb).emb y) 0).val = a.toNat % 1024 + (y 0).val := emb_unit_val _ _
  have d1 : (((Rect.unit (s := S1280x2048) ![a.toNat % 1024, 256 * i] S256x256.size inb).emb y) 1).val = 256 * i + (y 1).val := emb_unit_val _ _
  show f ((Rect.unit (s := S1280x2048) ![a.toNat % 1024, 256 * i] S256x256.size inb).emb y) = _
  rw [hf (a.toNat + (y 0).val) _ (by omega) (by omega) h1 h2 (by rw [d0]; omega), d1]

theorem dym_whole (g : S256x1408.Idx → Elt F .bf16) :
    (aDym.access (Rect.unit (s := S256x1408) ![0, 0] S256x1408.size inb_S256x1408_S256x1408_0_0)).read (Elt F) g = g := by
  funext y
  show g ((Rect.unit (s := S256x1408) ![0, 0] S256x1408.size inb_S256x1408_S256x1408_0_0).emb y) = _
  refine congrArg g (funext fun k => ?_)
  match k with
  | 0 => exact Fin.ext ((emb_unit_val _ _).trans (Nat.zero_add _))
  | 1 => exact Fin.ext ((emb_unit_val _ _).trans (Nat.zero_add _))

section Run
variable {X Y} (T : Sums X Y) {start stop a ra u : BitVec 32} {p : Nat} {first : BitVec 1} (hp : PassOk start stop a p first)
  (hra : ra.toNat < 1024) (hr : ra.toNat = a.toNat % 1024) (hu : u.toNat < 3)

/-- The masked window. -/
abbrev DymAt (c : Dev nD) (start stop a : BitVec 32) (n : Nat) : sProp 𝕄 := iprop(∃ g : S256x1408.Idx → Elt F .bf16, pt c aDym Finset.univ g ∗ ⌜DyOk Y start stop a n g⌝)
/-- The accumulator, its first `m` chunks having had pass `p`. -/
abbrev AccAt (c : Dev nD) (T : Sums X Y) (start stop u : BitVec 32) (p m : Nat) : sProp 𝕄 :=
  iprop(∃ f : S3x2048x1408.Idx → Elt F .f32, pt c aAcc (band S3x2048x1408 u.toNat (u.toNat + 1)) f ∗ ⌜AccOk T start stop u.toNat p m f⌝)
abbrev XwAt (c : Dev nD) (P : (S1280x2048.Idx → Elt F .bf16) → Prop) : sProp 𝕄 := iprop(∃ f : S1280x2048.Idx → Elt F .bf16, pt c aXw Finset.univ f ∗ ⌜P f⌝)

include hp hr in
theorem wp_mm {P : (S1280x2048.Idx → Elt F .bf16) → Prop} (hP : ∀ f, P f → WinX X start.toNat stop.toNat a.toNat f) (i : Nat) (hi : i < 8) (K : PUnit → sProp 𝕄) :
    iprop(XwAt c P ∗ DymAt (Y := Y) c start stop a 11 ∗ AccAt c T start stop u p i)
      ⊢ iprop(((XwAt c P ∗ DymAt (Y := Y) c start stop a 11 ∗ AccAt c T start stop u p (i + 1)) -∗ K ⟨⟩) -∗ WP c (mm first ra u hra hu i hi) K) := by
  have hc : 256 * i + 256 ≤ 2048 := by omega
  unfold mm
  simp only [lift_bind]
  simp only [lift_eq]
  iintro ⟨⟨%f, H1, %h1⟩, ⟨%g, H2, %h2⟩, ⟨%w, H3, %h3⟩⟩ HK
  iapply (wp_load_rect Variants.none (c : Thread nD τ) none Set.univ (m := aXw) (r := Rect.unit (s := S1280x2048) ![(Scalar.indexCast ra).toNat, 256 * i] S256x256.size (win_inbX hra hc)) (S := Finset.univ) (Finset.subset_univ _)) $$ H1
  iintro H1
  iapply (wp_load_rect Variants.none (c : Thread nD τ) none Set.univ (m := aDym) (r := Rect.unit (s := S256x1408) ![0, 0] S256x1408.size inb_S256x1408_S256x1408_0_0) (S := Finset.univ) (Finset.subset_univ _)) $$ H2
  iintro H2
  rw [dym_whole]
  iapply (wp_load_rect Variants.none (c : Thread nD τ) none Set.univ (m := aAcc) (r := Rect.unit (s := S3x2048x1408) ![(Scalar.indexCast u).toNat, 256 * i, 0] S1x256x1408.size (acc_inb hu hc)) (S := band S3x2048x1408 u.toNat (u.toNat + 1)) (slice_sub _ _ (rect3_sub rfl _))) $$ H3
  iintro H3
  iapply (wp_load_rect Variants.none (c : Thread nD τ) none Set.univ (m := aAcc) (r := Rect.unit (s := S3x2048x1408) ![(Scalar.indexCast u).toNat, 256 * i, 0] S1x256x1408.size (acc_inb hu hc)) (S := band S3x2048x1408 u.toNat (u.toNat + 1)) (slice_sub _ _ (rect3_sub rfl _))) $$ H3
  iintro H3
  iapply (wp_store Variants.none (c : Thread nD τ) none Set.univ (m := aAcc) (r := Rect.unit (s := S3x2048x1408) ![(Scalar.indexCast u).toNat, 256 * i, 0] S1x256x1408.size (acc_inb hu hc)) (Mk := Finset.univ) (S := band S3x2048x1408 u.toNat (u.toNat + 1)) (slice_sub _ _ (rect3_sub rfl _))) $$ H3
  iintro H3
  iapply (wp_pure_intro c)
  iapply HK
  isplitl [H1]
  · iexists f
    isplitl [H1]; · iexact H1
    ipureintro; exact h1
  isplitl [H2]
  · iexists g
    isplitl [H2]; · iexact H2
    ipureintro; exact h2
  · iexists _
    isplitl [H3]; · iexact H3
    ipureintro
    exact acc_step T hu hi rfl _ w h3 (accNext first _ g)
      fun w hw => T.step hp hi (x_window X (show (![ra.toNat, 256 * i] : Fin 2 → Nat) = _ by rw [hr]) _ f (hP f h1)) h2 hw

/-- A product while tile `n` is being quantised. -/
theorem wp_mmQ {n : Nat} (h1 : a.toNat / 256 + 2 ≤ n) (h2 : n ≤ a.toNat / 256 + 3) (hp : PassOk start stop a p first) (hr : ra.toNat = a.toNat % 1024)
    (i : Nat) (hi : i < 8) (D E : List (Nat × Nat)) (K : PUnit → sProp 𝕄) :
    iprop((TX c X n D ∗ TY c Y n E) ∗ DymAt (Y := Y) c start stop a 11 ∗ AccAt c T start stop u p i)
      ⊢ iprop((((TX c X n D ∗ TY c Y n E) ∗ DymAt (Y := Y) c start stop a 11 ∗ AccAt c T start stop u p (i + 1)) -∗ K ⟨⟩) -∗ WP c (mm first ra u hra hu i hi) K) := by
  conv_lhs => unfold TX
  iintro ⟨⟨⟨H1, H2, H3, H4⟩, H5⟩, H6, H7⟩ HK
  iapply (wp_mm c T hp hra hr hu (P := XwOk X n D) (fun f hf => WinX_quant X hf h1 h2) i hi _) $$ [H4 H6 H7]
  · isplitl [H4]; · iexact H4
    isplitl [H6]; · iexact H6
    iexact H7
  iintro ⟨H4, H6, H7⟩
  iapply HK
  isplitl [H1 H2 H3 H4 H5]
  · isplitl [H1 H2 H3 H4]
    · unfold TX
      isplitl [H1]; · iexact H1
      isplitl [H2]; · iexact H2
      isplitl [H3]; · iexact H3
      iexact H4
    iexact H5
  isplitl [H6]; · iexact H6
  iexact H7

theorem wp_windowQ {n : Nat} (h1 : a.toNat / 256 + 2 ≤ n) (h2 : n ≤ a.toNat / 256 + 3) (hr : ra.toNat = a.toNat % 1024) (E : List (Nat × Nat)) (K : PUnit → sProp 𝕄) :
    iprop(TY c Y n E ∗ (∃ g : S256x1408.Idx → Elt F .bf16, pt c aDym Finset.univ g))
      ⊢ iprop(((TY c Y n E ∗ DymAt (Y := Y) c start stop a 11) -∗ K ⟨⟩) -∗ WP c (window start stop a ra hra) K) := by
  conv_lhs => unfold TY
  iintro ⟨⟨H1, H2, H3, H4⟩, H5⟩ HK
  iapply (wp_window c Y (P := YwOk Y n E) start stop a ra hra (fun f hf => WinY_quant Y hf h1 h2) hr _) $$ [H4 H5]
  · isplitl [H4]; · iexact H4
    iexact H5
  iintro ⟨H4, H5⟩
  iapply HK
  isplitl [H1 H2 H3 H4]
  · unfold TY
    isplitl [H1]; · iexact H1
    isplitl [H2]; · iexact H2
    isplitl [H3]; · iexact H3
    iexact H4
  iexact H5

/-- What one pass starts from and leaves. -/
def PassR (c : Dev nD) (T : Sums X Y) (start stop u : BitVec 32) (q p : Nat) : sProp 𝕄 :=
  iprop(TilesX c X q ∗ TilesY c Y q ∗ OW c ∗ (∃ g : S256x1408.Idx → Elt F .bf16, pt c aDym Finset.univ g) ∗ AccAt c T start stop u p 0)

theorem AccOk.next {T : Sums X Y} {u p : Nat} {f : S3x2048x1408.Idx → Elt F .f32} (h : AccOk T start stop u p 8 f) : AccOk T start stop u (p + 1) 0 f := by
  intro i hi
  have := h i hi
  rw [if_pos hi] at this
  rw [if_neg (Nat.not_lt_zero _)]; exact this

theorem wp_passQuant (hp : PassOk start stop a p first) (hr : ra.toNat = a.toNat % 1024) (q : BitVec 32) (hq : q.toNat < 192)
    (h1 : a.toNat / 256 + 2 ≤ q.toNat) (h2 : q.toNat ≤ a.toNat / 256 + 3) (K : PUnit → sProp 𝕄) :
    PassR c T start stop u q.toNat p ⊢ iprop((PassR c T start stop u (q.toNat + 1) (p + 1) -∗ K ⟨⟩) -∗ WP c (passQuant start stop a first ra u q hra hu hq) K) := by
  unfold PassR passQuant
  iintro ⟨HX, HY, HO, HD, HA⟩ HK
  iapply (wp_seq c); iapply (wp_quantWait c X Y q hq _) $$ [HX HY HO]
  · isplitl [HX]; · iexact HX
    isplitl [HY]; · iexact HY
    iexact HO
  iintro ⟨HX, HY, ⟨HTX, HTY⟩, HO⟩
  iapply (wp_seq c); iapply (wp_windowQ c (Y := Y) hra h1 h2 hr _ _) $$ [HTY HD]
  · isplitl [HTY]; · iexact HTY
    iexact HD
  iintro ⟨HTY, HD⟩
  iapply (wp_seq c); iapply (wp_mmQ c T hra hu h1 h2 hp hr 0 _ [] [] _) $$ [HTX HTY HD HA]
  · isplitl [HTX HTY]
    · isplitl [HTX]; · iexact HTX
      iexact HTY
    isplitl [HD]; · iexact HD
    iexact HA
  iintro ⟨HT, HDA⟩
  iapply (wp_seq c); iapply (wp_quantChunk c X Y q hq 0 _ _ _ _) $$ HT; iintro HT
  iapply (wp_seq c); iapply (wp_mmQ c T hra hu h1 h2 hp hr 1 _ _ _ _) $$ [HT HDA]
  · isplitl [HT]; · iexact HT
    iexact HDA
  iintro ⟨HT, HDA⟩
  iapply (wp_seq c); iapply (wp_quantChunk c X Y q hq 1 _ _ _ _) $$ HT; iintro HT
  iapply (wp_seq c); iapply (wp_mmQ c T hra hu h1 h2 hp hr 2 _ _ _ _) $$ [HT HDA]
  · isplitl [HT]; · iexact HT
    iexact HDA
  iintro ⟨HT, HDA⟩
  iapply (wp_seq c); iapply (wp_quantChunk c X Y q hq 2 _ _ _ _) $$ HT; iintro HT
  iapply (wp_seq c); iapply (wp_mmQ c T hra hu h1 h2 hp hr 3 _ _ _ _) $$ [HT HDA]
  · isplitl [HT]; · iexact HT
    iexact HDA
  iintro ⟨HT, HDA⟩
  iapply (wp_seq c); iapply (wp_quantChunk c X Y q hq 3 _ _ _ _) $$ HT; iintro HT
  iapply (wp_seq c); iapply (wp_mmQ c T hra hu h1 h2 hp hr 4 _ _ _ _) $$ [HT HDA]
  · isplitl [HT]; · iexact HT
    iexact HDA
  iintro ⟨HT, HDA⟩
  iapply (wp_seq c); iapply (wp_quantChunk c X Y q hq 4 _ _ _ _) $$ HT; iintro HT
  iapply (wp_seq c); iapply (wp_mmQ c T hra hu h1 h2 hp hr 5 _ _ _ _) $$ [HT HDA]
  · isplitl [HT]; · iexact HT
    iexact HDA
  iintro ⟨HT, HDA⟩
  iapply (wp_seq c); iapply (wp_quantChunk c X Y q hq 5 _ _ _ _) $$ HT; iintro HT
  iapply (wp_seq c); iapply (wp_mmQ c T hra hu h1 h2 hp hr 6 _ _ _ _) $$ [HT HDA]
  · isplitl [HT]; · iexact HT
    iexact HDA
  iintro ⟨HT, HDA⟩
  iapply (wp_seq c); iapply (wp_quantChunk c X Y q hq 6 _ _ _ _) $$ HT; iintro HT
  iapply (wp_seq c); iapply (wp_mmQ c T hra hu h1 h2 hp hr 7 _ _ _ _) $$ [HT HDA]
  · isplitl [HT]; · iexact HT
    iexact HDA
  iintro ⟨HT, HDA⟩
  iapply (wp_seq c); iapply (wp_quantChunk c X Y q hq 7 _ _ _ _) $$ HT; iintro HT
  iapply (wp_quantDone c X Y q hq mem_allX mem_allY _) $$ [HX HY HT]
  · isplitl [HX]; · iexact HX
    isplitl [HY]; · iexact HY
    iexact HT
  iintro ⟨HX, HY⟩
  icases HDA with ⟨⟨%g, HD, -⟩, ⟨%f, HA, %hf⟩⟩
  iapply HK
  isplitl [HX]; · iexact HX
  isplitl [HY]; · iexact HY
  isplitl [HO]; · iexact HO
  isplitl [HD]; · iexists g; iexact HD
  iexists f
  isplitl [HA]; · iexact HA
  ipureintro; exact hf.next

theorem wp_passOnly (hp : PassOk start stop a p first) (hr : ra.toNat = a.toNat % 1024) (q : Nat)
    (h1 : q = a.toNat / 256 + 4 ∨ (q = 192 ∧ 192 ≤ a.toNat / 256 + 4)) (K : PUnit → sProp 𝕄) :
    PassR c T start stop u q p ⊢ iprop((PassR c T start stop u q (p + 1) -∗ K ⟨⟩) -∗ WP c (passOnly start stop a first ra u hra hu) K) := by
  unfold PassR passOnly
  conv_lhs => unfold TilesX TilesY
  iintro ⟨⟨X1, X2, X3, X4, X5, X6, X7, X8, X9, X10, X11, X12⟩, ⟨Y1, Y2, Y3, Y4, Y5, Y6, Y7, Y8, Y9, Y10, Y11, Y12⟩, HO, HD, HA⟩ HK
  iapply (wp_seq c); iapply (wp_window c Y (P := YwB Y q) start stop a ra hra (fun f hf => WinY_only Y hf hp.top h1) hr _) $$ [Y12 HD]
  · isplitl [Y12]; · iexact Y12
    iexact HD
  iintro ⟨Y12, HD⟩
  iapply (wp_seq c); iapply (wp_mm c T hp hra hr hu (P := XwB X q) (fun f hf => WinX_only X hf hp.top h1) 0 _ _) $$ [X12 HD HA]
  · isplitl [X12]; · iexact X12
    isplitl [HD]; · iexact HD
    iexact HA
  iintro H
  iapply (wp_seq c); iapply (wp_mm c T hp hra hr hu (P := XwB X q) (fun f hf => WinX_only X hf hp.top h1) 1 _ _) $$ H; iintro H
  iapply (wp_seq c); iapply (wp_mm c T hp hra hr hu (P := XwB X q) (fun f hf => WinX_only X hf hp.top h1) 2 _ _) $$ H; iintro H
  iapply (wp_seq c); iapply (wp_mm c T hp hra hr hu (P := XwB X q) (fun f hf => WinX_only X hf hp.top h1) 3 _ _) $$ H; iintro H
  iapply (wp_seq c); iapply (wp_mm c T hp hra hr hu (P := XwB X q) (fun f hf => WinX_only X hf hp.top h1) 4 _ _) $$ H; iintro H
  iapply (wp_seq c); iapply (wp_mm c T hp hra hr hu (P := XwB X q) (fun f hf => WinX_only X hf hp.top h1) 5 _ _) $$ H; iintro H
  iapply (wp_seq c); iapply (wp_mm c T hp hra hr hu (P := XwB X q) (fun f hf => WinX_only X hf hp.top h1) 6 _ _) $$ H; iintro H
  iapply (wp_seq c); iapply (wp_mm c T hp hra hr hu (P := XwB X q) (fun f hf => WinX_only X hf hp.top h1) 7 _ _) $$ H; iintro H
  icases H with ⟨X12, ⟨%g, HD, -⟩, ⟨%f, HA, %hf⟩⟩
  iapply (wp_pure_intro c)
  iapply HK
  isplitl [X1 X2 X3 X4 X5 X6 X7 X8 X9 X10 X11 X12]
  · unfold TilesX
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    iexact X12
  isplitl [Y1 Y2 Y3 Y4 Y5 Y6 Y7 Y8 Y9 Y10 Y11 Y12]
  · unfold TilesY
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    iexact Y12
  isplitl [HO]; · iexact HO
  isplitl [HD]; · iexists g; iexact HD
  iexists f
  isplitl [HA]; · iexact HA
  ipureintro; exact hf.next

/-! ## A pass -/

theorem xori_iff (d : BitVec 1) : Scalar.xori d 1#1 = 1#1 ↔ ¬ d = 1#1 := by revert d; decide

theorem doQuant_iff (a q : BitVec 32) (ha : a.toNat < 2147483648) (hq : q.toNat ≤ 192) : doQuant a q = 1#1 ↔ q.toNat < 192 ∧ q.toNat < a.toNat / 256 + 4 := by
  have h1 : (Scalar.divsi a 256#32).toNat = a.toNat / 256 := divsi_toNat a 256#32 ha (by decide) (by decide)
  have h2 : (Scalar.addi (Scalar.divsi a 256#32) 4#32).toNat = a.toNat / 256 + 4 := by
    rw [addi_toNat _ _ (by rw [h1]; show _ + 4 < _; omega), h1]; rfl
  unfold doQuant
  rw [andi_iff, slt_iff (by omega) (by decide), slt_iff (by omega) (by rw [h2]; omega), h2]
  exact Iff.rfl

theorem ext_one : (Scalar.extui (1#1) : BitVec 32) = 1#32 := by decide
theorem ext_zero : (Scalar.extui (0#1) : BitVec 32) = 0#32 := by decide
theorem bit_zero {d : BitVec 1} (h : ¬ d = 1#1) : d = 0#1 := by revert d; decide

/-- Which tile is next after a pass. -/
abbrev qNext (a q : BitVec 32) : BitVec 32 := Scalar.addi q (Scalar.extui (doQuant a q))

theorem qNext_pos {a q : BitVec 32} (hq : q.toNat ≤ 192) (h : doQuant a q = 1#1) : (qNext a q).toNat = q.toNat + 1 := by
  unfold qNext
  rw [h, ext_one, addi_toNat _ _ (by show _ + 1 < _; omega)]; rfl
theorem qNext_neg {a q : BitVec 32} (hq : q.toNat ≤ 192) (h : ¬ doQuant a q = 1#1) : (qNext a q).toNat = q.toNat := by
  unfold qNext
  rw [bit_zero h, ext_zero, addi_toNat _ _ (by show _ + 0 < _; omega)]; rfl

theorem pass_pos (q : BitVec 32) (hq : q.toNat ≤ 192) (h : doQuant a q = 1#1) :
    pass (F := F) start stop a first ra u q hra hu hq = (passQuant start stop a first ra u q hra hu (doQuant_lt hq h) >>= fun _ => pure (qNext a q)) := by
  have h1 : Scalar.cmpi .ne (Scalar.extui (doQuant a q) : BitVec 32) 0#32 = 1#1 := (flag_iff _).mpr h
  have h2 : ¬ Scalar.cmpi .ne (Scalar.extui (Scalar.xori (doQuant a q) 1#1) : BitVec 32) 0#32 = 1#1 := fun h' => (xori_iff _).mp ((flag_iff _).mp h') h
  unfold pass
  simp only [dif_pos h1, if_neg h2, pure_bind, bind_assoc]

theorem pass_neg (q : BitVec 32) (hq : q.toNat ≤ 192) (h : ¬ doQuant a q = 1#1) :
    pass (F := F) start stop a first ra u q hra hu hq = (passOnly start stop a first ra u hra hu >>= fun _ => pure (qNext a q)) := by
  have h1 : ¬ Scalar.cmpi .ne (Scalar.extui (doQuant a q) : BitVec 32) 0#32 = 1#1 := fun h' => h ((flag_iff _).mp h')
  have h2 : Scalar.cmpi .ne (Scalar.extui (Scalar.xori (doQuant a q) 1#1) : BitVec 32) 0#32 = 1#1 := (flag_iff _).mpr ((xori_iff _).mpr h)
  unfold pass
  simp only [dif_neg h1, if_pos h2, pure_bind, bind_assoc]

theorem wp_pass (hp : PassOk start stop a p first) (hr : ra.toNat = a.toNat % 1024) (q : BitVec 32) (hq : q.toNat ≤ 192)
    (h1 : q.toNat < 192 → a.toNat / 256 + 2 ≤ q.toNat) (h2 : q.toNat ≤ a.toNat / 256 + 4) (K : BitVec 32 → sProp 𝕄) :
    PassR c T start stop u q.toNat p ⊢ iprop((PassR c T start stop u (qNext a q).toNat (p + 1) -∗ K (qNext a q)) -∗ WP c (pass start stop a first ra u q hra hu hq) K) := by
  have ha : a.toNat < 2147483648 := by have := hp.lt; have := hp.top; omega
  by_cases h : doQuant a q = 1#1
  · rw [pass_pos hra hu q hq h, qNext_pos hq h]
    have hh := (doQuant_iff a q ha hq).mp h
    iintro H HK
    iapply (wp_seq c); iapply (wp_passQuant c T hra hu hp hr q (doQuant_lt hq h) (h1 hh.1) (by omega) _) $$ H
    iintro H
    iapply (wp_pure_intro c)
    iapply HK
    iexact H
  · rw [pass_neg hra hu q hq h, qNext_neg hq h]
    have hh := mt (doQuant_iff a q ha hq).mpr h
    iintro H HK
    iapply (wp_seq c); iapply (wp_passOnly c T hra hu hp hr q.toNat (by omega) _) $$ H
    iintro H
    iapply (wp_pure_intro c)
    iapply HK
    iexact H

end Run
end Pass
end Cert.KernelIdeal.Hand
end
-- ==== Proof.Count.lean ====
/-
Counting the experts that have tokens and those that have none, and the lengths of the loops.
-/
module

public import proofs.«01_k».proof.Proof.Pass
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-! ## Counting -/

section Groups
variable (G : S64.Idx → BitVec 32)

/-- How many tokens expert `e` has. -/
def gn (e : Nat) : Nat := (G (ix1 ⟨e % 64, Nat.mod_lt _ (by decide)⟩)).toNat
/-- Where the tokens of expert `e` start. -/
def gst (G : S64.Idx → BitVec 32) : Nat → Nat
  | 0 => 0
  | e + 1 => gst G e + gn G e
/-- How many experts before `e` have tokens. -/
def cnt (G : S64.Idx → BitVec 32) : Nat → Nat
  | 0 => 0
  | e + 1 => cnt G e + (if gn G e = 0 then 0 else 1)
/-- How many experts before `e` have none. -/
def zcnt (G : S64.Idx → BitVec 32) : Nat → Nat
  | 0 => 0
  | e + 1 => zcnt G e + (if gn G e = 0 then 1 else 0)

theorem gst_mono {a b : Nat} (h : a ≤ b) : gst G a ≤ gst G b := by
  induction h with
  | refl => exact Nat.le_refl _
  | step _ ih => exact ih.trans (Nat.le_add_right _ _)
theorem cnt_mono {a b : Nat} (h : a ≤ b) : cnt G a ≤ cnt G b := by
  induction h with
  | refl => exact Nat.le_refl _
  | step _ ih => exact ih.trans (Nat.le_add_right _ _)
theorem zcnt_mono {a b : Nat} (h : a ≤ b) : zcnt G a ≤ zcnt G b := by
  induction h with
  | refl => exact Nat.le_refl _
  | step _ ih => exact ih.trans (Nat.le_add_right _ _)
theorem cnt_some {e : Nat} (h : gn G e ≠ 0) : cnt G (e + 1) = cnt G e + 1 := by
  show cnt G e + _ = _
  rw [if_neg h]
theorem cnt_none {e : Nat} (h : gn G e = 0) : cnt G (e + 1) = cnt G e := by
  show cnt G e + _ = _
  rw [if_pos h, Nat.add_zero]
theorem zcnt_some {e : Nat} (h : gn G e ≠ 0) : zcnt G (e + 1) = zcnt G e := by
  show zcnt G e + _ = _
  rw [if_neg h, Nat.add_zero]
theorem zcnt_none {e : Nat} (h : gn G e = 0) : zcnt G (e + 1) = zcnt G e + 1 := by
  show zcnt G e + _ = _
  rw [if_pos h]
theorem cnt_le (e : Nat) : cnt G e ≤ e := by
  induction e with
  | zero => exact Nat.le_refl _
  | succ e ih =>
    by_cases h : gn G e = 0
    · rw [cnt_none G h]; omega
    · rw [cnt_some G h]; omega

/-- The expert that is number `j` of those with tokens. -/
def expertAt (j : Nat) : Nat := Classical.epsilon (fun e => gn G e ≠ 0 ∧ cnt G e = j)
theorem expertAt_cnt {e : Nat} (h : gn G e ≠ 0) : expertAt G (cnt G e) = e := by
  have hs : gn G (expertAt G (cnt G e)) ≠ 0 ∧ cnt G (expertAt G (cnt G e)) = cnt G e :=
    Classical.epsilon_spec (p := fun e' => gn G e' ≠ 0 ∧ cnt G e' = cnt G e) ⟨e, h, rfl⟩
  rcases Nat.lt_trichotomy (expertAt G (cnt G e)) e with h1 | h1 | h1
  · have h2 := cnt_mono G (Nat.succ_le_of_lt h1)
    have h3 := cnt_some G hs.1
    simp only [Nat.succ_eq_add_one] at h2
    omega
  · exact h1
  · have h2 := cnt_mono G (Nat.succ_le_of_lt h1)
    have h3 := cnt_some G h
    simp only [Nat.succ_eq_add_one] at h2
    omega
/-- The expert that is number `j` of those with none. -/
def emptyAt (j : Nat) : Nat := Classical.epsilon (fun e => gn G e = 0 ∧ zcnt G e = j)
theorem emptyAt_zcnt {e : Nat} (h : gn G e = 0) : emptyAt G (zcnt G e) = e := by
  have hs : gn G (emptyAt G (zcnt G e)) = 0 ∧ zcnt G (emptyAt G (zcnt G e)) = zcnt G e :=
    Classical.epsilon_spec (p := fun e' => gn G e' = 0 ∧ zcnt G e' = zcnt G e) ⟨e, h, rfl⟩
  rcases Nat.lt_trichotomy (emptyAt G (zcnt G e)) e with h1 | h1 | h1
  · have h2 := zcnt_mono G (Nat.succ_le_of_lt h1)
    have h3 := zcnt_none G hs.1
    simp only [Nat.succ_eq_add_one] at h2
    omega
  · exact h1
  · have h2 := zcnt_mono G (Nat.succ_le_of_lt h1)
    have h3 := zcnt_none G h
    simp only [Nat.succ_eq_add_one] at h2
    omega
theorem zcnt_lt {e : Nat} (he : e < 64) (h : gn G e = 0) : zcnt G e < zcnt G 64 := by
  have h2 := zcnt_mono G (Nat.succ_le_of_lt he)
  have h3 := zcnt_none G h
  simp only [Nat.succ_eq_add_one] at h2
  omega
end Groups

/-! ## How far the tiles run ahead of the passes -/

/-- How many passes the expert whose tokens are `s` up to `t` takes. -/
def passes (s t : Nat) : Nat := if t = s then 0 else (t - s / 16 * 16 + 255) / 256
def QInv (s p q : Nat) : Prop := q ≤ 192 ∧ (q < 192 → s / 256 + p + 2 ≤ q) ∧ q ≤ s / 256 + (p - 1) + 4
theorem QInv.zero : QInv 0 0 2 := by unfold QInv; omega
theorem QInv.at {s p q a : Nat} (h : QInv s p q) (ha : a = s / 16 * 16 + 256 * p) : (q < 192 → a / 256 + 2 ≤ q) ∧ q ≤ a / 256 + 4 := by
  unfold QInv at h; omega
theorem QInv.next {s p a : Nat} {w : BitVec 32} {q : BitVec 32} (ha : w.toNat = a) (hA : a ≤ 49152) (h : QInv s p q.toNat) (he : a = s / 16 * 16 + 256 * p) :
    QInv s (p + 1) (qNext w q).toNat := by
  have hq : q.toNat ≤ 192 := h.1
  by_cases hd : doQuant w q = 1#1
  · have h1 := qNext_pos hq hd
    have h2 := (doQuant_iff w q (by omega) hq).mp hd
    unfold QInv at h ⊢
    omega
  · have h1 := qNext_neg hq hd
    have h2 : ¬ (q.toNat < 192 ∧ q.toNat < w.toNat / 256 + 4) := fun h => hd ((doQuant_iff w q (by omega) hq).mpr h)
    rw [h1]
    unfold QInv at h ⊢
    omega
theorem QInv.end {s t q : Nat} (h : QInv s (passes s t) q) (hst : s ≤ t) : QInv t 0 q := by
  unfold passes at h
  by_cases e : t = s
  · rw [if_pos e] at h; subst e; exact h
  · rw [if_neg e] at h
    unfold QInv at h ⊢
    omega
theorem QInv.last {q : Nat} (h : QInv 49152 0 q) : q = 192 := by unfold QInv at h; omega

/-! ## The lengths of the loops -/

theorem trips_one {lb ub : BitVec 32} (h : lb.toNat ≤ ub.toNat) (hu : ub.toNat < 2147483647) : Scf.trips lb ub 1#32 = ub.toNat - lb.toNat ∧ Scf.OK lb ub 1#32 := by
  have e1 : (1#32 : BitVec 32).toInt = 1 := by decide
  have e2 := toInt_of_lt (x := ub) (by omega)
  have e3 := toInt_of_lt (x := lb) (by omega)
  have ht : Scf.trips lb ub 1#32 = ub.toNat - lb.toNat := by
    unfold Scf.trips
    rw [e1, e2, e3, Int.ediv_one]
    omega
  refine ⟨ht, ?_, ?_⟩
  · rw [e1]; exact Int.one_pos
  · rw [ht, e1, e3]
    have : (2 : Int) ^ (32 - 1) = 2147483648 := by norm_num
    omega
theorem iv_toNat {n : Nat} (k : Nat) (hk : k < 4294967296) : (Scf.iv 0#32 1#32 k).toNat = k := by
  unfold Scf.iv
  rw [BitVec.mul_one, BitVec.zero_add, BitVec.toNat_ofNat]
  exact Nat.mod_eq_of_lt hk
theorem select_pos {c : BitVec 1} (h : c = 1#1) (a b : BitVec 32) : Scalar.select c a b = a := by
  subst h; rfl
theorem select_neg {c : BitVec 1} (h : c ≠ 1#1) (a b : BitVec 32) : Scalar.select c a b = b := by
  have h0 : ∀ c : BitVec 1, c ≠ 1#1 → c = 0#1 := by decide
  have := h0 c h
  subst this; rfl
theorem loopLen {v : BitVec 32} (hv : v.toNat < 2147483648) :
    (Scalar.addi 0#32 (Scalar.muli (Scalar.divsi (Scalar.subi v 0#32) 1#32) 1#32)).toNat = v.toNat ∧ (Scalar.addi 0#32 (Scalar.subi v 0#32)).toNat = v.toNat := by
  have z : (0#32 : BitVec 32).toNat = 0 := rfl
  have o : (1#32 : BitVec 32).toNat = 1 := rfl
  have h1 : (Scalar.subi v 0#32).toNat = v.toNat := (subi_toNat v 0#32 (by omega)).trans (by omega)
  have h2 : (Scalar.divsi (Scalar.subi v 0#32) 1#32).toNat = v.toNat := (divsi_toNat _ 1#32 (by omega) (by decide) (by decide)).trans (by rw [h1, o, Nat.div_one])
  have h3 : (Scalar.muli (Scalar.divsi (Scalar.subi v 0#32) 1#32) 1#32).toNat = v.toNat := (muli_toNat _ 1#32 (by rw [h2, o]; omega)).trans (by rw [h2, o, Nat.mul_one])
  refine ⟨(addi_toNat _ _ (by rw [h3, z]; omega)).trans (by rw [h3, z, Nat.zero_add]), (addi_toNat _ _ (by rw [h1, z]; omega)).trans (by rw [h1, z, Nat.zero_add])⟩
/-- The number of passes as the kernel has it. -/
abbrev passWord (start n : BitVec 32) : BitVec 32 :=
  Scalar.select (Scalar.cmpi .sgt n 0#32) (Scalar.divsi (Scalar.subi (Scalar.addi (Scalar.subi (Scalar.addi start n) (Scalar.muli (Scalar.divsi start 16#32) 16#32)) 256#32) 1#32) 256#32) 0#32
theorem floor16 {start : BitVec 32} (h : start.toNat ≤ 49152) : (Scalar.muli (Scalar.divsi start 16#32) 16#32).toNat = start.toNat / 16 * 16 := by
  have o : (16#32 : BitVec 32).toNat = 16 := rfl
  have h1 : (Scalar.divsi start 16#32).toNat = start.toNat / 16 := divsi_toNat start 16#32 (by omega) (by decide) (by decide)
  exact (muli_toNat _ _ (by rw [h1, o]; omega)).trans (by rw [h1, o])
theorem passWord_toNat {start n : BitVec 32} (h : start.toNat + n.toNat ≤ 49152) : (passWord start n).toNat = passes start.toNat (start.toNat + n.toNat) := by
  have z : (0#32 : BitVec 32).toNat = 0 := rfl
  have o : (1#32 : BitVec 32).toNat = 1 := rfl
  have o2 : (256#32 : BitVec 32).toNat = 256 := rfl
  have hn := sgt_iff (x := n) (y := 0#32) (by omega) (by omega)
  rw [z] at hn
  unfold passWord passes
  by_cases e : n.toNat = 0
  · rw [if_pos (by omega), select_neg (fun h => by have := hn.mp h; omega)]; rfl
  · rw [if_neg (by omega), select_pos (hn.mpr (by omega))]
    have h0 := floor16 (start := start) (by omega)
    have h1 : (Scalar.addi start n).toNat = start.toNat + n.toNat := addi_toNat _ _ (by omega)
    have h2 : (Scalar.subi (Scalar.addi start n) (Scalar.muli (Scalar.divsi start 16#32) 16#32)).toNat = start.toNat + n.toNat - start.toNat / 16 * 16 :=
      (subi_toNat _ _ (by rw [h0, h1]; omega)).trans (by rw [h0, h1])
    have h3 : (Scalar.addi (Scalar.subi (Scalar.addi start n) (Scalar.muli (Scalar.divsi start 16#32) 16#32)) 256#32).toNat = start.toNat + n.toNat - start.toNat / 16 * 16 + 256 :=
      (addi_toNat _ _ (by rw [h2, o2]; omega)).trans (by rw [h2, o2])
    have h4 : (Scalar.subi (Scalar.addi (Scalar.subi (Scalar.addi start n) (Scalar.muli (Scalar.divsi start 16#32) 16#32)) 256#32) 1#32).toNat = start.toNat + n.toNat - start.toNat / 16 * 16 + 255 :=
      (subi_toNat _ _ (by rw [h3, o]; omega)).trans (by rw [h3, o]; omega)
    exact (divsi_toNat _ 256#32 (by rw [h4]; omega) (by decide) (by decide)).trans (by rw [h4, o2])
theorem passes_le {s t : Nat} (h : t ≤ 49152) : passes s t ≤ 49152 := by unfold passes; split <;> omega
theorem t3_trips {start n : BitVec 32} (h : start.toNat + n.toNat ≤ 49152) :
    (k0_t3_loop start n).trips = passes start.toNat (start.toNat + n.toNat) ∧ (k0_t3_loop start n).OK := by
  have hp := passWord_toNat h
  have hl := passes_le (s := start.toNat) h
  have hb := (loopLen (v := passWord start n) (by omega)).1
  have := trips_one (lb := 0#32) (ub := Scalar.addi 0#32 (Scalar.muli (Scalar.divsi (Scalar.subi (passWord start n) 0#32) 1#32) 1#32)) (Nat.zero_le _) (by rw [hb]; omega)
  exact ⟨this.1.trans (by rw [hb, hp]; exact Nat.sub_zero _), this.2⟩
theorem t4_trips {start n : BitVec 32} (h : start.toNat + n.toNat ≤ 49152) : (k0_t4_loop start n).trips = 0 ∧ (k0_t4_loop start n).OK := by
  have hp := passWord_toNat h
  have hl := passes_le (s := start.toNat) h
  have hb := loopLen (v := passWord start n) (by omega)
  have := trips_one (lb := Scalar.addi 0#32 (Scalar.muli (Scalar.divsi (Scalar.subi (passWord start n) 0#32) 1#32) 1#32)) (ub := Scalar.addi 0#32 (Scalar.subi (passWord start n) 0#32))
    (by rw [hb.1, hb.2]) (by rw [hb.2]; omega)
  exact ⟨this.1.trans (by rw [hb.1, hb.2]; exact Nat.sub_self _), this.2⟩
theorem slotWord {used : BitVec 32} (h : used.toNat ≤ 64) : (Scalar.remsi used 3#32).toNat = used.toNat % 3 :=
  remsi_toNat used 3#32 (by omega) (by decide) (by decide)

/-! ## The kernel's own checks -/

theorem chk1_all {start used n : BitVec 32} (h : start.toNat + n.toNat ≤ 49152) (hu : used.toNat ≤ 64) : k0_chk1 start used n := by
  have hs : (Scalar.remsi used 3#32).toNat + 1 ≤ 3 := by rw [slotWord hu]; omega
  exact ⟨fun _ => inb1 hs, fun _ => inb3 hs (Nat.le_refl _) (Nat.le_refl _), (t3_trips h).2, (t4_trips h).2, fun _ => inb1 hs, fun _ => inb3 hs (Nat.le_refl _) (Nat.le_refl _)⟩
theorem chk4_key : ∀ u : Fin 65, k0_chk4 (BitVec.ofNat 32 u.val) := by decide +kernel
theorem t5_key : ∀ u : Fin 65, (k0_t5_loop (BitVec.ofNat 32 u.val)).trips = u.val - (u.val - 3) ∧ (k0_t6_loop (BitVec.ofNat 32 u.val)).trips = 0
    ∧ ∀ k : Fin (k0_t5_loop (BitVec.ofNat 32 u.val)).trips, k0_off541 (BitVec.ofNat 32 u.val) k = ![(u.val - 3 + k.val) % 3] := by decide +kernel
theorem word_of {u : BitVec 32} {n : Nat} (h : u.toNat = n) (hn : n ≤ 64) : u = BitVec.ofNat 32 n := by
  refine BitVec.eq_of_toNat_eq ?_
  rw [h, BitVec.toNat_ofNat]
  exact (Nat.mod_eq_of_lt (by omega)).symm
theorem chk4_all {u : BitVec 32} (h : u.toNat ≤ 64) : k0_chk4 u := by
  rw [word_of rfl h]; exact chk4_key ⟨u.toNat, by omega⟩
theorem t5_trips {u : BitVec 32} (h : u.toNat ≤ 64) : (k0_t5_loop u).trips = u.toNat - (u.toNat - 3) ∧ (k0_t6_loop u).trips = 0
    ∧ ∀ k : Fin (k0_t5_loop u).trips, k0_off541 u k = ![(u.toNat - 3 + k.val) % 3] := by
  obtain ⟨n, hn⟩ : ∃ n, n = u.toNat := ⟨_, rfl⟩
  have e := word_of hn.symm (by omega)
  rw [← hn]
  subst e
  exact t5_key ⟨n, by omega⟩

end Cert.KernelIdeal.Hand
end
-- ==== Proof.Body.lean ====
/-
The body of the kernel put together: its loops' bodies and the straight stretches between them, each said
in the pieces, and the equations between them and the printed program.
-/
module

public import proofs.«01_k».proof.Proof.Pieces
public import proofs.«01_k».proof.Proof.Gen.KernelIdeal.Skeleton
@[expose] public section
noncomputable section
open Idealize.ShloMosaic Idealize.ShloMosaic.TcCoe Idealize.ShloMosaic.Tactic
open Idealize.SL Idealize.SL.Sem

namespace Cert.KernelIdeal.Hand
open Cert.KernelIdeal Facts₀ Facts
open Cert.KernelIdeal.Gen (k0_t1_body k0_t2_body k0_t3_body k0_t4_body k0_t5_body k0_t6_body k0_t7_body cc0_wgrad_skel cc0_wgrad_eq_skeleton k0_part209_skel k0_part209_eq_skeleton k0_part210_skel k0_part210_eq_skeleton k0_part211_skel k0_part211_eq_skeleton k0_pay1022)

variable {F : FTy → Type} [FloatOps F]

universe v w
/-- A choice that is not decided by computing. -/
def cdite {α : Type w} (c : Prop) (A : c → α) (B : ¬ c → α) : α := @dite α c (Classical.propDecidable c) A B
theorem dite_eq_cdite {α : Type w} (c : Prop) [Decidable c] (A : c → α) (B : ¬ c → α) : dite c A B = cdite c A B := by
  by_cases h : c <;> simp [cdite, h]
theorem ite_eq_cdite {α : Type w} (c : Prop) [Decidable c] (A B : α) : ite c A B = cdite c (fun _ => A) (fun _ => B) := by
  by_cases h : c <;> simp [cdite, h]
theorem bind_cdite {E : Type → Type v} {α β : Type} (c : Prop) (A : c → Prog E α) (B : ¬ c → Prog E α) (k : α → Prog E β) :
    (cdite c A B >>= k) = cdite c (fun h => A h >>= k) (fun h => B h >>= k) := by
  by_cases h : c <;> simp [cdite, h]

/-! ## The first two tiles -/

abbrev q1 (k : Fin k0_t1_loop.trips) : BitVec 32 := Scf.iv 0#32 1#32 k
theorem q1_lt : ∀ k : Fin k0_t1_loop.trips, (q1 k).toNat < 192 := by decide +kernel
def firstTile (k : Fin k0_t1_loop.trips) (u : Unit) : Prog (TpuEff nD τ sig (Elt F) Λ₀ .tc) Unit :=
  k0_t1_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 0#32 1#32 k u
theorem firstTile_0 : firstTile (F := F) ⟨0, by decide⟩ () = quantTile (q1 ⟨0, by decide⟩) (q1_lt _) := by
  delta firstTile
  sl_kernel_rfl
theorem firstTile_1 : firstTile (F := F) ⟨1, by decide⟩ () = quantTile (q1 ⟨1, by decide⟩) (q1_lt _) := by
  delta firstTile
  sl_kernel_rfl

/-! ## One pass -/

def passBody (start used : BitVec 32) (n : Elt F .i32) (hw : k0_chk1 start used n) (k : Fin (k0_t3_loop start n).trips) (q : BitVec 32) :
    Prog (TpuEff nD τ sig (Elt F) Λ₀ .tc) (BitVec 32) :=
  k0_t3_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 0#32 1#32 start used n hw (Scalar.addi start n) (Scalar.remsi used 3#32) (Scalar.muli (Scalar.divsi start 16#32) 16#32) k q
set_option maxHeartbeats 4000000 in
theorem passBody_eq (start used : BitVec 32) (n : Elt F .i32) (hw : k0_chk1 start used n) (k : Fin (k0_t3_loop start n).trips) (q : BitVec 32) (hq : q.toNat ≤ 192)
    (hra : (Scalar.remsi (passAt start k) 1024#32).toNat < 1024) (hu : (Scalar.remsi used 3#32).toNat < 3) :
    passBody (F := F) start used n hw k q
      = (do let _w ← Prog.lift (TpuEff.assume (k0_chk2 start used n k q) (k0_chk2.dec start used n k q))
            pass (F := F) start (Scalar.addi start n) (passAt start k) (Scalar.cmpi .eq (Scf.iv 0#32 1#32 k) 0#32) (Scalar.remsi (passAt start k) 1024#32)
              (Scalar.remsi used 3#32) q hra hu hq) := by
  delta passBody k0_t3_body k0_part129 k0_part63
  delta pass passQuant quantWait quantDone
  simp only [bind_assoc, dite_eq_cdite, ite_eq_cdite, bind_cdite, pure_bind]
  sl_kernel_rfl
def restBody (start used : BitVec 32) (n : Elt F .i32) (hw : k0_chk1 start used n) (k : Fin (k0_t4_loop start n).trips) (q : BitVec 32) :
    Prog (TpuEff nD τ sig (Elt F) Λ₀ .tc) (BitVec 32) :=
  k0_t4_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 0#32 1#32 start used n hw (Scalar.addi start n) (Scalar.remsi used 3#32) (Scalar.muli (Scalar.divsi start 16#32) 16#32)
    (Scalar.addi 0#32 (Scalar.muli (Scalar.divsi (Scalar.subi (Scalar.select (Scalar.cmpi .sgt n 0#32) (Scalar.divsi (Scalar.subi (Scalar.addi (Scalar.subi (Scalar.addi start n)
      (Scalar.muli (Scalar.divsi start 16#32) 16#32)) 256#32) 1#32) 256#32) 0#32) 0#32) 1#32) 1#32)) k q

/-! ## One expert -/

/-- The sums of expert `used - 3` waited for: their slot is wanted. -/
def accWait (start used : BitVec 32) (n : Elt F .i32) (hw : k0_chk1 start used n) : Prog (TpuEff nD τ sig (Elt F) Λ₀ .tc) PUnit :=
  if h : k0_cond4 used n = 1#1 then
    Prog.lift (.waitDma2 ((cc0_scratch11.slice (Rect.unit (s := S3) (k0_off144 used) S1.size (k0_off144_inb start used n hw h))).squeeze S_ squeezes_S1_S_).sem
      ((aAcc.slice (Rect.unit (s := S3x2048x1408) (k0_off145 used) S1x2048x1408.size (k0_off145_inb start used n hw h)) (fun _ => rfl)).squeeze S2048x1408 squeezes_S1x2048x1408_S2048x1408)
      ((aDw.slice (Rect.unit (s := S64x2048x1408) ![0, 0, 0] S1x2048x1408.size inb_S64x2048x1408_S1x2048x1408_0_0_0) (fun _ => rfl)).squeeze S2048x1408 squeezes_S1x2048x1408_S2048x1408)
      ((View.wordExact_bits rfl).reshape _ _) ((View.wordExact_bits rfl).reshape _ _))
  else pure ⟨⟩
/-- The sums of this expert sent to their place. -/
def accStart (e : Fin k0_t2_loop.trips) (start used : BitVec 32) (n : Elt F .i32) (hw : k0_chk1 start used n) : Prog (TpuEff nD τ sig (Elt F) Λ₀ .tc) PUnit :=
  if h : k0_cond15 n = 1#1 then
    Prog.lift (.enqueueDma ((aAcc.slice (Rect.unit (s := S3x2048x1408) (k0_off528 used) S1x2048x1408.size (k0_off528_inb start used n hw h)) (fun _ => rfl)).squeeze S2048x1408 squeezes_S1x2048x1408_S2048x1408)
      (.here ((aDw.slice (Rect.unit (s := S64x2048x1408) (k0_off527 e) S1x2048x1408.size (k0_off527_inb e)) (fun _ => rfl)).squeeze S2048x1408 squeezes_S1x2048x1408_S2048x1408))
      (.dma ((cc0_scratch11.slice (Rect.unit (s := S3) (k0_off526 used) S1.size (k0_off526_inb start used n hw h))).squeeze S_ squeezes_S1_S_).sem)
      ((View.wordExact_bits rfl).reshape _ _) ((View.wordExact_bits rfl).reshape _ _) ⟨Or.inl rfl, trivial⟩)
  else pure ⟨⟩
/-- Where 256 rows of an empty expert lie. -/
abbrev zeroRows (off : Fin 3 → Nat) (inb : ∀ a, off a + S1x256x1408.size a ≤ S64x2048x1408.size a) : Memref sig .tc .hbm S256x1408 .f32 :=
  (aDw.slice (Rect.unit (s := S64x2048x1408) off S1x256x1408.size inb) (fun _ => rfl)).squeeze S256x1408 squeezes_S1x256x1408_S256x1408
abbrev zeroSem : DmaSem sig := ((cc0_scratch12.slice (Rect.unit (s := S1) ![0] S1.size inb_S1_S1_0)).squeeze S_ squeezes_S1_S_).sem
/-- Zeros sent to 256 rows of an empty expert. -/
def zeroCopy (off : Fin 3 → Nat) (inb : ∀ a, off a + S1x256x1408.size a ≤ S64x2048x1408.size a) : Prog (TpuEff nD τ sig (Elt F) Λ₀ .tc) PUnit :=
  Prog.lift (.enqueueDma aZero (.here (zeroRows off inb)) (.dma zeroSem) (Memref.isWhole_whole _).wordExact ((View.wordExact_bits rfl).reshape _ _) ⟨Or.inl rfl, trivial⟩)
def zeroAwait (off : Fin 3 → Nat) (inb : ∀ a, off a + S1x256x1408.size a ≤ S64x2048x1408.size a) : Prog (TpuEff nD τ sig (Elt F) Λ₀ .tc) PUnit :=
  Prog.lift (.waitDma2 zeroSem aZero (zeroRows off inb) (Memref.isWhole_whole _).wordExact ((View.wordExact_bits rfl).reshape _ _))
def zeroStart (e : Fin k0_t2_loop.trips) (n : Elt F .i32) : Prog (TpuEff nD τ sig (Elt F) Λ₀ .tc) PUnit :=
  if Scalar.cmpi .ne (Scalar.extui (Scalar.cmpi .eq n 0#32)) 0#32 = 1#1 then do
    zeroCopy (k0_off529 e) (k0_off529_inb e)
    zeroCopy (k0_off530 e) (k0_off530_inb e)
    zeroCopy (k0_off531 e) (k0_off531_inb e)
    zeroCopy (k0_off532 e) (k0_off532_inb e)
    zeroCopy (k0_off533 e) (k0_off533_inb e)
    zeroCopy (k0_off534 e) (k0_off534_inb e)
    zeroCopy (k0_off535 e) (k0_off535_inb e)
    zeroCopy (k0_off536 e) (k0_off536_inb e)
  else pure ⟨⟩
def expert (e : Fin k0_t2_loop.trips) (start used q : BitVec 32) : Prog (TpuEff nD τ sig (Elt F) Λ₀ .tc) (BitVec 32 × BitVec 32 × BitVec 32) := do
  let n : Elt F .i32 ← smemLoad aGs (Rect.unit (s := S64) (k0_off143 e) S1.size (k0_off143_inb e)) numel1_S1 rfl
  let hw ← Prog.lift (TpuEff.assume (k0_chk1 start used n) (k0_chk1.dec start used n))
  accWait start used n hw.down
  let q1 ← Scf.Loop.for (k0_t3_loop start n) (k0_t3_ok start used n hw.down) q (passBody start used n hw.down)
  let q2 ← Scf.Loop.for (k0_t4_loop start n) (k0_t4_ok start used n hw.down) q1 (restBody start used n hw.down)
  accStart e start used n hw.down
  zeroStart e n
  pure (Scalar.addi start n, Scalar.addi used (Scalar.extui (Scalar.cmpi .sgt n 0#32)), q2)
def expertBody (e : Fin k0_t2_loop.trips) (a : BitVec 32 × BitVec 32 × BitVec 32) : Prog (TpuEff nD τ sig (Elt F) Λ₀ .tc) (BitVec 32 × BitVec 32 × BitVec 32) :=
  k0_t2_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 0#32 1#32 e a
set_option maxHeartbeats 4000000 in
theorem expertBody_eq (e : Fin k0_t2_loop.trips) (start used q : BitVec 32) : expertBody (F := F) e (start, used, q) = expert e start used q := by
  delta expertBody k0_t2_body k0_part207
  delta expert accWait accStart zeroStart zeroCopy passBody restBody
  simp only [bind_assoc, dite_eq_cdite, ite_eq_cdite, bind_cdite, pure_bind]

/-! ## The end -/

def lastSums (u : BitVec 32) (hw : k0_chk4 u) (k : Fin (k0_t5_loop u).trips) (a : BitVec 32) : Prog (TpuEff nD τ sig (Elt F) Λ₀ .tc) (BitVec 32) :=
  k0_t5_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 u hw k a
def sumsAwait (u : BitVec 32) (hw : k0_chk4 u) (k : Fin (k0_t5_loop u).trips) : Prog (TpuEff nD τ sig (Elt F) Λ₀ .tc) PUnit :=
  Prog.lift (.waitDma2 ((cc0_scratch11.slice (Rect.unit (s := S3) (k0_off541 u k) S1.size (k0_off541_inb u hw k))).squeeze S_ squeezes_S1_S_).sem
    ((aAcc.slice (Rect.unit (s := S3x2048x1408) (k0_off542 u k) S1x2048x1408.size (k0_off542_inb u hw k)) (fun _ => rfl)).squeeze S2048x1408 squeezes_S1x2048x1408_S2048x1408)
    ((aDw.slice (Rect.unit (s := S64x2048x1408) ![0, 0, 0] S1x2048x1408.size inb_S64x2048x1408_S1x2048x1408_0_0_0) (fun _ => rfl)).squeeze S2048x1408 squeezes_S1x2048x1408_S2048x1408)
    ((View.wordExact_bits rfl).reshape _ _) ((View.wordExact_bits rfl).reshape _ _))
theorem lastSums_eq (u : BitVec 32) (hw : k0_chk4 u) (k : Fin (k0_t5_loop u).trips) (a : BitVec 32) :
    lastSums (F := F) u hw k a = (sumsAwait u hw k >>= fun _ => pure 0#32) := by
  delta lastSums k0_t5_body sumsAwait
  sl_kernel_rfl
def noSums (u : BitVec 32) (hw : k0_chk4 u) (k : Fin (k0_t6_loop u).trips) (a : BitVec 32) : Prog (TpuEff nD τ sig (Elt F) Λ₀ .tc) (BitVec 32) :=
  k0_t6_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 u hw k a
def zerosEnd (e : Fin k0_t7_loop.trips) (u : Unit) : Prog (TpuEff nD τ sig (Elt F) Λ₀ .tc) Unit :=
  k0_t7_body (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 e u
def zeroWaits (e : Fin k0_t7_loop.trips) (n : Elt F .i32) : Prog (TpuEff nD τ sig (Elt F) Λ₀ .tc) PUnit :=
  if Scalar.cmpi .ne (Scalar.extui (Scalar.cmpi .eq n 0#32)) 0#32 = 1#1 then do
    zeroAwait (k0_off546 e) (k0_off546_inb e)
    zeroAwait (k0_off547 e) (k0_off547_inb e)
    zeroAwait (k0_off548 e) (k0_off548_inb e)
    zeroAwait (k0_off549 e) (k0_off549_inb e)
    zeroAwait (k0_off550 e) (k0_off550_inb e)
    zeroAwait (k0_off551 e) (k0_off551_inb e)
    zeroAwait (k0_off552 e) (k0_off552_inb e)
    zeroAwait (k0_off553 e) (k0_off553_inb e)
  else pure ⟨⟩
def zeroEnd (e : Fin k0_t7_loop.trips) : Prog (TpuEff nD τ sig (Elt F) Λ₀ .tc) Unit := do
  let n : Elt F .i32 ← smemLoad aGs (Rect.unit (s := S64) (k0_off545 e) S1.size (k0_off545_inb e)) numel1_S1 rfl
  zeroWaits e n
set_option maxHeartbeats 4000000 in
theorem zerosEnd_eq (e : Fin k0_t7_loop.trips) (u : Unit) : zerosEnd (F := F) e u = zeroEnd e := by
  delta zerosEnd k0_t7_body k0_part208
  delta zeroEnd zeroWaits zeroAwait
  simp only [bind_assoc, dite_eq_cdite, ite_eq_cdite, bind_cdite, pure_bind]
  sl_kernel_rfl

/-! ## The whole body -/

/-- The zeros an empty expert is given. -/
abbrev zeros : Vec F S256x1408 .f32 := k0_pay1022 (F := F)
/-- The zeros written to their scratch. -/
def zeroFill : Prog (TpuEff nD τ sig (Elt F) Λ₀ .tc) PUnit := do
  let _v : Vec F S256x1408 .f32 ← Prog.lift (.load aZero (Rect.unit (s := S256x1408) ![0, 0] S256x1408.size inb_S256x1408_S256x1408_0_0).toLoadRect (View.loadsAt_vmem h_S256x1408))
  Prog.lift (.store aZero (Rect.unit (s := S256x1408) ![0, 0] S256x1408.size inb_S256x1408_S256x1408_0_0) (zeros (F := F)) Finset.univ (View.stores_vmem_bits_univ h_S256x1408 rfl) (.inl rfl))
/-- The first four tiles sent for. -/
def firstTiles : Prog (TpuEff nD τ sig (Elt F) Λ₀ .tc) PUnit := do
  inStartX 0#32 (by decide)
  inStartY 0#32 (by decide)
  inStartX 1#32 (by decide)
  inStartY 1#32 (by decide)
  inStartX 2#32 (by decide)
  inStartY 2#32 (by decide)
  inStartX 3#32 (by decide)
  inStartY 3#32 (by decide)
def lastCodes : Prog (TpuEff nD τ sig (Elt F) Λ₀ .tc) PUnit := do
  codeWaitX 190#32 (by decide)
  codeWaitY 190#32 (by decide)
  codeWaitX 191#32 (by decide)
  codeWaitY 191#32 (by decide)
def run : Prog (TpuEff nD τ sig (Elt F) Λ₀ .tc) PUnit := do
  zeroFill
  firstTiles
  Scf.Loop.for k0_t1_loop k0_t1_ok ⟨⟩ firstTile
  let a ← Scf.Loop.for k0_t2_loop k0_t2_ok (0#32, 0#32, 2#32) expertBody
  let hw ← Prog.lift (TpuEff.assume (k0_chk4 a.2.1) (k0_chk4.dec a.2.1))
  lastCodes
  let b ← Scf.Loop.for (k0_t5_loop a.2.1) (k0_t5_ok a.2.1 hw.down) 0#32 (lastSums a.2.1 hw.down)
  let _d ← Scf.Loop.for (k0_t6_loop a.2.1) (k0_t6_ok a.2.1 hw.down) b (noSums a.2.1 hw.down)
  Scf.Loop.for k0_t7_loop k0_t7_ok ⟨⟩ zerosEnd
  pure ⟨⟩
set_option maxHeartbeats 4000000 in
/-- The printed kernel, on its own operands. -/
theorem kernel_eq : cc0_wgrad (F := F) aGs (Memref.isWhole_whole _) aX (Memref.isWhole_whole _) aDy (Memref.isWhole_whole _) aDw (Memref.isWhole_whole _) aXc (Memref.isWhole_whole _) aXs (Memref.isWhole_whole _) aDyc (Memref.isWhole_whole _) aDys (Memref.isWhole_whole _) aXin (Memref.isWhole_whole _) aDyin (Memref.isWhole_whole _) aXco (Memref.isWhole_whole _) aDyco (Memref.isWhole_whole _) aXw (Memref.isWhole_whole _) aDyw (Memref.isWhole_whole _) aDym (Memref.isWhole_whole _) aAcc (Memref.isWhole_whole _) aZero (Memref.isWhole_whole _) cc0_scratch9 cc0_scratch10 cc0_scratch11 cc0_scratch12 = run := by
  rw [cc0_wgrad_eq_skeleton]
  delta cc0_wgrad_skel
  rw [k0_part209_eq_skeleton, k0_part210_eq_skeleton, k0_part211_eq_skeleton]
  delta k0_part209_skel k0_part210_skel k0_part211_skel
  delta run zeroFill firstTiles lastCodes firstTile expertBody lastSums noSums zerosEnd
  simp only [bind_assoc, pure_bind]
  sl_kernel_rfl
end Cert.KernelIdeal.Hand
end
-- ==== Proof.Slots.lean ====
/-
The slots the sums are sent from, and the zeros sent to the experts that have no tokens: many copies on one
semaphore, waited for together at the end.
-/
module

public import proofs.«01_k».proof.Proof.Count
public import proofs.«01_k».proof.Proof.Body
public import Idealize.ShloMosaic.Lib.Ring
public import Idealize.SL.BI.BigOpNat
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-! ## Rows of one expert -/

abbrev NW : ℕ := Ref.dmaCredit main_v0_0 S2048x1408 .f32
abbrev NZ : ℕ := Ref.dmaCredit main_v0_0 S256x1408 .f32
/-- Row blocks `a` up to `b` of expert `e`, 256 rows each. -/
def rowsOf (e a b : Nat) : Finset S64x2048x1408.Idx := Finset.univ.filter (fun j => (j 0).val = e ∧ 256 * a ≤ (j 1).val ∧ (j 1).val < 256 * b)
theorem mem_rowsOf {e a b : Nat} {j : S64x2048x1408.Idx} : j ∈ rowsOf e a b ↔ (j 0).val = e ∧ 256 * a ≤ (j 1).val ∧ (j 1).val < 256 * b := by
  unfold rowsOf
  simp only [Finset.mem_filter, Finset.mem_univ, true_and]
theorem rowsOf_all (e : Nat) : rowsOf e 0 8 = band S64x2048x1408 e (e + 1) := by
  ext j
  rw [mem_rowsOf, mem_band (Nat.succ_pos 2)]
  have h1 : (j 1).val < 2048 := (j 1).isLt
  show _ ↔ e ≤ (j 0).val ∧ (j 0).val < e + 1
  omega
theorem rowsOf_none (e a : Nat) : rowsOf e a a = ∅ := by
  ext j
  rw [mem_rowsOf]
  simp only [Finset.notMem_empty, iff_false]; omega
theorem rowsOf_union {e a b d : Nat} (h1 : a ≤ b) (h2 : b ≤ d) : rowsOf e a b ∪ rowsOf e b d = rowsOf e a d := by
  ext j
  rw [Finset.mem_union, mem_rowsOf, mem_rowsOf, mem_rowsOf]; omega
theorem rowsOf_disjoint (e a b d : Nat) : Disjoint (rowsOf e a b) (rowsOf e b d) := by
  rw [Finset.disjoint_left]
  intro j hj hj'
  rw [mem_rowsOf] at hj hj'; omega
theorem rows_split (c : Dev nD) (f : S64x2048x1408.Idx → Elt F .f32) {e a b d : Nat} (h1 : a ≤ b) (h2 : b ≤ d) :
    pt c aDw (rowsOf e a d) f ⊣⊢ iprop(pt c aDw (rowsOf e a b) f ∗ pt c aDw (rowsOf e b d) f) := by
  rw [← rowsOf_union h1 h2]
  exact pointsTo_union (rowsOf_disjoint e a b d)
theorem zero_rect {e i : Nat} {off : Fin 3 → Nat} (hoff : off = ![e, 256 * i, 0]) (inb : ∀ a, off a + S1x256x1408.size a ≤ S64x2048x1408.size a) :
    (Rect.unit (s := S64x2048x1408) off S1x256x1408.size inb).set = rowsOf e i (i + 1) := by
  subst hoff
  ext j
  rw [Rect.mem_set_unit, mem_rowsOf]
  have h2 : (j 2).val < 1408 := (j 2).isLt
  constructor
  · intro h
    have h0 : e ≤ (j 0).val ∧ (j 0).val < e + 1 := h 0
    have h1 : 256 * i ≤ (j 1).val ∧ (j 1).val < 256 * i + 256 := h 1
    omega
  · intro h a
    match a with
    | 0 => exact (show e ≤ (j 0).val ∧ (j 0).val < e + 1 by omega)
    | 1 => exact (show 256 * i ≤ (j 1).val ∧ (j 1).val < 256 * i + 256 by omega)
    | 2 => exact (show 0 ≤ (j 2).val ∧ (j 2).val < 0 + 1408 by omega)
theorem zeroRows_set {e i : Nat} {off : Fin 3 → Nat} (hoff : off = ![e, 256 * i, 0]) (inb : ∀ a, off a + S1x256x1408.size a ≤ S64x2048x1408.size a) :
    (zeroRows off inb).view.set = rowsOf e i (i + 1) :=
  (slab_set aDw _ _ _).trans ((map_whole (b := main_v0_0) _).trans (zero_rect hoff inb))

/-! ## Their semaphores -/

def sAcc (n : Nat) : DmaSem sig := ⟨(15 + n) % 19, Nat.mod_lt _ (by decide)⟩
def sZero : DmaSem sig := ⟨18, by decide⟩
theorem sAcc_key : ∀ n : Fin 3, ((cc0_scratch11.slice (Rect.unit (s := S3) ![n.val] S1.size (inb1 (x := n.val) n.isLt))).squeeze S_ squeezes_S1_S_).sem = sAcc n.val := by
  decide +kernel
theorem sAcc_eq {n : Nat} (hn : n < 3) {off : Fin 1 → Nat} (hoff : off = ![n]) (inb : ∀ a, off a + S1.size a ≤ S3.size a) :
    ((cc0_scratch11.slice (Rect.unit (s := S3) off S1.size inb)).squeeze S_ squeezes_S1_S_).sem = sAcc n := by
  subst hoff
  exact sAcc_key ⟨n, hn⟩
theorem zeroSem_eq : zeroSem = sZero := by decide +kernel

/-! ## Copies that share a semaphore -/

theorem wp_startB (c : Dev nD) {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)} {q : PosShare TreeShare}
    {Ss : Finset (Idx (src.view.loc (c : Thread nD τ)))} {Sd : Finset (Idx (dst.view.loc (c : Thread nD τ)))}
    (hs : src.view.set = Ss) (hd : dst.view.set = Sd) {fs : Buf (Elt F) (src.view.loc (c : Thread nD τ))} {fd : Buf (Elt F) (dst.view.loc (c : Thread nD τ))}
    (G : Buf (Elt F) (dst.view.loc (c : Thread nD τ)))
    (hG : ∀ y, dst.view.write (Elt F) fd (src.view.read (Elt F) fs) Finset.univ (dst.view.emb y) = G (dst.view.emb y))
    {sm : DmaSem sig} (hsm : sem = sm) {N m : ℕ} (hN : dst.view.dmaCredit = N) {Ds : List (sProp 𝕄)} (hj : Ds.length < m) (K : PUnit → sProp 𝕄) :
    iprop((src.view.loc (c : Thread nD τ) ↦[Ss]{q} fs) ∗ (dst.view.loc (c : Thread nD τ) ↦[Sd]{fullShare} fd) ∗ Batched EC (c : Thread nD τ) (.dma sm) () N m Ds 0)
      ⊢ iprop((Batched EC (c : Thread nD τ) (.dma sm) () N m (Ds ++ [iprop((dst.view.loc (c : Thread nD τ) ↦[Sd]{fullShare} G) ∗ (src.view.loc (c : Thread nD τ) ↦[Ss]{q} fs))]) 0 -∗ K ⟨⟩)
        -∗ WP c (Prog.lift (.enqueueDma src (.here dst) (.dma sem) hsrc hdst hsem)) K) := by
  subst hs hd hsm
  rw [lift_eq]
  have h : (dst.view.loc (c : Thread nD τ) ↦[dst.view.set]{fullShare} (dst.view.write (Elt F) fd (ReadAs.same.apply (src.view.read (Elt F) fs)) Finset.univ) : sProp 𝕄)
      = (dst.view.loc (c : Thread nD τ) ↦[dst.view.set]{fullShare} G) := pointsTo_congr (write_set dst.view fd _ G hG)
  iintro H HK
  iapply (wp_dmaBatched EC Variants.none (c : Thread nD τ) none (src := src) (dst := dst) (via := .same) (sm := .dma sem) () N hN (Finset.Subset.refl _) hj (Nat.zero_le _)) $$ H
  rw [h]
  iintro H
  iapply (wp_pure_intro c)
  iapply HK
  iexact H
theorem wp_waitB (c : Dev nD) {sp sp' : Space} {s s' : Shape} {e e' : EltTy} {src : Memref sig .tc sp s' e'} {dst : Memref sig .tc sp' s e} {sem : DmaSem sig}
    {hsrc : src.view.WordExact} {hdst : dst.view.WordExact} {sm : DmaSem sig} (hsm : sem = sm) {N m u : ℕ} (hN : dst.view.dmaCredit = N) {Ds : List (sProp 𝕄)}
    (hu : u + N ≤ N * Ds.length) (K : PUnit → sProp 𝕄) :
    iprop(Batched EC (c : Thread nD τ) (.dma sm) () N m Ds u ∗ OW c)
      ⊢ iprop((iprop(Batched EC (c : Thread nD τ) (.dma sm) () N m Ds (u + N) ∗ OW c) -∗ K ⟨⟩) -∗ WP c (Prog.lift (.waitDma2 sem src dst hsrc hdst)) K) := by
  subst hsm
  rw [lift_eq]
  unfold OW
  iintro ⟨HB, ⟨%W, HO⟩⟩ HK
  iapply (wp_waitBatchedMul EC Variants.none (c : Thread nD τ) none (srcw := src) (dstw := dst) () 1 (hN.trans (Nat.one_mul _).symm) (by rw [Nat.one_mul]; exact hu)) $$ [HB HO]
  · isplitl [HB]; · iexact HB
    iexact HO
  rw [Nat.one_mul]
  iintro ⟨HB, HO⟩
  iapply (wp_pure_intro c)
  iapply HK
  isplitl [HB]; · iexact HB
  iexists _; iexact HO

/-! ## The zeros -/

section Zeros
variable (c : Dev nD) (G : S64.Idx → BitVec 32)

def zv : Elt F .f32 := Scalar.ofBits (F := F) .f32 0x00000000#32
abbrev Zf : S256x1408.Idx → Elt F .f32 := fun _ => zv
abbrev Zc : S64x2048x1408.Idx → Elt F .f32 := fun _ => zv
/-- What copy `t` of the zeros writes. -/
def ZB (t : Nat) : sProp 𝕄 := pt c aDw (rowsOf (emptyAt G (t / 8)) (t % 8) (t % 8 + 1)) (Zc (F := F))
/-- What copy `t` of the zeros gives back. -/
def ZD (t : Nat) : sProp 𝕄 := iprop(ZB c G t ∗ ptq c aZero (shareTokN fullShare t) Finset.univ (Zf (F := F)))
def ZDs (t : Nat) : List (sProp 𝕄) := (List.range t).map (ZD (F := F) c G)
theorem ZDs_length (t : Nat) : (ZDs (F := F) c G t).length = t := by
  unfold ZDs
  rw [List.length_map, List.length_range]
theorem ZDs_succ (t : Nat) : ZDs (F := F) c G (t + 1) = ZDs c G t ++ [ZD c G t] := by
  unfold ZDs
  rw [List.range_succ, List.map_append]; rfl
/-- `t` copies of the zeros started. -/
def ZS (t : Nat) : sProp 𝕄 :=
  iprop(ptq c aZero (shareDrop fullShare t) Finset.univ (Zf (F := F)) ∗ Batched EC (c : Thread nD τ) (.dma sZero) () NZ (8 * zcnt G 64) (ZDs (F := F) c G t) 0)
theorem ZD_at {e i : Nat} (hg : gn G e = 0) (hi : i < 8) :
    ZD (F := F) c G (8 * zcnt G e + i) = iprop(pt c aDw (rowsOf e i (i + 1)) (Zc (F := F)) ∗ ptq c aZero (shareTokN fullShare (8 * zcnt G e + i)) Finset.univ (Zf (F := F))) := by
  unfold ZD ZB
  rw [show (8 * zcnt G e + i) / 8 = zcnt G e by omega, show (8 * zcnt G e + i) % 8 = i by omega, emptyAt_zcnt G hg]
theorem zero_val {off : Fin 3 → Nat} (inb : ∀ a, off a + S1x256x1408.size a ≤ S64x2048x1408.size a) (fd : S64x2048x1408.Idx → Elt F .f32) (y : S256x1408.Idx) :
    (zeroRows off inb).view.write (Elt F) fd (aZero.view.read (Elt F) (Zf (F := F))) Finset.univ ((zeroRows off inb).view.emb y) = Zc ((zeroRows off inb).view.emb y) := by
  rw [View.write_emb_of_mem _ _ (Finset.mem_univ y)]
  rfl
theorem wp_zeroCopy {e i : Nat} (he : e < 64) (hg : gn G e = 0) (hi : i < 8) {off : Fin 3 → Nat} (hoff : off = ![e, 256 * i, 0])
    (inb : ∀ a, off a + S1x256x1408.size a ≤ S64x2048x1408.size a) (K : PUnit → sProp 𝕄) :
    iprop((∃ f : S64x2048x1408.Idx → Elt F .f32, pt c aDw (rowsOf e i 8) f) ∗ ZS c G (8 * zcnt G e + i))
      ⊢ iprop((((∃ f : S64x2048x1408.Idx → Elt F .f32, pt c aDw (rowsOf e (i + 1) 8) f) ∗ ZS c G (8 * zcnt G e + (i + 1))) -∗ K ⟨⟩) -∗ WP c (zeroCopy off inb) K) := by
  have hz := zcnt_lt G he hg
  unfold zeroCopy ZS
  iintro ⟨⟨%f, Hd⟩, HZ, HB⟩ HK
  ihave Hd := (rows_split c f (e := e) (Nat.le_succ i) (Nat.succ_le_of_lt hi)).1 $$ Hd
  icases Hd with ⟨H1, H2⟩
  ihave HZ := (pointsTo_share (PosShare.mem_left_op_right (shareDrop fullShare (8 * zcnt G e + i)))).1 $$ HZ
  icases HZ with ⟨HZ, Ht⟩
  iapply (wp_startB c (src := aZero) (dst := zeroRows off inb) (map_whole (b := cc0_scratch8) Finset.univ) (zeroRows_set hoff inb) Zc (zero_val inb f) zeroSem_eq rfl
    (m := 8 * zcnt G 64) (Ds := ZDs c G (8 * zcnt G e + i)) (by rw [ZDs_length]; omega) K) $$ [Ht H1 HB]
  · isplitl [Ht]; · iexact Ht
    isplitl [H1]; · iexact H1
    iexact HB
  rw [show 8 * zcnt G e + (i + 1) = 8 * zcnt G e + i + 1 by omega, ZDs_succ, ZD_at c G hg hi]
  iintro HB
  iapply HK
  isplitl [H2]
  · iexists f; iexact H2
  isplitl [HZ]; · iexact HZ
  iexact HB

/-- `u` of the copies of the zeros waited for, all of them started. -/
def ZW (u : Nat) : sProp 𝕄 := Batched EC (c : Thread nD τ) (.dma sZero) () NZ (8 * zcnt G 64) (ZDs (F := F) c G (8 * zcnt G 64)) (NZ * u)
theorem wp_zeroAwait {u : Nat} (hu : u < 8 * zcnt G 64) {off : Fin 3 → Nat} (inb : ∀ a, off a + S1x256x1408.size a ≤ S64x2048x1408.size a) (K : PUnit → sProp 𝕄) :
    iprop(ZW (F := F) c G u ∗ OW c) ⊢ iprop((iprop(ZW (F := F) c G (u + 1) ∗ OW c) -∗ K ⟨⟩) -∗ WP c (zeroAwait off inb) K) := by
  unfold zeroAwait ZW
  exact wp_waitB c zeroSem_eq rfl (by rw [ZDs_length, ← Nat.mul_succ]; exact Nat.mul_le_mul_left _ hu) K

theorem zeros_all : (ZW (F := F) c G (8 * zcnt G 64) : sProp 𝕄)
    ⊢ iprop(|={Set.univ}=> iprop(bigSep (Finset.range (8 * zcnt G 64)) (ZD (F := F) c G) ∗ semVal ((c : Thread nD τ), .dma sZero) 0)) := by
  have h : (bigSep Finset.univ (deliv (m := 8 * zcnt G 64) (ZDs (F := F) c G (8 * zcnt G 64))) : sProp 𝕄) = bigSep (Finset.range (8 * zcnt G 64)) (ZD (F := F) c G) := by
    rw [← Ring.rangeSet_univ]
    refine (Ring.bigSep_rangeSet_eq_range (Nat.le_refl _) (ZD (F := F) c G) (fun k hk => ?_)).trans (by rw [Nat.sub_zero])
    unfold deliv ZDs
    simp only [Nat.zero_add] at hk ⊢
    rw [List.getD_eq_getElem?_getD, List.getElem?_map, List.getElem?_range hk]
    rfl
  rw [← h]
  have hin : ∀ a, (![0, 0, 0] : Fin 3 → Nat) a + S1x256x1408.size a ≤ S64x2048x1408.size a := by decide
  exact batched_collect EC (c : Thread nD τ) (View.dmaCredit_pos (zeroRows ![0, 0, 0] hin).view (by decide)) (ZDs_length c G _)
theorem zeros_back (t : Nat) : iprop(bigSep (Finset.range t) (ZD (F := F) c G) ∗ ptq c aZero (shareDrop fullShare t) Finset.univ (Zf (F := F)))
    ⊢ iprop(bigSep (Finset.range t) (ZB (F := F) c G) ∗ pt c aZero Finset.univ (Zf (F := F))) := by
  induction t with
  | zero => exact .rfl
  | succ t ih =>
    rw [bigSep_range_succ, bigSep_range_succ]
    unfold ZD
    iintro ⟨⟨⟨HB, Ht⟩, HD⟩, HZ⟩
    ihave H := ih $$ [HD Ht HZ]
    · isplitl [HD]
      · unfold ZD; iexact HD
      iapply (pointsTo_share (PosShare.mem_left_op_right (shareDrop fullShare t))).2
      isplitl [HZ]; · iexact HZ
      iexact Ht
    icases H with ⟨H1, H2⟩
    isplitl [HB H1]
    · isplitl [HB]; · iexact HB
      iexact H1
    iexact H2
end Zeros

/-! ## The sums of an expert -/

abbrev accIx (u r k : Nat) : S3x2048x1408.Idx := nix3 (by decide) (by decide) (by decide) u r k
abbrev dwIx (e r k : Nat) : S64x2048x1408.Idx := nix3 (by decide) (by decide) (by decide) e r k
/-- Accumulator `u`. -/
def slabOf (u : Nat) (f : S3x2048x1408.Idx → Elt F .f32) : S2048x1408.Idx → Elt F .f32 := fun y => f (accIx u (y 0).val (y 1).val)
/-- Expert `e` of the results. -/
def slabW (e : Nat) (g : S64x2048x1408.Idx → Elt F .f32) : S2048x1408.Idx → Elt F .f32 := fun y => g (dwIx e (y 0).val (y 1).val)

/-- What an expert's slab is known to be: by its passes, or zero. -/
structure Goal {X : S49152x2048.Idx → Elt F .bf16} {Y : S49152x1408.Idx → Elt F .bf16} (T : Sums X Y) (G : S64.Idx → BitVec 32) where
  DP : Nat → (S2048x1408.Idx → Elt F .f32) → Prop
  fin : ∀ e < 64, gn G e ≠ 0 → ∀ start stop : BitVec 32, start.toNat = gst G e → stop.toNat = gst G (e + 1) → ∀ u < 3, ∀ f,
    AccOk T start stop u (passes (gst G e) (gst G (e + 1))) 0 f → DP e (slabOf u f)
  zero : ∀ e < 64, gn G e = 0 → DP e (fun _ => zv)

section Slots
variable (c : Dev nD) {X : S49152x2048.Idx → Elt F .bf16} {Y : S49152x1408.Idx → Elt F .bf16} {T : Sums X Y} {G : S64.Idx → BitVec 32} (D : Goal T G)

/-- Expert `e`'s slab written. -/
def Slab (e : Nat) : sProp 𝕄 := iprop(∃ g : S64x2048x1408.Idx → Elt F .f32, pt c aDw (band S64x2048x1408 e (e + 1)) g ∗ ⌜D.DP e (slabW e g)⌝)
/-- Accumulator `j` (by turns) free. -/
def Idle (j : Nat) : sProp 𝕄 :=
  iprop((∃ f : S3x2048x1408.Idx → Elt F .f32, pt c aAcc (band S3x2048x1408 (j % 3) (j % 3 + 1)) f) ∗ semVal ((c : Thread nD τ), .dma (sAcc (j % 3))) 0)
/-- Accumulator `j`, its last sums on their way. -/
def Busy (j : Nat) : sProp 𝕄 :=
  Flight EC (c : Thread nD τ) (.dma (sAcc (j % 3))) () NW iprop(Slab c D (expertAt G (j - 3)) ∗ ∃ f : S3x2048x1408.Idx → Elt F .f32, pt c aAcc (band S3x2048x1408 (j % 3) (j % 3 + 1)) f)
def AS (j : Nat) : sProp 𝕄 := if 3 ≤ j then Busy c D j else Idle c j

theorem acc_slab_emb {u : Nat} (hu : u < 3) {off : Fin 3 → Nat} (hoff : off = ![u, 0, 0]) (inb : ∀ a, off a + S1x2048x1408.size a ≤ S3x2048x1408.size a) (y : S2048x1408.Idx) :
    ((aAcc.slice (Rect.unit (s := S3x2048x1408) off S1x2048x1408.size inb) (fun _ => rfl)).squeeze S2048x1408 squeezes_S1x2048x1408_S2048x1408).view.emb y
      = accIx u (y 0).val (y 1).val := by
  subst hoff
  refine (slab_emb aAcc inb _ _ y).trans ?_
  show (Rect.unit (s := S3x2048x1408) ![u, 0, 0] S1x2048x1408.size inb).emb (Fin.cons ⟨0, Nat.one_pos⟩ y) = _
  have h0 : (y 0).val < 2048 := (y 0).isLt
  have h1 : (y 1).val < 1408 := (y 1).isLt
  funext k
  refine Fin.ext ((emb_unit_val _ k).trans ?_)
  match k with
  | 0 => exact (show u + 0 = u % 3 by omega)
  | 1 => exact (show 0 + (y 0).val = (y 0).val % 2048 by omega)
  | 2 => exact (show 0 + (y 1).val = (y 1).val % 1408 by omega)
theorem dw_slab_emb {e : Nat} (he : e < 64) {off : Fin 3 → Nat} (hoff : off = ![e, 0, 0]) (inb : ∀ a, off a + S1x2048x1408.size a ≤ S64x2048x1408.size a) (y : S2048x1408.Idx) :
    ((aDw.slice (Rect.unit (s := S64x2048x1408) off S1x2048x1408.size inb) (fun _ => rfl)).squeeze S2048x1408 squeezes_S1x2048x1408_S2048x1408).view.emb y
      = dwIx e (y 0).val (y 1).val := by
  subst hoff
  refine (slab_emb aDw inb _ _ y).trans ?_
  show (Rect.unit (s := S64x2048x1408) ![e, 0, 0] S1x2048x1408.size inb).emb (Fin.cons ⟨0, Nat.one_pos⟩ y) = _
  have h0 : (y 0).val < 2048 := (y 0).isLt
  have h1 : (y 1).val < 1408 := (y 1).isLt
  funext k
  refine Fin.ext ((emb_unit_val _ k).trans ?_)
  match k with
  | 0 => exact (show e + 0 = e % 64 by omega)
  | 1 => exact (show 0 + (y 0).val = (y 0).val % 2048 by omega)
  | 2 => exact (show 0 + (y 1).val = (y 1).val % 1408 by omega)
/-- The results where each expert's slab is accumulator `u`. -/
def spread (u : Nat) (f : S3x2048x1408.Idx → Elt F .f32) : S64x2048x1408.Idx → Elt F .f32 := fun j => f (accIx u (j 1).val (j 2).val)
theorem slabW_spread (e u : Nat) (f : S3x2048x1408.Idx → Elt F .f32) : slabW e (spread u f) = slabOf u f := by
  funext y
  have h0 : (y 0).val < 2048 := (y 0).isLt
  have h1 : (y 1).val < 1408 := (y 1).isLt
  show f (accIx u ((y 0).val % 2048) ((y 1).val % 1408)) = f (accIx u (y 0).val (y 1).val)
  rw [Nat.mod_eq_of_lt h0, Nat.mod_eq_of_lt h1]

theorem wp_sumsStart {e u : Nat} (he : e < 64) (hu : u < 3) {off off' : Fin 3 → Nat} {off1 : Fin 1 → Nat} (hoff : off = ![u, 0, 0]) (hoff' : off' = ![e, 0, 0]) (hoff1 : off1 = ![u])
    (inb : ∀ a, off a + S1x2048x1408.size a ≤ S3x2048x1408.size a) (inb' : ∀ a, off' a + S1x2048x1408.size a ≤ S64x2048x1408.size a) (inb1 : ∀ a, off1 a + S1.size a ≤ S3.size a)
    {hsrc hdst hsem} (f : S3x2048x1408.Idx → Elt F .f32) (K : PUnit → sProp 𝕄) :
    iprop(pt c aAcc (band S3x2048x1408 u (u + 1)) f ∗ semVal ((c : Thread nD τ), .dma (sAcc u)) 0 ∗ (∃ g : S64x2048x1408.Idx → Elt F .f32, pt c aDw (band S64x2048x1408 e (e + 1)) g))
      ⊢ iprop((Flight EC (c : Thread nD τ) (.dma (sAcc u)) () NW iprop(pt c aDw (band S64x2048x1408 e (e + 1)) (spread u f) ∗ pt c aAcc (band S3x2048x1408 u (u + 1)) f) -∗ K ⟨⟩)
        -∗ WP c (Prog.lift (.enqueueDma ((aAcc.slice (Rect.unit (s := S3x2048x1408) off S1x2048x1408.size inb) (fun _ => rfl)).squeeze S2048x1408 squeezes_S1x2048x1408_S2048x1408)
            (.here ((aDw.slice (Rect.unit (s := S64x2048x1408) off' S1x2048x1408.size inb') (fun _ => rfl)).squeeze S2048x1408 squeezes_S1x2048x1408_S2048x1408))
            (.dma ((cc0_scratch11.slice (Rect.unit (s := S3) off1 S1.size inb1)).squeeze S_ squeezes_S1_S_).sem) hsrc hdst hsem)) K) := by
  have hG : ∀ (g : S64x2048x1408.Idx → Elt F .f32) (y : S2048x1408.Idx),
      ((aDw.slice (Rect.unit (s := S64x2048x1408) off' S1x2048x1408.size inb') (fun _ => rfl)).squeeze S2048x1408 squeezes_S1x2048x1408_S2048x1408).view.write (Elt F) g
        (((aAcc.slice (Rect.unit (s := S3x2048x1408) off S1x2048x1408.size inb) (fun _ => rfl)).squeeze S2048x1408 squeezes_S1x2048x1408_S2048x1408).view.read (Elt F) f) Finset.univ
        (((aDw.slice (Rect.unit (s := S64x2048x1408) off' S1x2048x1408.size inb') (fun _ => rfl)).squeeze S2048x1408 squeezes_S1x2048x1408_S2048x1408).view.emb y)
      = spread u f (((aDw.slice (Rect.unit (s := S64x2048x1408) off' S1x2048x1408.size inb') (fun _ => rfl)).squeeze S2048x1408 squeezes_S1x2048x1408_S2048x1408).view.emb y) := by
    intro g y
    rw [View.write_emb_of_mem _ _ (Finset.mem_univ y), dw_slab_emb he hoff' inb' y]
    have h0 : (y 0).val < 2048 := (y 0).isLt
    have h1 : (y 1).val < 1408 := (y 1).isLt
    refine (congrArg f (acc_slab_emb hu hoff inb y)).trans ?_
    show f (accIx u (y 0).val (y 1).val) = f (accIx u ((y 0).val % 2048) ((y 1).val % 1408))
    rw [Nat.mod_eq_of_lt h0, Nat.mod_eq_of_lt h1]
  iintro ⟨Hs, Hv, ⟨%g, Hd⟩⟩ HK
  iapply (wp_start c (src := ((aAcc.slice (Rect.unit (s := S3x2048x1408) off S1x2048x1408.size inb) (fun _ => rfl)).squeeze S2048x1408 squeezes_S1x2048x1408_S2048x1408))
    (dst := ((aDw.slice (Rect.unit (s := S64x2048x1408) off' S1x2048x1408.size inb') (fun _ => rfl)).squeeze S2048x1408 squeezes_S1x2048x1408_S2048x1408))
    ((slab_set aAcc inb _ _).trans ((map_whole (b := cc0_scratch7) _).trans (rect3_band hoff inb)))
    ((slab_set aDw inb' _ _).trans ((map_whole (b := main_v0_0) _).trans (rect3_band hoff' inb'))) (spread u f) (hG g) (sAcc_eq hu hoff1 inb1) rfl (View.dmaCredit_pos _ (by decide)) K) $$ [Hs Hv Hd]
  · isplitl [Hs]; · iexact Hs
    isplitl [Hd]; · iexact Hd
    iexact Hv
  iexact HK

theorem wp_sumsWait {j : Nat} (h3 : 3 ≤ j) {sp sp' : Space} {s s' : Shape} {e e' : EltTy} {src : Memref sig .tc sp s' e'} {dst : Memref sig .tc sp' s e} {sem : DmaSem sig}
    {hsrc : src.view.WordExact} {hdst : dst.view.WordExact} (hsm : sem = sAcc (j % 3)) (hN : dst.view.dmaCredit = NW) (K : PUnit → sProp 𝕄) :
    iprop(AS c D j ∗ OW c) ⊢ iprop((iprop(Slab c D (expertAt G (j - 3)) ∗ Idle (F := F) c j ∗ OW c) -∗ K ⟨⟩) -∗ WP c (Prog.lift (.waitDma2 sem src dst hsrc hdst)) K) := by
  unfold AS Busy
  rw [if_pos h3]
  iintro H HK
  iapply (wp_wait c hsm hN K) $$ H
  iintro ⟨⟨HS, HA⟩, HV, HO⟩
  iapply HK
  isplitl [HS]; · iexact HS
  isplitl [HA HV]
  · unfold Idle
    isplitl [HA]; · iexact HA
    iexact HV
  iexact HO

/-! ## All the experts together -/

theorem slabW_out {e e' : Nat} (he : e' < e) (he64 : e < 64) (g g' : S64x2048x1408.Idx → Elt F .f32) :
    slabW e' ((band S64x2048x1408 e (e + 1)).piecewise g' g) = slabW e' g := by
  funext y
  unfold slabW
  refine Finset.piecewise_eq_of_notMem _ _ _ (fun hm => ?_)
  have h : e ≤ e' % 64 ∧ e' % 64 < e + 1 := (mem_band (Nat.succ_pos 2)).mp hm
  omega
theorem slabW_in {e : Nat} (he64 : e < 64) (g g' : S64x2048x1408.Idx → Elt F .f32) :
    slabW e ((band S64x2048x1408 e (e + 1)).piecewise g' g) = slabW e g' := by
  funext y
  unfold slabW
  refine Finset.piecewise_eq_of_mem _ _ _ ?_
  rw [mem_band (Nat.succ_pos 2)]
  show e ≤ e % 64 ∧ e % 64 < e + 1
  omega
theorem join_one {e : Nat} (he : e < 64) : iprop((∃ g : S64x2048x1408.Idx → Elt F .f32, pt c aDw (band S64x2048x1408 0 e) g ∗ ⌜∀ e' < e, D.DP e' (slabW e' g)⌝) ∗ Slab c D e)
    ⊢ iprop(∃ g : S64x2048x1408.Idx → Elt F .f32, pt c aDw (band S64x2048x1408 0 (e + 1)) g ∗ ⌜∀ e' < e + 1, D.DP e' (slabW e' g)⌝) := by
  unfold Slab
  iintro ⟨⟨%g, H1, %h1⟩, ⟨%g', H2, %h2⟩⟩
  iexists ((band S64x2048x1408 e (e + 1)).piecewise g' g)
  isplitl [H1 H2]
  · rw [← band_union (s := S64x2048x1408) (Nat.succ_pos 2) (Nat.zero_le e) (Nat.le_succ e)]
    iapply (pointsTo_join (band_disjoint (s := S64x2048x1408) (Nat.succ_pos 2) (Nat.le_refl e)))
    isplitl [H1]; · iexact H1
    iexact H2
  ipureintro
  intro e' he'
  by_cases hlt : e' < e
  · rw [slabW_out hlt he]; exact h1 e' hlt
  · obtain rfl : e' = e := by omega
    rw [slabW_in he]; exact h2
theorem blocks_join {e : Nat} (hg : gn G e = 0) (i : Nat) (hi : i ≤ 8) :
    (bigSep (Finset.range (8 * zcnt G e + i)) (ZB (F := F) c G) : sProp 𝕄) ⊢ iprop(bigSep (Finset.range (8 * zcnt G e)) (ZB (F := F) c G) ∗ pt c aDw (rowsOf e 0 i) (Zc (F := F))) := by
  induction i with
  | zero =>
    rw [rowsOf_none]
    have h : (pt c aDw ∅ (Zc (F := F)) : sProp 𝕄) = iprop(emp) := pointsTo_empty
    rw [h]
    iintro H
    isplitl [H]; · iexact H
    iempintro
  | succ i ih =>
    rw [← Nat.add_assoc, bigSep_range_succ]
    iintro ⟨H1, H2⟩
    ihave H2 := ih (by omega) $$ H2
    icases H2 with ⟨H2, H3⟩
    isplitl [H2]; · iexact H2
    iapply (rows_split c (Zc (F := F)) (e := e) (Nat.zero_le i) (Nat.le_succ i)).2
    isplitl [H3]; · iexact H3
    unfold ZB
    rw [show (8 * zcnt G e + i) / 8 = zcnt G e by omega, show (8 * zcnt G e + i) % 8 = i by omega, emptyAt_zcnt G hg]
    iexact H1
theorem gather {e : Nat} (he : e ≤ 64) : iprop(bigSep (Finset.range (cnt G e)) (fun j => Slab c D (expertAt G j)) ∗ bigSep (Finset.range (8 * zcnt G e)) (ZB (F := F) c G))
    ⊢ iprop(∃ g : S64x2048x1408.Idx → Elt F .f32, pt c aDw (band S64x2048x1408 0 e) g ∗ ⌜∀ e' < e, D.DP e' (slabW e' g)⌝) := by
  induction e with
  | zero =>
    show iprop(bigSep (Finset.range 0) _ ∗ bigSep (Finset.range 0) _) ⊢ _
    rw [Finset.range_zero, bigSep_empty, bigSep_empty]
    iintro ⟨H1, H2⟩
    iexists (Zc (F := F))
    isplitl [H1 H2]
    · rw [band_empty (s := S64x2048x1408) (Nat.succ_pos 2) (Nat.le_refl 0)]
      have h : (pt c aDw ∅ (Zc (F := F)) : sProp 𝕄) = iprop(emp) := pointsTo_empty
      rw [h]
      iexact H1
    ipureintro
    intro e' h; exact absurd h (Nat.not_lt_zero _)
  | succ e ih =>
    have ih := ih (by omega)
    by_cases hg : gn G e = 0
    · rw [cnt_none G hg, zcnt_none G hg, Nat.mul_succ]
      iintro ⟨H1, H2⟩
      ihave H2 := (blocks_join c hg 8 (Nat.le_refl 8)) $$ H2
      icases H2 with ⟨H2, H3⟩
      iapply (join_one c D (e := e) (by omega))
      isplitl [H1 H2]
      · iapply ih
        isplitl [H1]; · iexact H1
        iexact H2
      rw [rowsOf_all]
      unfold Slab
      iexists (Zc (F := F))
      isplitl [H3]; · iexact H3
      ipureintro
      exact D.zero e (by omega) hg
    · rw [cnt_some G hg, zcnt_some G hg, bigSep_range_succ, expertAt_cnt G hg]
      iintro ⟨⟨H1, H2⟩, H3⟩
      iapply (join_one c D (e := e) (by omega))
      isplitl [H2 H3]
      · iapply ih
        isplitl [H2]; · iexact H2
        iexact H3
      iexact H1
end Slots

end Cert.KernelIdeal.Hand
end
-- ==== Proof.Checks.lean ====
/- The side conditions the kernel assumes of the words it computes: offsets in bounds, whole words, multiples. -/
module

public import proofs.«01_k».proof.Proof.Pass
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

theorem dvd_mul256 (x : BitVec 32) : 256 ∣ (Scalar.muli x 256#32).toNat := by
  show 256 ∣ (x * 256#32).toNat
  rw [BitVec.toNat_mul]
  exact (Nat.dvd_mod_iff (by decide)).mpr (Nat.dvd_mul_left _ _)
theorem dvd_add128 (x d : BitVec 32) (hd : 128 ∣ d.toNat) : 128 ∣ (Scalar.addi (Scalar.muli x 256#32) d).toNat := by
  show 128 ∣ (Scalar.muli x 256#32 + d).toNat
  rw [BitVec.toNat_add]
  exact (Nat.dvd_mod_iff (by decide)).mpr (Nat.dvd_add ((by decide : 128 ∣ 256).trans (dvd_mul256 x)) hd)

/-! The kinds of slice the kernel takes. -/

abbrev FitInX (off : Fin 3 → Nat) : Prop := ∀ a, off a + S1x128x256.size a ≤ S4x256x2048.size a
abbrev FitOutX (off : Fin 3 → Nat) : Prop := ∀ a, off a + S1x128x256.size a ≤ S2x256x2048.size a
abbrev FitInY (off : Fin 3 → Nat) : Prop := ∀ a, off a + S1x128x128.size a ≤ S4x256x1408.size a
abbrev FitOutY (off : Fin 3 → Nat) : Prop := ∀ a, off a + S1x128x128.size a ≤ S2x256x1408.size a
abbrev FitSX (off : Fin 2 → Nat) : Prop := ∀ a, off a + S1x256.size a ≤ S384x2048.size a
abbrev FitSY (off : Fin 2 → Nat) : Prop := ∀ a, off a + S1x1.size a ≤ S384x11.size a
abbrev FitWX (off : Fin 2 → Nat) : Prop := ∀ a, off a + S128x256.size a ≤ S1280x2048.size a
abbrev FitWY (off : Fin 2 → Nat) : Prop := ∀ a, off a + S128x128.size a ≤ S1280x1408.size a
abbrev FitWinX (off : Fin 2 → Nat) : Prop := ∀ a, off a + S256x256.size a ≤ S1280x2048.size a
abbrev FitWinY (off : Fin 2 → Nat) : Prop := ∀ a, off a + S256x128.size a ≤ S1280x1408.size a
abbrev FitAcc (off : Fin 3 → Nat) : Prop := ∀ a, off a + S1x256x1408.size a ≤ S3x2048x1408.size a
abbrev FitSemIn (off : Fin 2 → Nat) : Prop := ∀ a, off a + S1x1.size a ≤ S2x4.size a
abbrev FitSemOut (off : Fin 2 → Nat) : Prop := ∀ a, off a + S1x1.size a ≤ S2x2.size a
abbrev FitSlotX (off : Fin 3 → Nat) : Prop := ∀ a, off a + S1x256x2048.size a ≤ S4x256x2048.size a
abbrev FitSlotY (off : Fin 3 → Nat) : Prop := ∀ a, off a + S1x256x1408.size a ≤ S4x256x1408.size a
abbrev FitCslotX (off : Fin 3 → Nat) : Prop := ∀ a, off a + S1x256x2048.size a ≤ S2x256x2048.size a
abbrev FitCslotY (off : Fin 3 → Nat) : Prop := ∀ a, off a + S1x256x1408.size a ≤ S2x256x1408.size a
abbrev FitRowX (off : Fin 2 → Nat) : Prop := ∀ a, off a + S256x2048.size a ≤ S49152x2048.size a
abbrev FitRowY (off : Fin 2 → Nat) : Prop := ∀ a, off a + S256x1408.size a ≤ S49152x1408.size a

abbrev PackX (off : Fin 3 → Nat) : Prop := ∀ h : FitOutX off, (Rect.unit (s := S2x256x2048) off S1x128x256.size h).PackedRows (EltTy.packing .fp8e4m3)
abbrev PackY (off : Fin 3 → Nat) : Prop := ∀ h : FitOutY off, (Rect.unit (s := S2x256x1408) off S1x128x128.size h).PackedRows (EltTy.packing .fp8e5m2)
abbrev PackWX (off : Fin 2 → Nat) : Prop := ∀ h : FitWX off, (Rect.unit (s := S1280x2048) off S128x256.size h).PackedRows (EltTy.packing .bf16)
abbrev PackWY (off : Fin 2 → Nat) : Prop := ∀ h : FitWY off, (Rect.unit (s := S1280x1408) off S128x128.size h).PackedRows (EltTy.packing .bf16)

abbrev WordsSlotX (off : Fin 3 → Nat) : Prop := ∀ h : FitSlotX off, (Rect.unit (s := S4x256x2048) off S1x256x2048.size h).WholeWords (EltTy.packing .bf16)
abbrev WordsSlotY (off : Fin 3 → Nat) : Prop := ∀ h : FitSlotY off, (Rect.unit (s := S4x256x1408) off S1x256x1408.size h).WholeWords (EltTy.packing .bf16)
abbrev WordsCslotX (off : Fin 3 → Nat) : Prop := ∀ h : FitCslotX off, (Rect.unit (s := S2x256x2048) off S1x256x2048.size h).WholeWords (EltTy.packing .fp8e4m3)
abbrev WordsCslotY (off : Fin 3 → Nat) : Prop := ∀ h : FitCslotY off, (Rect.unit (s := S2x256x1408) off S1x256x1408.size h).WholeWords (EltTy.packing .fp8e5m2)
abbrev WordsRowX (off : Fin 2 → Nat) : Prop := ∀ h : FitRowX off, (Rect.unit (s := S49152x2048) off S256x2048.size h).WholeWords (EltTy.packing .bf16)
abbrev WordsRowY (off : Fin 2 → Nat) : Prop := ∀ h : FitRowY off, (Rect.unit (s := S49152x1408) off S256x1408.size h).WholeWords (EltTy.packing .bf16)
abbrev WordsCrowX (off : Fin 2 → Nat) : Prop := ∀ h : FitRowX off, (Rect.unit (s := S49152x2048) off S256x2048.size h).WholeWords (EltTy.packing .fp8e4m3)
abbrev WordsCrowY (off : Fin 2 → Nat) : Prop := ∀ h : FitRowY off, (Rect.unit (s := S49152x1408) off S256x1408.size h).WholeWords (EltTy.packing .fp8e5m2)

section Chk2
variable (start used : BitVec 32) (n : BitVec 32) (k : Fin (k0_t3_loop start n).trips) (q : BitVec 32)
  (hq : q.toNat ≤ 192) (h16 : 16 ∣ (Scalar.remsi (passAt start k) 1024#32).toNat)
  (hra : (Scalar.remsi (passAt start k) 1024#32).toNat < 1024) (hu : (Scalar.remsi used 3#32).toNat < 3)

theorem chk5_lt {start n : BitVec 32} {k : Fin (k0_t3_loop start n).trips} {q : BitVec 32} (hq : q.toNat ≤ 192) (h : k0_cond5 start n k q = 1#1) : q.toNat < 192 :=
  doQuant_lt (a := passAt start k) hq ((flag_iff _).mp h)

theorem fin2_le (r : Fin 2) : 128 * r.val + 128 ≤ 256 := by have := r.isLt; omega
theorem fin2_dvd (r : Fin 2) : 2 ∣ 128 * r.val := ⟨64 * r.val, by omega⟩

set_option maxHeartbeats 40000000 in
include hq h16 hra hu in
theorem chk2_all : k0_chk2 start used n k q := by
  unfold k0_chk2 k0_chk2_0 k0_chk2_1 k0_chk2_2 k0_chk2_3 k0_chk2_4 k0_chk2_5 k0_chk2_6 k0_chk2_7 k0_chk2_8 k0_chk2_9
  and_intros
  all_goals
    first
    | ((with_reducible refine fun _ => (?_ : _ ∣ _)); first | exact dvd_mul256 _ | exact dvd_add128 _ _ (by decide) | exact h16)
    | ((with_reducible refine fun _ _ => (?_ : _ ∣ _)); exact dvd_mul256 _)
    | ((with_reducible refine fun h => (?_ : FitInX _)); exact inX_inb (chk5_lt hq h) (by decide) (by decide))
    | ((with_reducible refine fun h => (?_ : FitOutX _)); exact outX_inb (chk5_lt hq h) (by decide) (by decide))
    | ((with_reducible refine fun h => (?_ : FitInY _)); exact inY_inb (chk5_lt hq h) (by decide) (by decide))
    | ((with_reducible refine fun h => (?_ : FitOutY _)); exact outY_inb (chk5_lt hq h) (by decide) (by decide))
    | ((with_reducible refine fun h (r : Fin 2) => (?_ : FitSX _)); exact sX_inb (chk5_lt hq h) r.isLt (by decide))
    | ((with_reducible refine fun h (r : Fin 2) => (?_ : FitSY _)); exact sY_inb (chk5_lt hq h) r.isLt (by decide))
    | ((with_reducible refine fun h (r : Fin 2) => (?_ : FitWX _)); exact wX_inb (chk5_lt hq h) (fin2_le r) (by decide))
    | ((with_reducible refine fun h (r : Fin 2) => (?_ : FitWY _)); exact wY_inb (chk5_lt hq h) (fin2_le r) (by decide))
    | ((with_reducible refine fun h => (?_ : PackX _)); exact fun _ => outX_packed (chk5_lt hq h) (by decide) (by decide) (by decide))
    | ((with_reducible refine fun h => (?_ : PackY _)); exact fun _ => outY_packed (chk5_lt hq h) (by decide) (by decide) (by decide))
    | ((with_reducible refine fun h (r : Fin 2) => (?_ : PackWX _)); exact fun _ => wX_packed (chk5_lt hq h) (fin2_le r) (by decide) (fin2_dvd r))
    | ((with_reducible refine fun h (r : Fin 2) => (?_ : PackWY _)); exact fun _ => wY_packed (chk5_lt hq h) (fin2_le r) (by decide) (fin2_dvd r))
    | ((with_reducible refine fun _ => (?_ : FitWinX _)); exact win_inbX hra (by decide))
    | ((with_reducible refine fun _ => (?_ : FitWinY _)); exact win_inbY hra (by decide))
    | ((with_reducible refine fun _ => (?_ : FitAcc _)); exact acc_inb hu (by decide))
    | ((with_reducible refine fun h => (?_ : FitSemIn _)); first | exact semIn_inb (k := 0) (chk5_lt hq h) (by decide) | exact semIn_inb (k := 1) (chk5_lt hq h) (by decide))
    | ((with_reducible refine fun h => (?_ : FitSemOut _)); first | exact semOut_inb (k := 0) (chk5_lt hq h) (by decide) | exact semOut_inb (k := 1) (chk5_lt hq h) (by decide))
    | ((with_reducible refine fun h h6 => (?_ : FitSemOut _)); first | exact semOut_inb (k := 0) (prev_lt (chk5_lt hq h) h6) (by decide) | exact semOut_inb (k := 1) (prev_lt (chk5_lt hq h) h6) (by decide))
    | ((with_reducible refine fun h h7 => (?_ : FitSemIn _)); first | exact semIn_inb (k := 0) (next_lt (chk5_lt hq h) h7) (by decide) | exact semIn_inb (k := 1) (next_lt (chk5_lt hq h) h7) (by decide))
    | ((with_reducible refine fun h => (?_ : FitSlotX _)); exact slotX_inb (chk5_lt hq h))
    | ((with_reducible refine fun h h7 => (?_ : FitSlotX _)); exact slotX_inb (next_lt (chk5_lt hq h) h7))
    | ((with_reducible refine fun h => (?_ : FitSlotY _)); exact slotY_inb (chk5_lt hq h))
    | ((with_reducible refine fun h h7 => (?_ : FitSlotY _)); exact slotY_inb (next_lt (chk5_lt hq h) h7))
    | ((with_reducible refine fun h => (?_ : FitCslotX _)); exact cslotX_inb (chk5_lt hq h))
    | ((with_reducible refine fun h h6 => (?_ : FitCslotX _)); first | exact cslotX_inb (prev_lt (chk5_lt hq h) h6) | exact cslotX_inb (next_lt (chk5_lt hq h) h6))
    | ((with_reducible refine fun h => (?_ : FitCslotY _)); exact cslotY_inb (chk5_lt hq h))
    | ((with_reducible refine fun h h6 => (?_ : FitCslotY _)); first | exact cslotY_inb (prev_lt (chk5_lt hq h) h6) | exact cslotY_inb (next_lt (chk5_lt hq h) h6))
    | ((with_reducible refine fun h => (?_ : FitRowX _)); exact rowX_inb (chk5_lt hq h))
    | ((with_reducible refine fun h h6 => (?_ : FitRowX _)); first | exact rowX_inb (prev_lt (chk5_lt hq h) h6) | exact rowX_inb (next_lt (chk5_lt hq h) h6))
    | ((with_reducible refine fun h => (?_ : FitRowY _)); exact rowY_inb (chk5_lt hq h))
    | ((with_reducible refine fun h h6 => (?_ : FitRowY _)); first | exact rowY_inb (prev_lt (chk5_lt hq h) h6) | exact rowY_inb (next_lt (chk5_lt hq h) h6))
    | ((with_reducible refine fun h => (?_ : WordsSlotX _)); exact fun _ => slotX_words (chk5_lt hq h))
    | ((with_reducible refine fun h h7 => (?_ : WordsSlotX _)); exact fun _ => slotX_words (next_lt (chk5_lt hq h) h7))
    | ((with_reducible refine fun h => (?_ : WordsSlotY _)); exact fun _ => slotY_words (chk5_lt hq h))
    | ((with_reducible refine fun h h7 => (?_ : WordsSlotY _)); exact fun _ => slotY_words (next_lt (chk5_lt hq h) h7))
    | ((with_reducible refine fun h => (?_ : WordsCslotX _)); exact fun _ => cslotX_words (chk5_lt hq h))
    | ((with_reducible refine fun h h6 => (?_ : WordsCslotX _)); exact fun _ => cslotX_words (prev_lt (chk5_lt hq h) h6))
    | ((with_reducible refine fun h => (?_ : WordsCslotY _)); exact fun _ => cslotY_words (chk5_lt hq h))
    | ((with_reducible refine fun h h6 => (?_ : WordsCslotY _)); exact fun _ => cslotY_words (prev_lt (chk5_lt hq h) h6))
    | ((with_reducible refine fun h => (?_ : WordsRowX _)); exact fun _ => rowX_words (chk5_lt hq h))
    | ((with_reducible refine fun h h7 => (?_ : WordsRowX _)); exact fun _ => rowX_words (next_lt (chk5_lt hq h) h7))
    | ((with_reducible refine fun h => (?_ : WordsRowY _)); exact fun _ => rowY_words (chk5_lt hq h))
    | ((with_reducible refine fun h h7 => (?_ : WordsRowY _)); exact fun _ => rowY_words (next_lt (chk5_lt hq h) h7))
    | ((with_reducible refine fun h => (?_ : WordsCrowX _)); exact fun _ => crowX_words (chk5_lt hq h))
    | ((with_reducible refine fun h h6 => (?_ : WordsCrowX _)); exact fun _ => crowX_words (prev_lt (chk5_lt hq h) h6))
    | ((with_reducible refine fun h => (?_ : WordsCrowY _)); exact fun _ => crowY_words (chk5_lt hq h))
    | ((with_reducible refine fun h h6 => (?_ : WordsCrowY _)); exact fun _ => crowY_words (prev_lt (chk5_lt hq h) h6))

end Chk2
end Cert.KernelIdeal.Hand
end
-- ==== Proof.Expert.lean ====
/-
One expert: its passes between the slot they are summed in and the results, or zeros for one without tokens.
-/
module

public import proofs.«01_k».proof.Proof.Slots
public import proofs.«01_k».proof.Proof.Checks
public import Idealize.ShloMosaic.Lib.Scf
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-- The word that says how many tokens expert `e` has. -/
abbrev gw (G : S64.Idx → BitVec 32) (e : Nat) : Elt F .i32 := (G (ix1 ⟨e % 64, Nat.mod_lt _ (by decide)⟩) : BitVec 32)

theorem wp_gsLoad (c : Dev nD) (G : S64.Idx → BitVec 32) {α : Type} {e : Nat} (he : e < 64) {off : Fin 1 → Nat} (hoff : off = ![e]) (inb : ∀ a, off a + S1.size a ≤ S64.size a)
    (kk : Elt F .i32 → Prog (TpuEff nD τ sig (Elt F) Λ₀ .tc) α) (K : α → sProp 𝕄) :
    (pt c aGs Finset.univ (G : S64.Idx → Elt F .i32) : sProp 𝕄)
      ⊢ iprop((pt c aGs Finset.univ (G : S64.Idx → Elt F .i32) -∗ WP c (kk (gw (F := F) G e)) K)
        -∗ WP c (smemLoad aGs (Rect.unit (s := S64) off S1.size inb) numel1_S1 rfl >>= kk) K) := by
  subst hoff
  have h : (smemLoad aGs (Rect.unit (s := S64) ![e] S1.size inb) numel1_S1 rfl >>= kk)
      = smemLoadElt aGs (Rect.unit (s := S64) ![e] S1.size inb) (View.loads_smem_one rfl numel1_S1) (Shape.Idx.first (numel1_S1.symm ▸ Nat.one_pos)) kk := rfl
  rw [h]
  iintro H HK
  iapply (wp_smemLoadElt_named Variants.none (c : Thread nD τ) none Set.univ (m := aGs) (S := Finset.univ)) $$ H
  iintro H %w %hw
  have e1 : w = gw (F := F) G e := by
    refine hw.trans ?_
    show G ((Rect.unit (s := S64) ![e] S1.size inb).emb _) = G _
    refine congrArg G (funext fun k => ?_)
    match k with
    | 0 =>
      refine Fin.ext ((emb_unit_val _ _).trans ?_)
      have hx : ((Shape.Idx.first (numel1_S1.symm ▸ Nat.one_pos) : S1.Idx) 0).val < 1 := Fin.isLt _
      show e + ((Shape.Idx.first (numel1_S1.symm ▸ Nat.one_pos) : S1.Idx) 0).val = e % 64
      omega
  subst e1
  iapply HK
  iexact H

/-! ## Where the offsets lie -/

theorem t2_offs : ∀ k : Fin k0_t2_loop.trips, k0_off143 k = ![k.val] ∧ k0_off527 k = ![k.val, 0, 0] ∧ k0_off529 k = ![k.val, 256 * 0, 0] ∧ k0_off530 k = ![k.val, 256 * 1, 0]
    ∧ k0_off531 k = ![k.val, 256 * 2, 0] ∧ k0_off532 k = ![k.val, 256 * 3, 0] ∧ k0_off533 k = ![k.val, 256 * 4, 0] ∧ k0_off534 k = ![k.val, 256 * 5, 0]
    ∧ k0_off535 k = ![k.val, 256 * 6, 0] ∧ k0_off536 k = ![k.val, 256 * 7, 0] := by decide +kernel
theorem t7_offs : ∀ k : Fin k0_t7_loop.trips, k0_off545 k = ![k.val] := by decide +kernel
theorem t2_trips : k0_t2_loop.trips = 64 := by decide +kernel
theorem t7_trips : k0_t7_loop.trips = 64 := by decide +kernel

section Expert
variable (c : Dev nD) {X : S49152x2048.Idx → Elt F .bf16} {Y : S49152x1408.Idx → Elt F .bf16} {T : Sums X Y} {G : S64.Idx → BitVec 32} (D : Goal T G)

theorem cond4_iff {used n : BitVec 32} (hu : used.toNat ≤ 64) (hn : n.toNat ≤ 49152) : k0_cond4 used n = 1#1 ↔ 0 < n.toNat ∧ 3 ≤ used.toNat :=
  (flag_iff _).trans ((andi_iff _ _).trans (and_congr (sgt_iff (by omega) (by decide)) (sge_iff (by omega) (by decide))))
theorem cond15_iff {n : BitVec 32} (hn : n.toNat ≤ 49152) : k0_cond15 n = 1#1 ↔ 0 < n.toNat :=
  (flag_iff _).trans (sgt_iff (by omega) (by decide))
theorem zero_iff {n : BitVec 32} (hn : n.toNat ≤ 49152) : Scalar.cmpi .ne (Scalar.extui (Scalar.cmpi .eq n 0#32) : BitVec 32) 0#32 = 1#1 ↔ n.toNat = 0 :=
  (flag_iff _).trans (eq_iff (by omega) (by decide))

/-- The slabs of the first `k` experts with tokens. -/
abbrev Slabs (k : Nat) : sProp 𝕄 := bigSep (Finset.range k) (fun j => Slab c D (expertAt G j))

theorem wp_accWait_some {start used : BitVec 32} {n : Elt F .i32} (hw : k0_chk1 start used n) (hu : used.toNat ≤ 64) (hn : BitVec.toNat n ≤ 49152) (h0 : 0 < BitVec.toNat n) (K : PUnit → sProp 𝕄) :
    iprop(AS c D used.toNat ∗ OW c ∗ Slabs c D (used.toNat - 3))
      ⊢ iprop((iprop(Idle (F := F) c used.toNat ∗ OW c ∗ Slabs c D (used.toNat + 1 - 3)) -∗ K ⟨⟩) -∗ WP c (accWait start used n hw) K) := by
  unfold accWait
  by_cases h3 : 3 ≤ used.toNat
  · rw [dif_pos ((cond4_iff hu hn).mpr ⟨h0, h3⟩), show used.toNat + 1 - 3 = (used.toNat - 3) + 1 by omega]
    unfold Slabs
    rw [bigSep_range_succ]
    iintro ⟨HA, HO, HS⟩ HK
    iapply (wp_sumsWait c D h3 (sAcc_eq (Nat.mod_lt _ (by decide)) (by unfold k0_off144; rw [← slotWord hu]) _) rfl K) $$ [HA HO]
    · isplitl [HA]; · iexact HA
      iexact HO
    iintro ⟨H1, H2, H3⟩
    iapply HK
    isplitl [H2]; · iexact H2
    isplitl [H3]; · iexact H3
    isplitl [H1]; · iexact H1
    iexact HS
  · rw [dif_neg (fun h => h3 ((cond4_iff hu hn).mp h).2), show used.toNat + 1 - 3 = used.toNat - 3 by omega]
    unfold AS
    rw [if_neg h3]
    iintro H HK
    iapply (wp_pure_intro c)
    iapply HK
    iexact H
theorem wp_accWait_none {start used : BitVec 32} {n : Elt F .i32} (hw : k0_chk1 start used n) (hu : used.toNat ≤ 64) (h0 : BitVec.toNat n = 0) (K : PUnit → sProp 𝕄) :
    K ⟨⟩ ⊢ WP c (accWait start used n hw) K := by
  unfold accWait
  rw [dif_neg (fun h => by have := ((cond4_iff hu (by rw [h0]; omega)).mp h).1; omega)]
  exact wp_pure_intro c _ K

theorem wp_accStart_some {e : Nat} (he : e < 64) (hg : gn G e ≠ 0) (k : Fin k0_t2_loop.trips) (hk : k.val = e) {start used : BitVec 32} {n : Elt F .i32} (hw : k0_chk1 start used n)
    (hu : used.toNat = cnt G e) (hn : BitVec.toNat n ≤ 49152) (h0 : 0 < BitVec.toNat n) (K : PUnit → sProp 𝕄) :
    iprop((∃ f : S3x2048x1408.Idx → Elt F .f32, pt c aAcc (band S3x2048x1408 (used.toNat % 3) (used.toNat % 3 + 1)) f ∗ ⌜D.DP e (slabOf (used.toNat % 3) f)⌝)
        ∗ semVal ((c : Thread nD τ), .dma (sAcc (used.toNat % 3))) 0 ∗ (∃ g : S64x2048x1408.Idx → Elt F .f32, pt c aDw (band S64x2048x1408 e (e + 1)) g))
      ⊢ iprop((AS c D (cnt G e + 3) -∗ K ⟨⟩) -∗ WP c (accStart k start used n hw) K) := by
  have hu64 : used.toNat ≤ 64 := by have := cnt_le G e; omega
  have hent : ∀ f : S3x2048x1408.Idx → Elt F .f32, D.DP e (slabOf (used.toNat % 3) f) →
      (iprop(pt c aDw (band S64x2048x1408 e (e + 1)) (spread (used.toNat % 3) f) ∗ pt c aAcc (band S3x2048x1408 (used.toNat % 3) (used.toNat % 3 + 1)) f) : sProp 𝕄)
        ⊢ iprop(Slab c D e ∗ ∃ f : S3x2048x1408.Idx → Elt F .f32, pt c aAcc (band S3x2048x1408 (used.toNat % 3) (used.toNat % 3 + 1)) f) := by
    intro f hf
    unfold Slab
    iintro ⟨H1, H2⟩
    isplitl [H1]
    · iexists (spread (used.toNat % 3) f)
      isplitl [H1]; · iexact H1
      ipureintro
      rw [slabW_spread]; exact hf
    iexists f; iexact H2
  unfold accStart
  rw [dif_pos ((cond15_iff hn).mpr h0)]
  unfold AS Busy
  rw [if_pos (Nat.le_add_left 3 _), show (cnt G e + 3) % 3 = used.toNat % 3 by omega, show cnt G e + 3 - 3 = cnt G e by omega, expertAt_cnt G hg]
  have o1 : k0_off526 used = ![used.toNat % 3] := by unfold k0_off526; rw [← slotWord hu64]
  have o2 : k0_off528 used = ![used.toNat % 3, 0, 0] := by unfold k0_off528; rw [← slotWord hu64]
  have o3 : k0_off527 k = ![e, 0, 0] := by rw [← hk]; exact (t2_offs k).2.1
  iintro ⟨⟨%f, Hf, %hf⟩, Hv, Hd⟩ HK
  iapply (wp_sumsStart c he (Nat.mod_lt _ (by decide)) o2 o3 o1 _ _ _ f K) $$ [Hf Hv Hd]
  · isplitl [Hf]; · iexact Hf
    isplitl [Hv]; · iexact Hv
    iexact Hd
  iintro H
  iapply HK
  iapply (Flight_mono EC (c : Thread nD τ) (hent f hf))
  iexact H
theorem wp_accStart_none (k : Fin k0_t2_loop.trips) {start used : BitVec 32} {n : Elt F .i32} (hw : k0_chk1 start used n) (h0 : BitVec.toNat n = 0) (K : PUnit → sProp 𝕄) :
    K ⟨⟩ ⊢ WP c (accStart k start used n hw) K := by
  unfold accStart
  rw [dif_neg (fun h => by have := (cond15_iff (by rw [h0]; omega)).mp h; omega)]
  exact wp_pure_intro c _ K
theorem wp_zeroStart_none (k : Fin k0_t2_loop.trips) {n : Elt F .i32} (hn : BitVec.toNat n ≤ 49152) (h0 : 0 < BitVec.toNat n) (K : PUnit → sProp 𝕄) : K ⟨⟩ ⊢ WP c (zeroStart k n) K := by
  unfold zeroStart
  rw [if_neg (fun h => by have := (zero_iff hn).mp h; omega)]
  exact wp_pure_intro c _ K
theorem wp_zeroThen {e i : Nat} (he : e < 64) (hg : gn G e = 0) (hi : i < 8) {off : Fin 3 → Nat} (hoff : off = ![e, 256 * i, 0]) (inb : ∀ a, off a + S1x256x1408.size a ≤ S64x2048x1408.size a)
    {α : Type} (r : PUnit → Prog (TpuEff nD τ sig (Elt F) Λ₀ .tc) α) (K : α → sProp 𝕄) :
    iprop((∃ f : S64x2048x1408.Idx → Elt F .f32, pt c aDw (rowsOf e i 8) f) ∗ ZS c G (8 * zcnt G e + i))
      ⊢ iprop((((∃ f : S64x2048x1408.Idx → Elt F .f32, pt c aDw (rowsOf e (i + 1) 8) f) ∗ ZS c G (8 * zcnt G e + (i + 1))) -∗ WP c (r ⟨⟩) K) -∗ WP c (zeroCopy off inb >>= r) K) := by
  iintro H HK
  iapply (wp_seq c)
  iapply (wp_zeroCopy c G he hg hi hoff inb _) $$ H
  iexact HK
theorem wp_zeroStart_some {e : Nat} (he : e < 64) (hg : gn G e = 0) (k : Fin k0_t2_loop.trips) (hk : k.val = e) {n : Elt F .i32} (h0 : BitVec.toNat n = 0) (K : PUnit → sProp 𝕄) :
    iprop((∃ f : S64x2048x1408.Idx → Elt F .f32, pt c aDw (band S64x2048x1408 e (e + 1)) f) ∗ ZS c G (8 * zcnt G e))
      ⊢ iprop((ZS c G (8 * zcnt G (e + 1)) -∗ K ⟨⟩) -∗ WP c (zeroStart k n) K) := by
  subst hk
  obtain ⟨-, -, o0, o1, o2, o3, o4, o5, o6, o7⟩ := t2_offs k
  unfold zeroStart
  rw [if_pos ((zero_iff (by rw [h0]; omega)).mpr h0), ← rowsOf_all, zcnt_none G hg, Nat.mul_succ]
  iintro H HK
  iapply (wp_zeroThen c he hg (i := 0) (by decide) o0 _ _ K) $$ H
  iintro H
  iapply (wp_zeroThen c he hg (i := 1) (by decide) o1 _ _ K) $$ H
  iintro H
  iapply (wp_zeroThen c he hg (i := 2) (by decide) o2 _ _ K) $$ H
  iintro H
  iapply (wp_zeroThen c he hg (i := 3) (by decide) o3 _ _ K) $$ H
  iintro H
  iapply (wp_zeroThen c he hg (i := 4) (by decide) o4 _ _ K) $$ H
  iintro H
  iapply (wp_zeroThen c he hg (i := 5) (by decide) o5 _ _ K) $$ H
  iintro H
  iapply (wp_zeroThen c he hg (i := 6) (by decide) o6 _ _ K) $$ H
  iintro H
  iapply (wp_zeroCopy c G he hg (i := 7) (by decide) o7 _ K) $$ H
  iintro ⟨-, H⟩
  iapply HK
  iexact H

/-! ## The passes of an expert -/

theorem wp_passBody {start used : BitVec 32} {n : Elt F .i32} (hw : k0_chk1 start used n) (hu : used.toNat ≤ 64) (hn : start.toNat + BitVec.toNat n ≤ 49152) (h0 : 0 < BitVec.toNat n)
    (k : Fin (k0_t3_loop start n).trips) (q : BitVec 32) :
    iprop(⌜QInv start.toNat k.val q.toNat⌝ ∗ PassR c T start (Scalar.addi start n) (Scalar.remsi used 3#32) q.toNat k.val)
      ⊢ WP c (passBody start used n hw k q) (fun q' => iprop(⌜QInv start.toNat (k.val + 1) q'.toNat⌝ ∗ PassR c T start (Scalar.addi start n) (Scalar.remsi used 3#32) q'.toNat (k.val + 1))) := by
  have htr := (t3_trips hn).1
  have hk : k.val < passes start.toNat (start.toNat + BitVec.toNat n) := htr ▸ k.isLt
  unfold passes at hk
  rw [if_neg (by omega)] at hk
  have o16 : (16#32 : BitVec 32).toNat = 16 := rfl
  have o256 : (256#32 : BitVec 32).toNat = 256 := rfl
  have hf := floor16 (start := start) (by omega)
  have hiv : (Scf.iv 0#32 1#32 k.val : BitVec 32).toNat = k.val := iv_toNat (n := 0) k.val (by omega)
  have hm : (Scalar.muli (Scf.iv 0#32 1#32 k.val) 256#32 : BitVec 32).toNat = 256 * k.val := (muli_toNat _ _ (by rw [hiv, o256]; omega)).trans (by rw [hiv, o256, Nat.mul_comm])
  have ha : (passAt start k.val).toNat = start.toNat / 16 * 16 + 256 * k.val := (addi_toNat _ _ (by rw [hf, hm]; omega)).trans (by rw [hf, hm])
  have hend : (Scalar.addi start n).toNat = start.toNat + BitVec.toNat n := addi_toNat _ _ (by omega)
  have hr : (Scalar.remsi (passAt start k.val) 1024#32).toNat = (passAt start k.val).toNat % 1024 := remsi_toNat _ 1024#32 (by omega) (by decide) (by decide)
  have hra : (Scalar.remsi (passAt start k.val) 1024#32).toNat < 1024 := by rw [hr]; exact Nat.mod_lt _ (by decide)
  have h16 : 16 ∣ (Scalar.remsi (passAt start k.val) 1024#32).toNat := by rw [hr, ha]; omega
  have hu3 : (Scalar.remsi used 3#32).toNat < 3 := by rw [slotWord hu]; exact Nat.mod_lt _ (by decide)
  have hp : PassOk start (Scalar.addi start n) (passAt start k.val) k.val (Scalar.cmpi .eq (Scf.iv 0#32 1#32 k.val) 0#32) :=
    { le := by rw [hend]; omega
      top := by rw [hend]; exact hn
      at_ := ha
      lt := by rw [hend, ha]; omega
      first_ := (eq_iff (by rw [hiv]; omega) (by decide)).trans (by rw [hiv]; exact Iff.rfl) }
  iintro ⟨%hq, H⟩
  have hq192 : q.toNat ≤ 192 := hq.1
  have hqa := hq.at ha
  have hchk : k0_chk2 start used n k q := by apply chk2_all <;> assumption
  rw [passBody_eq start used n hw k q hq192 hra hu3]
  iapply (wp_assume Variants.none (c : Thread nD τ) none Set.univ hchk)
  iapply (wp_pass c T hra hu3 hp hr q hq192 hqa.1 hqa.2 _) $$ H
  iintro H
  isplitr
  · ipureintro
    exact hq.next rfl (by have := hp.lt; have := hp.top; omega) ha
  iexact H

/-! ## Between two experts -/

/-- What is held before expert `e`. -/
def ExpI (e : Nat) (a : BitVec 32 × BitVec 32 × BitVec 32) : sProp 𝕄 :=
  iprop(⌜a.1.toNat = gst G e ∧ a.2.1.toNat = cnt G e ∧ QInv (gst G e) 0 a.2.2.toNat⌝ ∗ TilesX c X a.2.2.toNat ∗ TilesY c Y a.2.2.toNat ∗ OW c
    ∗ (∃ g : S256x1408.Idx → Elt F .bf16, pt c aDym Finset.univ g) ∗ AS c D (cnt G e) ∗ AS c D (cnt G e + 1) ∗ AS c D (cnt G e + 2) ∗ Slabs c D (cnt G e - 3)
    ∗ (∃ f : S64x2048x1408.Idx → Elt F .f32, pt c aDw (band S64x2048x1408 e 64) f) ∗ ZS c G (8 * zcnt G e) ∗ pt c aGs Finset.univ (G : S64.Idx → Elt F .i32))

theorem split_dw {e : Nat} (he : e < 64) : iprop(∃ f : S64x2048x1408.Idx → Elt F .f32, pt c aDw (band S64x2048x1408 e 64) f)
    ⊢ (iprop((∃ f : S64x2048x1408.Idx → Elt F .f32, pt c aDw (band S64x2048x1408 e (e + 1)) f) ∗ (∃ f : S64x2048x1408.Idx → Elt F .f32, pt c aDw (band S64x2048x1408 (e + 1) 64) f)) : sProp 𝕄) := by
  iintro ⟨%f, H⟩
  ihave H := (pt_split c aDw fullShare f (Nat.succ_pos 2) (Nat.le_succ e) he).1 $$ H
  icases H with ⟨H1, H2⟩
  isplitl [H1]
  · iexists f; iexact H1
  iexists f; iexact H2
theorem used_some {n used : BitVec 32} (hn : n.toNat ≤ 49152) (h0 : 0 < n.toNat) (hu : used.toNat ≤ 64) : (Scalar.addi used (Scalar.extui (Scalar.cmpi .sgt n 0#32) : BitVec 32)).toNat = used.toNat + 1 := by
  rw [(sgt_iff (x := n) (y := 0#32) (by omega) (by decide)).mpr h0, ext_one]
  exact addi_toNat _ _ (by show _ + 1 < _; omega)
theorem used_none {n used : BitVec 32} (h0 : n.toNat = 0) (hu : used.toNat ≤ 64) : (Scalar.addi used (Scalar.extui (Scalar.cmpi .sgt n 0#32) : BitVec 32)).toNat = used.toNat := by
  have hz : Scalar.cmpi .sgt n 0#32 = 0#1 := bit_zero (fun h => by have := (sgt_iff (x := n) (y := 0#32) (by omega) (by decide)).mp h; rw [h0] at this; exact Nat.lt_irrefl 0 this)
  rw [hz, ext_zero]
  exact addi_toNat _ _ (by show _ + 0 < _; omega)

/-- A loop that is not gone round. -/
theorem wp_noLoop {σ : Type} {lb ub st : BitVec 32} (hok : Scf.OK lb ub st) (h : Scf.trips lb ub st = 0) (init : σ)
    (body : Fin (Scf.trips lb ub st) → σ → Prog (TpuEff nD τ sig (Elt F) Λ₀ .tc) σ) (K : σ → sProp 𝕄) : K init ⊢ WP c (Scf.for lb ub st hok init body) K := by
  iintro H
  iapply (Scf.wp_for _ _ _ lb ub st hok init body (fun _ a => K a) (fun k _ => absurd k.isLt (by omega)))
  isplitl [H]; · iexact H
  iintro %a H
  iexact H

theorem wp_expert (hG : gst G 64 = 49152) {e : Nat} (he : e < 64) (k : Fin k0_t2_loop.trips) (hk : k.val = e) (a : BitVec 32 × BitVec 32 × BitVec 32) :
    ExpI c D e a ⊢ WP c (expertBody k a) (fun a' => ExpI c D (e + 1) a') := by
  obtain ⟨start, used, q⟩ := a
  subst hk
  have hle : gst G k.val + gn G k.val ≤ 49152 := by rw [← hG]; exact gst_mono G (Nat.succ_le_of_lt he)
  rw [expertBody_eq]
  unfold expert ExpI
  iintro ⟨%h, HX, HY, HO, Hd, HA0, HA1, HA2, HS, HW, HZ, HG⟩
  obtain ⟨h1, h2, h3⟩ := h
  simp only at h1 h2 h3
  have hu : used.toNat ≤ 64 := by rw [h2]; exact (cnt_le G _).trans (by omega)
  have hgw : BitVec.toNat (gw (F := F) G k.val) = gn G k.val := rfl
  have hn : start.toNat + BitVec.toNat (gw (F := F) G k.val) ≤ 49152 := by rw [hgw, h1]; exact hle
  iapply (wp_gsLoad c G he (t2_offs k).1 _ _ _) $$ HG
  iintro HG
  generalize hng : gw (F := F) G k.val = n at hgw hn
  have hw : k0_chk1 start used n := chk1_all hn hu
  have hend : (Scalar.addi start n).toNat = start.toNat + BitVec.toNat n := addi_toNat _ _ (by omega)
  iapply (wp_assume Variants.none (c : Thread nD τ) none Set.univ hw)
  iapply (wp_seq c); iapply (wp_pure_intro c)
  ihave HW := (split_dw c he) $$ HW
  icases HW with ⟨HW1, HW⟩
  by_cases hg : gn G k.val = 0
  · have hn0 : BitVec.toNat n = 0 := by rw [hgw]; exact hg
    have ht3 : (k0_t3_loop start n).trips = 0 := by rw [(t3_trips hn).1, hn0]; exact if_pos (Nat.add_zero _)
    iapply (wp_seq c); iapply (wp_accWait_none c hw hu hn0)
    iapply (wp_seq c); iapply (wp_noLoop c (k0_t3_ok start used n hw) ht3)
    iapply (wp_seq c); iapply (wp_noLoop c (k0_t4_ok start used n hw) (t4_trips hn).1)
    iapply (wp_seq c); iapply (wp_accStart_none c k hw hn0)
    iapply (wp_seq c); iapply (wp_zeroStart_some c he hg k rfl hn0 _) $$ [HW1 HZ]
    · isplitl [HW1]; · iexact HW1
      iexact HZ
    iintro HZ
    iapply (wp_pure_intro c)
    rw [cnt_none G hg]
    isplitr
    · ipureintro
      refine ⟨?_, ?_, ?_⟩
      · show (Scalar.addi start n).toNat = _
        rw [hend, hn0, h1]; show _ = gst G k.val + gn G k.val; rw [hg]
      · exact (used_none hn0 hu).trans h2
      · show QInv (gst G k.val + gn G k.val) 0 q.toNat
        rw [hg]; exact h3
    isplitl [HX]; · iexact HX
    isplitl [HY]; · iexact HY
    isplitl [HO]; · iexact HO
    isplitl [Hd]; · iexact Hd
    isplitl [HA0]; · iexact HA0
    isplitl [HA1]; · iexact HA1
    isplitl [HA2]; · iexact HA2
    isplitl [HS]; · iexact HS
    isplitl [HW]; · iexact HW
    isplitl [HZ]; · iexact HZ
    iexact HG
  · have hn0 : 0 < BitVec.toNat n := by rw [hgw]; omega
    have hnle : BitVec.toNat n ≤ 49152 := by omega
    have hmod : (Scalar.remsi used 3#32).toNat = used.toNat % 3 := slotWord hu
    have ht3 := (t3_trips hn).1
    rw [← h2]
    iapply (wp_seq c)
    iapply (wp_accWait_some c D hw hu hnle hn0 _) $$ [HA0 HO HS]
    · isplitl [HA0]; · iexact HA0
      isplitl [HO]; · iexact HO
      iexact HS
    iintro ⟨HI, HO, HS⟩
    unfold Idle
    icases HI with ⟨⟨%f, Hf⟩, Hv⟩
    iapply (wp_seq c)
    iapply (Scf.wp_for _ _ _ _ _ _ (k0_t3_ok start used n hw) q (passBody start used n hw)
      (fun p q' => iprop(⌜QInv start.toNat p q'.toNat⌝ ∗ PassR c T start (Scalar.addi start n) (Scalar.remsi used 3#32) q'.toNat p)) (fun k3 q' => wp_passBody c hw hu hn hn0 k3 q'))
    isplitl [HX HY HO Hd Hf]
    · isplitr
      · ipureintro; rw [h1]; exact h3
      unfold PassR
      isplitl [HX]; · iexact HX
      isplitl [HY]; · iexact HY
      isplitl [HO]; · iexact HO
      isplitl [Hd]; · iexact Hd
      unfold AccAt
      iexists f
      rw [hmod]
      isplitl [Hf]; · iexact Hf
      ipureintro
      intro i hi
      rw [if_neg (Nat.not_lt_zero _)]
      exact T.ap0 _ _ _ _
    iintro %q2 ⟨%hq2, HP⟩
    have hq3 : QInv start.toNat (passes start.toNat (start.toNat + BitVec.toNat n)) q2.toNat := ht3 ▸ hq2
    unfold PassR AccAt
    icases HP with ⟨HX, HY, HO, Hd, ⟨%f2, Hf, %hf2⟩⟩
    have hf3 : AccOk T start (Scalar.addi start n) (used.toNat % 3) (passes (gst G k.val) (gst G (k.val + 1))) 0 f2 := by
      have e1 : passes (gst G k.val) (gst G (k.val + 1)) = (k0_t3_loop start n).trips := by
        rw [ht3, h1, hgw]; rfl
      rw [e1, ← hmod]; exact hf2
    have hDP := D.fin k.val he hg start (Scalar.addi start n) h1 (by rw [hend, h1, hgw]; rfl) _ (Nat.mod_lt _ (by decide)) f2 hf3
    iapply (wp_seq c); iapply (wp_noLoop c (k0_t4_ok start used n hw) (t4_trips hn).1)
    iapply (wp_seq c)
    iapply (wp_accStart_some c D he hg k rfl hw h2 hnle hn0 _) $$ [Hf Hv HW1]
    · isplitl [Hf]
      · iexists f2
        isplitl [Hf]
        · rw [← hmod]; iexact Hf
        ipureintro; exact hDP
      isplitl [Hv]; · iexact Hv
      iexact HW1
    iintro HA3
    iapply (wp_seq c); iapply (wp_zeroStart_none c k hnle hn0)
    iapply (wp_pure_intro c)
    rw [cnt_some G hg, zcnt_some G hg, ← h2]
    isplitr
    · ipureintro
      refine ⟨?_, ?_, ?_⟩
      · show (Scalar.addi start n).toNat = _
        rw [hend, h1, hgw]; rfl
      · exact used_some hnle hn0 hu
      · have := hq3.end (Nat.le_add_right _ _)
        rw [h1, hgw] at this; exact this
    isplitl [HX]; · iexact HX
    isplitl [HY]; · iexact HY
    isplitl [HO]; · iexact HO
    isplitl [Hd]; · iexact Hd
    isplitl [HA1]; · iexact HA1
    isplitl [HA2]; · iexact HA2
    isplitl [HA3]; · iexact HA3
    isplitl [HS]; · iexact HS
    isplitl [HW]; · iexact HW
    isplitl [HZ]; · iexact HZ
    iexact HG
end Expert

end Cert.KernelIdeal.Hand
end
-- ==== Proof.Run.lean ====
/-
The whole body, from what the launch hands it to what it hands back.
-/
module

public import proofs.«01_k».proof.Proof.Expert
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-! ## Cutting buffers, and joining them -/

section Cut
variable (c : Dev nD) {sp : Space} {s : Shape} {e : EltTy} (M : Memref sig .tc sp s e)
abbrev Part (lo hi : Nat) : sProp 𝕄 := iprop(∃ f : Buf (Elt F) (M.view.loc (c : Thread nD τ)), pt c M (band (M.view.loc (c : Thread nD τ)).ty.shape lo hi) f)
abbrev Whole : sProp 𝕄 := iprop(∃ f : Buf (Elt F) (M.view.loc (c : Thread nD τ)), pt c M Finset.univ f)

theorem part_split (h : 0 < (M.view.loc (c : Thread nD τ)).ty.shape.rank) {lo mid hi : Nat} (h1 : lo ≤ mid) (h2 : mid ≤ hi) :
    Part (F := F) c M lo hi ⊢ iprop(Part (F := F) c M lo mid ∗ Part (F := F) c M mid hi) := by
  iintro ⟨%f, H⟩
  ihave H := (pt_split c M fullShare f h h1 h2).1 $$ H
  icases H with ⟨H1, H2⟩
  isplitl [H1]
  · iexists f; iexact H1
  iexists f; iexact H2
theorem part_join (h : 0 < (M.view.loc (c : Thread nD τ)).ty.shape.rank) {lo mid hi : Nat} (h1 : lo ≤ mid) (h2 : mid ≤ hi) :
    iprop(Part (F := F) c M lo mid ∗ Part (F := F) c M mid hi) ⊢ Part (F := F) c M lo hi := by
  iintro ⟨⟨%f, H1⟩, ⟨%g, H2⟩⟩
  iexists _
  rw [← band_union h h1 h2]
  iapply (pointsTo_join (band_disjoint h (Nat.le_refl _)))
  isplitl [H1]; · iexact H1
  iexact H2
variable (h : 0 < (M.view.loc (c : Thread nD τ)).ty.shape.rank)
include h
theorem cut2 (hu : band (M.view.loc (c : Thread nD τ)).ty.shape 0 2 = Finset.univ) : Whole (F := F) c M ⊢ iprop(Part (F := F) c M 0 1 ∗ Part (F := F) c M 1 2) := by
  unfold Whole; rw [← hu]
  exact part_split c M h (by decide) (by decide)
theorem cut3 (hu : band (M.view.loc (c : Thread nD τ)).ty.shape 0 3 = Finset.univ) : Whole (F := F) c M ⊢ iprop(Part (F := F) c M 0 1 ∗ Part (F := F) c M 1 2 ∗ Part (F := F) c M 2 3) := by
  unfold Whole; rw [← hu]
  iintro H
  ihave H := (part_split c M h (lo := 0) (mid := 1) (hi := 3) (by decide) (by decide)) $$ H
  icases H with ⟨H0, H⟩
  isplitl [H0]; · iexact H0
  iapply (part_split c M h (lo := 1) (mid := 2) (hi := 3) (by decide) (by decide))
  iexact H
theorem cut4 (hu : band (M.view.loc (c : Thread nD τ)).ty.shape 0 4 = Finset.univ) :
    Whole (F := F) c M ⊢ iprop(Part (F := F) c M 0 1 ∗ Part (F := F) c M 1 2 ∗ Part (F := F) c M 2 3 ∗ Part (F := F) c M 3 4) := by
  unfold Whole; rw [← hu]
  iintro H
  ihave H := (part_split c M h (lo := 0) (mid := 1) (hi := 4) (by decide) (by decide)) $$ H
  icases H with ⟨H0, H⟩
  isplitl [H0]; · iexact H0
  ihave H := (part_split c M h (lo := 1) (mid := 2) (hi := 4) (by decide) (by decide)) $$ H
  icases H with ⟨H0, H⟩
  isplitl [H0]; · iexact H0
  iapply (part_split c M h (lo := 2) (mid := 3) (hi := 4) (by decide) (by decide))
  iexact H
theorem whole2 (hu : band (M.view.loc (c : Thread nD τ)).ty.shape 0 2 = Finset.univ) : iprop(Part (F := F) c M 0 1 ∗ Part (F := F) c M 1 2) ⊢ Whole (F := F) c M := by
  unfold Whole; rw [← hu]
  exact part_join c M h (by decide) (by decide)
theorem whole3 (hu : band (M.view.loc (c : Thread nD τ)).ty.shape 0 3 = Finset.univ) : iprop(Part (F := F) c M 0 1 ∗ Part (F := F) c M 1 2 ∗ Part (F := F) c M 2 3) ⊢ Whole (F := F) c M := by
  unfold Whole; rw [← hu]
  iintro ⟨H0, H1, H2⟩
  iapply (part_join c M h (lo := 0) (mid := 1) (hi := 3) (by decide) (by decide))
  isplitl [H0]; · iexact H0
  iapply (part_join c M h (lo := 1) (mid := 2) (hi := 3) (by decide) (by decide))
  isplitl [H1]; · iexact H1
  iexact H2
theorem whole4 (hu : band (M.view.loc (c : Thread nD τ)).ty.shape 0 4 = Finset.univ) :
    iprop(Part (F := F) c M 0 1 ∗ Part (F := F) c M 1 2 ∗ Part (F := F) c M 2 3 ∗ Part (F := F) c M 3 4) ⊢ Whole (F := F) c M := by
  unfold Whole; rw [← hu]
  iintro ⟨H0, H1, H2, H3⟩
  iapply (part_join c M h (lo := 0) (mid := 1) (hi := 4) (by decide) (by decide))
  isplitl [H0]; · iexact H0
  iapply (part_join c M h (lo := 1) (mid := 2) (hi := 4) (by decide) (by decide))
  isplitl [H1]; · iexact H1
  iapply (part_join c M h (lo := 2) (mid := 3) (hi := 4) (by decide) (by decide))
  isplitl [H2]; · iexact H2
  iexact H3
/-- The rows cut where the first four tiles lie. -/
theorem cutRows (f : Buf (Elt F) (M.view.loc (c : Thread nD τ))) (hu : band (M.view.loc (c : Thread nD τ)).ty.shape 0 49152 = Finset.univ) :
    (pt c M Finset.univ f : sProp 𝕄) ⊢ iprop(pt c M (band _ 0 0) f ∗ pt c M (band _ 0 256) f ∗ pt c M (band _ 256 512) f ∗ pt c M (band _ 512 768) f ∗ pt c M (band _ 768 1024) f ∗ pt c M (band _ 1024 49152) f) := by
  rw [← hu]
  iintro H
  ihave H := (pt_split c M fullShare f h (lo := 0) (mid := 0) (hi := 49152) (by decide) (by decide)).1 $$ H
  icases H with ⟨H0, H⟩
  isplitl [H0]; · iexact H0
  ihave H := (pt_split c M fullShare f h (lo := 0) (mid := 256) (hi := 49152) (by decide) (by decide)).1 $$ H
  icases H with ⟨H0, H⟩
  isplitl [H0]; · iexact H0
  ihave H := (pt_split c M fullShare f h (lo := 256) (mid := 512) (hi := 49152) (by decide) (by decide)).1 $$ H
  icases H with ⟨H0, H⟩
  isplitl [H0]; · iexact H0
  ihave H := (pt_split c M fullShare f h (lo := 512) (mid := 768) (hi := 49152) (by decide) (by decide)).1 $$ H
  icases H with ⟨H0, H⟩
  isplitl [H0]; · iexact H0
  ihave H := (pt_split c M fullShare f h (lo := 768) (mid := 1024) (hi := 49152) (by decide) (by decide)).1 $$ H
  icases H with ⟨H0, H⟩
  isplitl [H0]; · iexact H0
  iexact H
/-- The last two tiles of codes beside the others. -/
theorem joinRows (f : Buf (Elt F) (M.view.loc (c : Thread nD τ))) (hu : band (M.view.loc (c : Thread nD τ)).ty.shape 0 49152 = Finset.univ) :
    (iprop(pt c M (band _ 0 48640) f ∗ pt c M (band _ 48640 48896) f ∗ pt c M (band _ 48896 49152) f) : sProp 𝕄) ⊢ pt c M Finset.univ f := by
  rw [← hu]
  iintro ⟨H0, H1, H2⟩
  iapply (pt_split c M fullShare f h (lo := 0) (mid := 48640) (hi := 49152) (by decide) (by decide)).2
  isplitl [H0]; · iexact H0
  iapply (pt_split c M fullShare f h (lo := 48640) (mid := 48896) (hi := 49152) (by decide) (by decide)).2
  isplitl [H1]; · iexact H1
  iexact H2
end Cut

/-! ## Before the loops -/

section Start
variable (c : Dev nD) (X : S49152x2048.Idx → Elt F .bf16) (Y : S49152x1408.Idx → Elt F .bf16)
abbrev Zr (s : DmaSem sig) : sProp 𝕄 := semVal ((c : Thread nD τ), .dma s) 0

theorem zero_whole (f : S256x1408.Idx → Elt F .f32) (j : S256x1408.Idx) :
    (aZero.access (Rect.unit (s := S256x1408) ![0, 0] S256x1408.size inb_S256x1408_S256x1408_0_0)).write (Elt F) f (zeros (F := F)) Finset.univ j = Zf j := by
  have e1 : (Rect.unit (s := S256x1408) ![0, 0] S256x1408.size inb_S256x1408_S256x1408_0_0).emb j = j := funext fun k => by
    match k with
    | 0 => exact Fin.ext ((emb_unit_val _ _).trans (Nat.zero_add _))
    | 1 => exact Fin.ext ((emb_unit_val _ _).trans (Nat.zero_add _))
  have e2 := write_emb_whole (F := F) (b := cc0_scratch8) (Rect.unit (s := S256x1408) ![0, 0] S256x1408.size inb_S256x1408_S256x1408_0_0) f (zeros (F := F)) j
  rw [e1] at e2
  exact e2
theorem wp_zeroFill (K : PUnit → sProp 𝕄) : Whole (F := F) c aZero ⊢ iprop((pt c aZero Finset.univ (Zf (F := F)) -∗ K ⟨⟩) -∗ WP c (zeroFill (F := F)) K) := by
  unfold zeroFill
  simp only [lift_bind]
  simp only [lift_eq]
  iintro ⟨%f, H⟩ HK
  iapply (wp_load_rect Variants.none (c : Thread nD τ) none Set.univ (m := aZero) (r := Rect.unit (s := S256x1408) ![0, 0] S256x1408.size inb_S256x1408_S256x1408_0_0) (S := Finset.univ) (Finset.subset_univ _)) $$ H
  iintro H
  iapply (wp_store Variants.none (c : Thread nD τ) none Set.univ (m := aZero) (r := Rect.unit (s := S256x1408) ![0, 0] S256x1408.size inb_S256x1408_S256x1408_0_0) (Mk := Finset.univ) (S := Finset.univ) (Finset.subset_univ _)) $$ H
  iintro H
  iapply (wp_pure_intro c)
  iapply HK
  iapply (Entails.of_eq (pointsTo_congr (fun j _ => zero_whole (F := F) f j)))
  iexact H

/-- What the first tile of `x` needs. -/
def FirstX : sProp 𝕄 := iprop(pt c aX Finset.univ X ∗ Whole (F := F) c aXin ∗ Zr c (sIn 0 0) ∗ Zr c (sIn 0 1) ∗ Zr c (sIn 0 2) ∗ Zr c (sIn 0 3))
def FirstY : sProp 𝕄 := iprop(pt c aDy Finset.univ Y ∗ Whole (F := F) c aDyin ∗ Zr c (sIn 1 0) ∗ Zr c (sIn 1 1) ∗ Zr c (sIn 1 2) ∗ Zr c (sIn 1 3))
def SentX : sProp 𝕄 := iprop(pt c aX (band S49152x2048 0 0) X ∗ pt c aX (band S49152x2048 1024 49152) X ∗ SX c X 0 ∗ SX c X 1 ∗ SX c X 2 ∗ SX c X 3)
def SentY : sProp 𝕄 := iprop(pt c aDy (band S49152x1408 0 0) Y ∗ pt c aDy (band S49152x1408 1024 49152) Y ∗ SY c Y 0 ∗ SY c Y 1 ∗ SY c Y 2 ∗ SY c Y 3)

theorem wp_firstTiles (K : PUnit → sProp 𝕄) : iprop(FirstX c X ∗ FirstY c Y) ⊢ iprop((iprop(SentX c X ∗ SentY c Y) -∗ K ⟨⟩) -∗ WP c firstTiles K) := by
  unfold firstTiles FirstX FirstY SentX SentY
  iintro ⟨⟨HX, HB, Hs0, Hs1, Hs2, Hs3⟩, ⟨HY, HC, Ht0, Ht1, Ht2, Ht3⟩⟩ HK
  ihave HX := (cutRows c aX (Nat.succ_pos 1) X (band_univ (s := S49152x2048) (Nat.succ_pos 1))) $$ HX
  ihave HY := (cutRows c aDy (Nat.succ_pos 1) Y (band_univ (s := S49152x1408) (Nat.succ_pos 1))) $$ HY
  ihave HB := (cut4 c aXin (Nat.succ_pos 2) (band_univ (s := S4x256x2048) (Nat.succ_pos 2))) $$ HB
  ihave HC := (cut4 c aDyin (Nat.succ_pos 2) (band_univ (s := S4x256x1408) (Nat.succ_pos 2))) $$ HC
  icases HX with ⟨HXz, HX0, HX1, HX2, HX3, HXr⟩
  icases HY with ⟨HYz, HY0, HY1, HY2, HY3, HYr⟩
  icases HB with ⟨HB0, HB1, HB2, HB3⟩
  icases HC with ⟨HC0, HC1, HC2, HC3⟩
  iapply (wp_seq c)
  iapply (wp_inStartX c X 0#32 _ _) $$ [HB0 Hs0 HX0]
  · isplitl [HB0]; · iexact HB0
    isplitl [Hs0]; · iexact Hs0
    iexact HX0
  iintro HB0
  iapply (wp_seq c)
  iapply (wp_inStartY c Y 0#32 _ _) $$ [HC0 Ht0 HY0]
  · isplitl [HC0]; · iexact HC0
    isplitl [Ht0]; · iexact Ht0
    iexact HY0
  iintro HC0
  iapply (wp_seq c)
  iapply (wp_inStartX c X 1#32 _ _) $$ [HB1 Hs1 HX1]
  · isplitl [HB1]; · iexact HB1
    isplitl [Hs1]; · iexact Hs1
    iexact HX1
  iintro HB1
  iapply (wp_seq c)
  iapply (wp_inStartY c Y 1#32 _ _) $$ [HC1 Ht1 HY1]
  · isplitl [HC1]; · iexact HC1
    isplitl [Ht1]; · iexact Ht1
    iexact HY1
  iintro HC1
  iapply (wp_seq c)
  iapply (wp_inStartX c X 2#32 _ _) $$ [HB2 Hs2 HX2]
  · isplitl [HB2]; · iexact HB2
    isplitl [Hs2]; · iexact Hs2
    iexact HX2
  iintro HB2
  iapply (wp_seq c)
  iapply (wp_inStartY c Y 2#32 _ _) $$ [HC2 Ht2 HY2]
  · isplitl [HC2]; · iexact HC2
    isplitl [Ht2]; · iexact Ht2
    iexact HY2
  iintro HC2
  iapply (wp_seq c)
  iapply (wp_inStartX c X 3#32 _ _) $$ [HB3 Hs3 HX3]
  · isplitl [HB3]; · iexact HB3
    isplitl [Hs3]; · iexact Hs3
    iexact HX3
  iintro HB3
  iapply (wp_inStartY c Y 3#32 _ _) $$ [HC3 Ht3 HY3]
  · isplitl [HC3]; · iexact HC3
    isplitl [Ht3]; · iexact Ht3
    iexact HY3
  iintro HC3
  iapply HK
  isplitl [HXz HXr HB0 HB1 HB2 HB3]
  · isplitl [HXz]; · iexact HXz
    isplitl [HXr]; · iexact HXr
    isplitl [HB0]; · iexact HB0
    isplitl [HB1]; · iexact HB1
    isplitl [HB2]; · iexact HB2
    iexact HB3
  isplitl [HYz]; · iexact HYz
  isplitl [HYr]; · iexact HYr
  isplitl [HC0]; · iexact HC0
  isplitl [HC1]; · iexact HC1
  isplitl [HC2]; · iexact HC2
  iexact HC3

theorem tilesX_start : iprop(SentX c X ∗ Whole (F := F) c aXco ∗ Zr c (sOut 0 0) ∗ Zr c (sOut 0 1) ∗ Whole (F := F) c aXc ∗ Whole (F := F) c aXs ∗ Whole (F := F) c aXw) ⊢ TilesX c X 0 := by
  unfold SentX TilesX OX
  rw [if_neg (by decide : ¬ 2 ≤ 0), if_neg (by decide : ¬ 2 ≤ 0 + 1)]
  iintro ⟨⟨H0, H1, H2, H3, H4, H5⟩, HO, Hv0, Hv1, HC, ⟨%fs, HS⟩, ⟨%fw, HW⟩⟩
  ihave HO := (cut2 c aXco (Nat.succ_pos 2) (band_univ (s := S2x256x2048) (Nat.succ_pos 2))) $$ HO
  icases HO with ⟨HO0, HO1⟩
  have hC : Whole (F := F) c aXc ⊢ iprop((pt c aXc (band S49152x2048 0 0) (XC X)) ∗ ∃ f : S49152x2048.Idx → Elt F .fp8e4m3, pt c aXc (band S49152x2048 0 49152) f) := by
    unfold Whole
    rw [← band_univ (s := S49152x2048) (Nat.succ_pos 1)]
    iintro ⟨%f, H⟩
    isplitr
    · have he : (pt c aXc (band S49152x2048 0 0) (XC X) : sProp 𝕄) = iprop(emp) := by
        rw [band_empty (s := S49152x2048) (Nat.succ_pos 1) (Nat.le_refl 0)]; exact pointsTo_empty
      rw [he]; iempintro
    iexists f; iexact H
  ihave HC := hC $$ HC
  icases HC with ⟨HCz, HC⟩
  isplitl [H0]; · iexact H0
  isplitl [H1]; · iexact H1
  isplitl [H2]; · iexact H2
  isplitl [H3]; · iexact H3
  isplitl [H4]; · iexact H4
  isplitl [H5]; · iexact H5
  isplitl [HO0 Hv0]
  · isplitl [HO0]; · iexact HO0
    iexact Hv0
  isplitl [HO1 Hv1]
  · isplitl [HO1]; · iexact HO1
    iexact Hv1
  isplitl [HCz]; · iexact HCz
  isplitl [HC]; · iexact HC
  isplitl [HS]
  · iexists fs
    isplitl [HS]; · iexact HS
    ipureintro
    intro j hj
    rcases hj with hj | ⟨-, hj⟩
    · exact absurd hj (by omega)
    · exact absurd hj List.not_mem_nil
  iexists fw
  isplitl [HW]; · iexact HW
  ipureintro
  intro k j hk
  exact absurd hk (Nat.not_lt_zero _)
/-- After the last tile, all but the last two tiles of codes. -/
theorem tilesX_end : TilesX c X 192 ⊢ iprop(pt c aX Finset.univ X ∗ Whole (F := F) c aXin ∗ Zr c (sIn 0 0) ∗ Zr c (sIn 0 1) ∗ Zr c (sIn 0 2) ∗ Zr c (sIn 0 3)
    ∗ OX c X 192 ∗ OX c X 193 ∗ pt c aXc (band S49152x2048 0 48640) (XC X) ∗ pt c aXs Finset.univ (XS X) ∗ Whole (F := F) c aXw) := by
  unfold TilesX SX
  rw [if_neg (by decide : ¬ 192 < 192), if_neg (by decide : ¬ 192 + 1 < 192), if_neg (by decide : ¬ 192 + 2 < 192), if_neg (by decide : ¬ 192 + 3 < 192)]
  have hV : (pt c aX (band S49152x2048 0 (256 * 192)) X : sProp 𝕄) ⊢ pt c aX Finset.univ X := Entails.of_eq (congrArg (fun S => pt c aX S X) (band_univ (s := S49152x2048) (Nat.succ_pos 1)))
  iintro ⟨H0, -, ⟨HA0, Hv0⟩, ⟨HA1, Hv1⟩, ⟨HA2, Hv2⟩, ⟨HA3, Hv3⟩, HO0, HO1, HC, -, ⟨%fs, HS, %hs⟩, ⟨%fw, HW, -⟩⟩
  have es : fs = XS X := funext fun j => hs j (.inl (lt_of_lt_of_eq (j 0).isLt rfl))
  rw [es]
  isplitl [H0]
  · iapply hV; iexact H0
  isplitl [HA0 HA1 HA2 HA3]
  · iapply (whole4 c aXin (Nat.succ_pos 2) (band_univ (s := S4x256x2048) (Nat.succ_pos 2)))
    isplitl [HA0]; · iexact HA0
    isplitl [HA1]; · iexact HA1
    isplitl [HA2]; · iexact HA2
    iexact HA3
  isplitl [Hv0]; · iexact Hv0
  isplitl [Hv1]; · iexact Hv1
  isplitl [Hv2]; · iexact Hv2
  isplitl [Hv3]; · iexact Hv3
  isplitl [HO0]; · iexact HO0
  isplitl [HO1]; · iexact HO1
  isplitl [HC]; · iexact HC
  isplitl [HS]; · iexact HS
  iexists fw; iexact HW
/-- The last two tiles of codes come in. -/
theorem lastCodesX : iprop(pt c aXc (band S49152x2048 0 48640) (XC X)
      ∗ (pt c aXc (band S49152x2048 48640 48896) (XC X) ∗ Part (F := F) c aXco 0 1)
      ∗ (pt c aXc (band S49152x2048 48896 49152) (XC X) ∗ Part (F := F) c aXco 1 2))
    ⊢ iprop(pt c aXc Finset.univ (XC X) ∗ Whole (F := F) c aXco) := by
  iintro ⟨H0, ⟨H1, HA⟩, ⟨H2, HB⟩⟩
  isplitl [H0 H1 H2]
  · iapply (joinRows c aXc (Nat.succ_pos 1) (XC X) (band_univ (s := S49152x2048) (Nat.succ_pos 1)))
    isplitl [H0]; · iexact H0
    isplitl [H1]; · iexact H1
    iexact H2
  iapply (whole2 c aXco (Nat.succ_pos 2) (band_univ (s := S2x256x2048) (Nat.succ_pos 2)))
  isplitl [HA]; · iexact HA
  iexact HB
theorem tilesY_start : iprop(SentY c Y ∗ Whole (F := F) c aDyco ∗ Zr c (sOut 1 0) ∗ Zr c (sOut 1 1) ∗ Whole (F := F) c aDyc ∗ Whole (F := F) c aDys ∗ Whole (F := F) c aDyw) ⊢ TilesY c Y 0 := by
  unfold SentY TilesY OY
  rw [if_neg (by decide : ¬ 2 ≤ 0), if_neg (by decide : ¬ 2 ≤ 0 + 1)]
  iintro ⟨⟨H0, H1, H2, H3, H4, H5⟩, HO, Hv0, Hv1, HC, ⟨%fs, HS⟩, ⟨%fw, HW⟩⟩
  ihave HO := (cut2 c aDyco (Nat.succ_pos 2) (band_univ (s := S2x256x1408) (Nat.succ_pos 2))) $$ HO
  icases HO with ⟨HO0, HO1⟩
  have hC : Whole (F := F) c aDyc ⊢ iprop((pt c aDyc (band S49152x1408 0 0) (YC Y)) ∗ ∃ f : S49152x1408.Idx → Elt F .fp8e5m2, pt c aDyc (band S49152x1408 0 49152) f) := by
    unfold Whole
    rw [← band_univ (s := S49152x1408) (Nat.succ_pos 1)]
    iintro ⟨%f, H⟩
    isplitr
    · have he : (pt c aDyc (band S49152x1408 0 0) (YC Y) : sProp 𝕄) = iprop(emp) := by
        rw [band_empty (s := S49152x1408) (Nat.succ_pos 1) (Nat.le_refl 0)]; exact pointsTo_empty
      rw [he]; iempintro
    iexists f; iexact H
  ihave HC := hC $$ HC
  icases HC with ⟨HCz, HC⟩
  isplitl [H0]; · iexact H0
  isplitl [H1]; · iexact H1
  isplitl [H2]; · iexact H2
  isplitl [H3]; · iexact H3
  isplitl [H4]; · iexact H4
  isplitl [H5]; · iexact H5
  isplitl [HO0 Hv0]
  · isplitl [HO0]; · iexact HO0
    iexact Hv0
  isplitl [HO1 Hv1]
  · isplitl [HO1]; · iexact HO1
    iexact Hv1
  isplitl [HCz]; · iexact HCz
  isplitl [HC]; · iexact HC
  isplitl [HS]
  · iexists fs
    isplitl [HS]; · iexact HS
    ipureintro
    intro j hj
    rcases hj with hj | ⟨-, hj⟩
    · exact absurd hj (by omega)
    · exact absurd hj List.not_mem_nil
  iexists fw
  isplitl [HW]; · iexact HW
  ipureintro
  intro k j hk
  exact absurd hk (Nat.not_lt_zero _)
/-- After the last tile, all but the last two tiles of codes. -/
theorem tilesY_end : TilesY c Y 192 ⊢ iprop(pt c aDy Finset.univ Y ∗ Whole (F := F) c aDyin ∗ Zr c (sIn 1 0) ∗ Zr c (sIn 1 1) ∗ Zr c (sIn 1 2) ∗ Zr c (sIn 1 3)
    ∗ OY c Y 192 ∗ OY c Y 193 ∗ pt c aDyc (band S49152x1408 0 48640) (YC Y) ∗ pt c aDys Finset.univ (YS Y) ∗ Whole (F := F) c aDyw) := by
  unfold TilesY SY
  rw [if_neg (by decide : ¬ 192 < 192), if_neg (by decide : ¬ 192 + 1 < 192), if_neg (by decide : ¬ 192 + 2 < 192), if_neg (by decide : ¬ 192 + 3 < 192)]
  have hV : (pt c aDy (band S49152x1408 0 (256 * 192)) Y : sProp 𝕄) ⊢ pt c aDy Finset.univ Y := Entails.of_eq (congrArg (fun S => pt c aDy S Y) (band_univ (s := S49152x1408) (Nat.succ_pos 1)))
  iintro ⟨H0, -, ⟨HA0, Hv0⟩, ⟨HA1, Hv1⟩, ⟨HA2, Hv2⟩, ⟨HA3, Hv3⟩, HO0, HO1, HC, -, ⟨%fs, HS, %hs⟩, ⟨%fw, HW, -⟩⟩
  have es : fs = YS Y := funext fun j => hs j (.inl (lt_of_lt_of_eq (j 0).isLt rfl))
  rw [es]
  isplitl [H0]
  · iapply hV; iexact H0
  isplitl [HA0 HA1 HA2 HA3]
  · iapply (whole4 c aDyin (Nat.succ_pos 2) (band_univ (s := S4x256x1408) (Nat.succ_pos 2)))
    isplitl [HA0]; · iexact HA0
    isplitl [HA1]; · iexact HA1
    isplitl [HA2]; · iexact HA2
    iexact HA3
  isplitl [Hv0]; · iexact Hv0
  isplitl [Hv1]; · iexact Hv1
  isplitl [Hv2]; · iexact Hv2
  isplitl [Hv3]; · iexact Hv3
  isplitl [HO0]; · iexact HO0
  isplitl [HO1]; · iexact HO1
  isplitl [HC]; · iexact HC
  isplitl [HS]; · iexact HS
  iexists fw; iexact HW
/-- The last two tiles of codes come in. -/
theorem lastCodesY : iprop(pt c aDyc (band S49152x1408 0 48640) (YC Y)
      ∗ (pt c aDyc (band S49152x1408 48640 48896) (YC Y) ∗ Part (F := F) c aDyco 0 1)
      ∗ (pt c aDyc (band S49152x1408 48896 49152) (YC Y) ∗ Part (F := F) c aDyco 1 2))
    ⊢ iprop(pt c aDyc Finset.univ (YC Y) ∗ Whole (F := F) c aDyco) := by
  iintro ⟨H0, ⟨H1, HA⟩, ⟨H2, HB⟩⟩
  isplitl [H0 H1 H2]
  · iapply (joinRows c aDyc (Nat.succ_pos 1) (YC Y) (band_univ (s := S49152x1408) (Nat.succ_pos 1)))
    isplitl [H0]; · iexact H0
    isplitl [H1]; · iexact H1
    iexact H2
  iapply (whole2 c aDyco (Nat.succ_pos 2) (band_univ (s := S2x256x1408) (Nat.succ_pos 2)))
  isplitl [HA]; · iexact HA
  iexact HB

attribute [local irreducible] firstTile quantTile
theorem wp_of_eq {α : Type} {p p' : Prog (TpuEff nD τ sig (Elt F) Λ₀ .tc) α} (h : p' = p) {P : sProp 𝕄} {K : α → sProp 𝕄} (hp : P ⊢ WP c p K) : P ⊢ WP c p' K := by
  rw [h]; exact hp
theorem wp_tileAt (q : BitVec 32) (hq : q.toNat < 192) (n : Nat) (hn : q.toNat = n) :
    iprop(TilesX c X n ∗ TilesY c Y n ∗ OW c) ⊢ WP c (quantTile q hq) (fun _ => iprop(TilesX c X (n + 1) ∗ TilesY c Y (n + 1) ∗ OW c)) := by
  subst hn
  iintro H
  iapply (wp_quantTile c X Y q hq _) $$ H
  iintro H; iexact H
set_option maxRecDepth 20000 in
theorem wp_firstTile_0 : iprop(TilesX c X 0 ∗ TilesY c Y 0 ∗ OW c) ⊢ WP c (firstTile (F := F) ⟨0, by decide⟩ ()) (fun _ => iprop(TilesX c X (0 + 1) ∗ TilesY c Y (0 + 1) ∗ OW c)) :=
  wp_of_eq c (firstTile_0 (F := F)) (wp_tileAt c X Y (q1 ⟨0, by decide⟩) (q1_lt _) 0 rfl)
set_option maxRecDepth 20000 in
theorem wp_firstTile_1 : iprop(TilesX c X 1 ∗ TilesY c Y 1 ∗ OW c) ⊢ WP c (firstTile (F := F) ⟨1, by decide⟩ ()) (fun _ => iprop(TilesX c X (1 + 1) ∗ TilesY c Y (1 + 1) ∗ OW c)) :=
  wp_of_eq c (firstTile_1 (F := F)) (wp_tileAt c X Y (q1 ⟨1, by decide⟩) (q1_lt _) 1 rfl)
set_option maxRecDepth 20000 in
theorem wp_firstLoop (K : PUnit → sProp 𝕄) : iprop(TilesX c X 0 ∗ TilesY c Y 0 ∗ OW c)
    ⊢ iprop((iprop(TilesX c X 2 ∗ TilesY c Y 2 ∗ OW c) -∗ K ⟨⟩) -∗ WP c (Scf.Loop.for k0_t1_loop k0_t1_ok ⟨⟩ firstTile) K) := by
  iintro H HK
  iapply (Scf.wp_for _ _ _ _ _ _ k0_t1_ok ⟨⟩ firstTile (fun k _ => iprop(TilesX c X k ∗ TilesY c Y k ∗ OW c)) (fun k u => ?_))
  · match k with
    | ⟨0, _⟩ =>
      exact wp_firstTile_0 c X Y
    | ⟨1, _⟩ =>
      exact wp_firstTile_1 c X Y
  isplitl [H]; · iexact H
  iintro %u H
  iapply HK
  iexact H
end Start

/-! ## After the experts -/

section Finish
variable (c : Dev nD) {X : S49152x2048.Idx → Elt F .bf16} {Y : S49152x1408.Idx → Elt F .bf16} {T : Sums X Y} {G : S64.Idx → BitVec 32} (D : Goal T G)

theorem wp_lastSum {u : BitVec 32} (h : u.toNat ≤ 64) (hw : k0_chk4 u) (k : Fin (k0_t5_loop u).trips) (a : BitVec 32) (K : BitVec 32 → sProp 𝕄) :
    iprop(AS c D (u.toNat - 3 + k.val + 3) ∗ OW c ∗ Slabs c D (u.toNat - 3 + k.val))
      ⊢ iprop((iprop(Idle (F := F) c (u.toNat - 3 + k.val + 3) ∗ OW c ∗ Slabs c D (u.toNat - 3 + k.val + 1)) -∗ K 0#32) -∗ WP c (lastSums u hw k a) K) := by
  rw [lastSums_eq]
  unfold sumsAwait Slabs
  rw [bigSep_range_succ]
  iintro ⟨HA, HO, HS⟩ HK
  iapply (wp_seq c)
  iapply (wp_sumsWait c D (Nat.le_add_left _ _) (sAcc_eq (Nat.mod_lt _ (by decide)) (((t5_trips h).2.2 k).trans (by rw [Nat.add_mod_right])) _) rfl _) $$ [HA HO]
  · isplitl [HA]; · iexact HA
    iexact HO
  iintro ⟨H1, H2, H3⟩
  iapply (wp_pure_intro c)
  iapply HK
  isplitl [H2]; · iexact H2
  isplitl [H3]; · iexact H3
  isplitl [H1]; · iexact H1
  iexact HS
/-- Accumulator `j` after the waits below `t`. -/
def Waited (t j : Nat) : sProp 𝕄 := if j < t then Idle (F := F) c j else AS c D j
theorem Waited.now (j : Nat) : Waited c D j j = AS c D j := if_neg (Nat.lt_irrefl _)
theorem Waited.done {t j : Nat} (h : j < t) : Waited c D t j = Idle c j := if_pos h
theorem Waited.other {t j : Nat} (h : t ≠ j) : Waited c D t j = Waited c D (t + 1) j := by
  unfold Waited
  by_cases h1 : j < t
  · rw [if_pos h1, if_pos (by omega)]
  · rw [if_neg h1, if_neg (by omega)]
theorem Waited.first {C j : Nat} (h : C ≤ j) : AS c D j = Waited c D (C - 3 + 3) j := by
  unfold Waited
  by_cases h1 : j < C - 3 + 3
  · rw [if_pos h1]; unfold AS; rw [if_neg (by omega)]
  · rw [if_neg h1]
/-- What is held while the last sums come in. -/
def LastI (C t : Nat) : sProp 𝕄 := iprop(OW c ∗ Slabs c D (C - 3 + t) ∗ Waited c D (C - 3 + t + 3) C ∗ Waited c D (C - 3 + t + 3) (C + 1) ∗ Waited c D (C - 3 + t + 3) (C + 2))
theorem wp_lastStep {u : BitVec 32} (h : u.toNat ≤ 64) (hw : k0_chk4 u) (k : Fin (k0_t5_loop u).trips) (a : BitVec 32) :
    LastI c D u.toNat k.val ⊢ WP c (lastSums u hw k a) (fun _ => LastI c D u.toNat (k.val + 1)) := by
  have hk : k.val < u.toNat - (u.toNat - 3) := (t5_trips h).1 ▸ k.isLt
  unfold LastI
  rw [show u.toNat - 3 + (k.val + 1) = u.toNat - 3 + k.val + 1 by omega]
  have hd : u.toNat - 3 + k.val + 3 = u.toNat ∨ u.toNat - 3 + k.val + 3 = u.toNat + 1 ∨ u.toNat - 3 + k.val + 3 = u.toNat + 2 := by omega
  have hs : u.toNat - 3 + k.val + 1 + 3 = (u.toNat - 3 + k.val + 3) + 1 := by omega
  rw [hs]
  have key := wp_lastSum c D h hw k a
  rcases hd with hd | hd | hd
  · rw [hd] at key ⊢
    rw [Waited.now, Waited.done c D (Nat.lt_succ_self u.toNat), Waited.other c D (j := u.toNat + 1) (by omega), Waited.other c D (t := u.toNat) (j := u.toNat + 2) (by omega)]
    iintro ⟨HO, HS, HA, HB, HC⟩
    iapply (key _) $$ [HA HO HS]
    · isplitl [HA]; · iexact HA
      isplitl [HO]; · iexact HO
      iexact HS
    iintro ⟨HA, HO, HS⟩
    isplitl [HO]; · iexact HO
    isplitl [HS]; · iexact HS
    isplitl [HA]; · iexact HA
    isplitl [HB]; · iexact HB
    iexact HC
  · rw [hd] at key ⊢
    rw [Waited.now, Waited.done c D (t := u.toNat + 1 + 1) (j := u.toNat + 1) (by omega), ← Waited.other c D (t := u.toNat + 1) (j := u.toNat) (by omega), ← Waited.other c D (t := u.toNat + 1) (j := u.toNat + 2) (by omega)]
    iintro ⟨HO, HS, HB, HA, HC⟩
    iapply (key _) $$ [HA HO HS]
    · isplitl [HA]; · iexact HA
      isplitl [HO]; · iexact HO
      iexact HS
    iintro ⟨HA, HO, HS⟩
    isplitl [HO]; · iexact HO
    isplitl [HS]; · iexact HS
    isplitl [HB]; · iexact HB
    isplitl [HA]; · iexact HA
    iexact HC
  · rw [hd] at key ⊢
    rw [Waited.now, Waited.done c D (t := u.toNat + 2 + 1) (j := u.toNat + 2) (by omega), ← Waited.other c D (t := u.toNat + 2) (j := u.toNat) (by omega), ← Waited.other c D (t := u.toNat + 2) (j := u.toNat + 1) (by omega)]
    iintro ⟨HO, HS, HB, HC, HA⟩
    iapply (key _) $$ [HA HO HS]
    · isplitl [HA]; · iexact HA
      isplitl [HO]; · iexact HO
      iexact HS
    iintro ⟨HA, HO, HS⟩
    isplitl [HO]; · iexact HO
    isplitl [HS]; · iexact HS
    isplitl [HB]; · iexact HB
    isplitl [HC]; · iexact HC
    iexact HA
theorem last_start (C : Nat) : iprop(OW c ∗ Slabs c D (C - 3) ∗ AS c D C ∗ AS c D (C + 1) ∗ AS c D (C + 2)) ⊢ LastI c D C 0 := by
  unfold LastI
  rw [Waited.first c D (Nat.le_refl C), Waited.first c D (C := C) (j := C + 1) (by omega), Waited.first c D (C := C) (j := C + 2) (by omega)]
  exact .rfl
theorem last_end (C : Nat) : LastI c D C (C - (C - 3)) ⊢ iprop(OW c ∗ Slabs c D C ∗ Idle (F := F) c C ∗ Idle (F := F) c (C + 1) ∗ Idle (F := F) c (C + 2)) := by
  unfold LastI
  rw [show C - 3 + (C - (C - 3)) = C by omega, Waited.done c D (t := C + 3) (j := C) (by omega), Waited.done c D (t := C + 3) (j := C + 1) (by omega), Waited.done c D (t := C + 3) (j := C + 2) (by omega)]
theorem idle3 (C : Nat) : iprop(Idle (F := F) c C ∗ Idle (F := F) c (C + 1) ∗ Idle (F := F) c (C + 2)) ⊢ iprop(Idle (F := F) c 0 ∗ Idle (F := F) c 1 ∗ Idle (F := F) c 2) := by
  have e : ∀ j, (Idle (F := F) c j : sProp 𝕄) = Idle c (j % 3) := fun j => by unfold Idle; rw [Nat.mod_mod]
  rw [e C, e (C + 1), e (C + 2)]
  rcases (show C % 3 = 0 ∨ C % 3 = 1 ∨ C % 3 = 2 by omega) with h | h | h
  · rw [h, show (C + 1) % 3 = 1 by omega, show (C + 2) % 3 = 2 by omega]
  · rw [h, show (C + 1) % 3 = 2 by omega, show (C + 2) % 3 = 0 by omega]
    iintro ⟨H1, H2, H0⟩
    isplitl [H0]; · iexact H0
    isplitl [H1]; · iexact H1
    iexact H2
  · rw [h, show (C + 1) % 3 = 0 by omega, show (C + 2) % 3 = 1 by omega]
    iintro ⟨H2, H0, H1⟩
    isplitl [H0]; · iexact H0
    isplitl [H1]; · iexact H1
    iexact H2
theorem acc_whole : iprop(Idle (F := F) c 0 ∗ Idle (F := F) c 1 ∗ Idle (F := F) c 2) ⊢ iprop(Whole (F := F) c aAcc ∗ Zr c (sAcc 0) ∗ Zr c (sAcc 1) ∗ Zr c (sAcc 2)) := by
  unfold Idle
  iintro ⟨⟨H0, Hv0⟩, ⟨H1, Hv1⟩, ⟨H2, Hv2⟩⟩
  isplitl [H0 H1 H2]
  · iapply (whole3 c aAcc (Nat.succ_pos 2) (band_univ (s := S3x2048x1408) (Nat.succ_pos 2)))
    isplitl [H0]; · iexact H0
    isplitl [H1]; · iexact H1
    iexact H2
  isplitl [Hv0]; · iexact Hv0
  isplitl [Hv1]; · iexact Hv1
  iexact Hv2
theorem acc_start : iprop(Whole (F := F) c aAcc ∗ Zr c (sAcc 0) ∗ Zr c (sAcc 1) ∗ Zr c (sAcc 2)) ⊢ iprop(AS c D 0 ∗ AS c D (0 + 1) ∗ AS c D (0 + 2)) := by
  unfold AS
  rw [if_neg (by decide : ¬ 3 ≤ 0), if_neg (by decide : ¬ 3 ≤ 0 + 1), if_neg (by decide : ¬ 3 ≤ 0 + 2)]
  unfold Idle
  iintro ⟨H, Hv0, Hv1, Hv2⟩
  ihave H := (cut3 c aAcc (Nat.succ_pos 2) (band_univ (s := S3x2048x1408) (Nat.succ_pos 2))) $$ H
  icases H with ⟨H0, H1, H2⟩
  isplitl [H0 Hv0]
  · isplitl [H0]; · iexact H0
    iexact Hv0
  isplitl [H1 Hv1]
  · isplitl [H1]; · iexact H1
    iexact Hv1
  isplitl [H2]; · iexact H2
  iexact Hv2

theorem wp_zeroAwaitThen {u : Nat} (hu : u < 8 * zcnt G 64) {off : Fin 3 → Nat} (inb : ∀ a, off a + S1x256x1408.size a ≤ S64x2048x1408.size a)
    {α : Type} (r : PUnit → Prog (TpuEff nD τ sig (Elt F) Λ₀ .tc) α) (K : α → sProp 𝕄) :
    iprop(ZW (F := F) c G u ∗ OW c) ⊢ iprop((iprop(ZW (F := F) c G (u + 1) ∗ OW c) -∗ WP c (r ⟨⟩) K) -∗ WP c (zeroAwait off inb >>= r) K) := by
  iintro H HK
  iapply (wp_seq c)
  iapply (wp_zeroAwait c G hu inb _) $$ H
  iexact HK
theorem wp_zeroWaits {e : Nat} (he : e < 64) (k : Fin k0_t7_loop.trips) {n : Elt F .i32} (hn : BitVec.toNat n = gn G e) (hle : gn G e ≤ 49152) (K : PUnit → sProp 𝕄) :
    iprop(ZW (F := F) c G (8 * zcnt G e) ∗ OW c) ⊢ iprop((iprop(ZW (F := F) c G (8 * zcnt G (e + 1)) ∗ OW c) -∗ K ⟨⟩) -∗ WP c (zeroWaits k n) K) := by
  unfold zeroWaits
  by_cases h0 : gn G e = 0
  · have hz := zcnt_lt G he h0
    rw [if_pos ((zero_iff (by omega)).mpr (hn.trans h0)), zcnt_none G h0, Nat.mul_succ]
    iintro H HK
    iapply (wp_zeroAwaitThen c (G := G) (u := 8 * zcnt G e) (by omega) _ _ K) $$ H; iintro H
    iapply (wp_zeroAwaitThen c (G := G) (u := 8 * zcnt G e + 1) (by omega) _ _ K) $$ H; iintro H
    iapply (wp_zeroAwaitThen c (G := G) (u := 8 * zcnt G e + 2) (by omega) _ _ K) $$ H; iintro H
    iapply (wp_zeroAwaitThen c (G := G) (u := 8 * zcnt G e + 3) (by omega) _ _ K) $$ H; iintro H
    iapply (wp_zeroAwaitThen c (G := G) (u := 8 * zcnt G e + 4) (by omega) _ _ K) $$ H; iintro H
    iapply (wp_zeroAwaitThen c (G := G) (u := 8 * zcnt G e + 5) (by omega) _ _ K) $$ H; iintro H
    iapply (wp_zeroAwaitThen c (G := G) (u := 8 * zcnt G e + 6) (by omega) _ _ K) $$ H; iintro H
    iapply (wp_zeroAwait c G (u := 8 * zcnt G e + 7) (by omega) _ K) $$ H
    iexact HK
  · rw [if_neg (fun h => h0 (hn ▸ (zero_iff (by omega)).mp h)), zcnt_some G h0]
    iintro H HK
    iapply (wp_pure_intro c)
    iapply HK; iexact H
/-- What is held while the zeros come in. -/
def ZeroI (e : Nat) : sProp 𝕄 := iprop(ZW (F := F) c G (8 * zcnt G e) ∗ OW c ∗ pt c aGs Finset.univ (G : S64.Idx → Elt F .i32))
theorem wp_zerosEnd (hG : ∀ e, gn G e ≤ 49152) (k : Fin k0_t7_loop.trips) (u : Unit) : ZeroI (F := F) c (G := G) k.val ⊢ WP c (zerosEnd k u) (fun _ => ZeroI (F := F) c (G := G) (k.val + 1)) := by
  have he : k.val < 64 := lt_of_lt_of_eq k.isLt t7_trips
  rw [zerosEnd_eq]
  unfold zeroEnd ZeroI
  iintro ⟨HZ, HO, HG⟩
  iapply (wp_gsLoad c G he (t7_offs k) _ _ _) $$ HG
  iintro HG
  iapply (wp_zeroWaits c (G := G) he k rfl (hG _) _) $$ [HZ HO]
  · isplitl [HZ]; · iexact HZ
    iexact HO
  iintro ⟨HZ, HO⟩
  isplitl [HZ]; · iexact HZ
  isplitl [HO]; · iexact HO
  iexact HG
theorem zeros_start : (ZS (F := F) c G (8 * zcnt G 64) : sProp 𝕄) ⊢ iprop(ptq c aZero (shareDrop fullShare (8 * zcnt G 64)) Finset.univ (Zf (F := F)) ∗ ZW (F := F) c G (8 * zcnt G 0)) := by
  unfold ZS ZW
  rw [show NZ * (8 * zcnt G 0) = 0 from Nat.mul_zero _]
end Finish

/-! ## The body -/

section Main
variable (c : Dev nD) {X : S49152x2048.Idx → Elt F .bf16} {Y : S49152x1408.Idx → Elt F .bf16} {T : Sums X Y} {G : S64.Idx → BitVec 32} (D : Goal T G)

/-- The scratch that is only used within the body. -/
def Scratch : sProp 𝕄 := iprop(Whole (F := F) c aXin ∗ Whole (F := F) c aDyin ∗ Whole (F := F) c aXco ∗ Whole (F := F) c aDyco ∗ Whole (F := F) c aXw ∗ Whole (F := F) c aDyw ∗ Whole (F := F) c aDym
  ∗ Whole (F := F) c aAcc ∗ Whole (F := F) c aZero)
/-- The cells the transfers complete on, none under way. -/
def Cells : sProp 𝕄 := iprop(Zr (F := F) c (sIn 0 0) ∗ Zr (F := F) c (sIn 0 1) ∗ Zr (F := F) c (sIn 0 2) ∗ Zr (F := F) c (sIn 0 3) ∗ Zr (F := F) c (sIn 1 0) ∗ Zr (F := F) c (sIn 1 1) ∗ Zr (F := F) c (sIn 1 2) ∗ Zr (F := F) c (sIn 1 3)
  ∗ Zr (F := F) c (sOut 0 0) ∗ Zr (F := F) c (sOut 0 1) ∗ Zr (F := F) c (sOut 1 0) ∗ Zr (F := F) c (sOut 1 1) ∗ Zr (F := F) c (sAcc 0) ∗ Zr (F := F) c (sAcc 1) ∗ Zr (F := F) c (sAcc 2) ∗ Zr (F := F) c sZero)
/-- What the body reads. -/
def Reads (X : S49152x2048.Idx → Elt F .bf16) (Y : S49152x1408.Idx → Elt F .bf16) (G : S64.Idx → BitVec 32) : sProp 𝕄 :=
  iprop(pt c aX Finset.univ X ∗ pt c aDy Finset.univ Y ∗ pt c aGs Finset.univ (G : S64.Idx → Elt F .i32))
def Before : sProp 𝕄 := iprop(Whole (F := F) c aDw ∗ Whole (F := F) c aXc ∗ Whole (F := F) c aXs ∗ Whole (F := F) c aDyc ∗ Whole (F := F) c aDys)
/-- The results. -/
def After : sProp 𝕄 := iprop((∃ g : S64x2048x1408.Idx → Elt F .f32, pt c aDw Finset.univ g ∗ ⌜∀ e < 64, D.DP e (slabW e g)⌝) ∗ pt c aXc Finset.univ (XC X) ∗ pt c aXs Finset.univ (XS X)
  ∗ pt c aDyc Finset.univ (YC Y) ∗ pt c aDys Finset.univ (YS Y))

/-- What is held before the first expert. -/
theorem experts_start (hz : zcnt G 0 = 0) : iprop(TilesX c X 2 ∗ TilesY c Y 2 ∗ OW c ∗ Whole (F := F) c aDym ∗ (AS c D 0 ∗ AS c D (0 + 1) ∗ AS c D (0 + 2)) ∗ Whole (F := F) c aDw
      ∗ pt c aZero Finset.univ (Zf (F := F)) ∗ Batched EC (c : Thread nD τ) (.dma sZero) () NZ (8 * zcnt G 64) [] 0 ∗ pt c aGs Finset.univ (G : S64.Idx → Elt F .i32))
    ⊢ ExpI c D 0 (0#32, 0#32, 2#32) := by
  unfold ExpI ZS Slabs
  have hw : Whole (F := F) c aDw ⊢ iprop(∃ f : S64x2048x1408.Idx → Elt F .f32, pt c aDw (band S64x2048x1408 0 64) f) := by
    unfold Whole
    rw [← band_univ (s := S64x2048x1408) (Nat.succ_pos 2)]
    exact .rfl
  have hb : (bigSep (Finset.range (cnt G 0 - 3)) (fun j => Slab c D (expertAt G j)) : sProp 𝕄) = iprop(emp) := by
    show bigSep (Finset.range 0) _ = _
    rw [Finset.range_zero, bigSep_empty]; rfl
  rw [hb]
  iintro ⟨HX, HY, HO, Hd, ⟨HA0, HA1, HA2⟩, HW, HZ, HB, HG⟩
  isplitr
  · ipureintro; exact ⟨rfl, rfl, QInv.zero⟩
  isplitl [HX]; · iexact HX
  isplitl [HY]; · iexact HY
  isplitl [HO]; · iexact HO
  isplitl [Hd]; · iexact Hd
  isplitl [HA0]; · iexact HA0
  isplitl [HA1]; · iexact HA1
  isplitl [HA2]; · iexact HA2
  isplitr; · iempintro
  isplitl [HW]
  · iapply hw; iexact HW
  isplitl [HZ HB]
  · isplitl [HZ]; · iexact HZ
    iexact HB
  iexact HG

theorem wp_lastCodes (K : PUnit → sProp 𝕄) : iprop((OX c X 192 ∗ OX c X 193 ∗ pt c aXc (band S49152x2048 0 48640) (XC X)) ∗ (OY c Y 192 ∗ OY c Y 193 ∗ pt c aDyc (band S49152x1408 0 48640) (YC Y)) ∗ OW c)
    ⊢ iprop((iprop((pt c aXc Finset.univ (XC X) ∗ Whole (F := F) c aXco ∗ Zr c (sOut 0 0) ∗ Zr c (sOut 0 1)) ∗ (pt c aDyc Finset.univ (YC Y) ∗ Whole (F := F) c aDyco ∗ Zr c (sOut 1 0) ∗ Zr c (sOut 1 1)) ∗ OW c) -∗ K ⟨⟩)
      -∗ WP c lastCodes K) := by
  unfold lastCodes
  iintro ⟨⟨HX0, HX1, HX⟩, ⟨HY0, HY1, HY⟩, HO⟩ HK
  iapply (wp_seq c)
  iapply (wp_codeWaitX c X 190#32 _ _) $$ [HX0 HO]
  · isplitl [HX0]; · iexact HX0
    iexact HO
  iintro ⟨HX0, HXs0, HXv0, HO⟩
  iapply (wp_seq c)
  iapply (wp_codeWaitY c Y 190#32 _ _) $$ [HY0 HO]
  · isplitl [HY0]; · iexact HY0
    iexact HO
  iintro ⟨HY0, HYs0, HYv0, HO⟩
  iapply (wp_seq c)
  iapply (wp_codeWaitX c X 191#32 _ _) $$ [HX1 HO]
  · isplitl [HX1]; · iexact HX1
    iexact HO
  iintro ⟨HX1, HXs1, HXv1, HO⟩
  iapply (wp_codeWaitY c Y 191#32 _ _) $$ [HY1 HO]
  · isplitl [HY1]; · iexact HY1
    iexact HO
  iintro ⟨HY1, HYs1, HYv1, HO⟩
  iapply HK
  isplitl [HX HX0 HX1 HXs0 HXs1 HXv0 HXv1]
  · ihave HC := (lastCodesX c X) $$ [HX HX0 HX1 HXs0 HXs1]
    · isplitl [HX]; · iexact HX
      isplitl [HX0 HXs0]
      · isplitl [HX0]; · iexact HX0
        iexact HXs0
      isplitl [HX1]; · iexact HX1
      iexact HXs1
    icases HC with ⟨HC, HB⟩
    isplitl [HC]; · iexact HC
    isplitl [HB]; · iexact HB
    isplitl [HXv0]; · iexact HXv0
    iexact HXv1
  isplitl [HY HY0 HY1 HYs0 HYs1 HYv0 HYv1]
  · ihave HC := (lastCodesY c Y) $$ [HY HY0 HY1 HYs0 HYs1]
    · isplitl [HY]; · iexact HY
      isplitl [HY0 HYs0]
      · isplitl [HY0]; · iexact HY0
        iexact HYs0
      isplitl [HY1]; · iexact HY1
      iexact HYs1
    icases HC with ⟨HC, HB⟩
    isplitl [HC]; · iexact HC
    isplitl [HB]; · iexact HB
    isplitl [HYv0]; · iexact HYv0
    iexact HYv1
  iexact HO

theorem dw_whole : iprop(∃ g : S64x2048x1408.Idx → Elt F .f32, pt c aDw (band S64x2048x1408 0 64) g ∗ ⌜∀ e < 64, D.DP e (slabW e g)⌝)
    ⊢ iprop(∃ g : S64x2048x1408.Idx → Elt F .f32, pt c aDw Finset.univ g ∗ ⌜∀ e < 64, D.DP e (slabW e g)⌝) := by
  rw [← band_univ (s := S64x2048x1408) (Nat.succ_pos 2)]
  exact .rfl

set_option maxHeartbeats 1000000 in
theorem wp_run (hG : gst G 64 = 49152) (hg : ∀ e, gn G e ≤ 49152) (K : PUnit → sProp 𝕄) :
    iprop(Reads c X Y G ∗ Before (F := F) c ∗ Scratch (F := F) c ∗ Cells (F := F) c ∗ OW c)
      ⊢ iprop((iprop(Reads c X Y G ∗ After c D ∗ Scratch (F := F) c ∗ Cells (F := F) c ∗ OW c) -∗ K ⟨⟩) -∗ WP c run K) := by
  unfold Reads Before Scratch Cells After run
  iintro ⟨⟨HX, HY, HG⟩, ⟨HW, HXc, HXs, HYc, HYs⟩, ⟨HXin, HYin, HXco, HYco, HXw, HYw, HYm, HAcc, HZ⟩,
    ⟨Hx0, Hx1, Hx2, Hx3, Hy0, Hy1, Hy2, Hy3, Ho0, Ho1, Hp0, Hp1, Ha0, Ha1, Ha2, Hz⟩, HO⟩ HK
  iapply (wp_seq c)
  iapply (wp_zeroFill c _) $$ HZ
  iintro HZ
  imod (batched_alloc EC (c : Thread nD τ) (sm := .dma sZero) () NZ (8 * zcnt G 64) (E := Set.univ)) $$ Hz with HB
  iapply (wp_seq c)
  iapply (wp_firstTiles c X Y _) $$ [HX HXin Hx0 Hx1 Hx2 Hx3 HY HYin Hy0 Hy1 Hy2 Hy3]
  · unfold FirstX FirstY
    isplitl [HX HXin Hx0 Hx1 Hx2 Hx3]
    · isplitl [HX]; · iexact HX
      isplitl [HXin]; · iexact HXin
      isplitl [Hx0]; · iexact Hx0
      isplitl [Hx1]; · iexact Hx1
      isplitl [Hx2]; · iexact Hx2
      iexact Hx3
    isplitl [HY]; · iexact HY
    isplitl [HYin]; · iexact HYin
    isplitl [Hy0]; · iexact Hy0
    isplitl [Hy1]; · iexact Hy1
    isplitl [Hy2]; · iexact Hy2
    iexact Hy3
  iintro ⟨HX, HY⟩
  iapply (wp_seq c)
  iapply (wp_firstLoop c X Y _) $$ [HX HXco Ho0 Ho1 HXc HXs HXw HY HYco Hp0 Hp1 HYc HYs HYw HO]
  · isplitl [HX HXco Ho0 Ho1 HXc HXs HXw]
    · iapply (tilesX_start c X)
      isplitl [HX]; · iexact HX
      isplitl [HXco]; · iexact HXco
      isplitl [Ho0]; · iexact Ho0
      isplitl [Ho1]; · iexact Ho1
      isplitl [HXc]; · iexact HXc
      isplitl [HXs]; · iexact HXs
      iexact HXw
    isplitl [HY HYco Hp0 Hp1 HYc HYs HYw]
    · iapply (tilesY_start c Y)
      isplitl [HY]; · iexact HY
      isplitl [HYco]; · iexact HYco
      isplitl [Hp0]; · iexact Hp0
      isplitl [Hp1]; · iexact Hp1
      isplitl [HYc]; · iexact HYc
      isplitl [HYs]; · iexact HYs
      iexact HYw
    iexact HO
  iintro ⟨HX, HY, HO⟩
  ihave HA := (acc_start c D) $$ [HAcc Ha0 Ha1 Ha2]
  · isplitl [HAcc]; · iexact HAcc
    isplitl [Ha0]; · iexact Ha0
    isplitl [Ha1]; · iexact Ha1
    iexact Ha2
  iapply (wp_seq c)
  iapply (Scf.wp_for _ _ _ _ _ _ k0_t2_ok (0#32, 0#32, 2#32) expertBody (fun e a => ExpI c D e a)
    (fun k a => wp_expert c D hG (lt_of_lt_of_eq k.isLt t2_trips) k rfl a))
  isplitl [HX HY HO HYm HA HW HZ HB HG]
  · iapply (experts_start c D rfl)
    isplitl [HX]; · iexact HX
    isplitl [HY]; · iexact HY
    isplitl [HO]; · iexact HO
    isplitl [HYm]; · iexact HYm
    isplitl [HA]; · iexact HA
    isplitl [HW]; · iexact HW
    isplitl [HZ]; · iexact HZ
    isplitl [HB]; · iexact HB
    iexact HG
  iintro %a HE
  have ht2 : Scf.trips k0_t2_loop.lb k0_t2_loop.ub k0_t2_loop.st = 64 := t2_trips
  rw [ht2]
  unfold ExpI
  icases HE with ⟨%ha, HX, HY, HO, HYm, HA0, HA1, HA2, HS, HW, HZ, HG⟩
  obtain ⟨h1, h2, h3⟩ := ha
  have hu : a.2.1.toNat ≤ 64 := by rw [h2]; exact cnt_le G 64
  have hq : a.2.2.toNat = 192 := by rw [hG] at h3; exact h3.last
  have hw : k0_chk4 a.2.1 := chk4_all hu
  rw [hq, ← h2]
  ihave HX := (tilesX_end c X) $$ HX
  ihave HY := (tilesY_end c Y) $$ HY
  icases HX with ⟨HX, HXin, Hx0, Hx1, Hx2, Hx3, HX1, HX2, HXc, HXs, HXw⟩
  icases HY with ⟨HY, HYin, Hy0, Hy1, Hy2, Hy3, HY1, HY2, HYc, HYs, HYw⟩
  iapply (wp_seq c)
  iapply (wp_assume Variants.none (c : Thread nD τ) none Set.univ hw)
  iapply (wp_pure_intro c)
  iapply (wp_seq c)
  iapply (wp_lastCodes c (X := X) (Y := Y) _) $$ [HX1 HX2 HXc HY1 HY2 HYc HO]
  · isplitl [HX1 HX2 HXc]
    · isplitl [HX1]; · iexact HX1
      isplitl [HX2]; · iexact HX2
      iexact HXc
    isplitl [HY1 HY2 HYc]
    · isplitl [HY1]; · iexact HY1
      isplitl [HY2]; · iexact HY2
      iexact HYc
    iexact HO
  iintro ⟨⟨HXc, HXco, Ho0, Ho1⟩, ⟨HYc, HYco, Hp0, Hp1⟩, HO⟩
  iapply (wp_seq c)
  iapply (Scf.wp_for _ _ _ _ _ _ (k0_t5_ok a.2.1 hw) 0#32 (lastSums a.2.1 hw) (fun k _ => LastI c D a.2.1.toNat k) (fun k b => wp_lastStep c D hu hw k b))
  isplitl [HO HS HA0 HA1 HA2]
  · iapply (last_start c D a.2.1.toNat)
    isplitl [HO]; · iexact HO
    isplitl [HS]; · iexact HS
    isplitl [HA0]; · iexact HA0
    isplitl [HA1]; · iexact HA1
    iexact HA2
  iintro %b HL
  have ht5 : Scf.trips (k0_t5_loop a.2.1).lb (k0_t5_loop a.2.1).ub (k0_t5_loop a.2.1).st = a.2.1.toNat - (a.2.1.toNat - 3) := (t5_trips hu).1
  rw [ht5]
  ihave HL := (last_end c D a.2.1.toNat) $$ HL
  icases HL with ⟨HO, HS, HA⟩
  iapply (wp_seq c)
  iapply (wp_noLoop c (k0_t6_ok a.2.1 hw) (t5_trips hu).2.1)
  ihave HZ := (zeros_start c (G := G)) $$ HZ
  icases HZ with ⟨HZ, HZW⟩
  iapply (wp_seq c)
  iapply (Scf.wp_for _ _ _ _ _ _ k0_t7_ok ⟨⟩ zerosEnd (fun e _ => ZeroI (F := F) c (G := G) e) (fun k u => wp_zerosEnd c hg k u))
  isplitl [HZW HO HG]
  · unfold ZeroI
    isplitl [HZW]; · iexact HZW
    isplitl [HO]; · iexact HO
    iexact HG
  iintro %u HI
  have ht7 : Scf.trips k0_t7_loop.lb k0_t7_loop.ub k0_t7_loop.st = 64 := t7_trips
  rw [ht7]
  unfold ZeroI
  icases HI with ⟨HZW, HO, HG⟩
  imod (zeros_all c G) $$ HZW with ⟨HD, Hz⟩
  ihave HZ := (zeros_back c G _) $$ [HD HZ]
  · isplitl [HD]; · iexact HD
    iexact HZ
  icases HZ with ⟨HB, HZ⟩
  rw [h2]
  ihave HW := (gather c D (Nat.le_refl 64)) $$ [HS HB]
  · isplitl [HS]; · iexact HS
    iexact HB
  ihave HW := (dw_whole c D) $$ HW
  ihave HA := (idle3 c (cnt G 64)) $$ HA
  ihave HA := (acc_whole c) $$ HA
  icases HA with ⟨HAcc, Ha0, Ha1, Ha2⟩
  iapply (wp_pure_intro c)
  iapply HK
  isplitl [HX HY HG]
  · isplitl [HX]; · iexact HX
    isplitl [HY]; · iexact HY
    iexact HG
  isplitl [HW HXc HXs HYc HYs]
  · isplitl [HW]; · iexact HW
    isplitl [HXc]; · iexact HXc
    isplitl [HXs]; · iexact HXs
    isplitl [HYc]; · iexact HYc
    iexact HYs
  isplitl [HXin HYin HXco HYco HXw HYw HYm HAcc HZ]
  · isplitl [HXin]; · iexact HXin
    isplitl [HYin]; · iexact HYin
    isplitl [HXco]; · iexact HXco
    isplitl [HYco]; · iexact HYco
    isplitl [HXw]; · iexact HXw
    isplitl [HYw]; · iexact HYw
    isplitl [HYm]; · iexact HYm
    isplitl [HAcc]; · iexact HAcc
    iexists (Zf (F := F)); iexact HZ
  isplitl [Hx0 Hx1 Hx2 Hx3 Hy0 Hy1 Hy2 Hy3 Ho0 Ho1 Hp0 Hp1 Ha0 Ha1 Ha2 Hz]
  · isplitl [Hx0]; · iexact Hx0
    isplitl [Hx1]; · iexact Hx1
    isplitl [Hx2]; · iexact Hx2
    isplitl [Hx3]; · iexact Hx3
    isplitl [Hy0]; · iexact Hy0
    isplitl [Hy1]; · iexact Hy1
    isplitl [Hy2]; · iexact Hy2
    isplitl [Hy3]; · iexact Hy3
    isplitl [Ho0]; · iexact Ho0
    isplitl [Ho1]; · iexact Ho1
    isplitl [Hp0]; · iexact Hp0
    isplitl [Hp1]; · iexact Hp1
    isplitl [Ha0]; · iexact Ha0
    isplitl [Ha1]; · iexact Ha1
    isplitl [Ha2]; · iexact Ha2
    iexact Hz
  iexact HO
end Main

end Cert.KernelIdeal.Hand
end
-- ==== Proof.Launch.lean ====
/-
The launch: the body's triple within the pipeline's region, and what the program ends with.
-/
module

public import proofs.«01_k».proof.Proof.Run
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue
public import Idealize.ShloMosaic.Lib.Pipeline.Value
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

open Idealize.ShloMosaic.Pipeline (Dat Cfg Window BodyObligation cellOf)
open Cert.KernelIdeal.Gen (launch0 N_0 t0_0 fin_N0 bigSep_W0 scopedRest0_eq unscopedRest0_eq main_chain fetch0_0 flush0_1 flush0_2 st0_0 st0_1 st0_2 bodyAt0)

variable (m : (ℓ : Loc nD τ sig) → Buf (Elt F) ℓ) (ρ : Dev nD → PrngReg)

def H0 : Finset (Ref sig .tc) := {main_arg0, main_arg1}
def R0 : Finset (Ref sig .tc) := {main_v0_0, main_v0_1, main_v0_3}
theorem H0_sub : H0 ⊆ Pipeline.restRefs sig spec0 := by decide
theorem R0_sub : R0 ⊆ Pipeline.restRefs sig spec0 \ H0 := by decide
abbrev V (c : Dev nD) (b : Ref sig .tc) : Buf (Elt F) ((c : Thread nD τ).loc b) := m ((c : Thread nD τ).loc b)
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The arguments on core `c`. -/
abbrev X0 (c : Dev nD) : S49152x2048.Idx → Elt F .bf16 := V m c main_arg0
abbrev Y0 (c : Dev nD) : S49152x1408.Idx → Elt F .bf16 := V m c main_arg1
abbrev G0 (c : Dev nD) : S64.Idx → BitVec 32 := fun i => (V m c main_arg2 : S64.Idx → Elt F .i32) i

/-! ## The cells and buffers by name -/

abbrev osem0 : Fin 16 → SemLoc sig := fun j => (![SemLoc.dma 3, SemLoc.dma 4, SemLoc.dma 5, SemLoc.dma 6, SemLoc.dma 7, SemLoc.dma 8, SemLoc.dma 9, SemLoc.dma 10,
  SemLoc.dma 11, SemLoc.dma 12, SemLoc.dma 13, SemLoc.dma 14, SemLoc.dma 15, SemLoc.dma 16, SemLoc.dma 17, SemLoc.dma 18] : Fin 16 → SemLoc sig) j
theorem ownSemFacts0 : Pipeline.OwnSemFacts spec0 osem0 := by decide
theorem cells_eq (c : Dev nD) :
    (Pipeline.ownSems0 (Ix := Unit) (Name := ℕ) (U := Pipeline.UD sig nD τ) (Lvl := ℕ) (Val := Elt F) (τ := τ) osem0 c : sProp 𝕄) = Cells c := by
  rw [Pipeline.ownSems0_eq_of_list c osem0 [0, 1, 2, 3, 4, 5, 6, 7, 8, 9, 10, 11, 12, 13, 14, 15] (by decide) (by decide)]; rfl
theorem scratch_eq (c : Dev nD) :
    (Pipeline.scopedRest (Ix := Unit) (Name := ℕ) (U := Pipeline.UD sig nD τ) (Lvl := ℕ) (Val := Elt F) spec0 c : sProp 𝕄) = Scratch c := by
  rw [scopedRest0_eq]; rfl
theorem read_eq (c : Dev nD) :
    (bigSep H0 (fun b => ((c : Thread nD τ).loc b) ↦{fullShare} V m c b) : sProp 𝕄) = iprop(pt c aX Finset.univ (X0 m c) ∗ pt c aDy Finset.univ (Y0 m c)) := by
  rw [BI.bigSep_eq_bigSepL_of_eq [main_arg0, main_arg1] (by decide) (by decide)]; rfl
theorem owned_eq (c : Dev nD) : (Pipeline.owned R0 c : sProp 𝕄) = iprop(Whole (F := F) c aDw ∗ Whole (F := F) c aXc ∗ Whole (F := F) c aDyc) := by
  unfold Pipeline.owned
  rw [BI.bigSep_eq_bigSepL_of_eq [main_v0_0, main_v0_1, main_v0_3] (by decide) (by decide)]; rfl
theorem written_eq (c : Dev nD) (W : (b : Ref sig .tc) → Buf (Elt F) ((c : Thread nD τ).loc b)) :
    (Pipeline.routed R0 c W : sProp 𝕄) = iprop(pt c aDw Finset.univ (W main_v0_0) ∗ pt c aXc Finset.univ (W main_v0_1) ∗ pt c aDyc Finset.univ (W main_v0_3)) := by
  unfold Pipeline.routed
  rw [BI.bigSep_eq_bigSepL_of_eq [main_v0_0, main_v0_1, main_v0_3] (by decide) (by decide)]; rfl
/-- What the body is entered with. -/
theorem in_eq (c : Dev nD) : (Pipeline.ΦDR osem0 spec0 H0 R0 (V m) c : sProp 𝕄)
    = iprop(Scratch (F := F) c ∗ (∃ r, prngReg c r) ∗ Cells (F := F) c ∗ (pt c aX Finset.univ (X0 m c) ∗ pt c aDy Finset.univ (Y0 m c))
      ∗ (Whole (F := F) c aDw ∗ Whole (F := F) c aXc ∗ Whole (F := F) c aDyc)) := by
  rw [Pipeline.ΦDR_eq, scratch_eq, cells_eq, read_eq, owned_eq]

/-! ## The one point's windows -/

theorem st0 (t : Fin cfg0.N) : st0_0 t = aGs := by obtain rfl := fin_N0 t; rfl
theorem st1 (t : Fin cfg0.N) : st0_1 t = aXs := by obtain rfl := fin_N0 t; rfl
theorem st2 (t : Fin cfg0.N) : st0_2 t = aDys := by obtain rfl := fin_N0 t; rfl
theorem body_eq (t : Fin cfg0.N) : (bodyAt0 t : Prog (TpuEff nD τ sig (Elt F) Λ₀ .tc) PUnit) = run := by
  obtain rfl := fin_N0 t
  exact kernel_eq
theorem idx0 (t : Fin cfg0.N) : win0_0.index t (0 : Fin 1) = 0 := by obtain rfl := fin_N0 t; rfl
theorem idx1 (t : Fin cfg0.N) : win0_1.index t (0 : Fin 2) = 0 ∧ win0_1.index t (1 : Fin 2) = 0 := by obtain rfl := fin_N0 t; exact ⟨rfl, rfl⟩
theorem idx2 (t : Fin cfg0.N) : win0_2.index t (0 : Fin 2) = 0 ∧ win0_2.index t (1 : Fin 2) = 0 := by obtain rfl := fin_N0 t; exact ⟨rfl, rfl⟩
theorem emb0 (t : Fin cfg0.N) (j : S64.Idx) : ((cfg0.win 0).blk t).view.emb j = j := by
  have e0 := idx0 t
  funext a; apply Fin.ext
  match a with
  | ⟨0, _⟩ => show win0_0.index t (0 : Fin 1) * 64 + 1 * (j 0).val = (j 0).val; omega
theorem emb1 (t : Fin cfg0.N) (j : S384x2048.Idx) : ((cfg0.win 1).blk t).view.emb j = j := by
  obtain ⟨e0, e1⟩ := idx1 t
  funext a; apply Fin.ext
  match a with
  | ⟨0, _⟩ => show win0_1.index t (0 : Fin 2) * 384 + 1 * (j 0).val = (j 0).val; omega
  | ⟨1, _⟩ => show win0_1.index t (1 : Fin 2) * 2048 + 1 * (j 1).val = (j 1).val; omega
theorem emb2 (t : Fin cfg0.N) (j : S384x11.Idx) : ((cfg0.win 2).blk t).view.emb j = j := by
  obtain ⟨e0, e1⟩ := idx2 t
  funext a; apply Fin.ext
  match a with
  | ⟨0, _⟩ => show win0_2.index t (0 : Fin 2) * 384 + 1 * (j 0).val = (j 0).val; omega
  | ⟨1, _⟩ => show win0_2.index t (1 : Fin 2) * 11 + 1 * (j 1).val = (j 1).val; omega
/-- The one block of the group sizes. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
theorem iblk0_eq (c : Dev nD) (t : Fin cfg0.N) : iblk m c 0 t = V m c main_arg2 := by
  funext j; show V m c main_arg2 (((cfg0.win 0).blk t).view.emb j) = V m c main_arg2 j; rw [emb0]

/-! ## The proof data -/

section Data
variable {m}
variable {T : (c : Dev nD) → Sums (X0 m c) (Y0 m c)} (D : (c : Dev nD) → Goal (T c) (G0 m c))

/-- What the body leaves. -/
def Out (c : Dev nD) : sProp 𝕄 :=
  iprop(Scratch (F := F) c ∗ (∃ r, prngReg c r) ∗ Cells (F := F) c ∗ (pt c aX Finset.univ (X0 m c) ∗ pt c aDy Finset.univ (Y0 m c))
    ∗ ((∃ g : S64x2048x1408.Idx → Elt F .f32, pt c aDw Finset.univ g ∗ ⌜∀ e < 64, (D c).DP e (slabW e g)⌝) ∗ pt c aXc Finset.univ (XC (X0 m c)) ∗ pt c aDyc Finset.univ (YC (Y0 m c))))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => XS (X0 m c)
    | ⟨2, _⟩ => YS (Y0 m c)
  Φ t := if t.val = 0 then Pipeline.ΦDR osem0 spec0 H0 R0 (V m) c else Out D c
  q _ := fullShare
  owed _ := 0

theorem A_eq (c : Dev nD) (w : Fin cfg0.W) : (dats D 0 c).A w = V m c (Pipeline.arrRef spec0 w) := by dsimp only [dats]
theorem after0 (c : Dev nD) (t : Fin cfg0.N) : (dats D 0 c).after 0 t = iblk m c 0 t := by dsimp only [dats]
theorem after1 (c : Dev nD) (t : Fin cfg0.N) : (dats D 0 c).after 1 t = XS (X0 m c) := by dsimp only [dats]
theorem after2 (c : Dev nD) (t : Fin cfg0.N) : (dats D 0 c).after 2 t = YS (Y0 m c) := by dsimp only [dats]
theorem before0 (c : Dev nD) (t : Fin cfg0.N) (d) : (dats D 0 c).before 0 t d = iblk m c 0 t :=
  ((dats D 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem Phi_eq (c : Dev nD) (t : Fin (cfg0.N + 1)) : (dats D 0 c).Φ t = if t.val = 0 then Pipeline.ΦDR osem0 spec0 H0 R0 (V m) c else Out D c := by dsimp only [dats]
theorem Phi_first (c : Dev nD) (t : Fin cfg0.N) : (dats D 0 c).Φ t.castSucc = Pipeline.ΦDR osem0 spec0 H0 R0 (V m) c := by
  obtain rfl := fin_N0 t; rw [Phi_eq]; exact if_pos rfl
theorem Phi_last (c : Dev nD) (t : Fin cfg0.N) : (dats D 0 c).Φ t.succ = Out D c := by
  rw [Phi_eq, Fin.val_succ, if_neg (Nat.succ_ne_zero _)]

def bodyPre (c : Dev nD) (t : Fin cfg0.N) : sProp 𝕄 :=
  iprop((dats D 0 c).Φ t.castSucc ∗ (dats D 0 c).owesAt () t.castSucc
    ∗ (∃ d, owns (c : Thread nD τ) (st0_0 t) fullShare ((dats D 0 c).before 0 t d))
    ∗ (∃ d, owns (c : Thread nD τ) (st0_1 t) fullShare ((dats D 0 c).before 1 t d))
    ∗ (∃ d, owns (c : Thread nD τ) (st0_2 t) fullShare ((dats D 0 c).before 2 t d)))
def bodyPost (c : Dev nD) (t : Fin cfg0.N) : sProp 𝕄 :=
  iprop((dats D 0 c).Φ t.succ ∗ (dats D 0 c).owesAt () t.succ
    ∗ owns (c : Thread nD τ) (st0_0 t) fullShare ((dats D 0 c).after 0 t)
    ∗ owns (c : Thread nD τ) (st0_1 t) fullShare ((dats D 0 c).after 1 t)
    ∗ owns (c : Thread nD τ) (st0_2 t) fullShare ((dats D 0 c).after 2 t))

theorem in0 (c : Dev nD) (t : Fin cfg0.N) : iprop(∃ d, owns (c : Thread nD τ) (st0_0 t) fullShare ((dats D 0 c).before 0 t d)) ⊢ (pt c aGs Finset.univ (G0 m c : S64.Idx → Elt F .i32) : sProp 𝕄) := by
  obtain rfl := fin_N0 t
  iintro ⟨%d, H⟩
  rw [before0, iblk0_eq]
  iapply (Entails.of_eq (owns_whole (c : Thread nD τ) cc0_stg0_0 fullShare (V m c main_arg2)))
  iexact H
theorem in1 (c : Dev nD) (t : Fin cfg0.N) : iprop(∃ d, owns (c : Thread nD τ) (st0_1 t) fullShare ((dats D 0 c).before 1 t d)) ⊢ (Whole (F := F) c aXs : sProp 𝕄) := by
  obtain rfl := fin_N0 t
  iintro ⟨%d, H⟩
  iexists _
  iapply (Entails.of_eq (owns_whole (c : Thread nD τ) cc0_stg1_0 fullShare _))
  iexact H
theorem in2 (c : Dev nD) (t : Fin cfg0.N) : iprop(∃ d, owns (c : Thread nD τ) (st0_2 t) fullShare ((dats D 0 c).before 2 t d)) ⊢ (Whole (F := F) c aDys : sProp 𝕄) := by
  obtain rfl := fin_N0 t
  iintro ⟨%d, H⟩
  iexists _
  iapply (Entails.of_eq (owns_whole (c : Thread nD τ) cc0_stg2_0 fullShare _))
  iexact H
theorem outs (c : Dev nD) (t : Fin cfg0.N) : (iprop(pt c aGs Finset.univ (G0 m c : S64.Idx → Elt F .i32) ∗ pt c aXs Finset.univ (XS (X0 m c)) ∗ pt c aDys Finset.univ (YS (Y0 m c))) : sProp 𝕄)
    ⊢ iprop(owns (c : Thread nD τ) (st0_0 t) fullShare ((dats D 0 c).after 0 t) ∗ owns (c : Thread nD τ) (st0_1 t) fullShare ((dats D 0 c).after 1 t)
      ∗ owns (c : Thread nD τ) (st0_2 t) fullShare ((dats D 0 c).after 2 t)) := by
  rw [after0, after1, after2, iblk0_eq]
  obtain rfl := fin_N0 t
  iintro ⟨H0, H1, H2⟩
  isplitl [H0]
  · iapply (Entails.of_eq (owns_whole (c : Thread nD τ) cc0_stg0_0 fullShare (V m c main_arg2)).symm); iexact H0
  isplitl [H1]
  · iapply (Entails.of_eq (owns_whole (c : Thread nD τ) cc0_stg1_0 fullShare (XS (X0 m c))).symm); iexact H1
  iapply (Entails.of_eq (owns_whole (c : Thread nD τ) cc0_stg2_0 fullShare (YS (Y0 m c))).symm); iexact H2

variable (hpre : ∀ c, gst (G0 m c) 64 = 49152 ∧ ∀ e, gn (G0 m c) e ≤ 49152)
include hpre
theorem sound_body (c : Dev nD) (t : Fin cfg0.N) : bodyPre D c t ⊢ wp frame (wpE (defs₀ (F := F)) Variants.none c none) Set.univ (bodyAt0 t) (fun _ => bodyPost D c t) := by
  unfold bodyPre bodyPost
  rw [Phi_first, Phi_last, in_eq, body_eq]
  unfold Dat.owesAt Pipeline.owesWithin
  rw [show (dats D 0 c).owed t.castSucc = 0 from rfl, show (dats D 0 c).owed t.succ = 0 from rfl]
  unfold Out
  iintro ⟨⟨HS, Hg, HC, ⟨HX, HY⟩, ⟨HW, HXc, HYc⟩⟩, ⟨%W, -, HO⟩, H0, H1, H2⟩
  ihave H0 := (in0 D c t) $$ H0
  ihave H1 := (in1 D c t) $$ H1
  ihave H2 := (in2 D c t) $$ H2
  iapply (wp_run c (D c) (hpre c).1 (hpre c).2 _) $$ [HS HC HX HY HW HXc HYc HO H0 H1 H2]
  · unfold Reads Before
    isplitl [HX HY H0]
    · isplitl [HX]; · iexact HX
      isplitl [HY]; · iexact HY
      iexact H0
    isplitl [HW HXc HYc H1 H2]
    · isplitl [HW]; · iexact HW
      isplitl [HXc]; · iexact HXc
      isplitl [H1]; · iexact H1
      isplitl [HYc]; · iexact HYc
      iexact H2
    isplitl [HS]; · iexact HS
    isplitl [HC]; · iexact HC
    unfold OW; iexists W; iexact HO
  unfold Reads After OW
  iintro ⟨⟨HX, HY, H0⟩, ⟨HW, HXc, H1, HYc, H2⟩, HS, HC, ⟨%W', HO⟩⟩
  isplitl [HS Hg HC HX HY HW HXc HYc]
  · isplitl [HS]; · iexact HS
    isplitl [Hg]; · iexact Hg
    isplitl [HC]; · iexact HC
    isplitl [HX HY]
    · isplitl [HX]; · iexact HX
      iexact HY
    isplitl [HW]; · iexact HW
    isplitl [HXc]; · iexact HXc
    iexact HYc
  isplitl [HO]
  · iexists W'; isplitr; · ipureintro; exact fun _ _ => Or.inl trivial
    iexact HO
  iapply (outs D c t)
  isplitl [H0]; · iexact H0
  isplitl [H1]; · iexact H1
  iexact H2

omit hpre in
theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats D 0 c) (defs₀ (F := F)) Variants.none () Set.univ := fun t => by
  rw [bigSep_W0, bigSep_W0, defs₀_row]
  exact triple_restated (sound_body D hpre c t) rfl .rfl fun _ => .rfl

omit hpre in
theorem Phi_zero (c : Dev nD) : (dats D 0 c).Φ 0 = Pipeline.ΦDR osem0 spec0 H0 R0 (V m) c := by rw [Phi_eq]; exact if_pos rfl
omit hpre in
theorem Phi_end (c : Dev nD) : (dats D 0 c).Φ (Fin.last cfg0.N) = Out D c := by
  rw [Phi_eq, if_neg]
  rw [Fin.val_last]; show ¬ grid0.N = 0; rw [N_0]; decide
omit hpre in
theorem out_owned (c : Dev nD) : Out D c ⊢ Pipeline.ΦDR osem0 spec0 H0 R0 (V m) c := by
  rw [in_eq]
  unfold Out
  iintro ⟨HS, Hg, HC, HR, ⟨⟨%g, HW, -⟩, HXc, HYc⟩⟩
  isplitl [HS]; · iexact HS
  isplitl [Hg]; · iexact Hg
  isplitl [HC]; · iexact HC
  isplitl [HR]; · iexact HR
  isplitl [HW]; · iexists g; iexact HW
  isplitl [HXc]; · iexists _; iexact HXc
  iexists _; iexact HYc

set_option backward.isDefEq.respectTransparency.types false in
theorem run_main : θ_run defs (onTc (τ := τ) (main (F := F))) (s₀ m ρ) (fun r => Pipeline.FramePostR cfgs (dats D) 0 R0 (V m) r ∧ r.2.sem = fun _ => 0) :=
  Pipeline.θ_run_frame_dmaR (Q' := _) cfgs (dats D) (0 : Fin 1) launch0 osem0 defs₀ Variants.none ownSemFacts0 H0 R0 H0_sub R0_sub m ρ main
    (hbody := fun c => (body_obligation D hpre c).loose) (hshare := fun c => (dats D 0 c).share_full fun _ => rfl)
    (howed := fun _ _ => rfl) (V := V m) (hmain := hmain m Variants.none) (hA := A_eq D)
    (hin := fun c => Entails.of_eq (Phi_zero D c).symm) (hout := fun c => (Entails.of_eq (Phi_end D c)).trans (out_owned D c))

/-- The results' contents. -/
def Res (dw : (c : Dev nD) → S64x2048x1408.Idx → Elt F .f32) (c : Dev nD) (b : Ref sig .tc) : Buf (Elt F) ((c : Thread nD τ).loc b) :=
  Function.update (Function.update (Function.update (V m c) main_v0_0 (dw c)) main_v0_1 (XC (X0 m c))) main_v0_3 (YC (Y0 m c)) b
omit hpre in
theorem res0 (dw : (c : Dev nD) → S64x2048x1408.Idx → Elt F .f32) (c : Dev nD) : Res (m := m) dw c main_v0_0 = dw c := by
  unfold Res
  rw [Function.update_of_ne (by decide), Function.update_of_ne (by decide), Function.update_self]
omit hpre in
theorem res1 (dw : (c : Dev nD) → S64x2048x1408.Idx → Elt F .f32) (c : Dev nD) : Res (m := m) dw c main_v0_1 = XC (X0 m c) := by
  unfold Res
  rw [Function.update_of_ne (by decide), Function.update_self]
omit hpre in
theorem res3 (dw : (c : Dev nD) → S64x2048x1408.Idx → Elt F .f32) (c : Dev nD) : Res (m := m) dw c main_v0_3 = YC (Y0 m c) := by
  unfold Res
  rw [Function.update_self]
variable (dw : (c : Dev nD) → S64x2048x1408.Idx → Elt F .f32) (hdw : ∀ c (g : S64x2048x1408.Idx → Elt F .f32), (∀ e < 64, (D c).DP e (slabW e g)) → g = dw c)
omit hpre in
include hdw in
theorem out_res (c : Dev nD) : Out D c ⊢ Pipeline.ΦDRG osem0 spec0 H0 R0 (V m) (Res (m := m) dw) c := by
  rw [Pipeline.ΦDRG_eq, scratch_eq, cells_eq, read_eq, written_eq, res0, res1, res3]
  unfold Out
  iintro ⟨HS, Hg, HC, HR, ⟨⟨%g, HW, %hg⟩, HXc, HYc⟩⟩
  rw [← hdw c g hg]
  isplitl [HS]; · iexact HS
  isplitl [Hg]; · iexact Hg
  isplitl [HC]; · iexact HC
  isplitl [HR]; · iexact HR
  isplitl [HW]; · iexact HW
  isplitl [HXc]; · iexact HXc
  iexact HYc
include hdw in
set_option backward.isDefEq.respectTransparency.types false in
theorem run_main_vals : θ_run defs (onTc (τ := τ) (main (F := F))) (s₀ m ρ) (Pipeline.FramePostRG cfgs (dats D) 0 R0 (V m) (Res (m := m) dw)) :=
  Pipeline.θ_run_frame_dmaRG (Q' := _) cfgs (dats D) (0 : Fin 1) launch0 osem0 defs₀ Variants.none ownSemFacts0 H0 R0 H0_sub R0_sub m ρ main
    (hbody := fun c => (body_obligation D hpre c).loose) (hshare := fun c => (dats D 0 c).share_full fun _ => rfl)
    (howed := fun _ _ => rfl) (V := V m) (hmain := hmain m Variants.none) (hA := A_eq D) (G := Res (m := m) dw)
    (hin := fun c => (Pipeline.ΦDRG_ΦDR osem0 spec0 H0 R0 (V m) (V m) c).trans (Entails.of_eq (Phi_zero D c).symm)) (hout := fun c => (Entails.of_eq (Phi_end D c)).trans (out_res D dw hdw c))

omit hpre in
theorem cut1_eq (t : Fin cfg0.N) (x : S384x2048.Idx → Elt F .f32) : (cfg0.win 1).cut (grid0.coords t) x = ((cfg0.win 1).blk t).view.read (Elt F) x := by
  funext j
  show x j = x (((cfg0.win 1).blk t).view.emb j)
  rw [emb1]
omit hpre in
theorem cut2_eq (t : Fin cfg0.N) (x : S384x11.Idx → Elt F .f32) : (cfg0.win 2).cut (grid0.coords t) x = ((cfg0.win 2).blk t).view.read (Elt F) x := by
  funext j
  show x j = x (((cfg0.win 2).blk t).view.emb j)
  rw [emb2]
omit hpre in
theorem final1 (c : Dev nD) : (dats D 0 c).arrAt 1 cfg0.N = XS (X0 m c) :=
  (dats D 0 c).arrAt_eq_of_cover 1 (XS (X0 m c)) (fun t _ => by
    show (cfg0.win 1).cut (grid0.coords t) ((dats D 0 c).after 1 t) = _
    rw [after1]; exact cut1_eq t _) (fun i => ⟨t0_0, flush0_1 _, by
    have h := ((cfg0.win 1).blk t0_0).view.emb_mem_set i; rwa [emb1] at h⟩)
omit hpre in
theorem final2 (c : Dev nD) : (dats D 0 c).arrAt 2 cfg0.N = YS (Y0 m c) :=
  (dats D 0 c).arrAt_eq_of_cover 2 (YS (Y0 m c)) (fun t _ => by
    show (cfg0.win 2).cut (grid0.coords t) ((dats D 0 c).after 2 t) = _
    rw [after2]; exact cut2_eq t _) (fun i => ⟨t0_0, flush0_2 _, by
    have h := ((cfg0.win 2).blk t0_0).view.emb_mem_set i; rwa [emb2] at h⟩)
omit hpre in
theorem args_of {r : PUnit × MemSt nD τ sig (Elt F)} (h : Pipeline.FramePostR cfgs (dats D) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(h c).2 main_arg0 (Finset.mem_sdiff.mpr ⟨Pipeline.mem_restRefs_of main_arg0 (by decide) (by decide), by decide⟩),
    (h c).2 main_arg1 (Finset.mem_sdiff.mpr ⟨Pipeline.mem_restRefs_of main_arg1 (by decide) (by decide), by decide⟩),
    ((h c).1 0).trans ((Dat.arrAt_in (dats D 0 c) 0 rfl _).trans (A_eq D c 0))⟩
include hdw in
/-- The run with every result named. -/
theorem run_vals : θ_run defs (onTc (τ := τ) (main (F := F))) ⟨m, fun _ => 0, ρ⟩ (fun r => ∀ c : Dev nD,
      r.2.mem ((c.tc : Thread nD τ).loc main_v0_0) = dw c
      ∧ r.2.mem ((c.tc : Thread nD τ).loc main_v0_1) = XC (X0 m c)
      ∧ r.2.mem ((c.tc : Thread nD τ).loc main_v0_2) = XS (X0 m c)
      ∧ r.2.mem ((c.tc : Thread nD τ).loc main_v0_3) = YC (Y0 m c)
      ∧ r.2.mem ((c.tc : Thread nD τ).loc main_v0_4) = YS (Y0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2 c main_v0_0 (by decide)).trans (res0 dw c), (h.2 c main_v0_1 (by decide)).trans (res1 dw c), ((h.1 c).1 1).trans (final1 D c),
    (h.2 c main_v0_3 (by decide)).trans (res3 dw c), ((h.1 c).1 2).trans (final2 D c), args_of D h.1 c⟩) (run_main_vals ρ D hpre dw hdw)
end Data

/-! ## The frame -/

/-- Of the sums, nothing. -/
def noSumsKnown (X : S49152x2048.Idx → Elt F .bf16) (Y : S49152x1408.Idx → Elt F .bf16) : Sums X Y where
  AP _ _ _ _ _ := True
  ap0 _ _ _ _ := trivial
  step _ _ _ _ _ _ _ _ _ := trivial
def noGoal (X : S49152x2048.Idx → Elt F .bf16) (Y : S49152x1408.Idx → Elt F .bf16) (G : S64.Idx → BitVec 32) : Goal (noSumsKnown X Y) G where
  DP _ _ := True
  fin _ _ _ _ _ _ _ _ _ _ _ := trivial
  zero _ _ _ := trivial
/-- The program ends, its arguments unchanged and no transfer under way, whatever the arithmetic. -/
theorem run_frame (hpre : ∀ c, gst (G0 m c) 64 = 49152 ∧ ∀ e, gn (G0 m c) e ≤ 49152) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => args_of (fun c => noGoal (X0 m c) (Y0 m c) (G0 m c)) h.1 c, h.2⟩) (run_main ρ (fun c => noGoal (X0 m c) (Y0 m c) (G0 m c)) hpre)

end Cert.KernelIdeal.Hand
end
-- ==== Proof.Fill.lean ====
/-
What the precondition says of the group sizes: none exceeds the tokens, and together they are all of them.
-/
module

public import proofs.«01_k».proof.Proof.Count
public import proofs.«01_k».proof.Proof.Gen.Pre_groups_fill
public import proofs.«01_k».proof.Proof.Gen.Pre_groups_fill_finite
public import Idealize.ShloMosaic.Lib.ReduceAll
public import Idealize.ShloMosaic.Lib.Routing.Ops
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

variable {F : FTy → Type} [FloatOps F]
local notation "𝕄" => MT nD τ sig Unit (Elt F) ℕ (Pipeline.UD sig nD τ) ℕ

/-- A word between the signed words zero and 49152. -/
theorem word_le (b : BitVec 32) (h1 : (0#32).toInt ≤ b.toInt) (h2 : b.toInt ≤ (49152#32).toInt) : b.toNat ≤ 49152 := by
  rw [show (0#32).toInt = 0 by decide] at h1
  rw [show (49152#32).toInt = 49152 by decide] at h2
  rw [BitVec.toInt_eq_toNat_cond] at h1 h2
  have := b.isLt
  split_ifs at h1 h2 <;> omega
theorem gst_sum (G : S64.Idx → BitVec 32) : ∀ n, ((List.range n).map (gn G)).sum = gst G n
  | 0 => rfl
  | n + 1 => by rw [List.range_succ, List.map_append, List.sum_append, gst_sum G n]; rfl
theorem gst_le (G : S64.Idx → BitVec 32) (h : ∀ e, gn G e ≤ 49152) : ∀ n, gst G n ≤ 49152 * n
  | 0 => Nat.le_refl _
  | n + 1 => by have := gst_le G h n; have := h n; show gst G n + gn G n ≤ _; omega
/-- What the comparisons and the wrapped sum say. -/
theorem fill_of (G : S64.Idx → BitVec 32) (hb : Cert.Pre_groups_fill.S_.BroadcastsInDim S64 (![] : Fin 0 → Fin S64.rank))
    (hr : S64.ReducesTo [0] Cert.Pre_groups_fill.S_) (hu : 0 < Cert.Pre_groups_fill.S_.numel) (i0 : Cert.Pre_groups_fill.S_.Idx)
    (ha : Host.reduce IntOp.andi (andi (cmpi .sge G (broadcastInDim S64 ![] hb (constantI Cert.Pre_groups_fill.S_ 32 0#32)))
      (cmpi .sle G (broadcastInDim S64 ![] hb (constantI Cert.Pre_groups_fill.S_ 32 49152#32)))) (constantI Cert.Pre_groups_fill.S_ 1 1#1) hr hu i0 = 1#1)
    (hs : IntOp.cmpi .eq (Host.reduce IntOp.addi G (constantI Cert.Pre_groups_fill.S_ 32 0#32) hr hu i0) 49152#32 = 1#1) :
    gst G 64 = 49152 ∧ ∀ e, gn G e ≤ 49152 := by
  haveI : Subsingleton Cert.Pre_groups_fill.S_.Idx := ⟨fun a b => funext fun k => k.elim0⟩
  have hg : ∀ e, gn G e ≤ 49152 := fun e => by
    have h := Host.reduce_andi_all _ _ _ _ _ ha (ix1 ⟨e % 64, Nat.mod_lt _ (by decide)⟩)
    obtain ⟨h1, h2⟩ := IntOp.andi_eq_one.1 h
    exact word_le _ (IntOp.cmpi_sge.1 h1) (IntOp.cmpi_sle.1 h2)
  refine ⟨?_, hg⟩
  have h := IntOp.cmpi_eq.1 hs
  have e0 : i0 = ix0 := Subsingleton.elim _ _
  rw [e0] at h
  have hsum := Routing.reduce_sum (N := 64) G (gn G) (fun i => by
    unfold gn
    rw [BitVec.ofNat_toNat, BitVec.setWidth_eq]
    exact congrArg (fun k => G (ix1 k)) (Fin.ext (Nat.mod_eq_of_lt i.isLt).symm)) hr hu
  have h2 := congrArg BitVec.toNat (hsum.symm.trans h)
  rw [gst_sum, BitVec.toNat_ofNat, Nat.mod_eq_of_lt (by have := gst_le G hg 64; omega)] at h2
  exact h2
theorem fill (x : FVec F S49152x2048 .bf16) (y : FVec F S49152x1408 .bf16) (G : S64.Idx → BitVec 32) (h : Cert.Pre_groups_fill.fn (F := F) x y G = fun _ => 1#1) :
    gst G 64 = 49152 ∧ ∀ e, gn G e ≤ 49152 := by
  have h := congrFun h ix0
  unfold Cert.Pre_groups_fill.fn at h
  obtain ⟨ha, hs⟩ := IntOp.andi_eq_one.1 h
  exact fill_of G _ _ _ _ ha hs
theorem fill_finite (x : FVec F S49152x2048 .bf16) (y : FVec F S49152x1408 .bf16) (G : S64.Idx → BitVec 32) (h : Cert.Pre_groups_fill_finite.fn (F := F) x y G = fun _ => 1#1) :
    (gst G 64 = 49152 ∧ ∀ e, gn G e ≤ 49152)
      ∧ (∀ i, FloatOps.cmpf .ole (FloatOps.hostAbsf (x i)) (constant (F := F) Cert.Pre_groups_fill.S_ .bf16 0x7F7F#16 ix0) = 1#1)
      ∧ (∀ i, FloatOps.cmpf .ole (FloatOps.hostAbsf (y i)) (constant (F := F) Cert.Pre_groups_fill.S_ .bf16 0x7F7F#16 ix0) = 1#1) := by
  haveI : Subsingleton Cert.Pre_groups_fill.S_.Idx := ⟨fun a b => funext fun k => k.elim0⟩
  haveI : Subsingleton Cert.Pre_groups_fill_finite.S_.Idx := ⟨fun a b => funext fun k => k.elim0⟩
  have h := congrFun h ix0
  unfold Cert.Pre_groups_fill_finite.fn Cert.Pre_groups_fill_finite.fn_part1 at h
  obtain ⟨h1, hy⟩ := IntOp.andi_eq_one.1 h
  obtain ⟨h2, hx⟩ := IntOp.andi_eq_one.1 h1
  obtain ⟨ha, hs⟩ := IntOp.andi_eq_one.1 h2
  exact ⟨fill_of G _ _ _ _ ha hs, fun i => Host.reduce_andi_all _ _ _ _ _ hx i, fun i => Host.reduce_andi_all _ _ _ _ _ hy i⟩

end Cert.KernelIdeal.Hand
end
-- ==== Proof.Frames.lean ====
/-
The frames: the kernel as it runs on words and on the extended reals, and the reference.
-/
module

public import proofs.«01_k».proof.Defs
public import proofs.«01_k».proof.Proof.Launch
public import proofs.«01_k».proof.Proof.Fill
public import proofs.«01_k».proof.Proof.Gen.Kernel
public import proofs.«01_k».proof.Proof.Gen.KernelIdeal
public import proofs.«01_k».proof.Proof.Gen.ReferenceIdeal.Frame
public import Idealize.ShloMosaic.Adequacy
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Transfers

namespace Cert.KernelIdeal.Hand
open Cert.KernelIdeal Facts₀ Facts

/-- The kernel's frame on words, read of the one text both programs are printed from. -/
def wordFrame [Cert.KernelIdeal.Facts] [Cert.Pre_groups_fill.Facts] : Prop :=
  ∀ (m : (ℓ : Loc nD τ sig) → Buf (Elt Bits) ℓ) (g : Dev nD → PrngReg),
    (∀ c : Dev nD, (Cert.Pre_groups_fill.fn (F := Bits) (m ((c.tc : Thread nD τ).loc main_arg0)) (m ((c.tc : Thread nD τ).loc main_arg1)) (m ((c.tc : Thread nD τ).loc main_arg2))) = (fun _ => 1#1)) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
theorem wordFrame_eq : @wordFrame Cert.KernelIdeal.Gen.facts Cert.Pre_groups_fill.Gen.facts = @Cert.quiescent_Kernel Cert.Kernel.Gen.facts Cert.Pre_groups_fill.Gen.facts := by
  sl_kernel_rfl
theorem wordFrame_holds : @wordFrame Cert.KernelIdeal.Gen.facts Cert.Pre_groups_fill.Gen.facts :=
  fun m g hp => run_frame m g fun c => fill _ _ _ (hp c)
theorem frame_Kernel : @Cert.quiescent_Kernel Cert.Kernel.Gen.facts Cert.Pre_groups_fill.Gen.facts := wordFrame_eq.mp wordFrame_holds
theorem frame_KernelIdeal : @Cert.quiescent_KernelIdeal Cert.KernelIdeal.Gen.facts Cert.Pre_groups_fill.Gen.facts :=
  fun m g hp => run_frame m g fun c => fill _ _ _ (hp c)
theorem frame_ReferenceIdeal : @Cert.quiescent_ReferenceIdeal Cert.ReferenceIdeal.Gen.facts Cert.Pre_groups_fill.Gen.facts :=
  fun m g _ => Cert.ReferenceIdeal.Gen.frame m g

end Cert.KernelIdeal.Hand
end
-- ==== Proof.RRun.lean ====
/-
What the reference's run leaves: each result as the payload of its store, the sums of an expert read off its trip of the loop.
-/
module

public import proofs.«01_k».proof.Proof.Gen.ReferenceIdeal.Frame
public import Idealize.ShloMosaic.Lib.Pipeline.Value
public import Idealize.ShloMosaic.Lib.WritesUnit
public import Idealize.ShloMosaic.Lib.ValueIdxCore
public import Idealize.ShloMosaic.Lib.Tactic
@[expose] public section
set_option maxRecDepth 65536
noncomputable section
open Idealize.ShloMosaic Idealize.ShloMosaic.TcCoe Idealize.ShloMosaic.Tactic Idealize.ShloMosaic.ValueIdx
open Idealize.SL Idealize.SL.RA Idealize.SL.BI Idealize.SL.Sem
open Idealize.ShloMosaic.Pipeline (Dat)

namespace Cert.ReferenceIdeal.Read
open Cert.ReferenceIdeal Cert.ReferenceIdeal.Gen

variable {F : FTy → Type} [FloatOps F]

theorem hz : (![0, 0] : Fin 2 → Nat) = fun _ => 0 := funext fun a => by fin_cases a <;> rfl

section Body
variable (c : Dev nD) (a0 : Memref sig .tc .smem S64 .i32) (h0 : a0.IsWhole) (a1 : Memref sig .tc .vmem S49152x2048 .bf16) (h1 : a1.IsWhole)
  (a2 : Memref sig .tc .vmem S49152x1408 .bf16) (h2 : a2.IsWhole) (a3 : Memref sig .tc .vmem S64x2048x1408 .f32) (h3 : a3.IsWhole)
  (a4 : Memref sig .tc .vmem S49152x2048 .fp8e4m3) (h4 : a4.IsWhole) (a5 : Memref sig .tc .vmem S384x2048 .f32) (h5 : a5.IsWhole)
  (a6 : Memref sig .tc .vmem S49152x1408 .fp8e5m2) (h6 : a6.IsWhole) (a7 : Memref sig .tc .vmem S384x11 .f32) (h7 : a7.IsWhole)
  (x0 : Vec F S64 .i32) (x1 : Vec F S49152x2048 .bf16) (x2 : Vec F S49152x1408 .bf16)

theorem out4 : out0_A_4 c a0 h0 a1 h1 a2 h2 a3 h3 a4 h4 a5 h5 a6 h6 a7 h7 x0 x1 x2 = k0_pay6 x1 := by
  unfold out0_A_4
  rw [View.read_writes_eq_canon _ _ _ (cover0_A_4 c a0 h0 a1 h1 a2 h2 a3 h3 a4 h4 a5 h5 a6 h6 a7 h7 x0 x1 x2)]
  unfold kernelRun0_A
  dsimp only
  (try sl_unfold_words)
  rw [View.canon_unit_zero hz]
  simp only [View.readAt_eq_ld, h1.read_unread, View.ld_unit_zero (S := S49152x2048) hz]
theorem out5 : out0_A_5 c a0 h0 a1 h1 a2 h2 a3 h3 a4 h4 a5 h5 a6 h6 a7 h7 x0 x1 x2 = k0_pay3 x1 := by
  unfold out0_A_5
  rw [View.read_writes_eq_canon _ _ _ (cover0_A_5 c a0 h0 a1 h1 a2 h2 a3 h3 a4 h4 a5 h5 a6 h6 a7 h7 x0 x1 x2)]
  unfold kernelRun0_A
  dsimp only
  (try sl_unfold_words)
  rw [View.canon_unit_zero hz]
  simp only [View.readAt_eq_ld, h1.read_unread, View.ld_unit_zero (S := S49152x2048) hz]
theorem out6 : out0_A_6 c a0 h0 a1 h1 a2 h2 a3 h3 a4 h4 a5 h5 a6 h6 a7 h7 x0 x1 x2 = k0_pay11 x2 := by
  unfold out0_A_6
  rw [View.read_writes_eq_canon _ _ _ (cover0_A_6 c a0 h0 a1 h1 a2 h2 a3 h3 a4 h4 a5 h5 a6 h6 a7 h7 x0 x1 x2)]
  unfold kernelRun0_A
  dsimp only
  (try sl_unfold_words)
  rw [View.canon_unit_zero hz]
  simp only [View.readAt_eq_ld, h2.read_unread, View.ld_unit_zero (S := S49152x1408) hz]
theorem out7 : out0_A_7 c a0 h0 a1 h1 a2 h2 a3 h3 a4 h4 a5 h5 a6 h6 a7 h7 x0 x1 x2 = k0_pay8 x2 := by
  unfold out0_A_7
  rw [View.read_writes_eq_canon _ _ _ (cover0_A_7 c a0 h0 a1 h1 a2 h2 a3 h3 a4 h4 a5 h5 a6 h6 a7 h7 x0 x1 x2)]
  unfold kernelRun0_A
  dsimp only
  (try sl_unfold_words)
  rw [View.canon_unit_zero hz]
  simp only [View.readAt_eq_ld, h2.read_unread, View.ld_unit_zero (S := S49152x1408) hz]

/-! ## The loop -/

/-- The first token of an expert as the loop carries it. -/
def gw (x0 : Vec F S64 .i32) : ℕ → BitVec 32
  | 0 => 0#32
  | n + 1 => Scalar.addi (gw x0 n) (x0 (ix1 ⟨n % 64, Nat.mod_lt _ (by decide)⟩))

variable (𝒱 : Variants) (bd : Option 𝒱.V) (v37 : FVec F S49152x2048 .bf16) (v79 : FVec F S49152x1408 .bf16)

theorem trips : k0_t1_loop.trips = 64 := by decide
theorem off1 (k : Fin k0_t1_loop.trips) : k0_off1 k = ![k.val] := by
  obtain ⟨k, hk⟩ := k
  rw [trips] at hk
  exact (by decide +kernel : ∀ k : Fin 64, k0_off1 ⟨k.val, by rw [trips]; exact k.isLt⟩ = ![k.val]) ⟨k, hk⟩
theorem off2 (k : Fin k0_t1_loop.trips) : k0_off2 k = ![k.val, 0, 0] := by
  obtain ⟨k, hk⟩ := k
  rw [trips] at hk
  exact (by decide +kernel : ∀ k : Fin 64, k0_off2 ⟨k.val, by rw [trips]; exact k.isLt⟩ = ![k.val, 0, 0]) ⟨k, hk⟩

theorem read0 {off : Fin 1 → ℕ} (k : Fin 64) (hoff : off = ![k.val]) (inb : ∀ a, off a + S1.size a ≤ S64.size a) (j : S1.Idx) :
    View.readAt (Elt F) a0.view (Rect.unit (s := S64) off S1.size inb).toLoadRect (h0.unread x0) j = x0 (ix1 ⟨k.val % 64, Nat.mod_lt _ (by decide)⟩) := by
  subst hoff
  rw [View.readAt_eq_ld, h0.read_unread]
  show x0 ((Rect.unit (s := S64) ![k.val] S1.size inb).emb j) = _
  refine congrArg x0 (funext fun a => Fin.ext ?_)
  have hj : (j 0).val < 1 := (j 0).isLt
  have hk := k.isLt
  match a with
  | ⟨0, _⟩ => show k.val + 1 * (j 0).val = k.val % 64; omega

theorem tripL (k : Fin k0_t1_loop.trips) (acc : BitVec 32) :
    tripL_k0_t1 (F := F) 𝒱 c bd a0 h0 a1 h1 a2 h2 a3 h3 a4 h4 a5 h5 a6 h6 a7 h7 v37 v79 (h0.unread x0) k acc
      = [⟨Rect.unit (s := S64x2048x1408) (k0_off2 k) S1x2048x1408.size (k0_off2_inb k), k0_pay1 v37 v79 acc (x0 (ix1 ⟨k.val % 64, Nat.mod_lt _ (by decide)⟩))⟩] := by
  unfold tripL_k0_t1 trip_k0_t1
  dsimp only
  (try sl_unfold_words)
  exact congrArg (fun w => [(⟨Rect.unit (s := S64x2048x1408) (k0_off2 k) S1x2048x1408.size (k0_off2_inb k), k0_pay1 v37 v79 acc w⟩ : View.Piece (Elt F) S64x2048x1408 .f32)])
    (read0 a0 h0 x0 ⟨k.val, lt_of_lt_of_eq k.isLt trips⟩ (off1 k) (k0_off1_inb k) _)
theorem tripR (k : Fin k0_t1_loop.trips) (acc : BitVec 32) :
    tripR_k0_t1 (F := F) 𝒱 c bd a0 h0 a1 h1 a2 h2 a3 h3 a4 h4 a5 h5 a6 h6 a7 h7 v37 v79 (h0.unread x0) k acc = Scalar.addi acc (x0 (ix1 ⟨k.val % 64, Nat.mod_lt _ (by decide)⟩)) := by
  unfold tripR_k0_t1 trip_k0_t1
  dsimp only
  (try sl_unfold_words)
  exact congrArg (Scalar.addi acc) (read0 a0 h0 x0 ⟨k.val, lt_of_lt_of_eq k.isLt trips⟩ (off1 k) (k0_off1_inb k) _)
theorem st_fst : ∀ n ≤ 64, (st_k0_t1 (F := F) 𝒱 c bd a0 h0 a1 h1 a2 h2 a3 h3 a4 h4 a5 h5 a6 h6 a7 h7 v37 v79 (h0.unread x0) 0#32 n).1 = gw x0 n
  | 0, _ => rfl
  | n + 1, h => by
    have hn : n < k0_t1_loop.trips := by rw [trips]; omega
    have e := st_k0_t1_succ (F := F) 𝒱 c bd a0 h0 a1 h1 a2 h2 a3 h3 a4 h4 a5 h5 a6 h6 a7 h7 v37 v79 (h0.unread x0) 0#32 ⟨n, hn⟩
    rw [show (st_k0_t1 (F := F) 𝒱 c bd a0 h0 a1 h1 a2 h2 a3 h3 a4 h4 a5 h5 a6 h6 a7 h7 v37 v79 (h0.unread x0) 0#32 (n + 1)) = _ from e]
    show tripR_k0_t1 (F := F) 𝒱 c bd a0 h0 a1 h1 a2 h2 a3 h3 a4 h4 a5 h5 a6 h6 a7 h7 v37 v79 (h0.unread x0) ⟨n, hn⟩ _ = _
    rw [tripR, st_fst n (by omega)]
    rfl
theorem st_snd {sp : Space} (v : View sig .tc sp S64x2048x1408 .f32) (f : v.ty.Contents (Elt F)) (e : Fin 64) (r : Fin 2048) (k : Fin 1408) :
    ∀ n ≤ 64, e.val < n → v.read (Elt F) (v.writes (Elt F) f (st_k0_t1 (F := F) 𝒱 c bd a0 h0 a1 h1 a2 h2 a3 h3 a4 h4 a5 h5 a6 h6 a7 h7 v37 v79 (h0.unread x0) 0#32 n).2) (ix3 e r k)
      = k0_pay1 v37 v79 (gw x0 e.val) (x0 (ix1 ⟨e.val % 64, Nat.mod_lt _ (by decide)⟩)) (ix3 (0 : Fin 1) r k)
  | 0, _, he => absurd he (Nat.not_lt_zero _)
  | n + 1, h, he => by
    have hn : n < k0_t1_loop.trips := by rw [trips]; omega
    have e' := st_k0_t1_succ (F := F) 𝒱 c bd a0 h0 a1 h1 a2 h2 a3 h3 a4 h4 a5 h5 a6 h6 a7 h7 v37 v79 (h0.unread x0) 0#32 ⟨n, hn⟩
    rw [show (st_k0_t1 (F := F) 𝒱 c bd a0 h0 a1 h1 a2 h2 a3 h3 a4 h4 a5 h5 a6 h6 a7 h7 v37 v79 (h0.unread x0) 0#32 (n + 1)) = _ from e']
    show v.read (Elt F) (v.writes (Elt F) f (tripL_k0_t1 (F := F) 𝒱 c bd a0 h0 a1 h1 a2 h2 a3 h3 a4 h4 a5 h5 a6 h6 a7 h7 v37 v79 (h0.unread x0) ⟨n, hn⟩ (st_k0_t1 (F := F) 𝒱 c bd a0 h0 a1 h1 a2 h2 a3 h3 a4 h4 a5 h5 a6 h6 a7 h7 v37 v79 (h0.unread x0) 0#32 n).1
      ++ (st_k0_t1 (F := F) 𝒱 c bd a0 h0 a1 h1 a2 h2 a3 h3 a4 h4 a5 h5 a6 h6 a7 h7 v37 v79 (h0.unread x0) 0#32 n).2)) (ix3 e r k) = _
    rw [tripL, st_fst _ _ _ _ _ _ _ _ _ _ _ _ _ _ _ _ _ _ _ _ _ _ n (by omega)]
    by_cases hen : e.val = n
    · refine (View.read_writes_cons_unit_of_mem v f _ _ _ (ix3 e r k) (ix3 (0 : Fin 1) r k) (off2 ⟨n, hn⟩) (fun a => ?_)).trans ?_
      · match a with
        | ⟨0, _⟩ => show e.val = n + 0; omega
        | ⟨1, _⟩ => show r.val = 0 + r.val; omega
        | ⟨2, _⟩ => show k.val = 0 + k.val; omega
      · subst hen; rfl
    · refine (View.read_writes_cons_unit_of_not_mem v f _ _ _ (ix3 e r k) (off2 ⟨n, hn⟩) ⟨0, by decide⟩ ?_).trans (st_snd v f e r k n (by omega) (by omega))
      left
      show e.val < n
      omega

theorem out3 (e : Fin 64) (r : Fin 2048) (k : Fin 1408) : out0_A_3 c a0 h0 a1 h1 a2 h2 a3 h3 a4 h4 a5 h5 a6 h6 a7 h7 x0 x1 x2 (ix3 e r k)
    = k0_pay1 (k0_pay5 x1) (k0_pay10 x2) (gw x0 e.val) (x0 (ix1 ⟨e.val % 64, Nat.mod_lt _ (by decide)⟩)) (ix3 (0 : Fin 1) r k) := by
  unfold out0_A_3 kernelRun0_A
  dsimp only
  (try sl_unfold_words)
  simp only [View.readAt_eq_ld, h1.read_unread, h2.read_unread, View.ld_unit_zero (S := S49152x2048) hz, View.ld_unit_zero (S := S49152x1408) hz]
  rw [show Scf.trips (0#32) (Scalar.addi 0#32 64#32) 1#32 = 64 from trips]
  exact st_snd c a0 h0 a1 h1 a2 h2 a3 h3 a4 h4 a5 h5 a6 h6 a7 h7 x0 _ _ _ _ _ _ e r k 64 (Nat.le_refl _) e.isLt
end Body

/-! ## The arrays after the run -/

section Arrays
variable (m : (ℓ : Loc nD τ sig) → Buf (Elt F) ℓ) (ρ : Dev nD → PrngReg) (c : Dev nD)

abbrev m0 : S49152x2048.Idx → Elt F .bf16 := m ((c.tc : Thread nD τ).loc main_arg0)
abbrev m1 : S49152x1408.Idx → Elt F .bf16 := m ((c.tc : Thread nD τ).loc main_arg1)
abbrev m2 : S64.Idx → Elt F .i32 := m ((c.tc : Thread nD τ).loc main_arg2)

theorem in0 : iblk m c 0 t0_0 = m2 m c :=
  have hz' : (fun a => win0_0.index t0_0 a * main_arg2.ty.shape.size a) = fun _ => 0 := funext fun a => by fin_cases a <;> decide
  Memref.read_access_unit_zero (Elt F) main_arg2 hz' (fun a => ((congrArg (· + main_arg2.ty.shape.size a) (congrFun hz' a)).trans (Nat.zero_add _)).le) (m2 m c)
theorem in1 : iblk m c 1 t0_0 = m0 m c :=
  have hz' : (fun a => win0_1.index t0_0 a * main_arg0.ty.shape.size a) = fun _ => 0 := funext fun a => by fin_cases a <;> decide
  Memref.read_access_unit_zero (Elt F) main_arg0 hz' (fun a => ((congrArg (· + main_arg0.ty.shape.size a) (congrFun hz' a)).trans (Nat.zero_add _)).le) (m0 m c)
theorem in2 : iblk m c 2 t0_0 = m1 m c :=
  have hz' : (fun a => win0_2.index t0_0 a * main_arg1.ty.shape.size a) = fun _ => 0 := funext fun a => by fin_cases a <;> decide
  Memref.read_access_unit_zero (Elt F) main_arg1 hz' (fun a => ((congrArg (· + main_arg1.ty.shape.size a) (congrFun hz' a)).trans (Nat.zero_add _)).le) (m1 m c)

theorem outs3 (e : Fin 64) (r : Fin 2048) (k : Fin 1408) : (outsAt0 m c t0_0).1 (ix3 e r k)
    = k0_pay1 (k0_pay5 (m0 m c)) (k0_pay10 (m1 m c)) (gw (m2 m c) e.val) (m2 m c (ix1 ⟨e.val % 64, Nat.mod_lt _ (by decide)⟩)) (ix3 (0 : Fin 1) r k) := by
  unfold outsAt0
  dsimp only
  rw [in0, in1, in2]
  exact out3 c _ _ _ _ _ _ _ _ _ _ _ _ _ _ _ _ _ _ _ e r k
theorem at3 : ∀ a, win0_3.index t0_0 a * win0_3.size a = 0 ∧ win0_3.xsize (grid0.coords t0_0) a = main_v0_0.ty.shape.size a := by decide +kernel
theorem flushed3 (t : Fin cfg0.N) (_ : (cfg0.win 3).flush t = true) :
    (dats m 0 c).flushed 3 t = ((cfg0.win 3).blk t).view.read (Elt F) ((outsAt0 m c t0_0).1 : Buf (Elt F) ((c.tc : Thread nD τ).loc main_v0_0)) := by
  obtain rfl : t = t0_0 := fin_N0 t
  show (cfg0.win 3).cut (grid0.coords t0_0) ((dats m 0 c).after 3 t0_0) = _
  rw [after0_3]
  have hz' : (fun a => win0_3.index t0_0 a * main_v0_0.ty.shape.size a) = fun _ => 0 := funext fun a => (at3 a).1
  exact (Memref.read_access_unit_zero (Elt F) main_v0_0 hz' (fun a => ((congrArg (· + main_v0_0.ty.shape.size a) (congrFun hz' a)).trans (Nat.zero_add _)).le) _).symm
theorem final3 : (dats m 0 c).arrAt 3 cfg0.N = ((outsAt0 m c t0_0).1 : Buf (Elt F) ((c.tc : Thread nD τ).loc main_v0_0)) :=
  (dats m 0 c).arrAt_eq_of_cover 3 _ (flushed3 m c) fun i =>
    ⟨t0_0, flush0_3 t0_0, by
      show i ∈ ((View.whole main_v0_0).slice (win0_3.rect t0_0)).set
      rw [View.set_slice_whole, Rect.mem_set_unit]
      intro a
      show win0_3.index t0_0 a * win0_3.size a ≤ (i a).val ∧ (i a).val < win0_3.index t0_0 a * win0_3.size a + win0_3.xsize (grid0.coords t0_0) a
      rw [(at3 a).1, (at3 a).2, Nat.zero_add]
      exact ⟨Nat.zero_le _, (i a).isLt⟩⟩
theorem outs4 : (outsAt0 m c t0_0).2.1 = k0_pay6 (m0 m c) := by
  unfold outsAt0
  dsimp only
  rw [out4, in1]
theorem at4 : ∀ a, win0_4.index t0_0 a * win0_4.size a = 0 ∧ win0_4.xsize (grid0.coords t0_0) a = main_v0_1.ty.shape.size a := by decide +kernel
theorem flushed4 (t : Fin cfg0.N) (_ : (cfg0.win 4).flush t = true) :
    (dats m 0 c).flushed 4 t = ((cfg0.win 4).blk t).view.read (Elt F) (k0_pay6 (m0 m c) : Buf (Elt F) ((c.tc : Thread nD τ).loc main_v0_1)) := by
  obtain rfl : t = t0_0 := fin_N0 t
  show (cfg0.win 4).cut (grid0.coords t0_0) ((dats m 0 c).after 4 t0_0) = _
  rw [after0_4, outs4]
  have hz' : (fun a => win0_4.index t0_0 a * main_v0_1.ty.shape.size a) = fun _ => 0 := funext fun a => (at4 a).1
  exact (Memref.read_access_unit_zero (Elt F) main_v0_1 hz' (fun a => ((congrArg (· + main_v0_1.ty.shape.size a) (congrFun hz' a)).trans (Nat.zero_add _)).le) _).symm
theorem final4 : (dats m 0 c).arrAt 4 cfg0.N = (k0_pay6 (m0 m c) : Buf (Elt F) ((c.tc : Thread nD τ).loc main_v0_1)) :=
  (dats m 0 c).arrAt_eq_of_cover 4 _ (flushed4 m c) fun i =>
    ⟨t0_0, flush0_4 t0_0, by
      show i ∈ ((View.whole main_v0_1).slice (win0_4.rect t0_0)).set
      rw [View.set_slice_whole, Rect.mem_set_unit]
      intro a
      show win0_4.index t0_0 a * win0_4.size a ≤ (i a).val ∧ (i a).val < win0_4.index t0_0 a * win0_4.size a + win0_4.xsize (grid0.coords t0_0) a
      rw [(at4 a).1, (at4 a).2, Nat.zero_add]
      exact ⟨Nat.zero_le _, (i a).isLt⟩⟩
theorem outs5 : (outsAt0 m c t0_0).2.2.1 = k0_pay3 (m0 m c) := by
  unfold outsAt0
  dsimp only
  rw [out5, in1]
theorem at5 : ∀ a, win0_5.index t0_0 a * win0_5.size a = 0 ∧ win0_5.xsize (grid0.coords t0_0) a = main_v0_2.ty.shape.size a := by decide +kernel
theorem flushed5 (t : Fin cfg0.N) (_ : (cfg0.win 5).flush t = true) :
    (dats m 0 c).flushed 5 t = ((cfg0.win 5).blk t).view.read (Elt F) (k0_pay3 (m0 m c) : Buf (Elt F) ((c.tc : Thread nD τ).loc main_v0_2)) := by
  obtain rfl : t = t0_0 := fin_N0 t
  show (cfg0.win 5).cut (grid0.coords t0_0) ((dats m 0 c).after 5 t0_0) = _
  rw [after0_5, outs5]
  have hz' : (fun a => win0_5.index t0_0 a * main_v0_2.ty.shape.size a) = fun _ => 0 := funext fun a => (at5 a).1
  exact (Memref.read_access_unit_zero (Elt F) main_v0_2 hz' (fun a => ((congrArg (· + main_v0_2.ty.shape.size a) (congrFun hz' a)).trans (Nat.zero_add _)).le) _).symm
theorem final5 : (dats m 0 c).arrAt 5 cfg0.N = (k0_pay3 (m0 m c) : Buf (Elt F) ((c.tc : Thread nD τ).loc main_v0_2)) :=
  (dats m 0 c).arrAt_eq_of_cover 5 _ (flushed5 m c) fun i =>
    ⟨t0_0, flush0_5 t0_0, by
      show i ∈ ((View.whole main_v0_2).slice (win0_5.rect t0_0)).set
      rw [View.set_slice_whole, Rect.mem_set_unit]
      intro a
      show win0_5.index t0_0 a * win0_5.size a ≤ (i a).val ∧ (i a).val < win0_5.index t0_0 a * win0_5.size a + win0_5.xsize (grid0.coords t0_0) a
      rw [(at5 a).1, (at5 a).2, Nat.zero_add]
      exact ⟨Nat.zero_le _, (i a).isLt⟩⟩
theorem outs6 : (outsAt0 m c t0_0).2.2.2.1 = k0_pay11 (m1 m c) := by
  unfold outsAt0
  dsimp only
  rw [out6, in2]
theorem at6 : ∀ a, win0_6.index t0_0 a * win0_6.size a = 0 ∧ win0_6.xsize (grid0.coords t0_0) a = main_v0_3.ty.shape.size a := by decide +kernel
theorem flushed6 (t : Fin cfg0.N) (_ : (cfg0.win 6).flush t = true) :
    (dats m 0 c).flushed 6 t = ((cfg0.win 6).blk t).view.read (Elt F) (k0_pay11 (m1 m c) : Buf (Elt F) ((c.tc : Thread nD τ).loc main_v0_3)) := by
  obtain rfl : t = t0_0 := fin_N0 t
  show (cfg0.win 6).cut (grid0.coords t0_0) ((dats m 0 c).after 6 t0_0) = _
  rw [after0_6, outs6]
  have hz' : (fun a => win0_6.index t0_0 a * main_v0_3.ty.shape.size a) = fun _ => 0 := funext fun a => (at6 a).1
  exact (Memref.read_access_unit_zero (Elt F) main_v0_3 hz' (fun a => ((congrArg (· + main_v0_3.ty.shape.size a) (congrFun hz' a)).trans (Nat.zero_add _)).le) _).symm
theorem final6 : (dats m 0 c).arrAt 6 cfg0.N = (k0_pay11 (m1 m c) : Buf (Elt F) ((c.tc : Thread nD τ).loc main_v0_3)) :=
  (dats m 0 c).arrAt_eq_of_cover 6 _ (flushed6 m c) fun i =>
    ⟨t0_0, flush0_6 t0_0, by
      show i ∈ ((View.whole main_v0_3).slice (win0_6.rect t0_0)).set
      rw [View.set_slice_whole, Rect.mem_set_unit]
      intro a
      show win0_6.index t0_0 a * win0_6.size a ≤ (i a).val ∧ (i a).val < win0_6.index t0_0 a * win0_6.size a + win0_6.xsize (grid0.coords t0_0) a
      rw [(at6 a).1, (at6 a).2, Nat.zero_add]
      exact ⟨Nat.zero_le _, (i a).isLt⟩⟩
theorem outs7 : (outsAt0 m c t0_0).2.2.2.2 = k0_pay8 (m1 m c) := by
  unfold outsAt0
  dsimp only
  rw [out7, in2]
theorem at7 : ∀ a, win0_7.index t0_0 a * win0_7.size a = 0 ∧ win0_7.xsize (grid0.coords t0_0) a = main_v0_4.ty.shape.size a := by decide +kernel
theorem flushed7 (t : Fin cfg0.N) (_ : (cfg0.win 7).flush t = true) :
    (dats m 0 c).flushed 7 t = ((cfg0.win 7).blk t).view.read (Elt F) (k0_pay8 (m1 m c) : Buf (Elt F) ((c.tc : Thread nD τ).loc main_v0_4)) := by
  obtain rfl : t = t0_0 := fin_N0 t
  show (cfg0.win 7).cut (grid0.coords t0_0) ((dats m 0 c).after 7 t0_0) = _
  rw [after0_7, outs7]
  have hz' : (fun a => win0_7.index t0_0 a * main_v0_4.ty.shape.size a) = fun _ => 0 := funext fun a => (at7 a).1
  exact (Memref.read_access_unit_zero (Elt F) main_v0_4 hz' (fun a => ((congrArg (· + main_v0_4.ty.shape.size a) (congrFun hz' a)).trans (Nat.zero_add _)).le) _).symm
theorem final7 : (dats m 0 c).arrAt 7 cfg0.N = (k0_pay8 (m1 m c) : Buf (Elt F) ((c.tc : Thread nD τ).loc main_v0_4)) :=
  (dats m 0 c).arrAt_eq_of_cover 7 _ (flushed7 m c) fun i =>
    ⟨t0_0, flush0_7 t0_0, by
      show i ∈ ((View.whole main_v0_4).slice (win0_7.rect t0_0)).set
      rw [View.set_slice_whole, Rect.mem_set_unit]
      intro a
      show win0_7.index t0_0 a * win0_7.size a ≤ (i a).val ∧ (i a).val < win0_7.index t0_0 a * win0_7.size a + win0_7.xsize (grid0.coords t0_0) a
      rw [(at7 a).1, (at7 a).2, Nat.zero_add]
      exact ⟨Nat.zero_le _, (i a).isLt⟩⟩

/-- The run, read: the results of every device, and its arguments as they were. -/
theorem read_run : θ_run defs (onTc (τ := τ) (main (F := F))) ⟨m, fun _ => 0, ρ⟩ (fun r => ∀ c : Dev nD,
      r.2.mem ((c.tc : Thread nD τ).loc main_v0_0) = (outsAt0 m c t0_0).1
      ∧ r.2.mem ((c.tc : Thread nD τ).loc main_v0_1) = k0_pay6 (m0 m c)
      ∧ r.2.mem ((c.tc : Thread nD τ).loc main_v0_2) = k0_pay3 (m0 m c)
      ∧ r.2.mem ((c.tc : Thread nD τ).loc main_v0_3) = k0_pay11 (m1 m c)
      ∧ r.2.mem ((c.tc : Thread nD τ).loc main_v0_4) = k0_pay8 (m1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (final5 m c),
    ((h.1 c).1 6).trans (final6 m c), ((h.1 c).1 7).trans (final7 m c), h.2 c⟩) (θ_run_and (run_main m ρ) (unchanged m ρ))
end Arrays

end Cert.ReferenceIdeal.Read
end
-- ==== Proof.Scale.lean ====
/- A block's scale over the extended reals: the power of two just above a bound, read off the count of the powers not
   above it (the kernel's way) and off the least power above it (the plain way). -/
module

public import Idealize.ShloMosaic.PureOps
public import Idealize.ShloMosaic.PureOps.Ideal.Laws
public import Idealize.ShloMosaic.Lib.Pipeline.Value
public import Idealize.ShloMosaic.Lib.ValueIdxCore
public import Idealize.ShloMosaic.Lib.ValueLayout
@[expose] public section
noncomputable section
open Idealize.ShloMosaic Idealize.ShloMosaic.ValueIdx

namespace Cert.Scale

/-! ## Powers of two -/

/-- A power of two. -/
def pw (k : ℤ) : EReal := (((2 : ℝ) ^ k : ℝ) : EReal)
theorem pw_lt {a b : ℤ} : pw a < pw b ↔ a < b := by
  unfold pw; rw [EReal.coe_lt_coe_iff]; exact zpow_lt_zpow_iff_right₀ (by norm_num)
theorem pw_le {a b : ℤ} : pw a ≤ pw b ↔ a ≤ b := by
  rw [← not_lt, pw_lt, not_lt]
theorem pw_pos (k : ℤ) : 0 < pw k := by
  unfold pw; exact EReal.coe_pos.2 (by positivity)
theorem pw_lt_top (k : ℤ) : pw k < ⊤ := EReal.coe_lt_top _
theorem pw_zero : pw 0 = 1 := by unfold pw; rw [zpow_zero]; rfl

/-- The word of a power of two in the range of the normal words. -/
theorem ieee_pow (k : Nat) (h1 : 1 ≤ k) (h2 : k ≤ 254) (b : BitVec 32) (hb : b.toNat = k * 8388608) : Ideal.ieee 8 23 b = pw ((k : ℤ) - 127) := by
  have he : (b.extractLsb' 23 8).toNat = k := by
    rw [BitVec.extractLsb'_toNat, hb, Nat.shiftRight_eq_div_pow]; omega
  have hf : (b.extractLsb' 0 23).toNat = 0 := by
    rw [BitVec.extractLsb'_toNat, hb, Nat.shiftRight_eq_div_pow]; omega
  have hn : (b.extractLsb' (8 + 23) 1 == 1#1) = false := beq_eq_false_iff_ne.2 fun h => by
    have h := congrArg BitVec.toNat h
    rw [BitVec.extractLsb'_toNat, hb, Nat.shiftRight_eq_div_pow] at h
    have e : (1#1 : BitVec 1).toNat = 1 := rfl
    omega
  unfold Ideal.ieee
  simp only [he, hf, hn]
  rw [if_neg (by omega), if_neg (by omega)]
  unfold pw
  congr 1
  rw [show (k : ℤ) - 127 = 23 + ((k : ℤ) - (2 ^ (8 - 1) - 1) - (23 : ℕ)) by norm_num, zpow_add₀ two_ne_zero]
  norm_num

theorem one_word : Ideal.ieee 8 23 0x3F800000#32 = 1 := (ieee_pow 127 (by decide) (by decide) _ (by decide)).trans (by norm_num [pw_zero])
theorem tiny_word : Ideal.ieee 8 23 0x00800000#32 = pw (-126) := (ieee_pow 1 (by decide) (by decide) _ (by decide)).trans (by norm_num)
theorem top_word : Ideal.ieee 8 23 0x7F800000#32 = ⊤ := by simp [Ideal.ieee]
theorem bot_word : Ideal.ieee 8 23 0xFF800000#32 = ⊥ := by simp [Ideal.ieee]
theorem bot_word16 : Ideal.ieee 8 7 0xFF80#16 = ⊥ := by simp [Ideal.ieee]
theorem zero_word : Ideal.ieee 8 23 0x00000000#32 = 0 := by simp [Ideal.ieee]

/-! ## The level of a bound -/

/-- How many of the powers from `2 ^ (-126)` on do not exceed the bound. -/
def lv (t : EReal) : ℕ := sInf {b : ℕ | t < pw ((b : ℤ) - 126)}
theorem lv_spec {t : EReal} (h : t < pw 126) : t < pw ((lv t : ℤ) - 126) := by
  have : (252 : ℕ) ∈ {b : ℕ | t < pw ((b : ℤ) - 126)} := by
    show t < pw _
    norm_num
    exact h
  exact Nat.sInf_mem ⟨_, this⟩
theorem lv_le {t : EReal} {b : ℕ} (h : t < pw ((b : ℤ) - 126)) : lv t ≤ b := Nat.sInf_le h
theorem lv_le_252 {t : EReal} (h : t < pw 126) : lv t ≤ 252 := lv_le (by norm_num; exact h)
theorem lt_pow_iff {t : EReal} (h : t < pw 126) (b : ℕ) : t < pw ((b : ℤ) - 126) ↔ lv t ≤ b :=
  ⟨lv_le, fun hb => (lv_spec h).trans_le (pw_le.2 (by omega))⟩

/-- The level, the least one read as the level of one. -/
def bb (t : EReal) : ℕ := if lv t = 0 then 126 else lv t
theorem bb_bounds {t : EReal} (h : t < pw 126) : 1 ≤ bb t ∧ bb t ≤ 252 := by
  have := lv_le_252 h
  unfold bb; split_ifs <;> omega
/-- The scale. -/
def sc (t : EReal) : EReal := pw ((bb t : ℤ) - 126)

theorem div_sc (t : EReal) : Ideal.div 1 (sc t) = pw (126 - (bb t : ℤ)) := by
  unfold Ideal.div sc
  rw [if_neg (pw_pos _).ne', one_mul]
  unfold pw
  rw [← EReal.coe_inv, ← zpow_neg]
  congr 2
  ring

/-! ## The kernel's way: a count, and words by shifts -/

theorem shl_all : ∀ k : Fin 256, (IntOp.shli .vector (BitVec.ofNat 32 k.val) 23#32).toNat = k.val * 8388608 := by decide +kernel
theorem shl_word {k : ℕ} (h : k < 256) : (IntOp.shli .vector (BitVec.ofNat 32 k) 23#32).toNat = k * 8388608 := shl_all ⟨k, h⟩
theorem pow_word {k : ℕ} (h1 : 1 ≤ k) (h2 : k ≤ 254) : Ideal.ieee 8 23 (IntOp.shli .vector (BitVec.ofNat 32 k) 23#32) = pw ((k : ℤ) - 127) :=
  ieee_pow k h1 h2 _ (shl_word (by omega))
theorem add_one (k : ℕ) : IntOp.addi (BitVec.ofNat 32 k) 1#32 = BitVec.ofNat 32 (k + 1) := by
  apply BitVec.eq_of_toNat_eq
  show (BitVec.ofNat 32 k + 1#32).toNat = _
  rw [BitVec.toNat_add, BitVec.toNat_ofNat, BitVec.toNat_ofNat, BitVec.toNat_ofNat]; omega
theorem from_253 {k : ℕ} (h : k ≤ 253) : IntOp.subi 253#32 (BitVec.ofNat 32 k) = BitVec.ofNat 32 (253 - k) := by
  apply BitVec.eq_of_toNat_eq
  show (253#32 - BitVec.ofNat 32 k).toNat = _
  rw [BitVec.toNat_sub, BitVec.toNat_ofNat, BitVec.toNat_ofNat, BitVec.toNat_ofNat]; omega
theorem count_all : ∀ b : Fin 253, (Finset.univ : Finset (Fin 255)).fold IntOp.addi 0#32 (fun k => if b.val ≤ k.val then 0#32 else 1#32) = BitVec.ofNat 32 b.val := by
  decide +kernel

theorem lt_step {t : EReal} (h : t < pw 126) (k : Fin 255) :
    (t < Ideal.ieee 8 23 (IntOp.shli .vector (IntOp.addi (BitVec.ofNat 32 k.val) 1#32) 23#32)) ↔ lv t ≤ k.val := by
  have hk := k.isLt
  rw [add_one]
  by_cases h255 : k.val = 254
  · rw [h255, show IntOp.shli .vector (BitVec.ofNat 32 (254 + 1)) 23#32 = 0x7F800000#32 by decide, top_word]
    exact ⟨fun _ => (lv_le_252 h).trans (by decide), fun _ => h.trans (pw_lt_top _)⟩
  · rw [pow_word (by omega) (by omega), ← lt_pow_iff h, show ((k.val + 1 : ℕ) : ℤ) - 127 = (k.val : ℤ) - 126 by push_cast; ring]

theorem cmp_lt (x y : EReal) : Ideal.cmp .olt x y = if x < y then 1#1 else 0#1 := by
  unfold Ideal.cmp
  by_cases h : x < y <;> simp [h]
theorem select_if {α : Type} (p : Prop) [Decidable p] (a b : α) : Scalar.select (if p then 1#1 else 0#1) a b = if p then a else b := by
  unfold Scalar.select
  by_cases h : p <;> simp [h]

/-- The row put back above a column. -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The kernel's count of the powers not above a bound. -/
theorem count {n : ℕ} (t : FVec Ideal ⟨2, ![1, n]⟩ .f32) (hb : (⟨2, ![1, n]⟩ : Shape).Broadcasts ⟨2, ![255, n]⟩)
    (hi : (⟨2, ![255, n]⟩ : Shape).Iotas .tc 32 [0]) (hr : (⟨2, ![255, n]⟩ : Shape).Reduces [0] ⟨1, ![n]⟩) (c : Fin n)
    (ht : t (ix2 (0 : Fin 1) c) < pw 126) :
    multiReductionI .add [0] ⟨1, ![n]⟩
      (select (cmpf .olt (broadcastTo ⟨2, ![255, n]⟩ t hb)
          (bitcastToFloat .f32 (shli (addi (iota .tc ⟨2, ![255, n]⟩ 32 [0] hi) (broadcast ⟨2, ![255, n]⟩ 1#32)) (broadcast ⟨2, ![255, n]⟩ 23#32))))
        (broadcast ⟨2, ![255, n]⟩ 0#32) (broadcast ⟨2, ![255, n]⟩ 1#32)) 0#32 hr rfl (ix1 c) = BitVec.ofNat 32 (lv (t (ix2 0 c))) := by
  refine (multiReductionI_eq_fold .add _ 0#32 hr rfl (ix1 c)).trans ?_
  refine (hr.fold_filter_drop_single _ _ _ _).trans ?_
  refine Eq.trans ?_ (count_all ⟨lv (t (ix2 0 c)), by have := lv_le_252 ht; omega⟩)
  refine congrArg (fun f => Finset.fold IntOp.addi 0#32 f (Finset.univ : Finset (Fin 255))) (funext fun k => ?_)
  show select _ _ _ (hr.lift (ix1 c) k) = _
  rw [lift_rows hr c k]
  show Scalar.select (Ideal.cmp .olt (broadcastTo ⟨2, ![255, n]⟩ t hb (ix2 (⟨k.val, k.isLt⟩ : Fin 255) c))
    (Ideal.ieee 8 23 (IntOp.shli .vector (IntOp.addi (iota .tc ⟨2, ![255, n]⟩ 32 [0] hi (ix2 (⟨k.val, k.isLt⟩ : Fin 255) c)) 1#32) 23#32))) 0#32 1#32 = _
  rw [broadcastTo_1b_ab_apply, iota_single_apply, cmp_lt, select_if]
  exact if_congr (lt_step ht k) rfl rfl

theorem eq_zero_word {k : ℕ} (h : k ≤ 252) : Scalar.select (IntOp.cmpi .eq (BitVec.ofNat 32 k) 0#32) 126#32 (BitVec.ofNat 32 k) = BitVec.ofNat 32 (if k = 0 then 126 else k) := by
  have : ∀ k : Fin 253, Scalar.select (IntOp.cmpi .eq (BitVec.ofNat 32 k.val) 0#32) 126#32 (BitVec.ofNat 32 k.val) = BitVec.ofNat 32 (if k.val = 0 then 126 else k.val) := by
    decide +kernel
  exact this ⟨k, by omega⟩

/-- The scale's word and its inverse's, from the level. -/
theorem scale_word {t : EReal} (h : t < pw 126) : Ideal.ieee 8 23 (IntOp.shli .vector (IntOp.addi (BitVec.ofNat 32 (bb t)) 1#32) 23#32) = sc t := by
  obtain ⟨h1, h2⟩ := bb_bounds h
  rw [add_one, pow_word (by omega) (by omega)]
  unfold sc
  congr 1
  push_cast; ring
theorem inv_word {t : EReal} (h : t < pw 126) : Ideal.ieee 8 23 (IntOp.shli .vector (IntOp.subi 253#32 (BitVec.ofNat 32 (bb t))) 23#32) = Ideal.div 1 (sc t) := by
  obtain ⟨h1, h2⟩ := bb_bounds h
  rw [from_253 (by omega), pow_word (by omega) (by omega), div_sc]
  congr 1
  push_cast [show bb t ≤ 253 by omega]; ring

/-! ## The plain way: the least power above the bound -/

theorem exp2_int (k : ℤ) : Ideal.exp2 (((k : ℤ) : ℝ) : EReal) = pw k := by
  show ((Real.rpow 2 ((k : ℤ) : ℝ) : ℝ) : EReal) = _
  unfold pw
  congr 1
  exact Real.rpow_intCast 2 k
theorem int_all : ∀ k : Fin 253, (IntOp.subi (BitVec.ofNat 32 k.val) 125#32).toInt = (k.val : ℤ) - 125 := by decide +kernel

theorem least {t : EReal} (h : t < pw 126) :
    (if t < pw (-126) then (1 : EReal) else (Finset.univ : Finset (Fin 253)).fold min ⊤ (fun k => if t < pw ((k.val : ℤ) - 125) then pw ((k.val : ℤ) - 125) else ⊤)) = sc t := by
  unfold sc bb
  have h0 := lt_pow_iff h 0
  rw [show ((0 : ℕ) : ℤ) - 126 = -126 by norm_num] at h0
  by_cases hz : lv t = 0
  · rw [if_pos (h0.2 (by omega)), if_pos hz, show ((126 : ℕ) : ℤ) - 126 = 0 by norm_num, pw_zero]
  · rw [if_neg (fun hh => hz (by have := h0.1 hh; omega)), if_neg hz]
    have hl := lv_le_252 h
    have step : ∀ k : ℕ, t < pw ((k : ℤ) - 125) ↔ lv t ≤ k + 1 := fun k => by
      rw [← lt_pow_iff h, show ((k + 1 : ℕ) : ℤ) - 126 = (k : ℤ) - 125 by push_cast; ring]
    apply le_antisymm
    · refine Finset.fold_min_le _ |>.2 (Or.inr ⟨⟨lv t - 1, by omega⟩, Finset.mem_univ _, ?_⟩)
      show (if t < pw (((lv t - 1 : ℕ) : ℤ) - 125) then pw (((lv t - 1 : ℕ) : ℤ) - 125) else ⊤) ≤ _
      rw [if_pos ((step _).2 (by omega))]
      exact pw_le.2 (by omega)
    · refine Finset.le_fold_min _ |>.2 ⟨le_top, fun k _ => ?_⟩
      split_ifs with hk
      · have := (step _).1 hk
        exact pw_le.2 (by omega)
      · exact le_top

/-! ## Bounds from largest entries -/

/-- The size of an entry. -/
def ab (x : EReal) : EReal := max x (-x)
theorem ab_nonneg (x : EReal) : 0 ≤ ab x := by
  unfold ab
  rcases le_total 0 x with h | h
  · exact le_max_of_le_left h
  · exact le_max_of_le_right (by rw [← neg_zero]; exact EReal.neg_le_neg_iff.2 h)

/-- The largest bfloat16 number. -/
theorem top16 : Ideal.ieee 8 7 0x7F7F#16 ≤ pw 128 := by
  have : Ideal.ieee 8 7 0x7F7F#16 = (((255 : ℝ) * 2 ^ (120 : ℤ) : ℝ) : EReal) := by
    simp [Ideal.ieee]
  rw [this]
  unfold pw
  rw [EReal.coe_le_coe_iff]
  norm_num

theorem xc_word : Ideal.ieee 8 23 0x3B124925#32 = (((9586981 : ℝ) * 2 ^ (-32 : ℤ) : ℝ) : EReal) := by simp [Ideal.ieee]
theorem yc_word : Ideal.ieee 8 23 0x37924925#32 = (((9586981 : ℝ) * 2 ^ (-39 : ℤ) : ℝ) : EReal) := by simp [Ideal.ieee]

theorem bound_lt {a : EReal} (h : a ≤ pw 128) {r : ℝ} (hr : 0 < r) (hr' : r < 1 / 4) : a * (r : EReal) < pw 126 := by
  induction a using EReal.rec with
  | bot => rw [EReal.bot_mul_coe_of_pos hr]; exact EReal.bot_lt_coe _
  | top => exact absurd h (not_le.2 (pw_lt_top _))
  | coe a =>
    unfold pw at h ⊢
    rw [EReal.coe_le_coe_iff] at h
    rw [← EReal.coe_mul, EReal.coe_lt_coe_iff]
    have e : (2 : ℝ) ^ (128 : ℤ) = 4 * 2 ^ (126 : ℤ) := by norm_num
    have p : (0 : ℝ) < 2 ^ (126 : ℤ) := by positivity
    rw [e] at h
    nlinarith
theorem xbound_lt {a : EReal} (h : a ≤ pw 128) : a * Ideal.ieee 8 23 0x3B124925#32 < pw 126 := by
  rw [xc_word]; exact bound_lt h (by positivity) (by norm_num)
theorem ybound_lt {a : EReal} (h : a ≤ pw 128) : a * Ideal.ieee 8 23 0x37924925#32 < pw 126 := by
  rw [yc_word]; exact bound_lt h (by positivity) (by norm_num)

theorem fold_max_le {ι : Type} [Fintype ι] {f : ι → EReal} {M : EReal} (h : ∀ k, f k ≤ M) : (Finset.univ : Finset ι).fold max ⊥ f ≤ M :=
  (Finset.fold_max_le _).2 ⟨bot_le, fun k _ => h k⟩
/-- The largest of a table does not depend on which way it is read. -/
theorem fold_max_comm {ι κ : Type} [Fintype ι] [Fintype κ] (f : ι → κ → EReal) :
    (Finset.univ : Finset ι).fold max ⊥ (fun i => (Finset.univ : Finset κ).fold max ⊥ (f i))
      = (Finset.univ : Finset κ).fold max ⊥ (fun k => (Finset.univ : Finset ι).fold max ⊥ (fun i => f i k)) := by
  refine eq_of_forall_ge_iff fun c => ?_
  simp only [Finset.fold_max_le, bot_le, true_and, Finset.mem_univ, forall_true_left]
  exact forall_comm

end Cert.Scale
end
-- ==== Proof.Spec.lean ====
/-
The results as mathematics: scales, codes, what the codes stand for, and the sums over a range of tokens; and the
operations both programs reach them by, read at an index.
-/
module

public import proofs.«01_k».proof.Proof.Scale
public import Idealize.ShloMosaic.Lib.Affine
@[expose] public section
noncomputable section
open Idealize.ShloMosaic Idealize.ShloMosaic.ValueIdx

namespace Cert.Scale

/-! ## The results -/

/-- A matrix read at any two numbers. -/
abbrev at2 {m n : ℕ} (hm : 0 < m) (hn : 0 < n) (v : (⟨2, ![m, n]⟩ : Shape).Idx → EReal) (t c : ℕ) : EReal :=
  v (ix2 ⟨t % m, Nat.mod_lt _ hm⟩ ⟨c % n, Nat.mod_lt _ hn⟩)
theorem at2_eq {m n : ℕ} (hm : 0 < m) (hn : 0 < n) (v : (⟨2, ![m, n]⟩ : Shape).Idx → EReal) {t c : ℕ} (ht : t < m) (hc : c < n) :
    at2 hm hn v t c = v (ix2 ⟨t, ht⟩ ⟨c, hc⟩) :=
  congrArg₂ (fun a b => v (ix2 a b)) (Fin.ext (Nat.mod_eq_of_lt ht)) (Fin.ext (Nat.mod_eq_of_lt hc))
abbrev fX (X : (⟨2, ![49152, 2048]⟩ : Shape).Idx → EReal) : ℕ → ℕ → EReal := at2 (by decide) (by decide) X
abbrev fY (Y : (⟨2, ![49152, 1408]⟩ : Shape).Idx → EReal) : ℕ → ℕ → EReal := at2 (by decide) (by decide) Y

section Results
variable (f : ℕ → ℕ → EReal)
/-- The largest entry of 128 rows of a column, and of a block of 128 by 128. -/
def xmaxN (r c : ℕ) : EReal := (Finset.univ : Finset (Fin 128)).fold max ⊥ fun k => ab (f (128 * r + k.val) c)
def ymaxN (r j : ℕ) : EReal := (Finset.univ : Finset (Fin 128)).fold max ⊥ fun k =>
  (Finset.univ : Finset (Fin 128)).fold max ⊥ fun l => ab (f (128 * r + k.val) (128 * j + l.val))
/-- The scale. -/
def sX (r c : ℕ) : EReal := sc (xmaxN f r c * Ideal.ieee 8 23 0x3B124925#32)
def sY (r j : ℕ) : EReal := sc (ymaxN f r j * Ideal.ieee 8 23 0x37924925#32)
/-- The code. -/
def cX (t c : ℕ) : EReal := min (Ideal.ieee 8 23 0x43E00000#32) (max (Ideal.ieee 8 23 0xC3E00000#32) (f t c * Ideal.div 1 (sX f (t / 128) c)))
def cY (t c : ℕ) : EReal := min (Ideal.ieee 8 23 0x47600000#32) (max (Ideal.ieee 8 23 0xC7600000#32) (f t c * Ideal.div 1 (sY f (t / 128) (c / 128))))
/-- What the code stands for. -/
def wX (t c : ℕ) : EReal := cX f t c * sX f (t / 128) c
def wY (t c : ℕ) : EReal := cY f t c * sY f (t / 128) (c / 128)

theorem cX_at {t c r : ℕ} (h : t / 128 = r) :
    cX f t c = min (Ideal.ieee 8 23 0x43E00000#32) (max (Ideal.ieee 8 23 0xC3E00000#32) (f t c * Ideal.div 1 (sX f r c))) := by subst h; rfl
theorem cY_at {t c r j : ℕ} (h : t / 128 = r) (h' : c / 128 = j) :
    cY f t c = min (Ideal.ieee 8 23 0x47600000#32) (max (Ideal.ieee 8 23 0xC7600000#32) (f t c * Ideal.div 1 (sY f r j))) := by subst h; subst h'; rfl
theorem wX_at {t c r : ℕ} (h : t / 128 = r) : wX f t c = cX f t c * sX f r c := by subst h; rfl
theorem wY_at {t c r j : ℕ} (h : t / 128 = r) (h' : c / 128 = j) : wY f t c = cY f t c * sY f r j := by subst h; subst h'; rfl

variable {f} (hf : ∀ t c, ab (f t c) ≤ pw 128)
include hf
theorem xbd (r c : ℕ) : xmaxN f r c * Ideal.ieee 8 23 0x3B124925#32 < pw 126 := xbound_lt (fold_max_le fun k => hf _ _)
theorem ybd (r j : ℕ) : ymaxN f r j * Ideal.ieee 8 23 0x37924925#32 < pw 126 := ybound_lt (fold_max_le fun k => fold_max_le fun l => hf _ _)
end Results

/-! ## The sums over a range of tokens -/

section Sums
variable (wx wy : ℕ → ℕ → EReal)
/-- What a token adds, if it is in the range. -/
def term (lo hi r c t : ℕ) : EReal := if lo ≤ t ∧ t < hi then wx t r * wy t c else 0
/-- The sum of the first `n` tokens. -/
def tot (n lo hi r c : ℕ) : EReal := ∑ t ∈ Finset.range n, term wx wy lo hi r c t

theorem term_out {lo hi r c t : ℕ} (h : ¬(lo ≤ t ∧ t < hi)) : term wx wy lo hi r c t = 0 := if_neg h
theorem term_in {lo hi r c t : ℕ} (h : lo ≤ t ∧ t < hi) : term wx wy lo hi r c t = wx t r * wy t c := if_pos h
theorem tot_of_le {n lo hi r c : ℕ} (h : n ≤ lo) : tot wx wy n lo hi r c = 0 :=
  Finset.sum_eq_zero fun t ht => term_out wx wy (by have := Finset.mem_range.mp ht; omega)
theorem tot_empty {n lo hi r c : ℕ} (h : hi ≤ lo) : tot wx wy n lo hi r c = 0 :=
  Finset.sum_eq_zero fun t _ => term_out wx wy (by omega)
theorem tot_ext {n n' lo hi r c : ℕ} (h : hi ≤ n) (hn : n ≤ n') : tot wx wy n lo hi r c = tot wx wy n' lo hi r c :=
  Finset.sum_subset (Finset.range_mono hn) fun t _ ht => term_out wx wy (by have := mt Finset.mem_range.mpr ht; omega)
theorem tot_eq {n n' lo hi r c : ℕ} (h : hi ≤ n) (h' : hi ≤ n') : tot wx wy n lo hi r c = tot wx wy n' lo hi r c :=
  (le_total n n').elim (tot_ext wx wy h) fun hn => (tot_ext wx wy h' hn).symm
theorem tot_fin (n lo hi r c : ℕ) : tot wx wy n lo hi r c = ∑ i : Fin n, term wx wy lo hi r c i.val := Finset.sum_range _
theorem tot_add (n k lo hi r c : ℕ) : tot wx wy (n + k) lo hi r c = tot wx wy n lo hi r c + ∑ i : Fin k, term wx wy lo hi r c (n + i.val) := by
  unfold tot
  rw [Finset.sum_range_add, Finset.sum_range (fun i => term wx wy lo hi r c (n + i))]
end Sums

/-! ## Operations at an index -/

theorem zero_word16 : Ideal.ieee 8 7 0x0000#16 = 0 := by simp [Ideal.ieee]
theorem cmp_le {x y : EReal} (h : Ideal.cmp .ole x y = 1#1) : x ≤ y := by
  unfold Ideal.cmp at h
  by_contra hn
  simp [hn] at h
theorem bc_val {n : ℕ} (r : Fin n) : r.val = if n = 1 then 0 else r.val := by have := r.isLt; split <;> omega

/-- A choice by a range, of words below `2 ^ 31`. -/
theorem sel_range {α : Type} (w s e : BitVec 32) (hw : w.toNat < 2 ^ 31) (hs : s.toNat < 2 ^ 31) (he : e.toNat < 2 ^ 31) (a b : α) :
    Scalar.select (IntOp.andi (IntOp.cmpi .sge w s) (IntOp.cmpi .slt w e)) a b = if s.toNat ≤ w.toNat ∧ w.toNat < e.toNat then a else b := by
  have iw : w.toInt = w.toNat := BitVec.toInt_eq_toNat_of_lt (by omega)
  have is : s.toInt = s.toNat := BitVec.toInt_eq_toNat_of_lt (by omega)
  have ie : e.toInt = e.toNat := BitVec.toInt_eq_toNat_of_lt (by omega)
  have hi : IntOp.andi (IntOp.cmpi .sge w s) (IntOp.cmpi .slt w e) = 1#1 ↔ s.toNat ≤ w.toNat ∧ w.toNat < e.toNat := by
    rw [IntOp.andi_eq_one, IntOp.cmpi_sge, IntOp.cmpi_slt, iw, is, ie]; omega
  show (if _ = 1#1 then a else b) = _
  exact if_congr hi rfl rfl

/-- A product of a matrix transposed and a matrix, at an index. -/
theorem dot_apply {K M N : ℕ} {φ₁ φ₂ : FTy} (d : DotDims ⟨2, ![K, M]⟩ ⟨2, ![K, N]⟩ ⟨2, ![M, N]⟩) (prec : Option ContractPrecision)
    (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul d prec lhs rhs acc (ix2 r c) = acc (ix2 r c) + ∑ k : Fin K, lhs (ix2 k r) * rhs (ix2 k c) := by
  rw [Ideal.matmul_apply, ← Equiv.sum_comp (contrEquiv1 d K hr hs).symm]
  refine congrArg (acc (ix2 r c) + ·) (Finset.sum_congr rfl fun k _ => ?_)
  have hk := contrEquiv1_symm_val d K hr hs k
  have el : d.lhsIdx (ix2 r c) ((contrEquiv1 d K hr hs).symm k) = ix2 k r := by
    funext a; apply Fin.ext
    match a with
    | ⟨0, _⟩ => exact (hl0 _ _).trans hk
    | ⟨1, _⟩ => exact hl1 _ _
  have er : d.rhsIdx (ix2 r c) ((contrEquiv1 d K hr hs).symm k) = ix2 k c := by
    funext a; apply Fin.ext
    match a with
    | ⟨0, _⟩ => exact (hr0 _ _).trans hk
    | ⟨1, _⟩ => exact hr1 _ _
  rw [el, er]

/-- The largest entry of each column. -/
theorem colmax {m n : ℕ} (v : FVec Ideal ⟨2, ![m, n]⟩ .bf16) (h : (⟨2, ![m, n]⟩ : Shape).Reduces [0] ⟨1, ![n]⟩) (hφ : FKind.Formats .bf16)
    (hacc : 0xFF80#16 = FKind.maximumf.neutral .bf16 hφ) (c : Fin n) :
    multiReduction .maximumf [0] ⟨1, ![n]⟩ (absf v) 0xFF80#16 h hφ hacc (ix1 c) = (Finset.univ : Finset (Fin m)).fold max ⊥ fun k => ab (v (ix2 k c)) := by
  refine (Ideal.multiReduction_maximumf_single _ _ h hφ hacc _).trans ?_
  show Finset.fold max (Ideal.ieee 8 7 0xFF80#16) _ _ = _
  rw [bot_word16]
  refine congrArg (fun f => Finset.fold max ⊥ f (Finset.univ : Finset (Fin m))) (funext fun k => ?_)
  show absf v (h.lift (ix1 c) k) = _
  rw [lift_rows h c k]
  rfl
theorem lift_cols {n : ℕ} (h : (⟨2, ![1, n]⟩ : Shape).Reduces [1] ⟨1, ![1]⟩) (k : Fin ((⟨2, ![1, n]⟩ : Shape).size 1)) :
    h.lift (ix1 (0 : Fin 1)) k = ix2 (0 : Fin 1) (⟨k.val, k.isLt⟩ : Fin n) := by
  funext c; apply Fin.ext
  fin_cases c <;> rfl
theorem max_row {n : ℕ} (v : FVec Ideal ⟨2, ![1, n]⟩ .f32) (h : (⟨2, ![1, n]⟩ : Shape).Reduces [1] ⟨1, ![1]⟩) (hφ : FKind.Formats .f32)
    (hacc : 0xFF800000#32 = FKind.maximumf.neutral .f32 hφ) :
    multiReduction .maximumf [1] ⟨1, ![1]⟩ v 0xFF800000#32 h hφ hacc (ix1 (0 : Fin 1)) = (Finset.univ : Finset (Fin n)).fold max ⊥ fun k => v (ix2 (0 : Fin 1) k) := by
  refine (Ideal.multiReduction_maximumf_single _ _ h hφ hacc _).trans ?_
  show Finset.fold max (Ideal.ieee 8 23 0xFF800000#32) _ _ = _
  rw [bot_word]
  exact congrArg (fun f => Finset.fold max ⊥ f (Finset.univ : Finset (Fin n))) (funext fun k => congrArg v (lift_cols h k))
theorem lift_mid {n a m : ℕ} (h : (⟨3, ![n, a, m]⟩ : Shape).Reduces [1] ⟨2, ![n, m]⟩) (r : Fin n) (c : Fin m) (k : Fin ((⟨3, ![n, a, m]⟩ : Shape).size 1)) :
    h.lift (ix2 r c) k = ix3 r (⟨k.val, k.isLt⟩ : Fin a) c := by
  funext c; apply Fin.ext
  fin_cases c <;> rfl
theorem max_mid {n a m : ℕ} (v : FVec Ideal ⟨3, ![n, a, m]⟩ .f32) (h : (⟨3, ![n, a, m]⟩ : Shape).Reduces [1] ⟨2, ![n, m]⟩) (hφ : FKind.Formats .f32)
    (hacc : 0xFF800000#32 = FKind.maximumf.neutral .f32 hφ) (r : Fin n) (c : Fin m) :
    multiReduction .maximumf [1] ⟨2, ![n, m]⟩ v 0xFF800000#32 h hφ hacc (ix2 r c) = (Finset.univ : Finset (Fin a)).fold max ⊥ fun k => v (ix3 r k c) := by
  refine (Ideal.multiReduction_maximumf_single _ _ h hφ hacc _).trans ?_
  show Finset.fold max (Ideal.ieee 8 23 0xFF800000#32) _ _ = _
  rw [bot_word]
  exact congrArg (fun f => Finset.fold max ⊥ f (Finset.univ : Finset (Fin a))) (funext fun k => congrArg v (lift_mid h r c k))
theorem lift_last {n a m b : ℕ} (h : (⟨4, ![n, a, m, b]⟩ : Shape).Reduces [3] ⟨3, ![n, a, m]⟩) (r : Fin n) (k : Fin a) (j : Fin m)
    (l : Fin ((⟨4, ![n, a, m, b]⟩ : Shape).size 3)) : h.lift (ix3 r k j) l = ix4 r k j (⟨l.val, l.isLt⟩ : Fin b) := by
  funext c; apply Fin.ext
  fin_cases c <;> rfl
theorem max_last {n a m b : ℕ} (v : FVec Ideal ⟨4, ![n, a, m, b]⟩ .f32) (h : (⟨4, ![n, a, m, b]⟩ : Shape).Reduces [3] ⟨3, ![n, a, m]⟩) (hφ : FKind.Formats .f32)
    (hacc : 0xFF800000#32 = FKind.maximumf.neutral .f32 hφ) (r : Fin n) (k : Fin a) (j : Fin m) :
    multiReduction .maximumf [3] ⟨3, ![n, a, m]⟩ v 0xFF800000#32 h hφ hacc (ix3 r k j) = (Finset.univ : Finset (Fin b)).fold max ⊥ fun l => v (ix4 r k j l) := by
  refine (Ideal.multiReduction_maximumf_single _ _ h hφ hacc _).trans ?_
  show Finset.fold max (Ideal.ieee 8 23 0xFF800000#32) _ _ = _
  rw [bot_word]
  exact congrArg (fun f => Finset.fold max ⊥ f (Finset.univ : Finset (Fin b))) (funext fun l => congrArg v (lift_last h r k j l))

/-- A value of each block spread over its entries. -/
theorem spread3 {α : Type} {n a m : ℕ} (x : (⟨2, ![n, m]⟩ : Shape).Idx → α) (hc : (⟨2, ![n, m]⟩ : Shape).ShapeCasts ⟨3, ![n, 1, m]⟩)
    (hb : (⟨3, ![n, 1, m]⟩ : Shape).Broadcasts ⟨3, ![n, a, m]⟩) (r : Fin n) (k : Fin a) (c : Fin m) :
    broadcastTo ⟨3, ![n, a, m]⟩ (shapeCast ⟨3, ![n, 1, m]⟩ x hc) hb (ix3 r k c) = x (ix2 r c) :=
  (broadcastTo_apply _ hb _ (ix3 r (0 : Fin 1) c) (fun ax => by
    match ax with
    | ⟨0, _⟩ => exact bc_val r
    | ⟨1, _⟩ => rfl
    | ⟨2, _⟩ => exact bc_val c)).trans
    (shapeCast_apply x hc _ (ix2 r c) (by
      rw [Shape.rowMajor_val_two, Shape.rowMajor_val_three]
      show r.val * m + c.val = (r.val * 1 + 0) * m + c.val
      rw [Nat.mul_one, Nat.add_zero]))
theorem spread4 {α : Type} {n a m b : ℕ} (x : (⟨2, ![n, m]⟩ : Shape).Idx → α) (hc : (⟨2, ![n, m]⟩ : Shape).ShapeCasts ⟨4, ![n, 1, m, 1]⟩)
    (hb : (⟨4, ![n, 1, m, 1]⟩ : Shape).Broadcasts ⟨4, ![n, a, m, b]⟩) (r : Fin n) (k : Fin a) (j : Fin m) (l : Fin b) :
    broadcastTo ⟨4, ![n, a, m, b]⟩ (shapeCast ⟨4, ![n, 1, m, 1]⟩ x hc) hb (ix4 r k j l) = x (ix2 r j) :=
  (broadcastTo_apply _ hb _ (ix4 r (0 : Fin 1) j (0 : Fin 1)) (fun ax => by
    match ax with
    | ⟨0, _⟩ => exact bc_val r
    | ⟨1, _⟩ => rfl
    | ⟨2, _⟩ => exact bc_val j
    | ⟨3, _⟩ => rfl)).trans
    (shapeCast_apply x hc _ (ix2 r j) (by
      rw [Shape.rowMajor_val_two, Shape.rowMajor_val_four]
      show r.val * m + j.val = ((r.val * 1 + 0) * m + j.val) * 1 + 0
      rw [Nat.mul_one, Nat.mul_one, Nat.add_zero, Nat.add_zero]))
theorem spread_lead {α : Type} {a n m : ℕ} (x : (⟨2, ![n, m]⟩ : Shape).Idx → α) (hc : (⟨2, ![n, m]⟩ : Shape).ShapeCasts ⟨3, ![1, n, m]⟩)
    (hb : (⟨3, ![1, n, m]⟩ : Shape).Broadcasts ⟨3, ![a, n, m]⟩) (k : Fin a) (r : Fin n) (c : Fin m) :
    broadcastTo ⟨3, ![a, n, m]⟩ (shapeCast ⟨3, ![1, n, m]⟩ x hc) hb (ix3 k r c) = x (ix2 r c) :=
  (broadcastTo_apply _ hb _ (ix3 (0 : Fin 1) r c) (fun ax => by
    match ax with
    | ⟨0, _⟩ => rfl
    | ⟨1, _⟩ => exact bc_val r
    | ⟨2, _⟩ => exact bc_val c)).trans
    (shapeCast_apply x hc _ (ix2 r c) (by
      rw [Shape.rowMajor_val_two, Shape.rowMajor_val_three]
      show r.val * m + c.val = (0 * n + r.val) * m + c.val
      rw [Nat.zero_mul, Nat.zero_add]))

theorem lift_lead {a n m : ℕ} (h : (⟨3, ![a, n, m]⟩ : Shape).Reduces [0] ⟨2, ![n, m]⟩) (r : Fin n) (c : Fin m) (k : Fin ((⟨3, ![a, n, m]⟩ : Shape).size 0)) :
    h.lift (ix2 r c) k = ix3 (⟨k.val, k.isLt⟩ : Fin a) r c := by
  funext c; apply Fin.ext
  fin_cases c <;> rfl

/-- The power of two a plain search finds: the least above the bound, or 1 where the bound is tiny. -/
theorem plain_scale {n m : ℕ} (t : FVec Ideal ⟨2, ![n, m]⟩ .f32) (hi : (⟨3, ![253, n, m]⟩ : Shape).Iotas .tc 32 [0])
    (hc : (⟨2, ![n, m]⟩ : Shape).ShapeCasts ⟨3, ![1, n, m]⟩) (hb : (⟨3, ![1, n, m]⟩ : Shape).Broadcasts ⟨3, ![253, n, m]⟩)
    (hr : (⟨3, ![253, n, m]⟩ : Shape).Reduces [0] ⟨2, ![n, m]⟩) (hφ : FKind.Formats .f32) (hacc : 0x7F800000#32 = FKind.minimumf.neutral .f32 hφ)
    (r : Fin n) (c : Fin m) (ht : t (ix2 r c) < pw 126) :
    select (cmpf .olt t (broadcast ⟨2, ![n, m]⟩ (Scalar.ofBits .f32 0x00800000#32 : Ideal .f32))) (broadcast ⟨2, ![n, m]⟩ (Scalar.ofBits .f32 0x3F800000#32 : Ideal .f32))
      (multiReduction .minimumf [0] ⟨2, ![n, m]⟩
        (select (cmpf .olt (broadcastTo ⟨3, ![253, n, m]⟩ (shapeCast ⟨3, ![1, n, m]⟩ t hc) hb)
            (exp2 (sitofp .f32 (subi (iota .tc ⟨3, ![253, n, m]⟩ 32 [0] hi) (broadcast ⟨3, ![253, n, m]⟩ 125#32)))))
          (exp2 (sitofp .f32 (subi (iota .tc ⟨3, ![253, n, m]⟩ 32 [0] hi) (broadcast ⟨3, ![253, n, m]⟩ 125#32))))
          (broadcast ⟨3, ![253, n, m]⟩ (Scalar.ofBits .f32 0x7F800000#32 : Ideal .f32))) 0x7F800000#32 hr hφ hacc) (ix2 r c) = sc (t (ix2 r c)) := by
  have hx : ∀ k : Fin 253, (exp2 (sitofp .f32 (subi (iota .tc ⟨3, ![253, n, m]⟩ 32 [0] hi) (broadcast ⟨3, ![253, n, m]⟩ 125#32))) : FVec Ideal ⟨3, ![253, n, m]⟩ .f32) (ix3 k r c)
      = pw ((k.val : ℤ) - 125) := fun k => by
    show Ideal.exp2 (((IntOp.subi (iota .tc ⟨3, ![253, n, m]⟩ 32 [0] hi (ix3 k r c)) 125#32).toInt : ℝ) : EReal) = _
    rw [iota_single_apply]
    show Ideal.exp2 (((IntOp.subi (BitVec.ofNat 32 k.val) 125#32).toInt : ℝ) : EReal) = _
    rw [int_all k]
    exact exp2_int _
  have hk : ∀ k : Fin 253, Scalar.select (Ideal.cmp .olt (broadcastTo ⟨3, ![253, n, m]⟩ (shapeCast ⟨3, ![1, n, m]⟩ t hc) hb (ix3 k r c))
    ((exp2 (sitofp .f32 (subi (iota .tc ⟨3, ![253, n, m]⟩ 32 [0] hi) (broadcast ⟨3, ![253, n, m]⟩ 125#32))) : FVec Ideal ⟨3, ![253, n, m]⟩ .f32) (ix3 k r c)))
    ((exp2 (sitofp .f32 (subi (iota .tc ⟨3, ![253, n, m]⟩ 32 [0] hi) (broadcast ⟨3, ![253, n, m]⟩ 125#32))) : FVec Ideal ⟨3, ![253, n, m]⟩ .f32) (ix3 k r c))
    (Ideal.ieee 8 23 0x7F800000#32)
      = if t (ix2 r c) < pw ((k.val : ℤ) - 125) then pw ((k.val : ℤ) - 125) else ⊤ := fun k => by
    rw [hx k, spread_lead, cmp_lt, select_if, top_word]
  show Scalar.select (Ideal.cmp .olt (t (ix2 r c)) (Ideal.ieee 8 23 0x00800000#32)) (Ideal.ieee 8 23 0x3F800000#32) _ = _
  rw [tiny_word, one_word, cmp_lt, select_if]
  refine Eq.trans ?_ (least ht)
  refine congrArg (fun z => if t (ix2 r c) < pw (-126) then 1 else z) ?_
  refine (multiReduction_minimumf_eq_fold _ _ hr hφ hacc _).trans ?_
  refine (hr.fold_filter_drop_single _ _ _ _).trans ?_
  show Finset.fold min (Ideal.ieee 8 23 0x7F800000#32) _ _ = _
  rw [top_word]
  refine congrArg (fun f => Finset.fold min ⊤ f (Finset.univ : Finset (Fin 253))) (funext fun k => ?_)
  show select _ _ _ (hr.lift (ix2 r c) k) = _
  rw [lift_lead hr r c k]
  exact hk k

end Cert.Scale
end
-- ==== Proof.RVal.lean ====
/-
The reference's payloads on the extended reals: the scales, the codes, what they stand for and the sums.
-/
module

public import proofs.«01_k».proof.Proof.Spec
public import proofs.«01_k».proof.Proof.Gen.ReferenceIdeal.Skeleton
@[expose] public section
set_option maxRecDepth 65536
noncomputable section
open Idealize.ShloMosaic Idealize.ShloMosaic.ValueIdx

namespace Cert.ReferenceIdeal.Read
open Cert.ReferenceIdeal Cert.ReferenceIdeal.Gen Cert.Scale

/-! ## Rows and blocks laid out flat -/

theorem flat3 {α : Type} (x : S384x128x2048.Idx → α) (h : S384x128x2048.ShapeCasts S49152x2048) (t : Fin 49152) (c : Fin 2048) :
    shapeCast S49152x2048 x h (ix2 t c) = x (ix3 (⟨t.val / 128, by have := t.isLt; omega⟩ : Fin 384) (⟨t.val % 128, Nat.mod_lt _ (by decide)⟩ : Fin 128) c) :=
  shapeCast_apply x h _ _ (by
    rw [Shape.rowMajor_val_two, Shape.rowMajor_val_three]
    show (t.val / 128 * 128 + t.val % 128) * 2048 + c.val = t.val * 2048 + c.val
    omega)
theorem flat4 {α : Type} (x : S384x128x11x128.Idx → α) (h : S384x128x11x128.ShapeCasts S49152x1408) (t : Fin 49152) (c : Fin 1408) :
    shapeCast S49152x1408 x h (ix2 t c) = x (ix4 (⟨t.val / 128, by have := t.isLt; omega⟩ : Fin 384) (⟨t.val % 128, Nat.mod_lt _ (by decide)⟩ : Fin 128)
      (⟨c.val / 128, by have := c.isLt; omega⟩ : Fin 11) (⟨c.val % 128, Nat.mod_lt _ (by decide)⟩ : Fin 128)) :=
  shapeCast_apply x h _ _ (by
    rw [Shape.rowMajor_val_two, Shape.rowMajor_val_four]
    show ((t.val / 128 * 128 + t.val % 128) * 11 + c.val / 128) * 128 + c.val % 128 = t.val * 1408 + c.val
    omega)

/-! ## Operations at an index -/

theorem mul_bc {s : Shape} (A : FVec Ideal s .f32) (w : BitVec 32) (i : s.Idx) :
    mulf A (broadcast s (Scalar.ofBits .f32 w : Ideal .f32)) i = (A i : EReal) * Ideal.ieee 8 23 w := rfl
theorem recip_at {s : Shape} (S : FVec Ideal s .f32) (i : s.Idx) :
    divf (broadcast s (Scalar.ofBits .f32 0x3F800000#32 : Ideal .f32)) S i = Ideal.div (Ideal.ieee 8 23 0x3F800000#32) (S i) := rfl
theorem clampX_at {s : Shape} (A B : FVec Ideal s .f32) (lo hi : BitVec 32) (i : s.Idx) :
    truncf .fp8e4m3 (minimumf (broadcast s (Scalar.ofBits .f32 hi : Ideal .f32)) (maximumf (broadcast s (Scalar.ofBits .f32 lo : Ideal .f32)) (mulf A B))) bitsLt_fp8e4m3_f32 i
      = min (Ideal.ieee 8 23 hi) (max (Ideal.ieee 8 23 lo) ((A i : EReal) * B i)) := rfl
theorem clampY_at {s : Shape} (A B : FVec Ideal s .f32) (lo hi : BitVec 32) (i : s.Idx) :
    truncf .fp8e5m2 (minimumf (broadcast s (Scalar.ofBits .f32 hi : Ideal .f32)) (maximumf (broadcast s (Scalar.ofBits .f32 lo : Ideal .f32)) (mulf A B))) bitsLt_fp8e5m2_f32 i
      = min (Ideal.ieee 8 23 hi) (max (Ideal.ieee 8 23 lo) ((A i : EReal) * B i)) := rfl
theorem wideX_at {s : Shape} (A : FVec Ideal s .fp8e4m3) (B : FVec Ideal s .bf16) (i : s.Idx) :
    mulf (extf .bf16 A bitsLt_fp8e4m3_bf16) B i = (A i : EReal) * B i := rfl
theorem wideY_at {s : Shape} (A : FVec Ideal s .fp8e5m2) (B : FVec Ideal s .bf16) (i : s.Idx) :
    mulf (extf .bf16 A bitsLt_fp8e5m2_bf16) B i = (A i : EReal) * B i := rfl
theorem trunc16_at {s : Shape} (S : FVec Ideal s .f32) (i : s.Idx) : truncf .bf16 S bitsLt_bf16_f32 i = (S i : EReal) := rfl

section X
variable (v : Vec Ideal S49152x2048 .bf16)

theorem pay2_at (r : Fin 384) (k : Fin 128) (c : Fin 2048) : k0_pay2 (F := Ideal) v (ix3 r k c) = fX v (128 * r.val + k.val) c.val := by
  have hr := r.isLt; have hk := k.isLt
  unfold k0_pay2
  refine Eq.trans ?_ (at2_eq _ _ v (show 128 * r.val + k.val < 49152 by omega) c.isLt).symm
  refine shapeCast_apply (extf .f32 v _ : FVec Ideal S49152x2048 .f32) _ _ (ix2 (⟨128 * r.val + k.val, by omega⟩ : Fin 49152) c) ?_
  rw [Shape.rowMajor_val_two, Shape.rowMajor_val_three]
  show (128 * r.val + k.val) * 2048 + c.val = (r.val * 128 + k.val) * 2048 + c.val
  omega
theorem xmax_at (h : S384x128x2048.Reduces [1] S384x2048) (hφ : FKind.Formats .f32) (hacc : 0xFF800000#32 = FKind.maximumf.neutral .f32 hφ) (r : Fin 384) (c : Fin 2048) :
    multiReduction .maximumf [1] S384x2048 (absf (k0_pay2 (F := Ideal) v)) 0xFF800000#32 h hφ hacc (ix2 r c) = xmaxN (fX v) r.val c.val :=
  (max_mid _ h hφ hacc r c).trans (congrArg (fun f => Finset.fold max ⊥ f (Finset.univ : Finset (Fin 128))) (funext fun k => congrArg ab (pay2_at v r k c)))
theorem xb_at (r : Fin 384) (c : Fin 2048) :
    mulf (multiReduction .maximumf [1] S384x2048 (absf (k0_pay2 (F := Ideal) v)) 0xFF800000#32 reduces_S384x128x2048_S384x2048 (.inl rfl) rfl : FVec Ideal S384x2048 .f32)
      (broadcast S384x2048 (Scalar.ofBits .f32 0x3B124925#32 : Ideal .f32)) (ix2 r c)
      = xmaxN (fX v) r.val c.val * Ideal.ieee 8 23 0x3B124925#32 :=
  (mul_bc _ _ _).trans (congrArg (fun z : EReal => z * Ideal.ieee 8 23 0x3B124925#32) (xmax_at v _ (.inl rfl) rfl r c))
variable (hX : ∀ t c, ab (fX v t c) ≤ pw 128)
include hX
theorem pay3_at (r : Fin 384) (c : Fin 2048) : k0_pay3 (F := Ideal) v (ix2 r c) = sX (fX v) r.val c.val := by
  unfold k0_pay3
  exact (plain_scale _ _ _ _ _ (.inl rfl) rfl r c (lt_of_eq_of_lt (xb_at v r c) (xbd hX _ _))).trans (congrArg sc (xb_at v r c))
attribute [local irreducible] k0_pay3
theorem pay4_at (r : Fin 384) (k : Fin 128) (c : Fin 2048) : k0_pay4 (F := Ideal) v (ix3 r k c) = cX (fX v) (128 * r.val + k.val) c.val := by
  unfold k0_pay4
  refine (clampX_at _ _ _ _ _).trans ?_
  refine (congrArg₂ (fun p q : EReal => min (Ideal.ieee 8 23 0x43E00000#32) (max (Ideal.ieee 8 23 0xC3E00000#32) (p * q))) (pay2_at v r k c)
    ((spread3 _ _ _ r k c).trans ((recip_at _ _).trans (congrArg₂ Ideal.div one_word (pay3_at v hX r c))))).trans ?_
  exact (cX_at (fX v) (show (128 * r.val + k.val) / 128 = r.val by have := k.isLt; omega)).symm
attribute [local irreducible] k0_pay4
theorem pay6_at (t : Fin 49152) (c : Fin 2048) : k0_pay6 (F := Ideal) v (ix2 t c) = cX (fX v) t.val c.val := by
  unfold k0_pay6
  refine (flat3 _ _ t c).trans ((pay4_at v hX _ _ c).trans ?_)
  exact congrArg (fun z => cX (fX v) z c.val) (show 128 * (t.val / 128) + t.val % 128 = t.val by omega)
theorem pay5_at (t : Fin 49152) (c : Fin 2048) : k0_pay5 (F := Ideal) v (ix2 t c) = wX (fX v) t.val c.val := by
  unfold k0_pay5
  refine (flat3 _ _ t c).trans ((wideX_at _ _ _).trans ?_)
  refine (congrArg₂ (fun p q : EReal => p * q) (pay4_at v hX _ _ c) ((spread3 _ _ _ _ _ c).trans ((trunc16_at _ _).trans (pay3_at v hX _ c)))).trans ?_
  exact congrArg (fun z => cX (fX v) z c.val * sX (fX v) (t.val / 128) c.val) (show 128 * (t.val / 128) + t.val % 128 = t.val by omega)
end X

section Y
variable (v : Vec Ideal S49152x1408 .bf16)

theorem pay7_at (r : Fin 384) (k : Fin 128) (j : Fin 11) (l : Fin 128) : k0_pay7 (F := Ideal) v (ix4 r k j l) = fY v (128 * r.val + k.val) (128 * j.val + l.val) := by
  have hr := r.isLt; have hk := k.isLt; have hj := j.isLt; have hl := l.isLt
  unfold k0_pay7
  refine Eq.trans ?_ (at2_eq _ _ v (show 128 * r.val + k.val < 49152 by omega) (show 128 * j.val + l.val < 1408 by omega)).symm
  refine shapeCast_apply (extf .f32 v _ : FVec Ideal S49152x1408 .f32) _ _ (ix2 (⟨128 * r.val + k.val, by omega⟩ : Fin 49152) (⟨128 * j.val + l.val, by omega⟩ : Fin 1408)) ?_
  rw [Shape.rowMajor_val_two, Shape.rowMajor_val_four]
  show (128 * r.val + k.val) * 1408 + (128 * j.val + l.val) = ((r.val * 128 + k.val) * 11 + j.val) * 128 + l.val
  omega
theorem ymax_at (h : S384x128x11x128.Reduces [3] S384x128x11) (h' : S384x128x11.Reduces [1] S384x11) (hφ hφ' : FKind.Formats .f32)
    (hacc : 0xFF800000#32 = FKind.maximumf.neutral .f32 hφ) (hacc' : 0xFF800000#32 = FKind.maximumf.neutral .f32 hφ') (r : Fin 384) (j : Fin 11) :
    multiReduction .maximumf [1] S384x11 (multiReduction .maximumf [3] S384x128x11 (absf (k0_pay7 (F := Ideal) v)) 0xFF800000#32 h hφ hacc) 0xFF800000#32 h' hφ' hacc' (ix2 r j)
      = ymaxN (fY v) r.val j.val :=
  (max_mid _ h' hφ' hacc' r j).trans (congrArg (fun f => Finset.fold max ⊥ f (Finset.univ : Finset (Fin 128))) (funext fun k =>
    (max_last _ h hφ hacc r k j).trans (congrArg (fun f => Finset.fold max ⊥ f (Finset.univ : Finset (Fin 128))) (funext fun l => congrArg ab (pay7_at v r k j l)))))
theorem yb_at (r : Fin 384) (j : Fin 11) :
    mulf (multiReduction .maximumf [1] S384x11 (multiReduction .maximumf [3] S384x128x11 (absf (k0_pay7 (F := Ideal) v)) 0xFF800000#32 reduces_S384x128x11x128_S384x128x11 (.inl rfl) rfl : FVec Ideal S384x128x11 .f32)
      0xFF800000#32 reduces_S384x128x11_S384x11 (.inl rfl) rfl : FVec Ideal S384x11 .f32) (broadcast S384x11 (Scalar.ofBits .f32 0x37924925#32 : Ideal .f32)) (ix2 r j)
      = ymaxN (fY v) r.val j.val * Ideal.ieee 8 23 0x37924925#32 :=
  (mul_bc _ _ _).trans (congrArg (fun z : EReal => z * Ideal.ieee 8 23 0x37924925#32) (ymax_at v _ _ (.inl rfl) (.inl rfl) rfl rfl r j))
variable (hY : ∀ t c, ab (fY v t c) ≤ pw 128)
include hY
theorem pay8_at (r : Fin 384) (j : Fin 11) : k0_pay8 (F := Ideal) v (ix2 r j) = sY (fY v) r.val j.val := by
  unfold k0_pay8
  exact (plain_scale _ _ _ _ _ (.inl rfl) rfl r j (lt_of_eq_of_lt (yb_at v r j) (ybd hY _ _))).trans (congrArg sc (yb_at v r j))
attribute [local irreducible] k0_pay8
theorem pay9_at (r : Fin 384) (k : Fin 128) (j : Fin 11) (l : Fin 128) :
    k0_pay9 (F := Ideal) v (ix4 r k j l) = cY (fY v) (128 * r.val + k.val) (128 * j.val + l.val) := by
  unfold k0_pay9
  refine (clampY_at _ _ _ _ _).trans ?_
  refine (congrArg₂ (fun p q : EReal => min (Ideal.ieee 8 23 0x47600000#32) (max (Ideal.ieee 8 23 0xC7600000#32) (p * q))) (pay7_at v r k j l)
    ((spread4 _ _ _ r k j l).trans ((recip_at _ _).trans (congrArg₂ Ideal.div one_word (pay8_at v hY r j))))).trans ?_
  exact (cY_at (fY v) (show (128 * r.val + k.val) / 128 = r.val by have := k.isLt; omega) (show (128 * j.val + l.val) / 128 = j.val by have := l.isLt; omega)).symm
attribute [local irreducible] k0_pay9
theorem pay11_at (t : Fin 49152) (c : Fin 1408) : k0_pay11 (F := Ideal) v (ix2 t c) = cY (fY v) t.val c.val := by
  unfold k0_pay11
  refine (flat4 _ _ t c).trans ((pay9_at v hY _ _ _ _).trans ?_)
  exact congrArg₂ (cY (fY v)) (show 128 * (t.val / 128) + t.val % 128 = t.val by omega) (show 128 * (c.val / 128) + c.val % 128 = c.val by omega)
theorem pay10_at (t : Fin 49152) (c : Fin 1408) : k0_pay10 (F := Ideal) v (ix2 t c) = wY (fY v) t.val c.val := by
  unfold k0_pay10
  refine (flat4 _ _ t c).trans ((wideY_at _ _ _).trans ?_)
  refine (congrArg₂ (fun p q : EReal => p * q) (pay9_at v hY _ _ _ _) ((spread4 _ _ _ _ _ _ _).trans ((trunc16_at _ _).trans (pay8_at v hY _ _)))).trans ?_
  exact congrArg₂ (fun z w => cY (fY v) z w * sY (fY v) (t.val / 128) (c.val / 128))
    (show 128 * (t.val / 128) + t.val % 128 = t.val by omega) (show 128 * (c.val / 128) + c.val % 128 = c.val by omega)
end Y

/-- The sums of an expert's tokens. -/
theorem pay1_at (v37 : FVec Ideal S49152x2048 .bf16) (v79 : FVec Ideal S49152x1408 .bf16) (a w : BitVec 32) (ha : a.toNat < 2 ^ 31)
    (hw : (Scalar.addi a w).toNat < 2 ^ 31) (wx wy : ℕ → ℕ → EReal) (hx : ∀ (t : Fin 49152) (r : Fin 2048), v37 (ix2 t r) = wx t.val r.val)
    (hy : ∀ (t : Fin 49152) (c : Fin 1408), v79 (ix2 t c) = wy t.val c.val) (r : Fin 2048) (c : Fin 1408) :
    k0_pay1 (F := Ideal) v37 v79 a w (ix3 (0 : Fin 1) r c) = tot wx wy 49152 a.toNat (Scalar.addi a w).toNat r.val c.val := by
  unfold k0_pay1
  refine (shapeCast_apply _ _ _ (ix2 r c) ?_).trans ?_
  · rw [Shape.rowMajor_val_two, Shape.rowMajor_val_three]
    show r.val * 1408 + c.val = (0 * 2048 + r.val) * 1408 + c.val
    omega
  refine (dot_apply _ none rfl rfl (fun _ _ => rfl) (fun _ _ => rfl) (fun _ _ => rfl) (fun _ _ => rfl) _ _ _ r c).trans ?_
  rw [tot_fin]
  refine (congrArg₂ (fun (p q : EReal) => p + q) (zero_word : Ideal.ieee 8 23 0x00000000#32 = 0) (Finset.sum_congr rfl fun k _ => ?_)).trans (zero_add _)
  show (v37 (ix2 k r) : EReal) * Scalar.select (IntOp.andi (IntOp.cmpi .sge (iota .tc S49152x1408 32 [0] _ (ix2 k c)) a)
    (IntOp.cmpi .slt (iota .tc S49152x1408 32 [0] _ (ix2 k c)) (Scalar.addi a w))) (v79 (ix2 k c)) (Ideal.ieee 8 7 0x0000#16) = _
  rw [iota_single_apply]
  have hk : (BitVec.ofNat 32 k.val).toNat = k.val := by rw [BitVec.toNat_ofNat]; have := k.isLt; omega
  show (v37 (ix2 k r) : EReal) * Scalar.select (IntOp.andi (IntOp.cmpi .sge (BitVec.ofNat 32 k.val) a)
    (IntOp.cmpi .slt (BitVec.ofNat 32 k.val) (Scalar.addi a w))) (v79 (ix2 k c)) (Ideal.ieee 8 7 0x0000#16) = _
  rw [sel_range _ _ _ (by rw [hk]; have := k.isLt; omega) ha hw, hk, zero_word16, hx, hy]
  by_cases hin : a.toNat ≤ k.val ∧ k.val < (Scalar.addi a w).toNat
  · rw [if_pos hin, term_in _ _ hin]
  · rw [if_neg hin, term_out _ _ hin, mul_zero]

end Cert.ReferenceIdeal.Read
end
-- ==== Proof.KVal.lean ====
/-
The kernel's quantisation on the extended reals: the scales, the codes and what they stand for.
-/
module

public import proofs.«01_k».proof.Proof.Spec
public import proofs.«01_k».proof.Proof.Base
@[expose] public section
set_option maxRecDepth 65536
noncomputable section
open Idealize.ShloMosaic Idealize.ShloMosaic.TcCoe Idealize.ShloMosaic.ValueIdx

namespace Cert.KernelIdeal.Hand
open Cert.KernelIdeal Cert.Scale

/-! ## One block of `x` -/

section BlockX
theorem xBound_at (v : FVec Ideal S128x256 .bf16) (c : Fin 256) :
    xBound v (ix2 (0 : Fin 1) c) = ((Finset.univ : Finset (Fin 128)).fold max ⊥ fun k => ab (v (ix2 k c))) * Ideal.ieee 8 23 0x3B124925#32 :=
  congrArg (fun z : EReal => z * Ideal.ieee 8 23 0x3B124925#32) ((shapeCast_a_1a_apply _ _ 0 c).trans (colmax v _ (.inr rfl) rfl c))
theorem xBiased_at (t : FVec Ideal S1x256 .f32) (c : Fin 256) (ht : t (ix2 (0 : Fin 1) c) < pw 126) :
    xBiased t (ix2 (0 : Fin 1) c) = BitVec.ofNat 32 (bb (t (ix2 (0 : Fin 1) c))) :=
  (congrArg (fun n => Scalar.select (IntOp.cmpi .eq n 0#32) 126#32 n) ((shapeCast_a_1a_apply _ _ 0 c).trans (count t _ _ _ c ht))).trans (eq_zero_word (lv_le_252 ht))
variable (v : FVec Ideal S128x256 .bf16) (c : Fin 256) (ht : xBound v (ix2 (0 : Fin 1) c) < pw 126)
include ht
theorem xScale_at : xScale v (ix2 (0 : Fin 1) c) = sc (xBound v (ix2 (0 : Fin 1) c)) := by
  show Ideal.ieee 8 23 (IntOp.shli .vector (IntOp.addi (xBiased (xBound v) (ix2 (0 : Fin 1) c)) 1#32) 23#32) = _
  rw [xBiased_at _ _ ht]
  exact scale_word ht
theorem xInv_at : xInv v (ix2 (0 : Fin 1) c) = Ideal.div 1 (sc (xBound v (ix2 (0 : Fin 1) c))) := by
  show Ideal.ieee 8 23 (IntOp.shli .vector (IntOp.subi 253#32 (xBiased (xBound v) (ix2 (0 : Fin 1) c))) 23#32) = _
  rw [xBiased_at _ _ ht]
  exact inv_word ht
theorem xCode_at (r : Fin 128) : xCode v (ix2 r c)
    = min (Ideal.ieee 8 23 0x43E00000#32) (max (Ideal.ieee 8 23 0xC3E00000#32) (v (ix2 r c) * Ideal.div 1 (sc (xBound v (ix2 (0 : Fin 1) c))))) := by
  show min (Ideal.ieee 8 23 0x43E00000#32) (max (Ideal.ieee 8 23 0xC3E00000#32) ((v (ix2 r c) : EReal) * broadcastTo S128x256 (xInv v) _ (ix2 r c))) = _
  rw [broadcastTo_1b_ab_apply, xInv_at v c ht]
theorem xDeq_at (r : Fin 128) : xDeq v (ix2 r c) = (xCode v (ix2 r c) : EReal) * sc (xBound v (ix2 (0 : Fin 1) c)) := by
  show (xCode v (ix2 r c) : EReal) * broadcastTo S128x256 (xScale v) _ (ix2 r c) = _
  rw [broadcastTo_1b_ab_apply, xScale_at v c ht]
end BlockX

/-! ## One block of `dy` -/

section BlockY
theorem yBound_at (v : FVec Ideal S128x128 .bf16) (c : Fin 128) :
    yBound v (ix2 (0 : Fin 1) c) = ((Finset.univ : Finset (Fin 128)).fold max ⊥ fun k => (Finset.univ : Finset (Fin 128)).fold max ⊥ fun l => ab (v (ix2 k l)))
      * Ideal.ieee 8 23 0x37924925#32 :=
  congrArg (fun z : EReal => z * Ideal.ieee 8 23 0x37924925#32)
    ((broadcastTo_apply _ _ (ix2 (0 : Fin 1) c) (ix2 (0 : Fin 1) (0 : Fin 1)) (fun a => by match a with | ⟨0, _⟩ => rfl | ⟨1, _⟩ => rfl)).trans
      ((congrFun (shapeCast_self _ _) _).trans ((shapeCast_a_1a_apply _ _ 0 (0 : Fin 1)).trans ((max_row _ _ (.inl rfl) rfl).trans
        ((congrArg (fun f => Finset.fold max ⊥ f (Finset.univ : Finset (Fin 128))) (funext fun l => (shapeCast_a_1a_apply _ _ 0 l).trans (colmax v _ (.inr rfl) rfl l))).trans
          (fold_max_comm fun (l k : Fin 128) => ab (v (ix2 k l))))))))
theorem yBiased_at (t : FVec Ideal S1x128 .f32) (c : Fin 128) (ht : t (ix2 (0 : Fin 1) c) < pw 126) :
    yBiased t (ix2 (0 : Fin 1) c) = BitVec.ofNat 32 (bb (t (ix2 (0 : Fin 1) c))) :=
  (congrArg (fun n => Scalar.select (IntOp.cmpi .eq n 0#32) 126#32 n) ((shapeCast_a_1a_apply _ _ 0 c).trans (count t _ _ _ c ht))).trans (eq_zero_word (lv_le_252 ht))
variable (v : FVec Ideal S128x128 .bf16) (c : Fin 128) (ht : yBound v (ix2 (0 : Fin 1) c) < pw 126)
include ht
theorem yScale_at : yScale v (ix2 (0 : Fin 1) c) = sc (yBound v (ix2 (0 : Fin 1) c)) := by
  show Ideal.ieee 8 23 (IntOp.shli .vector (IntOp.addi (yBiased (yBound v) (ix2 (0 : Fin 1) c)) 1#32) 23#32) = _
  rw [yBiased_at _ _ ht]
  exact scale_word ht
theorem yInv_at : yInv v (ix2 (0 : Fin 1) c) = Ideal.div 1 (sc (yBound v (ix2 (0 : Fin 1) c))) := by
  show Ideal.ieee 8 23 (IntOp.shli .vector (IntOp.subi 253#32 (yBiased (yBound v) (ix2 (0 : Fin 1) c))) 23#32) = _
  rw [yBiased_at _ _ ht]
  exact inv_word ht
theorem yCode_at (r : Fin 128) : yCode v (ix2 r c)
    = min (Ideal.ieee 8 23 0x47600000#32) (max (Ideal.ieee 8 23 0xC7600000#32) (v (ix2 r c) * Ideal.div 1 (sc (yBound v (ix2 (0 : Fin 1) c))))) := by
  show min (Ideal.ieee 8 23 0x47600000#32) (max (Ideal.ieee 8 23 0xC7600000#32) ((v (ix2 r c) : EReal) * broadcastTo S128x128 (yInv v) _ (ix2 r c))) = _
  rw [broadcastTo_1b_ab_apply, yInv_at v c ht]
theorem yDeq_at (r : Fin 128) : yDeq v (ix2 r c) = (yCode v (ix2 r c) : EReal) * sc (yBound v (ix2 (0 : Fin 1) c)) := by
  show (yCode v (ix2 r c) : EReal) * broadcastTo S128x128 (yScale v) _ (ix2 r c) = _
  rw [broadcastTo_1b_ab_apply, yScale_at v c ht]
end BlockY

/-! ## Every block -/

section AllX
variable (X : S49152x2048.Idx → Elt Ideal .bf16)
theorem blkX_bound (k b i : ℕ) (c : Fin 256) : xBound (blkX X k b i) (ix2 (0 : Fin 1) c) = xmaxN (fX X) (2 * k + b) (256 * i + c.val) * Ideal.ieee 8 23 0x3B124925#32 :=
  (xBound_at _ c).trans (congrArg (fun z : EReal => z * Ideal.ieee 8 23 0x3B124925#32) (congrArg (fun f => Finset.fold max ⊥ f (Finset.univ : Finset (Fin 128)))
    (funext fun l => congrArg (fun z => ab (fX X z (256 * i + c.val))) (show 256 * k + 128 * b + l.val = 128 * (2 * k + b) + l.val by omega))))
variable {X} (hX : ∀ t c, ab (fX X t c) ≤ pw 128)
include hX
theorem blkX_lt (k b i : ℕ) (c : Fin 256) : xBound (blkX X k b i) (ix2 (0 : Fin 1) c) < pw 126 := lt_of_eq_of_lt (blkX_bound X k b i c) (xbd hX _ _)
theorem blkX_scale (k b i : ℕ) (c : Fin 256) : xScale (blkX X k b i) (ix2 (0 : Fin 1) c) = sX (fX X) (2 * k + b) (256 * i + c.val) :=
  (xScale_at _ c (blkX_lt hX k b i c)).trans (congrArg sc (blkX_bound X k b i c))
theorem blkX_code (k b i : ℕ) (r : Fin 128) (c : Fin 256) : xCode (blkX X k b i) (ix2 r c) = cX (fX X) (256 * k + 128 * b + r.val) (256 * i + c.val) := by
  rw [xCode_at _ c (blkX_lt hX k b i c), blkX_bound, cX_at (fX X) (show (256 * k + 128 * b + r.val) / 128 = 2 * k + b by have := r.isLt; omega)]
  rfl
theorem blkX_deq (k b i : ℕ) (r : Fin 128) (c : Fin 256) : xDeq (blkX X k b i) (ix2 r c) = wX (fX X) (256 * k + 128 * b + r.val) (256 * i + c.val) := by
  rw [xDeq_at _ c (blkX_lt hX k b i c), blkX_bound, blkX_code hX, wX_at (fX X) (show (256 * k + 128 * b + r.val) / 128 = 2 * k + b by have := r.isLt; omega)]
  rfl
theorem xs_eq (r c : ℕ) : xsAt X r c = sX (fX X) r c :=
  (blkX_scale hX (r / 2) (r % 2) (c / 256) ⟨c % 256 % 256, Nat.mod_lt _ (by decide)⟩).trans
    (congrArg₂ (sX (fX X)) (show 2 * (r / 2) + r % 2 = r by omega) (show 256 * (c / 256) + c % 256 % 256 = c by omega))
theorem xc_eq (t c : ℕ) : xcAt X t c = cX (fX X) t c :=
  (blkX_code hX (t / 256) (t % 256 / 128) (c / 256) ⟨t % 128 % 128, Nat.mod_lt _ (by decide)⟩ ⟨c % 256 % 256, Nat.mod_lt _ (by decide)⟩).trans
    (congrArg₂ (cX (fX X)) (show 256 * (t / 256) + 128 * (t % 256 / 128) + t % 128 % 128 = t by omega) (show 256 * (c / 256) + c % 256 % 256 = c by omega))
theorem xw_eq (t c : ℕ) : xwAt X t c = wX (fX X) t c :=
  (blkX_deq hX (t / 256) (t % 256 / 128) (c / 256) ⟨t % 128 % 128, Nat.mod_lt _ (by decide)⟩ ⟨c % 256 % 256, Nat.mod_lt _ (by decide)⟩).trans
    (congrArg₂ (wX (fX X)) (show 256 * (t / 256) + 128 * (t % 256 / 128) + t % 128 % 128 = t by omega) (show 256 * (c / 256) + c % 256 % 256 = c by omega))
end AllX

section AllY
variable (Y : S49152x1408.Idx → Elt Ideal .bf16)
theorem blkY_bound (k b j : ℕ) (c : Fin 128) : yBound (blkY Y k b j) (ix2 (0 : Fin 1) c) = ymaxN (fY Y) (2 * k + b) j * Ideal.ieee 8 23 0x37924925#32 :=
  (yBound_at _ c).trans (congrArg (fun z : EReal => z * Ideal.ieee 8 23 0x37924925#32) (congrArg (fun f => Finset.fold max ⊥ f (Finset.univ : Finset (Fin 128)))
    (funext fun p => congrArg (fun f => Finset.fold max ⊥ f (Finset.univ : Finset (Fin 128)))
      (funext fun l => congrArg (fun z => ab (fY Y z (128 * j + l.val))) (show 256 * k + 128 * b + p.val = 128 * (2 * k + b) + p.val by omega)))))
variable {Y} (hY : ∀ t c, ab (fY Y t c) ≤ pw 128)
include hY
theorem blkY_lt (k b j : ℕ) (c : Fin 128) : yBound (blkY Y k b j) (ix2 (0 : Fin 1) c) < pw 126 := lt_of_eq_of_lt (blkY_bound Y k b j c) (ybd hY _ _)
theorem blkY_scale (k b j : ℕ) (c : Fin 128) : yScale (blkY Y k b j) (ix2 (0 : Fin 1) c) = sY (fY Y) (2 * k + b) j :=
  (yScale_at _ c (blkY_lt hY k b j c)).trans (congrArg sc (blkY_bound Y k b j c))
theorem blkY_code (k b j : ℕ) (r c : Fin 128) : yCode (blkY Y k b j) (ix2 r c) = cY (fY Y) (256 * k + 128 * b + r.val) (128 * j + c.val) := by
  rw [yCode_at _ c (blkY_lt hY k b j c), blkY_bound,
    cY_at (fY Y) (show (256 * k + 128 * b + r.val) / 128 = 2 * k + b by have := r.isLt; omega) (show (128 * j + c.val) / 128 = j by have := c.isLt; omega)]
  rfl
theorem blkY_deq (k b j : ℕ) (r c : Fin 128) : yDeq (blkY Y k b j) (ix2 r c) = wY (fY Y) (256 * k + 128 * b + r.val) (128 * j + c.val) := by
  rw [yDeq_at _ c (blkY_lt hY k b j c), blkY_bound, blkY_code hY,
    wY_at (fY Y) (show (256 * k + 128 * b + r.val) / 128 = 2 * k + b by have := r.isLt; omega) (show (128 * j + c.val) / 128 = j by have := c.isLt; omega)]
  rfl
theorem ys_eq (r c : ℕ) : ysAt Y r c = sY (fY Y) r c := by
  have hi : extractStridedSlice S1x1 ![0, 0] (yScale (blkY Y (r / 2) (r % 2) c)) Facts₀.slices_S1x128_o0_0_S1x1 (ix2 (0 : Fin 1) (0 : Fin 1))
      = yScale (blkY Y (r / 2) (r % 2) c) (ix2 (0 : Fin 1) (0 : Fin 128)) :=
    congrArg (yScale (blkY Y (r / 2) (r % 2) c)) (funext fun a => Fin.ext (by fin_cases a <;> rfl))
  exact hi.trans ((blkY_scale hY (r / 2) (r % 2) c 0).trans (congrArg (fun z => sY (fY Y) z c) (show 2 * (r / 2) + r % 2 = r by omega)))
theorem yc_eq (t c : ℕ) : ycAt Y t c = cY (fY Y) t c :=
  (blkY_code hY (t / 256) (t % 256 / 128) (c / 128) ⟨t % 128 % 128, Nat.mod_lt _ (by decide)⟩ ⟨c % 128 % 128, Nat.mod_lt _ (by decide)⟩).trans
    (congrArg₂ (cY (fY Y)) (show 256 * (t / 256) + 128 * (t % 256 / 128) + t % 128 % 128 = t by omega) (show 128 * (c / 128) + c % 128 % 128 = c by omega))
theorem yw_eq (t c : ℕ) : ywAt Y t c = wY (fY Y) t c :=
  (blkY_deq hY (t / 256) (t % 256 / 128) (c / 128) ⟨t % 128 % 128, Nat.mod_lt _ (by decide)⟩ ⟨c % 128 % 128, Nat.mod_lt _ (by decide)⟩).trans
    (congrArg₂ (wY (fY Y)) (show 256 * (t / 256) + 128 * (t % 256 / 128) + t % 128 % 128 = t by omega) (show 128 * (c / 128) + c % 128 % 128 = c by omega))
end AllY

end Cert.KernelIdeal.Hand
end
-- ==== Proof.SumsI.lean ====
/-
The kernel's sums on the extended reals: each pass adds the tokens of its window that are the expert's.
-/
module

public import proofs.«01_k».proof.Proof.Spec
public import proofs.«01_k».proof.Proof.Slots
@[expose] public section
noncomputable section
open Idealize.ShloMosaic Idealize.ShloMosaic.TcCoe Idealize.ShloMosaic.ValueIdx

namespace Cert.KernelIdeal.Hand
open Cert.KernelIdeal Cert.Scale

/-- The mask of a window, at a token. -/
theorem keep_at {start stop a : BitVec 32} {p : ℕ} {first : BitVec 1} (hP : PassOk start stop a p first) (j : S256x128.Idx) :
    (keep start stop a : FVec Ideal S256x128 .bf16) j = if start.toNat ≤ a.toNat + (j 0).val ∧ a.toNat + (j 0).val < stop.toNat then (1 : EReal) else 0 := by
  have h0 : (j 0).val < 256 := (j 0).isLt
  have h1 := hP.le; have h2 := hP.top; have h3 := hP.lt
  have hw : (IntOp.addi a (BitVec.ofNat 32 (j 0).val)).toNat = a.toNat + (j 0).val := by
    show (a + BitVec.ofNat 32 (j 0).val).toNat = _
    rw [BitVec.toNat_add, BitVec.toNat_ofNat]; omega
  show Scalar.select (IntOp.andi (IntOp.cmpi .sge (IntOp.addi a (iota .tc S256x128 32 [0] _ j)) start) (IntOp.cmpi .slt (IntOp.addi a (iota .tc S256x128 32 [0] _ j)) stop))
    (Ideal.ieee 8 23 0x3F800000#32) (Ideal.ieee 8 23 0x00000000#32) = _
  rw [iota_single_apply, one_word, zero_word, sel_range _ _ _ (by rw [hw]; omega) (by omega) (by omega), hw]

/-- The next chunk, at an entry. -/
theorem acc_at (first : BitVec 1) (x : FVec Ideal S256x256 .bf16) (dy : FVec Ideal S256x1408 .bf16) (acc : FVec Ideal S1x256x1408 .f32) (r : Fin 256) (c : Fin 1408) :
    accNext first x dy acc (ix3 (0 : Fin 1) r c) = (if first = 1#1 then (0 : EReal) else acc (ix3 (0 : Fin 1) r c)) + ∑ k : Fin 256, (x (ix2 k r) : EReal) * dy (ix2 k c) := by
  unfold accNext
  have hrm : ((⟨3, ![1, 256, 1408]⟩ : Shape).rowMajor (ix3 (0 : Fin 1) r c)).val = ((⟨2, ![256, 1408]⟩ : Shape).rowMajor (ix2 r c)).val := by
    rw [Shape.rowMajor_val_two, Shape.rowMajor_val_three]
    show (0 * 256 + r.val) * 1408 + c.val = r.val * 1408 + c.val
    omega
  refine (shapeCast_apply _ _ _ (ix2 r c) hrm.symm).trans ?_
  refine congrArg₂ (fun (p q : EReal) => p + q) ?_ ?_
  · by_cases hf : first = 1#1
    · rw [if_pos hf]
      refine (congrFun (if_pos hf) (ix2 r c)).trans ?_
      exact zero_word
    · rw [if_neg hf]
      refine (congrFun (if_neg hf) (ix2 r c)).trans ?_
      exact shapeCast_apply _ _ _ (ix3 (0 : Fin 1) r c) hrm
  · refine (dot_apply _ none rfl rfl (fun _ _ => rfl) (fun _ _ => rfl) (fun _ _ => rfl) (fun _ _ => rfl) _ _ _ r c).trans ?_
    exact (congrArg (fun p : EReal => p + ∑ k : Fin 256, (x (ix2 k r) : EReal) * dy (ix2 k c)) (zero_word : Ideal.ieee 8 23 0x00000000#32 = 0)).trans (zero_add _)

variable (X : S49152x2048.Idx → Elt Ideal .bf16) (Y : S49152x1408.Idx → Elt Ideal .bf16)

theorem pass_step {start stop a : BitVec 32} {p : ℕ} {first : BitVec 1} (hP : PassOk start stop a p first) {i : ℕ} (hi : i < 8) {x : FVec Ideal S256x256 .bf16}
    {dy : FVec Ideal S256x1408 .bf16} {acc : FVec Ideal S1x256x1408 .f32} (hx : XOk X start stop a i x) (hdy : DyOk Y start stop a 11 dy)
    (hacc : p = 0 ∨ ∀ (r : Fin 256) (c : Fin 1408), acc (ix3 (0 : Fin 1) r c) = tot (xwAt X) (ywAt Y) (start.toNat / 16 * 16 + 256 * p) start.toNat stop.toNat (256 * i + r.val) c.val)
    (r : Fin 256) (c : Fin 1408) :
    accNext first x dy acc (ix3 (0 : Fin 1) r c) = tot (xwAt X) (ywAt Y) (start.toNat / 16 * 16 + 256 * (p + 1)) start.toNat stop.toNat (256 * i + r.val) c.val := by
  have hat := hP.at_
  refine (acc_at _ _ _ _ r c).trans ?_
  rw [show start.toNat / 16 * 16 + 256 * (p + 1) = a.toNat + 256 by omega, tot_add]
  refine congrArg₂ (fun (p q : EReal) => p + q) ?_ (Finset.sum_congr rfl fun k _ => ?_)
  · by_cases hp : p = 0
    · rw [if_pos (hP.first_.2 hp), tot_of_le]
      omega
    · rw [if_neg (mt hP.first_.1 hp), hat]
      exact hacc.resolve_left hp r c
  · obtain ⟨v, hv, hw⟩ := hdy (ix2 k c) (show c.val < 128 * 11 from c.isLt)
    have hk := k.isLt
    have hv' : (dy (ix2 k c) : EReal) = (v (nix2 (by decide) (by decide) k.val c.val) : EReal) * (keep start stop a : FVec Ideal S256x128 .bf16) (nix2 (by decide) (by decide) k.val c.val) := hv
    have hm : (((nix2 (by decide) (by decide) k.val c.val : S256x128.Idx) 0).val) = k.val := Nat.mod_eq_of_lt hk
    rw [hv', keep_at hP, hm]
    by_cases hin : start.toNat ≤ a.toNat + k.val ∧ a.toNat + k.val < stop.toNat
    · rw [if_pos hin, term_in _ _ hin, mul_one]
      exact congrArg₂ (fun (p q : EReal) => p * q) (hx (ix2 k r) hin.1 hin.2) (hw hin.1 hin.2)
    · rw [if_neg hin, term_out _ _ hin, mul_zero, mul_zero]

theorem ix_three (y : S1x256x1408.Idx) : ∃ (r : Fin 256) (c : Fin 1408), y = ix3 (0 : Fin 1) r c :=
  ⟨y 1, y 2, funext fun a => match a with
    | ⟨0, _⟩ => Fin.ext (by have h : (y 0).val < 1 := (y 0).isLt; show (y 0).val = 0; omega)
    | ⟨1, _⟩ => rfl
    | ⟨2, _⟩ => rfl⟩

/-- What a chunk holds after its passes: the sum of the tokens they reached. -/
def sumsI : Sums X Y where
  AP start stop p i f := p = 0 ∨ ∀ (r : Fin 256) (c : Fin 1408), f (ix3 (0 : Fin 1) r c) = tot (xwAt X) (ywAt Y) (start.toNat / 16 * 16 + 256 * p) start.toNat stop.toNat (256 * i + r.val) c.val
  ap0 _ _ _ _ := Or.inl rfl
  step hP _ hi _ _ _ hx hdy h := Or.inr (pass_step X Y hP hi hx hdy h)

/-- What an expert's slab holds: the sum of its tokens. -/
def goalI (G : S64.Idx → BitVec 32) (hG : gst G 64 = 49152) : Goal (sumsI X Y) G where
  DP e s := ∀ (r : Fin 2048) (c : Fin 1408), s (ix2 r c) = tot (xwAt X) (ywAt Y) 49152 (gst G e) (gst G (e + 1)) r.val c.val
  fin e he hne start stop hs ht u hu f hA r c := by
    have hr := r.isLt
    have hle : gst G (e + 1) ≤ 49152 := by rw [← hG]; exact gst_mono G (Nat.succ_le_of_lt he)
    have hnx : gst G (e + 1) = gst G e + gn G e := rfl
    have h := hA (r.val / 256) (by omega)
    rw [if_neg (Nat.not_lt_zero _)] at h
    have hp : passes (gst G e) (gst G (e + 1)) = (gst G (e + 1) - gst G e / 16 * 16 + 255) / 256 := if_neg (by omega)
    rw [hp] at h
    have h' := h.resolve_left (by omega) ⟨r.val % 256, Nat.mod_lt _ (by decide)⟩ c
    have h2 : f (accIx u (256 * (r.val / 256) + r.val % 256) c.val) = tot (xwAt X) (ywAt Y) (start.toNat / 16 * 16 + 256 * ((gst G (e + 1) - gst G e / 16 * 16 + 255) / 256))
      start.toNat stop.toNat (256 * (r.val / 256) + r.val % 256) c.val := h'
    rw [show 256 * (r.val / 256) + r.val % 256 = r.val by omega, hs, ht] at h2
    exact h2.trans (tot_eq _ _ (by omega) hle)
  zero e he hn r c := zero_word.trans (tot_empty _ _ (by show gst G e + gn G e ≤ gst G e; omega)).symm

end Cert.KernelIdeal.Hand
end
-- ==== Proof.Alg.lean ====
/-
The kernel's results are the reference's, on the extended reals, where the groups fill the tokens and every entry is finite.
-/
module

public import proofs.«01_k».proof.Defs
public import proofs.«01_k».proof.Proof.Frames
public import proofs.«01_k».proof.Proof.RRun
public import proofs.«01_k».proof.Proof.RVal
public import proofs.«01_k».proof.Proof.KVal
public import proofs.«01_k».proof.Proof.SumsI
@[expose] public section
noncomputable section
open Idealize.ShloMosaic Idealize.ShloMosaic.TcCoe Idealize.ShloMosaic.ValueIdx
open Idealize.SL Idealize.SL.Sem

namespace Cert.KernelIdeal.Hand
open Cert.KernelIdeal Cert.Scale

/-! ## Codes and scales -/

section Same
variable {X : S49152x2048.Idx → Elt Ideal .bf16} {Y : S49152x1408.Idx → Elt Ideal .bf16}
variable (hX : ∀ t c, ab (fX X t c) ≤ pw 128) (hY : ∀ t c, ab (fY Y t c) ≤ pw 128)
include hX in
theorem codes_x : XC X = Cert.ReferenceIdeal.Gen.k0_pay6 (F := Ideal) X := funext fun j =>
  (xc_eq hX (j 0).val (j 1).val).trans ((Cert.ReferenceIdeal.Read.pay6_at X hX (j 0) (j 1)).symm.trans (congrArg (Cert.ReferenceIdeal.Gen.k0_pay6 (F := Ideal) X) (eq_ix2 j).symm))
include hX in
theorem scales_x : XS X = Cert.ReferenceIdeal.Gen.k0_pay3 (F := Ideal) X := funext fun j =>
  (xs_eq hX (j 0).val (j 1).val).trans ((Cert.ReferenceIdeal.Read.pay3_at X hX (j 0) (j 1)).symm.trans (congrArg (Cert.ReferenceIdeal.Gen.k0_pay3 (F := Ideal) X) (eq_ix2 j).symm))
include hY in
theorem codes_y : YC Y = Cert.ReferenceIdeal.Gen.k0_pay11 (F := Ideal) Y := funext fun j =>
  (yc_eq hY (j 0).val (j 1).val).trans ((Cert.ReferenceIdeal.Read.pay11_at Y hY (j 0) (j 1)).symm.trans (congrArg (Cert.ReferenceIdeal.Gen.k0_pay11 (F := Ideal) Y) (eq_ix2 j).symm))
include hY in
theorem scales_y : YS Y = Cert.ReferenceIdeal.Gen.k0_pay8 (F := Ideal) Y := funext fun j =>
  (ys_eq hY (j 0).val (j 1).val).trans ((Cert.ReferenceIdeal.Read.pay8_at Y hY (j 0) (j 1)).symm.trans (congrArg (Cert.ReferenceIdeal.Gen.k0_pay8 (F := Ideal) Y) (eq_ix2 j).symm))

/-! ## The sums -/

/-- The reference's running offset is the group's start. -/
theorem gw_gst (G : S64.Idx → BitVec 32) (h : gst G 64 = 49152) : ∀ e, e ≤ 64 → (Cert.ReferenceIdeal.Read.gw (F := Ideal) G e).toNat = gst G e
  | 0, _ => rfl
  | e + 1, he => by
    have ih := gw_gst G h e (by omega)
    have hle : gst G (e + 1) ≤ 49152 := by rw [← h]; exact gst_mono G he
    show (Cert.ReferenceIdeal.Read.gw (F := Ideal) G e + G (ix1 ⟨e % 64, Nat.mod_lt _ (by decide)⟩)).toNat = _
    rw [BitVec.toNat_add, ih]
    exact (Nat.mod_eq_of_lt (lt_of_le_of_lt hle (by norm_num)) : gst G (e + 1) % 2 ^ 32 = gst G (e + 1))

include hX hY in
theorem sums_eq (G : S64.Idx → BitVec 32) (hG : gst G 64 = 49152) (e : Fin 64) (r : Fin 2048) (c : Fin 1408) :
    Cert.ReferenceIdeal.Gen.k0_pay1 (F := Ideal) (Cert.ReferenceIdeal.Gen.k0_pay5 X) (Cert.ReferenceIdeal.Gen.k0_pay10 Y) (Cert.ReferenceIdeal.Read.gw (F := Ideal) G e.val)
        (G (ix1 ⟨e.val % 64, Nat.mod_lt _ (by decide)⟩)) (ix3 (0 : Fin 1) r c)
      = tot (xwAt X) (ywAt Y) 49152 (gst G e.val) (gst G (e.val + 1)) r.val c.val := by
  have h0 := gw_gst G hG e.val e.isLt.le
  have h1 : (Scalar.addi (Cert.ReferenceIdeal.Read.gw (F := Ideal) G e.val) (G (ix1 ⟨e.val % 64, Nat.mod_lt _ (by decide)⟩))).toNat = gst G (e.val + 1) :=
    gw_gst G hG (e.val + 1) e.isLt
  have l0 : gst G e.val ≤ 49152 := by rw [← hG]; exact gst_mono G e.isLt.le
  have l1 : gst G (e.val + 1) ≤ 49152 := by rw [← hG]; exact gst_mono G e.isLt
  exact (Cert.ReferenceIdeal.Read.pay1_at _ _ _ _ (lt_of_eq_of_lt h0 (lt_of_le_of_lt l0 (by norm_num))) (lt_of_eq_of_lt h1 (lt_of_le_of_lt l1 (by norm_num))) (xwAt X) (ywAt Y)
    (fun t r => (Cert.ReferenceIdeal.Read.pay5_at X hX t r).trans (xw_eq hX _ _).symm) (fun t c => (Cert.ReferenceIdeal.Read.pay10_at Y hY t c).trans (yw_eq hY _ _).symm) r c).trans
    (congrArg₂ (fun lo hi => tot (xwAt X) (ywAt Y) 49152 lo hi r.val c.val) h0 h1)
end Same

theorem dwIx_eq (e : Fin 64) (r : Fin 2048) (k : Fin 1408) : dwIx e.val r.val k.val = ix3 e r k := by
  have h1 : (⟨e.val % 64, Nat.mod_lt _ (by decide)⟩ : Fin 64) = e := Fin.ext (Nat.mod_eq_of_lt e.isLt)
  have h2 : (⟨r.val % 2048, Nat.mod_lt _ (by decide)⟩ : Fin 2048) = r := Fin.ext (Nat.mod_eq_of_lt r.isLt)
  have h3 : (⟨k.val % 1408, Nat.mod_lt _ (by decide)⟩ : Fin 1408) = k := Fin.ext (Nat.mod_eq_of_lt k.isLt)
  show ix3 (⟨e.val % 64, Nat.mod_lt _ (by decide)⟩ : Fin 64) (⟨r.val % 2048, Nat.mod_lt _ (by decide)⟩ : Fin 2048) (⟨k.val % 1408, Nat.mod_lt _ (by decide)⟩ : Fin 1408) = _
  rw [h1, h2, h3]

/-- Slabs that hold their experts' sums make up the reference's first result. -/
theorem dw_eq (m' : (ℓ : Loc Cert.ReferenceIdeal.nD Cert.ReferenceIdeal.τ Cert.ReferenceIdeal.sig) → Buf (Elt Ideal) ℓ) (c : Dev Cert.ReferenceIdeal.nD)
    (X : S49152x2048.Idx → Elt Ideal .bf16) (Y : S49152x1408.Idx → Elt Ideal .bf16) (G : S64.Idx → BitVec 32)
    (hX : ∀ t c, ab (fX X t c) ≤ pw 128) (hY : ∀ t c, ab (fY Y t c) ≤ pw 128) (hG : gst G 64 = 49152)
    (h0 : Cert.ReferenceIdeal.Read.m0 m' c = X) (h1 : Cert.ReferenceIdeal.Read.m1 m' c = Y) (h2 : (Cert.ReferenceIdeal.Read.m2 m' c : S64.Idx → BitVec 32) = G)
    (g : S64x2048x1408.Idx → Elt Ideal .f32) (hg : ∀ e < 64, (goalI X Y G hG).DP e (slabW e g)) :
    g = (Cert.ReferenceIdeal.Gen.outsAt0 m' c Cert.ReferenceIdeal.Gen.t0_0).1 := by
  subst h0 h1 h2
  funext j
  obtain ⟨e, r, k, rfl⟩ : ∃ (e : Fin 64) (r : Fin 2048) (k : Fin 1408), j = ix3 e r k := ⟨j 0, j 1, j 2, eq_ix3 j⟩
  have h : ∀ (r : Fin 2048) (k : Fin 1408), slabW e.val g (ix2 r k) = tot (xwAt (Cert.ReferenceIdeal.Read.m0 m' c)) (ywAt (Cert.ReferenceIdeal.Read.m1 m' c)) 49152
    (gst (Cert.ReferenceIdeal.Read.m2 m' c : S64.Idx → BitVec 32) e.val) (gst (Cert.ReferenceIdeal.Read.m2 m' c : S64.Idx → BitVec 32) (e.val + 1)) r.val k.val := hg e.val e.isLt
  have h' : g (dwIx e.val r.val k.val) = _ := h r k
  exact (congrArg g (dwIx_eq e r k)).symm.trans (h'.trans ((sums_eq hX hY _ hG e r k).symm.trans (Cert.ReferenceIdeal.Read.outs3 m' c e r k).symm))

/-! ## The claims -/

theorem bound_of {x : EReal} (h : FloatOps.cmpf (F := Ideal) (φ := .bf16) .ole (FloatOps.hostAbsf (F := Ideal) (φ := .bf16) x)
    (constant (F := Ideal) Cert.Pre_groups_fill.S_ .bf16 0x7F7F#16 ix0) = 1#1) : ab x ≤ pw 128 :=
  le_trans (cmp_le h : ab x ≤ Ideal.ieee 8 7 0x7F7F#16) top16

theorem algebraic : @Cert.algebraic_KernelIdeal_ReferenceIdeal_pre_groups_fill_finite Cert.KernelIdeal.Gen.facts Cert.ReferenceIdeal.Gen.facts Cert.Pre_groups_fill_finite.Gen.facts := by
  intro m g m' g' hp hm
  have key := fun c => fill_finite (F := Ideal) (X0 m c) (Y0 m c) (G0 m c) (hp c)
  have hX : ∀ c t k, ab (fX (X0 m c) t k) ≤ pw 128 := fun c t k => bound_of ((key c).2.1 _)
  have hY : ∀ c t k, ab (fY (Y0 m c) t k) ≤ pw 128 := fun c t k => bound_of ((key c).2.2 _)
  refine ⟨fun c => (Cert.ReferenceIdeal.Gen.outsAt0 m' c Cert.ReferenceIdeal.Gen.t0_0).1, fun c => Cert.ReferenceIdeal.Gen.k0_pay6 (F := Ideal) (Cert.ReferenceIdeal.Read.m0 m' c),
    fun c => Cert.ReferenceIdeal.Gen.k0_pay3 (F := Ideal) (Cert.ReferenceIdeal.Read.m0 m' c), fun c => Cert.ReferenceIdeal.Gen.k0_pay11 (F := Ideal) (Cert.ReferenceIdeal.Read.m1 m' c),
    fun c => Cert.ReferenceIdeal.Gen.k0_pay8 (F := Ideal) (Cert.ReferenceIdeal.Read.m1 m' c), ?_, Cert.ReferenceIdeal.Read.read_run m' g'⟩
  refine (θ_run _ _ _).mono (fun r h c => ?_) (run_vals g (fun c => goalI (X0 m c) (Y0 m c) (G0 m c) (key c).1.1) (fun c => (key c).1)
    (fun c => (Cert.ReferenceIdeal.Gen.outsAt0 m' c Cert.ReferenceIdeal.Gen.t0_0).1)
    (fun c s hs => dw_eq m' c (X0 m c) (Y0 m c) (G0 m c) (hX c) (hY c) (key c).1.1 (hm c).1 (hm c).2.1 (hm c).2.2 s hs))
  obtain ⟨r0, r1, r2, r3, r4, ra⟩ := h c
  exact ⟨r0, r1.trans ((codes_x (hX c)).trans (congrArg (Cert.ReferenceIdeal.Gen.k0_pay6 (F := Ideal)) (hm c).1.symm)),
    r2.trans ((scales_x (hX c)).trans (congrArg (Cert.ReferenceIdeal.Gen.k0_pay3 (F := Ideal)) (hm c).1.symm)),
    r3.trans ((codes_y (hY c)).trans (congrArg (Cert.ReferenceIdeal.Gen.k0_pay11 (F := Ideal)) (hm c).2.1.symm)),
    r4.trans ((scales_y (hY c)).trans (congrArg (Cert.ReferenceIdeal.Gen.k0_pay8 (F := Ideal)) (hm c).2.1.symm)), ra⟩

theorem frame_KernelIdeal_finite : @Cert.quiescent_KernelIdeal_pre_groups_fill_finite Cert.KernelIdeal.Gen.facts Cert.Pre_groups_fill_finite.Gen.facts :=
  fun m g hp => run_frame m g fun c => (fill_finite _ _ _ (hp c)).1
theorem frame_ReferenceIdeal_finite : @Cert.quiescent_ReferenceIdeal_pre_groups_fill_finite Cert.ReferenceIdeal.Gen.facts Cert.Pre_groups_fill_finite.Gen.facts :=
  fun m g _ => Cert.ReferenceIdeal.Gen.frame m g

end Cert.KernelIdeal.Hand
end
-- ==== Proof.lean ====
/-
The certificate: each claim from the module that proves it.
-/
module

public import proofs.«01_k».proof.Defs
public import proofs.«01_k».proof.Proof.Alg

@[expose] public section

noncomputable section

namespace Cert.Proof

open Idealize.ShloMosaic Idealize.SL.Sem Cert.KernelIdeal.Hand

theorem claim : Cert.Claim :=
  ⟨Cert.Kernel.Gen.facts, Cert.KernelIdeal.Gen.facts, Cert.ReferenceIdeal.Gen.facts, Cert.Pre_groups_fill.Gen.facts, Cert.Pre_groups_fill_finite.Gen.facts,
    frame_Kernel, frame_KernelIdeal, frame_KernelIdeal_finite, frame_ReferenceIdeal, frame_ReferenceIdeal_finite, trivial, algebraic⟩

end Cert.Proof

end
